-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite4 [hPre_finite4 : Cert.Pre_finite4.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite4.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite4.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite4.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite4.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite4 [hPre_finite4 : Cert.Pre_finite4.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite4.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite4.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite4.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite4.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite4 [hPre_finite4 : Cert.Pre_finite4.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite4.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).1 = (fun _ => 1#1)
    ∧ (Cert.Pre_finite4.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.1 = (fun _ => 1#1)
    ∧ (Cert.Pre_finite4.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.2.1 = (fun _ => 1#1)
    ∧ (Cert.Pre_finite4.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite4 [hPre_finite4 : Cert.Pre_finite4.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite4.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).1 = (fun _ => 1#1)
    ∧ (Cert.Pre_finite4.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.1 = (fun _ => 1#1)
    ∧ (Cert.Pre_finite4.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.2.1 = (fun _ => 1#1)
    ∧ (Cert.Pre_finite4.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite3 [hPre_finite3 : Cert.Pre_finite3.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite3.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_finite3.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.1 = (fun _ => 1#1)
    ∧ (Cert.Pre_finite3.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite3 [hPre_finite3 : Cert.Pre_finite3.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite3.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_finite3.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.1 = (fun _ => 1#1)
    ∧ (Cert.Pre_finite3.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite4 [hKernel15Ideal : Cert.Kernel15Ideal.Facts] [hPre_finite4 : Cert.Pre_finite4.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite4 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite4 [hReference15Ideal : Cert.Reference15Ideal.Facts] [hPre_finite4 : Cert.Pre_finite4.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite4 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite4 [hKernel16Ideal : Cert.Kernel16Ideal.Facts] [hPre_finite4 : Cert.Pre_finite4.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite4 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite4 [hReference16Ideal : Cert.Reference16Ideal.Facts] [hPre_finite4 : Cert.Pre_finite4.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite4 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite3 [hKernel20Ideal : Cert.Kernel20Ideal.Facts] [hPre_finite3 : Cert.Pre_finite3.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite3 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite3 [hReference20Ideal : Cert.Reference20Ideal.Facts] [hPre_finite3 : Cert.Pre_finite3.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite3 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15)
      ∧ r.2.mem ((c.tc : Thread Cert.Kernel21.nD Cert.Kernel21.τ).loc Cert.Kernel21.main_arg16) = m ((c.tc : Thread Cert.Kernel21.nD Cert.Kernel21.τ).loc Cert.Kernel21.main_arg16)
      ∧ r.2.mem ((c.tc : Thread Cert.Kernel21.nD Cert.Kernel21.τ).loc Cert.Kernel21.main_arg17) = m ((c.tc : Thread Cert.Kernel21.nD Cert.Kernel21.τ).loc Cert.Kernel21.main_arg17)
      ∧ r.2.mem ((c.tc : Thread Cert.Kernel21.nD Cert.Kernel21.τ).loc Cert.Kernel21.main_arg18) = m ((c.tc : Thread Cert.Kernel21.nD Cert.Kernel21.τ).loc Cert.Kernel21.main_arg18)
      ∧ r.2.mem ((c.tc : Thread Cert.Kernel21.nD Cert.Kernel21.τ).loc Cert.Kernel21.main_arg19) = m ((c.tc : Thread Cert.Kernel21.nD Cert.Kernel21.τ).loc Cert.Kernel21.main_arg19)
      ∧ r.2.mem ((c.tc : Thread Cert.Kernel21.nD Cert.Kernel21.τ).loc Cert.Kernel21.main_arg20) = m ((c.tc : Thread Cert.Kernel21.nD Cert.Kernel21.τ).loc Cert.Kernel21.main_arg20)
      ∧ r.2.mem ((c.tc : Thread Cert.Kernel21.nD Cert.Kernel21.τ).loc Cert.Kernel21.main_arg21) = m ((c.tc : Thread Cert.Kernel21.nD Cert.Kernel21.τ).loc Cert.Kernel21.main_arg21)
      ∧ r.2.mem ((c.tc : Thread Cert.Kernel21.nD Cert.Kernel21.τ).loc Cert.Kernel21.main_arg22) = m ((c.tc : Thread Cert.Kernel21.nD Cert.Kernel21.τ).loc Cert.Kernel21.main_arg22)
      ∧ r.2.mem ((c.tc : Thread Cert.Kernel21.nD Cert.Kernel21.τ).loc Cert.Kernel21.main_arg23) = m ((c.tc : Thread Cert.Kernel21.nD Cert.Kernel21.τ).loc Cert.Kernel21.main_arg23)
      ∧ r.2.mem ((c.tc : Thread Cert.Kernel21.nD Cert.Kernel21.τ).loc Cert.Kernel21.main_arg24) = m ((c.tc : Thread Cert.Kernel21.nD Cert.Kernel21.τ).loc Cert.Kernel21.main_arg24)
      ∧ r.2.mem ((c.tc : Thread Cert.Kernel21.nD Cert.Kernel21.τ).loc Cert.Kernel21.main_arg25) = m ((c.tc : Thread Cert.Kernel21.nD Cert.Kernel21.τ).loc Cert.Kernel21.main_arg25)
      ∧ r.2.mem ((c.tc : Thread Cert.Kernel21.nD Cert.Kernel21.τ).loc Cert.Kernel21.main_arg26) = m ((c.tc : Thread Cert.Kernel21.nD Cert.Kernel21.τ).loc Cert.Kernel21.main_arg26)
      ∧ r.2.mem ((c.tc : Thread Cert.Kernel21.nD Cert.Kernel21.τ).loc Cert.Kernel21.main_arg27) = m ((c.tc : Thread Cert.Kernel21.nD Cert.Kernel21.τ).loc Cert.Kernel21.main_arg27)
      ∧ r.2.mem ((c.tc : Thread Cert.Kernel21.nD Cert.Kernel21.τ).loc Cert.Kernel21.main_arg28) = m ((c.tc : Thread Cert.Kernel21.nD Cert.Kernel21.τ).loc Cert.Kernel21.main_arg28)
      ∧ r.2.mem ((c.tc : Thread Cert.Kernel21.nD Cert.Kernel21.τ).loc Cert.Kernel21.main_arg29) = m ((c.tc : Thread Cert.Kernel21.nD Cert.Kernel21.τ).loc Cert.Kernel21.main_arg29)
      ∧ r.2.mem ((c.tc : Thread Cert.Kernel21.nD Cert.Kernel21.τ).loc Cert.Kernel21.main_arg30) = m ((c.tc : Thread Cert.Kernel21.nD Cert.Kernel21.τ).loc Cert.Kernel21.main_arg30)
      ∧ r.2.mem ((c.tc : Thread Cert.Kernel21.nD Cert.Kernel21.τ).loc Cert.Kernel21.main_arg31) = m ((c.tc : Thread Cert.Kernel21.nD Cert.Kernel21.τ).loc Cert.Kernel21.main_arg31)
      ∧ r.2.mem ((c.tc : Thread Cert.Kernel21.nD Cert.Kernel21.τ).loc Cert.Kernel21.main_arg32) = m ((c.tc : Thread Cert.Kernel21.nD Cert.Kernel21.τ).loc Cert.Kernel21.main_arg32)
      ∧ r.2.mem ((c.tc : Thread Cert.Kernel21.nD Cert.Kernel21.τ).loc Cert.Kernel21.main_arg33) = m ((c.tc : Thread Cert.Kernel21.nD Cert.Kernel21.τ).loc Cert.Kernel21.main_arg33)
      ∧ r.2.mem ((c.tc : Thread Cert.Kernel21.nD Cert.Kernel21.τ).loc Cert.Kernel21.main_arg34) = m ((c.tc : Thread Cert.Kernel21.nD Cert.Kernel21.τ).loc Cert.Kernel21.main_arg34)
      ∧ r.2.mem ((c.tc : Thread Cert.Kernel21.nD Cert.Kernel21.τ).loc Cert.Kernel21.main_arg35) = m ((c.tc : Thread Cert.Kernel21.nD Cert.Kernel21.τ).loc Cert.Kernel21.main_arg35)
      ∧ r.2.mem ((c.tc : Thread Cert.Kernel21.nD Cert.Kernel21.τ).loc Cert.Kernel21.main_arg36) = m ((c.tc : Thread Cert.Kernel21.nD Cert.Kernel21.τ).loc Cert.Kernel21.main_arg36)
      ∧ r.2.mem ((c.tc : Thread Cert.Kernel21.nD Cert.Kernel21.τ).loc Cert.Kernel21.main_arg37) = m ((c.tc : Thread Cert.Kernel21.nD Cert.Kernel21.τ).loc Cert.Kernel21.main_arg37)
      ∧ r.2.mem ((c.tc : Thread Cert.Kernel21.nD Cert.Kernel21.τ).loc Cert.Kernel21.main_arg38) = m ((c.tc : Thread Cert.Kernel21.nD Cert.Kernel21.τ).loc Cert.Kernel21.main_arg38)
      ∧ r.2.mem ((c.tc : Thread Cert.Kernel21.nD Cert.Kernel21.τ).loc Cert.Kernel21.main_arg39) = m ((c.tc : Thread Cert.Kernel21.nD Cert.Kernel21.τ).loc Cert.Kernel21.main_arg39))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
      ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
      ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
      ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
      ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
      ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
      ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
      ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
      ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
      ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24)
      ∧ r.2.mem ((c.tc : Thread Cert.Kernel21Ideal.nD Cert.Kernel21Ideal.τ).loc Cert.Kernel21Ideal.main_arg25) = m ((c.tc : Thread Cert.Kernel21Ideal.nD Cert.Kernel21Ideal.τ).loc Cert.Kernel21Ideal.main_arg25)
      ∧ r.2.mem ((c.tc : Thread Cert.Kernel21Ideal.nD Cert.Kernel21Ideal.τ).loc Cert.Kernel21Ideal.main_arg26) = m ((c.tc : Thread Cert.Kernel21Ideal.nD Cert.Kernel21Ideal.τ).loc Cert.Kernel21Ideal.main_arg26)
      ∧ r.2.mem ((c.tc : Thread Cert.Kernel21Ideal.nD Cert.Kernel21Ideal.τ).loc Cert.Kernel21Ideal.main_arg27) = m ((c.tc : Thread Cert.Kernel21Ideal.nD Cert.Kernel21Ideal.τ).loc Cert.Kernel21Ideal.main_arg27)
      ∧ r.2.mem ((c.tc : Thread Cert.Kernel21Ideal.nD Cert.Kernel21Ideal.τ).loc Cert.Kernel21Ideal.main_arg28) = m ((c.tc : Thread Cert.Kernel21Ideal.nD Cert.Kernel21Ideal.τ).loc Cert.Kernel21Ideal.main_arg28)
      ∧ r.2.mem ((c.tc : Thread Cert.Kernel21Ideal.nD Cert.Kernel21Ideal.τ).loc Cert.Kernel21Ideal.main_arg29) = m ((c.tc : Thread Cert.Kernel21Ideal.nD Cert.Kernel21Ideal.τ).loc Cert.Kernel21Ideal.main_arg29)
      ∧ r.2.mem ((c.tc : Thread Cert.Kernel21Ideal.nD Cert.Kernel21Ideal.τ).loc Cert.Kernel21Ideal.main_arg30) = m ((c.tc : Thread Cert.Kernel21Ideal.nD Cert.Kernel21Ideal.τ).loc Cert.Kernel21Ideal.main_arg30)
      ∧ r.2.mem ((c.tc : Thread Cert.Kernel21Ideal.nD Cert.Kernel21Ideal.τ).loc Cert.Kernel21Ideal.main_arg31) = m ((c.tc : Thread Cert.Kernel21Ideal.nD Cert.Kernel21Ideal.τ).loc Cert.Kernel21Ideal.main_arg31)
      ∧ r.2.mem ((c.tc : Thread Cert.Kernel21Ideal.nD Cert.Kernel21Ideal.τ).loc Cert.Kernel21Ideal.main_arg32) = m ((c.tc : Thread Cert.Kernel21Ideal.nD Cert.Kernel21Ideal.τ).loc Cert.Kernel21Ideal.main_arg32)
      ∧ r.2.mem ((c.tc : Thread Cert.Kernel21Ideal.nD Cert.Kernel21Ideal.τ).loc Cert.Kernel21Ideal.main_arg33) = m ((c.tc : Thread Cert.Kernel21Ideal.nD Cert.Kernel21Ideal.τ).loc Cert.Kernel21Ideal.main_arg33)
      ∧ r.2.mem ((c.tc : Thread Cert.Kernel21Ideal.nD Cert.Kernel21Ideal.τ).loc Cert.Kernel21Ideal.main_arg34) = m ((c.tc : Thread Cert.Kernel21Ideal.nD Cert.Kernel21Ideal.τ).loc Cert.Kernel21Ideal.main_arg34)
      ∧ r.2.mem ((c.tc : Thread Cert.Kernel21Ideal.nD Cert.Kernel21Ideal.τ).loc Cert.Kernel21Ideal.main_arg35) = m ((c.tc : Thread Cert.Kernel21Ideal.nD Cert.Kernel21Ideal.τ).loc Cert.Kernel21Ideal.main_arg35)
      ∧ r.2.mem ((c.tc : Thread Cert.Kernel21Ideal.nD Cert.Kernel21Ideal.τ).loc Cert.Kernel21Ideal.main_arg36) = m ((c.tc : Thread Cert.Kernel21Ideal.nD Cert.Kernel21Ideal.τ).loc Cert.Kernel21Ideal.main_arg36)
      ∧ r.2.mem ((c.tc : Thread Cert.Kernel21Ideal.nD Cert.Kernel21Ideal.τ).loc Cert.Kernel21Ideal.main_arg37) = m ((c.tc : Thread Cert.Kernel21Ideal.nD Cert.Kernel21Ideal.τ).loc Cert.Kernel21Ideal.main_arg37)
      ∧ r.2.mem ((c.tc : Thread Cert.Kernel21Ideal.nD Cert.Kernel21Ideal.τ).loc Cert.Kernel21Ideal.main_arg38) = m ((c.tc : Thread Cert.Kernel21Ideal.nD Cert.Kernel21Ideal.τ).loc Cert.Kernel21Ideal.main_arg38)
      ∧ r.2.mem ((c.tc : Thread Cert.Kernel21Ideal.nD Cert.Kernel21Ideal.τ).loc Cert.Kernel21Ideal.main_arg39) = m ((c.tc : Thread Cert.Kernel21Ideal.nD Cert.Kernel21Ideal.τ).loc Cert.Kernel21Ideal.main_arg39))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15)
      ∧ r.2.mem ((c.tc : Thread Cert.Reference21Ideal.nD Cert.Reference21Ideal.τ).loc Cert.Reference21Ideal.main_arg16) = m ((c.tc : Thread Cert.Reference21Ideal.nD Cert.Reference21Ideal.τ).loc Cert.Reference21Ideal.main_arg16)
      ∧ r.2.mem ((c.tc : Thread Cert.Reference21Ideal.nD Cert.Reference21Ideal.τ).loc Cert.Reference21Ideal.main_arg17) = m ((c.tc : Thread Cert.Reference21Ideal.nD Cert.Reference21Ideal.τ).loc Cert.Reference21Ideal.main_arg17)
      ∧ r.2.mem ((c.tc : Thread Cert.Reference21Ideal.nD Cert.Reference21Ideal.τ).loc Cert.Reference21Ideal.main_arg18) = m ((c.tc : Thread Cert.Reference21Ideal.nD Cert.Reference21Ideal.τ).loc Cert.Reference21Ideal.main_arg18)
      ∧ r.2.mem ((c.tc : Thread Cert.Reference21Ideal.nD Cert.Reference21Ideal.τ).loc Cert.Reference21Ideal.main_arg19) = m ((c.tc : Thread Cert.Reference21Ideal.nD Cert.Reference21Ideal.τ).loc Cert.Reference21Ideal.main_arg19)
      ∧ r.2.mem ((c.tc : Thread Cert.Reference21Ideal.nD Cert.Reference21Ideal.τ).loc Cert.Reference21Ideal.main_arg20) = m ((c.tc : Thread Cert.Reference21Ideal.nD Cert.Reference21Ideal.τ).loc Cert.Reference21Ideal.main_arg20)
      ∧ r.2.mem ((c.tc : Thread Cert.Reference21Ideal.nD Cert.Reference21Ideal.τ).loc Cert.Reference21Ideal.main_arg21) = m ((c.tc : Thread Cert.Reference21Ideal.nD Cert.Reference21Ideal.τ).loc Cert.Reference21Ideal.main_arg21)
      ∧ r.2.mem ((c.tc : Thread Cert.Reference21Ideal.nD Cert.Reference21Ideal.τ).loc Cert.Reference21Ideal.main_arg22) = m ((c.tc : Thread Cert.Reference21Ideal.nD Cert.Reference21Ideal.τ).loc Cert.Reference21Ideal.main_arg22)
      ∧ r.2.mem ((c.tc : Thread Cert.Reference21Ideal.nD Cert.Reference21Ideal.τ).loc Cert.Reference21Ideal.main_arg23) = m ((c.tc : Thread Cert.Reference21Ideal.nD Cert.Reference21Ideal.τ).loc Cert.Reference21Ideal.main_arg23)
      ∧ r.2.mem ((c.tc : Thread Cert.Reference21Ideal.nD Cert.Reference21Ideal.τ).loc Cert.Reference21Ideal.main_arg24) = m ((c.tc : Thread Cert.Reference21Ideal.nD Cert.Reference21Ideal.τ).loc Cert.Reference21Ideal.main_arg24)
      ∧ r.2.mem ((c.tc : Thread Cert.Reference21Ideal.nD Cert.Reference21Ideal.τ).loc Cert.Reference21Ideal.main_arg25) = m ((c.tc : Thread Cert.Reference21Ideal.nD Cert.Reference21Ideal.τ).loc Cert.Reference21Ideal.main_arg25)
      ∧ r.2.mem ((c.tc : Thread Cert.Reference21Ideal.nD Cert.Reference21Ideal.τ).loc Cert.Reference21Ideal.main_arg26) = m ((c.tc : Thread Cert.Reference21Ideal.nD Cert.Reference21Ideal.τ).loc Cert.Reference21Ideal.main_arg26)
      ∧ r.2.mem ((c.tc : Thread Cert.Reference21Ideal.nD Cert.Reference21Ideal.τ).loc Cert.Reference21Ideal.main_arg27) = m ((c.tc : Thread Cert.Reference21Ideal.nD Cert.Reference21Ideal.τ).loc Cert.Reference21Ideal.main_arg27)
      ∧ r.2.mem ((c.tc : Thread Cert.Reference21Ideal.nD Cert.Reference21Ideal.τ).loc Cert.Reference21Ideal.main_arg28) = m ((c.tc : Thread Cert.Reference21Ideal.nD Cert.Reference21Ideal.τ).loc Cert.Reference21Ideal.main_arg28)
      ∧ r.2.mem ((c.tc : Thread Cert.Reference21Ideal.nD Cert.Reference21Ideal.τ).loc Cert.Reference21Ideal.main_arg29) = m ((c.tc : Thread Cert.Reference21Ideal.nD Cert.Reference21Ideal.τ).loc Cert.Reference21Ideal.main_arg29)
      ∧ r.2.mem ((c.tc : Thread Cert.Reference21Ideal.nD Cert.Reference21Ideal.τ).loc Cert.Reference21Ideal.main_arg30) = m ((c.tc : Thread Cert.Reference21Ideal.nD Cert.Reference21Ideal.τ).loc Cert.Reference21Ideal.main_arg30)
      ∧ r.2.mem ((c.tc : Thread Cert.Reference21Ideal.nD Cert.Reference21Ideal.τ).loc Cert.Reference21Ideal.main_arg31) = m ((c.tc : Thread Cert.Reference21Ideal.nD Cert.Reference21Ideal.τ).loc Cert.Reference21Ideal.main_arg31)
      ∧ r.2.mem ((c.tc : Thread Cert.Reference21Ideal.nD Cert.Reference21Ideal.τ).loc Cert.Reference21Ideal.main_arg32) = m ((c.tc : Thread Cert.Reference21Ideal.nD Cert.Reference21Ideal.τ).loc Cert.Reference21Ideal.main_arg32)
      ∧ r.2.mem ((c.tc : Thread Cert.Reference21Ideal.nD Cert.Reference21Ideal.τ).loc Cert.Reference21Ideal.main_arg33) = m ((c.tc : Thread Cert.Reference21Ideal.nD Cert.Reference21Ideal.τ).loc Cert.Reference21Ideal.main_arg33)
      ∧ r.2.mem ((c.tc : Thread Cert.Reference21Ideal.nD Cert.Reference21Ideal.τ).loc Cert.Reference21Ideal.main_arg34) = m ((c.tc : Thread Cert.Reference21Ideal.nD Cert.Reference21Ideal.τ).loc Cert.Reference21Ideal.main_arg34)
      ∧ r.2.mem ((c.tc : Thread Cert.Reference21Ideal.nD Cert.Reference21Ideal.τ).loc Cert.Reference21Ideal.main_arg35) = m ((c.tc : Thread Cert.Reference21Ideal.nD Cert.Reference21Ideal.τ).loc Cert.Reference21Ideal.main_arg35)
      ∧ r.2.mem ((c.tc : Thread Cert.Reference21Ideal.nD Cert.Reference21Ideal.τ).loc Cert.Reference21Ideal.main_arg36) = m ((c.tc : Thread Cert.Reference21Ideal.nD Cert.Reference21Ideal.τ).loc Cert.Reference21Ideal.main_arg36)
      ∧ r.2.mem ((c.tc : Thread Cert.Reference21Ideal.nD Cert.Reference21Ideal.τ).loc Cert.Reference21Ideal.main_arg37) = m ((c.tc : Thread Cert.Reference21Ideal.nD Cert.Reference21Ideal.τ).loc Cert.Reference21Ideal.main_arg37)
      ∧ r.2.mem ((c.tc : Thread Cert.Reference21Ideal.nD Cert.Reference21Ideal.τ).loc Cert.Reference21Ideal.main_arg38) = m ((c.tc : Thread Cert.Reference21Ideal.nD Cert.Reference21Ideal.τ).loc Cert.Reference21Ideal.main_arg38)
      ∧ r.2.mem ((c.tc : Thread Cert.Reference21Ideal.nD Cert.Reference21Ideal.τ).loc Cert.Reference21Ideal.main_arg39) = m ((c.tc : Thread Cert.Reference21Ideal.nD Cert.Reference21Ideal.τ).loc Cert.Reference21Ideal.main_arg39))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v112_0)) (v1 : (c : Dev Cert.KernelIdeal.nD) → Buf (Elt Ideal) ((c.tc : Thread Cert.KernelIdeal.nD Cert.KernelIdeal.τ).loc Cert.KernelIdeal.main_v112_1)) (v2 : (c : Dev Cert.KernelIdeal.nD) → Buf (Elt Ideal) ((c.tc : Thread Cert.KernelIdeal.nD Cert.KernelIdeal.τ).loc Cert.KernelIdeal.main_v112_2)) (v3 : (c : Dev Cert.KernelIdeal.nD) → Buf (Elt Ideal) ((c.tc : Thread Cert.KernelIdeal.nD Cert.KernelIdeal.τ).loc Cert.KernelIdeal.main_v112_3)) (v4 : (c : Dev Cert.KernelIdeal.nD) → Buf (Elt Ideal) ((c.tc : Thread Cert.KernelIdeal.nD Cert.KernelIdeal.τ).loc Cert.KernelIdeal.main_v112_4)) (v5 : (c : Dev Cert.KernelIdeal.nD) → Buf (Elt Ideal) ((c.tc : Thread Cert.KernelIdeal.nD Cert.KernelIdeal.τ).loc Cert.KernelIdeal.main_v112_5)) (v6 : (c : Dev Cert.KernelIdeal.nD) → Buf (Elt Ideal) ((c.tc : Thread Cert.KernelIdeal.nD Cert.KernelIdeal.τ).loc Cert.KernelIdeal.main_v112_6)) (v7 : (c : Dev Cert.KernelIdeal.nD) → Buf (Elt Ideal) ((c.tc : Thread Cert.KernelIdeal.nD Cert.KernelIdeal.τ).loc Cert.KernelIdeal.main_v112_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112_0) = v0 c
          ∧ r.2.mem ((c.tc : Thread Cert.KernelIdeal.nD Cert.KernelIdeal.τ).loc Cert.KernelIdeal.main_v112_1) = v1 c
          ∧ r.2.mem ((c.tc : Thread Cert.KernelIdeal.nD Cert.KernelIdeal.τ).loc Cert.KernelIdeal.main_v112_2) = v2 c
          ∧ r.2.mem ((c.tc : Thread Cert.KernelIdeal.nD Cert.KernelIdeal.τ).loc Cert.KernelIdeal.main_v112_3) = v3 c
          ∧ r.2.mem ((c.tc : Thread Cert.KernelIdeal.nD Cert.KernelIdeal.τ).loc Cert.KernelIdeal.main_v112_4) = v4 c
          ∧ r.2.mem ((c.tc : Thread Cert.KernelIdeal.nD Cert.KernelIdeal.τ).loc Cert.KernelIdeal.main_v112_5) = v5 c
          ∧ r.2.mem ((c.tc : Thread Cert.KernelIdeal.nD Cert.KernelIdeal.τ).loc Cert.KernelIdeal.main_v112_6) = v6 c
          ∧ r.2.mem ((c.tc : Thread Cert.KernelIdeal.nD Cert.KernelIdeal.τ).loc Cert.KernelIdeal.main_v112_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v259) = v2 c
          ∧ r.2.mem ((c.tc : Thread Cert.ReferenceIdeal.nD Cert.ReferenceIdeal.τ).loc Cert.ReferenceIdeal.main_v316) = v3 c
          ∧ r.2.mem ((c.tc : Thread Cert.ReferenceIdeal.nD Cert.ReferenceIdeal.τ).loc Cert.ReferenceIdeal.main_v265) = v4 c
          ∧ r.2.mem ((c.tc : Thread Cert.ReferenceIdeal.nD Cert.ReferenceIdeal.τ).loc Cert.ReferenceIdeal.main_v262) = v5 c
          ∧ r.2.mem ((c.tc : Thread Cert.ReferenceIdeal.nD Cert.ReferenceIdeal.τ).loc Cert.ReferenceIdeal.main_v318) = v6 c
          ∧ r.2.mem ((c.tc : Thread Cert.ReferenceIdeal.nD Cert.ReferenceIdeal.τ).loc Cert.ReferenceIdeal.main_v166) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite4 [hKernel15Ideal : Cert.Kernel15Ideal.Facts] [hReference15Ideal : Cert.Reference15Ideal.Facts] [hPre_finite4 : Cert.Pre_finite4.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite4 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite4 [hKernel16Ideal : Cert.Kernel16Ideal.Facts] [hReference16Ideal : Cert.Reference16Ideal.Facts] [hPre_finite4 : Cert.Pre_finite4.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite4 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v35) = v1 c
          ∧ r.2.mem ((c.tc : Thread Cert.Reference16Ideal.nD Cert.Reference16Ideal.τ).loc Cert.Reference16Ideal.main_v17) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_finite3 [hKernel20Ideal : Cert.Kernel20Ideal.Facts] [hReference20Ideal : Cert.Reference20Ideal.Facts] [hPre_finite3 : Cert.Pre_finite3.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite3 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v48) = v0 c
          ∧ r.2.mem ((c.tc : Thread Cert.Reference20Ideal.nD Cert.Reference20Ideal.τ).loc Cert.Reference20Ideal.main_v49) = v1 c
          ∧ r.2.mem ((c.tc : Thread Cert.Reference20Ideal.nD Cert.Reference20Ideal.τ).loc Cert.Reference20Ideal.main_v32) = v2 c
          ∧ r.2.mem ((c.tc : Thread Cert.Reference20Ideal.nD Cert.Reference20Ideal.τ).loc Cert.Reference20Ideal.main_v50) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)
      ∧ m' ((c.tc : Thread Cert.Reference21Ideal.nD Cert.Reference21Ideal.τ).loc Cert.Reference21Ideal.main_arg16) = m ((c.tc : Thread Cert.Kernel21Ideal.nD Cert.Kernel21Ideal.τ).loc Cert.Kernel21Ideal.main_arg16)
      ∧ m' ((c.tc : Thread Cert.Reference21Ideal.nD Cert.Reference21Ideal.τ).loc Cert.Reference21Ideal.main_arg17) = m ((c.tc : Thread Cert.Kernel21Ideal.nD Cert.Kernel21Ideal.τ).loc Cert.Kernel21Ideal.main_arg17)
      ∧ m' ((c.tc : Thread Cert.Reference21Ideal.nD Cert.Reference21Ideal.τ).loc Cert.Reference21Ideal.main_arg18) = m ((c.tc : Thread Cert.Kernel21Ideal.nD Cert.Kernel21Ideal.τ).loc Cert.Kernel21Ideal.main_arg18)
      ∧ m' ((c.tc : Thread Cert.Reference21Ideal.nD Cert.Reference21Ideal.τ).loc Cert.Reference21Ideal.main_arg19) = m ((c.tc : Thread Cert.Kernel21Ideal.nD Cert.Kernel21Ideal.τ).loc Cert.Kernel21Ideal.main_arg19)
      ∧ m' ((c.tc : Thread Cert.Reference21Ideal.nD Cert.Reference21Ideal.τ).loc Cert.Reference21Ideal.main_arg20) = m ((c.tc : Thread Cert.Kernel21Ideal.nD Cert.Kernel21Ideal.τ).loc Cert.Kernel21Ideal.main_arg20)
      ∧ m' ((c.tc : Thread Cert.Reference21Ideal.nD Cert.Reference21Ideal.τ).loc Cert.Reference21Ideal.main_arg21) = m ((c.tc : Thread Cert.Kernel21Ideal.nD Cert.Kernel21Ideal.τ).loc Cert.Kernel21Ideal.main_arg21)
      ∧ m' ((c.tc : Thread Cert.Reference21Ideal.nD Cert.Reference21Ideal.τ).loc Cert.Reference21Ideal.main_arg22) = m ((c.tc : Thread Cert.Kernel21Ideal.nD Cert.Kernel21Ideal.τ).loc Cert.Kernel21Ideal.main_arg22)
      ∧ m' ((c.tc : Thread Cert.Reference21Ideal.nD Cert.Reference21Ideal.τ).loc Cert.Reference21Ideal.main_arg23) = m ((c.tc : Thread Cert.Kernel21Ideal.nD Cert.Kernel21Ideal.τ).loc Cert.Kernel21Ideal.main_arg23)
      ∧ m' ((c.tc : Thread Cert.Reference21Ideal.nD Cert.Reference21Ideal.τ).loc Cert.Reference21Ideal.main_arg24) = m ((c.tc : Thread Cert.Kernel21Ideal.nD Cert.Kernel21Ideal.τ).loc Cert.Kernel21Ideal.main_arg24)
      ∧ m' ((c.tc : Thread Cert.Reference21Ideal.nD Cert.Reference21Ideal.τ).loc Cert.Reference21Ideal.main_arg25) = m ((c.tc : Thread Cert.Kernel21Ideal.nD Cert.Kernel21Ideal.τ).loc Cert.Kernel21Ideal.main_arg25)
      ∧ m' ((c.tc : Thread Cert.Reference21Ideal.nD Cert.Reference21Ideal.τ).loc Cert.Reference21Ideal.main_arg26) = m ((c.tc : Thread Cert.Kernel21Ideal.nD Cert.Kernel21Ideal.τ).loc Cert.Kernel21Ideal.main_arg26)
      ∧ m' ((c.tc : Thread Cert.Reference21Ideal.nD Cert.Reference21Ideal.τ).loc Cert.Reference21Ideal.main_arg27) = m ((c.tc : Thread Cert.Kernel21Ideal.nD Cert.Kernel21Ideal.τ).loc Cert.Kernel21Ideal.main_arg27)
      ∧ m' ((c.tc : Thread Cert.Reference21Ideal.nD Cert.Reference21Ideal.τ).loc Cert.Reference21Ideal.main_arg28) = m ((c.tc : Thread Cert.Kernel21Ideal.nD Cert.Kernel21Ideal.τ).loc Cert.Kernel21Ideal.main_arg28)
      ∧ m' ((c.tc : Thread Cert.Reference21Ideal.nD Cert.Reference21Ideal.τ).loc Cert.Reference21Ideal.main_arg29) = m ((c.tc : Thread Cert.Kernel21Ideal.nD Cert.Kernel21Ideal.τ).loc Cert.Kernel21Ideal.main_arg29)
      ∧ m' ((c.tc : Thread Cert.Reference21Ideal.nD Cert.Reference21Ideal.τ).loc Cert.Reference21Ideal.main_arg30) = m ((c.tc : Thread Cert.Kernel21Ideal.nD Cert.Kernel21Ideal.τ).loc Cert.Kernel21Ideal.main_arg30)
      ∧ m' ((c.tc : Thread Cert.Reference21Ideal.nD Cert.Reference21Ideal.τ).loc Cert.Reference21Ideal.main_arg31) = m ((c.tc : Thread Cert.Kernel21Ideal.nD Cert.Kernel21Ideal.τ).loc Cert.Kernel21Ideal.main_arg31)
      ∧ m' ((c.tc : Thread Cert.Reference21Ideal.nD Cert.Reference21Ideal.τ).loc Cert.Reference21Ideal.main_arg32) = m ((c.tc : Thread Cert.Kernel21Ideal.nD Cert.Kernel21Ideal.τ).loc Cert.Kernel21Ideal.main_arg32)
      ∧ m' ((c.tc : Thread Cert.Reference21Ideal.nD Cert.Reference21Ideal.τ).loc Cert.Reference21Ideal.main_arg33) = m ((c.tc : Thread Cert.Kernel21Ideal.nD Cert.Kernel21Ideal.τ).loc Cert.Kernel21Ideal.main_arg33)
      ∧ m' ((c.tc : Thread Cert.Reference21Ideal.nD Cert.Reference21Ideal.τ).loc Cert.Reference21Ideal.main_arg34) = m ((c.tc : Thread Cert.Kernel21Ideal.nD Cert.Kernel21Ideal.τ).loc Cert.Kernel21Ideal.main_arg34)
      ∧ m' ((c.tc : Thread Cert.Reference21Ideal.nD Cert.Reference21Ideal.τ).loc Cert.Reference21Ideal.main_arg35) = m ((c.tc : Thread Cert.Kernel21Ideal.nD Cert.Kernel21Ideal.τ).loc Cert.Kernel21Ideal.main_arg35)
      ∧ m' ((c.tc : Thread Cert.Reference21Ideal.nD Cert.Reference21Ideal.τ).loc Cert.Reference21Ideal.main_arg36) = m ((c.tc : Thread Cert.Kernel21Ideal.nD Cert.Kernel21Ideal.τ).loc Cert.Kernel21Ideal.main_arg36)
      ∧ m' ((c.tc : Thread Cert.Reference21Ideal.nD Cert.Reference21Ideal.τ).loc Cert.Reference21Ideal.main_arg37) = m ((c.tc : Thread Cert.Kernel21Ideal.nD Cert.Kernel21Ideal.τ).loc Cert.Kernel21Ideal.main_arg37)
      ∧ m' ((c.tc : Thread Cert.Reference21Ideal.nD Cert.Reference21Ideal.τ).loc Cert.Reference21Ideal.main_arg38) = m ((c.tc : Thread Cert.Kernel21Ideal.nD Cert.Kernel21Ideal.τ).loc Cert.Kernel21Ideal.main_arg38)
      ∧ m' ((c.tc : Thread Cert.Reference21Ideal.nD Cert.Reference21Ideal.τ).loc Cert.Reference21Ideal.main_arg39) = m ((c.tc : Thread Cert.Kernel21Ideal.nD Cert.Kernel21Ideal.τ).loc Cert.Kernel21Ideal.main_arg39)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)) (v8 : (c : Dev Cert.Kernel21Ideal.nD) → Buf (Elt Ideal) ((c.tc : Thread Cert.Kernel21Ideal.nD Cert.Kernel21Ideal.τ).loc Cert.Kernel21Ideal.main_v0_8)) (v9 : (c : Dev Cert.Kernel21Ideal.nD) → Buf (Elt Ideal) ((c.tc : Thread Cert.Kernel21Ideal.nD Cert.Kernel21Ideal.τ).loc Cert.Kernel21Ideal.main_v0_9)) (v10 : (c : Dev Cert.Kernel21Ideal.nD) → Buf (Elt Ideal) ((c.tc : Thread Cert.Kernel21Ideal.nD Cert.Kernel21Ideal.τ).loc Cert.Kernel21Ideal.main_v0_10)) (v11 : (c : Dev Cert.Kernel21Ideal.nD) → Buf (Elt Ideal) ((c.tc : Thread Cert.Kernel21Ideal.nD Cert.Kernel21Ideal.τ).loc Cert.Kernel21Ideal.main_v0_11)) (v12 : (c : Dev Cert.Kernel21Ideal.nD) → Buf (Elt Ideal) ((c.tc : Thread Cert.Kernel21Ideal.nD Cert.Kernel21Ideal.τ).loc Cert.Kernel21Ideal.main_v0_12)) (v13 : (c : Dev Cert.Kernel21Ideal.nD) → Buf (Elt Ideal) ((c.tc : Thread Cert.Kernel21Ideal.nD Cert.Kernel21Ideal.τ).loc Cert.Kernel21Ideal.main_v0_13)) (v14 : (c : Dev Cert.Kernel21Ideal.nD) → Buf (Elt Ideal) ((c.tc : Thread Cert.Kernel21Ideal.nD Cert.Kernel21Ideal.τ).loc Cert.Kernel21Ideal.main_v0_14)) (v15 : (c : Dev Cert.Kernel21Ideal.nD) → Buf (Elt Ideal) ((c.tc : Thread Cert.Kernel21Ideal.nD Cert.Kernel21Ideal.τ).loc Cert.Kernel21Ideal.main_v0_15)) (v16 : (c : Dev Cert.Kernel21Ideal.nD) → Buf (Elt Ideal) ((c.tc : Thread Cert.Kernel21Ideal.nD Cert.Kernel21Ideal.τ).loc Cert.Kernel21Ideal.main_v0_16)) (v17 : (c : Dev Cert.Kernel21Ideal.nD) → Buf (Elt Ideal) ((c.tc : Thread Cert.Kernel21Ideal.nD Cert.Kernel21Ideal.τ).loc Cert.Kernel21Ideal.main_v0_17)) (v18 : (c : Dev Cert.Kernel21Ideal.nD) → Buf (Elt Ideal) ((c.tc : Thread Cert.Kernel21Ideal.nD Cert.Kernel21Ideal.τ).loc Cert.Kernel21Ideal.main_v0_18)) (v19 : (c : Dev Cert.Kernel21Ideal.nD) → Buf (Elt Ideal) ((c.tc : Thread Cert.Kernel21Ideal.nD Cert.Kernel21Ideal.τ).loc Cert.Kernel21Ideal.main_v0_19)) (v20 : (c : Dev Cert.Kernel21Ideal.nD) → Buf (Elt Ideal) ((c.tc : Thread Cert.Kernel21Ideal.nD Cert.Kernel21Ideal.τ).loc Cert.Kernel21Ideal.main_v0_20)) (v21 : (c : Dev Cert.Kernel21Ideal.nD) → Buf (Elt Ideal) ((c.tc : Thread Cert.Kernel21Ideal.nD Cert.Kernel21Ideal.τ).loc Cert.Kernel21Ideal.main_v0_21)) (v22 : (c : Dev Cert.Kernel21Ideal.nD) → Buf (Elt Ideal) ((c.tc : Thread Cert.Kernel21Ideal.nD Cert.Kernel21Ideal.τ).loc Cert.Kernel21Ideal.main_v0_22)) (v23 : (c : Dev Cert.Kernel21Ideal.nD) → Buf (Elt Ideal) ((c.tc : Thread Cert.Kernel21Ideal.nD Cert.Kernel21Ideal.τ).loc Cert.Kernel21Ideal.main_v0_23)) (v24 : (c : Dev Cert.Kernel21Ideal.nD) → Buf (Elt Ideal) ((c.tc : Thread Cert.Kernel21Ideal.nD Cert.Kernel21Ideal.τ).loc Cert.Kernel21Ideal.main_v0_24)) (v25 : (c : Dev Cert.Kernel21Ideal.nD) → Buf (Elt Ideal) ((c.tc : Thread Cert.Kernel21Ideal.nD Cert.Kernel21Ideal.τ).loc Cert.Kernel21Ideal.main_v0_25)) (v26 : (c : Dev Cert.Kernel21Ideal.nD) → Buf (Elt Ideal) ((c.tc : Thread Cert.Kernel21Ideal.nD Cert.Kernel21Ideal.τ).loc Cert.Kernel21Ideal.main_v0_26)) (v27 : (c : Dev Cert.Kernel21Ideal.nD) → Buf (Elt Ideal) ((c.tc : Thread Cert.Kernel21Ideal.nD Cert.Kernel21Ideal.τ).loc Cert.Kernel21Ideal.main_v0_27)) (v28 : (c : Dev Cert.Kernel21Ideal.nD) → Buf (Elt Ideal) ((c.tc : Thread Cert.Kernel21Ideal.nD Cert.Kernel21Ideal.τ).loc Cert.Kernel21Ideal.main_v0_28)) (v29 : (c : Dev Cert.Kernel21Ideal.nD) → Buf (Elt Ideal) ((c.tc : Thread Cert.Kernel21Ideal.nD Cert.Kernel21Ideal.τ).loc Cert.Kernel21Ideal.main_v0_29)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_v0_8) = v8 c
          ∧ r.2.mem ((c.tc : Thread Cert.Kernel21Ideal.nD Cert.Kernel21Ideal.τ).loc Cert.Kernel21Ideal.main_v0_9) = v9 c
          ∧ r.2.mem ((c.tc : Thread Cert.Kernel21Ideal.nD Cert.Kernel21Ideal.τ).loc Cert.Kernel21Ideal.main_v0_10) = v10 c
          ∧ r.2.mem ((c.tc : Thread Cert.Kernel21Ideal.nD Cert.Kernel21Ideal.τ).loc Cert.Kernel21Ideal.main_v0_11) = v11 c
          ∧ r.2.mem ((c.tc : Thread Cert.Kernel21Ideal.nD Cert.Kernel21Ideal.τ).loc Cert.Kernel21Ideal.main_v0_12) = v12 c
          ∧ r.2.mem ((c.tc : Thread Cert.Kernel21Ideal.nD Cert.Kernel21Ideal.τ).loc Cert.Kernel21Ideal.main_v0_13) = v13 c
          ∧ r.2.mem ((c.tc : Thread Cert.Kernel21Ideal.nD Cert.Kernel21Ideal.τ).loc Cert.Kernel21Ideal.main_v0_14) = v14 c
          ∧ r.2.mem ((c.tc : Thread Cert.Kernel21Ideal.nD Cert.Kernel21Ideal.τ).loc Cert.Kernel21Ideal.main_v0_15) = v15 c
          ∧ r.2.mem ((c.tc : Thread Cert.Kernel21Ideal.nD Cert.Kernel21Ideal.τ).loc Cert.Kernel21Ideal.main_v0_16) = v16 c
          ∧ r.2.mem ((c.tc : Thread Cert.Kernel21Ideal.nD Cert.Kernel21Ideal.τ).loc Cert.Kernel21Ideal.main_v0_17) = v17 c
          ∧ r.2.mem ((c.tc : Thread Cert.Kernel21Ideal.nD Cert.Kernel21Ideal.τ).loc Cert.Kernel21Ideal.main_v0_18) = v18 c
          ∧ r.2.mem ((c.tc : Thread Cert.Kernel21Ideal.nD Cert.Kernel21Ideal.τ).loc Cert.Kernel21Ideal.main_v0_19) = v19 c
          ∧ r.2.mem ((c.tc : Thread Cert.Kernel21Ideal.nD Cert.Kernel21Ideal.τ).loc Cert.Kernel21Ideal.main_v0_20) = v20 c
          ∧ r.2.mem ((c.tc : Thread Cert.Kernel21Ideal.nD Cert.Kernel21Ideal.τ).loc Cert.Kernel21Ideal.main_v0_21) = v21 c
          ∧ r.2.mem ((c.tc : Thread Cert.Kernel21Ideal.nD Cert.Kernel21Ideal.τ).loc Cert.Kernel21Ideal.main_v0_22) = v22 c
          ∧ r.2.mem ((c.tc : Thread Cert.Kernel21Ideal.nD Cert.Kernel21Ideal.τ).loc Cert.Kernel21Ideal.main_v0_23) = v23 c
          ∧ r.2.mem ((c.tc : Thread Cert.Kernel21Ideal.nD Cert.Kernel21Ideal.τ).loc Cert.Kernel21Ideal.main_v0_24) = v24 c
          ∧ r.2.mem ((c.tc : Thread Cert.Kernel21Ideal.nD Cert.Kernel21Ideal.τ).loc Cert.Kernel21Ideal.main_v0_25) = v25 c
          ∧ r.2.mem ((c.tc : Thread Cert.Kernel21Ideal.nD Cert.Kernel21Ideal.τ).loc Cert.Kernel21Ideal.main_v0_26) = v26 c
          ∧ r.2.mem ((c.tc : Thread Cert.Kernel21Ideal.nD Cert.Kernel21Ideal.τ).loc Cert.Kernel21Ideal.main_v0_27) = v27 c
          ∧ r.2.mem ((c.tc : Thread Cert.Kernel21Ideal.nD Cert.Kernel21Ideal.τ).loc Cert.Kernel21Ideal.main_v0_28) = v28 c
          ∧ r.2.mem ((c.tc : Thread Cert.Kernel21Ideal.nD Cert.Kernel21Ideal.τ).loc Cert.Kernel21Ideal.main_v0_29) = v29 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
          ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
          ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
          ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
          ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
          ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
          ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
          ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
          ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
          ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24)
          ∧ r.2.mem ((c.tc : Thread Cert.Kernel21Ideal.nD Cert.Kernel21Ideal.τ).loc Cert.Kernel21Ideal.main_arg25) = m ((c.tc : Thread Cert.Kernel21Ideal.nD Cert.Kernel21Ideal.τ).loc Cert.Kernel21Ideal.main_arg25)
          ∧ r.2.mem ((c.tc : Thread Cert.Kernel21Ideal.nD Cert.Kernel21Ideal.τ).loc Cert.Kernel21Ideal.main_arg26) = m ((c.tc : Thread Cert.Kernel21Ideal.nD Cert.Kernel21Ideal.τ).loc Cert.Kernel21Ideal.main_arg26)
          ∧ r.2.mem ((c.tc : Thread Cert.Kernel21Ideal.nD Cert.Kernel21Ideal.τ).loc Cert.Kernel21Ideal.main_arg27) = m ((c.tc : Thread Cert.Kernel21Ideal.nD Cert.Kernel21Ideal.τ).loc Cert.Kernel21Ideal.main_arg27)
          ∧ r.2.mem ((c.tc : Thread Cert.Kernel21Ideal.nD Cert.Kernel21Ideal.τ).loc Cert.Kernel21Ideal.main_arg28) = m ((c.tc : Thread Cert.Kernel21Ideal.nD Cert.Kernel21Ideal.τ).loc Cert.Kernel21Ideal.main_arg28)
          ∧ r.2.mem ((c.tc : Thread Cert.Kernel21Ideal.nD Cert.Kernel21Ideal.τ).loc Cert.Kernel21Ideal.main_arg29) = m ((c.tc : Thread Cert.Kernel21Ideal.nD Cert.Kernel21Ideal.τ).loc Cert.Kernel21Ideal.main_arg29)
          ∧ r.2.mem ((c.tc : Thread Cert.Kernel21Ideal.nD Cert.Kernel21Ideal.τ).loc Cert.Kernel21Ideal.main_arg30) = m ((c.tc : Thread Cert.Kernel21Ideal.nD Cert.Kernel21Ideal.τ).loc Cert.Kernel21Ideal.main_arg30)
          ∧ r.2.mem ((c.tc : Thread Cert.Kernel21Ideal.nD Cert.Kernel21Ideal.τ).loc Cert.Kernel21Ideal.main_arg31) = m ((c.tc : Thread Cert.Kernel21Ideal.nD Cert.Kernel21Ideal.τ).loc Cert.Kernel21Ideal.main_arg31)
          ∧ r.2.mem ((c.tc : Thread Cert.Kernel21Ideal.nD Cert.Kernel21Ideal.τ).loc Cert.Kernel21Ideal.main_arg32) = m ((c.tc : Thread Cert.Kernel21Ideal.nD Cert.Kernel21Ideal.τ).loc Cert.Kernel21Ideal.main_arg32)
          ∧ r.2.mem ((c.tc : Thread Cert.Kernel21Ideal.nD Cert.Kernel21Ideal.τ).loc Cert.Kernel21Ideal.main_arg33) = m ((c.tc : Thread Cert.Kernel21Ideal.nD Cert.Kernel21Ideal.τ).loc Cert.Kernel21Ideal.main_arg33)
          ∧ r.2.mem ((c.tc : Thread Cert.Kernel21Ideal.nD Cert.Kernel21Ideal.τ).loc Cert.Kernel21Ideal.main_arg34) = m ((c.tc : Thread Cert.Kernel21Ideal.nD Cert.Kernel21Ideal.τ).loc Cert.Kernel21Ideal.main_arg34)
          ∧ r.2.mem ((c.tc : Thread Cert.Kernel21Ideal.nD Cert.Kernel21Ideal.τ).loc Cert.Kernel21Ideal.main_arg35) = m ((c.tc : Thread Cert.Kernel21Ideal.nD Cert.Kernel21Ideal.τ).loc Cert.Kernel21Ideal.main_arg35)
          ∧ r.2.mem ((c.tc : Thread Cert.Kernel21Ideal.nD Cert.Kernel21Ideal.τ).loc Cert.Kernel21Ideal.main_arg36) = m ((c.tc : Thread Cert.Kernel21Ideal.nD Cert.Kernel21Ideal.τ).loc Cert.Kernel21Ideal.main_arg36)
          ∧ r.2.mem ((c.tc : Thread Cert.Kernel21Ideal.nD Cert.Kernel21Ideal.τ).loc Cert.Kernel21Ideal.main_arg37) = m ((c.tc : Thread Cert.Kernel21Ideal.nD Cert.Kernel21Ideal.τ).loc Cert.Kernel21Ideal.main_arg37)
          ∧ r.2.mem ((c.tc : Thread Cert.Kernel21Ideal.nD Cert.Kernel21Ideal.τ).loc Cert.Kernel21Ideal.main_arg38) = m ((c.tc : Thread Cert.Kernel21Ideal.nD Cert.Kernel21Ideal.τ).loc Cert.Kernel21Ideal.main_arg38)
          ∧ r.2.mem ((c.tc : Thread Cert.Kernel21Ideal.nD Cert.Kernel21Ideal.τ).loc Cert.Kernel21Ideal.main_arg39) = m ((c.tc : Thread Cert.Kernel21Ideal.nD Cert.Kernel21Ideal.τ).loc Cert.Kernel21Ideal.main_arg39))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v47) = v1 c
          ∧ r.2.mem ((c.tc : Thread Cert.Reference21Ideal.nD Cert.Reference21Ideal.τ).loc Cert.Reference21Ideal.main_v71) = v2 c
          ∧ r.2.mem ((c.tc : Thread Cert.Reference21Ideal.nD Cert.Reference21Ideal.τ).loc Cert.Reference21Ideal.main_v95) = v3 c
          ∧ r.2.mem ((c.tc : Thread Cert.Reference21Ideal.nD Cert.Reference21Ideal.τ).loc Cert.Reference21Ideal.main_v119) = v4 c
          ∧ r.2.mem ((c.tc : Thread Cert.Reference21Ideal.nD Cert.Reference21Ideal.τ).loc Cert.Reference21Ideal.main_v143) = v5 c
          ∧ r.2.mem ((c.tc : Thread Cert.Reference21Ideal.nD Cert.Reference21Ideal.τ).loc Cert.Reference21Ideal.main_v167) = v6 c
          ∧ r.2.mem ((c.tc : Thread Cert.Reference21Ideal.nD Cert.Reference21Ideal.τ).loc Cert.Reference21Ideal.main_v191) = v7 c
          ∧ r.2.mem ((c.tc : Thread Cert.Reference21Ideal.nD Cert.Reference21Ideal.τ).loc Cert.Reference21Ideal.main_v215) = v8 c
          ∧ r.2.mem ((c.tc : Thread Cert.Reference21Ideal.nD Cert.Reference21Ideal.τ).loc Cert.Reference21Ideal.main_v239) = v9 c
          ∧ r.2.mem ((c.tc : Thread Cert.Reference21Ideal.nD Cert.Reference21Ideal.τ).loc Cert.Reference21Ideal.main_v4) = v10 c
          ∧ r.2.mem ((c.tc : Thread Cert.Reference21Ideal.nD Cert.Reference21Ideal.τ).loc Cert.Reference21Ideal.main_v28) = v11 c
          ∧ r.2.mem ((c.tc : Thread Cert.Reference21Ideal.nD Cert.Reference21Ideal.τ).loc Cert.Reference21Ideal.main_v52) = v12 c
          ∧ r.2.mem ((c.tc : Thread Cert.Reference21Ideal.nD Cert.Reference21Ideal.τ).loc Cert.Reference21Ideal.main_v76) = v13 c
          ∧ r.2.mem ((c.tc : Thread Cert.Reference21Ideal.nD Cert.Reference21Ideal.τ).loc Cert.Reference21Ideal.main_v100) = v14 c
          ∧ r.2.mem ((c.tc : Thread Cert.Reference21Ideal.nD Cert.Reference21Ideal.τ).loc Cert.Reference21Ideal.main_v124) = v15 c
          ∧ r.2.mem ((c.tc : Thread Cert.Reference21Ideal.nD Cert.Reference21Ideal.τ).loc Cert.Reference21Ideal.main_v148) = v16 c
          ∧ r.2.mem ((c.tc : Thread Cert.Reference21Ideal.nD Cert.Reference21Ideal.τ).loc Cert.Reference21Ideal.main_v172) = v17 c
          ∧ r.2.mem ((c.tc : Thread Cert.Reference21Ideal.nD Cert.Reference21Ideal.τ).loc Cert.Reference21Ideal.main_v196) = v18 c
          ∧ r.2.mem ((c.tc : Thread Cert.Reference21Ideal.nD Cert.Reference21Ideal.τ).loc Cert.Reference21Ideal.main_v220) = v19 c
          ∧ r.2.mem ((c.tc : Thread Cert.Reference21Ideal.nD Cert.Reference21Ideal.τ).loc Cert.Reference21Ideal.main_v10) = v20 c
          ∧ r.2.mem ((c.tc : Thread Cert.Reference21Ideal.nD Cert.Reference21Ideal.τ).loc Cert.Reference21Ideal.main_v34) = v21 c
          ∧ r.2.mem ((c.tc : Thread Cert.Reference21Ideal.nD Cert.Reference21Ideal.τ).loc Cert.Reference21Ideal.main_v58) = v22 c
          ∧ r.2.mem ((c.tc : Thread Cert.Reference21Ideal.nD Cert.Reference21Ideal.τ).loc Cert.Reference21Ideal.main_v82) = v23 c
          ∧ r.2.mem ((c.tc : Thread Cert.Reference21Ideal.nD Cert.Reference21Ideal.τ).loc Cert.Reference21Ideal.main_v106) = v24 c
          ∧ r.2.mem ((c.tc : Thread Cert.Reference21Ideal.nD Cert.Reference21Ideal.τ).loc Cert.Reference21Ideal.main_v130) = v25 c
          ∧ r.2.mem ((c.tc : Thread Cert.Reference21Ideal.nD Cert.Reference21Ideal.τ).loc Cert.Reference21Ideal.main_v154) = v26 c
          ∧ r.2.mem ((c.tc : Thread Cert.Reference21Ideal.nD Cert.Reference21Ideal.τ).loc Cert.Reference21Ideal.main_v178) = v27 c
          ∧ r.2.mem ((c.tc : Thread Cert.Reference21Ideal.nD Cert.Reference21Ideal.τ).loc Cert.Reference21Ideal.main_v202) = v28 c
          ∧ r.2.mem ((c.tc : Thread Cert.Reference21Ideal.nD Cert.Reference21Ideal.τ).loc Cert.Reference21Ideal.main_v226) = v29 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15)
          ∧ r.2.mem ((c.tc : Thread Cert.Reference21Ideal.nD Cert.Reference21Ideal.τ).loc Cert.Reference21Ideal.main_arg16) = m' ((c.tc : Thread Cert.Reference21Ideal.nD Cert.Reference21Ideal.τ).loc Cert.Reference21Ideal.main_arg16)
          ∧ r.2.mem ((c.tc : Thread Cert.Reference21Ideal.nD Cert.Reference21Ideal.τ).loc Cert.Reference21Ideal.main_arg17) = m' ((c.tc : Thread Cert.Reference21Ideal.nD Cert.Reference21Ideal.τ).loc Cert.Reference21Ideal.main_arg17)
          ∧ r.2.mem ((c.tc : Thread Cert.Reference21Ideal.nD Cert.Reference21Ideal.τ).loc Cert.Reference21Ideal.main_arg18) = m' ((c.tc : Thread Cert.Reference21Ideal.nD Cert.Reference21Ideal.τ).loc Cert.Reference21Ideal.main_arg18)
          ∧ r.2.mem ((c.tc : Thread Cert.Reference21Ideal.nD Cert.Reference21Ideal.τ).loc Cert.Reference21Ideal.main_arg19) = m' ((c.tc : Thread Cert.Reference21Ideal.nD Cert.Reference21Ideal.τ).loc Cert.Reference21Ideal.main_arg19)
          ∧ r.2.mem ((c.tc : Thread Cert.Reference21Ideal.nD Cert.Reference21Ideal.τ).loc Cert.Reference21Ideal.main_arg20) = m' ((c.tc : Thread Cert.Reference21Ideal.nD Cert.Reference21Ideal.τ).loc Cert.Reference21Ideal.main_arg20)
          ∧ r.2.mem ((c.tc : Thread Cert.Reference21Ideal.nD Cert.Reference21Ideal.τ).loc Cert.Reference21Ideal.main_arg21) = m' ((c.tc : Thread Cert.Reference21Ideal.nD Cert.Reference21Ideal.τ).loc Cert.Reference21Ideal.main_arg21)
          ∧ r.2.mem ((c.tc : Thread Cert.Reference21Ideal.nD Cert.Reference21Ideal.τ).loc Cert.Reference21Ideal.main_arg22) = m' ((c.tc : Thread Cert.Reference21Ideal.nD Cert.Reference21Ideal.τ).loc Cert.Reference21Ideal.main_arg22)
          ∧ r.2.mem ((c.tc : Thread Cert.Reference21Ideal.nD Cert.Reference21Ideal.τ).loc Cert.Reference21Ideal.main_arg23) = m' ((c.tc : Thread Cert.Reference21Ideal.nD Cert.Reference21Ideal.τ).loc Cert.Reference21Ideal.main_arg23)
          ∧ r.2.mem ((c.tc : Thread Cert.Reference21Ideal.nD Cert.Reference21Ideal.τ).loc Cert.Reference21Ideal.main_arg24) = m' ((c.tc : Thread Cert.Reference21Ideal.nD Cert.Reference21Ideal.τ).loc Cert.Reference21Ideal.main_arg24)
          ∧ r.2.mem ((c.tc : Thread Cert.Reference21Ideal.nD Cert.Reference21Ideal.τ).loc Cert.Reference21Ideal.main_arg25) = m' ((c.tc : Thread Cert.Reference21Ideal.nD Cert.Reference21Ideal.τ).loc Cert.Reference21Ideal.main_arg25)
          ∧ r.2.mem ((c.tc : Thread Cert.Reference21Ideal.nD Cert.Reference21Ideal.τ).loc Cert.Reference21Ideal.main_arg26) = m' ((c.tc : Thread Cert.Reference21Ideal.nD Cert.Reference21Ideal.τ).loc Cert.Reference21Ideal.main_arg26)
          ∧ r.2.mem ((c.tc : Thread Cert.Reference21Ideal.nD Cert.Reference21Ideal.τ).loc Cert.Reference21Ideal.main_arg27) = m' ((c.tc : Thread Cert.Reference21Ideal.nD Cert.Reference21Ideal.τ).loc Cert.Reference21Ideal.main_arg27)
          ∧ r.2.mem ((c.tc : Thread Cert.Reference21Ideal.nD Cert.Reference21Ideal.τ).loc Cert.Reference21Ideal.main_arg28) = m' ((c.tc : Thread Cert.Reference21Ideal.nD Cert.Reference21Ideal.τ).loc Cert.Reference21Ideal.main_arg28)
          ∧ r.2.mem ((c.tc : Thread Cert.Reference21Ideal.nD Cert.Reference21Ideal.τ).loc Cert.Reference21Ideal.main_arg29) = m' ((c.tc : Thread Cert.Reference21Ideal.nD Cert.Reference21Ideal.τ).loc Cert.Reference21Ideal.main_arg29)
          ∧ r.2.mem ((c.tc : Thread Cert.Reference21Ideal.nD Cert.Reference21Ideal.τ).loc Cert.Reference21Ideal.main_arg30) = m' ((c.tc : Thread Cert.Reference21Ideal.nD Cert.Reference21Ideal.τ).loc Cert.Reference21Ideal.main_arg30)
          ∧ r.2.mem ((c.tc : Thread Cert.Reference21Ideal.nD Cert.Reference21Ideal.τ).loc Cert.Reference21Ideal.main_arg31) = m' ((c.tc : Thread Cert.Reference21Ideal.nD Cert.Reference21Ideal.τ).loc Cert.Reference21Ideal.main_arg31)
          ∧ r.2.mem ((c.tc : Thread Cert.Reference21Ideal.nD Cert.Reference21Ideal.τ).loc Cert.Reference21Ideal.main_arg32) = m' ((c.tc : Thread Cert.Reference21Ideal.nD Cert.Reference21Ideal.τ).loc Cert.Reference21Ideal.main_arg32)
          ∧ r.2.mem ((c.tc : Thread Cert.Reference21Ideal.nD Cert.Reference21Ideal.τ).loc Cert.Reference21Ideal.main_arg33) = m' ((c.tc : Thread Cert.Reference21Ideal.nD Cert.Reference21Ideal.τ).loc Cert.Reference21Ideal.main_arg33)
          ∧ r.2.mem ((c.tc : Thread Cert.Reference21Ideal.nD Cert.Reference21Ideal.τ).loc Cert.Reference21Ideal.main_arg34) = m' ((c.tc : Thread Cert.Reference21Ideal.nD Cert.Reference21Ideal.τ).loc Cert.Reference21Ideal.main_arg34)
          ∧ r.2.mem ((c.tc : Thread Cert.Reference21Ideal.nD Cert.Reference21Ideal.τ).loc Cert.Reference21Ideal.main_arg35) = m' ((c.tc : Thread Cert.Reference21Ideal.nD Cert.Reference21Ideal.τ).loc Cert.Reference21Ideal.main_arg35)
          ∧ r.2.mem ((c.tc : Thread Cert.Reference21Ideal.nD Cert.Reference21Ideal.τ).loc Cert.Reference21Ideal.main_arg36) = m' ((c.tc : Thread Cert.Reference21Ideal.nD Cert.Reference21Ideal.τ).loc Cert.Reference21Ideal.main_arg36)
          ∧ r.2.mem ((c.tc : Thread Cert.Reference21Ideal.nD Cert.Reference21Ideal.τ).loc Cert.Reference21Ideal.main_arg37) = m' ((c.tc : Thread Cert.Reference21Ideal.nD Cert.Reference21Ideal.τ).loc Cert.Reference21Ideal.main_arg37)
          ∧ r.2.mem ((c.tc : Thread Cert.Reference21Ideal.nD Cert.Reference21Ideal.τ).loc Cert.Reference21Ideal.main_arg38) = m' ((c.tc : Thread Cert.Reference21Ideal.nD Cert.Reference21Ideal.τ).loc Cert.Reference21Ideal.main_arg38)
          ∧ r.2.mem ((c.tc : Thread Cert.Reference21Ideal.nD Cert.Reference21Ideal.τ).loc Cert.Reference21Ideal.main_arg39) = m' ((c.tc : Thread Cert.Reference21Ideal.nD Cert.Reference21Ideal.τ).loc Cert.Reference21Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite4 : Cert.Pre_finite4.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite4 (hKernel15Ideal := hKernel15Ideal) (hPre_finite4 := hPre_finite4)
    ∧ quiescent_Reference15Ideal (hReference15Ideal := hReference15Ideal)
    ∧ quiescent_Reference15Ideal_pre_finite4 (hReference15Ideal := hReference15Ideal) (hPre_finite4 := hPre_finite4)
    ∧ quiescent_Kernel16 (hKernel16 := hKernel16)
    ∧ quiescent_Kernel16Ideal (hKernel16Ideal := hKernel16Ideal)
    ∧ quiescent_Kernel16Ideal_pre_finite4 (hKernel16Ideal := hKernel16Ideal) (hPre_finite4 := hPre_finite4)
    ∧ quiescent_Reference16Ideal (hReference16Ideal := hReference16Ideal)
    ∧ quiescent_Reference16Ideal_pre_finite4 (hReference16Ideal := hReference16Ideal) (hPre_finite4 := hPre_finite4)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite3 (hKernel20Ideal := hKernel20Ideal) (hPre_finite3 := hPre_finite3)
    ∧ quiescent_Reference20Ideal (hReference20Ideal := hReference20Ideal)
    ∧ quiescent_Reference20Ideal_pre_finite3 (hReference20Ideal := hReference20Ideal) (hPre_finite3 := hPre_finite3)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite4 (hKernel15Ideal := hKernel15Ideal) (hReference15Ideal := hReference15Ideal) (hPre_finite4 := hPre_finite4)
    ∧ preserves_Kernel16_Kernel16Ideal
    ∧ algebraic_Kernel16Ideal_Reference16Ideal_pre_finite4 (hKernel16Ideal := hKernel16Ideal) (hReference16Ideal := hReference16Ideal) (hPre_finite4 := hPre_finite4)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite3 (hKernel20Ideal := hKernel20Ideal) (hReference20Ideal := hReference20Ideal) (hPre_finite3 := hPre_finite3)
    ∧ preserves_Kernel21_Kernel21Ideal
    ∧ algebraic_Kernel21Ideal_Reference21Ideal (hKernel21Ideal := hKernel21Ideal) (hReference21Ideal := hReference21Ideal)
-- ==== Pre_finite.lean ====
abbrev S2048x2048 : Shape := ⟨2, ![2048, 2048]⟩
abbrev S2048x4352 : Shape := ⟨2, ![2048, 4352]⟩
abbrev S256x1024 : Shape := ⟨2, ![256, 1024]⟩
abbrev S6x128x128 : Shape := ⟨3, ![6, 128, 128]⟩
abbrev S6x128 : Shape := ⟨2, ![6, 128]⟩
abbrev S1x768 : Shape := ⟨2, ![1, 768]⟩
abbrev S3x768 : Shape := ⟨2, ![3, 768]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S2048x4352 : S_.BroadcastsInDim S2048x4352 (![] : Fin 0 → Fin S2048x4352.rank)
  bcast_S_S256x1024 : S_.BroadcastsInDim S256x1024 (![] : Fin 0 → Fin S256x1024.rank)
  bcast_S_S6x128x128 : S_.BroadcastsInDim S6x128x128 (![] : Fin 0 → Fin S6x128x128.rank)
  bcast_S_S6x128 : S_.BroadcastsInDim S6x128 (![] : Fin 0 → Fin S6x128.rank)
  bcast_S_S1x768 : S_.BroadcastsInDim S1x768 (![] : Fin 0 → Fin S1x768.rank)
  bcast_S_S3x768 : S_.BroadcastsInDim S3x768 (![] : Fin 0 → Fin S3x768.rank)
  bcast_S_S1x2048 : S_.BroadcastsInDim S1x2048 (![] : Fin 0 → Fin S1x2048.rank)

variable [Facts]

def fn_part1 {F : FTy → Type} [FloatOps F] (main_arg6 : FVec F S1x768 .f32) (main_arg7 : FVec F S3x768 .f32) (main_arg8 : FVec F S1x2048 .f32) (main_v2 : IVec S2048x2048 1) (main_v5 : IVec S2048x4352 1) (main_v8 : IVec S256x1024 1) (main_v11 : IVec S6x128x128 1) (main_v14 : IVec S6x128 1) (main_v17 : IVec S1x768 1) : IVec S2048x2048 1 × IVec S2048x4352 1 × IVec S256x1024 1 × IVec S6x128x128 1 × IVec S6x128 1 × IVec S1x768 1 × IVec S1x768 1 × IVec S3x768 1 × IVec S1x2048 1 :=
  let main_v18 : FVec F S1x768 .f32 := Host.absf main_arg6
  let main_cst_5 : FVec F S_ .f32 := constant S_ .f32 0x7F800000#32
  let main_v19 : FVec F S1x768 .f32 := broadcastInDim S1x768 ![] bcast_S_S1x768 main_cst_5
  let main_v20 : IVec S1x768 1 := cmpf .olt main_v18 main_v19
  let main_v21 : FVec F S3x768 .f32 := Host.absf main_arg7
  let main_cst_6 : FVec F S_ .f32 := constant S_ .f32 0x7F800000#32
  let main_v22 : FVec F S3x768 .f32 := broadcastInDim S3x768 ![] bcast_S_S3x768 main_cst_6
  let main_v23 : IVec S3x768 1 := cmpf .olt main_v21 main_v22
  let main_v24 : FVec F S1x2048 .f32 := Host.absf main_arg8
  let main_cst_7 : FVec F S_ .f32 := constant S_ .f32 0x7F800000#32
  let main_v25 : FVec F S1x2048 .f32 := broadcastInDim S1x2048 ![] bcast_S_S1x2048 main_cst_7
  let main_v26 : IVec S1x2048 1 := cmpf .olt main_v24 main_v25
  (main_v2, main_v5, main_v8, main_v11, main_v14, main_v17, main_v20, main_v23, main_v26)

def fn {F : FTy → Type} [FloatOps F] (main_arg0 : FVec F S2048x2048 .f32) (main_arg1 : FVec F S2048x4352 .f32) (main_arg2 : FVec F S256x1024 .f32) (main_arg3 : FVec F S6x128x128 .f32) (main_arg4 : FVec F S6x128 .f32) (main_arg5 : FVec F S1x768 .f32) (main_arg6 : FVec F S1x768 .f32) (main_arg7 : FVec F S3x768 .f32) (main_arg8 : FVec F S1x2048 .f32) : IVec S2048x2048 1 × IVec S2048x4352 1 × IVec S256x1024 1 × IVec S6x128x128 1 × IVec S6x128 1 × IVec S1x768 1 × IVec S1x768 1 × IVec S3x768 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x4352 .f32 := Host.absf main_arg1
  let main_cst_0 : FVec F S_ .f32 := constant S_ .f32 0x7F800000#32
  let main_v4 : FVec F S2048x4352 .f32 := broadcastInDim S2048x4352 ![] bcast_S_S2048x4352 main_cst_0
  let main_v5 : IVec S2048x4352 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S6x128x128 .f32 := Host.absf main_arg3
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_v12 : FVec F S6x128 .f32 := Host.absf main_arg4
  let main_cst_3 : FVec F S_ .f32 := constant S_ .f32 0x7F800000#32
  let main_v13 : FVec F S6x128 .f32 := broadcastInDim S6x128 ![] bcast_S_S6x128 main_cst_3
  let main_v14 : IVec S6x128 1 := cmpf .olt main_v12 main_v13
  let main_v15 : FVec F S1x768 .f32 := Host.absf main_arg5
  let main_cst_4 : FVec F S_ .f32 := constant S_ .f32 0x7F800000#32
  let main_v16 : FVec F S1x768 .f32 := broadcastInDim S1x768 ![] bcast_S_S1x768 main_cst_4
  let main_v17 : IVec S1x768 1 := cmpf .olt main_v15 main_v16
  fn_part1 (F := F) main_arg6 main_arg7 main_arg8 main_v2 main_v5 main_v8 main_v11 main_v14 main_v17
-- ==== Pre_finite3.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S2048x2048 .f32) : IVec S2048x2048 1 × IVec S1x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_finite4.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) (main_arg3 : FVec F S2048x2048 .f32) : IVec S2048x2048 1 × IVec S2048x2048 1 × IVec S1x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Kernel.lean ====
abbrev S2048x2048 : Shape := ⟨2, ![2048, 2048]⟩
abbrev S2048x4352 : Shape := ⟨2, ![2048, 4352]⟩
abbrev S256x1024 : Shape := ⟨2, ![256, 1024]⟩
abbrev S6x128x128 : Shape := ⟨3, ![6, 128, 128]⟩
abbrev S6x128 : Shape := ⟨2, ![6, 128]⟩
abbrev S1x768 : Shape := ⟨2, ![1, 768]⟩
abbrev S3x768 : Shape := ⟨2, ![3, 768]⟩
abbrev S1x2048 : Shape := ⟨2, ![1, 2048]⟩
abbrev S2048x768 : Shape := ⟨2, ![2048, 768]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S16x128x6x128 : Shape := ⟨4, ![16, 128, 6, 128]⟩
abbrev S128x128 : Shape := ⟨2, ![128, 128]⟩
abbrev S1x128x128 : Shape := ⟨3, ![1, 128, 128]⟩
abbrev S6x16x128x128 : Shape := ⟨4, ![6, 16, 128, 128]⟩
abbrev S128x6 : Shape := ⟨2, ![128, 6]⟩
abbrev S128x6x1 : Shape := ⟨3, ![128, 6, 1]⟩
abbrev S1x128x6x1 : Shape := ⟨4, ![1, 128, 6, 1]⟩
abbrev S2x768 : Shape := ⟨2, ![2, 768]⟩
abbrev S2050x768 : Shape := ⟨2, ![2050, 768]⟩
abbrev S256x512 : Shape := ⟨2, ![256, 512]⟩
abbrev S2048x4x128 : Shape := ⟨3, ![2048, 4, 128]⟩
abbrev S256x4x128 : Shape := ⟨3, ![256, 4, 128]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S8x128 : Shape := ⟨2, ![8, 128]⟩
abbrev S6x8x128 : Shape := ⟨3, ![6, 8, 128]⟩
abbrev S8x768 : Shape := ⟨2, ![8, 768]⟩
abbrev S256x2048 : Shape := ⟨2, ![256, 2048]⟩
abbrev S256x4352 : Shape := ⟨2, ![256, 4352]⟩
abbrev S256x768 : Shape := ⟨2, ![256, 768]⟩
abbrev S264x768 : Shape := ⟨2, ![264, 768]⟩
abbrev S256 : Shape := ⟨1, ![256]⟩
abbrev S256x1 : Shape := ⟨2, ![256, 1]⟩
abbrev S128x1 : Shape := ⟨2, ![128, 1]⟩
abbrev S256x128 : Shape := ⟨2, ![256, 128]⟩
abbrev S1x128 : Shape := ⟨2, ![1, 128]⟩
abbrev S128 : Shape := ⟨1, ![128]⟩
abbrev S1x8x128 : Shape := ⟨3, ![1, 8, 128]⟩
abbrev S768 : Shape := ⟨1, ![768]⟩
abbrev S8 : Shape := ⟨1, ![8]⟩
abbrev S8x1 : Shape := ⟨2, ![8, 1]⟩
abbrev S256x256 : Shape := ⟨2, ![256, 256]⟩

abbrev nBuf : Space → Nat
  | .hbm => 161
  | .vmem => 32
  | .smem => 0
  | _ => 0

abbrev hbmTy0_0 (i : Nat) : BufTy := match i % 128 with
  | 0 => ⟨S2048x2048, .f32⟩
  | 1 => ⟨S2048x4352, .f32⟩
  | 2 => ⟨S256x1024, .f32⟩
  | 3 => ⟨S6x128x128, .f32⟩
  | 4 => ⟨S6x128, .f32⟩
  | 5 => ⟨S1x768, .f32⟩
  | 6 => ⟨S1x768, .f32⟩
  | 7 => ⟨S3x768, .f32⟩
  | 8 => ⟨S1x2048, .f32⟩
  | 9 => ⟨S2048x768, .f32⟩
  | 10 => ⟨S2048x768, .f32⟩
  | 11 => ⟨S2048x768, .f32⟩
  | 12 => ⟨S2048x768, .f32⟩
  | 13 => ⟨S2048x768, .f32⟩
  | 14 => ⟨S2048x512, .f32⟩
  | 15 => ⟨S_, .f32⟩
  | 16 => ⟨S_, .f32⟩
  | 17 => ⟨S_, .f32⟩
  | 18 => ⟨S2048x768, .f32⟩
  | 19 => ⟨S2048x768, .f32⟩
  | 20 => ⟨S2048x768, .f32⟩
  | 21 => ⟨S2048x768, .f32⟩
  | 22 => ⟨S2048x768, .f32⟩
  | 23 => ⟨S_, .f32⟩
  | 24 => ⟨S2048x768, .f32⟩
  | 25 => ⟨S2048x768, .f32⟩
  | 26 => ⟨S2048x768, .f32⟩
  | 27 => ⟨S_, .f32⟩
  | 28 => ⟨S2048x768, .f32⟩
  | 29 => ⟨S2048x768, .f32⟩
  | 30 => ⟨S_, .f32⟩
  | 31 => ⟨S2048x768, .f32⟩
  | 32 => ⟨S2048x768, .f32⟩
  | 33 => ⟨S2048x768, .f32⟩
  | 34 => ⟨S_, .f32⟩
  | 35 => ⟨S_, .f32⟩
  | 36 => ⟨S_, .f32⟩
  | 37 => ⟨S2048x768, .f32⟩
  | 38 => ⟨S2048x768, .f32⟩
  | 39 => ⟨S2048x768, .f32⟩
  | 40 => ⟨S2048x768, .f32⟩
  | 41 => ⟨S2048x768, .f32⟩
  | 42 => ⟨S_, .f32⟩
  | 43 => ⟨S2048x768, .f32⟩
  | 44 => ⟨S2048x768, .f32⟩
  | 45 => ⟨S2048x768, .f32⟩
  | 46 => ⟨S_, .f32⟩
  | 47 => ⟨S2048x768, .f32⟩
  | 48 => ⟨S2048x768, .f32⟩
  | 49 => ⟨S_, .f32⟩
  | 50 => ⟨S2048x768, .f32⟩
  | 51 => ⟨S2048x768, .f32⟩
  | 52 => ⟨S2048x768, .f32⟩
  | 53 => ⟨S_, .f32⟩
  | 54 => ⟨S2048, .f32⟩
  | 55 => ⟨S2048x1, .f32⟩
  | 56 => ⟨S_, .f32⟩
  | 57 => ⟨S2048x1, .f32⟩
  | 58 => ⟨S2048x1, .f32⟩
  | 59 => ⟨S2048x768, .f32⟩
  | 60 => ⟨S2048x768, .f32⟩
  | 61 => ⟨S2048x768, .f32⟩
  | 62 => ⟨S_, .f32⟩
  | 63 => ⟨S2048, .f32⟩
  | 64 => ⟨S2048x1, .f32⟩
  | 65 => ⟨S_, .f32⟩
  | 66 => ⟨S2048x1, .f32⟩
  | 67 => ⟨S2048x1, .f32⟩
  | 68 => ⟨S_, .f32⟩
  | 69 => ⟨S2048x1, .f32⟩
  | 70 => ⟨S2048x1, .f32⟩
  | 71 => ⟨S2048x1, .f32⟩
  | 72 => ⟨S2048x768, .f32⟩
  | 73 => ⟨S2048x768, .f32⟩
  | 74 => ⟨S2048x768, .f32⟩
  | 75 => ⟨S2048x768, .f32⟩
  | 76 => ⟨S2048x768, .f32⟩
  | 77 => ⟨S2048x768, .f32⟩
  | 78 => ⟨S16x128x6x128, .f32⟩
  | 79 => ⟨S_, .i1⟩
  | 80 => ⟨S128x128, .i1⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .i1⟩
  | 88 => ⟨S128x128, .i1⟩
  | 89 => ⟨S128x128, .i1⟩
  | 90 => ⟨S1x128x128, .i1⟩
  | 91 => ⟨S_, .f32⟩
  | 92 => ⟨S6x128x128, .f32⟩
  | 93 => ⟨S6x128x128, .i1⟩
  | 94 => ⟨S6x128x128, .f32⟩
  | 95 => ⟨S6x16x128x128, .f32⟩
  | 96 => ⟨S16x128x6x128, .f32⟩
  | 97 => ⟨S128x6, .f32⟩
  | 98 => ⟨S128x6x1, .f32⟩
  | 99 => ⟨S1x128x6x1, .f32⟩
  | 100 => ⟨S16x128x6x128, .f32⟩
  | 101 => ⟨S16x128x6x128, .f32⟩
  | 102 => ⟨S2048x768, .f32⟩
  | 103 => ⟨S2048x768, .f32⟩
  | 104 => ⟨S2048x768, .f32⟩
  | 105 => ⟨S_, .f32⟩
  | 106 => ⟨S2x768, .f32⟩
  | 107 => ⟨S2050x768, .f32⟩
  | 108 => ⟨S1x768, .f32⟩
  | 109 => ⟨S2048x768, .f32⟩
  | 110 => ⟨S2048x768, .f32⟩
  | 111 => ⟨S2048x768, .f32⟩
  | 112 => ⟨S1x768, .f32⟩
  | 113 => ⟨S2048x768, .f32⟩
  | 114 => ⟨S2048x768, .f32⟩
  | 115 => ⟨S2048x768, .f32⟩
  | 116 => ⟨S2048x768, .f32⟩
  | 117 => ⟨S1x768, .f32⟩
  | 118 => ⟨S2048x768, .f32⟩
  | 119 => ⟨S2048x768, .f32⟩
  | 120 => ⟨S2048x768, .f32⟩
  | 121 => ⟨S2048x768, .f32⟩
  | 122 => ⟨S2048x768, .f32⟩
  | 123 => ⟨S256x512, .f32⟩
  | 124 => ⟨S256x512, .f32⟩
  | 125 => ⟨S2048x4x128, .f32⟩
  | 126 => ⟨S_, .f32⟩
  | 127 => ⟨S2048x4x128, .f32⟩
  | _ => ⟨S2048x2048, .f32⟩

abbrev hbmTy0_1 (i : Nat) : BufTy := match i % 128 with
  | 0 => ⟨S2048x4x128, .f32⟩
  | 1 => ⟨S256x4x128, .f32⟩
  | 2 => ⟨S256x4x128, .f32⟩
  | 3 => ⟨S4x2048x256, .f32⟩
  | 4 => ⟨S_, .f32⟩
  | 5 => ⟨S4x2048, .f32⟩
  | 6 => ⟨S_, .f32⟩
  | 7 => ⟨S4x2048, .f32⟩
  | 8 => ⟨S4x2048, .f32⟩
  | 9 => ⟨S4x2048x1, .f32⟩
  | 10 => ⟨S4x2048x256, .f32⟩
  | 11 => ⟨S4x2048x256, .f32⟩
  | 12 => ⟨S4x2048x256, .f32⟩
  | 13 => ⟨S_, .f32⟩
  | 14 => ⟨S4x2048, .f32⟩
  | 15 => ⟨S4x2048x1, .f32⟩
  | 16 => ⟨S4x2048x256, .f32⟩
  | 17 => ⟨S4x2048x256, .f32⟩
  | 18 => ⟨S4x128x2048, .f32⟩
  | 19 => ⟨S2048x4x128, .f32⟩
  | 20 => ⟨S2048x512, .f32⟩
  | 21 => ⟨S2048x2048, .f32⟩
  | 22 => ⟨S128x6, .f32⟩
  | 23 => ⟨S_, .f32⟩
  | 24 => ⟨S8x128, .f32⟩
  | 25 => ⟨S2048x4352, .bf16⟩
  | 26 => ⟨S256x1024, .f32⟩
  | 27 => ⟨S6x128x128, .f32⟩
  | 28 => ⟨S6x8x128, .f32⟩
  | 29 => ⟨S1x768, .f32⟩
  | 30 => ⟨S1x768, .f32⟩
  | 31 => ⟨S8x768, .f32⟩
  | 32 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x4352, .f32⟩
  | .local _ .vmem, ⟨5, _⟩ => ⟨S256x4352, .f32⟩
  | .local _ .vmem, ⟨6, _⟩ => ⟨S256x768, .f32⟩
  | .local _ .vmem, ⟨7, _⟩ => ⟨S256x768, .f32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S8x768, .f32⟩
  | .local _ .vmem, ⟨12, _⟩ => ⟨S8x768, .f32⟩
  | .local _ .vmem, ⟨13, _⟩ => ⟨S8x768, .f32⟩
  | .local _ .vmem, ⟨14, _⟩ => ⟨S256x1024, .f32⟩
  | .local _ .vmem, ⟨15, _⟩ => ⟨S6x128x128, .f32⟩
  | .local _ .vmem, ⟨16, _⟩ => ⟨S128x6, .f32⟩
  | .local _ .vmem, ⟨17, _⟩ => ⟨S1x768, .f32⟩
  | .local _ .vmem, ⟨18, _⟩ => ⟨S1x768, .f32⟩
  | .local _ .vmem, ⟨19, _⟩ => ⟨S3x768, .f32⟩
  | .local _ .vmem, ⟨20, _⟩ => ⟨S1x2048, .f32⟩
  | .local _ .vmem, ⟨21, _⟩ => ⟨S256x4352, .bf16⟩
  | .local _ .vmem, ⟨22, _⟩ => ⟨S256x4352, .bf16⟩
  | .local _ .vmem, ⟨23, _⟩ => ⟨S256x1024, .f32⟩
  | .local _ .vmem, ⟨24, _⟩ => ⟨S6x128x128, .f32⟩
  | .local _ .vmem, ⟨25, _⟩ => ⟨S6x8x128, .f32⟩
  | .local _ .vmem, ⟨26, _⟩ => ⟨S1x768, .f32⟩
  | .local _ .vmem, ⟨27, _⟩ => ⟨S1x768, .f32⟩
  | .local _ .vmem, ⟨28, _⟩ => ⟨S8x768, .f32⟩
  | .local _ .vmem, ⟨29, _⟩ => ⟨S1x2048, .f32⟩
  | .local _ .vmem, ⟨30, _⟩ => ⟨S264x768, .f32⟩
  | .local _ .vmem, ⟨31, _⟩ => ⟨S256x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c : Ref sig .tc := ⟨.hbm, 79, rfl⟩
abbrev main_v55 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_call1_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_cst_18 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_20 : Ref sig .tc := ⟨.hbm, 151, rfl⟩
abbrev main_v111 : Ref sig .tc := ⟨.hbm, 152, rfl⟩
abbrev main_v112_0 : Ref sig .tc := ⟨.hbm, 153, rfl⟩
abbrev main_v112_1 : Ref sig .tc := ⟨.hbm, 154, rfl⟩
abbrev main_v112_2 : Ref sig .tc := ⟨.hbm, 155, rfl⟩
abbrev main_v112_3 : Ref sig .tc := ⟨.hbm, 156, rfl⟩
abbrev main_v112_4 : Ref sig .tc := ⟨.hbm, 157, rfl⟩
abbrev main_v112_5 : Ref sig .tc := ⟨.hbm, 158, rfl⟩
abbrev main_v112_6 : Ref sig .tc := ⟨.hbm, 159, rfl⟩
abbrev main_v112_7 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x4352 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S2048x2048 : Shape := ⟨2, ![2048, 2048]⟩
abbrev S2048x4352 : Shape := ⟨2, ![2048, 4352]⟩
abbrev S256x1024 : Shape := ⟨2, ![256, 1024]⟩
abbrev S6x128x128 : Shape := ⟨3, ![6, 128, 128]⟩
abbrev S6x128 : Shape := ⟨2, ![6, 128]⟩
abbrev S1x768 : Shape := ⟨2, ![1, 768]⟩
abbrev S3x768 : Shape := ⟨2, ![3, 768]⟩
abbrev S1x2048 : Shape := ⟨2, ![1, 2048]⟩
abbrev S2048x768 : Shape := ⟨2, ![2048, 768]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S16x128x6x128 : Shape := ⟨4, ![16, 128, 6, 128]⟩
abbrev S128x128 : Shape := ⟨2, ![128, 128]⟩
abbrev S1x128x128 : Shape := ⟨3, ![1, 128, 128]⟩
abbrev S6x16x128x128 : Shape := ⟨4, ![6, 16, 128, 128]⟩
abbrev S128x6 : Shape := ⟨2, ![128, 6]⟩
abbrev S128x6x1 : Shape := ⟨3, ![128, 6, 1]⟩
abbrev S1x128x6x1 : Shape := ⟨4, ![1, 128, 6, 1]⟩
abbrev S2x768 : Shape := ⟨2, ![2, 768]⟩
abbrev S2050x768 : Shape := ⟨2, ![2050, 768]⟩
abbrev S256x512 : Shape := ⟨2, ![256, 512]⟩
abbrev S2048x4x128 : Shape := ⟨3, ![2048, 4, 128]⟩
abbrev S256x4x128 : Shape := ⟨3, ![256, 4, 128]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S2048x16x128 : Shape := ⟨3, ![2048, 16, 128]⟩
abbrev S2048x16 : Shape := ⟨2, ![2048, 16]⟩
abbrev S2048x16x1 : Shape := ⟨3, ![2048, 16, 1]⟩
abbrev S4x128x256 : Shape := ⟨3, ![4, 128, 256]⟩
abbrev S4x256x128 : Shape := ⟨3, ![4, 256, 128]⟩
abbrev S4x2048x128 : Shape := ⟨3, ![4, 2048, 128]⟩
abbrev S768 : Shape := ⟨1, ![768]⟩
abbrev S6x1x128 : Shape := ⟨3, ![6, 1, 128]⟩
abbrev S6x8x128 : Shape := ⟨3, ![6, 8, 128]⟩
abbrev S5x768 : Shape := ⟨2, ![5, 768]⟩
abbrev S8x768 : Shape := ⟨2, ![8, 768]⟩

abbrev nBuf : Space → Nat
  | .hbm => 415
  | .vmem => 0
  | .smem => 0
  | _ => 0

abbrev hbmTy0_0 (i : Nat) : BufTy := match i % 128 with
  | 0 => ⟨S2048x2048, .f32⟩
  | 1 => ⟨S2048x4352, .f32⟩
  | 2 => ⟨S256x1024, .f32⟩
  | 3 => ⟨S6x128x128, .f32⟩
  | 4 => ⟨S6x128, .f32⟩
  | 5 => ⟨S1x768, .f32⟩
  | 6 => ⟨S1x768, .f32⟩
  | 7 => ⟨S3x768, .f32⟩
  | 8 => ⟨S1x2048, .f32⟩
  | 9 => ⟨S2048x768, .f32⟩
  | 10 => ⟨S2048x768, .f32⟩
  | 11 => ⟨S2048x768, .f32⟩
  | 12 => ⟨S2048x768, .f32⟩
  | 13 => ⟨S2048x768, .f32⟩
  | 14 => ⟨S2048x512, .f32⟩
  | 15 => ⟨S_, .f32⟩
  | 16 => ⟨S_, .f32⟩
  | 17 => ⟨S_, .f32⟩
  | 18 => ⟨S2048x768, .f32⟩
  | 19 => ⟨S2048x768, .f32⟩
  | 20 => ⟨S2048x768, .f32⟩
  | 21 => ⟨S_, .f32⟩
  | 22 => ⟨S2048x768, .f32⟩
  | 23 => ⟨S2048x768, .f32⟩
  | 24 => ⟨S2048x768, .f32⟩
  | 25 => ⟨S2048x768, .f32⟩
  | 26 => ⟨S2048x768, .f32⟩
  | 27 => ⟨S_, .f32⟩
  | 28 => ⟨S2048x768, .f32⟩
  | 29 => ⟨S2048x768, .f32⟩
  | 30 => ⟨S2048x768, .f32⟩
  | 31 => ⟨S_, .f32⟩
  | 32 => ⟨S2048x768, .f32⟩
  | 33 => ⟨S2048x768, .f32⟩
  | 34 => ⟨S_, .f32⟩
  | 35 => ⟨S2048x768, .f32⟩
  | 36 => ⟨S2048x768, .f32⟩
  | 37 => ⟨S2048x768, .f32⟩
  | 38 => ⟨S_, .f32⟩
  | 39 => ⟨S2048x768, .f32⟩
  | 40 => ⟨S2048x768, .f32⟩
  | 41 => ⟨S_, .f32⟩
  | 42 => ⟨S2048x768, .f32⟩
  | 43 => ⟨S2048x768, .f32⟩
  | 44 => ⟨S2048x768, .f32⟩
  | 45 => ⟨S_, .f32⟩
  | 46 => ⟨S_, .f32⟩
  | 47 => ⟨S_, .f32⟩
  | 48 => ⟨S2048x768, .f32⟩
  | 49 => ⟨S2048x768, .f32⟩
  | 50 => ⟨S2048x768, .f32⟩
  | 51 => ⟨S_, .f32⟩
  | 52 => ⟨S2048x768, .f32⟩
  | 53 => ⟨S2048x768, .f32⟩
  | 54 => ⟨S2048x768, .f32⟩
  | 55 => ⟨S2048x768, .f32⟩
  | 56 => ⟨S2048x768, .f32⟩
  | 57 => ⟨S_, .f32⟩
  | 58 => ⟨S2048x768, .f32⟩
  | 59 => ⟨S2048x768, .f32⟩
  | 60 => ⟨S2048x768, .f32⟩
  | 61 => ⟨S_, .f32⟩
  | 62 => ⟨S2048x768, .f32⟩
  | 63 => ⟨S2048x768, .f32⟩
  | 64 => ⟨S_, .f32⟩
  | 65 => ⟨S2048x768, .f32⟩
  | 66 => ⟨S2048x768, .f32⟩
  | 67 => ⟨S2048x768, .f32⟩
  | 68 => ⟨S_, .f32⟩
  | 69 => ⟨S2048x768, .f32⟩
  | 70 => ⟨S2048x768, .f32⟩
  | 71 => ⟨S_, .f32⟩
  | 72 => ⟨S2048x768, .f32⟩
  | 73 => ⟨S2048x768, .f32⟩
  | 74 => ⟨S2048x768, .f32⟩
  | 75 => ⟨S_, .f32⟩
  | 76 => ⟨S2048, .f32⟩
  | 77 => ⟨S2048x1, .f32⟩
  | 78 => ⟨S_, .f32⟩
  | 79 => ⟨S2048x1, .f32⟩
  | 80 => ⟨S2048x1, .f32⟩
  | 81 => ⟨S2048x768, .f32⟩
  | 82 => ⟨S2048x768, .f32⟩
  | 83 => ⟨S2048x768, .f32⟩
  | 84 => ⟨S_, .f32⟩
  | 85 => ⟨S2048, .f32⟩
  | 86 => ⟨S2048x1, .f32⟩
  | 87 => ⟨S_, .f32⟩
  | 88 => ⟨S2048x1, .f32⟩
  | 89 => ⟨S2048x1, .f32⟩
  | 90 => ⟨S_, .f32⟩
  | 91 => ⟨S2048x1, .f32⟩
  | 92 => ⟨S2048x1, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S2048x768, .f32⟩
  | 99 => ⟨S2048x768, .f32⟩
  | 100 => ⟨S2048x768, .f32⟩
  | 101 => ⟨S2048x768, .f32⟩
  | 102 => ⟨S2048x768, .f32⟩
  | 103 => ⟨S2048x768, .f32⟩
  | 104 => ⟨S16x128x6x128, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S6x128x128, .f32⟩
  | 119 => ⟨S6x128x128, .i1⟩
  | 120 => ⟨S6x128x128, .f32⟩
  | 121 => ⟨S_, .f32⟩
  | 122 => ⟨S6x128x128, .f32⟩
  | 123 => ⟨S6x16x128x128, .f32⟩
  | 124 => ⟨S16x128x6x128, .f32⟩
  | 125 => ⟨S128x6, .f32⟩
  | 126 => ⟨S128x6x1, .f32⟩
  | 127 => ⟨S1x128x6x1, .f32⟩
  | _ => ⟨S2048x2048, .f32⟩

abbrev hbmTy0_1 (i : Nat) : BufTy := match i % 128 with
  | 0 => ⟨S16x128x6x128, .f32⟩
  | 1 => ⟨S16x128x6x128, .f32⟩
  | 2 => ⟨S2048x768, .f32⟩
  | 3 => ⟨S2048x768, .f32⟩
  | 4 => ⟨S2048x768, .f32⟩
  | 5 => ⟨S_, .f32⟩
  | 6 => ⟨S2x768, .f32⟩
  | 7 => ⟨S2050x768, .f32⟩
  | 8 => ⟨S_, .f32⟩
  | 9 => ⟨S2x768, .f32⟩
  | 10 => ⟨S1x768, .f32⟩
  | 11 => ⟨S2048x768, .f32⟩
  | 12 => ⟨S2048x768, .f32⟩
  | 13 => ⟨S2048x768, .f32⟩
  | 14 => ⟨S1x768, .f32⟩
  | 15 => ⟨S2048x768, .f32⟩
  | 16 => ⟨S2048x768, .f32⟩
  | 17 => ⟨S2048x768, .f32⟩
  | 18 => ⟨S2048x768, .f32⟩
  | 19 => ⟨S1x768, .f32⟩
  | 20 => ⟨S2048x768, .f32⟩
  | 21 => ⟨S2048x768, .f32⟩
  | 22 => ⟨S2048x768, .f32⟩
  | 23 => ⟨S2048x768, .f32⟩
  | 24 => ⟨S2048x768, .f32⟩
  | 25 => ⟨S256x512, .f32⟩
  | 26 => ⟨S256x512, .f32⟩
  | 27 => ⟨S2048x4x128, .f32⟩
  | 28 => ⟨S_, .f32⟩
  | 29 => ⟨S2048x4x128, .f32⟩
  | 30 => ⟨S2048x4x128, .f32⟩
  | 31 => ⟨S256x4x128, .f32⟩
  | 32 => ⟨S256x4x128, .f32⟩
  | 33 => ⟨S4x2048x256, .f32⟩
  | 34 => ⟨S_, .f32⟩
  | 35 => ⟨S4x2048, .f32⟩
  | 36 => ⟨S4x2048x1, .f32⟩
  | 37 => ⟨S4x2048x256, .f32⟩
  | 38 => ⟨S4x2048x256, .i1⟩
  | 39 => ⟨S4x2048x256, .f32⟩
  | 40 => ⟨S_, .f32⟩
  | 41 => ⟨S4x2048, .f32⟩
  | 42 => ⟨S_, .f32⟩
  | 43 => ⟨S4x2048, .f32⟩
  | 44 => ⟨S4x2048, .f32⟩
  | 45 => ⟨S_, .f32⟩
  | 46 => ⟨S4x2048, .f32⟩
  | 47 => ⟨S4x2048, .i1⟩
  | 48 => ⟨S_, .f32⟩
  | 49 => ⟨S4x2048, .f32⟩
  | 50 => ⟨S4x2048, .i1⟩
  | 51 => ⟨S_, .f32⟩
  | 52 => ⟨S4x2048, .f32⟩
  | 53 => ⟨S_, .f32⟩
  | 54 => ⟨S4x2048, .f32⟩
  | 55 => ⟨S_, .f32⟩
  | 56 => ⟨S4x2048, .f32⟩
  | 57 => ⟨S4x2048, .f32⟩
  | 58 => ⟨S4x2048, .f32⟩
  | 59 => ⟨S4x2048x1, .f32⟩
  | 60 => ⟨S4x2048x256, .f32⟩
  | 61 => ⟨S4x2048x256, .f32⟩
  | 62 => ⟨S4x2048x256, .f32⟩
  | 63 => ⟨S_, .f32⟩
  | 64 => ⟨S4x2048, .f32⟩
  | 65 => ⟨S4x2048x1, .f32⟩
  | 66 => ⟨S4x2048x256, .f32⟩
  | 67 => ⟨S4x2048x256, .f32⟩
  | 68 => ⟨S4x2048x1, .f32⟩
  | 69 => ⟨S_, .f32⟩
  | 70 => ⟨S4x2048x1, .f32⟩
  | 71 => ⟨S4x2048x1, .f32⟩
  | 72 => ⟨S4x128x2048, .f32⟩
  | 73 => ⟨S2048x4x128, .f32⟩
  | 74 => ⟨S2048x512, .f32⟩
  | 75 => ⟨S2048x2048, .f32⟩
  | 76 => ⟨S2048x16x128, .f32⟩
  | 77 => ⟨S2048x16x128, .f32⟩
  | 78 => ⟨S_, .f32⟩
  | 79 => ⟨S2048x16, .f32⟩
  | 80 => ⟨S2048x16x1, .f32⟩
  | 81 => ⟨S_, .f32⟩
  | 82 => ⟨S2048x16x1, .f32⟩
  | 83 => ⟨S2048x16x1, .f32⟩
  | 84 => ⟨S_, .f32⟩
  | 85 => ⟨S2048x16x1, .f32⟩
  | 86 => ⟨S2048x16x1, .f32⟩
  | 87 => ⟨S2048x16x1, .f32⟩
  | 88 => ⟨S2048x16x1, .f32⟩
  | 89 => ⟨S_, .f32⟩
  | 90 => ⟨S2048x16x1, .f32⟩
  | 91 => ⟨S2048x16x1, .f32⟩
  | 92 => ⟨S2048x16x128, .f32⟩
  | 93 => ⟨S2048x16x128, .f32⟩
  | 94 => ⟨S2048x2048, .f32⟩
  | 95 => ⟨S2048x2048, .f32⟩
  | 96 => ⟨S2048x2048, .f32⟩
  | 97 => ⟨S2048x2048, .f32⟩
  | 98 => ⟨S_, .f32⟩
  | 99 => ⟨S2048, .f32⟩
  | 100 => ⟨S1x2048, .f32⟩
  | 101 => ⟨S2048x2048, .f32⟩
  | 102 => ⟨S2048x2048, .f32⟩
  | 103 => ⟨S2048x16x128, .f32⟩
  | 104 => ⟨S2048x16x128, .f32⟩
  | 105 => ⟨S_, .f32⟩
  | 106 => ⟨S2048x16, .f32⟩
  | 107 => ⟨S2048x16x1, .f32⟩
  | 108 => ⟨S2048x16x128, .f32⟩
  | 109 => ⟨S2048x16x128, .f32⟩
  | 110 => ⟨S2048x16x1, .f32⟩
  | 111 => ⟨S_, .f32⟩
  | 112 => ⟨S2048x16x1, .f32⟩
  | 113 => ⟨S2048x16x1, .f32⟩
  | 114 => ⟨S_, .f32⟩
  | 115 => ⟨S2048x16, .f32⟩
  | 116 => ⟨S2048x16x128, .f32⟩
  | 117 => ⟨S2048x16x128, .f32⟩
  | 118 => ⟨S2048x16x128, .f32⟩
  | 119 => ⟨S2048x16x128, .f32⟩
  | 120 => ⟨S2048x16x128, .f32⟩
  | 121 => ⟨S2048x2048, .f32⟩
  | 122 => ⟨S2048x768, .f32⟩
  | 123 => ⟨S2048x768, .f32⟩
  | 124 => ⟨S2048x512, .f32⟩
  | 125 => ⟨S2048x4x128, .f32⟩
  | 126 => ⟨S4x128x2048, .f32⟩
  | 127 => ⟨S4x2048x256, .f32⟩
  | _ => ⟨S2048x2048, .f32⟩

abbrev hbmTy0_2 (i : Nat) : BufTy := match i % 128 with
  | 0 => ⟨S4x128x256, .f32⟩
  | 1 => ⟨S256x4x128, .f32⟩
  | 2 => ⟨S4x2048x256, .f32⟩
  | 3 => ⟨S4x2048x256, .f32⟩
  | 4 => ⟨S4x2048x256, .f32⟩
  | 5 => ⟨S_, .f32⟩
  | 6 => ⟨S4x2048, .f32⟩
  | 7 => ⟨S4x2048x1, .f32⟩
  | 8 => ⟨S4x2048x1, .f32⟩
  | 9 => ⟨S4x2048x256, .f32⟩
  | 10 => ⟨S4x2048x256, .f32⟩
  | 11 => ⟨S_, .f32⟩
  | 12 => ⟨S4x2048, .f32⟩
  | 13 => ⟨S4x2048x256, .f32⟩
  | 14 => ⟨S4x2048x256, .f32⟩
  | 15 => ⟨S4x2048x256, .f32⟩
  | 16 => ⟨S4x256x128, .f32⟩
  | 17 => ⟨S256x4x128, .f32⟩
  | 18 => ⟨S4x2048x128, .f32⟩
  | 19 => ⟨S2048x4x128, .f32⟩
  | 20 => ⟨S256x512, .f32⟩
  | 21 => ⟨S256x512, .f32⟩
  | 22 => ⟨S_, .f32⟩
  | 23 => ⟨S2048x4x128, .f32⟩
  | 24 => ⟨S2048x4x128, .f32⟩
  | 25 => ⟨S2048x512, .f32⟩
  | 26 => ⟨S256x1024, .f32⟩
  | 27 => ⟨S2048x768, .f32⟩
  | 28 => ⟨S2048x768, .f32⟩
  | 29 => ⟨S2048x768, .f32⟩
  | 30 => ⟨S2048x768, .f32⟩
  | 31 => ⟨S2048x768, .f32⟩
  | 32 => ⟨S_, .f32⟩
  | 33 => ⟨S768, .f32⟩
  | 34 => ⟨S1x768, .f32⟩
  | 35 => ⟨S_, .f32⟩
  | 36 => ⟨S2050x768, .f32⟩
  | 37 => ⟨S_, .f32⟩
  | 38 => ⟨S3x768, .f32⟩
  | 39 => ⟨S2048x768, .f32⟩
  | 40 => ⟨S2048x768, .f32⟩
  | 41 => ⟨S2048x768, .f32⟩
  | 42 => ⟨S_, .f32⟩
  | 43 => ⟨S768, .f32⟩
  | 44 => ⟨S1x768, .f32⟩
  | 45 => ⟨S_, .f32⟩
  | 46 => ⟨S2050x768, .f32⟩
  | 47 => ⟨S2050x768, .f32⟩
  | 48 => ⟨S_, .f32⟩
  | 49 => ⟨S3x768, .f32⟩
  | 50 => ⟨S3x768, .f32⟩
  | 51 => ⟨S2048x768, .f32⟩
  | 52 => ⟨S2048x768, .f32⟩
  | 53 => ⟨S2048x768, .f32⟩
  | 54 => ⟨S_, .f32⟩
  | 55 => ⟨S768, .f32⟩
  | 56 => ⟨S1x768, .f32⟩
  | 57 => ⟨S_, .f32⟩
  | 58 => ⟨S2050x768, .f32⟩
  | 59 => ⟨S2050x768, .f32⟩
  | 60 => ⟨S_, .f32⟩
  | 61 => ⟨S3x768, .f32⟩
  | 62 => ⟨S3x768, .f32⟩
  | 63 => ⟨S2x768, .f32⟩
  | 64 => ⟨S2048x768, .f32⟩
  | 65 => ⟨S2048x768, .f32⟩
  | 66 => ⟨S2048x768, .f32⟩
  | 67 => ⟨S2048x768, .f32⟩
  | 68 => ⟨S2048x768, .f32⟩
  | 69 => ⟨S16x128x6x128, .f32⟩
  | 70 => ⟨S_, .f32⟩
  | 71 => ⟨S128x6, .f32⟩
  | 72 => ⟨S1x128x6x1, .f32⟩
  | 73 => ⟨S_, .f32⟩
  | 74 => ⟨S128x6, .f32⟩
  | 75 => ⟨S128x6x1, .f32⟩
  | 76 => ⟨S_, .f32⟩
  | 77 => ⟨S128x6, .f32⟩
  | 78 => ⟨S6x128, .f32⟩
  | 79 => ⟨S6x16x128x128, .f32⟩
  | 80 => ⟨S6x128x128, .f32⟩
  | 81 => ⟨S6x16x128x128, .f32⟩
  | 82 => ⟨S16x128x6x128, .f32⟩
  | 83 => ⟨S_, .f32⟩
  | 84 => ⟨S6x128x128, .f32⟩
  | 85 => ⟨S6x128x128, .f32⟩
  | 86 => ⟨S2048x768, .f32⟩
  | 87 => ⟨S_, .f32⟩
  | 88 => ⟨S768, .f32⟩
  | 89 => ⟨S1x768, .f32⟩
  | 90 => ⟨S2048x768, .f32⟩
  | 91 => ⟨S_, .f32⟩
  | 92 => ⟨S768, .f32⟩
  | 93 => ⟨S1x768, .f32⟩
  | 94 => ⟨S2048x768, .f32⟩
  | 95 => ⟨S2048x768, .f32⟩
  | 96 => ⟨S2048x768, .f32⟩
  | 97 => ⟨S_, .f32⟩
  | 98 => ⟨S2048, .f32⟩
  | 99 => ⟨S2048x1, .f32⟩
  | 100 => ⟨S2048x768, .f32⟩
  | 101 => ⟨S2048x768, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S2048, .f32⟩
  | 108 => ⟨S2048x768, .f32⟩
  | 109 => ⟨S2048x768, .f32⟩
  | 110 => ⟨S2048x768, .f32⟩
  | 111 => ⟨S2048x768, .f32⟩
  | 112 => ⟨S2048x768, .f32⟩
  | 113 => ⟨S2048x768, .f32⟩
  | 114 => ⟨S_, .f32⟩
  | 115 => ⟨S2048, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048, .f32⟩
  | 122 => ⟨S2048x768, .f32⟩
  | 123 => ⟨S2048x768, .f32⟩
  | 124 => ⟨S2048x768, .f32⟩
  | 125 => ⟨S2048x768, .f32⟩
  | 126 => ⟨S_, .f32⟩
  | 127 => ⟨S2048x768, .f32⟩
  | _ => ⟨S2048x2048, .f32⟩

abbrev hbmTy0_3 (i : Nat) : BufTy := match i % 128 with
  | 0 => ⟨S2048x768, .f32⟩
  | 1 => ⟨S2048x768, .f32⟩
  | 2 => ⟨S_, .f32⟩
  | 3 => ⟨S2048x768, .f32⟩
  | 4 => ⟨S2048x768, .f32⟩
  | 5 => ⟨S2048x768, .f32⟩
  | 6 => ⟨S2048x768, .f32⟩
  | 7 => ⟨S2048x768, .f32⟩
  | 8 => ⟨S2048x768, .f32⟩
  | 9 => ⟨S2048x768, .f32⟩
  | 10 => ⟨S2048x768, .f32⟩
  | 11 => ⟨S2048x768, .f32⟩
  | 12 => ⟨S_, .f32⟩
  | 13 => ⟨S2048x768, .f32⟩
  | 14 => ⟨S2048x768, .f32⟩
  | 15 => ⟨S2048x768, .f32⟩
  | 16 => ⟨S_, .f32⟩
  | 17 => ⟨S2048x768, .f32⟩
  | 18 => ⟨S2048x768, .f32⟩
  | 19 => ⟨S2048x768, .f32⟩
  | 20 => ⟨S2048x768, .f32⟩
  | 21 => ⟨S2048x768, .f32⟩
  | 22 => ⟨S2048x768, .f32⟩
  | 23 => ⟨S2048x768, .f32⟩
  | 24 => ⟨S2048x4352, .f32⟩
  | 25 => ⟨S6x1x128, .f32⟩
  | 26 => ⟨S6x8x128, .f32⟩
  | 27 => ⟨S_, .f32⟩
  | 28 => ⟨S5x768, .f32⟩
  | 29 => ⟨S8x768, .f32⟩
  | 30 => ⟨S2048x4352, .bf16⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_cst_18 : Ref sig .tc := ⟨.hbm, 87, rfl⟩
abbrev main_v59 : Ref sig .tc := ⟨.hbm, 88, rfl⟩
abbrev main_v60 : Ref sig .tc := ⟨.hbm, 89, rfl⟩
abbrev main_cst_19 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_20 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c : Ref sig .tc := ⟨.hbm, 105, rfl⟩
abbrev main_v74 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_v78_1 : Ref sig .tc := ⟨.hbm, 119, rfl⟩
abbrev main_v78_0 : Ref sig .tc := ⟨.hbm, 120, rfl⟩
abbrev main_call1_cst : Ref sig .tc := ⟨.hbm, 121, rfl⟩
abbrev main_v78_2 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_22 : Ref sig .tc := ⟨.hbm, 133, rfl⟩
abbrev main_v89 : Ref sig .tc := ⟨.hbm, 134, rfl⟩
abbrev main_v90 : Ref sig .tc := ⟨.hbm, 135, rfl⟩
abbrev main_cst_23 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_24 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_26 : Ref sig .tc := ⟨.hbm, 168, rfl⟩
abbrev main_v120 : Ref sig .tc := ⟨.hbm, 169, rfl⟩
abbrev main_cst_27 : Ref sig .tc := ⟨.hbm, 170, rfl⟩
abbrev main_v121 : Ref sig .tc := ⟨.hbm, 171, rfl⟩
abbrev main_v122 : Ref sig .tc := ⟨.hbm, 172, rfl⟩
abbrev main_cst_28 : Ref sig .tc := ⟨.hbm, 173, rfl⟩
abbrev main_v123 : Ref sig .tc := ⟨.hbm, 174, rfl⟩
abbrev main_v124 : Ref sig .tc := ⟨.hbm, 175, rfl⟩
abbrev main_cst_29 : Ref sig .tc := ⟨.hbm, 176, rfl⟩
abbrev main_v125 : Ref sig .tc := ⟨.hbm, 177, rfl⟩
abbrev main_v126 : Ref sig .tc := ⟨.hbm, 178, rfl⟩
abbrev main_cst_30 : Ref sig .tc := ⟨.hbm, 179, rfl⟩
abbrev main_v127 : Ref sig .tc := ⟨.hbm, 180, rfl⟩
abbrev main_cst_31 : Ref sig .tc := ⟨.hbm, 181, rfl⟩
abbrev main_v128 : Ref sig .tc := ⟨.hbm, 182, rfl⟩
abbrev main_cst_32 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_33 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_34 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_35 : Ref sig .tc := ⟨.hbm, 206, rfl⟩
abbrev main_v149 : Ref sig .tc := ⟨.hbm, 207, rfl⟩
abbrev main_v150 : Ref sig .tc := ⟨.hbm, 208, rfl⟩
abbrev main_cst_36 : Ref sig .tc := ⟨.hbm, 209, rfl⟩
abbrev main_v151 : Ref sig .tc := ⟨.hbm, 210, rfl⟩
abbrev main_v152 : Ref sig .tc := ⟨.hbm, 211, rfl⟩
abbrev main_cst_37 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_38 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_39 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_40 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_41 : Ref sig .tc := ⟨.hbm, 239, rfl⟩
abbrev main_v176 : Ref sig .tc := ⟨.hbm, 240, rfl⟩
abbrev main_v177 : Ref sig .tc := ⟨.hbm, 241, rfl⟩
abbrev main_cst_42 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_43 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_44 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_cst_45 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_cst_46 : Ref sig .tc := ⟨.hbm, 288, rfl⟩
abbrev main_v220 : Ref sig .tc := ⟨.hbm, 289, rfl⟩
abbrev main_v221 : Ref sig .tc := ⟨.hbm, 290, rfl⟩
abbrev main_cst_47 : Ref sig .tc := ⟨.hbm, 291, rfl⟩
abbrev main_v222 : Ref sig .tc := ⟨.hbm, 292, rfl⟩
abbrev main_cst_48 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_cst_49 : Ref sig .tc := ⟨.hbm, 298, rfl⟩
abbrev main_v227 : Ref sig .tc := ⟨.hbm, 299, rfl⟩
abbrev main_v228 : Ref sig .tc := ⟨.hbm, 300, rfl⟩
abbrev main_cst_50 : Ref sig .tc := ⟨.hbm, 301, rfl⟩
abbrev main_v229 : Ref sig .tc := ⟨.hbm, 302, rfl⟩
abbrev main_v230 : Ref sig .tc := ⟨.hbm, 303, rfl⟩
abbrev main_cst_51 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_cst_52 : Ref sig .tc := ⟨.hbm, 310, rfl⟩
abbrev main_v236 : Ref sig .tc := ⟨.hbm, 311, rfl⟩
abbrev main_v237 : Ref sig .tc := ⟨.hbm, 312, rfl⟩
abbrev main_cst_53 : Ref sig .tc := ⟨.hbm, 313, rfl⟩
abbrev main_v238 : Ref sig .tc := ⟨.hbm, 314, rfl⟩
abbrev main_v239 : Ref sig .tc := ⟨.hbm, 315, rfl⟩
abbrev main_cst_54 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_cst_55 : Ref sig .tc := ⟨.hbm, 326, rfl⟩
abbrev main_v249 : Ref sig .tc := ⟨.hbm, 327, rfl⟩
abbrev main_v250 : Ref sig .tc := ⟨.hbm, 328, rfl⟩
abbrev main_cst_56 : Ref sig .tc := ⟨.hbm, 329, rfl⟩
abbrev main_v251 : Ref sig .tc := ⟨.hbm, 330, rfl⟩
abbrev main_v252 : Ref sig .tc := ⟨.hbm, 331, rfl⟩
abbrev main_cst_57 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_call2_cst : Ref sig .tc := ⟨.hbm, 339, rfl⟩
abbrev main_call2_v0 : Ref sig .tc := ⟨.hbm, 340, rfl⟩
abbrev main_v259 : Ref sig .tc := ⟨.hbm, 341, rfl⟩
abbrev main_v260 : Ref sig .tc := ⟨.hbm, 342, rfl⟩
abbrev main_cst_58 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_cst_59 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_cst_60 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_cst_61 : Ref sig .tc := ⟨.hbm, 359, rfl⟩
abbrev main_v274 : Ref sig .tc := ⟨.hbm, 360, rfl⟩
abbrev main_v275 : Ref sig .tc := ⟨.hbm, 361, rfl⟩
abbrev main_cst_62 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_cst_63 : Ref sig .tc := ⟨.hbm, 370, rfl⟩
abbrev main_v283 : Ref sig .tc := ⟨.hbm, 371, rfl⟩
abbrev main_v284 : Ref sig .tc := ⟨.hbm, 372, rfl⟩
abbrev main_cst_64 : Ref sig .tc := ⟨.hbm, 373, rfl⟩
abbrev main_v285 : Ref sig .tc := ⟨.hbm, 374, rfl⟩
abbrev main_v286 : Ref sig .tc := ⟨.hbm, 375, rfl⟩
abbrev main_cst_65 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_cst_66 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_cst_67 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_cst_68 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_cst_69 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_cst_70 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩

abbrev nD : Nat := 1
abbrev τ : Topo := Topo.v7x

variable {F : FTy → Type} [FloatOps F]
-- ==== Kernel2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S8x128 : Shape := ⟨2, ![8, 128]⟩
abbrev S512x2048 : Shape := ⟨2, ![512, 2048]⟩
abbrev S512x512 : Shape := ⟨2, ![512, 512]⟩

abbrev nBuf : Space → Nat
  | .hbm => 15
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S2048x2048, .bf16⟩
  | .hbm, ⟨11, _⟩ => ⟨S8192x2048, .bf16⟩
  | .hbm, ⟨12, _⟩ => ⟨S_, .f32⟩
  | .hbm, ⟨13, _⟩ => ⟨S8x128, .f32⟩
  | .hbm, ⟨14, _⟩ => ⟨S2048x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S_ : Shape := ⟨0, ![]⟩
abbrev S8x128 : Shape := ⟨2, ![8, 128]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩
abbrev S1x512x2048 : Shape := ⟨3, ![1, 512, 2048]⟩
abbrev S512x2048 : Shape := ⟨2, ![512, 2048]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S_, .f32⟩
  | .hbm, ⟨7, _⟩ => ⟨S8x128, .f32⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x2048 : Shape := ⟨2, ![2048, 2048]⟩
abbrev S2048x4352 : Shape := ⟨2, ![2048, 4352]⟩
abbrev S4352x2048 : Shape := ⟨2, ![4352, 2048]⟩
abbrev S2048x2176 : Shape := ⟨2, ![2048, 2176]⟩
abbrev S2048x1024 : Shape := ⟨2, ![2048, 1024]⟩
abbrev S2176x1024 : Shape := ⟨2, ![2176, 1024]⟩
abbrev S2048x512 : Shape := ⟨2, ![2048, 512]⟩
abbrev S2176x512 : Shape := ⟨2, ![2176, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4352, .f32⟩
  | .hbm, ⟨2, _⟩ => ⟨S2048x2048, .bf16⟩
  | .hbm, ⟨3, _⟩ => ⟨S2048x4352, .bf16⟩
  | .hbm, ⟨4, _⟩ => ⟨S4352x2048, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S2176x1024, .bf16⟩
  | .local _ .vmem, ⟨5, _⟩ => ⟨S2176x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x4352 : Shape := ⟨2, ![2048, 4352]⟩
abbrev S_ : Shape := ⟨0, ![]⟩
abbrev S4352x2048 : Shape := ⟨2, ![4352, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4352, .f32⟩
  | .hbm, ⟨2, _⟩ => ⟨S_, .f32⟩
  | .hbm, ⟨3, _⟩ => ⟨S2048x4352, .f32⟩
  | .hbm, ⟨4, _⟩ => ⟨S2048x4352, .f32⟩
  | .hbm, ⟨5, _⟩ => ⟨S4352x2048, .f32⟩
  | .hbm, ⟨6, _⟩ => ⟨S2048x4352, .f32⟩
  | .hbm, ⟨7, _⟩ => ⟨S4352x2048, .f32⟩
  | .hbm, ⟨8, _⟩ => ⟨S4352x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x4352 : Shape := ⟨2, ![2048, 4352]⟩
abbrev S4352x2048 : Shape := ⟨2, ![4352, 2048]⟩
abbrev S_ : Shape := ⟨0, ![]⟩
abbrev S8x128 : Shape := ⟨2, ![8, 128]⟩
abbrev S2048x2048 : Shape := ⟨2, ![2048, 2048]⟩
abbrev S512x4352 : Shape := ⟨2, ![512, 4352]⟩
abbrev S4352x1024 : Shape := ⟨2, ![4352, 1024]⟩
abbrev S512x1024 : Shape := ⟨2, ![512, 1024]⟩
abbrev S4352x512 : Shape := ⟨2, ![4352, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S2048x4352, .f32⟩
  | .hbm, ⟨1, _⟩ => ⟨S2048x4352, .f32⟩
  | .hbm, ⟨2, _⟩ => ⟨S2048x4352, .bf16⟩
  | .hbm, ⟨3, _⟩ => ⟨S4352x2048, .f32⟩
  | .hbm, ⟨4, _⟩ => ⟨S4352x2048, .bf16⟩
  | .hbm, ⟨5, _⟩ => ⟨S_, .f32⟩
  | .hbm, ⟨6, _⟩ => ⟨S8x128, .f32⟩
  | .hbm, ⟨7, _⟩ => ⟨S2048x2048, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .f32⟩
  | .local _ .vmem, ⟨5, _⟩ => ⟨S512x1024, .f32⟩
  | _, _ => ⟨S2048x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4352 : Shape := ⟨2, ![2048, 4352]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4352, .f32⟩
  | .hbm, ⟨1, _⟩ => ⟨S2048x4352, .f32⟩
  | .hbm, ⟨2, _⟩ => ⟨S_, .f32⟩
  | .hbm, ⟨3, _⟩ => ⟨S2048x2048, .f32⟩
  | .hbm, ⟨4, _⟩ => ⟨S2048x4352, .f32⟩
  | .hbm, ⟨5, _⟩ => ⟨S2048x2048, .f32⟩
  | _, _ => ⟨S2048x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x2048 : Shape := ⟨2, ![2048, 2048]⟩
abbrev S_ : Shape := ⟨0, ![]⟩
abbrev S8x128 : Shape := ⟨2, ![8, 128]⟩
abbrev S512x2048 : Shape := ⟨2, ![512, 2048]⟩
abbrev S1024x2048 : Shape := ⟨2, ![1024, 2048]⟩
abbrev S512x1024 : Shape := ⟨2, ![512, 1024]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S_, .f32⟩
  | .hbm, ⟨5, _⟩ => ⟨S8x128, .f32⟩
  | .hbm, ⟨6, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 10
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S2048x2048, .bf16⟩
  | .hbm, ⟨9, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S2048x2048 : Shape := ⟨2, ![2048, 2048]⟩
abbrev S2048x8192 : Shape := ⟨2, ![2048, 8192]⟩
abbrev S_ : Shape := ⟨0, ![]⟩
abbrev S8x128 : Shape := ⟨2, ![8, 128]⟩
abbrev S4x2048x2048 : Shape := ⟨3, ![4, 2048, 2048]⟩
abbrev S2048x512 : Shape := ⟨2, ![2048, 512]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S_, .f32⟩
  | .hbm, ⟨5, _⟩ => ⟨S8x128, .f32⟩
  | .hbm, ⟨6, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x2048 : Shape := ⟨2, ![2048, 2048]⟩
abbrev S2048x4352 : Shape := ⟨2, ![2048, 4352]⟩
abbrev S4352x2048 : Shape := ⟨2, ![4352, 2048]⟩
abbrev S_ : Shape := ⟨0, ![]⟩
abbrev S8x128 : Shape := ⟨2, ![8, 128]⟩
abbrev S512x2048 : Shape := ⟨2, ![512, 2048]⟩
abbrev S2176x2048 : Shape := ⟨2, ![2176, 2048]⟩
abbrev S512x2176 : Shape := ⟨2, ![512, 2176]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4352, .f32⟩
  | .hbm, ⟨2, _⟩ => ⟨S2048x2048, .bf16⟩
  | .hbm, ⟨3, _⟩ => ⟨S4352x2048, .f32⟩
  | .hbm, ⟨4, _⟩ => ⟨S4352x2048, .bf16⟩
  | .hbm, ⟨5, _⟩ => ⟨S_, .f32⟩
  | .hbm, ⟨6, _⟩ => ⟨S8x128, .f32⟩
  | .hbm, ⟨7, _⟩ => ⟨S2048x4352, .f32⟩
  | .local _ .vmem, ⟨0, _⟩ => ⟨S512x2048, .bf16⟩
  | .local _ .vmem, ⟨1, _⟩ => ⟨S512x2048, .bf16⟩
  | .local _ .vmem, ⟨2, _⟩ => ⟨S2176x2048, .bf16⟩
  | .local _ .vmem, ⟨3, _⟩ => ⟨S2176x2048, .bf16⟩
  | .local _ .vmem, ⟨4, _⟩ => ⟨S512x2176, .f32⟩
  | .local _ .vmem, ⟨5, _⟩ => ⟨S512x2176, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x4352 : Shape := ⟨2, ![2048, 4352]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4352, .f32⟩
  | .hbm, ⟨2, _⟩ => ⟨S2048x4352, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel12.lean ====
abbrev S256x2048 : Shape := ⟨2, ![256, 2048]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S256x2048 : Shape := ⟨2, ![256, 2048]⟩
abbrev S256x1024 : Shape := ⟨2, ![256, 1024]⟩
abbrev S_ : Shape := ⟨0, ![]⟩
abbrev S8x128 : Shape := ⟨2, ![8, 128]⟩
abbrev S2048x1024 : Shape := ⟨2, ![2048, 1024]⟩
abbrev S256x512 : Shape := ⟨2, ![256, 512]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S_, .f32⟩
  | .hbm, ⟨4, _⟩ => ⟨S8x128, .f32⟩
  | .hbm, ⟨5, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S512x1024, .bf16⟩
  | .local _ .vmem, ⟨4, _⟩ => ⟨S512x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x1024 : Shape := ⟨2, ![2048, 1024]⟩
abbrev S256x1024 : Shape := ⟨2, ![256, 1024]⟩
abbrev S_ : Shape := ⟨0, ![]⟩
abbrev S8x128 : Shape := ⟨2, ![8, 128]⟩
abbrev S256x2048 : Shape := ⟨2, ![256, 2048]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S2048x1024, .bf16⟩
  | .hbm, ⟨3, _⟩ => ⟨S_, .f32⟩
  | .hbm, ⟨4, _⟩ => ⟨S8x128, .f32⟩
  | .hbm, ⟨5, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S256x1024 : Shape := ⟨2, ![256, 1024]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S_, .f32⟩
  | .hbm, ⟨3, _⟩ => ⟨S256x2048, .f32⟩
  | .hbm, ⟨4, _⟩ => ⟨S256x1024, .f32⟩
  | .hbm, ⟨5, _⟩ => ⟨S256x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S2048x2048 : Shape := ⟨2, ![2048, 2048]⟩
abbrev S1x2048 : Shape := ⟨2, ![1, 2048]⟩
abbrev S_ : Shape := ⟨0, ![]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S8x128, .f32⟩
  | .hbm, ⟨6, _⟩ => ⟨S2048x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel16.lean ====
abbrev S2048x2048 : Shape := ⟨2, ![2048, 2048]⟩
abbrev S1x2048 : Shape := ⟨2, ![1, 2048]⟩
abbrev S_ : Shape := ⟨0, ![]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S8x128, .f32⟩
  | .hbm, ⟨6, _⟩ => ⟨S2048x2048, .f32⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel17.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S_ : Shape := ⟨0, ![]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S_, .f32⟩
  | .hbm, ⟨3, _⟩ => ⟨S8x128, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S256x2048 : Shape := ⟨2, ![256, 2048]⟩
abbrev S1x2048 : Shape := ⟨2, ![1, 2048]⟩
abbrev S_ : Shape := ⟨0, ![]⟩
abbrev S8x128 : Shape := ⟨2, ![8, 128]⟩
abbrev S256 : Shape := ⟨1, ![256]⟩
abbrev S256x1 : Shape := ⟨2, ![256, 1]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S_, .f32⟩
  | .hbm, ⟨3, _⟩ => ⟨S8x128, .f32⟩
  | .hbm, ⟨4, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_10 : BitVec 32 := 0#32
  let v26 : BitVec 1 := Scalar.cmpi .ne v25 c0_i32_10
  v26

def k0_cond2 (i : grid0.Coords) : BitVec 1 :=
  let arg0 : BitVec 32 := BitVec.ofNat 32 (i 0).val
  let c0_i32_11 : BitVec 32 := 0#32
  let v27 : BitVec 1 := Scalar.cmpi .sgt arg0 c0_i32_11
  let v28 : BitVec 32 := Scalar.extui v27
  let c0_i32_12 : BitVec 32 := 0#32
  let v29 : BitVec 1 := Scalar.cmpi .ne v28 c0_i32_12
  v29

def k0_cond3 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel21.lean ====
abbrev S1x2048 : Shape := ⟨2, ![1, 2048]⟩
abbrev S1x768 : Shape := ⟨2, ![1, 768]⟩
abbrev S6x128x128 : Shape := ⟨3, ![6, 128, 128]⟩
abbrev S6x128 : Shape := ⟨2, ![6, 128]⟩
abbrev S3x192 : Shape := ⟨2, ![3, 192]⟩

abbrev nBuf : Space → Nat
  | .hbm => 70
  | .vmem => 70
  | .smem => 0
  | _ => 0

abbrev bufTy : (tb : Table) → Fin (tcTables nBuf tb) → BufTy
  | .hbm, ⟨0, _⟩ => ⟨S1x2048, .f32⟩
  | .hbm, ⟨1, _⟩ => ⟨S1x768, .f32⟩
  | .hbm, ⟨2, _⟩ => ⟨S1x768, .f32⟩
  | .hbm, ⟨3, _⟩ => ⟨S6x128x128, .f32⟩
  | .hbm, ⟨4, _⟩ => ⟨S6x128, .f32⟩
  | .hbm, ⟨5, _⟩ => ⟨S3x192, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x768, .f32⟩
  | .hbm, ⟨12, _⟩ => ⟨S1x768, .f32⟩
  | .hbm, ⟨13, _⟩ => ⟨S6x128x128, .f32⟩
  | .hbm, ⟨14, _⟩ => ⟨S6x128, .f32⟩
  | .hbm, ⟨15, _⟩ => ⟨S3x192, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x768, .f32⟩
  | .hbm, ⟨22, _⟩ => ⟨S1x768, .f32⟩
  | .hbm, ⟨23, _⟩ => ⟨S6x128x128, .f32⟩
  | .hbm, ⟨24, _⟩ => ⟨S6x128, .f32⟩
  | .hbm, ⟨25, _⟩ => ⟨S3x192, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x768, .f32⟩
  | .hbm, ⟨32, _⟩ => ⟨S1x768, .f32⟩
  | .hbm, ⟨33, _⟩ => ⟨S6x128x128, .f32⟩
  | .hbm, ⟨34, _⟩ => ⟨S6x128, .f32⟩
  | .hbm, ⟨35, _⟩ => ⟨S3x192, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x768, .f32⟩
  | .hbm, ⟨42, _⟩ => ⟨S1x768, .f32⟩
  | .hbm, ⟨43, _⟩ => ⟨S6x128x128, .f32⟩
  | .hbm, ⟨44, _⟩ => ⟨S6x128, .f32⟩
  | .hbm, ⟨45, _⟩ => ⟨S3x192, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x768, .f32⟩
  | .hbm, ⟨52, _⟩ => ⟨S1x768, .f32⟩
  | .hbm, ⟨53, _⟩ => ⟨S6x128x128, .f32⟩
  | .hbm, ⟨54, _⟩ => ⟨S6x128, .f32⟩
  | .hbm, ⟨55, _⟩ => ⟨S3x192, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x768, .f32⟩
  | .hbm, ⟨62, _⟩ => ⟨S1x768, .f32⟩
  | .hbm, ⟨63, _⟩ => ⟨S6x128x128, .f32⟩
  | .hbm, ⟨64, _⟩ => ⟨S6x128, .f32⟩
  | .hbm, ⟨65, _⟩ => ⟨S3x192, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .local _ .vmem, ⟨0, _⟩ => ⟨S1x2048, .f32⟩
  | .local _ .vmem, ⟨1, _⟩ => ⟨S1x768, .f32⟩
  | .local _ .vmem, ⟨2, _⟩ => ⟨S1x768, .f32⟩
  | .local _ .vmem, ⟨3, _⟩ => ⟨S6x128x128, .f32⟩
  | .local _ .vmem, ⟨4, _⟩ => ⟨S6x128, .f32⟩
  | .local _ .vmem, ⟨5, _⟩ => ⟨S3x192, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x768, .f32⟩
  | .local _ .vmem, ⟨12, _⟩ => ⟨S1x768, .f32⟩
  | .local _ .vmem, ⟨13, _⟩ => ⟨S6x128x128, .f32⟩
  | .local _ .vmem, ⟨14, _⟩ => ⟨S6x128, .f32⟩
  | .local _ .vmem, ⟨15, _⟩ => ⟨S3x192, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x768, .f32⟩
  | .local _ .vmem, ⟨22, _⟩ => ⟨S1x768, .f32⟩
  | .local _ .vmem, ⟨23, _⟩ => ⟨S6x128x128, .f32⟩
  | .local _ .vmem, ⟨24, _⟩ => ⟨S6x128, .f32⟩
  | .local _ .vmem, ⟨25, _⟩ => ⟨S3x192, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x768, .f32⟩
  | .local _ .vmem, ⟨32, _⟩ => ⟨S1x768, .f32⟩
  | .local _ .vmem, ⟨33, _⟩ => ⟨S6x128x128, .f32⟩
  | .local _ .vmem, ⟨34, _⟩ => ⟨S6x128, .f32⟩
  | .local _ .vmem, ⟨35, _⟩ => ⟨S3x192, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S1x2048, .f32⟩
  | .local _ .vmem, ⟨40, _⟩ => ⟨S1x2048, .f32⟩
  | .local _ .vmem, ⟨41, _⟩ => ⟨S1x768, .f32⟩
  | .local _ .vmem, ⟨42, _⟩ => ⟨S1x768, .f32⟩
  | .local _ .vmem, ⟨43, _⟩ => ⟨S6x128x128, .f32⟩
  | .local _ .vmem, ⟨44, _⟩ => ⟨S6x128, .f32⟩
  | .local _ .vmem, ⟨45, _⟩ => ⟨S3x192, .f32⟩
  | .local _ .vmem, ⟨46, _⟩ => ⟨S1x2048, .f32⟩
  | .local _ .vmem, ⟨47, _⟩ => ⟨S1x2048, .f32⟩
  | .local _ .vmem, ⟨48, _⟩ => ⟨S1x2048, .f32⟩
  | .local _ .vmem, ⟨49, _⟩ => ⟨S1x2048, .f32⟩
  | .local _ .vmem, ⟨50, _⟩ => ⟨S1x2048, .f32⟩
  | .local _ .vmem, ⟨51, _⟩ => ⟨S1x768, .f32⟩
  | .local _ .vmem, ⟨52, _⟩ => ⟨S1x768, .f32⟩
  | .local _ .vmem, ⟨53, _⟩ => ⟨S6x128x128, .f32⟩
  | .local _ .vmem, ⟨54, _⟩ => ⟨S6x128, .f32⟩
  | .local _ .vmem, ⟨55, _⟩ => ⟨S3x192, .f32⟩
  | .local _ .vmem, ⟨56, _⟩ => ⟨S1x2048, .f32⟩
  | .local _ .vmem, ⟨57, _⟩ => ⟨S1x2048, .f32⟩
  | .local _ .vmem, ⟨58, _⟩ => ⟨S1x2048, .f32⟩
  | .local _ .vmem, ⟨59, _⟩ => ⟨S1x2048, .f32⟩
  | .local _ .vmem, ⟨60, _⟩ => ⟨S1x2048, .f32⟩
  | .local _ .vmem, ⟨61, _⟩ => ⟨S1x768, .f32⟩
  | .local _ .vmem, ⟨62, _⟩ => ⟨S1x768, .f32⟩
  | .local _ .vmem, ⟨63, _⟩ => ⟨S6x128x128, .f32⟩
  | .local _ .vmem, ⟨64, _⟩ => ⟨S6x128, .f32⟩
  | .local _ .vmem, ⟨65, _⟩ => ⟨S3x192, .f32⟩
  | .local _ .vmem, ⟨66, _⟩ => ⟨S1x2048, .f32⟩
  | .local _ .vmem, ⟨67, _⟩ => ⟨S1x2048, .f32⟩
  | .local _ .vmem, ⟨68, _⟩ => ⟨S1x2048, .f32⟩
  | .local _ .vmem, ⟨69, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S6x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S6x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3x192 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x768 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x768 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S6x128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S6x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S3x192 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x2048 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x2048 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x2048 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x768 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x768 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S6x128x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S6x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x192 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x2048 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x2048 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x2048 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x2048 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x2048 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x768 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x768 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S6x128x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S6x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S3x192 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x2048 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x2048 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x2048 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x2048 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x2048 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x768 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x768 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S6x128x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S6x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S3x192 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x2048 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x2048 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x2048 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x2048 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))
-- ==== Reference21Ideal.lean ====
abbrev S1x2048 : Shape := ⟨2, ![1, 2048]⟩
abbrev S1x768 : Shape := ⟨2, ![1, 768]⟩
abbrev S6x128x128 : Shape := ⟨3, ![6, 128, 128]⟩
abbrev S6x128 : Shape := ⟨2, ![6, 128]⟩
abbrev S3x192 : Shape := ⟨2, ![3, 192]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S1x2048, .f32⟩
  | 1 => ⟨S1x768, .f32⟩
  | 2 => ⟨S1x768, .f32⟩
  | 3 => ⟨S6x128x128, .f32⟩
  | 4 => ⟨S6x128, .f32⟩
  | 5 => ⟨S3x192, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x768, .f32⟩
  | 12 => ⟨S1x768, .f32⟩
  | 13 => ⟨S6x128x128, .f32⟩
  | 14 => ⟨S6x128, .f32⟩
  | 15 => ⟨S3x192, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x768, .f32⟩
  | 22 => ⟨S1x768, .f32⟩
  | 23 => ⟨S6x128x128, .f32⟩
  | 24 => ⟨S6x128, .f32⟩
  | 25 => ⟨S3x192, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S1x768, .f32⟩
  | 32 => ⟨S1x768, .f32⟩
  | 33 => ⟨S6x128x128, .f32⟩
  | 34 => ⟨S6x128, .f32⟩
  | 35 => ⟨S3x192, .f32⟩
  | 36 => ⟨S1x2048, .f32⟩
  | 37 => ⟨S1x2048, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S_, .f32⟩
  | 74 => ⟨S1x768, .f32⟩
  | 75 => ⟨S1x768, .f32⟩
  | 76 => ⟨S_, .f32⟩
  | 77 => ⟨S1x768, .f32⟩
  | 78 => ⟨S1x768, .f32⟩
  | 79 => ⟨S1x768, .f32⟩
  | 80 => ⟨S_, .f32⟩
  | 81 => ⟨S1x768, .f32⟩
  | 82 => ⟨S1x768, .f32⟩
  | 83 => ⟨S1x768, .f32⟩
  | 84 => ⟨S_, .f32⟩
  | 85 => ⟨S1x768, .f32⟩
  | 86 => ⟨S1x768, .f32⟩
  | 87 => ⟨S1x768, .f32⟩
  | 88 => ⟨S_, .f32⟩
  | 89 => ⟨S1x768, .f32⟩
  | 90 => ⟨S1x768, .f32⟩
  | 91 => ⟨S_, .f32⟩
  | 92 => ⟨S1x768, .f32⟩
  | 93 => ⟨S1x768, .f32⟩
  | 94 => ⟨S1x768, .f32⟩
  | 95 => ⟨S_, .f32⟩
  | 96 => ⟨S1x768, .f32⟩
  | 97 => ⟨S1x768, .f32⟩
  | 98 => ⟨S1x768, .f32⟩
  | 99 => ⟨S_, .f32⟩
  | 100 => ⟨S1x768, .f32⟩
  | 101 => ⟨S1x768, .f32⟩
  | 102 => ⟨S1x768, .f32⟩
  | 103 => ⟨S_, .f32⟩
  | 104 => ⟨S1x768, .f32⟩
  | 105 => ⟨S1x768, .f32⟩
  | 106 => ⟨S_, .f32⟩
  | 107 => ⟨S1x768, .f32⟩
  | 108 => ⟨S1x768, .f32⟩
  | 109 => ⟨S_, .f32⟩
  | 110 => ⟨S1x768, .f32⟩
  | 111 => ⟨S1x768, .f32⟩
  | 112 => ⟨S1x768, .f32⟩
  | 113 => ⟨S_, .f32⟩
  | 114 => ⟨S1x768, .f32⟩
  | 115 => ⟨S1x768, .f32⟩
  | 116 => ⟨S1x768, .f32⟩
  | 117 => ⟨S_, .f32⟩
  | 118 => ⟨S1x768, .f32⟩
  | 119 => ⟨S1x768, .f32⟩
  | 120 => ⟨S1x768, .f32⟩
  | 121 => ⟨S_, .f32⟩
  | 122 => ⟨S1x768, .f32⟩
  | 123 => ⟨S1x768, .f32⟩
  | 124 => ⟨S_, .f32⟩
  | 125 => ⟨S1x768, .f32⟩
  | 126 => ⟨S1x768, .f32⟩
  | 127 => ⟨S1x768, .f32⟩
  | _ => ⟨S1x2048, .f32⟩

abbrev hbmTy0_1 (i : Nat) : BufTy := match i % 128 with
  | 0 => ⟨S_, .f32⟩
  | 1 => ⟨S1x768, .f32⟩
  | 2 => ⟨S1x768, .f32⟩
  | 3 => ⟨S1x768, .f32⟩
  | 4 => ⟨S_, .f32⟩
  | 5 => ⟨S1x768, .f32⟩
  | 6 => ⟨S1x768, .f32⟩
  | 7 => ⟨S1x768, .f32⟩
  | 8 => ⟨S_, .f32⟩
  | 9 => ⟨S1x768, .f32⟩
  | 10 => ⟨S1x768, .f32⟩
  | 11 => ⟨S_, .f32⟩
  | 12 => ⟨S6x128x128, .f32⟩
  | 13 => ⟨S6x128x128, .f32⟩
  | 14 => ⟨S_, .f32⟩
  | 15 => ⟨S6x128x128, .f32⟩
  | 16 => ⟨S6x128x128, .f32⟩
  | 17 => ⟨S6x128x128, .f32⟩
  | 18 => ⟨S_, .f32⟩
  | 19 => ⟨S6x128x128, .f32⟩
  | 20 => ⟨S6x128x128, .f32⟩
  | 21 => ⟨S6x128x128, .f32⟩
  | 22 => ⟨S_, .f32⟩
  | 23 => ⟨S6x128x128, .f32⟩
  | 24 => ⟨S6x128x128, .f32⟩
  | 25 => ⟨S6x128x128, .f32⟩
  | 26 => ⟨S_, .f32⟩
  | 27 => ⟨S6x128x128, .f32⟩
  | 28 => ⟨S6x128x128, .f32⟩
  | 29 => ⟨S_, .f32⟩
  | 30 => ⟨S6x128x128, .f32⟩
  | 31 => ⟨S6x128x128, .f32⟩
  | 32 => ⟨S6x128x128, .f32⟩
  | 33 => ⟨S_, .f32⟩
  | 34 => ⟨S6x128x128, .f32⟩
  | 35 => ⟨S6x128x128, .f32⟩
  | 36 => ⟨S6x128x128, .f32⟩
  | 37 => ⟨S_, .f32⟩
  | 38 => ⟨S6x128x128, .f32⟩
  | 39 => ⟨S6x128x128, .f32⟩
  | 40 => ⟨S6x128x128, .f32⟩
  | 41 => ⟨S_, .f32⟩
  | 42 => ⟨S6x128x128, .f32⟩
  | 43 => ⟨S6x128x128, .f32⟩
  | 44 => ⟨S_, .f32⟩
  | 45 => ⟨S6x128, .f32⟩
  | 46 => ⟨S6x128, .f32⟩
  | 47 => ⟨S_, .f32⟩
  | 48 => ⟨S6x128, .f32⟩
  | 49 => ⟨S6x128, .f32⟩
  | 50 => ⟨S6x128, .f32⟩
  | 51 => ⟨S_, .f32⟩
  | 52 => ⟨S6x128, .f32⟩
  | 53 => ⟨S6x128, .f32⟩
  | 54 => ⟨S6x128, .f32⟩
  | 55 => ⟨S_, .f32⟩
  | 56 => ⟨S6x128, .f32⟩
  | 57 => ⟨S6x128, .f32⟩
  | 58 => ⟨S6x128, .f32⟩
  | 59 => ⟨S_, .f32⟩
  | 60 => ⟨S6x128, .f32⟩
  | 61 => ⟨S6x128, .f32⟩
  | 62 => ⟨S_, .f32⟩
  | 63 => ⟨S6x128, .f32⟩
  | 64 => ⟨S6x128, .f32⟩
  | 65 => ⟨S6x128, .f32⟩
  | 66 => ⟨S_, .f32⟩
  | 67 => ⟨S6x128, .f32⟩
  | 68 => ⟨S6x128, .f32⟩
  | 69 => ⟨S6x128, .f32⟩
  | 70 => ⟨S_, .f32⟩
  | 71 => ⟨S6x128, .f32⟩
  | 72 => ⟨S6x128, .f32⟩
  | 73 => ⟨S6x128, .f32⟩
  | 74 => ⟨S_, .f32⟩
  | 75 => ⟨S6x128, .f32⟩
  | 76 => ⟨S6x128, .f32⟩
  | 77 => ⟨S_, .f32⟩
  | 78 => ⟨S3x192, .f32⟩
  | 79 => ⟨S3x192, .f32⟩
  | 80 => ⟨S_, .f32⟩
  | 81 => ⟨S3x192, .f32⟩
  | 82 => ⟨S3x192, .f32⟩
  | 83 => ⟨S3x192, .f32⟩
  | 84 => ⟨S_, .f32⟩
  | 85 => ⟨S3x192, .f32⟩
  | 86 => ⟨S3x192, .f32⟩
  | 87 => ⟨S3x192, .f32⟩
  | 88 => ⟨S_, .f32⟩
  | 89 => ⟨S3x192, .f32⟩
  | 90 => ⟨S3x192, .f32⟩
  | 91 => ⟨S3x192, .f32⟩
  | 92 => ⟨S_, .f32⟩
  | 93 => ⟨S3x192, .f32⟩
  | 94 => ⟨S3x192, .f32⟩
  | 95 => ⟨S_, .f32⟩
  | 96 => ⟨S3x192, .f32⟩
  | 97 => ⟨S3x192, .f32⟩
  | 98 => ⟨S3x192, .f32⟩
  | 99 => ⟨S_, .f32⟩
  | 100 => ⟨S3x192, .f32⟩
  | 101 => ⟨S3x192, .f32⟩
  | 102 => ⟨S3x192, .f32⟩
  | 103 => ⟨S_, .f32⟩
  | 104 => ⟨S3x192, .f32⟩
  | 105 => ⟨S3x192, .f32⟩
  | 106 => ⟨S3x192, .f32⟩
  | 107 => ⟨S_, .f32⟩
  | 108 => ⟨S3x192, .f32⟩
  | 109 => ⟨S3x192, .f32⟩
  | 110 => ⟨S_, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x2048, .f32⟩

abbrev hbmTy0_2 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Proof.Real.lean ====
/- Real numbers inside the extended reals: the operations of the ideal instance on values that are real numbers, the
   literals of the two programs as real numbers, and the predicate "this array holds these real numbers". -/
module

public import Idealize.ShloMosaic.Lib.Pipeline.ValueKit
public import Idealize.ShloMosaic.Lib.Pointwise
public import Idealize.ShloMosaic.PureOps.Ideal.Laws

@[expose] public section

set_option maxRecDepth 16384

noncomputable section

namespace Cert.Mix

open Idealize.ShloMosaic

/-- The factor `√(2/π)` of the tanh form of GELU, as the programs' literal has it. -/
def gc0 : ℝ := 13386282 / 16777216
/-- The cubic coefficient of the tanh form of GELU, `0.044715`. -/
def gc1 : ℝ := 8943 / 200000
/-- The small number under the square roots, as the programs' literal has it. -/
def eps : ℝ := 8796093 / 8796093022208
/-- The score scale `128^(-1/2)`, as the programs' literal has it. -/
def scl : ℝ := 11863283 / 134217728

theorem eps_pos : 0 < eps := by unfold eps; norm_num

/-! The literals. -/

theorem lit_8943 : Ideal.ofBits .f32 0x460BBC00#32 = ((8943 : ℝ) : EReal) := by
  simp [Ideal.ofBits, Ideal.ieee, -EReal.coe_mul]; norm_num
theorem lit_200000 : Ideal.ofBits .f32 0x48435000#32 = ((200000 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_gc0 : Ideal.ofBits .f32 0x3F4C422A#32 = (gc0 : EReal) := by
  unfold gc0; simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_nhalf : Ideal.ofBits .f32 0xBF000000#32 = ((-(1 / 2) : ℝ) : EReal) := by
  simp [Ideal.ofBits, Ideal.ieee, -EReal.coe_mul]; norm_num
theorem lit_768 : Ideal.ofBits .f32 0x44400000#32 = ((768 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_eps : Ideal.ofBits .f32 0x358637BD#32 = (eps : EReal) := by
  unfold eps; simp [Ideal.ofBits, Ideal.ieee, -EReal.coe_mul]; norm_num
theorem lit_scl : Ideal.ofBits .f32 0x3DB504F3#32 = (scl : EReal) := by
  unfold scl; simp [Ideal.ofBits, Ideal.ieee, -EReal.coe_mul]; norm_num
theorem lit_0 : Ideal.ofBits .f32 0x00000000#32 = ((0 : ℝ) : EReal) := by
  simp [Ideal.ofBits, Ideal.ieee]
theorem lit_1b : Ideal.ofBits .bf16 0x3F80#16 = ((1 : ℝ) : EReal) := by
  simp [Ideal.ofBits, Ideal.ieee, -EReal.coe_mul]; norm_num
theorem lit_bot : Ideal.ofBits .f32 0xFF800000#32 = (⊥ : EReal) := by
  simp [Ideal.ofBits, Ideal.ieee]

/-! Operations on real values. -/

/-- A quotient of real numbers by a nonzero one is the real quotient. -/
theorem div_real {y : ℝ} (h : y ≠ 0) (x : ℝ) : Ideal.div (x : EReal) (y : EReal) = ((x / y : ℝ) : EReal) := by
  rw [Ideal.div_coe h, ← EReal.coe_mul]; congr 1; ring

theorem div_768 (x : ℝ) : Ideal.div (x : EReal) ((768 : ℝ) : EReal) = ((x / 768 : ℝ) : EReal) := div_real (by norm_num) x
theorem div_128 (x : ℝ) : Ideal.div (x : EReal) ((128 : ℝ) : EReal) = ((x / 128 : ℝ) : EReal) := div_real (by norm_num) x
theorem div_gc1 : Ideal.div ((8943 : ℝ) : EReal) ((200000 : ℝ) : EReal) = (gc1 : EReal) := div_real (by norm_num) _

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- A finite sum of real numbers. -/
theorem sum_real {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem zero_add_real (x : ℝ) : ((0 : ℝ) : EReal) + (x : EReal) = (x : EReal) := by simp

/-! Arrays that hold real numbers, each rank's by a function of natural-number coordinates. -/

/-- The rank-two array `x` holds the real numbers `f`. -/
abbrev R2 {n0 n1 : Nat} (x : (⟨2, ![n0, n1]⟩ : Shape).Idx → EReal) (f : ℕ → ℕ → ℝ) : Prop :=
  ∀ i, x i = ((f (i 0).val (i 1).val : ℝ) : EReal)

/-- The rank-one array `x` holds the real numbers `f`. -/
abbrev R1 {n0 : Nat} (x : (⟨1, ![n0]⟩ : Shape).Idx → EReal) (f : ℕ → ℝ) : Prop :=
  ∀ i, x i = ((f (i 0).val : ℝ) : EReal)

/-- The rank-three array `x` holds the real numbers `f`. -/
abbrev R3 {n0 n1 n2 : Nat} (x : (⟨3, ![n0, n1, n2]⟩ : Shape).Idx → EReal) (f : ℕ → ℕ → ℕ → ℝ) : Prop :=
  ∀ i, x i = ((f (i 0).val (i 1).val (i 2).val : ℝ) : EReal)

/-- The rank-four array `x` holds the real numbers `f`. -/
abbrev R4 {n0 n1 n2 n3 : Nat} (x : (⟨4, ![n0, n1, n2, n3]⟩ : Shape).Idx → EReal) (f : ℕ → ℕ → ℕ → ℕ → ℝ) : Prop :=
  ∀ i, x i = ((f (i 0).val (i 1).val (i 2).val (i 3).val : ℝ) : EReal)

/-- Equal coordinates give equal values, two coordinates. -/
theorem cg2 (f : ℕ → ℕ → ℝ) {a a' b b' : ℕ} (ha : a = a') (hb : b = b') : ((f a b : ℝ) : EReal) = ((f a' b' : ℝ) : EReal) := by
  rw [ha, hb]
/-- Equal coordinates give equal values, three coordinates. -/
theorem cg3 (f : ℕ → ℕ → ℕ → ℝ) {a a' b b' c c' : ℕ} (ha : a = a') (hb : b = b') (hc : c = c') :
    ((f a b c : ℝ) : EReal) = ((f a' b' c' : ℝ) : EReal) := by
  rw [ha, hb, hc]
/-- Equal coordinates give equal values, four coordinates. -/
theorem cg4 (f : ℕ → ℕ → ℕ → ℕ → ℝ) {a a' b b' c c' d d' : ℕ} (ha : a = a') (hb : b = b') (hc : c = c') (hd : d = d') :
    ((f a b c d : ℝ) : EReal) = ((f a' b' c' d' : ℝ) : EReal) := by
  rw [ha, hb, hc, hd]

/-- A comparison `a ≥ b` of two small counters, as signed words. -/
theorem sge_lane {a b : ℕ} (ha : a < 128) (hb : b < 128) :
    IntOp.cmpi .sge (BitVec.ofNat 32 a) (BitVec.ofNat 32 b) = if b ≤ a then 1#1 else 0#1 := by
  have e (n : ℕ) (h : n < 128) : (BitVec.ofNat 32 n).toInt = (n : ℤ) := by
    rw [BitVec.toInt_eq_toNat_of_lt (by simp only [BitVec.toNat_ofNat]; omega), BitVec.toNat_ofNat]
    omega
  simp only [IntOp.cmpi, BitVec.sle, e a ha, e b hb, Nat.cast_le]
  by_cases h : b ≤ a <;> simp [h]

/-- The maximum of `256` real numbers, folded from below every number, is their largest. -/
theorem fold_max_real (f : Fin 256 → ℝ) :
    (Finset.univ.fold max (⊥ : EReal) fun m => ((f m : ℝ) : EReal))
      = ((Finset.univ.sup' ⟨(0 : Fin 256), Finset.mem_univ _⟩ f : ℝ) : EReal) := by
  refine le_antisymm ?_ ?_
  · rw [Finset.fold_max_le]
    exact ⟨bot_le, fun m _ => EReal.coe_le_coe_iff.mpr (Finset.le_sup' f (Finset.mem_univ m))⟩
  · rw [Finset.le_fold_max]
    obtain ⟨m, hm, e⟩ := Finset.exists_mem_eq_sup' ⟨(0 : Fin 256), Finset.mem_univ _⟩ f
    exact Or.inr ⟨m, hm, by rw [e]⟩

/-- A concatenation of matrices side by side, read in its piece `k`. -/
theorem cat2 {N M m : ℕ} (xs : List ((s : Shape) × (s.Idx → EReal)))
    (h : Shape.Concatenates (xs.map (·.1)) ⟨2, ![N, M]⟩ 1) (i : (⟨2, ![N, M]⟩ : Shape).Idx) (k : ℕ) (hk : k < xs.length)
    (x : (⟨2, ![N, m]⟩ : Shape).Idx → EReal) (hx : xs[k] = ⟨⟨2, ![N, m]⟩, x⟩) (pre : ℕ)
    (hpre : (((xs.take k).map (·.1)).map fun s => if h : s.rank = 2 then s.size ((1 : Fin 2).cast h.symm) else 0).sum = pre)
    (hlo : pre ≤ (i 1).val) (hhi : (i 1).val < pre + m) {f : ℕ → ℕ → ℝ} (hf : R2 x f) :
    concatenate ⟨2, ![N, M]⟩ 1 xs h i = ((f (i 0).val ((i 1).val - pre) : ℝ) : EReal) := by
  rw [concatenate_apply_piece (1 : Fin 2) xs h i k hk ⟨2, ![N, m]⟩ x hx rfl pre hpre
    (fun b => match b with | ⟨0, _⟩ => ⟨(i 0).val, (i 0).isLt⟩ | ⟨1, _⟩ => ⟨(i 1).val - pre, by show (i 1).val - pre < m; omega⟩)
    (fun b hb => by
      match b with
      | ⟨0, _⟩ => rfl
      | ⟨1, _⟩ => exact absurd rfl hb)
    (by show pre + ((i 1).val - pre) = (i 1).val; omega), hf]
  rfl

/-- A concatenation of matrices one above the other, read in its piece `k`. -/
theorem cat2r {N M m : ℕ} (xs : List ((s : Shape) × (s.Idx → EReal)))
    (h : Shape.Concatenates (xs.map (·.1)) ⟨2, ![M, N]⟩ 0) (i : (⟨2, ![M, N]⟩ : Shape).Idx) (k : ℕ) (hk : k < xs.length)
    (x : (⟨2, ![m, N]⟩ : Shape).Idx → EReal) (hx : xs[k] = ⟨⟨2, ![m, N]⟩, x⟩) (pre : ℕ)
    (hpre : (((xs.take k).map (·.1)).map fun s => if h : s.rank = 2 then s.size ((0 : Fin 2).cast h.symm) else 0).sum = pre)
    (hlo : pre ≤ (i 0).val) (hhi : (i 0).val < pre + m) {f : ℕ → ℕ → ℝ} (hf : R2 x f) :
    concatenate ⟨2, ![M, N]⟩ 0 xs h i = ((f ((i 0).val - pre) (i 1).val : ℝ) : EReal) := by
  rw [concatenate_apply_piece (0 : Fin 2) xs h i k hk ⟨2, ![m, N]⟩ x hx rfl pre hpre
    (fun b => match b with | ⟨0, _⟩ => ⟨(i 0).val - pre, by show (i 0).val - pre < m; omega⟩ | ⟨1, _⟩ => ⟨(i 1).val, (i 1).isLt⟩)
    (fun b hb => by
      match b with
      | ⟨0, _⟩ => exact absurd rfl hb
      | ⟨1, _⟩ => rfl)
    (by show pre + ((i 0).val - pre) = (i 0).val; omega), hf]
  rfl

end Cert.Mix

end
-- ==== Proof.Spec.lean ====
/- The gradient of the token mixer over the real numbers: spatial gating (GELU, layer norm, a causal mix of the rows of
   each chunk of 128), a short convolution with a gate, attention over 256 memory slots, and the per-head RMS norm, with
   the gradient of each written out. Arrays are functions of natural-number coordinates. -/
module

public import proofs.«01_k».proof.Proof.Real

@[expose] public section

noncomputable section

namespace Cert.Mix

/-- The arguments of the part, as real numbers: the cotangent of the normed heads, the projection, the memory's keys and
    values, the gating matrices and biases, the layer norm's gain and bias, the convolution's taps, the heads' gain. -/
structure In where
  dhn : ℕ → ℕ → ℝ
  proj : ℕ → ℕ → ℝ
  kv : ℕ → ℕ → ℝ
  ws : ℕ → ℕ → ℕ → ℝ
  bs : ℕ → ℕ → ℝ
  lng : ℕ → ℕ → ℝ
  lnb : ℕ → ℕ → ℝ
  cw : ℕ → ℕ → ℝ
  gh : ℕ → ℕ → ℝ

/-- The tanh inside GELU. -/
def gth (x : ℝ) : ℝ := Real.tanh (gc0 * (x + gc1 * (x * x * x)))
/-- GELU, tanh form. -/
def gel (x : ℝ) : ℝ := x * (1 / 2 * (1 + gth x))
/-- The derivative of GELU. -/
def dgel (x : ℝ) : ℝ :=
  1 / 2 * (1 + gth x) + 1 / 2 * x * (1 - gth x * gth x) * (gc0 * (1 + 3 * gc1 * (x * x)))

namespace In
variable (I : In)

/-- The gate `gelu(u)`. -/
def U (s j : ℕ) : ℝ := gel (I.proj s j)
/-- `gelu(v)`, before the layer norm. -/
def V (s j : ℕ) : ℝ := gel (I.proj s (768 + j))
/-- The layer norm's mean. -/
def mu (s : ℕ) : ℝ := (∑ j : Fin 768, I.V s j) / 768
/-- The centred row. -/
def vc (s j : ℕ) : ℝ := I.V s j - I.mu s
/-- The layer norm's variance plus the small number. -/
def var (s : ℕ) : ℝ := (∑ j : Fin 768, I.vc s j * I.vc s j) / 768 + eps
/-- The reciprocal standard deviation. -/
def rst (s : ℕ) : ℝ := (Real.sqrt (I.var s))⁻¹
/-- The normed row. -/
def vhat (s j : ℕ) : ℝ := I.vc s j * I.rst s
/-- The layer norm's output. -/
def vn (s j : ℕ) : ℝ := I.vhat s j * I.lng 0 j + I.lnb 0 j
/-- The causal gating matrix of one head. -/
def wm (h t r : ℕ) : ℝ := if r ≤ t then I.ws h t r else 0
/-- The mixed rows of a chunk. -/
def mix (s j : ℕ) : ℝ :=
  (∑ r : Fin 128, I.wm (j / 128) (s % 128) r * I.vn (s / 128 * 128 + r) j) + I.bs (j / 128) (s % 128)
/-- The spatial gating's output. -/
def ao (s j : ℕ) : ℝ := I.U s j * I.mix s j

/-- The convolution's input. -/
def xc (s j : ℕ) : ℝ := I.proj s (2304 + j) * I.proj s (3072 + j)
/-- The convolution's input after two rows of zeros. -/
def xp (s j : ℕ) : ℝ := if s < 2 then 0 else I.xc (s - 2) j
/-- The convolution. -/
def y (s j : ℕ) : ℝ := I.cw 0 j * I.xp s j + I.cw 1 j * I.xp (s + 1) j + I.cw 2 j * I.xp (s + 2) j
/-- The gated convolution. -/
def co (s j : ℕ) : ℝ := I.proj s (1536 + j) * I.y s j

/-- The scaled queries of a head. -/
def q (h s d : ℕ) : ℝ := I.proj s (3840 + (h * 128 + d)) * scl
/-- The keys of a head. -/
def k (h m d : ℕ) : ℝ := I.kv m (h * 128 + d)
/-- The values of a head. -/
def v (h m d : ℕ) : ℝ := I.kv m (512 + (h * 128 + d))
/-- The attention scores. -/
def sco (h s m : ℕ) : ℝ := ∑ d : Fin 128, I.q h s d * I.k h m d
/-- The largest score of a row. -/
def mx (h s : ℕ) : ℝ := Finset.univ.sup' ⟨(0 : Fin 256), Finset.mem_univ _⟩ fun m : Fin 256 => I.sco h s m
/-- The shifted exponentials. -/
def ex (h s m : ℕ) : ℝ := Real.exp (I.sco h s m - I.mx h s)
/-- Their sum. -/
def Z (h s : ℕ) : ℝ := ∑ m : Fin 256, I.ex h s m
/-- The attention's weights. -/
def pr (h s m : ℕ) : ℝ := I.ex h s m / I.Z h s
/-- The attention's output. -/
def mo (s j : ℕ) : ℝ := ∑ m : Fin 256, I.pr (j / 128) s m * I.v (j / 128) m (j % 128)

/-- All sixteen heads' outputs side by side. -/
def hd (s j : ℕ) : ℝ := if j < 768 then I.ao s j else if j < 1536 then I.co s (j - 768) else I.mo s (j - 1536)
/-- The mean square of a head's row plus the small number. -/
def ms (g s : ℕ) : ℝ := (∑ d : Fin 128, I.hd s (g * 128 + d) * I.hd s (g * 128 + d)) / 128 + eps
/-- The reciprocal root mean square of a head's row. -/
def rs (g s : ℕ) : ℝ := (Real.sqrt (I.ms g s))⁻¹

/-- The cotangent times the heads' gain. -/
def dt (s j : ℕ) : ℝ := I.dhn s j * I.gh 0 j
/-- The gradient of the heads' gain. -/
def dgh (j : ℕ) : ℝ := ∑ s : Fin 2048, I.dhn s j * (I.hd s j * I.rs (j / 128) s)
/-- The mean of cotangent times normed row over a head. -/
def inn (g s : ℕ) : ℝ := (∑ d : Fin 128, I.dt s (g * 128 + d) * (I.hd s (g * 128 + d) * I.rs g s)) / 128
/-- The gradient of the heads' outputs. -/
def dh (s j : ℕ) : ℝ := I.rs (j / 128) s * (I.dt s j - I.hd s j * I.rs (j / 128) s * I.inn (j / 128) s)

/-- The gradient of `u`. -/
def du (s j : ℕ) : ℝ := I.dh s j * I.mix s j * dgel (I.proj s j)
/-- The gradient of the mixed rows. -/
def dm (s j : ℕ) : ℝ := I.dh s j * I.U s j
/-- The gradient of the gating matrices. -/
def dws (h t r : ℕ) : ℝ :=
  if r ≤ t then ∑ c : Fin 16, ∑ d : Fin 128, I.dm (c * 128 + t) (h * 128 + d) * I.vn (c * 128 + r) (h * 128 + d) else 0
/-- The gradient of the gating biases. -/
def dbs (h t : ℕ) : ℝ := ∑ c : Fin 16, ∑ d : Fin 128, I.dm (c * 128 + t) (h * 128 + d)
/-- The gradient of the layer norm's output. -/
def dvn (s j : ℕ) : ℝ := ∑ t : Fin 128, I.wm (j / 128) t (s % 128) * I.dm (s / 128 * 128 + t) j
/-- The gradient of the layer norm's gain. -/
def dlng (j : ℕ) : ℝ := ∑ s : Fin 2048, I.dvn s j * I.vhat s j
/-- The gradient of the layer norm's bias. -/
def dlnb (j : ℕ) : ℝ := ∑ s : Fin 2048, I.dvn s j
/-- The gradient of the normed row. -/
def dvh (s j : ℕ) : ℝ := I.dvn s j * I.lng 0 j
/-- The gradient of `gelu(v)`. -/
def dV (s j : ℕ) : ℝ :=
  I.rst s * (I.dvh s j - (∑ j : Fin 768, I.dvh s j) / 768 - I.vhat s j * ((∑ j : Fin 768, I.dvh s j * I.vhat s j) / 768))
/-- The gradient of `v`. -/
def dv (s j : ℕ) : ℝ := I.dV s j * dgel (I.proj s (768 + j))

/-- The gradient of the gate `b`. -/
def db (s j : ℕ) : ℝ := I.dh s (768 + j) * I.y s j
/-- The gradient of the convolution, zero past the last row. -/
def dy (s j : ℕ) : ℝ := if s < 2048 then I.dh s (768 + j) * I.proj s (1536 + j) else 0
/-- The gradient of the convolution's input. -/
def dxc (s j : ℕ) : ℝ := I.cw 2 j * I.dy s j + I.cw 1 j * I.dy (s + 1) j + I.cw 0 j * I.dy (s + 2) j
/-- The gradient of the gate `c`. -/
def dc (s j : ℕ) : ℝ := I.dxc s j * I.proj s (3072 + j)
/-- The gradient of the convolution's other factor. -/
def dx (s j : ℕ) : ℝ := I.dxc s j * I.proj s (2304 + j)
/-- The gradient of the taps; the rows from the fourth on are zero. -/
def dcw (r j : ℕ) : ℝ := if r < 3 then ∑ s : Fin 2048, I.dy (s + (2 - r)) j * I.xc s j else 0

/-- The gradient of a memory head's output. -/
def dmo (h s d : ℕ) : ℝ := I.dh s (1536 + (h * 128 + d))
/-- The gradient of the attention's weights. -/
def dp (h s m : ℕ) : ℝ := ∑ d : Fin 128, I.dmo h s d * I.v h m d
/-- The gradient of the scores. -/
def ds (h s m : ℕ) : ℝ := I.pr h s m * (I.dp h s m - ∑ m : Fin 256, I.dp h s m * I.pr h s m)
/-- The gradient of the queries. -/
def dq (s j : ℕ) : ℝ := (∑ m : Fin 256, I.ds (j / 128) s m * I.k (j / 128) m (j % 128)) * scl
/-- The gradient of the keys. -/
def dk (m j : ℕ) : ℝ := ∑ s : Fin 2048, I.ds (j / 128) s m * I.q (j / 128) s (j % 128)
/-- The gradient of the values. -/
def dvv (m j : ℕ) : ℝ := ∑ s : Fin 2048, I.pr (j / 128) s m * I.dmo (j / 128) s (j % 128)
/-- The gradient of the memory's keys and values. -/
def dkv (m j : ℕ) : ℝ := if j < 512 then I.dk m j else I.dvv m (j - 512)

/-- The gradient of the projection. -/
def dproj (s j : ℕ) : ℝ :=
  if j < 768 then I.du s j else if j < 1536 then I.dv s (j - 768) else if j < 2304 then I.db s (j - 1536)
  else if j < 3072 then I.dc s (j - 2304) else if j < 3840 then I.dx s (j - 3072) else I.dq s (j - 3840)

theorem var_pos (s : ℕ) : 0 < I.var s :=
  add_pos_of_nonneg_of_pos (div_nonneg (Finset.sum_nonneg fun _ _ => mul_self_nonneg _) (by norm_num)) eps_pos

theorem ms_pos (g s : ℕ) : 0 < I.ms g s :=
  add_pos_of_nonneg_of_pos (div_nonneg (Finset.sum_nonneg fun _ _ => mul_self_nonneg _) (by norm_num)) eps_pos

theorem Z_pos (h s : ℕ) : 0 < I.Z h s :=
  Finset.sum_pos (fun _ _ => Real.exp_pos _) ⟨(0 : Fin 256), Finset.mem_univ _⟩

end In

end Cert.Mix

end
-- ==== Proof.RefFwd.lean ====
/- The forward stages of the reference, each as the real-number function of the specification. -/
module

public import proofs.«01_k».proof.Proof.Spec
public import proofs.«01_k».proof.Proof.Gen.ReferenceIdeal.Read

@[expose] public section

set_option maxRecDepth 16384

noncomputable section

namespace Cert.Mix

open Cert.ReferenceIdeal Cert.ReferenceIdeal.Gen Cert.ReferenceIdeal.Read Idealize.ShloMosaic

/-- The nine argument arrays hold the real numbers of `I`. -/
structure Holds (I : In) (x0 : (⟨S2048x2048, .f32⟩ : BufTy).Contents (Elt Ideal)) (x1 : (⟨S2048x4352, .f32⟩ : BufTy).Contents (Elt Ideal))
    (x2 : (⟨S256x1024, .f32⟩ : BufTy).Contents (Elt Ideal)) (x3 : (⟨S6x128x128, .f32⟩ : BufTy).Contents (Elt Ideal))
    (x4 : (⟨S6x128, .f32⟩ : BufTy).Contents (Elt Ideal)) (x5 x6 : (⟨S1x768, .f32⟩ : BufTy).Contents (Elt Ideal))
    (x7 : (⟨S3x768, .f32⟩ : BufTy).Contents (Elt Ideal)) (x8 : (⟨S1x2048, .f32⟩ : BufTy).Contents (Elt Ideal)) : Prop where
  h0 : R2 x0 I.dhn
  h1 : R2 x1 I.proj
  h2 : R2 x2 I.kv
  h3 : R3 x3 I.ws
  h4 : R2 x4 I.bs
  h5 : R2 x5 I.lng
  h6 : R2 x6 I.lnb
  h7 : R2 x7 I.cw
  h8 : R2 x8 I.gh

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The coefficient of GELU's cubic term. -/
theorem r_v6 (i : S_.Idx) : val_main_v6 (F := Ideal) i = (gc1 : EReal) := by
  simp only [
    val_main_v6_apply, val_main_cst_apply, val_main_cst_0_apply, div_gc1, lit_200000, lit_8943, Ideal.hostDivf_def,
    Ideal.ofBits_def]

/-- The coefficient of GELU's cubic term, in the second GELU. -/
theorem r_v28 (i : S_.Idx) : val_main_v28 (F := Ideal) i = (gc1 : EReal) := by
  simp only [
    val_main_v28_apply, val_main_cst_7_apply, val_main_cst_8_apply, div_gc1, lit_200000, lit_8943,
    Ideal.hostDivf_def, Ideal.ofBits_def]

/-- The tanh inside the gate's GELU. -/
theorem r_v17 (H : Holds I x0 x1 x2 x3 x4 x5 x6 x7 x8) : R2 (val_main_v17 (F := Ideal) x1) fun s j => gth (I.proj s j) := by
  intro i
  simp only [
    val_main_v17_apply, val_main_v16_apply, val_main_v15_apply, val_main_cst_2_apply, val_main_v14_apply,
    val_main_v13_apply, val_main_v12_apply, val_main_v8_apply, val_main_v7_apply, val_main_v0_apply, r_v6, H.h1 _,
    lit_gc0, Ideal.addf_def, Ideal.hostUnary_tanh_def, Ideal.mulf_def, Ideal.ofBits_def, ← EReal.coe_mul,
    ← EReal.coe_add, Ideal.tanh_coe]
  rfl

/-- Half of one plus that tanh. -/
theorem r_v26 (H : Holds I x0 x1 x2 x3 x4 x5 x6 x7 x8) : R2 (val_main_v26 (F := Ideal) x1) fun s j => 1 / 2 * (1 + gth (I.proj s j)) := by
  intro i
  simp only [
    val_main_v26_apply, val_main_v25_apply, val_main_cst_6_apply, val_main_v24_apply, val_main_v23_apply,
    val_main_cst_5_apply, r_v17 H _, lit_1, lit_half, Ideal.addf_def, Ideal.mulf_def, Ideal.ofBits_def,
    ← EReal.coe_mul, ← EReal.coe_add]

/-- The gate. -/
theorem r_v27 (H : Holds I x0 x1 x2 x3 x4 x5 x6 x7 x8) : R2 (val_main_v27 (F := Ideal) x1) I.U := by
  intro i
  simp only [
    val_main_v27_apply, val_main_v0_apply, r_v26 H _, H.h1 _, Ideal.mulf_def, ← EReal.coe_mul]
  rfl

/-- The factor `(1 + tanh) (1 - tanh)` of the gate's derivative. -/
theorem r_v22 (H : Holds I x0 x1 x2 x3 x4 x5 x6 x7 x8) : R2 (val_main_v22 (F := Ideal) x1) fun s j => (1 + gth (I.proj s j)) * (1 - gth (I.proj s j)) := by
  intro i
  simp only [
    val_main_v22_apply, val_main_v21_apply, val_main_v20_apply, val_main_v19_apply, val_main_v18_apply,
    val_main_cst_3_apply, val_main_cst_4_apply, r_v17 H _, lit_1, Ideal.addf_def, Ideal.mulf_def, Ideal.ofBits_def,
    Ideal.subf_def, ← EReal.coe_mul, ← EReal.coe_add, ← EReal.coe_sub]

/-- The tanh inside the second GELU. -/
theorem r_v39 (H : Holds I x0 x1 x2 x3 x4 x5 x6 x7 x8) : R2 (val_main_v39 (F := Ideal) x1) fun s j => gth (I.proj s (768 + j)) := by
  intro i
  simp only [
    val_main_v39_apply, val_main_v38_apply, val_main_v37_apply, val_main_cst_10_apply, val_main_v36_apply,
    val_main_v35_apply, val_main_v34_apply, val_main_v30_apply, val_main_v29_apply, val_main_v1_apply, r_v28, H.h1 _,
    lit_gc0, Ideal.addf_def, Ideal.hostUnary_tanh_def, Ideal.mulf_def, Ideal.ofBits_def, ← EReal.coe_mul,
    ← EReal.coe_add, Ideal.tanh_coe]
  rfl

/-- Half of one plus that tanh. -/
theorem r_v48 (H : Holds I x0 x1 x2 x3 x4 x5 x6 x7 x8) : R2 (val_main_v48 (F := Ideal) x1) fun s j => 1 / 2 * (1 + gth (I.proj s (768 + j))) := by
  intro i
  simp only [
    val_main_v48_apply, val_main_v47_apply, val_main_cst_14_apply, val_main_v46_apply, val_main_v45_apply,
    val_main_cst_13_apply, r_v39 H _, lit_1, lit_half, Ideal.addf_def, Ideal.mulf_def, Ideal.ofBits_def,
    ← EReal.coe_mul, ← EReal.coe_add]

/-- The second GELU. -/
theorem r_v49 (H : Holds I x0 x1 x2 x3 x4 x5 x6 x7 x8) : R2 (val_main_v49 (F := Ideal) x1) I.V := by
  intro i
  simp only [
    val_main_v49_apply, val_main_v1_apply, r_v48 H _, H.h1 _, Ideal.mulf_def, ← EReal.coe_mul]
  rfl

/-- The factor `(1 + tanh) (1 - tanh)` of the second GELU's derivative. -/
theorem r_v44 (H : Holds I x0 x1 x2 x3 x4 x5 x6 x7 x8) : R2 (val_main_v44 (F := Ideal) x1) fun s j => (1 + gth (I.proj s (768 + j))) * (1 - gth (I.proj s (768 + j))) := by
  intro i
  simp only [
    val_main_v44_apply, val_main_v43_apply, val_main_v42_apply, val_main_v41_apply, val_main_v40_apply,
    val_main_cst_11_apply, val_main_cst_12_apply, r_v39 H _, lit_1, Ideal.addf_def, Ideal.mulf_def, Ideal.ofBits_def,
    Ideal.subf_def, ← EReal.coe_mul, ← EReal.coe_add, ← EReal.coe_sub]

/-- The layer norm's mean. -/
theorem r_v53 (H : Holds I x0 x1 x2 x3 x4 x5 x6 x7 x8) : R2 (val_main_v53 (F := Ideal) x1) fun s _ => I.mu s := by
  intro i
  simp only [
    val_main_v53_apply, val_main_v52_apply, val_main_cst_16_apply, val_main_v51_apply, val_main_v50_apply,
    val_main_cst_15_apply, r_v49 H _, lit_0, lit_768, Ideal.hostDivf_def, Ideal.ofBits_def, ← EReal.coe_mul,
    sum_real, zero_add_real, zero_add, div_768]
  rfl

/-- The centred row. -/
theorem r_v55 (H : Holds I x0 x1 x2 x3 x4 x5 x6 x7 x8) : R2 (val_main_v55 (F := Ideal) x1) I.vc := by
  intro i
  simp only [
    val_main_v55_apply, val_main_v54_apply, r_v53 H _, r_v49 H _, Ideal.subf_def, ← EReal.coe_sub]
  rfl

/-- The layer norm's variance plus the small number. -/
theorem r_v62 (H : Holds I x0 x1 x2 x3 x4 x5 x6 x7 x8) : R2 (val_main_v62 (F := Ideal) x1) fun s _ => I.var s := by
  intro i
  simp only [
    val_main_v62_apply, val_main_v61_apply, val_main_cst_19_apply, val_main_v60_apply, val_main_v59_apply,
    val_main_cst_18_apply, val_main_v58_apply, val_main_v57_apply, val_main_cst_17_apply, val_main_v56_apply,
    r_v55 H _, lit_0, lit_768, lit_eps, Ideal.addf_def, Ideal.hostDivf_def, Ideal.mulf_def, Ideal.ofBits_def,
    ← EReal.coe_mul, ← EReal.coe_add, sum_real, zero_add_real, zero_add, div_768]
  rfl

/-- The reciprocal standard deviation. -/
theorem r_v63 (H : Holds I x0 x1 x2 x3 x4 x5 x6 x7 x8) : R2 (val_main_v63 (F := Ideal) x1) fun s _ => I.rst s := by
  intro i
  simp only [
    val_main_v63_apply, r_v62 H _, rsqrt_real (I.var_pos _), Ideal.hostUnary_rsqrt_def]
  rfl

/-- The normed row. -/
theorem r_v68 (H : Holds I x0 x1 x2 x3 x4 x5 x6 x7 x8) : R2 (val_main_v68 (F := Ideal) x1) I.vhat := by
  intro i
  simp only [
    val_main_v68_apply, val_main_v67_apply, r_v55 H _, r_v63 H _, Ideal.mulf_def, ← EReal.coe_mul]
  rfl

/-- The layer norm's output. -/
theorem r_v72 (H : Holds I x0 x1 x2 x3 x4 x5 x6 x7 x8) : R2 (val_main_v72 (F := Ideal) x1 x5 x6) I.vn := by
  intro i
  simp only [
    val_main_v72_apply, val_main_v71_apply, val_main_v70_apply, val_main_v69_apply, r_v68 H _, H.h5 _, H.h6 _,
    Ideal.addf_def, Ideal.mulf_def, ← EReal.coe_mul, ← EReal.coe_add]
  rfl

/-- The layer norm's output, by chunk, row in the chunk, head and lane. -/
theorem r_v73 (H : Holds I x0 x1 x2 x3 x4 x5 x6 x7 x8) : R4 (val_main_v73 (F := Ideal) x1 x5 x6) fun c r h d => I.vn (c * 128 + r) (h * 128 + d) := by
  intro i
  have h0 : (i 0).val < 16 := (i 0).isLt
  have h1 : (i 1).val < 128 := (i 1).isLt
  have h2 : (i 2).val < 6 := (i 2).isLt
  have h3 : (i 3).val < 128 := (i 3).isLt
  rw [val_main_v73_apply, r_v72 H]
  exact cg2 I.vn (show ((((i 0).val * 128 + (i 1).val) * 6 + (i 2).val) * 128 + (i 3).val) / 768 = (i 0).val * 128 + (i 1).val by omega)
    (show ((((i 0).val * 128 + (i 1).val) * 6 + (i 2).val) * 128 + (i 3).val) % 768 = (i 2).val * 128 + (i 3).val by omega)

/-- The causal mask. -/
theorem r_v75 (i : S128x128.Idx) : val_main_v75 (F := Ideal) i = if (i 1).val ≤ (i 0).val then 1#1 else 0#1 := by
  have h0 : (i 0).val < 128 := (i 0).isLt
  have h1 : (i 1).val < 128 := (i 1).isLt
  simp only [val_main_v75_apply, val_main_call0_v4_apply, val_main_call0_v2_apply, val_main_call0_v0_apply, val_main_call0_v1_apply,
    val_main_call0_c_apply, val_main_call0_v3_apply, val_main_v74_apply, val_main_c_apply, val_main_call0_v5_apply,
    val_main_call0_c_0_apply, IntOp.addi, BitVec.add_zero, sge_lane h0 h1]
  by_cases h : (i 1).val ≤ (i 0).val <;> simp [h, Scalar.select]

/-- The causal mask for every head. -/
theorem r_v78_1 (i : S6x128x128.Idx) : val_main_v78_1 (F := Ideal) i = if (i 2).val ≤ (i 1).val then 1#1 else 0#1 := by
  rw [val_main_v78_1_apply, val_main_v76_apply, r_v75]

/-- A choice by the causal mask. -/
theorem select_mask {α : Type} (p : Prop) [Decidable p] (a b : α) :
    Scalar.select (if p then 1#1 else 0#1) a b = if p then a else b := by
  by_cases h : p <;> simp [h, Scalar.select]

/-- The causal gating matrices. -/
theorem r_v78_0 (H : Holds I x0 x1 x2 x3 x4 x5 x6 x7 x8) : R3 (val_main_v78_0 (F := Ideal) x3) I.wm := by
  intro i
  simp only [
    val_main_v78_0_apply, val_main_v77_apply, val_main_cst_21_apply, r_v78_1, select_mask, H.h3 _, lit_0,
    Ideal.ofBits_def]
  unfold In.wm
  split <;> rfl

/-- The mixed rows before the bias, by head. -/
theorem r_v85 (H : Holds I x0 x1 x2 x3 x4 x5 x6 x7 x8) : R4 (val_main_v85 (F := Ideal) x1 x3 x4 x5 x6)
    fun c t h d => (∑ r : Fin 128, I.wm h t r * I.vn (c * 128 + r) (h * 128 + d)) + I.bs h t := by
  intro i
  simp only [
    val_main_v85_apply, val_main_v84_apply, val_main_v83_apply, val_main_v82_apply, val_main_v81_apply,
    val_main_v80_apply, val_main_v79_apply, r_v73 H _, r_v78_0 H _, H.h4 _, Ideal.addf_def, ← EReal.coe_mul,
    ← EReal.coe_add, sum_real]
  refine congrArg Real.toEReal (congrArg₂ (· + ·) (Finset.sum_congr rfl fun r _ => ?_) rfl)
  exact mul_comm _ _

/-- The mixed rows. -/
theorem r_v86 (H : Holds I x0 x1 x2 x3 x4 x5 x6 x7 x8) : R2 (val_main_v86 (F := Ideal) x1 x3 x4 x5 x6) I.mix := by
  intro i
  have h0 : (i 0).val < 2048 := (i 0).isLt
  have h1 : (i 1).val < 768 := (i 1).isLt
  rw [val_main_v86_apply, r_v85 H]
  refine (cg4 (fun c t h d => (∑ r : Fin 128, I.wm h t r * I.vn (c * 128 + r) (h * 128 + d)) + I.bs h t)
    (show ((i 0).val * 768 + (i 1).val) / 98304 = (i 0).val / 128 by omega)
    (show ((i 0).val * 768 + (i 1).val) / 768 % 128 = (i 0).val % 128 by omega)
    (show ((i 0).val * 768 + (i 1).val) / 128 % 6 = (i 1).val / 128 by omega)
    (show ((i 0).val * 768 + (i 1).val) % 128 = (i 1).val % 128 by omega)).trans ?_
  unfold In.mix
  rw [Nat.div_add_mod']

/-- The spatial gating's output. -/
theorem r_v87 (H : Holds I x0 x1 x2 x3 x4 x5 x6 x7 x8) : R2 (val_main_v87 (F := Ideal) x1 x3 x4 x5 x6) I.ao := by
  intro i
  simp only [
    val_main_v87_apply, r_v27 H _, r_v86 H _, Ideal.mulf_def, ← EReal.coe_mul]
  rfl

/-- The convolution's input. -/
theorem r_v88 (H : Holds I x0 x1 x2 x3 x4 x5 x6 x7 x8) : R2 (val_main_v88 (F := Ideal) x1) I.xc := by
  intro i
  simp only [
    val_main_v88_apply, val_main_v3_apply, val_main_v4_apply, H.h1 _, Ideal.mulf_def, ← EReal.coe_mul]
  rfl

/-- The convolution's input after two rows of zeros. -/
theorem r_v90 (H : Holds I x0 x1 x2 x3 x4 x5 x6 x7 x8) : R2 (val_main_v90 (F := Ideal) x1) I.xp := by
  intro i
  have hz : R2 (val_main_v89 (F := Ideal)) fun _ _ => 0 := by
    intro i
    simp only [
    val_main_v89_apply, val_main_cst_22_apply, lit_0, Ideal.ofBits_def]
  unfold val_main_v90 In.xp
  by_cases h : (i 0).val < 2
  · rw [if_pos h]
    exact cat2r _ _ i 0 (by show 0 < 2; decide) _ rfl 0 rfl (Nat.zero_le _) (by omega) hz
  · rw [if_neg h]
    have hi : (i 0).val < 2050 := (i 0).isLt
    exact cat2r _ _ i 1 (by show 1 < 2; decide) _ rfl 2 rfl (by omega) (by omega) (r_v88 H)

/-- The convolution's input, two rows up. -/
theorem r_v93 (H : Holds I x0 x1 x2 x3 x4 x5 x6 x7 x8) : R2 (val_main_v93 (F := Ideal) x1) I.xp := by
  intro i
  rw [val_main_v93_apply, r_v90 H]

/-- The convolution's input, one row up. -/
theorem r_v97 (H : Holds I x0 x1 x2 x3 x4 x5 x6 x7 x8) : R2 (val_main_v97 (F := Ideal) x1) fun s j => I.xp (s + 1) j := by
  intro i
  rw [val_main_v97_apply, r_v90 H]
  exact cg2 I.xp (Nat.add_comm _ _) rfl

/-- The convolution's input, in place. -/
theorem r_v102 (H : Holds I x0 x1 x2 x3 x4 x5 x6 x7 x8) : R2 (val_main_v102 (F := Ideal) x1) fun s j => I.xp (s + 2) j := by
  intro i
  rw [val_main_v102_apply, r_v90 H]
  exact cg2 I.xp (Nat.add_comm _ _) rfl

/-- The convolution. -/
theorem r_v105 (H : Holds I x0 x1 x2 x3 x4 x5 x6 x7 x8) : R2 (val_main_v105 (F := Ideal) x1 x7) I.y := by
  intro i
  simp only [
    val_main_v105_apply, val_main_v104_apply, val_main_v103_apply, val_main_v101_apply, val_main_v100_apply,
    val_main_v99_apply, val_main_v98_apply, val_main_v96_apply, val_main_v95_apply, val_main_v94_apply,
    val_main_v92_apply, r_v93 H _, r_v97 H _, r_v102 H _, H.h7 _, Ideal.addf_def, Ideal.mulf_def, ← EReal.coe_mul,
    ← EReal.coe_add]
  rfl

/-- The gated convolution. -/
theorem r_v106 (H : Holds I x0 x1 x2 x3 x4 x5 x6 x7 x8) : R2 (val_main_v106 (F := Ideal) x1 x7) I.co := by
  intro i
  simp only [
    val_main_v106_apply, val_main_v2_apply, r_v105 H _, H.h1 _, Ideal.mulf_def, ← EReal.coe_mul]
  rfl

/-- The scaled queries. -/
theorem r_v111 (H : Holds I x0 x1 x2 x3 x4 x5 x6 x7 x8) : R3 (val_main_v111 (F := Ideal) x1) fun s h d => I.q h s d := by
  intro i
  have h0 : (i 0).val < 2048 := (i 0).isLt
  have h1 : (i 1).val < 4 := (i 1).isLt
  have h2 : (i 2).val < 128 := (i 2).isLt
  simp only [
    val_main_v111_apply, val_main_v110_apply, val_main_cst_24_apply, val_main_v109_apply, val_main_v5_apply, H.h1 _,
    lit_scl, Ideal.mulf_def, Ideal.ofBits_def, ← EReal.coe_mul]
  unfold In.q
  exact congrArg Real.toEReal (congrArg₂ (· * ·) (congrArg₂ I.proj (show (((i 0).val * 4 + (i 1).val) * 128 + (i 2).val) / 512 = (i 0).val by omega)
    (congrArg (3840 + ·) (show (((i 0).val * 4 + (i 1).val) * 128 + (i 2).val) % 512 = (i 1).val * 128 + (i 2).val by omega))) rfl)

/-- The keys. -/
theorem r_v112 (H : Holds I x0 x1 x2 x3 x4 x5 x6 x7 x8) : R3 (val_main_v112 (F := Ideal) x2) fun m h d => I.k h m d := by
  intro i
  have h0 : (i 0).val < 256 := (i 0).isLt
  have h1 : (i 1).val < 4 := (i 1).isLt
  have h2 : (i 2).val < 128 := (i 2).isLt
  rw [val_main_v112_apply, val_main_v107_apply, H.h2]
  exact cg2 I.kv (show (((i 0).val * 4 + (i 1).val) * 128 + (i 2).val) / 512 = (i 0).val by omega)
    (show (((i 0).val * 4 + (i 1).val) * 128 + (i 2).val) % 512 = (i 1).val * 128 + (i 2).val by omega)

/-- The values. -/
theorem r_v113 (H : Holds I x0 x1 x2 x3 x4 x5 x6 x7 x8) : R3 (val_main_v113 (F := Ideal) x2) fun m h d => I.v h m d := by
  intro i
  have h0 : (i 0).val < 256 := (i 0).isLt
  have h1 : (i 1).val < 4 := (i 1).isLt
  have h2 : (i 2).val < 128 := (i 2).isLt
  rw [val_main_v113_apply, val_main_v108_apply, H.h2]
  exact cg2 I.kv (show (((i 0).val * 4 + (i 1).val) * 128 + (i 2).val) / 512 = (i 0).val by omega) (congrArg (512 + ·) (show (((i 0).val * 4 + (i 1).val) * 128 + (i 2).val) % 512 = (i 1).val * 128 + (i 2).val by omega))

/-- The attention scores. -/
theorem r_v114 (H : Holds I x0 x1 x2 x3 x4 x5 x6 x7 x8) : R3 (val_main_v114 (F := Ideal) x1 x2) I.sco := by
  intro i
  simp only [
    val_main_v114_apply, r_v111 H _, r_v112 H _, ← EReal.coe_mul, sum_real]
  rfl

/-- The largest score of a row. -/
theorem r_v115 (H : Holds I x0 x1 x2 x3 x4 x5 x6 x7 x8) : R2 (val_main_v115 (F := Ideal) x1 x2) I.mx := by
  intro i
  unfold val_main_v115
  rw [Host.reduce_eq_fold_single _ _ _ _ (by decide)]
  refine Eq.trans ?_ (fold_max_real fun m : Fin 256 => I.sco (i 0).val (i 1).val m)
  refine congrArg₂ (fun b f => Finset.univ.fold max b f) ?_ (funext fun m => ?_)
  · exact (val_main_cst_25_apply _).trans lit_bot
  · exact r_v114 H _

/-- The shifted exponentials. -/
theorem r_v135 (H : Holds I x0 x1 x2 x3 x4 x5 x6 x7 x8) : R3 (val_main_v135 (F := Ideal) x1 x2) I.ex := by
  intro i
  simp only [
    val_main_v135_apply, val_main_v134_apply, val_main_v133_apply, val_main_v132_apply, val_main_v122_apply,
    val_main_v121_apply, val_main_cst_27_apply, r_v114 H _, r_v115 H _, lit_bot, max_eq_right bot_le,
    Ideal.hostUnary_exp_def, Ideal.maximumf_def, Ideal.subf_def, ← EReal.coe_sub, Ideal.exp_coe]
  rfl

/-- Their sum. -/
theorem r_v137 (H : Holds I x0 x1 x2 x3 x4 x5 x6 x7 x8) : R3 (val_main_v137 (F := Ideal) x1 x2) fun h s _ => I.Z h s := by
  intro i
  simp only [
    val_main_v137_apply, val_main_v136_apply, val_main_cst_33_apply, r_v135 H _, lit_0, Ideal.ofBits_def,
    ← EReal.coe_mul, sum_real, zero_add_real, zero_add]
  rfl

/-- The attention's weights. -/
theorem r_v139 (H : Holds I x0 x1 x2 x3 x4 x5 x6 x7 x8) : R3 (val_main_v139 (F := Ideal) x1 x2) I.pr := by
  intro i
  simp only [
    val_main_v139_apply, val_main_v138_apply, r_v135 H _, r_v137 H _, div_real (I.Z_pos _ _).ne', Ideal.hostDivf_def]
  rfl

/-- The reciprocal of the squared sum. -/
theorem r_v142 (H : Holds I x0 x1 x2 x3 x4 x5 x6 x7 x8) : R3 (val_main_v142 (F := Ideal) x1 x2) fun h s _ => 1 / (I.Z h s * I.Z h s) := by
  intro i
  simp only [
    val_main_v142_apply, val_main_v141_apply, val_main_cst_34_apply, val_main_v140_apply, r_v137 H _,
    div_real (mul_pos (I.Z_pos _ _) (I.Z_pos _ _)).ne', lit_1, Ideal.hostDivf_def, Ideal.mulf_def, Ideal.ofBits_def,
    ← EReal.coe_mul]

/-- The attention's output. -/
theorem r_v145 (H : Holds I x0 x1 x2 x3 x4 x5 x6 x7 x8) : R2 (val_main_v145 (F := Ideal) x1 x2) I.mo := by
  intro i
  have h0 : (i 0).val < 2048 := (i 0).isLt
  have h1 : (i 1).val < 512 := (i 1).isLt
  simp only [
    val_main_v145_apply, val_main_v144_apply, val_main_v143_apply, r_v113 H _, r_v139 H _, ← EReal.coe_mul, sum_real]
  refine congrArg Real.toEReal (Finset.sum_congr rfl fun m _ => (mul_comm _ _).trans (congrArg₂ (· * ·) ?_ ?_))
  · exact congrArg₂ (fun a b => I.pr a b m) (show ((i 0).val * 512 + (i 1).val) / 128 % 4 = (i 1).val / 128 by omega) (show ((i 0).val * 512 + (i 1).val) / 512 = (i 0).val by omega)
  · exact congrArg₂ (fun a b => I.v a m b) (show ((i 0).val * 512 + (i 1).val) / 128 % 4 = (i 1).val / 128 by omega) (show ((i 0).val * 512 + (i 1).val) % 128 = (i 1).val % 128 by omega)

/-- All heads' outputs side by side. -/
theorem r_v146 (H : Holds I x0 x1 x2 x3 x4 x5 x6 x7 x8) : R2 (val_main_v146 (F := Ideal) x1 x2 x3 x4 x5 x6 x7) I.hd := by
  intro i
  have hi : (i 1).val < 2048 := (i 1).isLt
  unfold val_main_v146 In.hd
  by_cases h : (i 1).val < 768
  · rw [if_pos h]
    exact cat2 _ _ i 0 (by show 0 < 3; decide) _ rfl 0 rfl (Nat.zero_le _) (by omega) (r_v87 H)
  · rw [if_neg h]
    by_cases h' : (i 1).val < 1536
    · rw [if_pos h']
      exact cat2 _ _ i 1 (by show 1 < 3; decide) _ rfl 768 rfl (by omega) (by omega) (r_v106 H)
    · rw [if_neg h']
      exact cat2 _ _ i 2 (by show 2 < 3; decide) _ rfl 1536 rfl (by omega) (by omega) (r_v145 H)

/-- All heads' outputs, by head. -/
theorem r_v147 (H : Holds I x0 x1 x2 x3 x4 x5 x6 x7 x8) : R3 (val_main_v147 (F := Ideal) x1 x2 x3 x4 x5 x6 x7) fun s g d => I.hd s (g * 128 + d) := by
  intro i
  have h0 : (i 0).val < 2048 := (i 0).isLt
  have h1 : (i 1).val < 16 := (i 1).isLt
  have h2 : (i 2).val < 128 := (i 2).isLt
  rw [val_main_v147_apply, r_v146 H]
  exact cg2 I.hd (show (((i 0).val * 16 + (i 1).val) * 128 + (i 2).val) / 2048 = (i 0).val by omega)
    (show (((i 0).val * 16 + (i 1).val) * 128 + (i 2).val) % 2048 = (i 1).val * 128 + (i 2).val by omega)

/-- The mean square of a head's row plus the small number. -/
theorem r_v154 (H : Holds I x0 x1 x2 x3 x4 x5 x6 x7 x8) : R3 (val_main_v154 (F := Ideal) x1 x2 x3 x4 x5 x6 x7) fun s g _ => I.ms g s := by
  intro i
  simp only [
    val_main_v154_apply, val_main_v153_apply, val_main_cst_37_apply, val_main_v152_apply, val_main_v151_apply,
    val_main_cst_36_apply, val_main_v150_apply, val_main_v149_apply, val_main_cst_35_apply, val_main_v148_apply,
    r_v147 H _, lit_0, lit_128, lit_eps, Ideal.addf_def, Ideal.hostDivf_def, Ideal.mulf_def, Ideal.ofBits_def,
    ← EReal.coe_mul, ← EReal.coe_add, sum_real, zero_add_real, zero_add, div_128]
  rfl

/-- The reciprocal root mean square of a head's row. -/
theorem r_v155 (H : Holds I x0 x1 x2 x3 x4 x5 x6 x7 x8) : R3 (val_main_v155 (F := Ideal) x1 x2 x3 x4 x5 x6 x7) fun s g _ => I.rs g s := by
  intro i
  simp only [
    val_main_v155_apply, r_v154 H _, rsqrt_real (I.ms_pos _ _), Ideal.hostUnary_rsqrt_def]
  rfl

/-- The normed heads. -/
theorem r_v161 (H : Holds I x0 x1 x2 x3 x4 x5 x6 x7 x8) : R2 (val_main_v161 (F := Ideal) x1 x2 x3 x4 x5 x6 x7) fun s j => I.hd s j * I.rs (j / 128) s := by
  intro i
  have h0 : (i 0).val < 2048 := (i 0).isLt
  have h1 : (i 1).val < 2048 := (i 1).isLt
  simp only [
    val_main_v161_apply, val_main_v160_apply, val_main_v159_apply, r_v147 H _, r_v155 H _, Ideal.mulf_def,
    ← EReal.coe_mul]
  refine (cg3 (fun s g d => I.hd s (g * 128 + d) * I.rs g s)
    (show ((i 0).val * 2048 + (i 1).val) / 2048 = (i 0).val by omega)
    (show ((i 0).val * 2048 + (i 1).val) / 128 % 16 = (i 1).val / 128 by omega)
    (show ((i 0).val * 2048 + (i 1).val) % 128 = (i 1).val % 128 by omega)).trans ?_
  rw [Nat.div_add_mod']

end Cert.Mix

end
-- ==== Proof.Finite.lean ====
/- Where the precondition holds, the arguments are arrays of real numbers. -/
module

public import proofs.«01_k».proof.Defs
public import proofs.«01_k».proof.Proof.Gen.KernelIdeal
public import proofs.«01_k».proof.Proof.Gen.Pre_finite
public import proofs.«01_k».proof.Proof.RefFwd

@[expose] public section

set_option maxRecDepth 16384

noncomputable section

namespace Cert.Mix

open Cert.KernelIdeal Cert.KernelIdeal.Gen Idealize.ShloMosaic Idealize.ShloMosaic.TcCoe Idealize.SL.Sem

/-- The literal for infinity. -/
theorem lit_top : Ideal.ofBits .f32 0x7F800000#32 = (⊤ : EReal) := by
  simp [Ideal.ofBits, Ideal.ieee]

/-- A number whose magnitude is below infinity is a real number. -/
theorem real_of_lt {x : EReal} (h : Ideal.cmp .olt (max x (-x)) (⊤ : EReal) = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

/-- The real number an array holds at one place, zero outside the array. -/
def real2 {a b : ℕ} (x : (⟨2, ![a, b]⟩ : Shape).Idx → EReal) (i j : ℕ) : ℝ :=
  if h : i < a ∧ j < b then (x (ValueIdx.ix2 ⟨i, h.1⟩ ⟨j, h.2⟩)).toReal else 0

/-- The real number a stack holds at one place, zero outside the stack. -/
def real3 {a b d : ℕ} (x : (⟨3, ![a, b, d]⟩ : Shape).Idx → EReal) (i j k : ℕ) : ℝ :=
  if h : i < a ∧ j < b ∧ k < d then (x (ValueIdx.ix3 ⟨i, h.1⟩ ⟨j, h.2.1⟩ ⟨k, h.2.2⟩)).toReal else 0

/-- A matrix all of whose magnitudes are below infinity holds real numbers. -/
theorem R2.of_lt {a b : ℕ} {x : (⟨2, ![a, b]⟩ : Shape).Idx → EReal}
    (h : ∀ i, Ideal.cmp .olt (max (x i) (-(x i))) (Ideal.ofBits .f32 0x7F800000#32) = 1#1) : R2 x (real2 x) := by
  intro i
  have e : (ValueIdx.ix2 ⟨(i 0).val, (i 0).isLt⟩ ⟨(i 1).val, (i 1).isLt⟩ : (⟨2, ![a, b]⟩ : Shape).Idx) = i := by
    funext k; match k with | 0 => rfl | 1 => rfl
  unfold real2
  rw [dif_pos ⟨(i 0).isLt, (i 1).isLt⟩, e]
  exact real_of_lt (lit_top ▸ h i)

/-- A stack all of whose magnitudes are below infinity holds real numbers. -/
theorem R3.of_lt {a b d : ℕ} {x : (⟨3, ![a, b, d]⟩ : Shape).Idx → EReal}
    (h : ∀ i, Ideal.cmp .olt (max (x i) (-(x i))) (Ideal.ofBits .f32 0x7F800000#32) = 1#1) : R3 x (real3 x) := by
  intro i
  have e : (ValueIdx.ix3 ⟨(i 0).val, (i 0).isLt⟩ ⟨(i 1).val, (i 1).isLt⟩ ⟨(i 2).val, (i 2).isLt⟩ : (⟨3, ![a, b, d]⟩ : Shape).Idx) = i := by
    funext k; match k with | 0 => rfl | 1 => rfl | 2 => rfl
  unfold real3
  rw [dif_pos ⟨(i 0).isLt, (i 1).isLt, (i 2).isLt⟩, e]
  exact real_of_lt (lit_top ▸ h i)

/-- The real numbers in nine arrays. -/
def In.of (x0 : (⟨S2048x2048, .f32⟩ : BufTy).Contents (Elt Ideal)) (x1 : (⟨S2048x4352, .f32⟩ : BufTy).Contents (Elt Ideal))
    (x2 : (⟨S256x1024, .f32⟩ : BufTy).Contents (Elt Ideal)) (x3 : (⟨S6x128x128, .f32⟩ : BufTy).Contents (Elt Ideal))
    (x4 : (⟨S6x128, .f32⟩ : BufTy).Contents (Elt Ideal)) (x5 x6 : (⟨S1x768, .f32⟩ : BufTy).Contents (Elt Ideal))
    (x7 : (⟨S3x768, .f32⟩ : BufTy).Contents (Elt Ideal)) (x8 : (⟨S1x2048, .f32⟩ : BufTy).Contents (Elt Ideal)) : In where
  dhn := real2 x0
  proj := real2 x1
  kv := real2 x2
  ws := real3 x3
  bs := real2 x4
  lng := real2 x5
  lnb := real2 x6
  cw := real2 x7
  gh := real2 x8

/-- The real numbers in the kernel's arguments. -/
def In.ofMem (m : (ℓ : Loc nD τ sig) → Buf (Elt Ideal) ℓ) (c : Dev nD) : In :=
  In.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- Under the precondition the kernel's arguments hold real numbers. -/
theorem holds (m : (ℓ : Loc nD τ sig) → Buf (Elt Ideal) ℓ)
    (h : @Cert.Pre_KernelIdeal_finite Cert.Pre_finite.Gen.facts m) (c : Dev nD) :
    Holds (In.ofMem m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  obtain ⟨h0, h1, h2, h3, h4, h5, h6, h7, h8⟩ := h c
  exact {
    h0 := R2.of_lt fun i => congrFun h0 i
    h1 := R2.of_lt fun i => congrFun h1 i
    h2 := R2.of_lt fun i => congrFun h2 i
    h3 := R3.of_lt fun i => congrFun h3 i
    h4 := R2.of_lt fun i => congrFun h4 i
    h5 := R2.of_lt fun i => congrFun h5 i
    h6 := R2.of_lt fun i => congrFun h6 i
    h7 := R2.of_lt fun i => congrFun h7 i
    h8 := R2.of_lt fun i => congrFun h8 i }

end Cert.Mix
end
-- ==== Proof.Sums.lean ====
/- Sums and layout reads the two programs share: rows padded with zeros, a sum over the first and the last of four axes, and
   a sum of products against a shifted factor. -/
module

public import proofs.«01_k».proof.Proof.Spec
public import Idealize.ShloMosaic.Lib.KernelVsHost
public import Idealize.ShloMosaic.Lib.IdealHost

@[expose] public section

set_option maxRecDepth 16384

noncomputable section

namespace Cert.Mix

open Idealize.ShloMosaic

/-- Rows padded with zeros above and below. -/
theorem pad_rows {n N M : ℕ} {u : Shape} (lo hi : ℕ) (x : (⟨2, ![n, M]⟩ : Shape).Idx → EReal) (z : u.Idx → EReal)
    (h : (⟨2, ![n, M]⟩ : Shape).Pads ![lo, 0] ![hi, 0] ![0, 0] ⟨2, ![N, M]⟩) (hu : 0 < u.numel)
    (hz : ∀ i, z i = ((0 : ℝ) : EReal)) {f : ℕ → ℕ → ℝ} (hf : R2 x f) :
    R2 (pad ⟨2, ![N, M]⟩ ![lo, 0] ![hi, 0] ![0, 0] x z h hu) fun s j => if lo ≤ s ∧ s < lo + n then f (s - lo) j else 0 := by
  intro i
  beta_reduce
  by_cases hc : lo ≤ (i 0).val ∧ (i 0).val < lo + n
  · rw [if_pos hc, pad_apply_of_inside _ _ _ x z h hu i
      (fun b => match b with | ⟨0, _⟩ => ⟨(i 0).val - lo, by show (i 0).val - lo < n; omega⟩ | ⟨1, _⟩ => ⟨(i 1).val, (i 1).isLt⟩)
      (fun b => by
        match b with
        | ⟨0, _⟩ => show (i 0).val = lo + ((i 0).val - lo) * (0 + 1); omega
        | ⟨1, _⟩ => show (i 1).val = 0 + (i 1).val * (0 + 1); omega), hf]
    rfl
  · rw [if_neg hc, pad_apply_of_not_inside _ _ _ x z h hu i (0 : Fin 2) (by
      show ¬(lo ≤ (i 0).val ∧ ((i 0).val - lo) % (0 + 1) = 0 ∧ ((i 0).val - lo) / (0 + 1) < n)
      intro hh
      rw [Nat.div_one] at hh
      omega), hz]

/-- The source indices that a reduction of the first and last of four axes sends to `j`. -/
theorem fiber_axes03 {n0 n1 n2 n3 : ℕ} (h : (⟨4, ![n0, n1, n2, n3]⟩ : Shape).ReducesTo [0, 3] ⟨2, ![n1, n2]⟩)
    (j : (⟨2, ![n1, n2]⟩ : Shape).Idx) (i : (⟨4, ![n0, n1, n2, n3]⟩ : Shape).Idx) :
    h.drop i = j ↔ ∃ k : Fin n0 × Fin n3, (ix4 k.1 (j 0) (j 1) k.2 : (⟨4, ![n0, n1, n2, n3]⟩ : Shape).Idx) = i := by
  constructor
  · intro e
    refine ⟨(i 0, i 3), ?_⟩
    funext a; apply Fin.ext
    match a with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext b
    apply Fin.ext
    match b with
    | ⟨0, _⟩ => rfl
    | ⟨1, _⟩ => rfl

/-- A sum over the first and the last of four axes. -/
theorem sum_axes03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (j : (⟨2, ![n1, n2]⟩ : Shape).Idx) :
    Ideal.hostReduceAdd h x init j = init + ∑ a : Fin n0, ∑ d : Fin n3, x (ix4 a (j 0) (j 1) d) := by
  unfold Ideal.hostReduceAdd
  refine congrArg (init + ·) ?_
  refine (Finset.sum_filter_eq_sum_of_fiber _
    (fun k : Fin n0 × Fin n3 => (ix4 k.1 (j 0) (j 1) k.2 : (⟨4, ![n0, n1, n2, n3]⟩ : Shape).Idx))
    (fun _ _ e => Prod.ext (congrFun e 0) (congrFun e 3)) (fiber_axes03 h j) x).trans ?_
  exact Fintype.sum_prod_type _

/-- A sum of products against a factor shifted down by `k`, zero in its first `k` rows, when the other factor is zero from
    `n` on. -/
theorem sum_shift (n k : ℕ) (hk : k ≤ n) (a b : ℕ → ℝ) (ha : ∀ s, n ≤ s → a s = 0) :
    ∑ s : Fin n, a s * (if s.val < k then 0 else b (s - k)) = ∑ s : Fin n, a (s + k) * b s := by
  rw [Fin.sum_univ_eq_sum_range (fun s => a s * (if s < k then 0 else b (s - k))) n,
    Fin.sum_univ_eq_sum_range (fun s => a (s + k) * b s) n]
  obtain ⟨m, rfl⟩ := Nat.exists_eq_add_of_le hk
  rw [Finset.sum_range_add (fun s => a s * (if s < k then 0 else b (s - k)))]
  rw [Finset.sum_eq_zero (fun s hs => by rw [if_pos (Finset.mem_range.mp hs), mul_zero]), zero_add]
  rw [Nat.add_comm k m, Finset.sum_range_add (fun s => a (s + k) * b s)]
  rw [Finset.sum_eq_zero (s := Finset.range k) (fun s _ => by rw [ha _ (by omega), zero_mul]), add_zero]
  refine Finset.sum_congr rfl fun s _ => ?_
  rw [if_neg (by omega), Nat.add_comm k s, Nat.add_sub_cancel]

end Cert.Mix

end
-- ==== Proof.RefBwdHead.lean ====
/- The backward stages of the reference's per-head RMS norm. -/
module

public import proofs.«01_k».proof.Proof.RefFwd
public import proofs.«01_k».proof.Proof.Sums

@[expose] public section

set_option maxRecDepth 16384

noncomputable section

namespace Cert.Mix

open Cert.ReferenceIdeal Cert.ReferenceIdeal.Gen Cert.ReferenceIdeal.Read Idealize.ShloMosaic

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The reciprocal root mean square, squared, is the reciprocal of the mean square. -/
theorem In.rs_sq (I : In) (g s : ℕ) : I.rs g s * I.rs g s = (I.ms g s)⁻¹ := by
  unfold In.rs
  rw [← mul_inv, Real.mul_self_sqrt (I.ms_pos g s).le]

/-- The derivative of the reciprocal root, up to the operand's own. -/
theorem r_v158 (H : Holds I x0 x1 x2 x3 x4 x5 x6 x7 x8) : R3 (val_main_v158 (F := Ideal) x1 x2 x3 x4 x5 x6 x7) fun s g _ => -(1 / 2) * (I.rs g s / I.ms g s) := by
  intro i
  simp only [
    val_main_v158_apply, val_main_v157_apply, val_main_cst_38_apply, val_main_v156_apply, r_v155 H _, r_v154 H _,
    div_real (I.ms_pos _ _).ne', lit_nhalf, Ideal.hostDivf_def, Ideal.mulf_def, Ideal.ofBits_def, ← EReal.coe_mul]

/-- The gradient of the heads' gain. -/
theorem r_v166 (H : Holds I x0 x1 x2 x3 x4 x5 x6 x7 x8) : R2 (val_main_v166 (F := Ideal) x0 x1 x2 x3 x4 x5 x6 x7) fun _ j => I.dgh j := by
  intro i
  have h0 : (i 0).val < 1 := (i 0).isLt
  have h1 : (i 1).val < 2048 := (i 1).isLt
  simp only [
    val_main_v166_apply, val_main_v165_apply, val_main_cst_39_apply, val_main_v164_apply, r_v161 H _, H.h0 _, lit_0,
    Ideal.mulf_def, Ideal.ofBits_def, ← EReal.coe_mul, sum_real, zero_add_real, zero_add]
  refine congrArg Real.toEReal (Finset.sum_congr rfl fun s _ => (mul_comm _ _).trans ?_)
  exact congrArg (fun j => I.dhn s j * (I.hd s j * I.rs (j / 128) s)) (show (i 0).val * 2048 + (i 1).val = (i 1).val by omega)

/-- The cotangent times the gain. -/
theorem r_v168 (H : Holds I x0 x1 x2 x3 x4 x5 x6 x7 x8) : R2 (val_main_v168 (F := Ideal) x0 x8) I.dt := by
  intro i
  simp only [
    val_main_v168_apply, val_main_v167_apply, H.h0 _, H.h8 _, Ideal.mulf_def, ← EReal.coe_mul]
  rfl

/-- The cotangent times the gain, by head. -/
theorem r_v169 (H : Holds I x0 x1 x2 x3 x4 x5 x6 x7 x8) : R3 (val_main_v169 (F := Ideal) x0 x8) fun s g d => I.dt s (g * 128 + d) := by
  intro i
  have h0 : (i 0).val < 2048 := (i 0).isLt
  have h1 : (i 1).val < 16 := (i 1).isLt
  have h2 : (i 2).val < 128 := (i 2).isLt
  rw [val_main_v169_apply, r_v168 H]
  exact cg2 I.dt (show (((i 0).val * 16 + (i 1).val) * 128 + (i 2).val) / 2048 = (i 0).val by omega)
      (show (((i 0).val * 16 + (i 1).val) * 128 + (i 2).val) % 2048 = (i 1).val * 128 + (i 2).val by omega)

/-- A head's inner product of its row and the cotangent. -/
theorem r_v171 (H : Holds I x0 x1 x2 x3 x4 x5 x6 x7 x8) : R2 (val_main_v171 (F := Ideal) x0 x1 x2 x3 x4 x5 x6 x7 x8) fun s g => ∑ d : Fin 128, I.hd s (g * 128 + d) * I.dt s (g * 128 + d) := by
  intro i
  simp only [
    val_main_v171_apply, val_main_cst_40_apply, val_main_v170_apply, r_v147 H _, r_v169 H _, lit_0, Ideal.mulf_def,
    Ideal.ofBits_def, ← EReal.coe_mul, sum_real, zero_add_real, zero_add]

/-- The same, with a unit axis. -/
theorem r_v172 (H : Holds I x0 x1 x2 x3 x4 x5 x6 x7 x8) : R3 (val_main_v172 (F := Ideal) x0 x1 x2 x3 x4 x5 x6 x7 x8) fun s g _ => ∑ d : Fin 128, I.hd s (g * 128 + d) * I.dt s (g * 128 + d) := by
  intro i
  have h0 : (i 0).val < 2048 := (i 0).isLt
  have h1 : (i 1).val < 16 := (i 1).isLt
  have h2 : (i 2).val < 1 := (i 2).isLt
  rw [val_main_v172_apply, r_v171 H]
  exact cg2 (fun s g => ∑ d : Fin 128, I.hd s (g * 128 + d) * I.dt s (g * 128 + d)) (show (((i 0).val * 16 + (i 1).val) * 1 + (i 2).val) / 16 = (i 0).val by omega)
      (show (((i 0).val * 16 + (i 1).val) * 1 + (i 2).val) % 16 = (i 1).val by omega)

/-- The gradient that reaches a head's mean square. -/
theorem r_v178 (H : Holds I x0 x1 x2 x3 x4 x5 x6 x7 x8) : R2 (val_main_v178 (F := Ideal) x0 x1 x2 x3 x4 x5 x6 x7 x8) fun s g =>
    (∑ d : Fin 128, I.hd s (g * 128 + d) * I.dt s (g * 128 + d)) * (-(1 / 2) * (I.rs g s / I.ms g s)) / 128 := by
  intro i
  simp only [
    val_main_v178_apply, val_main_cst_42_apply, val_main_v177_apply, val_main_v176_apply, val_main_cst_41_apply,
    val_main_v175_apply, r_v172 H _, r_v158 H _, Fin.sum_univ_one, lit_0, lit_128, Ideal.hostDivf_def,
    Ideal.mulf_def, Ideal.ofBits_def, ← EReal.coe_mul, sum_real, zero_add_real, zero_add, div_128]

/-- The gradient of the heads' outputs, by head, as the reference sums it. -/
theorem r_v183 (H : Holds I x0 x1 x2 x3 x4 x5 x6 x7 x8) : R3 (val_main_v183 (F := Ideal) x0 x1 x2 x3 x4 x5 x6 x7 x8) fun s g d => I.dh s (g * 128 + d) := by
  intro i
  simp only [
    val_main_v183_apply, val_main_v182_apply, val_main_v181_apply, val_main_v180_apply, val_main_v179_apply,
    val_main_v174_apply, val_main_v173_apply, r_v147 H _, r_v169 H _, r_v178 H _, r_v155 H _, Ideal.addf_def,
    Ideal.mulf_def, ← EReal.coe_mul, ← EReal.coe_add]
  refine congrArg Real.toEReal ?_
  have hi : (i 2).val < 128 := (i 2).isLt
  show I.dt (i 0).val ((i 1).val * 128 + (i 2).val) * I.rs (i 1).val (i 0).val
    + I.hd (i 0).val ((i 1).val * 128 + (i 2).val) * ((∑ d : Fin 128, I.hd (i 0).val ((i 1).val * 128 + d) * I.dt (i 0).val ((i 1).val * 128 + d))
      * (-(1 / 2) * (I.rs (i 1).val (i 0).val / I.ms (i 1).val (i 0).val)) / 128)
    + (∑ d : Fin 128, I.hd (i 0).val ((i 1).val * 128 + d) * I.dt (i 0).val ((i 1).val * 128 + d))
      * (-(1 / 2) * (I.rs (i 1).val (i 0).val / I.ms (i 1).val (i 0).val)) / 128 * I.hd (i 0).val ((i 1).val * 128 + (i 2).val)
    = I.dh (i 0).val ((i 1).val * 128 + (i 2).val)
  generalize (i 0).val = s
  generalize (i 1).val = g
  generalize (i 2).val = d at *
  unfold In.dh In.inn
  rw [show (g * 128 + d) / 128 = g by omega]
  have hS : ∑ e : Fin 128, I.dt s (g * 128 + e) * (I.hd s (g * 128 + e) * I.rs g s)
      = I.rs g s * ∑ e : Fin 128, I.hd s (g * 128 + e) * I.dt s (g * 128 + e) := by
    rw [Finset.mul_sum]
    exact Finset.sum_congr rfl fun _ _ => by ring
  rw [hS, div_eq_mul_inv (I.rs g s), ← I.rs_sq]
  ring

/-- The gradient of the heads' outputs. -/
theorem r_v184 (H : Holds I x0 x1 x2 x3 x4 x5 x6 x7 x8) : R2 (val_main_v184 (F := Ideal) x0 x1 x2 x3 x4 x5 x6 x7 x8) I.dh := by
  intro i
  have h0 : (i 0).val < 2048 := (i 0).isLt
  have h1 : (i 1).val < 2048 := (i 1).isLt
  rw [val_main_v184_apply, r_v183 H]
  refine (cg3 (fun s g d => I.dh s (g * 128 + d)) (show ((i 0).val * 2048 + (i 1).val) / 2048 = (i 0).val by omega)
      (show ((i 0).val * 2048 + (i 1).val) / 128 % 16 = (i 1).val / 128 by omega)
      (show ((i 0).val * 2048 + (i 1).val) % 128 = (i 1).val % 128 by omega)).trans ?_
  rw [Nat.div_add_mod']

end Cert.Mix

end
-- ==== Proof.RefBwdMem.lean ====
/- The backward stages of the reference's attention over the memory. -/
module

public import proofs.«01_k».proof.Proof.RefBwdHead

@[expose] public section

set_option maxRecDepth 16384

noncomputable section

namespace Cert.Mix

open Cert.ReferenceIdeal Cert.ReferenceIdeal.Gen Cert.ReferenceIdeal.Read Idealize.ShloMosaic

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The gradient of the memory heads' outputs. -/
theorem r_v188 (H : Holds I x0 x1 x2 x3 x4 x5 x6 x7 x8) : R3 (val_main_v188 (F := Ideal) x0 x1 x2 x3 x4 x5 x6 x7 x8) fun s h d => I.dmo h s d := by
  intro i
  have h0 : (i 0).val < 2048 := (i 0).isLt
  have h1 : (i 1).val < 4 := (i 1).isLt
  have h2 : (i 2).val < 128 := (i 2).isLt
  rw [val_main_v188_apply, val_main_v187_apply, r_v184 H]
  exact cg2 I.dh (show (((i 0).val * 4 + (i 1).val) * 128 + (i 2).val) / 512 = (i 0).val by omega) (congrArg (1536 + ·) (show (((i 0).val * 4 + (i 1).val) * 128 + (i 2).val) % 512 = (i 1).val * 128 + (i 2).val by omega))

/-- The same, head first and lane before row. -/
theorem r_v189 (H : Holds I x0 x1 x2 x3 x4 x5 x6 x7 x8) : R3 (val_main_v189 (F := Ideal) x0 x1 x2 x3 x4 x5 x6 x7 x8) fun h d s => I.dmo h s d := by
  intro i
  rw [val_main_v189_apply, r_v188 H]

/-- The gradient of the attention's weights. -/
theorem r_v190 (H : Holds I x0 x1 x2 x3 x4 x5 x6 x7 x8) : R3 (val_main_v190 (F := Ideal) x0 x1 x2 x3 x4 x5 x6 x7 x8) I.dp := by
  intro i
  simp only [
    val_main_v190_apply, r_v189 H _, r_v113 H _, ← EReal.coe_mul, sum_real]
  rfl

/-- The gradient of the memory's values, by head. -/
theorem r_v192 (H : Holds I x0 x1 x2 x3 x4 x5 x6 x7 x8) : R3 (val_main_v192 (F := Ideal) x0 x1 x2 x3 x4 x5 x6 x7 x8) fun m h d => ∑ s : Fin 2048, I.pr h s m * I.dmo h s d := by
  intro i
  simp only [
    val_main_v192_apply, val_main_v191_apply, r_v189 H _, r_v139 H _, ← EReal.coe_mul, sum_real]
  exact congrArg Real.toEReal (Finset.sum_congr rfl fun s _ => mul_comm _ _)

/-- The gradient of the memory's values. -/
theorem r_v209 (H : Holds I x0 x1 x2 x3 x4 x5 x6 x7 x8) : R2 (val_main_v209 (F := Ideal) x0 x1 x2 x3 x4 x5 x6 x7 x8) I.dvv := by
  intro i
  have h0 : (i 0).val < 256 := (i 0).isLt
  have h1 : (i 1).val < 512 := (i 1).isLt
  rw [val_main_v209_apply, r_v192 H]
  exact cg3 (fun m h d => ∑ s : Fin 2048, I.pr h s m * I.dmo h s d)
    (show ((i 0).val * 512 + (i 1).val) / 512 = (i 0).val by omega)
      (show ((i 0).val * 512 + (i 1).val) / 128 % 4 = (i 1).val / 128 by omega)
      (show ((i 0).val * 512 + (i 1).val) % 128 = (i 1).val % 128 by omega)

/-- The sum that the softmax's quotient rule subtracts. -/
theorem r_v196 (H : Holds I x0 x1 x2 x3 x4 x5 x6 x7 x8) : R2 (val_main_v196 (F := Ideal) x0 x1 x2 x3 x4 x5 x6 x7 x8) fun h s => ∑ m : Fin 256, I.dp h s m * (1 / (I.Z h s * I.Z h s)) * I.ex h s m := by
  intro i
  simp only [
    val_main_v196_apply, val_main_cst_43_apply, val_main_v195_apply, val_main_v194_apply, val_main_v193_apply,
    r_v190 H _, r_v142 H _, r_v135 H _, lit_0, Ideal.mulf_def, Ideal.ofBits_def, ← EReal.coe_mul, sum_real,
    zero_add_real, zero_add]

/-- Its negative. -/
theorem r_v201 (H : Holds I x0 x1 x2 x3 x4 x5 x6 x7 x8) : R2 (val_main_v201 (F := Ideal) x0 x1 x2 x3 x4 x5 x6 x7 x8) fun h s => -(∑ m : Fin 256, I.dp h s m * (1 / (I.Z h s * I.Z h s)) * I.ex h s m) := by
  intro i
  have h197 : R3 (val_main_v197 (F := Ideal) x0 x1 x2 x3 x4 x5 x6 x7 x8) fun h s _ => ∑ m : Fin 256, I.dp h s m * (1 / (I.Z h s * I.Z h s)) * I.ex h s m := by
    intro i
    have h0 : (i 0).val < 4 := (i 0).isLt
    have h1 : (i 1).val < 2048 := (i 1).isLt
    have h2 : (i 2).val < 1 := (i 2).isLt
    rw [val_main_v197_apply, r_v196 H]
    exact cg2 (fun h s => ∑ m : Fin 256, I.dp h s m * (1 / (I.Z h s * I.Z h s)) * I.ex h s m) (show (((i 0).val * 2048 + (i 1).val) * 1 + (i 2).val) / 2048 = (i 0).val by omega)
      (show (((i 0).val * 2048 + (i 1).val) * 1 + (i 2).val) % 2048 = (i 1).val by omega)
  simp only [
    val_main_v201_apply, val_main_cst_44_apply, val_main_v198_apply, h197 _, Fin.sum_univ_one, lit_0,
    Ideal.hostNegf_def, Ideal.ofBits_def, ← EReal.coe_mul, ← EReal.coe_neg, sum_real, zero_add_real, zero_add,
    Ideal.negf_def]

/-- The gradient of the scores. -/
theorem r_v204 (H : Holds I x0 x1 x2 x3 x4 x5 x6 x7 x8) : R3 (val_main_v204 (F := Ideal) x0 x1 x2 x3 x4 x5 x6 x7 x8) I.ds := by
  intro i
  simp only [
    val_main_v204_apply, val_main_v203_apply, val_main_v202_apply, val_main_v200_apply, val_main_v199_apply,
    r_v190 H _, r_v137 H _, r_v201 H _, r_v135 H _, div_real (I.Z_pos _ _).ne', Ideal.addf_def, Ideal.hostDivf_def,
    Ideal.mulf_def, ← EReal.coe_mul, ← EReal.coe_add]
  refine congrArg Real.toEReal ?_
  show (I.dp (i 0).val (i 1).val (i 2).val / I.Z (i 0).val (i 1).val
    + -(∑ m : Fin 256, I.dp (i 0).val (i 1).val m * (1 / (I.Z (i 0).val (i 1).val * I.Z (i 0).val (i 1).val)) * I.ex (i 0).val (i 1).val m))
      * I.ex (i 0).val (i 1).val (i 2).val = I.ds (i 0).val (i 1).val (i 2).val
  generalize (i 0).val = h
  generalize (i 1).val = s
  generalize (i 2).val = m
  unfold In.ds In.pr
  have hZ := (I.Z_pos h s).ne'
  have e1 : ∑ m : Fin 256, I.dp h s m * (1 / (I.Z h s * I.Z h s)) * I.ex h s m
      = (∑ m : Fin 256, I.dp h s m * I.ex h s m) / (I.Z h s * I.Z h s) := by
    rw [Finset.sum_div]
    exact Finset.sum_congr rfl fun _ _ => by ring
  have e2 : ∑ m : Fin 256, I.dp h s m * (I.ex h s m / I.Z h s) = (∑ m : Fin 256, I.dp h s m * I.ex h s m) / I.Z h s := by
    rw [Finset.sum_div]
    exact Finset.sum_congr rfl fun _ _ => by ring
  rw [e1, e2]
  field_simp
  ring

/-- The gradient of the memory's keys, by head. -/
theorem r_v206 (H : Holds I x0 x1 x2 x3 x4 x5 x6 x7 x8) : R3 (val_main_v206 (F := Ideal) x0 x1 x2 x3 x4 x5 x6 x7 x8) fun m h d => ∑ s : Fin 2048, I.ds h s m * I.q h s d := by
  intro i
  simp only [
    val_main_v206_apply, val_main_v205_apply, r_v204 H _, r_v111 H _, ← EReal.coe_mul, sum_real]

/-- The gradient of the memory's keys. -/
theorem r_v210 (H : Holds I x0 x1 x2 x3 x4 x5 x6 x7 x8) : R2 (val_main_v210 (F := Ideal) x0 x1 x2 x3 x4 x5 x6 x7 x8) I.dk := by
  intro i
  have h0 : (i 0).val < 256 := (i 0).isLt
  have h1 : (i 1).val < 512 := (i 1).isLt
  rw [val_main_v210_apply, r_v206 H]
  exact cg3 (fun m h d => ∑ s : Fin 2048, I.ds h s m * I.q h s d)
    (show ((i 0).val * 512 + (i 1).val) / 512 = (i 0).val by omega)
      (show ((i 0).val * 512 + (i 1).val) / 128 % 4 = (i 1).val / 128 by omega)
      (show ((i 0).val * 512 + (i 1).val) % 128 = (i 1).val % 128 by omega)

/-- The gradient of the queries, by head. -/
theorem r_v212 (H : Holds I x0 x1 x2 x3 x4 x5 x6 x7 x8) : R3 (val_main_v212 (F := Ideal) x0 x1 x2 x3 x4 x5 x6 x7 x8) fun s h d => (∑ m : Fin 256, I.ds h s m * I.k h m d) * scl := by
  intro i
  simp only [
    val_main_v212_apply, val_main_v211_apply, val_main_cst_45_apply, val_main_v208_apply, val_main_v207_apply,
    r_v204 H _, r_v112 H _, lit_scl, Ideal.mulf_def, Ideal.ofBits_def, ← EReal.coe_mul, sum_real]

/-- The gradient of the queries. -/
theorem r_v213 (H : Holds I x0 x1 x2 x3 x4 x5 x6 x7 x8) : R2 (val_main_v213 (F := Ideal) x0 x1 x2 x3 x4 x5 x6 x7 x8) I.dq := by
  intro i
  have h0 : (i 0).val < 2048 := (i 0).isLt
  have h1 : (i 1).val < 512 := (i 1).isLt
  rw [val_main_v213_apply, r_v212 H]
  exact cg3 (fun s h d => (∑ m : Fin 256, I.ds h s m * I.k h m d) * scl)
    (show ((i 0).val * 512 + (i 1).val) / 512 = (i 0).val by omega)
      (show ((i 0).val * 512 + (i 1).val) / 128 % 4 = (i 1).val / 128 by omega)
      (show ((i 0).val * 512 + (i 1).val) % 128 = (i 1).val % 128 by omega)

/-- The gradient of the memory's keys and values. -/
theorem r_v214 (H : Holds I x0 x1 x2 x3 x4 x5 x6 x7 x8) : R2 (val_main_v214 (F := Ideal) x0 x1 x2 x3 x4 x5 x6 x7 x8) I.dkv := by
  intro i
  have hi : (i 1).val < 1024 := (i 1).isLt
  unfold val_main_v214 In.dkv
  by_cases h : (i 1).val < 512
  · rw [if_pos h]
    exact cat2 _ _ i 0 (by show 0 < 2; decide) _ rfl 0 rfl (Nat.zero_le _) (by omega) (r_v210 H)
  · rw [if_neg h]
    exact cat2 _ _ i 1 (by show 1 < 2; decide) _ rfl 512 rfl (by omega) (by omega) (r_v209 H)

end Cert.Mix

end
-- ==== Proof.RefBwdConv.lean ====
/- The backward stages of the reference's gated convolution. -/
module

public import proofs.«01_k».proof.Proof.RefBwdHead

@[expose] public section

set_option maxRecDepth 16384

noncomputable section

namespace Cert.Mix

open Cert.ReferenceIdeal Cert.ReferenceIdeal.Gen Cert.ReferenceIdeal.Read Idealize.ShloMosaic

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The gradient of the convolution. -/
theorem r_v215 (H : Holds I x0 x1 x2 x3 x4 x5 x6 x7 x8) : R2 (val_main_v215 (F := Ideal) x0 x1 x2 x3 x4 x5 x6 x7 x8) I.dy := by
  intro i
  have hi : (i 0).val < 2048 := (i 0).isLt
  simp only [
    val_main_v215_apply, val_main_v2_apply, val_main_v186_apply, r_v184 H _, H.h1 _, Ideal.mulf_def, ← EReal.coe_mul]
  unfold In.dy
  rw [if_pos hi]
  exact congrArg Real.toEReal (mul_comm _ _)

/-- The gradient of the gate `b`. -/
theorem r_v216 (H : Holds I x0 x1 x2 x3 x4 x5 x6 x7 x8) : R2 (val_main_v216 (F := Ideal) x0 x1 x2 x3 x4 x5 x6 x7 x8) I.db := by
  intro i
  simp only [
    val_main_v216_apply, val_main_v186_apply, r_v184 H _, r_v105 H _, Ideal.mulf_def, ← EReal.coe_mul]
  rfl

/-- The gradient of the convolution's input after two rows of zeros. -/
theorem r_v239 (H : Holds I x0 x1 x2 x3 x4 x5 x6 x7 x8) : R2 (val_main_v239 (F := Ideal) x0 x1 x2 x3 x4 x5 x6 x7 x8) fun s j =>
    (if 2 ≤ s ∧ s < 2 + 2048 then I.cw 2 j * I.dy (s - 2) j else 0)
    + (if 1 ≤ s ∧ s < 1 + 2048 then I.cw 1 j * I.dy (s - 1) j else 0)
    + (if 0 ≤ s ∧ s < 0 + 2048 then I.cw 0 j * I.dy (s - 0) j else 0) := by
  intro i
  have h218 : R2 (val_main_v218 (F := Ideal) x0 x1 x2 x3 x4 x5 x6 x7 x8) fun s j => I.cw 2 j * I.dy s j := by
    intro i
    simp only [
    val_main_v218_apply, val_main_v217_apply, val_main_v101_apply, r_v215 H _, H.h7 _, Ideal.mulf_def, ← EReal.coe_mul]
  have h225 : R2 (val_main_v225 (F := Ideal) x0 x1 x2 x3 x4 x5 x6 x7 x8) fun s j => I.cw 1 j * I.dy s j := by
    intro i
    simp only [
    val_main_v225_apply, val_main_v224_apply, val_main_v96_apply, r_v215 H _, H.h7 _, Ideal.mulf_def, ← EReal.coe_mul]
  have h234 : R2 (val_main_v234 (F := Ideal) x0 x1 x2 x3 x4 x5 x6 x7 x8) fun s j => I.cw 0 j * I.dy s j := by
    intro i
    simp only [
    val_main_v234_apply, val_main_v233_apply, val_main_v92_apply, r_v215 H _, H.h7 _, Ideal.mulf_def, ← EReal.coe_mul]
  simp only [
    val_main_v239_apply, val_main_v230_apply, Ideal.addf_def, ← EReal.coe_add]
  unfold val_main_v222 val_main_v229 val_main_v238
  rw [pad_rows 2 0 _ _ _ _ (fun i => (val_main_cst_47_apply i).trans lit_0) h218,
    pad_rows 1 1 _ _ _ _ (fun i => (val_main_cst_50_apply i).trans lit_0) h225,
    pad_rows 0 2 _ _ _ _ (fun i => (val_main_cst_53_apply i).trans lit_0) h234]
  simp only [← EReal.coe_add]

/-- The gradient of the convolution's input. -/
theorem r_v243 (H : Holds I x0 x1 x2 x3 x4 x5 x6 x7 x8) : R2 (val_main_v243 (F := Ideal) x0 x1 x2 x3 x4 x5 x6 x7 x8) I.dxc := by
  intro i
  have hi : (i 0).val < 2048 := (i 0).isLt
  rw [val_main_v243_apply, r_v239 H]
  refine congrArg Real.toEReal ?_
  show (if 2 ≤ 2 + (i 0).val ∧ 2 + (i 0).val < 2 + 2048 then I.cw 2 (i 1).val * I.dy (2 + (i 0).val - 2) (i 1).val else 0)
    + (if 1 ≤ 2 + (i 0).val ∧ 2 + (i 0).val < 1 + 2048 then I.cw 1 (i 1).val * I.dy (2 + (i 0).val - 1) (i 1).val else 0)
    + (if 0 ≤ 2 + (i 0).val ∧ 2 + (i 0).val < 0 + 2048 then I.cw 0 (i 1).val * I.dy (2 + (i 0).val - 0) (i 1).val else 0)
    = I.dxc (i 0).val (i 1).val
  generalize (i 0).val = s at *
  generalize (i 1).val = j
  have hz (n : ℕ) (h : ¬n < 2048) : I.dy n j = 0 := by unfold In.dy; rw [if_neg h]
  unfold In.dxc
  rw [if_pos (by omega), show 2 + s - 2 = s by omega, show 2 + s - 1 = s + 1 by omega, show 2 + s - 0 = s + 2 by omega]
  by_cases h1 : s + 1 < 2048
  · rw [if_pos (by omega)]
    by_cases h2 : s + 2 < 2048
    · rw [if_pos (by omega)]
    · rw [if_neg (by omega), hz _ h2, mul_zero]
  · rw [if_neg (by omega), if_neg (by omega), hz _ h1, hz (s + 2) (by omega), mul_zero, mul_zero]

/-- The gradient of the convolution's other factor. -/
theorem r_v244 (H : Holds I x0 x1 x2 x3 x4 x5 x6 x7 x8) : R2 (val_main_v244 (F := Ideal) x0 x1 x2 x3 x4 x5 x6 x7 x8) I.dx := by
  intro i
  simp only [
    val_main_v244_apply, val_main_v3_apply, r_v243 H _, H.h1 _, Ideal.mulf_def, ← EReal.coe_mul]
  exact congrArg Real.toEReal (mul_comm _ _)

/-- The gradient of the gate `c`. -/
theorem r_v245 (H : Holds I x0 x1 x2 x3 x4 x5 x6 x7 x8) : R2 (val_main_v245 (F := Ideal) x0 x1 x2 x3 x4 x5 x6 x7 x8) I.dc := by
  intro i
  simp only [
    val_main_v245_apply, val_main_v4_apply, r_v243 H _, H.h1 _, Ideal.mulf_def, ← EReal.coe_mul]
  rfl

/-- A sum of products against the shifted input is the shifted sum. -/
theorem sum_dy_xp (I : In) (j r : ℕ) (hr : r < 3) :
    ∑ s : Fin 2048, I.dy s j * I.xp (s + r) j = ∑ s : Fin 2048, I.dy (s + (2 - r)) j * I.xc s j := by
  rw [← sum_shift 2048 (2 - r) (by omega) (fun s => I.dy s j) (fun s => I.xc s j) (fun s hs => by
    show I.dy s j = 0
    unfold In.dy; rw [if_neg (by omega)])]
  refine Finset.sum_congr rfl fun s _ => congrArg (I.dy s j * ·) ?_
  unfold In.xp
  by_cases h : s.val + r < 2
  · rw [if_pos h, if_pos (by omega)]
  · rw [if_neg h, if_neg (by omega), show s.val + r - 2 = s.val - (2 - r) by omega]

/-- The gradient of the taps, eight rows of which the last five are zero. -/
theorem r_v318 (H : Holds I x0 x1 x2 x3 x4 x5 x6 x7 x8) : R2 (val_main_v318 (F := Ideal) x0 x1 x2 x3 x4 x5 x6 x7 x8) I.dcw := by
  have h221 : R2 (val_main_v221 (F := Ideal) x0 x1 x2 x3 x4 x5 x6 x7 x8) fun _ j => ∑ s : Fin 2048, I.dy s j * I.xp (s + 2) j := by
    intro i
    have h0 : (i 0).val < 1 := (i 0).isLt
    have h1 : (i 1).val < 768 := (i 1).isLt
    simp only [
    val_main_v221_apply, val_main_v220_apply, val_main_cst_46_apply, val_main_v219_apply, r_v215 H _, r_v102 H _,
    lit_0, Ideal.mulf_def, Ideal.ofBits_def, ← EReal.coe_mul, sum_real, zero_add_real, zero_add]
    exact congrArg (fun j => ((∑ s : Fin 2048, I.dy s j * I.xp (s + 2) j : ℝ) : EReal)) (show (i 0).val * 768 + (i 1).val = (i 1).val by omega)
  have h228 : R2 (val_main_v228 (F := Ideal) x0 x1 x2 x3 x4 x5 x6 x7 x8) fun _ j => ∑ s : Fin 2048, I.dy s j * I.xp (s + 1) j := by
    intro i
    have h0 : (i 0).val < 1 := (i 0).isLt
    have h1 : (i 1).val < 768 := (i 1).isLt
    simp only [
    val_main_v228_apply, val_main_v227_apply, val_main_cst_49_apply, val_main_v226_apply, r_v215 H _, r_v97 H _,
    lit_0, Ideal.mulf_def, Ideal.ofBits_def, ← EReal.coe_mul, sum_real, zero_add_real, zero_add]
    exact congrArg (fun j => ((∑ s : Fin 2048, I.dy s j * I.xp (s + 1) j : ℝ) : EReal)) (show (i 0).val * 768 + (i 1).val = (i 1).val by omega)
  have h237 : R2 (val_main_v237 (F := Ideal) x0 x1 x2 x3 x4 x5 x6 x7 x8) fun _ j => ∑ s : Fin 2048, I.dy s j * I.xp (s + 0) j := by
    intro i
    have h0 : (i 0).val < 1 := (i 0).isLt
    have h1 : (i 1).val < 768 := (i 1).isLt
    simp only [
    val_main_v237_apply, val_main_v236_apply, val_main_cst_52_apply, val_main_v235_apply, r_v215 H _, r_v93 H _,
    lit_0, Ideal.mulf_def, Ideal.ofBits_def, ← EReal.coe_mul, sum_real, zero_add_real, zero_add]
    exact congrArg (fun j => ((∑ s : Fin 2048, I.dy s j * I.xp s j : ℝ) : EReal)) (show (i 0).val * 768 + (i 1).val = (i 1).val by omega)
  have h241 : R2 (val_main_v241 (F := Ideal) x0 x1 x2 x3 x4 x5 x6 x7 x8) I.dcw := by
    intro i
    have hi : (i 0).val < 3 := (i 0).isLt
    simp only [
    val_main_v241_apply, val_main_v232_apply, Ideal.addf_def, ← EReal.coe_add]
    unfold val_main_v223 val_main_v231 val_main_v240
    rw [pad_rows 2 0 _ _ _ _ (fun i => (val_main_cst_48_apply i).trans lit_0) h221,
      pad_rows 1 1 _ _ _ _ (fun i => (val_main_cst_51_apply i).trans lit_0) h228,
      pad_rows 0 2 _ _ _ _ (fun i => (val_main_cst_54_apply i).trans lit_0) h237]
    simp only [← EReal.coe_add]
    refine congrArg Real.toEReal ?_
    generalize (i 0).val = r at *
    generalize (i 1).val = j
    unfold In.dcw
    rw [if_pos hi, ← sum_dy_xp I j r hi]
    have h3 : r = 0 ∨ r = 1 ∨ r = 2 := by omega
    rcases h3 with rfl | rfl | rfl <;> simp
  have h317 : R2 (val_main_v317 (F := Ideal)) fun _ _ => 0 := by
    intro i
    simp only [
    val_main_v317_apply, val_main_cst_70_apply, lit_0, Ideal.ofBits_def]
  intro i
  have hi : (i 0).val < 8 := (i 0).isLt
  unfold val_main_v318
  by_cases h : (i 0).val < 3
  · exact cat2r _ _ i 0 (by show 0 < 2; decide) _ rfl 0 rfl (Nat.zero_le _) (by omega) h241
  · refine (cat2r _ _ i 1 (by show 1 < 2; decide) _ rfl 3 rfl (by omega) (by omega) h317).trans ?_
    unfold In.dcw
    rw [if_neg h]

end Cert.Mix

end
-- ==== Proof.RefBwdGate.lean ====
/- The backward stages of the reference's spatial gating. -/
module

public import proofs.«01_k».proof.Proof.RefBwdHead

@[expose] public section

set_option maxRecDepth 16384

noncomputable section

namespace Cert.Mix

open Cert.ReferenceIdeal Cert.ReferenceIdeal.Gen Cert.ReferenceIdeal.Read Idealize.ShloMosaic

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The variance's reciprocal root, squared, is the variance's reciprocal. -/
theorem In.rst_sq (I : In) (s : ℕ) : I.rst s * I.rst s = (I.var s)⁻¹ := by
  unfold In.rst
  rw [← mul_inv, Real.mul_self_sqrt (I.var_pos s).le]

/-- The centred row sums to zero. -/
theorem In.sum_vc (I : In) (s : ℕ) : ∑ j : Fin 768, I.vc s j = 0 := by
  unfold In.vc In.mu
  rw [Finset.sum_sub_distrib, Finset.sum_const, Finset.card_univ, Fintype.card_fin, nsmul_eq_mul]
  push_cast
  ring

/-- The gradient of the mixed rows. -/
theorem r_v246 (H : Holds I x0 x1 x2 x3 x4 x5 x6 x7 x8) : R2 (val_main_v246 (F := Ideal) x0 x1 x2 x3 x4 x5 x6 x7 x8) I.dm := by
  intro i
  simp only [
    val_main_v246_apply, val_main_v185_apply, r_v27 H _, r_v184 H _, Ideal.mulf_def, ← EReal.coe_mul]
  exact congrArg Real.toEReal (mul_comm _ _)

/-- The gradient of the gate. -/
theorem r_v247 (H : Holds I x0 x1 x2 x3 x4 x5 x6 x7 x8) : R2 (val_main_v247 (F := Ideal) x0 x1 x2 x3 x4 x5 x6 x7 x8) fun s j => I.dh s j * I.mix s j := by
  intro i
  simp only [
    val_main_v247_apply, val_main_v185_apply, r_v86 H _, r_v184 H _, Ideal.mulf_def, ← EReal.coe_mul]

/-- The gradient of the mixed rows, by chunk, row in the chunk, head and lane. -/
theorem r_v248 (H : Holds I x0 x1 x2 x3 x4 x5 x6 x7 x8) : R4 (val_main_v248 (F := Ideal) x0 x1 x2 x3 x4 x5 x6 x7 x8) fun c r h d => I.dm (c * 128 + r) (h * 128 + d) := by
  intro i
  have h0 : (i 0).val < 16 := (i 0).isLt
  have h1 : (i 1).val < 128 := (i 1).isLt
  have h2 : (i 2).val < 6 := (i 2).isLt
  have h3 : (i 3).val < 128 := (i 3).isLt
  rw [val_main_v248_apply, r_v246 H]
  exact cg2 I.dm (show ((((i 0).val * 128 + (i 1).val) * 6 + (i 2).val) * 128 + (i 3).val) / 768 = (i 0).val * 128 + (i 1).val by omega)
      (show ((((i 0).val * 128 + (i 1).val) * 6 + (i 2).val) * 128 + (i 3).val) % 768 = (i 2).val * 128 + (i 3).val by omega)

/-- The gradient of the gating biases, row before head. -/
theorem r_v249 (H : Holds I x0 x1 x2 x3 x4 x5 x6 x7 x8) : R2 (val_main_v249 (F := Ideal) x0 x1 x2 x3 x4 x5 x6 x7 x8) fun t h => I.dbs h t := by
  intro i
  unfold val_main_v249
  rw [ValueIdx.hostReduceAdd_apply, sum_axes03, val_main_cst_55_apply]
  simp only [
    val_main_cst_55_apply, r_v248 H _, sum_real, lit_0, zero_add_real, Ideal.ofBits_def]
  rfl

/-- The same through two unit axes. -/
theorem r_v251 (H : Holds I x0 x1 x2 x3 x4 x5 x6 x7 x8) : R2 (val_main_v251 (F := Ideal) x0 x1 x2 x3 x4 x5 x6 x7 x8) fun t h => I.dbs h t := by
  intro i
  have h250 : R4 (val_main_v250 (F := Ideal) x0 x1 x2 x3 x4 x5 x6 x7 x8) fun _ t h _ => I.dbs h t := by
    intro i
    have h0 : (i 0).val < 1 := (i 0).isLt
    have h1 : (i 1).val < 128 := (i 1).isLt
    have h2 : (i 2).val < 6 := (i 2).isLt
    have h3 : (i 3).val < 1 := (i 3).isLt
    rw [val_main_v250_apply, r_v249 H]
    exact cg2 (fun t h => I.dbs h t) (show ((((i 0).val * 128 + (i 1).val) * 6 + (i 2).val) * 1 + (i 3).val) / 6 = (i 1).val by omega)
      (show ((((i 0).val * 128 + (i 1).val) * 6 + (i 2).val) * 1 + (i 3).val) % 6 = (i 2).val by omega)
  unfold val_main_v251
  rw [ValueIdx.hostReduceAdd_apply, sum_axes03, val_main_cst_56_apply]
  simp only [h250 _, Fin.sum_univ_one, Ideal.ofBits_def, lit_0, zero_add_real]
  rfl

/-- The gradient of the gating biases, eight equal rows a head. -/
theorem r_v316 (H : Holds I x0 x1 x2 x3 x4 x5 x6 x7 x8) : R3 (val_main_v316 (F := Ideal) x0 x1 x2 x3 x4 x5 x6 x7 x8) fun h _ t => I.dbs h t := by
  intro i
  simp only [
    val_main_v316_apply, val_main_v315_apply, val_main_v254_apply, val_main_v253_apply, val_main_cst_57_apply,
    val_main_v252_apply, r_v251 H _, Fin.sum_univ_one, lit_0, Ideal.ofBits_def, ← EReal.coe_mul, sum_real,
    zero_add_real, zero_add]

/-- The gradient of the gating matrices before the mask. -/
theorem r_v256 (H : Holds I x0 x1 x2 x3 x4 x5 x6 x7 x8) : R3 (val_main_v256 (F := Ideal) x0 x1 x2 x3 x4 x5 x6 x7 x8) fun h t r =>
    ∑ c : Fin 16, ∑ d : Fin 128, I.dm (c * 128 + t) (h * 128 + d) * I.vn (c * 128 + r) (h * 128 + d) := by
  intro i
  unfold val_main_v256
  generalize hx : (val_main_v255 (F := Ideal) x0 x1 x2 x3 x4 x5 x6 x7 x8) = x
  have h255 : R4 x fun h c d t => I.dm (c * 128 + t) (h * 128 + d) := by
    subst hx
    intro i
    rw [val_main_v255_apply, r_v248 H]
  generalize hy : (val_main_v73 (F := Ideal) x1 x5 x6) = y
  have h73 : R4 y fun c r h d => I.vn (c * 128 + r) (h * 128 + d) := by
    subst hy
    exact r_v73 H
  pointwise
  simp only [h255 _, h73 _, ← EReal.coe_mul, sum_real]
  rfl

/-- The gradient of the gating matrices. -/
theorem r_v259 (H : Holds I x0 x1 x2 x3 x4 x5 x6 x7 x8) : R3 (val_main_v259 (F := Ideal) x0 x1 x2 x3 x4 x5 x6 x7 x8) I.dws := by
  intro i
  simp only [
    val_main_v259_apply, val_main_call2_v0_apply, val_main_call2_cst_apply, r_v78_1, select_mask, r_v256 H _, lit_0,
    Ideal.ofBits_def]
  unfold In.dws
  split <;> rfl

/-- The gradient of the layer norm's output, by chunk. -/
theorem r_v258 (H : Holds I x0 x1 x2 x3 x4 x5 x6 x7 x8) : R4 (val_main_v258 (F := Ideal) x0 x1 x2 x3 x4 x5 x6 x7 x8) fun c r h d => ∑ t : Fin 128, I.wm h t r * I.dm (c * 128 + t) (h * 128 + d) := by
  intro i
  simp only [
    val_main_v258_apply, val_main_v257_apply, val_main_v255_apply, r_v248 H _, r_v78_0 H _, ← EReal.coe_mul, sum_real]
  exact congrArg Real.toEReal (Finset.sum_congr rfl fun t _ => mul_comm _ _)

/-- The gradient of the layer norm's output. -/
theorem r_v260 (H : Holds I x0 x1 x2 x3 x4 x5 x6 x7 x8) : R2 (val_main_v260 (F := Ideal) x0 x1 x2 x3 x4 x5 x6 x7 x8) I.dvn := by
  intro i
  have h0 : (i 0).val < 2048 := (i 0).isLt
  have h1 : (i 1).val < 768 := (i 1).isLt
  rw [val_main_v260_apply, r_v258 H]
  refine (cg4 (fun c r h d => ∑ t : Fin 128, I.wm h t r * I.dm (c * 128 + t) (h * 128 + d))
    (show ((i 0).val * 768 + (i 1).val) / 98304 = (i 0).val / 128 by omega)
      (show ((i 0).val * 768 + (i 1).val) / 768 % 128 = (i 0).val % 128 by omega)
      (show ((i 0).val * 768 + (i 1).val) / 128 % 6 = (i 1).val / 128 by omega)
      (show ((i 0).val * 768 + (i 1).val) % 128 = (i 1).val % 128 by omega)).trans ?_
  unfold In.dvn
  rw [Nat.div_add_mod']

/-- The gradient of the layer norm's bias. -/
theorem r_v262 (H : Holds I x0 x1 x2 x3 x4 x5 x6 x7 x8) : R2 (val_main_v262 (F := Ideal) x0 x1 x2 x3 x4 x5 x6 x7 x8) fun _ j => I.dlnb j := by
  intro i
  have h0 : (i 0).val < 1 := (i 0).isLt
  have h1 : (i 1).val < 768 := (i 1).isLt
  simp only [
    val_main_v262_apply, val_main_v261_apply, val_main_cst_58_apply, r_v260 H _, lit_0, Ideal.ofBits_def,
    ← EReal.coe_mul, sum_real, zero_add_real, zero_add]
  exact congrArg (fun j => ((I.dlnb j : ℝ) : EReal)) (show (i 0).val * 768 + (i 1).val = (i 1).val by omega)

/-- The gradient of the layer norm's gain. -/
theorem r_v265 (H : Holds I x0 x1 x2 x3 x4 x5 x6 x7 x8) : R2 (val_main_v265 (F := Ideal) x0 x1 x2 x3 x4 x5 x6 x7 x8) fun _ j => I.dlng j := by
  intro i
  have h0 : (i 0).val < 1 := (i 0).isLt
  have h1 : (i 1).val < 768 := (i 1).isLt
  simp only [
    val_main_v265_apply, val_main_v264_apply, val_main_cst_59_apply, val_main_v263_apply, r_v260 H _, r_v68 H _,
    lit_0, Ideal.mulf_def, Ideal.ofBits_def, ← EReal.coe_mul, sum_real, zero_add_real, zero_add]
  refine congrArg Real.toEReal (Finset.sum_congr rfl fun s _ => (mul_comm _ _).trans ?_)
  exact congrArg (fun j => I.dvn s j * I.vhat s j) (show (i 0).val * 768 + (i 1).val = (i 1).val by omega)

/-- The gradient of the normed row. -/
theorem r_v267 (H : Holds I x0 x1 x2 x3 x4 x5 x6 x7 x8) : R2 (val_main_v267 (F := Ideal) x0 x1 x2 x3 x4 x5 x6 x7 x8) I.dvh := by
  intro i
  simp only [
    val_main_v267_apply, val_main_v266_apply, r_v260 H _, H.h5 _, Ideal.mulf_def, ← EReal.coe_mul]
  rfl

/-- The inner product of the centred row and the gradient. -/
theorem r_v270 (H : Holds I x0 x1 x2 x3 x4 x5 x6 x7 x8) : R2 (val_main_v270 (F := Ideal) x0 x1 x2 x3 x4 x5 x6 x7 x8) fun s _ => ∑ j : Fin 768, I.vc s j * I.dvh s j := by
  intro i
  have h0 : (i 0).val < 2048 := (i 0).isLt
  have h1 : (i 1).val < 1 := (i 1).isLt
  simp only [
    val_main_v270_apply, val_main_v269_apply, val_main_cst_60_apply, val_main_v268_apply, r_v267 H _, r_v55 H _,
    lit_0, Ideal.mulf_def, Ideal.ofBits_def, ← EReal.coe_mul, sum_real, zero_add_real, zero_add]
  exact congrArg (fun s => ((∑ j : Fin 768, I.vc s j * I.dvh s j : ℝ) : EReal)) (show (i 0).val * 1 + (i 1).val = (i 0).val by omega)

/-- The gradient that reaches the variance, per element. -/
theorem r_v277 (H : Holds I x0 x1 x2 x3 x4 x5 x6 x7 x8) : R2 (val_main_v277 (F := Ideal) x0 x1 x2 x3 x4 x5 x6 x7 x8) fun s _ =>
    (∑ j : Fin 768, I.vc s j * I.dvh s j) * (-(1 / 2) * (I.rst s / I.var s)) / 768 := by
  intro i
  simp only [
    val_main_v277_apply, val_main_v276_apply, val_main_cst_62_apply, val_main_v275_apply, val_main_v274_apply,
    val_main_cst_61_apply, val_main_v273_apply, val_main_v66_apply, val_main_v65_apply, val_main_cst_20_apply,
    val_main_v64_apply, r_v270 H _, r_v63 H _, r_v62 H _, div_real (I.var_pos _).ne', Fin.sum_univ_one, lit_0,
    lit_768, lit_nhalf, Ideal.hostDivf_def, Ideal.mulf_def, Ideal.ofBits_def, ← EReal.coe_mul, sum_real,
    zero_add_real, zero_add, div_768]

/-- The gradient of the centred row. -/
theorem r_v281 (H : Holds I x0 x1 x2 x3 x4 x5 x6 x7 x8) : R2 (val_main_v281 (F := Ideal) x0 x1 x2 x3 x4 x5 x6 x7 x8) fun s j =>
    I.rst s * (I.dvh s j - I.vhat s j * ((∑ j : Fin 768, I.dvh s j * I.vhat s j) / 768)) := by
  intro i
  simp only [
    val_main_v281_apply, val_main_v280_apply, val_main_v279_apply, val_main_v278_apply, val_main_v272_apply,
    val_main_v271_apply, r_v267 H _, r_v55 H _, r_v63 H _, r_v277 H _, Ideal.addf_def, Ideal.mulf_def,
    ← EReal.coe_mul, ← EReal.coe_add]
  refine congrArg Real.toEReal ?_
  show I.dvh (i 0).val (i 1).val * I.rst (i 0).val
    + I.vc (i 0).val (i 1).val * ((∑ j : Fin 768, I.vc (i 0).val j * I.dvh (i 0).val j) * (-(1 / 2) * (I.rst (i 0).val / I.var (i 0).val)) / 768)
    + (∑ j : Fin 768, I.vc (i 0).val j * I.dvh (i 0).val j) * (-(1 / 2) * (I.rst (i 0).val / I.var (i 0).val)) / 768 * I.vc (i 0).val (i 1).val
    = _
  generalize (i 0).val = s
  generalize (i 1).val = j
  have e : ∑ j : Fin 768, I.dvh s j * I.vhat s j = I.rst s * ∑ j : Fin 768, I.vc s j * I.dvh s j := by
    rw [Finset.mul_sum]
    exact Finset.sum_congr rfl fun _ _ => by unfold In.vhat; ring
  rw [e, div_eq_mul_inv (I.rst s), ← I.rst_sq]
  unfold In.vhat
  ring

/-- The sum of that over a row. -/
theorem sum_dvc (I : In) (s : ℕ) :
    ∑ j : Fin 768, I.rst s * (I.dvh s j - I.vhat s j * ((∑ j : Fin 768, I.dvh s j * I.vhat s j) / 768))
      = I.rst s * ∑ j : Fin 768, I.dvh s j := by
  rw [← Finset.mul_sum, Finset.sum_sub_distrib, ← Finset.sum_mul]
  have e : ∑ j : Fin 768, I.vhat s j = 0 := by
    unfold In.vhat
    rw [← Finset.sum_mul, I.sum_vc, zero_mul]
  rw [e, zero_mul, sub_zero]

/-- The gradient of `gelu(v)`. -/
theorem r_v289 (H : Holds I x0 x1 x2 x3 x4 x5 x6 x7 x8) : R2 (val_main_v289 (F := Ideal) x0 x1 x2 x3 x4 x5 x6 x7 x8) I.dV := by
  intro i
  have h284 : R2 (val_main_v284 (F := Ideal) x0 x1 x2 x3 x4 x5 x6 x7 x8) fun s _ => -(I.rst s * ∑ j : Fin 768, I.dvh s j) := by
    intro i
    have h0 : (i 0).val < 2048 := (i 0).isLt
    have h1 : (i 1).val < 1 := (i 1).isLt
    simp only [
    val_main_v284_apply, val_main_v283_apply, val_main_cst_63_apply, val_main_v282_apply, r_v281 H _, lit_0,
    Ideal.hostNegf_def, Ideal.ofBits_def, ← EReal.coe_mul, ← EReal.coe_neg, sum_real, zero_add_real, zero_add,
    Ideal.negf_def]
    rw [Finset.sum_neg_distrib]
    exact (congrArg (fun x => ((-x : ℝ) : EReal)) (sum_dvc I _)).trans
      (congrArg (fun s => ((-(I.rst s * ∑ j : Fin 768, I.dvh s j) : ℝ) : EReal)) (show (i 0).val * 1 + (i 1).val = (i 0).val by omega))
  simp only [
    val_main_v289_apply, val_main_v288_apply, val_main_v287_apply, val_main_cst_65_apply, val_main_v286_apply,
    val_main_v285_apply, val_main_cst_64_apply, r_v281 H _, h284 _, Fin.sum_univ_one, lit_0, lit_768, Ideal.addf_def,
    Ideal.hostDivf_def, Ideal.ofBits_def, ← EReal.coe_mul, ← EReal.coe_add, sum_real, zero_add_real, zero_add, div_768]
  refine congrArg Real.toEReal ?_
  unfold In.dV
  show _ + -(I.rst (i 0).val * ∑ j : Fin 768, I.dvh (i 0).val j) / 768 = _
  ring

/-- The gradient of `v`. -/
theorem r_v301 (H : Holds I x0 x1 x2 x3 x4 x5 x6 x7 x8) : R2 (val_main_v301 (F := Ideal) x0 x1 x2 x3 x4 x5 x6 x7 x8) I.dv := by
  intro i
  simp only [
    val_main_v301_apply, val_main_v300_apply, val_main_v33_apply, val_main_v32_apply, val_main_cst_9_apply,
    val_main_v31_apply, val_main_v299_apply, val_main_v298_apply, val_main_v297_apply, val_main_v296_apply,
    val_main_v295_apply, val_main_cst_67_apply, val_main_v294_apply, val_main_v293_apply, val_main_v292_apply,
    val_main_cst_66_apply, val_main_v291_apply, val_main_v290_apply, val_main_v1_apply, r_v289 H _, r_v48 H _,
    r_v44 H _, r_v28, H.h1 _, lit_3, lit_gc0, lit_half, Ideal.addf_def, Ideal.mulf_def, Ideal.ofBits_def,
    ← EReal.coe_mul, ← EReal.coe_add]
  refine congrArg Real.toEReal ?_
  unfold In.dv dgel
  show I.dV (i 0).val (i 1).val * (1 / 2 * (1 + gth (I.proj (i 0).val (768 + (i 1).val)))) + _ + _ = _
  ring

/-- The gradient of `u`. -/
theorem r_v313 (H : Holds I x0 x1 x2 x3 x4 x5 x6 x7 x8) : R2 (val_main_v313 (F := Ideal) x0 x1 x2 x3 x4 x5 x6 x7 x8) I.du := by
  intro i
  simp only [
    val_main_v313_apply, val_main_v312_apply, val_main_v11_apply, val_main_v10_apply, val_main_cst_1_apply,
    val_main_v9_apply, val_main_v311_apply, val_main_v310_apply, val_main_v309_apply, val_main_v308_apply,
    val_main_v307_apply, val_main_cst_69_apply, val_main_v306_apply, val_main_v305_apply, val_main_v304_apply,
    val_main_cst_68_apply, val_main_v303_apply, val_main_v302_apply, val_main_v0_apply, r_v247 H _, r_v26 H _,
    r_v22 H _, r_v6, H.h1 _, lit_3, lit_gc0, lit_half, Ideal.addf_def, Ideal.mulf_def, Ideal.ofBits_def,
    ← EReal.coe_mul, ← EReal.coe_add]
  refine congrArg Real.toEReal ?_
  unfold In.du dgel
  show I.dh (i 0).val (i 1).val * I.mix (i 0).val (i 1).val * (1 / 2 * (1 + gth (I.proj (i 0).val (i 1).val))) + _ + _ = _
  ring

end Cert.Mix

end
-- ==== Proof.RefBwd.lean ====
/- The gradient of the projection, its six parts side by side. -/
module

public import proofs.«01_k».proof.Proof.RefBwdMem
public import proofs.«01_k».proof.Proof.RefBwdConv
public import proofs.«01_k».proof.Proof.RefBwdGate

@[expose] public section

set_option maxRecDepth 16384

noncomputable section

namespace Cert.Mix

open Cert.ReferenceIdeal Cert.ReferenceIdeal.Gen Cert.ReferenceIdeal.Read Idealize.ShloMosaic

variable {I : In} {x0 : (⟨S2048x2048, .f32⟩ : BufTy).Contents (Elt Ideal)} {x1 : (⟨S2048x4352, .f32⟩ : BufTy).Contents (Elt Ideal)}
  {x2 : (⟨S256x1024, .f32⟩ : BufTy).Contents (Elt Ideal)} {x3 : (⟨S6x128x128, .f32⟩ : BufTy).Contents (Elt Ideal)}
  {x4 : (⟨S6x128, .f32⟩ : BufTy).Contents (Elt Ideal)} {x5 x6 : (⟨S1x768, .f32⟩ : BufTy).Contents (Elt Ideal)}
  {x7 : (⟨S3x768, .f32⟩ : BufTy).Contents (Elt Ideal)} {x8 : (⟨S1x2048, .f32⟩ : BufTy).Contents (Elt Ideal)}

/-- The gradient of the projection. -/
theorem r_v319 (H : Holds I x0 x1 x2 x3 x4 x5 x6 x7 x8) : R2 (val_main_v319 (F := Ideal) x0 x1 x2 x3 x4 x5 x6 x7 x8) I.dproj := by
  intro i
  have hi : (i 1).val < 4352 := (i 1).isLt
  rw [val_main_v319_apply, Ideal.truncf_def]
  unfold val_main_v314 In.dproj
  by_cases h : (i 1).val < 768
  · rw [if_pos h]
    exact cat2 _ _ i 0 (by show 0 < 6; decide) _ rfl 0 rfl (Nat.zero_le _) (by omega) (r_v313 H)
  rw [if_neg h]
  by_cases h1 : (i 1).val < 1536
  · rw [if_pos h1]
    exact cat2 _ _ i 1 (by show 1 < 6; decide) _ rfl 768 rfl (by omega) (by omega) (r_v301 H)
  rw [if_neg h1]
  by_cases h2 : (i 1).val < 2304
  · rw [if_pos h2]
    exact cat2 _ _ i 2 (by show 2 < 6; decide) _ rfl 1536 rfl (by omega) (by omega) (r_v216 H)
  rw [if_neg h2]
  by_cases h3 : (i 1).val < 3072
  · rw [if_pos h3]
    exact cat2 _ _ i 3 (by show 3 < 6; decide) _ rfl 2304 rfl (by omega) (by omega) (r_v245 H)
  rw [if_neg h3]
  by_cases h4 : (i 1).val < 3840
  · rw [if_pos h4]
    exact cat2 _ _ i 4 (by show 4 < 6; decide) _ rfl 3072 rfl (by omega) (by omega) (r_v244 H)
  rw [if_neg h4]
  exact cat2 _ _ i 5 (by show 5 < 6; decide) _ rfl 3840 rfl (by omega) (by omega) (r_v213 H)

end Cert.Mix

end
-- ==== Proof.KerHost.lean ====
/- The two arrays the host makes for the kernel, as real numbers. -/
module

public import proofs.«01_k».proof.Proof.Gen.KernelIdeal.Value
public import proofs.«01_k».proof.Proof.RefFwd
public import Idealize.ShloMosaic.Lib.StableHlo.RunRead

@[expose] public section

set_option maxRecDepth 100000

noncomputable section

namespace Cert.Mix

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
/-- The convolution's result the host hands to the kernel is the reference's. -/
theorem V_main_v85 (c : Dev nD) : V m c main_v85 =
    Cert.ReferenceIdeal.Read.val_main_v105 (F := Ideal) (m ((c.tc : Thread nD τ).loc main_arg1)) (m ((c.tc : Thread nD τ).loc main_arg7)) := by
  rfl

/-- Three matrices side by side, one by one. -/
theorem concat3 {a a' b b' : S2048x768.Idx → EReal} {d d' : S2048x512.Idx → EReal} (ha : a = a') (hb : b = b') (hd : d = d') :
    (concatenate S2048x2048 1 [⟨S2048x768, a⟩, ⟨S2048x768, b⟩, ⟨S2048x512, d⟩] concatenates_S2048x768_S2048x768_S2048x512_S2048x2048_d1 : FVec Ideal S2048x2048 .f32)
      = concatenate S2048x2048 1 [⟨S2048x768, a'⟩, ⟨S2048x768, b'⟩, ⟨S2048x512, d'⟩] concatenates_S2048x768_S2048x768_S2048x512_S2048x2048_d1 := by
  rw [ha, hb, hd]

set_option maxHeartbeats 4000000 in
/-- The heads the host hands to the kernel are the reference's. -/
theorem V_main_v109 (c : Dev nD) : V m c main_v109 =
    Cert.ReferenceIdeal.Read.val_main_v146 (F := Ideal) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  show StableHlo.after [hostOps0, hostOps0_1, hostOps0_2, hostOps0_3, hostOps0_4].flatten _ _ = _
  simp only [hostOps0, hostOps0_1, hostOps0_2, hostOps0_3, hostOps0_4, List.flatten, List.append, List.cons_append, List.nil_append]
  after_reads_simp
  refine concat3 ?_ ?_ ?_
  · show StableHlo.upto _ _ _ (Proc.tc.devRef main_v68) = _
    after_reads_simp
    rfl
  · show StableHlo.upto _ _ _ (Proc.tc.devRef main_v86) = _
    after_reads_simp
    rfl
  · show StableHlo.upto _ _ _ (Proc.tc.devRef main_v108) = _
    after_reads_simp
    rfl

/-- The gate's bias reaches the kernel transposed. -/
theorem V_main_v110 (c : Dev nD) : V m c main_v110 =
    Cert.ReferenceIdeal.Read.val_main_v81 (F := Ideal) (m ((c.tc : Thread nD τ).loc main_arg4)) := by
  rfl

end Cert.Mix
end
-- ==== Proof.KerCalc.lean ====
/- The vector operations of the kernel on arrays that hold real numbers: each result again holds real numbers, and which. -/
module

public import proofs.«01_k».proof.Proof.Spec
public import proofs.«01_k».proof.Proof.Gen.KernelIdeal.Value

@[expose] public section

set_option maxRecDepth 16384

noncomputable section

namespace Cert.Mix

open Cert.KernelIdeal Cert.KernelIdeal.Gen Idealize.ShloMosaic Idealize.ShloMosaic.TcCoe

/-- A shape of two axes. -/
abbrev Sh (n m : ℕ) : Shape := ⟨2, ![n, m]⟩

/-- An array's numbers may be given by any function that agrees inside the array. -/
theorem R2.congr {n m : ℕ} {x : (Sh n m).Idx → EReal} {f g : ℕ → ℕ → ℝ} (h : R2 x f)
    (e : ∀ s j, s < n → j < m → f s j = g s j) : R2 x g :=
  fun i => (h i).trans (by rw [e _ _ (i 0).isLt (i 1).isLt])

section Pointwise
variable {n m : ℕ} {φ : FTy} {x y : (Sh n m).Idx → EReal} {f g : ℕ → ℕ → ℝ}

theorem R2.mul (hx : R2 x f) (hy : R2 y g) : R2 (mulf (F := Ideal) (s := Sh n m) (φ := φ) x y) fun s j => f s j * g s j := by
  intro i
  show x i * y i = _
  rw [hx, hy, EReal.coe_mul]

theorem R2.add (hx : R2 x f) (hy : R2 y g) : R2 (addf (F := Ideal) (s := Sh n m) (φ := φ) x y) fun s j => f s j + g s j := by
  intro i
  show x i + y i = _
  rw [hx, hy, EReal.coe_add]

theorem R2.sub (hx : R2 x f) (hy : R2 y g) : R2 (subf (F := Ideal) (s := Sh n m) (φ := φ) x y) fun s j => f s j - g s j := by
  intro i
  show x i - y i = _
  rw [hx, hy, EReal.coe_sub]

theorem R2.div (hx : R2 x f) (hy : R2 y g) (h0 : ∀ s j, s < n → j < m → g s j ≠ 0) :
    R2 (divf (F := Ideal) (s := Sh n m) (φ := φ) x y) fun s j => f s j / g s j := by
  intro i
  show Ideal.div (x i) (y i) = _
  rw [hx, hy, div_real (h0 _ _ (i 0).isLt (i 1).isLt)]

theorem R2.rsqrt (hx : R2 x f) (h0 : ∀ s j, s < n → j < m → 0 < f s j) :
    R2 (Idealize.ShloMosaic.rsqrt (F := Ideal) (s := Sh n m) (φ := φ) x) fun s j => (Real.sqrt (f s j))⁻¹ := by
  intro i
  show Ideal.rsqrt (x i) = _
  rw [hx, rsqrt_real (h0 _ _ (i 0).isLt (i 1).isLt)]

theorem R2.tanh (hx : R2 x f) : R2 (Idealize.ShloMosaic.tanh (F := Ideal) (s := Sh n m) (φ := φ) x) fun s j => Real.tanh (f s j) := by
  intro i
  show Ideal.tanh (x i) = _
  rw [hx, Ideal.tanh_coe]

theorem R2.exp (hx : R2 x f) : R2 (Idealize.ShloMosaic.exp (F := Ideal) (s := Sh n m) (φ := φ) x) fun s j => Real.exp (f s j) := by
  intro i
  show Ideal.exp (x i) = _
  rw [hx, Ideal.exp_coe]

/-- A splat of a real number. -/
theorem R2.splat {c : EReal} {r : ℝ} (h : c = (r : EReal)) : R2 (broadcast (Sh n m) c) fun _ _ => r := fun _ => h

/-- A cast to the same shape changes nothing. -/
theorem R2.cast (hx : R2 x f) (h : (Sh n m).ShapeCasts (Sh n m)) : R2 (shapeCast (Sh n m) x h) f := by
  intro i
  rw [shapeCast_apply x h i i rfl]
  exact hx i

/-- A column repeated along the rows. -/
theorem R2.col {z : (Sh n 1).Idx → EReal} (hz : R2 z f) (h : (Sh n 1).Broadcasts (Sh n m)) :
    R2 (broadcastTo (Sh n m) z h) fun s _ => f s 0 := by
  intro i
  rw [broadcastTo_apply z h i (ix2 (i 0) 0) (fun a => by
    match a with
    | ⟨0, _⟩ =>
      show (i 0).val = if n = 1 then 0 else (i 0).val
      have h0 : (i 0).val < n := (i 0).isLt
      split
      · rename_i e; subst e; omega
      · rfl
    | ⟨1, _⟩ => rfl)]
  exact hz _

/-- A row repeated down the columns. -/
theorem R2.row {z : (Sh 1 m).Idx → EReal} (hz : R2 z f) (h : (Sh 1 m).Broadcasts (Sh n m)) :
    R2 (broadcastTo (Sh n m) z h) fun _ j => f 0 j := by
  intro i
  rw [broadcastTo_apply z h i (ix2 0 (i 1)) (fun a => by
    match a with
    | ⟨0, _⟩ => rfl
    | ⟨1, _⟩ =>
      show (i 1).val = if m = 1 then 0 else (i 1).val
      have h0 : (i 1).val < m := (i 1).isLt
      split
      · rename_i e; subst e; omega
      · rfl)]
  exact hz _

/-- The sums of the rows, as a column. -/
theorem R2.rowSum (hx : R2 x f) (h : (Sh n m).Reduces [1] ⟨1, ![n]⟩) (hφ : FKind.Formats φ) (acc) (hacc : acc = FKind.add.neutral φ hφ)
    (hc : (⟨1, ![n]⟩ : Shape).ShapeCasts (Sh n 1)) :
    R2 (shapeCast (Sh n 1) (multiReduction (F := Ideal) (φ := φ) .add [1] ⟨1, ![n]⟩ x acc h hφ hacc) hc)
      fun s _ => ∑ j : Fin m, f s j := by
  intro i
  rw [shapeCast_apply _ hc i (ix1 (i 0)) (by
    have h1 : (i 1).val = 0 := by have := (i 1).isLt; change (i 1).val < 1 at this; omega
    rw [Shape.rowMajor_val_one, Shape.rowMajor_val_two, h1]
    show (i 0).val = (i 0).val * 1 + 0
    omega)]
  refine (Ideal.multiReduction_add_single (s := Sh n m) (a := (1 : Fin 2)) x acc h hφ hacc _).trans ?_
  refine Eq.trans (Finset.sum_congr rfl fun k _ => hx _) ?_
  exact sum_real _ _

/-- The sums of the columns, as a row. -/
theorem R2.colSum (hx : R2 x f) (h : (Sh n m).Reduces [0] ⟨1, ![m]⟩) (hφ : FKind.Formats φ) (acc) (hacc : acc = FKind.add.neutral φ hφ)
    (hc : (⟨1, ![m]⟩ : Shape).ShapeCasts (Sh 1 m)) :
    R2 (shapeCast (Sh 1 m) (multiReduction (F := Ideal) (φ := φ) .add [0] ⟨1, ![m]⟩ x acc h hφ hacc) hc)
      fun _ j => ∑ s : Fin n, f s j := by
  intro i
  rw [shapeCast_apply _ hc i (ix1 (i 1)) (by
    have h1 : (i 0).val = 0 := by have := (i 0).isLt; change (i 0).val < 1 at this; omega
    rw [Shape.rowMajor_val_one, Shape.rowMajor_val_two, h1]
    show (i 1).val = 0 * m + (i 1).val
    omega)]
  refine (Ideal.multiReduction_add_single (s := Sh n m) (a := (0 : Fin 2)) x acc h hφ hacc _).trans ?_
  refine Eq.trans (Finset.sum_congr rfl fun k _ => hx _) ?_
  exact sum_real _ _

/-- The largest entries of rows of 256, as a column. -/
theorem R2.rowMax {x : (Sh n 256).Idx → EReal} (hx : R2 x f) (h : (Sh n 256).Reduces [1] ⟨1, ![n]⟩)
    (hφ : FKind.Formats .f32) (hacc : 0xFF800000#32 = FKind.maximumf.neutral .f32 hφ)
    (hc : (⟨1, ![n]⟩ : Shape).ShapeCasts (Sh n 1)) :
    R2 (shapeCast (Sh n 1) (multiReduction (F := Ideal) (φ := .f32) .maximumf [1] ⟨1, ![n]⟩ x 0xFF800000#32 h hφ hacc) hc)
      fun s _ => Finset.univ.sup' ⟨(0 : Fin 256), Finset.mem_univ _⟩ fun j : Fin 256 => f s j := by
  intro i
  rw [shapeCast_apply _ hc i (ix1 (i 0)) (by
    have h1 : (i 1).val = 0 := by have := (i 1).isLt; change (i 1).val < 1 at this; omega
    rw [Shape.rowMajor_val_one, Shape.rowMajor_val_two, h1]
    show (i 0).val = (i 0).val * 1 + 0
    omega)]
  refine (Ideal.multiReduction_maximumf_single (s := Sh n 256) (a := (1 : Fin 2)) x _ h hφ hacc _).trans ?_
  rw [Ideal.ofBits_def, lit_bot]
  refine Eq.trans ?_ (fold_max_real _)
  refine congrArg (fun g => Finset.univ.fold max (⊥ : EReal) g) ?_
  funext k
  exact hx _

/-- A rectangle cut out of a matrix. -/
theorem R2.slice {N M a b : ℕ} {z : (Sh N M).Idx → EReal} (hz : R2 z f) (h : (Sh N M).Slices ![a, b] (Sh n m)) :
    R2 (extractStridedSlice (Sh n m) ![a, b] z h) fun s j => f (a + s) (b + j) := by
  intro i
  have ha : a + n ≤ N := h.2 0
  have hb : b + m ≤ M := h.2 1
  have h0 : (i 0).val < n := (i 0).isLt
  have h1 : (i 1).val < m := (i 1).isLt
  rw [extractStridedSlice_apply ![a, b] z h i (ix2 ⟨a + (i 0).val, by omega⟩ ⟨b + (i 1).val, by omega⟩) (fun c => by
    match c with
    | ⟨0, _⟩ => rfl
    | ⟨1, _⟩ => rfl)]
  exact hz _

/-- A rectangle loaded from a buffer. -/
theorem R2.ld {N M a b : ℕ} {z : (Sh N M).Idx → EReal} (hz : R2 z f) (inb : ∀ c, ![a, b] c + ![n, m] c ≤ (Sh N M).size c) :
    R2 (n0 := n) (n1 := m) (View.ld (Val := Elt Ideal) (e' := .f32) (S := Sh N M) z (Rect.unit ![a, b] ![n, m] inb))
      fun s j => f (a + s) (b + j) := by
  intro i
  have ha : a + n ≤ N := inb 0
  have hb : b + m ≤ M := inb 1
  have h0 : (i 0).val < n := (i 0).isLt
  have h1 : (i 1).val < m := (i 1).isLt
  rw [View.ld_unit_apply_of (Val := Elt Ideal) (e := .f32) (S := Sh N M) z ![a, b] ![n, m] inb i (ix2 ⟨a + (i 0).val, by omega⟩ ⟨b + (i 1).val, by omega⟩) (fun c => by
    match c with
    | ⟨0, _⟩ => rfl
    | ⟨1, _⟩ => rfl)]
  exact hz _

end Pointwise

/-- A matrix out of a stack of them. -/
theorem R3.ld {N n m a b c p q : ℕ} {z : (⟨3, ![N, n, m]⟩ : Shape).Idx → EReal} {f : ℕ → ℕ → ℕ → ℝ} (hz : R3 z f)
    (inb : ∀ d, ![a, b, c] d + ![1, p, q] d ≤ (⟨3, ![N, n, m]⟩ : Shape).size d) :
    R3 (n0 := 1) (n1 := p) (n2 := q) (View.ld (Val := Elt Ideal) (e' := .f32) (S := ⟨3, ![N, n, m]⟩) z (Rect.unit ![a, b, c] ![1, p, q] inb))
      fun _ s j => f a (b + s) (c + j) := by
  intro i
  have ha : a + 1 ≤ N := inb 0
  have hb : b + p ≤ n := inb 1
  have hc : c + q ≤ m := inb 2
  have h0 : (i 0).val = 0 := by have := (i 0).isLt; change (i 0).val < 1 at this; omega
  have h1 : (i 1).val < p := (i 1).isLt
  have h2 : (i 2).val < q := (i 2).isLt
  rw [View.ld_unit_apply_of (Val := Elt Ideal) (e := .f32) (S := ⟨3, ![N, n, m]⟩) z ![a, b, c] ![1, p, q] inb i
    (ix3 ⟨a, by omega⟩ ⟨b + (i 1).val, by omega⟩ ⟨c + (i 2).val, by omega⟩) (fun d => by
    match d with
    | ⟨0, _⟩ => show a = a + (i 0).val; omega
    | ⟨1, _⟩ => rfl
    | ⟨2, _⟩ => rfl)]
  exact hz _

/-- The one matrix of a stack of one. -/
theorem R3.cast {n m : ℕ} {z : (⟨3, ![1, n, m]⟩ : Shape).Idx → EReal} {f : ℕ → ℕ → ℕ → ℝ} (hz : R3 z f)
    (h : (⟨3, ![1, n, m]⟩ : Shape).ShapeCasts (Sh n m)) : R2 (shapeCast (Sh n m) z h) fun s j => f 0 s j := by
  intro i
  rw [shapeCast_apply z h i (ix3 0 (i 0) (i 1)) (by
    rw [Shape.rowMajor_val_three, Shape.rowMajor_val_two]
    show (0 * n + (i 0).val) * m + (i 1).val = (i 0).val * m + (i 1).val
    rw [Nat.zero_mul, Nat.zero_add])]
  exact hz _

/-- A matrix as a stack of one. -/
theorem R2.stack {n m : ℕ} {z : (Sh n m).Idx → EReal} {f : ℕ → ℕ → ℝ} (hz : R2 z f)
    (h : (Sh n m).ShapeCasts ⟨3, ![1, n, m]⟩) : R3 (shapeCast ⟨3, ![1, n, m]⟩ z h) fun _ s j => f s j := by
  intro i
  rw [shapeCast_apply z h i (ix2 (i 1) (i 2)) (by
    have h0 : (i 0).val = 0 := by have := (i 0).isLt; change (i 0).val < 1 at this; omega
    rw [Shape.rowMajor_val_three, Shape.rowMajor_val_two, h0]
    show (i 1).val * m + (i 2).val = (0 * n + (i 1).val) * m + (i 2).val
    rw [Nat.zero_mul, Nat.zero_add])]
  exact hz _

end Cert.Mix

end
-- ==== Proof.KerDot.lean ====
/- The kernel's matrix products, concatenations and the causal mask on arrays that hold real numbers. -/
module

public import proofs.«01_k».proof.Proof.KerCalc

@[expose] public section

set_option maxRecDepth 16384

noncomputable section

namespace Cert.Mix

open Cert.KernelIdeal Cert.KernelIdeal.Gen Idealize.ShloMosaic Idealize.ShloMosaic.TcCoe

variable {f g : ℕ → ℕ → ℝ}

/-- A sum of products of real numbers, after a zero. -/
theorem dot_real {K : ℕ} (a b : Fin K → EReal) (u v : Fin K → ℝ) (ha : ∀ k, a k = (u k : EReal)) (hb : ∀ k, b k = (v k : EReal)) :
    (0 : EReal) + ∑ k, a k * b k = ((∑ k, u k * v k : ℝ) : EReal) := by
  rw [zero_add, ← sum_real]
  exact Finset.sum_congr rfl fun k _ => by rw [ha, hb, EReal.coe_mul]

/-- A product of 128×128 matrices. -/
theorem R2.dotNN {x y : FVec Ideal S128x128 .bf16} (hx : R2 (n0 := 128) (n1 := 128) x f) (hy : R2 (n0 := 128) (n1 := 128) y g) :
    R2 (n0 := 128) (n1 := 128) (matmul (F := Ideal) dot_S128x128_S128x128_S128x128_1_0_0_1_n_n none x y (constant S128x128 .f32 0x00000000#32))
      fun s j => ∑ k : Fin 128, f s k * g k j := by
  intro i
  simp only [pointwise]
  exact dot_real _ _ _ _ (fun k => hx _) (fun k => hy _)

/-- A product of a 128×128 matrix with a transposed one. -/
theorem R2.dotNT {x y : FVec Ideal S128x128 .bf16} (hx : R2 (n0 := 128) (n1 := 128) x f) (hy : R2 (n0 := 128) (n1 := 128) y g) :
    R2 (n0 := 128) (n1 := 128) (matmul (F := Ideal) dot_S128x128_S128x128_S128x128_1_1_0_0_n_n none x y (constant S128x128 .f32 0x00000000#32))
      fun s j => ∑ k : Fin 128, f s k * g j k := by
  intro i
  simp only [pointwise]
  exact dot_real _ _ _ _ (fun k => hx _) (fun k => hy _)

/-- A product of a transposed 128×128 matrix with one. -/
theorem R2.dotTN {x y : FVec Ideal S128x128 .bf16} (hx : R2 (n0 := 128) (n1 := 128) x f) (hy : R2 (n0 := 128) (n1 := 128) y g) :
    R2 (n0 := 128) (n1 := 128) (matmul (F := Ideal) dot_S128x128_S128x128_S128x128_0_0_1_1_n_n none x y (constant S128x128 .f32 0x00000000#32))
      fun s j => ∑ k : Fin 128, f k s * g k j := by
  intro i
  simp only [pointwise]
  exact dot_real _ _ _ _ (fun k => hx _) (fun k => hy _)

/-- A product of an 8×128 matrix with a transposed 128×128 one. -/
theorem R2.dot8 {x : FVec Ideal S8x128 .bf16} {y : FVec Ideal S128x128 .bf16} (hx : R2 (n0 := 8) (n1 := 128) x f) (hy : R2 (n0 := 128) (n1 := 128) y g) :
    R2 (n0 := 8) (n1 := 128) (matmul (F := Ideal) dot_S8x128_S128x128_S8x128_1_1_0_0_n_n none x y (constant S8x128 .f32 0x00000000#32))
      fun s j => ∑ k : Fin 128, f s k * g j k := by
  intro i
  simp only [pointwise]
  exact dot_real _ _ _ _ (fun k => hx _) (fun k => hy _)

/-- A product of a 256×128 matrix with a transposed one. -/
theorem R2.dotA {x y : FVec Ideal S256x128 .bf16} (hx : R2 (n0 := 256) (n1 := 128) x f) (hy : R2 (n0 := 256) (n1 := 128) y g) :
    R2 (n0 := 256) (n1 := 256) (matmul (F := Ideal) dot_S256x128_S256x128_S256x256_1_1_0_0_n_n none x y (constant S256x256 .f32 0x00000000#32))
      fun s j => ∑ k : Fin 128, f s k * g j k := by
  intro i
  simp only [pointwise]
  exact dot_real _ _ _ _ (fun k => hx _) (fun k => hy _)

/-- A product of a 256×256 matrix with a 256×128 one. -/
theorem R2.dotB {x : FVec Ideal S256x256 .bf16} {y : FVec Ideal S256x128 .bf16} (hx : R2 (n0 := 256) (n1 := 256) x f) (hy : R2 (n0 := 256) (n1 := 128) y g) :
    R2 (n0 := 256) (n1 := 128) (matmul (F := Ideal) dot_S256x256_S256x128_S256x128_1_0_0_1_n_n none x y (constant S256x128 .f32 0x00000000#32))
      fun s j => ∑ k : Fin 256, f s k * g k j := by
  intro i
  simp only [pointwise]
  exact dot_real _ _ _ _ (fun k => hx _) (fun k => hy _)

/-- A product of a transposed 256×256 matrix with a 256×128 one. -/
theorem R2.dotC {x : FVec Ideal S256x256 .bf16} {y : FVec Ideal S256x128 .bf16} (hx : R2 (n0 := 256) (n1 := 256) x f) (hy : R2 (n0 := 256) (n1 := 128) y g) :
    R2 (n0 := 256) (n1 := 128) (matmul (F := Ideal) dot_S256x256_S256x128_S256x128_0_0_1_1_n_n none x y (constant S256x128 .f32 0x00000000#32))
      fun s j => ∑ k : Fin 256, f k s * g k j := by
  intro i
  simp only [pointwise]
  exact dot_real _ _ _ _ (fun k => hx _) (fun k => hy _)

/-- Rounding to bf16 is the identity on real numbers. -/
theorem R2.truncf {n m : ℕ} {x : (Sh n m).Idx → EReal} (hx : R2 x f) (h : FTy.bits .bf16 < FTy.bits .f32) :
    R2 (Idealize.ShloMosaic.truncf (F := Ideal) (s := Sh n m) (φ := .f32) .bf16 x h) f := fun i => hx i

/-- The causal mask: entries above the diagonal are zero. -/
theorem R2.mask {x : FVec Ideal S128x128 .f32} (hx : R2 (n0 := 128) (n1 := 128) x f) :
    R2 (n0 := 128) (n1 := 128) (select k0_pay18 x (broadcast S128x128 (Scalar.ofBits (F := Ideal) .f32 0x00000000#32)))
      fun s j => if j ≤ s then f s j else 0 := by
  intro i
  have h0 : (i 0).val < 128 := (i 0).isLt
  have h1 : (i 1).val < 128 := (i 1).isLt
  show (if IntOp.cmpi .sge (iota .tc S128x128 32 [0] iota_S128x128_d0_w32 i) (iota .tc S128x128 32 [1] iota_S128x128_d1_w32 i) = 1#1
    then x i else Ideal.ofBits .f32 0x00000000#32) = _
  rw [show iota .tc S128x128 32 [0] iota_S128x128_d0_w32 i = BitVec.ofNat 32 (i 0).val from by simp [pointwise],
    show iota .tc S128x128 32 [1] iota_S128x128_d1_w32 i = BitVec.ofNat 32 (i 1).val from by simp [pointwise],
    sge_lane h0 h1, hx i, lit_0]
  by_cases h : (i 1).val ≤ (i 0).val <;> simp [h]

/-- Two blocks of 128 rows, one above the other. -/
theorem R2.vcat {F : ℕ → ℕ → ℝ} {x y : FVec Ideal S128x128 .f32} (hx : R2 (n0 := 128) (n1 := 128) x F)
    (hy : R2 (n0 := 128) (n1 := 128) y fun s j => F (128 + s) j) (h) :
    R2 (n0 := 256) (n1 := 128) (concatenate S256x128 0 [⟨S128x128, x⟩, ⟨S128x128, y⟩] h) F := by
  intro i
  have h0 : (i 0).val < 256 := (i 0).isLt
  by_cases hi : (i 0).val < 128
  · exact (cat2r _ h i 0 Nat.zero_lt_two x rfl 0 rfl (Nat.zero_le _) (by omega) hx).trans (by simp)
  · refine (cat2r _ h i 1 Nat.one_lt_two y rfl 128 rfl (by omega) (by omega) hy).trans ?_
    exact cg2 F (by omega) rfl

/-- Six blocks of 128 columns side by side. -/
theorem R2.hcat {n : ℕ} {F : ℕ → ℕ → ℝ} {x0 x1 x2 x3 x4 x5 : (Sh n 128).Idx → EReal} (h0 : R2 x0 F)
    (h1 : R2 x1 fun s j => F s (128 + j)) (h2 : R2 x2 fun s j => F s (256 + j)) (h3 : R2 x3 fun s j => F s (384 + j))
    (h4 : R2 x4 fun s j => F s (512 + j)) (h5 : R2 x5 fun s j => F s (640 + j)) (h) :
    R2 (concatenate (Sh n 768) 1 [⟨Sh n 128, x0⟩, ⟨Sh n 128, x1⟩, ⟨Sh n 128, x2⟩, ⟨Sh n 128, x3⟩, ⟨Sh n 128, x4⟩, ⟨Sh n 128, x5⟩] h) F := by
  intro i
  have hi : (i 1).val < 768 := (i 1).isLt
  by_cases c0 : (i 1).val < 128
  · exact (cat2 _ h i 0 (show 0 < 6 by omega) x0 rfl 0 rfl (Nat.zero_le _) (by omega) h0).trans (by simp)
  by_cases c1 : (i 1).val < 256
  · exact (cat2 _ h i 1 (show 1 < 6 by omega) x1 rfl 128 rfl (by omega) (by omega) h1).trans (cg2 F rfl (by omega))
  by_cases c2 : (i 1).val < 384
  · exact (cat2 _ h i 2 (show 2 < 6 by omega) x2 rfl 256 rfl (by omega) (by omega) h2).trans (cg2 F rfl (by omega))
  by_cases c3 : (i 1).val < 512
  · exact (cat2 _ h i 3 (show 3 < 6 by omega) x3 rfl 384 rfl (by omega) (by omega) h3).trans (cg2 F rfl (by omega))
  by_cases c4 : (i 1).val < 640
  · exact (cat2 _ h i 4 (show 4 < 6 by omega) x4 rfl 512 rfl (by omega) (by omega) h4).trans (cg2 F rfl (by omega))
  · exact (cat2 _ h i 5 (show 5 < 6 by omega) x5 rfl 640 rfl (by omega) (by omega) h5).trans (cg2 F rfl (by omega))

/-- Columns loaded from a buffer. -/
theorem R2.ldc {n m N M b : ℕ} {z : (Sh N M).Idx → EReal} (hz : R2 z f) (inb : ∀ c, ![0, b] c + ![n, m] c ≤ (Sh N M).size c) :
    R2 (n0 := n) (n1 := m) (View.ld (Val := Elt Ideal) (e' := .f32) (S := Sh N M) z (Rect.unit ![0, b] ![n, m] inb))
      fun s j => f s (b + j) :=
  (hz.ld inb).congr fun s j _ _ => by rw [Nat.zero_add]

end Cert.Mix

end
-- ==== Proof.KerCanon.lean ====
/- Reading a buffer that a list of stores has filled, store by store: a store of real numbers at a rectangle settles the
   cells of the rectangle and leaves the others to the earlier stores. -/
module

public import proofs.«01_k».proof.Proof.KerDot
public import Idealize.ShloMosaic.Lib.Pipeline.ReadBack
public import Idealize.ShloMosaic.Lib.WritesUnit

@[expose] public section

set_option maxRecDepth 16384

noncomputable section

namespace Cert.Mix

open Cert.KernelIdeal Cert.KernelIdeal.Gen Idealize.ShloMosaic Idealize.ShloMosaic.TcCoe

/-- One store: inside its rectangle the cell is the stored one, outside what the earlier stores left. -/
theorem canon_step {s : Shape} {e : EltTy} {off size : Fin s.rank → ℕ} {inb : ∀ c, off c + size c ≤ s.size c}
    {w : (Rect.unit off size inb).shape.Idx → Elt Ideal e} {L : List (View.Piece (Elt Ideal) s e)} {y : s.Idx} {v : Elt Ideal e}
    (hw : ∀ x : (Rect.unit off size inb).shape.Idx, (∀ c, (y c).val = off c + (x c).val) → w x = v)
    (hL : ¬(∀ c, off c ≤ (y c).val ∧ (y c).val < off c + size c) → View.canon L y = v) :
    View.canon (⟨Rect.unit off size inb, w⟩ :: L) y = v := by
  by_cases h : ∀ c, off c ≤ (y c).val ∧ (y c).val < off c + size c
  · have e : (Rect.unit off size inb).emb (Rect.unitLocal (off := off) (size := size) y h) = y :=
      funext fun c => Fin.ext (by
        show off c + 1 * ((y c).val - off c) = (y c).val
        have := (h c).1
        omega)
    have := View.canon_cons_emb (Val := Elt Ideal) (Rect.unit off size inb) w L (Rect.unitLocal (off := off) (size := size) y h)
    rw [e] at this
    rw [this]
    exact hw _ fun c => by
      show (y c).val = off c + ((y c).val - off c)
      have := (h c).1
      omega
  · rw [View.canon_cons_of_not_mem _ _ (fun hm => h ((Rect.mem_set_unit (inb := inb)).mp hm)), hL h]

/-- The same over a buffer that held something before. -/
theorem writes_step {sig : RefSig} {κ : Kind} {sp : Space} {s : Shape} {e : EltTy} (V : View sig κ sp s e) {f : V.ty.Contents (Elt Ideal)}
    {off size : Fin s.rank → ℕ} {inb : ∀ c, off c + size c ≤ s.size c}
    {w : (Rect.unit off size inb).shape.Idx → Elt Ideal e} {L : List (View.Piece (Elt Ideal) s e)} {y : s.Idx} {v : Elt Ideal e}
    (hw : ∀ x : (Rect.unit off size inb).shape.Idx, (∀ c, (y c).val = off c + (x c).val) → w x = v)
    (hL : ¬(∀ c, off c ≤ (y c).val ∧ (y c).val < off c + size c) → V.read (Elt Ideal) (V.writes (Elt Ideal) f L) y = v) :
    V.read (Elt Ideal) (V.writes (Elt Ideal) f (⟨Rect.unit off size inb, w⟩ :: L)) y = v := by
  by_cases h : ∀ c, off c ≤ (y c).val ∧ (y c).val < off c + size c
  · have hx : ∀ c, (y c).val = off c + (Rect.unitLocal (off := off) (size := size) y h c).val := fun c => by
      show (y c).val = off c + ((y c).val - off c)
      have := (h c).1
      omega
    exact (View.read_writes_cons_unit_of_mem V f inb w L y (Rect.unitLocal (off := off) (size := size) y h) rfl hx).trans (hw _ hx)
  · exact (View.read_writes_cons_miss V f ⟨Rect.unit off size inb, w⟩ L y (fun hm => h ((Rect.mem_set_unit (inb := inb)).mp hm))).trans (hL h)

section Two
variable {N M n m a b : ℕ} {F : ℕ → ℕ → ℝ}

/-- One store of a matrix of real numbers. -/
theorem canon2 {inb : ∀ c, ![a, b] c + ![n, m] c ≤ (Sh N M).size c}
    {w : (Rect.unit (s := Sh N M) ![a, b] ![n, m] inb).shape.Idx → Elt Ideal .f32}
    {L : List (View.Piece (Elt Ideal) (Sh N M) .f32)} {y : (Sh N M).Idx}
    (hw : R2 (n0 := n) (n1 := m) w fun s j => F (a + s) (b + j))
    (hL : ¬(a ≤ (y 0).val ∧ (y 0).val < a + n ∧ b ≤ (y 1).val ∧ (y 1).val < b + m) →
      View.canon L y = ((F (y 0).val (y 1).val : ℝ) : EReal)) :
    View.canon (⟨Rect.unit (s := Sh N M) ![a, b] ![n, m] inb, w⟩ :: L) y = ((F (y 0).val (y 1).val : ℝ) : EReal) :=
  canon_step (fun x hx => (hw x).trans (cg2 F (hx 0).symm (hx 1).symm)) fun h => hL fun ⟨h1, h2, h3, h4⟩ =>
    h (Fin.forall_fin_two.mpr ⟨⟨h1, h2⟩, h3, h4⟩)

/-- One store of a matrix of real numbers, rounded. -/
theorem canon2b {inb : ∀ c, ![a, b] c + ![n, m] c ≤ (Sh N M).size c}
    {w : (Rect.unit (s := Sh N M) ![a, b] ![n, m] inb).shape.Idx → Elt Ideal .bf16}
    {L : List (View.Piece (Elt Ideal) (Sh N M) .bf16)} {y : (Sh N M).Idx}
    (hw : R2 (n0 := n) (n1 := m) w fun s j => F (a + s) (b + j))
    (hL : ¬(a ≤ (y 0).val ∧ (y 0).val < a + n ∧ b ≤ (y 1).val ∧ (y 1).val < b + m) →
      View.canon L y = ((F (y 0).val (y 1).val : ℝ) : EReal)) :
    View.canon (⟨Rect.unit (s := Sh N M) ![a, b] ![n, m] inb, w⟩ :: L) y = ((F (y 0).val (y 1).val : ℝ) : EReal) :=
  canon_step (fun x hx => (hw x).trans (cg2 F (hx 0).symm (hx 1).symm)) fun h => hL fun ⟨h1, h2, h3, h4⟩ =>
    h (Fin.forall_fin_two.mpr ⟨⟨h1, h2⟩, h3, h4⟩)

/-- One store of a matrix of real numbers over a buffer that held something before. -/
theorem writes2 {sig : RefSig} {κ : Kind} {sp : Space} (V : View sig κ sp (Sh N M) .f32) {f : V.ty.Contents (Elt Ideal)}
    {inb : ∀ c, ![a, b] c + ![n, m] c ≤ (Sh N M).size c}
    {w : (Rect.unit (s := Sh N M) ![a, b] ![n, m] inb).shape.Idx → Elt Ideal .f32}
    {L : List (View.Piece (Elt Ideal) (Sh N M) .f32)} {y : (Sh N M).Idx}
    (hw : R2 (n0 := n) (n1 := m) w fun s j => F (a + s) (b + j))
    (hL : ¬(a ≤ (y 0).val ∧ (y 0).val < a + n ∧ b ≤ (y 1).val ∧ (y 1).val < b + m) →
      V.read (Elt Ideal) (V.writes (Elt Ideal) f L) y = ((F (y 0).val (y 1).val : ℝ) : EReal)) :
    V.read (Elt Ideal) (V.writes (Elt Ideal) f (⟨Rect.unit (s := Sh N M) ![a, b] ![n, m] inb, w⟩ :: L)) y = ((F (y 0).val (y 1).val : ℝ) : EReal) :=
  writes_step V (fun x hx => (hw x).trans (cg2 F (hx 0).symm (hx 1).symm)) fun h => hL fun ⟨h1, h2, h3, h4⟩ =>
    h (Fin.forall_fin_two.mpr ⟨⟨h1, h2⟩, h3, h4⟩)

/-- A load of a rectangle of a buffer that a list of stores has filled with real numbers. -/
theorem readCov2 {sig : RefSig} {κ : Kind} {sp : Space} (V : View sig κ sp (Sh N M) .f32)
    {L : List (View.Piece (Elt Ideal) (Sh N M) .f32)} (inb : ∀ c, ![a, b] c + ![n, m] c ≤ (Sh N M).size c)
    (hL : ∀ y : (Sh N M).Idx, a ≤ (y 0).val → (y 0).val < a + n → b ≤ (y 1).val → (y 1).val < b + m →
      View.canon L y = ((F (y 0).val (y 1).val : ℝ) : EReal)) :
    R2 (n0 := n) (n1 := m) (V.readCov L (Rect.unit (s := Sh N M) ![a, b] ![n, m] inb).toLoadRect) fun s j => F (a + s) (b + j) := by
  intro i
  have h0 : (i 0).val < n := (i 0).isLt
  have h1 : (i 1).val < m := (i 1).isLt
  have e0 : ((Rect.unit (s := Sh N M) ![a, b] ![n, m] inb).toLoadRect.idx i 0).val = a + (i 0).val := by
    show a + 1 * (i 0).val = _; omega
  have e1 : ((Rect.unit (s := Sh N M) ![a, b] ![n, m] inb).toLoadRect.idx i 1).val = b + (i 1).val := by
    show b + 1 * (i 1).val = _; omega
  rw [View.readCov_eq_canon']
  refine (hL _ ?_ ?_ ?_ ?_).trans (cg2 F e0 e1) <;> omega

end Two

/-- One store of a matrix of real numbers into a stack. -/
theorem canon3 {K N M n m a b c p : ℕ} {F : ℕ → ℕ → ℕ → ℝ} {inb : ∀ d, ![a, b, c] d + ![p, n, m] d ≤ (⟨3, ![K, N, M]⟩ : Shape).size d}
    {w : (Rect.unit (s := ⟨3, ![K, N, M]⟩) ![a, b, c] ![p, n, m] inb).shape.Idx → Elt Ideal .f32}
    {L : List (View.Piece (Elt Ideal) ⟨3, ![K, N, M]⟩ .f32)} {y : (⟨3, ![K, N, M]⟩ : Shape).Idx}
    (hw : R3 (n0 := p) (n1 := n) (n2 := m) w fun r s j => F (a + r) (b + s) (c + j))
    (hL : ¬((a ≤ (y 0).val ∧ (y 0).val < a + p) ∧ (b ≤ (y 1).val ∧ (y 1).val < b + n) ∧ (c ≤ (y 2).val ∧ (y 2).val < c + m)) →
      View.canon L y = ((F (y 0).val (y 1).val (y 2).val : ℝ) : EReal)) :
    View.canon (⟨Rect.unit (s := ⟨3, ![K, N, M]⟩) ![a, b, c] ![p, n, m] inb, w⟩ :: L) y
      = ((F (y 0).val (y 1).val (y 2).val : ℝ) : EReal) :=
  canon_step (fun x hx => (hw x).trans (cg3 F (hx 0).symm (hx 1).symm (hx 2).symm)) fun h => hL fun ⟨h1, h2, h3⟩ =>
    h fun d => match d with | ⟨0, _⟩ => h1 | ⟨1, _⟩ => h2 | ⟨2, _⟩ => h3

end Cert.Mix

end
-- ==== Proof.KerHead.lean ====
/- The kernel's per-head step on real numbers: the gradient through the RMS norm of one head's rows, the gradient of its
   gain, and GELU with its derivative. -/
module

public import proofs.«01_k».proof.Proof.KerCanon

@[expose] public section

set_option maxRecDepth 16384

noncomputable section

namespace Cert.Mix

open Cert.KernelIdeal Cert.KernelIdeal.Gen Idealize.ShloMosaic Idealize.ShloMosaic.TcCoe

/-- The reciprocal root mean square of a row of 128 numbers. -/
def rsR (H : ℕ → ℕ → ℝ) (s : ℕ) : ℝ := (Real.sqrt ((∑ d : Fin 128, H s d * H s d) / 128 + eps))⁻¹

/-- The gradient of a row of a head's outputs, from the row, the cotangent and the gain. -/
def daR (H D G : ℕ → ℕ → ℝ) (s j : ℕ) : ℝ :=
  rsR H s * (D s j * G 0 j - H s j * rsR H s * ((∑ d : Fin 128, D s d * G 0 d * (H s d * rsR H s)) / 128))

variable {H D G P X : ℕ → ℕ → ℝ}

theorem rsR_arg_pos (s : ℕ) : 0 < (∑ d : Fin 128, H s d * H s d) / 128 + eps :=
  add_pos_of_nonneg_of_pos (div_nonneg (Finset.sum_nonneg fun _ _ => mul_self_nonneg _) (by norm_num)) eps_pos

section
variable {n : ℕ} {x y : FVec Ideal (Sh n 128) .f32} {z : FVec Ideal (Sh 1 128) .f32}

/-- The reciprocal root mean squares of the rows. -/
theorem R2.rms (hx : R2 (n0 := n) (n1 := 128) x H) (h : (Sh n 128).Reduces [1] ⟨1, ![n]⟩) (hφ : FKind.Formats .f32) (acc)
    (hacc : acc = FKind.add.neutral .f32 hφ) (hc : (⟨1, ![n]⟩ : Shape).ShapeCasts (Sh n 1)) :
    R2 (n0 := n) (n1 := 1) (Idealize.ShloMosaic.rsqrt (F := Ideal) (addf (divf (shapeCast (Sh n 1) (multiReduction (F := Ideal) (φ := .f32) .add [1] ⟨1, ![n]⟩ (mulf x x) acc h hφ hacc) hc)
      (broadcast (Sh n 1) (Scalar.ofBits (F := Ideal) .f32 0x43000000#32))) (broadcast (Sh n 1) (Scalar.ofBits (F := Ideal) .f32 0x358637BD#32))))
      fun s _ => rsR H s :=
  (((((hx.mul hx).rowSum h hφ acc hacc hc).div (R2.splat lit_128) fun _ _ _ _ => by norm_num).add (R2.splat lit_eps)).rsqrt
    fun s _ _ _ => rsR_arg_pos s)

/-- The gradient through the RMS norm. -/
theorem R2.dheads {r : FVec Ideal (Sh n 1) .f32} {u : FVec Ideal (Sh n 128) .f32} (hD : R2 (n0 := n) (n1 := 128) y D)
    (hG : R2 (n0 := 1) (n1 := 128) z G) (hr : R2 (n0 := n) (n1 := 1) r fun s _ => rsR H s)
    (hu : R2 (n0 := n) (n1 := 128) u fun s j => H s j * rsR H s) (b1 : (Sh n 1).Broadcasts (Sh n 128)) (b2 : (Sh 1 128).Broadcasts (Sh n 128))
    (h : (Sh n 128).Reduces [1] ⟨1, ![n]⟩) (hφ : FKind.Formats .f32) (acc)
    (hacc : acc = FKind.add.neutral .f32 hφ) (hc : (⟨1, ![n]⟩ : Shape).ShapeCasts (Sh n 1)) :
    R2 (n0 := n) (n1 := 128) (mulf (F := Ideal) (broadcastTo (Sh n 128) r b1) (subf (mulf y (broadcastTo (Sh n 128) z b2))
      (mulf u (broadcastTo (Sh n 128) (divf (shapeCast (Sh n 1) (multiReduction (F := Ideal) (φ := .f32) .add [1] ⟨1, ![n]⟩
        (mulf (mulf y (broadcastTo (Sh n 128) z b2)) u) acc h hφ hacc) hc)
      (broadcast (Sh n 1) (Scalar.ofBits (F := Ideal) .f32 0x43000000#32))) b1)))) (daR H D G) :=
  (hr.col b1).mul ((hD.mul (hG.row b2)).sub (hu.mul ((((hD.mul (hG.row b2)).mul hu).rowSum h hφ acc hacc hc).div
    (R2.splat lit_128) (fun _ _ _ _ => by norm_num) |>.col b1)))

end

section
variable {hd dn : Vec Ideal S256x128 .f32} {gh p : Vec Ideal S1x128 .f32} (hH : R2 (n0 := 256) (n1 := 128) hd H)
  (hD : R2 (n0 := 256) (n1 := 128) dn D) (hG : R2 (n0 := 1) (n1 := 128) gh G)
include hH

theorem rs_val : R2 (n0 := 256) (n1 := 1) (k0_pay155 (F := Ideal) hd) fun s _ => rsR H s := R2.rms (R2.cast hH shapeCasts_S256x128_S256x128) _ _ _ _ _

theorem hat_val : R2 (n0 := 256) (n1 := 128) (k0_pay156 (F := Ideal) hd) fun s j => H s j * rsR H s :=
  R2.mul (R2.cast hH shapeCasts_S256x128_S256x128) (R2.col (rs_val hH) _)

include hD

/-- The gradient of one head's rows of a tile. -/
theorem da_val (hG : R2 (n0 := 1) (n1 := 128) gh G) : R2 (n0 := 256) (n1 := 128) (k0_pay157 (F := Ideal) hd dn gh) (daR H D G) :=
  R2.dheads hD hG (rs_val hH) (hat_val hH) _ _ _ _ _ _ _

/-- The gain's gradient, added to what was there. -/
theorem dgh_val (hP : R2 (n0 := 1) (n1 := 128) p P) : R2 (n0 := 1) (n1 := 128) (k0_pay285 (F := Ideal) hd dn p)
    fun s j => P s j + ∑ i : Fin 256, D i j * (H i j * rsR H i) :=
  R2.add (R2.cast hP shapeCasts_S1x128_S1x128) (R2.colSum (R2.mul hD (hat_val hH)) _ _ _ _ _)

end

section
variable {hd dn : Vec Ideal S8x128 .f32} {gh : Vec Ideal S1x128 .f32}

/-- The gradient of one head's first eight rows of the next tile. -/
theorem da8_val (hH : R2 (n0 := 8) (n1 := 128) hd H)
    (hD : R2 (n0 := 8) (n1 := 128) dn D) (hG : R2 (n0 := 1) (n1 := 128) gh G) :
    R2 (n0 := 8) (n1 := 128) (k0_pay230 (F := Ideal) hd dn gh) (daR H D G) :=
  have h1 := (hH.cast shapeCasts_S8x128_S8x128)
  have hr := R2.rms h1 reduces_S8x128_S8 (.inl rfl) 0x00000000#32 rfl shapeCasts_S8_S8x1
  R2.dheads hD hG hr (h1.mul (hr.col broadcasts_S8x1_S8x128)) _ _ _ _ _ _ _

end

theorem lit_gelu_c : Named.named (F := Ideal) (φ := .f32) κ "gelu_c" 0x3D372713#32 = ((gc1 : ℝ) : EReal) :=
  IdealRules.named_const.ideal_named_scalar _ _ _ _ rfl

theorem lit_gelu_3c : Named.named (F := Ideal) (φ := .f32) κ "gelu_3c" 0x3E095D4F#32 = ((3 * gc1 : ℝ) : EReal) :=
  (IdealRules.named_const.ideal_named_scalar _ _ _ _ rfl).trans (by unfold gc1; norm_num)

section
variable {n m : ℕ} {x : FVec Ideal (Sh n m) .f32}

/-- The tanh inside GELU, of each entry. -/
theorem R2.gth (hx : R2 (n0 := n) (n1 := m) x X) : R2 (n0 := n) (n1 := m) (Idealize.ShloMosaic.tanh (F := Ideal) (mulf (broadcast (Sh n m) (Scalar.ofBits (F := Ideal) .f32 0x3F4C422A#32))
    (addf x (mulf (broadcast (Sh n m) (Named.named (F := Ideal) (φ := .f32) κ "gelu_c" 0x3D372713#32)) (mulf (mulf x x) x))))) fun s j => Mix.gth (X s j) :=
  ((R2.splat lit_gc0).mul (hx.add ((R2.splat lit_gelu_c).mul ((hx.mul hx).mul hx)))).tanh

/-- GELU's factor, of each entry. -/
theorem R2.gfac {t : FVec Ideal (Sh n m) .f32} (ht : R2 (n0 := n) (n1 := m) t fun s j => Mix.gth (X s j)) :
    R2 (n0 := n) (n1 := m) (mulf (F := Ideal) (broadcast (Sh n m) (Scalar.ofBits (F := Ideal) .f32 0x3F000000#32))
      (addf (broadcast (Sh n m) (Scalar.ofBits (F := Ideal) .f32 0x3F800000#32)) t)) fun s j => 1 / 2 * (1 + Mix.gth (X s j)) :=
  (R2.splat lit_half).mul ((R2.splat lit_1).add ht)

/-- GELU's derivative, of each entry. -/
theorem R2.dgel {t f : FVec Ideal (Sh n m) .f32} (hx : R2 (n0 := n) (n1 := m) x X) (ht : R2 (n0 := n) (n1 := m) t fun s j => Mix.gth (X s j))
    (hf : R2 (n0 := n) (n1 := m) f fun s j => 1 / 2 * (1 + Mix.gth (X s j))) :
    R2 (n0 := n) (n1 := m) (addf (F := Ideal) f (mulf (mulf (mulf (broadcast (Sh n m) (Scalar.ofBits (F := Ideal) .f32 0x3F000000#32)) x)
      (subf (broadcast (Sh n m) (Scalar.ofBits (F := Ideal) .f32 0x3F800000#32)) (mulf t t)))
      (mulf (broadcast (Sh n m) (Scalar.ofBits (F := Ideal) .f32 0x3F4C422A#32)) (addf (broadcast (Sh n m) (Scalar.ofBits (F := Ideal) .f32 0x3F800000#32))
        (mulf (broadcast (Sh n m) (Named.named (F := Ideal) (φ := .f32) κ "gelu_3c" 0x3E095D4F#32)) (mulf x x)))))) fun s j => Mix.dgel (X s j) :=
  hf.add ((((R2.splat lit_half).mul hx).mul ((R2.splat lit_1).sub (ht.mul ht))).mul
    ((R2.splat lit_gc0).mul ((R2.splat lit_1).add ((R2.splat lit_gelu_3c).mul (hx.mul hx)))))

end

section
variable {x : Vec Ideal S256x128 .f32} (hx : R2 (n0 := 256) (n1 := 128) x X)
include hx

/-- GELU of a tile of a head. -/
theorem gel_val : R2 (n0 := 256) (n1 := 128) (k0_pay163 (F := Ideal) x) fun s j => gel (X s j) :=
  hx.mul hx.gth.gfac

/-- GELU's derivative of a tile of a head. -/
theorem dgel_val : R2 (n0 := 256) (n1 := 128) (k0_pay164 (F := Ideal) x) fun s j => dgel (X s j) :=
  R2.dgel hx hx.gth hx.gth.gfac

end

section
variable {x : Vec Ideal S256x768 .f32} (hx : R2 (n0 := 256) (n1 := 768) x X)
include hx

/-- GELU's derivative of a tile of the normed half. -/
theorem dgel768_val : R2 (n0 := 256) (n1 := 768) (k0_pay11 (F := Ideal) x) fun s j => dgel (X s j) :=
  R2.dgel hx hx.gth hx.gth.gfac

end

section
variable {hd dn : Vec Ideal S256x128 .f32} {gh p : Vec Ideal S1x128 .f32}

/-- The heads' steps are one program, cut into pieces at different places. -/
theorem same_da1 : k0_pay51 (F := Ideal) (k0_pay47 hd) dn gh (k0_pay48 hd) (Scalar.ofBits .f32 0x43000000#32) = k0_pay157 hd dn gh := rfl
theorem same_da0 : k0_pay26 (F := Ideal) dn (k0_pay23 hd) (k0_pay24 hd) (k0_pay25 gh) = k0_pay157 hd dn gh := rfl
theorem same_da12 : k0_pay250 (F := Ideal) (k0_pay246 hd) dn gh = k0_pay157 hd dn gh := rfl

end

end Cert.Mix

end
-- ==== Proof.KerGate.lean ====
/- The kernel's spatial gating on real numbers: the layer norm of a tile, the causal mix of each chunk of a head and its
   gradients, and the gradient through the layer norm. -/
module

public import proofs.«01_k».proof.Proof.KerHead

@[expose] public section

set_option maxRecDepth 16384

noncomputable section

namespace Cert.Mix

open Cert.KernelIdeal Cert.KernelIdeal.Gen Idealize.ShloMosaic Idealize.ShloMosaic.TcCoe

variable {I : In}

theorem daR_hd {T g s j : ℕ} (hj : j < 128) :
    daR (fun s d => I.hd (T + s) (g * 128 + d)) (fun s d => I.dhn (T + s) (g * 128 + d)) (fun _ d => I.gh 0 (g * 128 + d)) s j
      = I.dh (T + s) (g * 128 + j) := by
  unfold In.dh
  rw [show (g * 128 + j) / 128 = g by omega]
  rfl

/-! The layer norm of a tile of 256 rows from row `T`. -/

section
variable {T : ℕ} {x : Vec Ideal S256x768 .f32} (hx : R2 (n0 := 256) (n1 := 768) x fun s j => I.proj (T + s) (768 + j))
include hx

theorem V_val : R2 (n0 := 256) (n1 := 768) (mulf (F := Ideal) (φ := .f32) x (k0_pay10 (F := Ideal) x)) fun s j => I.V (T + s) j :=
  R2.mul hx (R2.gfac (R2.gth hx))

theorem vc_val : R2 (n0 := 256) (n1 := 768) (k0_pay12 (F := Ideal) x) fun s j => I.vc (T + s) j :=
  R2.sub (V_val hx) (R2.col (R2.div (R2.rowSum (V_val hx) _ _ _ _ _) (R2.splat lit_768) (fun _ _ _ _ => by norm_num)) _)

theorem vcsum_val : R2 (n0 := 256) (n1 := 1) (k0_pay13 (F := Ideal) x) fun s _ => ∑ j : Fin 768, I.vc (T + s) j * I.vc (T + s) j :=
  R2.rowSum (R2.mul (vc_val hx) (vc_val hx)) _ _ _ _ _

theorem rst_val : R2 (n0 := 256) (n1 := 1) (k0_pay15 (F := Ideal) (k0_pay13 x) k0_pay14) fun s _ => I.rst (T + s) :=
  R2.rsqrt (R2.add (R2.div (vcsum_val hx) (R2.splat lit_768) (fun _ _ _ _ => by norm_num)) (R2.splat lit_eps))
    (fun s _ _ _ => I.var_pos (T + s))

theorem vhat_val : R2 (n0 := 256) (n1 := 768) (k0_pay16 (F := Ideal) (k0_pay12 x) (k0_pay13 x) k0_pay14) fun s j => I.vhat (T + s) j :=
  R2.mul (vc_val hx) (R2.col (rst_val hx) _)

theorem vn_val {lg lb : Vec Ideal S1x768 .f32} (hg : R2 (n0 := 1) (n1 := 768) lg I.lng) (hb : R2 (n0 := 1) (n1 := 768) lb I.lnb) :
    R2 (n0 := 256) (n1 := 768) (k0_pay17 (F := Ideal) (k0_pay12 x) (k0_pay13 x) k0_pay14 lg lb) fun s j => I.vn (T + s) j :=
  R2.truncf (R2.add (R2.mul (vhat_val hx) (R2.row hg _)) (R2.row hb _)) _

/-- The gradient of the layer norm's gain, added to what was there. -/
theorem dlng_val {dvn : Vec Ideal S256x768 .f32} {p : Vec Ideal S1x768 .f32} {P : ℕ → ℕ → ℝ}
    (hd : R2 (n0 := 256) (n1 := 768) dvn fun s j => I.dvn (T + s) j) (hp : R2 (n0 := 1) (n1 := 768) p P) :
    R2 (n0 := 1) (n1 := 768) (k0_pay180 (F := Ideal) (k0_pay16 (k0_pay12 x) (k0_pay13 x) k0_pay14) dvn p)
      fun s j => P s j + ∑ i : Fin 256, I.dvn (T + i) j * I.vhat (T + i) j :=
  R2.add (R2.cast hp shapeCasts_S1x768_S1x768) (R2.colSum (R2.mul hd (vhat_val hx)) _ _ _ _ _)

/-- The gradient of `v` on a tile. -/
theorem dv_val {dvn : Vec Ideal S256x768 .f32} {lg : Vec Ideal S1x768 .f32} (hg : R2 (n0 := 1) (n1 := 768) lg I.lng)
    (hd : R2 (n0 := 256) (n1 := 768) dvn fun s j => I.dvn (T + s) j) :
    R2 (n0 := 256) (n1 := 768) (k0_pay185 (F := Ideal) (k0_pay11 x) (k0_pay15 (k0_pay13 x) k0_pay14)
      (k0_pay16 (k0_pay12 x) (k0_pay13 x) k0_pay14) (k0_pay183 dvn lg) (k0_pay184 (k0_pay16 (k0_pay12 x) (k0_pay13 x) k0_pay14) dvn lg))
      fun s j => I.dv (T + s) j :=
  have h1 : R2 (n0 := 256) (n1 := 768) (k0_pay182 (F := Ideal) dvn lg) fun s j => I.dvh (T + s) j := R2.mul hd (R2.row hg _)
  have h2 : R2 (n0 := 256) (n1 := 768) (k0_pay183 (F := Ideal) dvn lg) fun s j => I.dvh (T + s) j - (∑ j : Fin 768, I.dvh (T + s) j) / 768 :=
    R2.sub h1 (R2.col (R2.div (R2.rowSum h1 _ _ _ _ _) (R2.splat lit_768) (fun _ _ _ _ => by norm_num)) _)
  have h3 := R2.mul (φ := .f32) h1 (vhat_val hx)
  R2.truncf (R2.mul (R2.mul (R2.col (rst_val hx) _) (R2.sub h2 (R2.mul (vhat_val hx)
    (R2.col (R2.div (R2.rowSum h3 _ _ _ _ _) (R2.splat lit_768) (fun _ _ _ _ => by norm_num)) _)))) (dgel768_val hx)) _

end

/-- The gradient of the layer norm's bias, added to what was there. -/
theorem dlnb_val {T : ℕ} {dvn : Vec Ideal S256x768 .f32} {p : Vec Ideal S1x768 .f32} {P : ℕ → ℕ → ℝ}
    (hd : R2 (n0 := 256) (n1 := 768) dvn fun s j => I.dvn (T + s) j) (hp : R2 (n0 := 1) (n1 := 768) p P) :
    R2 (n0 := 1) (n1 := 768) (k0_pay181 (F := Ideal) dvn p) fun s j => P s j + ∑ i : Fin 256, I.dvn (T + i) j :=
  R2.add (R2.cast hp shapeCasts_S1x768_S1x768) (R2.colSum hd _ _ _ _ _)

/-- The masked matrix of a head. -/
theorem wm_val {w : Vec Ideal S1x128x128 .f32} {h : ℕ} (hw : R3 (n0 := 1) (n1 := 128) (n2 := 128) w fun _ t r => I.ws h t r) :
    R2 (n0 := 128) (n1 := 128) (k0_pay152 (F := Ideal) k0_pay18 w) (I.wm h) :=
  R2.truncf (R2.mask (R3.cast hw _)) _

/-! One head `h` on the tile `τ`: two chunks of 128 rows. -/

section
variable {τ h : ℕ} {w s0 s1 : FVec Ideal S128x128 .bf16} {b : FVec Ideal S128x1 .f32} {da ug dg : FVec Ideal S256x128 .f32}

/-- The mixed rows of the tile's first chunk. -/
theorem mix0_val (hw : R2 (n0 := 128) (n1 := 128) w (I.wm h)) (hb : R2 (n0 := 128) (n1 := 1) b fun t _ => I.bs h t)
    (hs : R2 (n0 := 128) (n1 := 128) s0 fun r d => I.vn (256 * τ + r) (h * 128 + d)) (hc) :
    R2 (n0 := 128) (n1 := 128) (addf (F := Ideal) (matmul dot_S128x128_S128x128_S128x128_1_0_0_1_n_n none w s0 (constant S128x128 .f32 0x00000000#32))
      (broadcastTo S128x128 b hc)) fun t d => I.mix (256 * τ + t) (h * 128 + d) :=
  R2.congr (R2.add (R2.dotNN hw hs) (R2.col hb _)) fun t d ht hd => by
    unfold In.mix
    rw [show (h * 128 + d) / 128 = h by omega, show (256 * τ + t) % 128 = t by omega, show (256 * τ + t) / 128 * 128 = 256 * τ by omega]

/-- The mixed rows of the tile's second chunk. -/
theorem mix1_val (hw : R2 (n0 := 128) (n1 := 128) w (I.wm h)) (hb : R2 (n0 := 128) (n1 := 1) b fun t _ => I.bs h t)
    (hs : R2 (n0 := 128) (n1 := 128) s1 fun r d => I.vn (256 * τ + (128 + r)) (h * 128 + d)) (hc) :
    R2 (n0 := 128) (n1 := 128) (addf (F := Ideal) (matmul dot_S128x128_S128x128_S128x128_1_0_0_1_n_n none w s1 (constant S128x128 .f32 0x00000000#32))
      (broadcastTo S128x128 b hc)) fun t d => I.mix (256 * τ + (128 + t)) (h * 128 + d) :=
  R2.congr (R2.add (R2.dotNN hw hs) (R2.col hb _)) fun t d ht hd => by
    unfold In.mix
    rw [show (h * 128 + d) / 128 = h by omega, show (256 * τ + (128 + t)) % 128 = t by omega,
      show (256 * τ + (128 + t)) / 128 * 128 = 256 * τ + 128 by omega]
    refine congrArg (· + _) (Finset.sum_congr rfl fun r _ => ?_)
    rw [Nat.add_assoc]

/-- The gradient of `u` on the tile. -/
theorem du_val (hw : R2 (n0 := 128) (n1 := 128) w (I.wm h)) (hb : R2 (n0 := 128) (n1 := 1) b fun t _ => I.bs h t)
    (h0 : R2 (n0 := 128) (n1 := 128) s0 fun r d => I.vn (256 * τ + r) (h * 128 + d))
    (h1 : R2 (n0 := 128) (n1 := 128) s1 fun r d => I.vn (256 * τ + (128 + r)) (h * 128 + d))
    (ha : R2 (n0 := 256) (n1 := 128) da fun s d => I.dh (256 * τ + s) (h * 128 + d))
    (hg : R2 (n0 := 256) (n1 := 128) dg fun s d => dgel (I.proj (256 * τ + s) (h * 128 + d))) (hc hk hr) :
    R2 (n0 := 256) (n1 := 128) (truncf (F := Ideal) .bf16 (mulf (mulf da (concatenate S256x128 0
      [⟨S128x128, addf (matmul dot_S128x128_S128x128_S128x128_1_0_0_1_n_n none w s0 (constant S128x128 .f32 0x00000000#32)) (broadcastTo S128x128 b hc)⟩,
       ⟨S128x128, addf (matmul dot_S128x128_S128x128_S128x128_1_0_0_1_n_n none w s1 (constant S128x128 .f32 0x00000000#32)) (broadcastTo S128x128 b hc)⟩] hk)) dg) hr)
      fun s d => I.du (256 * τ + s) (h * 128 + d) :=
  R2.truncf (R2.mul (R2.mul ha (R2.vcat (F := fun s d => I.mix (256 * τ + s) (h * 128 + d)) (mix0_val hw hb h0 hc) (mix1_val hw hb h1 hc) hk)) hg) hr

variable (ha : R2 (n0 := 256) (n1 := 128) da fun s d => I.dh (256 * τ + s) (h * 128 + d))
  (hu : R2 (n0 := 256) (n1 := 128) ug fun s d => gel (I.proj (256 * τ + s) (h * 128 + d)))
include ha hu

theorem dm0_val : R2 (n0 := 128) (n1 := 128) (k0_pay170 (F := Ideal) ug (k0_pay169 da)) fun t d => I.dm (256 * τ + t) (h * 128 + d) :=
  R2.truncf (R2.congr (R2.mul (R2.slice ha slices_S256x128_o0_0_S128x128) (R2.slice hu slices_S256x128_o0_0_S128x128)) fun s j _ _ => by
    rw [Nat.zero_add, Nat.zero_add]; rfl) _

theorem dm1_val : R2 (n0 := 128) (n1 := 128) (k0_pay173 (F := Ideal) da ug) fun t d => I.dm (256 * τ + (128 + t)) (h * 128 + d) :=
  R2.truncf (R2.congr (R2.mul (R2.slice ha slices_S256x128_o128_0_S128x128) (R2.slice hu slices_S256x128_o128_0_S128x128)) fun s j _ _ => by
    rw [Nat.zero_add]; rfl) _

/-- The gradient of the layer norm's output on the tile's first chunk. -/
theorem dvn0_val (hw : R2 (n0 := 128) (n1 := 128) w (I.wm h)) :
    R2 (n0 := 128) (n1 := 128) (k0_pay171 (F := Ideal) w ug (k0_pay169 da)) fun r d => I.dvn (256 * τ + r) (h * 128 + d) :=
  R2.cast (R2.congr (R2.dotTN hw (dm0_val ha hu)) fun r d hr hd => by
    unfold In.dvn
    rw [show (h * 128 + d) / 128 = h by omega, show (256 * τ + r) % 128 = r by omega, show (256 * τ + r) / 128 * 128 = 256 * τ by omega])
    shapeCasts_S128x128_S128x128

/-- The gradient of the layer norm's output on the tile's second chunk. -/
theorem dvn1_val (hw : R2 (n0 := 128) (n1 := 128) w (I.wm h)) :
    R2 (n0 := 128) (n1 := 128) (k0_pay175 (F := Ideal) w da ug) fun r d => I.dvn (256 * τ + (128 + r)) (h * 128 + d) :=
  R2.cast (R2.congr (R2.dotTN hw (dm1_val ha hu)) fun r d hr hd => by
    unfold In.dvn
    rw [show (h * 128 + d) / 128 = h by omega, show (256 * τ + (128 + r)) % 128 = r by omega,
      show (256 * τ + (128 + r)) / 128 * 128 = 256 * τ + 128 by omega]
    refine Finset.sum_congr rfl fun t _ => ?_
    rw [Nat.add_assoc])
    shapeCasts_S128x128_S128x128

/-- The gradient of the head's matrix, added to what was there. -/
theorem dws_val (h0 : R2 (n0 := 128) (n1 := 128) s0 fun r d => I.vn (256 * τ + r) (h * 128 + d))
    (h1 : R2 (n0 := 128) (n1 := 128) s1 fun r d => I.vn (256 * τ + (128 + r)) (h * 128 + d))
    {p : Vec Ideal S1x128x128 .f32} {P : ℕ → ℕ → ℝ} (hp : R3 (n0 := 1) (n1 := 128) (n2 := 128) p fun _ t r => P t r) (c1 c2) :
    R3 (n0 := 1) (n1 := 128) (n2 := 128) (shapeCast S1x128x128 (addf (F := Ideal) (φ := .f32) (shapeCast S128x128 p c1) (select k0_pay18
        (addf (addf (broadcast S128x128 (Scalar.ofBits .f32 0x00000000#32))
          (matmul dot_S128x128_S128x128_S128x128_1_1_0_0_n_n none (k0_pay170 (F := Ideal) ug (k0_pay169 da)) s0 (constant S128x128 .f32 0x00000000#32)))
          (matmul dot_S128x128_S128x128_S128x128_1_1_0_0_n_n none (k0_pay173 (F := Ideal) da ug) s1 (constant S128x128 .f32 0x00000000#32)))
        (broadcast S128x128 (Scalar.ofBits .f32 0x00000000#32)))) c2)
      fun _ t r => P t r + if r ≤ t then
        ∑ d : Fin 128, I.dm (256 * τ + t) (h * 128 + d) * I.vn (256 * τ + r) (h * 128 + d)
          + ∑ d : Fin 128, I.dm (256 * τ + (128 + t)) (h * 128 + d) * I.vn (256 * τ + (128 + r)) (h * 128 + d) else 0 :=
  R2.stack (R2.congr (R2.add (R3.cast hp _) (R2.mask (R2.add (R2.add (R2.splat lit_0) (R2.dotNT (dm0_val ha hu) h0)) (R2.dotNT (dm1_val ha hu) h1))))
    fun t r _ _ => by beta_reduce; rw [zero_add]) _

/-- The gradient of the head's biases, added to what was there. -/
theorem dbs_val {p : Vec Ideal S1x8x128 .f32} {P : ℕ → ℕ → ℝ} (hp : R3 (n0 := 1) (n1 := 8) (n2 := 128) p fun _ i t => P i t) :
    R3 (n0 := 1) (n1 := 8) (n2 := 128) (k0_pay179 (F := Ideal) (k0_pay174 k0_pay19 da ug k0_pay166 (k0_pay169 da)) p)
      fun _ i t => P i t + (∑ d : Fin 128, I.dm (256 * τ + t) (h * 128 + d) + ∑ d : Fin 128, I.dm (256 * τ + (128 + t)) (h * 128 + d)) :=
  have ones : R2 (n0 := 8) (n1 := 128) (k0_pay19 (F := Ideal)) fun _ _ => 1 := R2.splat lit_1b
  R2.stack (R2.congr (R2.add (R3.cast hp shapeCasts_S1x8x128_S8x128) (R2.add (R2.add (R2.splat lit_0) (R2.dot8 ones (dm0_val ha hu))) (R2.dot8 ones (dm1_val ha hu))))
    fun i t _ _ => by simp only [zero_add, one_mul]) shapeCasts_S8x128_S1x8x128

end

end Cert.Mix

end
-- ==== Proof.KerConv.lean ====
/- The kernel's convolution branch and memory attention on real numbers. -/
module

public import proofs.«01_k».proof.Proof.KerGate

@[expose] public section

set_option maxRecDepth 16384

noncomputable section

namespace Cert.Mix

open Cert.KernelIdeal Cert.KernelIdeal.Gen Idealize.ShloMosaic Idealize.ShloMosaic.TcCoe

variable {I : In}

/-! The convolution branch on a tile of 256 rows from row `T`. -/

section
variable {T : ℕ} {dc dy p1 p2 p3 sh0 sh1 : Vec Ideal S256x768 .f32} {c0 c1 c2 p : Vec Ideal S1x768 .f32} {P : ℕ → ℕ → ℝ}

/-- The gradient of the gate `b`. -/
theorem db_val (hd : R2 (n0 := 256) (n1 := 768) dc fun s j => I.dh (T + s) (768 + j))
    (hy : R2 (n0 := 256) (n1 := 768) dy fun s j => I.y (T + s) j) :
    R2 (n0 := 256) (n1 := 768) (k0_pay234 (F := Ideal) dc dy) fun s j => I.db (T + s) j :=
  R2.truncf (R2.mul hd (R2.cast hy shapeCasts_S256x768_S256x768)) _

/-- The gradient of the convolution. -/
theorem dy_val (hT : T + 256 ≤ 2048) (hd : R2 (n0 := 256) (n1 := 768) dc fun s j => I.dh (T + s) (768 + j))
    (hp : R2 (n0 := 256) (n1 := 768) p1 fun s j => I.proj (T + s) (1536 + j)) :
    R2 (n0 := 256) (n1 := 768) (k0_pay235 (F := Ideal) dc p1) fun s j => I.dy (T + s) j :=
  R2.congr (R2.mul hd hp) fun s j hs _ => by
    unfold In.dy
    rw [if_pos (by omega)]

/-- The gradient of the convolution's input. -/
theorem dxc_val (h2 : R2 (n0 := 256) (n1 := 768) (k0_pay235 (F := Ideal) dc p1) fun s j => I.dy (T + s) j)
    (h1 : R2 (n0 := 256) (n1 := 768) sh1 fun s j => I.dy (T + s + 1) j) (h0 : R2 (n0 := 256) (n1 := 768) sh0 fun s j => I.dy (T + s + 2) j)
    (k0 : R2 (n0 := 1) (n1 := 768) c0 fun _ j => I.cw 0 j) (k1 : R2 (n0 := 1) (n1 := 768) c1 fun _ j => I.cw 1 j)
    (k2 : R2 (n0 := 1) (n1 := 768) c2 fun _ j => I.cw 2 j) :
    R2 (n0 := 256) (n1 := 768) (k0_pay239 (F := Ideal) sh0 (k0_pay238 dc p1 sh1 c2 c1) c0) fun s j => I.dxc (T + s) j :=
  R2.add (R2.add (R2.mul (R2.row k2 _) h2) (R2.mul (R2.row k1 _) h1)) (R2.mul (R2.row k0 _) h0)

/-- The gradient of the gate `c`. -/
theorem dc_val (hx : R2 (n0 := 256) (n1 := 768) (k0_pay239 (F := Ideal) sh0 (k0_pay238 dc p1 sh1 c2 c1) c0) fun s j => I.dxc (T + s) j)
    (hp : R2 (n0 := 256) (n1 := 768) p2 fun s j => I.proj (T + s) (3072 + j)) :
    R2 (n0 := 256) (n1 := 768) (k0_pay241 (F := Ideal) p2 sh0 (k0_pay238 dc p1 sh1 c2 c1) c0) fun s j => I.dc (T + s) j :=
  R2.truncf (R2.mul hx hp) _

/-- The gradient of the convolution's other factor. -/
theorem dx_val (hx : R2 (n0 := 256) (n1 := 768) (k0_pay239 (F := Ideal) sh0 (k0_pay238 dc p1 sh1 c2 c1) c0) fun s j => I.dxc (T + s) j)
    (hp : R2 (n0 := 256) (n1 := 768) p2 fun s j => I.proj (T + s) (2304 + j)) :
    R2 (n0 := 256) (n1 := 768) (k0_pay242 (F := Ideal) p2 sh0 (k0_pay238 dc p1 sh1 c2 c1) c0) fun s j => I.dx (T + s) j :=
  R2.truncf (R2.mul hx hp) _

/-- The gradient of one tap, added to what was there: `D` is the convolution's gradient, shifted. -/
theorem dcw_val {D : ℕ → ℕ → ℝ} (hp : R2 (n0 := 1) (n1 := 768) p P) (hd : R2 (n0 := 256) (n1 := 768) sh0 D)
    (h1 : R2 (n0 := 256) (n1 := 768) p1 fun s j => I.proj (T + s) (2304 + j))
    (h2 : R2 (n0 := 256) (n1 := 768) p2 fun s j => I.proj (T + s) (3072 + j)) :
    R2 (n0 := 1) (n1 := 768) (k0_pay243 (F := Ideal) p1 p2 sh0 p) fun r j => P r j + ∑ i : Fin 256, D i j * I.xc (T + i) j :=
  R2.add (R2.cast hp shapeCasts_S1x768_S1x768) (R2.colSum (R2.mul hd (R2.mul h1 h2)) _ _ _ _ _)

end

/-- Whether a tile is not the last one. -/
theorem slt_lane {n : ℕ} (h : n < 8) : Scalar.cmpi .slt (BitVec.ofNat 32 n) 7#32 = if n < 7 then 1#1 else 0#1 := by
  have : ∀ k : Fin 8, Scalar.cmpi .slt (BitVec.ofNat 32 k.val) 7#32 = if k.val < 7 then 1#1 else 0#1 := by decide
  exact this ⟨n, h⟩

/-- The convolution's gradient on the eight rows after the tile, zero after the last tile. -/
theorem dynx_val {τ : ℕ} (hτ : τ < 8) {dc p1 : Vec Ideal S8x768 .f32} {D Q : ℕ → ℕ → ℝ}
    (hd : R2 (n0 := 8) (n1 := 768) dc D) (hp : R2 (n0 := 8) (n1 := 768) p1 Q)
    (he : τ < 7 → ∀ s j, s < 8 → j < 768 → D s j * Q s j = I.dh (256 * τ + 256 + s) (768 + j) * I.proj (256 * τ + 256 + s) (1536 + j)) :
    R2 (n0 := 8) (n1 := 768) (k0_pay237 (F := Ideal) (BitVec.ofNat 32 τ) dc p1) fun s j => I.dy (256 * τ + 256 + s) j := by
  refine R2.cast (x := Scalar.select (Scalar.cmpi .slt (BitVec.ofNat 32 τ) 7#32) (mulf (F := Ideal) dc p1)
    (broadcast S8x768 (Scalar.ofBits (F := Ideal) .f32 0x00000000#32))) ?_ shapeCasts_S8x768_S8x768
  rw [slt_lane hτ]
  by_cases h : τ < 7
  · rw [if_pos h]
    exact R2.congr (R2.mul hd hp) fun s j hs hj => by
      unfold In.dy
      rw [if_pos (by omega)]
      exact he h s j hs hj
  · rw [if_neg h]
    exact R2.congr (R2.splat lit_0) fun s j hs hj => by
      unfold In.dy
      rw [if_neg (by omega)]

/-! The memory attention of one head `h` on a tile of 256 rows from row `T`. -/

section
variable {T h : ℕ} {da q : FVec Ideal S256x128 .bf16} {k v p : Vec Ideal S256x128 .f32} {P : ℕ → ℕ → ℝ}

/-- The scaled queries. -/
theorem q_val {x : Vec Ideal S256x128 .f32} (hx : R2 (n0 := 256) (n1 := 128) x fun s d => I.proj (T + s) (3840 + (h * 128 + d))) :
    R2 (n0 := 256) (n1 := 128) (k0_pay287 (F := Ideal) x) fun s d => I.q h (T + s) d :=
  R2.truncf (R2.mul hx (R2.splat lit_scl)) _

variable (hq : R2 (n0 := 256) (n1 := 128) q fun s d => I.q h (T + s) d) (hk : R2 (n0 := 256) (n1 := 128) k fun m d => I.k h m d)
include hq hk

/-- The attention's weights. -/
theorem pr_val : R2 (n0 := 256) (n1 := 256) (k0_pay289 (F := Ideal) q k) fun s m => I.pr h (T + s) m :=
  have hs : R2 (n0 := 256) (n1 := 256) (matmul (F := Ideal) dot_S256x128_S256x128_S256x256_1_1_0_0_n_n none q (k0_pay288 k) (constant S256x256 .f32 0x00000000#32))
    fun s m => I.sco h (T + s) m := R2.dotA hq (R2.truncf hk bitsLt_bf16_f32)
  have hm := R2.rowMax hs reduces_S256x256_S256 (.inl rfl) rfl shapeCasts_S256_S256x1
  have he := R2.exp (φ := .f32) (R2.sub (φ := .f32) hs (R2.col hm broadcasts_S256x1_S256x256))
  R2.div he (R2.col (R2.rowSum he reduces_S256x256_S256 (.inl rfl) 0x00000000#32 rfl shapeCasts_S256_S256x1) broadcasts_S256x1_S256x256)
    fun s _ _ _ => (I.Z_pos h (T + s)).ne'

variable (ha : R2 (n0 := 256) (n1 := 128) da fun s d => I.dmo h (T + s) d)
include ha

/-- The gradient of the values, added to what was there. -/
theorem dvv_val (hp : R2 (n0 := 256) (n1 := 128) p P) : R2 (n0 := 256) (n1 := 128) (k0_pay293 (F := Ideal) da q k p)
    fun m d => P m d + ∑ i : Fin 256, I.pr h (T + i) m * I.dmo h (T + i) d :=
  R2.add (R2.cast hp shapeCasts_S256x128_S256x128) (R2.dotC (R2.truncf (pr_val hq hk) bitsLt_bf16_f32) ha)

variable (hv : R2 (n0 := 256) (n1 := 128) v fun m d => I.v h m d)
include hv

/-- The gradient of the scores. -/
theorem ds_val : R2 (n0 := 256) (n1 := 256) (k0_pay290 (F := Ideal) da q k v) fun s m => I.ds h (T + s) m :=
  have hd := R2.dotA ha (R2.truncf hv bitsLt_bf16_f32)
  have hp := pr_val hq hk
  R2.truncf (R2.mul hp (R2.sub hd (R2.col (R2.rowSum (R2.mul hd hp) reduces_S256x256_S256 (.inl rfl) 0x00000000#32 rfl shapeCasts_S256_S256x1)
    broadcasts_S256x1_S256x256))) _

/-- The gradient of the queries. -/
theorem dq_val : R2 (n0 := 256) (n1 := 128) (k0_pay291 (F := Ideal) da q k v) fun s d => I.dq (T + s) (h * 128 + d) :=
  R2.truncf (R2.congr (R2.mul (R2.dotB (ds_val hq hk ha hv) (R2.truncf hk bitsLt_bf16_f32)) (R2.splat lit_scl)) fun s d _ hd => by
    unfold In.dq
    rw [show (h * 128 + d) / 128 = h by omega, show (h * 128 + d) % 128 = d by omega]) _

/-- The gradient of the keys, added to what was there. -/
theorem dk_val (hp : R2 (n0 := 256) (n1 := 128) p P) : R2 (n0 := 256) (n1 := 128) (k0_pay292 (F := Ideal) da q k v p)
    fun m d => P m d + ∑ i : Fin 256, I.ds h (T + i) m * I.q h (T + i) d :=
  R2.add (R2.cast hp shapeCasts_S256x128_S256x128) (R2.dotC (ds_val hq hk ha hv) hq)

end

end Cert.Mix

end
-- ==== Proof.KerTile.lean ====
/- What the kernel reads at one grid point, as real numbers, and what it makes of it. -/
module

public import proofs.«01_k».proof.Proof.KerConv

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ sig) → Buf (Elt Ideal) ℓ)

/-- The first of the eight rows after tile `n` (the last eight rows of all for the last tile). -/
def nxt (n : ℕ) : ℕ := min ((n + 1) * 32) 255 * 8

/-- The blocks the kernel reads at grid point `t` hold the rows of the part's arrays. -/
structure Tile (I : In) (c : Dev nD) (t : Fin cfg0.N) : Prop where
  dn : R2 (n0 := 256) (n1 := 2048) (iblk m c 0 t) fun s j => I.dhn (256 * t.val + s) j
  hd : R2 (n0 := 256) (n1 := 2048) (iblk m c 1 t) fun s j => I.hd (256 * t.val + s) j
  pr : R2 (n0 := 256) (n1 := 4352) (iblk m c 2 t) fun s j => I.proj (256 * t.val + s) j
  yc : R2 (n0 := 256) (n1 := 768) (iblk m c 3 t) fun s j => I.y (256 * t.val + s) j
  kv : R2 (n0 := 256) (n1 := 1024) (iblk m c 7 t) I.kv
  ws : R3 (n0 := 6) (n1 := 128) (n2 := 128) (iblk m c 8 t) I.ws
  bs : R2 (n0 := 128) (n1 := 6) (iblk m c 9 t) fun s h => I.bs h s
  lg : R2 (n0 := 1) (n1 := 768) (iblk m c 10 t) I.lng
  lb : R2 (n0 := 1) (n1 := 768) (iblk m c 11 t) I.lnb
  cw : R2 (n0 := 3) (n1 := 768) (iblk m c 12 t) I.cw
  gh : R2 (n0 := 1) (n1 := 2048) (iblk m c 13 t) I.gh
  dnx : R2 (n0 := 8) (n1 := 768) (X0_4 m c t) fun s j => I.dhn (nxt t.val + s) (768 + j)
  hdx : R2 (n0 := 8) (n1 := 768) (X0_5 m c t) fun s j => I.hd (nxt t.val + s) (768 + j)
  prx : R2 (n0 := 8) (n1 := 768) (X0_6 m c t) fun s j => I.proj (nxt t.val + s) (1536 + j)

/-- A store of whole rows of a matrix of real numbers, rounded. -/
theorem canon0b {N M n k b : ℕ} {F : ℕ → ℕ → ℝ} {inb : ∀ c, ![0, b] c + ![n, k] c ≤ (Sh N M).size c}
    {w : (Rect.unit (s := Sh N M) ![0, b] ![n, k] inb).shape.Idx → Elt Ideal .bf16}
    {L : List (View.Piece (Elt Ideal) (Sh N M) .bf16)} {y : (Sh N M).Idx}
    (hw : R2 (n0 := n) (n1 := k) w fun s j => F s (b + j))
    (hL : ¬((y 0).val < n ∧ b ≤ (y 1).val ∧ (y 1).val < b + k) → View.canon L y = ((F (y 0).val (y 1).val : ℝ) : EReal)) :
    View.canon (⟨Rect.unit (s := Sh N M) ![0, b] ![n, k] inb, w⟩ :: L) y = ((F (y 0).val (y 1).val : ℝ) : EReal) :=
  canon2b (R2.congr hw fun s j _ _ => by rw [Nat.zero_add]) fun h => hL fun h' => h ⟨Nat.zero_le _, by omega, by omega, by omega⟩

/-- A store of whole rows of a matrix of real numbers. -/
theorem canon0 {N M n k b : ℕ} {F : ℕ → ℕ → ℝ} {inb : ∀ c, ![0, b] c + ![n, k] c ≤ (Sh N M).size c}
    {w : (Rect.unit (s := Sh N M) ![0, b] ![n, k] inb).shape.Idx → Elt Ideal .f32}
    {L : List (View.Piece (Elt Ideal) (Sh N M) .f32)} {y : (Sh N M).Idx}
    (hw : R2 (n0 := n) (n1 := k) w fun s j => F s (b + j))
    (hL : ¬((y 0).val < n ∧ b ≤ (y 1).val ∧ (y 1).val < b + k) → View.canon L y = ((F (y 0).val (y 1).val : ℝ) : EReal)) :
    View.canon (⟨Rect.unit (s := Sh N M) ![0, b] ![n, k] inb, w⟩ :: L) y = ((F (y 0).val (y 1).val : ℝ) : EReal) :=
  canon2 (R2.congr hw fun s j _ _ => by rw [Nat.zero_add]) fun h => hL fun h' => h ⟨Nat.zero_le _, by omega, by omega, by omega⟩

/-- A stack's numbers may be given by any function that agrees inside the stack. -/
theorem R3.congr {n0 n1 n2 : ℕ} {x : (⟨3, ![n0, n1, n2]⟩ : Shape).Idx → EReal} {f g : ℕ → ℕ → ℕ → ℝ} (h : R3 x f)
    (e : ∀ r s j, r < n0 → s < n1 → j < n2 → f r s j = g r s j) : R3 x g :=
  fun i => (h i).trans (by rw [e _ _ _ (i 0).isLt (i 1).isLt (i 2).isLt])

/-- The slice of the layer norm's output that is a head's first chunk. -/
theorem vn0_val {I : In} {T o : ℕ} (g : ℕ) (ho : o = g * 128) {v : FVec Ideal S256x768 .bf16}
    (hv : R2 (n0 := 256) (n1 := 768) v fun s j => I.vn (T + s) j) (h : (Sh 256 768).Slices ![0, o] (Sh 128 128)) :
    R2 (n0 := 128) (n1 := 128) (extractStridedSlice (Sh 128 128) ![0, o] v h) fun r d => I.vn (T + r) (g * 128 + d) :=
  R2.congr (R2.slice hv h) fun s j _ _ => by subst ho; rw [Nat.zero_add]

/-- The slice of the layer norm's output that is a head's second chunk. -/
theorem vn1_val {I : In} {T o : ℕ} (g : ℕ) (ho : o = g * 128) {v : FVec Ideal S256x768 .bf16}
    (hv : R2 (n0 := 256) (n1 := 768) v fun s j => I.vn (T + s) j) (h : (Sh 256 768).Slices ![128, o] (Sh 128 128)) :
    R2 (n0 := 128) (n1 := 128) (extractStridedSlice (Sh 128 128) ![128, o] v h) fun r d => I.vn (T + (128 + r)) (g * 128 + d) :=
  R2.congr (R2.slice hv h) fun s j _ _ => by subst ho; rfl

/-- A load from the buffer of the convolution's gradient, `a` rows down. -/
theorem dy_buf {I : In} {T a : ℕ} (ha : a ≤ 8) {sig : RefSig} {κ : Kind} {sp : Space} (V : View sig κ sp (Sh 264 768) .f32)
    {w1 : (Sh 8 768).Idx → EReal} {w0 : (Sh 256 768).Idx → EReal} (h1 : R2 (n0 := 8) (n1 := 768) w1 fun s j => I.dy (T + 256 + s) j)
    (h0 : R2 (n0 := 256) (n1 := 768) w0 fun s j => I.dy (T + s) j) (i1 : ∀ c, ![256, 0] c + ![8, 768] c ≤ (Sh 264 768).size c)
    (i0 : ∀ c, ![0, 0] c + ![256, 768] c ≤ (Sh 264 768).size c) (ib : ∀ c, ![a, 0] c + ![256, 768] c ≤ (Sh 264 768).size c) :
    R2 (n0 := 256) (n1 := 768) (V.readCov (Val := Elt Ideal) [⟨Rect.unit (s := Sh 264 768) ![256, 0] ![8, 768] i1, w1⟩,
      ⟨Rect.unit (s := Sh 264 768) ![0, 0] ![256, 768] i0, w0⟩] (Rect.unit (s := Sh 264 768) ![a, 0] ![256, 768] ib).toLoadRect)
      fun s j => I.dy (T + s + a) j := by
  refine R2.congr (readCov2 (F := fun s j => I.dy (T + s) j) V ib fun y h1' h2' h3' h4' => ?_) fun s j _ _ => ?_
  · refine canon2 (F := fun s j => I.dy (T + s) j) (R2.congr h1 fun s j _ _ => ?_) fun hn => ?_
    · rw [Nat.zero_add, Nat.add_assoc]
    · refine canon0 (F := fun s j => I.dy (T + s) j) (R2.congr h0 fun s j _ _ => ?_) fun hm => ?_
      · rw [Nat.zero_add]
      · omega
  · rw [Nat.zero_add, show T + (a + s) = T + s + a by omega]

/-- A load of the whole buffer of the layer norm output's gradient: two chunks for each of the six heads. -/
theorem dvn_buf {F : ℕ → ℕ → ℝ} {sig : RefSig} {κ : Kind} {sp : Space} (V : View sig κ sp (Sh 256 768) .f32)
    {u0 u1 u2 u3 u4 u5 l0 l1 l2 l3 l4 l5 : (Sh 128 128).Idx → EReal}
    (h0 : R2 (n0 := 128) (n1 := 128) u0 fun s j => F s (0 * 128 + j)) (k0 : R2 (n0 := 128) (n1 := 128) l0 fun s j => F (128 + s) (0 * 128 + j))
    (h1 : R2 (n0 := 128) (n1 := 128) u1 fun s j => F s (1 * 128 + j)) (k1 : R2 (n0 := 128) (n1 := 128) l1 fun s j => F (128 + s) (1 * 128 + j))
    (h2 : R2 (n0 := 128) (n1 := 128) u2 fun s j => F s (2 * 128 + j)) (k2 : R2 (n0 := 128) (n1 := 128) l2 fun s j => F (128 + s) (2 * 128 + j))
    (h3 : R2 (n0 := 128) (n1 := 128) u3 fun s j => F s (3 * 128 + j)) (k3 : R2 (n0 := 128) (n1 := 128) l3 fun s j => F (128 + s) (3 * 128 + j))
    (h4 : R2 (n0 := 128) (n1 := 128) u4 fun s j => F s (4 * 128 + j)) (k4 : R2 (n0 := 128) (n1 := 128) l4 fun s j => F (128 + s) (4 * 128 + j))
    (h5 : R2 (n0 := 128) (n1 := 128) u5 fun s j => F s (5 * 128 + j)) (k5 : R2 (n0 := 128) (n1 := 128) l5 fun s j => F (128 + s) (5 * 128 + j))
    (i0 i1 i2 i3 i4 i5 j0 j1 j2 j3 j4 j5 ib) :
    R2 (n0 := 256) (n1 := 768) (V.readCov (Val := Elt Ideal) [
      ⟨Rect.unit (s := Sh 256 768) ![128, 640] ![128, 128] j5, l5⟩, ⟨Rect.unit (s := Sh 256 768) ![0, 640] ![128, 128] i5, u5⟩,
      ⟨Rect.unit (s := Sh 256 768) ![128, 512] ![128, 128] j4, l4⟩, ⟨Rect.unit (s := Sh 256 768) ![0, 512] ![128, 128] i4, u4⟩,
      ⟨Rect.unit (s := Sh 256 768) ![128, 384] ![128, 128] j3, l3⟩, ⟨Rect.unit (s := Sh 256 768) ![0, 384] ![128, 128] i3, u3⟩,
      ⟨Rect.unit (s := Sh 256 768) ![128, 256] ![128, 128] j2, l2⟩, ⟨Rect.unit (s := Sh 256 768) ![0, 256] ![128, 128] i2, u2⟩,
      ⟨Rect.unit (s := Sh 256 768) ![128, 128] ![128, 128] j1, l1⟩, ⟨Rect.unit (s := Sh 256 768) ![0, 128] ![128, 128] i1, u1⟩,
      ⟨Rect.unit (s := Sh 256 768) ![128, 0] ![128, 128] j0, l0⟩, ⟨Rect.unit (s := Sh 256 768) ![0, 0] ![128, 128] i0, u0⟩]
      (Rect.unit (s := Sh 256 768) ![0, 0] ![256, 768] ib).toLoadRect) F := by
  refine R2.congr (readCov2 (F := F) V ib fun y h1' h2' h3' h4' => ?_) fun s j _ _ => by rw [Nat.zero_add, Nat.zero_add]
  refine canon2 k5 fun n5 => canon0 h5 fun m5 => canon2 k4 fun n4 => canon0 h4 fun m4 => canon2 k3 fun n3 => canon0 h3 fun m3 => ?_
  refine canon2 k2 fun n2 => canon0 h2 fun m2 => canon2 k1 fun n1 => canon0 h1 fun m1 => canon2 k0 fun n0 => canon0 h0 fun m0 => ?_
  omega

section
variable {m} {I : In} {c : Dev nD} {t : Fin cfg0.N} (H : Tile m I c t)
include H

namespace Tile

theorem hdp {o : ℕ} (g : ℕ) (ho : o = g * 128) (i) : R2 (n0 := 256) (n1 := 128)
    (View.ld (Val := Elt Ideal) (e' := .f32) (S := Sh 256 2048) (iblk m c 1 t) (Rect.unit ![0, o] ![256, 128] i)) fun s d => I.hd (256 * t.val + s) (g * 128 + d) := by
  subst ho; exact R2.ldc H.hd i

theorem dnp {o : ℕ} (g : ℕ) (ho : o = g * 128) (i) : R2 (n0 := 256) (n1 := 128)
    (View.ld (Val := Elt Ideal) (e' := .f32) (S := Sh 256 2048) (iblk m c 0 t) (Rect.unit ![0, o] ![256, 128] i)) fun s d => I.dhn (256 * t.val + s) (g * 128 + d) := by
  subst ho; exact R2.ldc H.dn i

theorem ghp {o : ℕ} (g : ℕ) (ho : o = g * 128) (i) : R2 (n0 := 1) (n1 := 128)
    (View.ld (Val := Elt Ideal) (e' := .f32) (S := Sh 1 2048) (iblk m c 13 t) (Rect.unit ![0, o] ![1, 128] i)) fun s d => I.gh s (g * 128 + d) := by
  subst ho; exact R2.ldc H.gh i

/-- The gradient of head `g`'s rows. -/
theorem da {o : ℕ} (g : ℕ) (ho : o = g * 128) (i1 i0 i2) : R2 (n0 := 256) (n1 := 128) (k0_pay157 (F := Ideal)
    (View.ld (Val := Elt Ideal) (e' := .f32) (S := Sh 256 2048) (iblk m c 1 t) (Rect.unit ![0, o] ![256, 128] i1))
    (View.ld (Val := Elt Ideal) (e' := .f32) (S := Sh 256 2048) (iblk m c 0 t) (Rect.unit ![0, o] ![256, 128] i0))
    (View.ld (Val := Elt Ideal) (e' := .f32) (S := Sh 1 2048) (iblk m c 13 t) (Rect.unit ![0, o] ![1, 128] i2)))
    fun s d => I.dh (256 * t.val + s) (g * 128 + d) :=
  R2.congr (da_val (H.hdp g ho i1) (H.dnp g ho i0) (H.ghp g ho i2)) fun _ _ _ hj => daR_hd hj

/-- Head `g`'s columns of `u`. -/
theorem prp {o n : ℕ} (i) : R2 (n0 := 256) (n1 := n)
    (View.ld (Val := Elt Ideal) (e' := .f32) (S := Sh 256 4352) (iblk m c 2 t) (Rect.unit ![0, o] ![256, n] i)) fun s d => I.proj (256 * t.val + s) (o + d) :=
  R2.ldc H.pr i

/-- GELU of head `g`'s columns of `u`. -/
theorem ug {o : ℕ} (g : ℕ) (ho : o = g * 128) (i) : R2 (n0 := 256) (n1 := 128) (k0_pay163 (F := Ideal)
    (View.ld (Val := Elt Ideal) (e' := .f32) (S := Sh 256 4352) (iblk m c 2 t) (Rect.unit ![0, o] ![256, 128] i)))
    fun s d => gel (I.proj (256 * t.val + s) (g * 128 + d)) := by
  subst ho; exact gel_val (H.prp i)

/-- GELU's derivative of head `g`'s columns of `u`. -/
theorem dg {o : ℕ} (g : ℕ) (ho : o = g * 128) (i) : R2 (n0 := 256) (n1 := 128) (k0_pay164 (F := Ideal)
    (View.ld (Val := Elt Ideal) (e' := .f32) (S := Sh 256 4352) (iblk m c 2 t) (Rect.unit ![0, o] ![256, 128] i)))
    fun s d => dgel (I.proj (256 * t.val + s) (g * 128 + d)) := by
  subst ho; exact dgel_val (H.prp i)

/-- Head `h`'s masked matrix. -/
theorem wm (h : ℕ) (i) : R2 (n0 := 128) (n1 := 128) (k0_pay152 (F := Ideal) k0_pay18
    (View.ld (Val := Elt Ideal) (e' := .f32) (S := ⟨3, ![6, 128, 128]⟩) (iblk m c 8 t) (Rect.unit ![h, 0, 0] ![1, 128, 128] i))) (I.wm h) :=
  wm_val (R3.congr (R3.ld H.ws i) fun r s j _ _ _ => by rw [Nat.zero_add, Nat.zero_add])

/-- Head `h`'s biases. -/
theorem bsp (h : ℕ) (i) : R2 (n0 := 128) (n1 := 1) (k0_pay153 (F := Ideal)
    (View.ld (Val := Elt Ideal) (e' := .f32) (S := Sh 128 6) (iblk m c 9 t) (Rect.unit ![0, h] ![128, 1] i))) fun t _ => I.bs h t :=
  R2.cast (R2.congr (R2.ldc H.bs i) fun s j _ hj => by rw [show h + j = h by omega]) shapeCasts_S128x1_S128x1

/-- The layer norm's output on the tile. -/
theorem vn (i) : R2 (n0 := 256) (n1 := 768) (k0_pay17 (F := Ideal)
    (k0_pay12 (View.ld (Val := Elt Ideal) (e' := .f32) (S := Sh 256 4352) (iblk m c 2 t) (Rect.unit ![0, 768] ![256, 768] i)))
    (k0_pay13 (View.ld (Val := Elt Ideal) (e' := .f32) (S := Sh 256 4352) (iblk m c 2 t) (Rect.unit ![0, 768] ![256, 768] i)))
    k0_pay14 (iblk m c 10 t) (iblk m c 11 t)) fun s j => I.vn (256 * t.val + s) j :=
  vn_val (H.prp i) H.lg H.lb

/-- The gradient of the six convolution heads, side by side. -/
theorem dhc (a0 a1 a2 a3 a4 a5 b0 b1 b2 b3 b4 b5 c0 c1 c2 c3 c4 c5 h) : R2 (n0 := 256) (n1 := 768) (concatenate (Sh 256 768) 1 [
    ⟨Sh 256 128, k0_pay157 (F := Ideal)
      (View.ld (Val := Elt Ideal) (e' := .f32) (S := Sh 256 2048) (iblk m c 1 t) (Rect.unit ![0, 768] ![256, 128] a0))
      (View.ld (Val := Elt Ideal) (e' := .f32) (S := Sh 256 2048) (iblk m c 0 t) (Rect.unit ![0, 768] ![256, 128] b0))
      (View.ld (Val := Elt Ideal) (e' := .f32) (S := Sh 1 2048) (iblk m c 13 t) (Rect.unit ![0, 768] ![1, 128] c0))⟩,
    ⟨Sh 256 128, k0_pay157 (F := Ideal)
      (View.ld (Val := Elt Ideal) (e' := .f32) (S := Sh 256 2048) (iblk m c 1 t) (Rect.unit ![0, 896] ![256, 128] a1))
      (View.ld (Val := Elt Ideal) (e' := .f32) (S := Sh 256 2048) (iblk m c 0 t) (Rect.unit ![0, 896] ![256, 128] b1))
      (View.ld (Val := Elt Ideal) (e' := .f32) (S := Sh 1 2048) (iblk m c 13 t) (Rect.unit ![0, 896] ![1, 128] c1))⟩,
    ⟨Sh 256 128, k0_pay157 (F := Ideal)
      (View.ld (Val := Elt Ideal) (e' := .f32) (S := Sh 256 2048) (iblk m c 1 t) (Rect.unit ![0, 1024] ![256, 128] a2))
      (View.ld (Val := Elt Ideal) (e' := .f32) (S := Sh 256 2048) (iblk m c 0 t) (Rect.unit ![0, 1024] ![256, 128] b2))
      (View.ld (Val := Elt Ideal) (e' := .f32) (S := Sh 1 2048) (iblk m c 13 t) (Rect.unit ![0, 1024] ![1, 128] c2))⟩,
    ⟨Sh 256 128, k0_pay157 (F := Ideal)
      (View.ld (Val := Elt Ideal) (e' := .f32) (S := Sh 256 2048) (iblk m c 1 t) (Rect.unit ![0, 1152] ![256, 128] a3))
      (View.ld (Val := Elt Ideal) (e' := .f32) (S := Sh 256 2048) (iblk m c 0 t) (Rect.unit ![0, 1152] ![256, 128] b3))
      (View.ld (Val := Elt Ideal) (e' := .f32) (S := Sh 1 2048) (iblk m c 13 t) (Rect.unit ![0, 1152] ![1, 128] c3))⟩,
    ⟨Sh 256 128, k0_pay157 (F := Ideal)
      (View.ld (Val := Elt Ideal) (e' := .f32) (S := Sh 256 2048) (iblk m c 1 t) (Rect.unit ![0, 1280] ![256, 128] a4))
      (View.ld (Val := Elt Ideal) (e' := .f32) (S := Sh 256 2048) (iblk m c 0 t) (Rect.unit ![0, 1280] ![256, 128] b4))
      (View.ld (Val := Elt Ideal) (e' := .f32) (S := Sh 1 2048) (iblk m c 13 t) (Rect.unit ![0, 1280] ![1, 128] c4))⟩,
    ⟨Sh 256 128, k0_pay157 (F := Ideal)
      (View.ld (Val := Elt Ideal) (e' := .f32) (S := Sh 256 2048) (iblk m c 1 t) (Rect.unit ![0, 1408] ![256, 128] a5))
      (View.ld (Val := Elt Ideal) (e' := .f32) (S := Sh 256 2048) (iblk m c 0 t) (Rect.unit ![0, 1408] ![256, 128] b5))
      (View.ld (Val := Elt Ideal) (e' := .f32) (S := Sh 1 2048) (iblk m c 13 t) (Rect.unit ![0, 1408] ![1, 128] c5))⟩] h)
    fun s j => I.dh (256 * t.val + s) (768 + j) := by
  refine R2.hcat (F := fun s j => I.dh (256 * t.val + s) (768 + j)) (R2.congr (H.da 6 rfl a0 b0 c0) ?_) (R2.congr (H.da 7 rfl a1 b1 c1) ?_) (R2.congr (H.da 8 rfl a2 b2 c2) ?_)
    (R2.congr (H.da 9 rfl a3 b3 c3) ?_) (R2.congr (H.da 10 rfl a4 b4 c4) ?_) (R2.congr (H.da 11 rfl a5 b5 c5) ?_) h <;> intro s j _ _
  · rfl
  all_goals rw [← Nat.add_assoc]

/-- The gradient of a convolution head's rows, on the eight rows after the tile. -/
theorem da8 {o p : ℕ} (g : ℕ) (ho : 768 + o = g * 128) (hp : p = g * 128) (i1 i0 i2) : R2 (n0 := 8) (n1 := 128) (k0_pay230 (F := Ideal)
    (View.ld (Val := Elt Ideal) (e' := .f32) (S := Sh 8 768) (X0_5 m c t) (Rect.unit ![0, o] ![8, 128] i1))
    (View.ld (Val := Elt Ideal) (e' := .f32) (S := Sh 8 768) (X0_4 m c t) (Rect.unit ![0, o] ![8, 128] i0))
    (View.ld (Val := Elt Ideal) (e' := .f32) (S := Sh 1 2048) (iblk m c 13 t) (Rect.unit ![0, p] ![1, 128] i2)))
    fun s d => I.dh (nxt t.val + s) (g * 128 + d) :=
  R2.congr (da8_val
    (R2.congr (g := fun s d => I.hd (nxt t.val + s) (g * 128 + d)) (R2.ldc H.hdx i1) fun s j _ _ => by rw [← ho, Nat.add_assoc])
    (R2.congr (g := fun s d => I.dhn (nxt t.val + s) (g * 128 + d)) (R2.ldc H.dnx i0) fun s j _ _ => by rw [← ho, Nat.add_assoc])
    (H.ghp g hp i2)) fun _ _ _ hj => daR_hd hj

/-- The gradient of the six convolution heads on the eight rows after the tile, side by side. -/
theorem dhx (a0 a1 a2 a3 a4 a5 b0 b1 b2 b3 b4 b5 c0 c1 c2 c3 c4 c5 h) : R2 (n0 := 8) (n1 := 768) (concatenate (Sh 8 768) 1 [
    ⟨Sh 8 128, k0_pay230 (F := Ideal)
      (View.ld (Val := Elt Ideal) (e' := .f32) (S := Sh 8 768) (X0_5 m c t) (Rect.unit ![0, 0] ![8, 128] a0))
      (View.ld (Val := Elt Ideal) (e' := .f32) (S := Sh 8 768) (X0_4 m c t) (Rect.unit ![0, 0] ![8, 128] b0))
      (View.ld (Val := Elt Ideal) (e' := .f32) (S := Sh 1 2048) (iblk m c 13 t) (Rect.unit ![0, 768] ![1, 128] c0))⟩,
    ⟨Sh 8 128, k0_pay230 (F := Ideal)
      (View.ld (Val := Elt Ideal) (e' := .f32) (S := Sh 8 768) (X0_5 m c t) (Rect.unit ![0, 128] ![8, 128] a1))
      (View.ld (Val := Elt Ideal) (e' := .f32) (S := Sh 8 768) (X0_4 m c t) (Rect.unit ![0, 128] ![8, 128] b1))
      (View.ld (Val := Elt Ideal) (e' := .f32) (S := Sh 1 2048) (iblk m c 13 t) (Rect.unit ![0, 896] ![1, 128] c1))⟩,
    ⟨Sh 8 128, k0_pay230 (F := Ideal)
      (View.ld (Val := Elt Ideal) (e' := .f32) (S := Sh 8 768) (X0_5 m c t) (Rect.unit ![0, 256] ![8, 128] a2))
      (View.ld (Val := Elt Ideal) (e' := .f32) (S := Sh 8 768) (X0_4 m c t) (Rect.unit ![0, 256] ![8, 128] b2))
      (View.ld (Val := Elt Ideal) (e' := .f32) (S := Sh 1 2048) (iblk m c 13 t) (Rect.unit ![0, 1024] ![1, 128] c2))⟩,
    ⟨Sh 8 128, k0_pay230 (F := Ideal)
      (View.ld (Val := Elt Ideal) (e' := .f32) (S := Sh 8 768) (X0_5 m c t) (Rect.unit ![0, 384] ![8, 128] a3))
      (View.ld (Val := Elt Ideal) (e' := .f32) (S := Sh 8 768) (X0_4 m c t) (Rect.unit ![0, 384] ![8, 128] b3))
      (View.ld (Val := Elt Ideal) (e' := .f32) (S := Sh 1 2048) (iblk m c 13 t) (Rect.unit ![0, 1152] ![1, 128] c3))⟩,
    ⟨Sh 8 128, k0_pay230 (F := Ideal)
      (View.ld (Val := Elt Ideal) (e' := .f32) (S := Sh 8 768) (X0_5 m c t) (Rect.unit ![0, 512] ![8, 128] a4))
      (View.ld (Val := Elt Ideal) (e' := .f32) (S := Sh 8 768) (X0_4 m c t) (Rect.unit ![0, 512] ![8, 128] b4))
      (View.ld (Val := Elt Ideal) (e' := .f32) (S := Sh 1 2048) (iblk m c 13 t) (Rect.unit ![0, 1280] ![1, 128] c4))⟩,
    ⟨Sh 8 128, k0_pay230 (F := Ideal)
      (View.ld (Val := Elt Ideal) (e' := .f32) (S := Sh 8 768) (X0_5 m c t) (Rect.unit ![0, 640] ![8, 128] a5))
      (View.ld (Val := Elt Ideal) (e' := .f32) (S := Sh 8 768) (X0_4 m c t) (Rect.unit ![0, 640] ![8, 128] b5))
      (View.ld (Val := Elt Ideal) (e' := .f32) (S := Sh 1 2048) (iblk m c 13 t) (Rect.unit ![0, 1408] ![1, 128] c5))⟩] h)
    fun s j => I.dh (nxt t.val + s) (768 + j) := by
  refine R2.hcat (F := fun s j => I.dh (nxt t.val + s) (768 + j)) (R2.congr (H.da8 6 rfl rfl a0 b0 c0) ?_) (R2.congr (H.da8 7 rfl rfl a1 b1 c1) ?_) (R2.congr (H.da8 8 rfl rfl a2 b2 c2) ?_) (R2.congr (H.da8 9 rfl rfl a3 b3 c3) ?_) (R2.congr (H.da8 10 rfl rfl a4 b4 c4) ?_) (R2.congr (H.da8 11 rfl rfl a5 b5 c5) ?_) h <;> intro s j _ _
  · rfl
  all_goals rw [← Nat.add_assoc]

/-- The convolution's gradient on the eight rows after the tile, zero after the last tile. -/
theorem dynx {w : Vec Ideal S8x768 .f32} (hw : R2 (n0 := 8) (n1 := 768) w fun s j => I.dh (nxt t.val + s) (768 + j)) :
    R2 (n0 := 8) (n1 := 768) (k0_pay237 (F := Ideal) (BitVec.ofNat 32 (grid0.coords t 0).val) w (X0_6 m c t))
      fun s j => I.dy (256 * t.val + 256 + s) j := by
  rw [(by decide +kernel : ∀ t : Fin grid0.N, (grid0.coords t 0).val = t.val) t]
  refine dynx_val (by have := t.isLt; exact lt_of_lt_of_eq this N_0) hw H.prx fun h7 s j _ _ => ?_
  rw [show nxt t.val = 256 * t.val + 256 by unfold nxt; omega]

end Tile

end

end Cert.Mix

end
-- ==== Proof.KerIn.lean ====
/- The blocks the kernel reads at a grid point hold the rows of the part's arrays. -/
module

public import proofs.«01_k».proof.Proof.KerHost
public import proofs.«01_k».proof.Proof.KerTile

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ sig) → Buf (Elt Ideal) ℓ)

/-- The index maps of the input windows. -/
theorem idx_in : ∀ t : Fin cfg0.N, win0_0.index t = ![t.val, 0] ∧ win0_1.index t = ![t.val, 0] ∧ win0_2.index t = ![t.val, 0]
    ∧ win0_3.index t = ![t.val, 0] ∧ win0_4.index t = ![min ((t.val + 1) * 32) 255, 1] ∧ win0_5.index t = ![min ((t.val + 1) * 32) 255, 1]
    ∧ win0_6.index t = ![min ((t.val + 1) * 32) 255, 2] ∧ win0_7.index t = ![0, 0] ∧ win0_8.index t = ![0, 0, 0]
    ∧ win0_9.index t = ![0, 0] ∧ win0_10.index t = ![0, 0] ∧ win0_11.index t = ![0, 0] ∧ win0_12.index t = ![0, 0]
    ∧ win0_13.index t = ![0, 0] :=
  (by decide +kernel : ∀ t : Fin grid0.N, _)

variable {m} {I : In} {c : Dev nD}
  (H : Holds I (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)))
include H

/-- The block of window 0 at a grid point, as real numbers. -/
theorem in_dn (t : Fin cfg0.N) : R2 (n0 := 256) (n1 := 2048) (iblk m c 0 t) fun s j => I.dhn (256 * t.val + s) j := by
  intro i
  have e := idx_in t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [V_main_arg0]
  refine (H.h0 _).trans ?_
  rw [e0, e1]

/-- The block of window 1 at a grid point, as real numbers. -/
theorem in_hd (t : Fin cfg0.N) : R2 (n0 := 256) (n1 := 2048) (iblk m c 1 t) fun s j => I.hd (256 * t.val + s) j := by
  intro i
  have e := idx_in t
  have e0 : ((win0_1.blk t).view.emb i 0 : ℕ) = 256 * t.val + (i 0).val := by blk_simp [e]; try omega
  have e1 : ((win0_1.blk t).view.emb i 1 : ℕ) = (i 1).val := by blk_simp [e]; try omega
  blk_simp [iblk]
  rw [V_main_v109]
  refine (Cert.Mix.r_v146 H _).trans ?_
  rw [e0, e1]

/-- The block of window 2 at a grid point, as real numbers. -/
theorem in_pr (t : Fin cfg0.N) : R2 (n0 := 256) (n1 := 4352) (iblk m c 2 t) fun s j => I.proj (256 * t.val + s) j := by
  intro i
  have e := idx_in t
  have e0 : ((win0_2.blk t).view.emb i 0 : ℕ) = 256 * t.val + (i 0).val := by blk_simp [e]; try omega
  have e1 : ((win0_2.blk t).view.emb i 1 : ℕ) = (i 1).val := by blk_simp [e]; try omega
  blk_simp [iblk]
  rw [V_main_arg1]
  refine (H.h1 _).trans ?_
  rw [e0, e1]

/-- The block of window 3 at a grid point, as real numbers. -/
theorem in_yc (t : Fin cfg0.N) : R2 (n0 := 256) (n1 := 768) (iblk m c 3 t) fun s j => I.y (256 * t.val + s) j := by
  intro i
  have e := idx_in t
  have e0 : ((win0_3.blk t).view.emb i 0 : ℕ) = 256 * t.val + (i 0).val := by blk_simp [e]; try omega
  have e1 : ((win0_3.blk t).view.emb i 1 : ℕ) = (i 1).val := by blk_simp [e]; try omega
  blk_simp [iblk]
  rw [V_main_v85]
  refine (Cert.Mix.r_v105 H _).trans ?_
  rw [e0, e1]

/-- The block of window 7 at a grid point, as real numbers. -/
theorem in_kv (t : Fin cfg0.N) : R2 (n0 := 256) (n1 := 1024) (iblk m c 7 t) fun s j => I.kv (s) j := by
  intro i
  have e := idx_in t
  have e0 : ((win0_7.blk t).view.emb i 0 : ℕ) = (i 0).val := by blk_simp [e]; try omega
  have e1 : ((win0_7.blk t).view.emb i 1 : ℕ) = (i 1).val := by blk_simp [e]; try omega
  blk_simp [iblk]
  rw [V_main_arg2]
  refine (H.h2 _).trans ?_
  rw [e0, e1]

/-- The block of window 10 at a grid point, as real numbers. -/
theorem in_lg (t : Fin cfg0.N) : R2 (n0 := 1) (n1 := 768) (iblk m c 10 t) fun s j => I.lng (s) j := by
  intro i
  have e := idx_in t
  have e0 : ((win0_10.blk t).view.emb i 0 : ℕ) = (i 0).val := by blk_simp [e]; try omega
  have e1 : ((win0_10.blk t).view.emb i 1 : ℕ) = (i 1).val := by blk_simp [e]; try omega
  blk_simp [iblk]
  rw [V_main_arg5]
  refine (H.h5 _).trans ?_
  rw [e0, e1]
  have z : (i 0).val = 0 := by have := (i 0).isLt; simp only [Matrix.cons_val_zero] at this; omega
  exact congrArg (fun n => ((I.lng n (i 1).val : ℝ) : EReal)) z

/-- The block of window 11 at a grid point, as real numbers. -/
theorem in_lb (t : Fin cfg0.N) : R2 (n0 := 1) (n1 := 768) (iblk m c 11 t) fun s j => I.lnb (s) j := by
  intro i
  have e := idx_in t
  have e0 : ((win0_11.blk t).view.emb i 0 : ℕ) = (i 0).val := by blk_simp [e]; try omega
  have e1 : ((win0_11.blk t).view.emb i 1 : ℕ) = (i 1).val := by blk_simp [e]; try omega
  blk_simp [iblk]
  rw [V_main_arg6]
  refine (H.h6 _).trans ?_
  rw [e0, e1]
  have z : (i 0).val = 0 := by have := (i 0).isLt; simp only [Matrix.cons_val_zero] at this; omega
  exact congrArg (fun n => ((I.lnb n (i 1).val : ℝ) : EReal)) z

/-- The block of window 12 at a grid point, as real numbers. -/
theorem in_cw (t : Fin cfg0.N) : R2 (n0 := 3) (n1 := 768) (iblk m c 12 t) fun s j => I.cw (s) j := by
  intro i
  have e := idx_in t
  have e0 : ((win0_12.blk t).view.emb i 0 : ℕ) = (i 0).val := by blk_simp [e]; try omega
  have e1 : ((win0_12.blk t).view.emb i 1 : ℕ) = (i 1).val := by blk_simp [e]; try omega
  blk_simp [iblk]
  rw [V_main_arg7]
  refine (H.h7 _).trans ?_
  rw [e0, e1]

/-- The block of window 13 at a grid point, as real numbers. -/
theorem in_gh (t : Fin cfg0.N) : R2 (n0 := 1) (n1 := 2048) (iblk m c 13 t) fun s j => I.gh (s) j := by
  intro i
  have e := idx_in t
  have e0 : ((win0_13.blk t).view.emb i 0 : ℕ) = (i 0).val := by blk_simp [e]; try omega
  have e1 : ((win0_13.blk t).view.emb i 1 : ℕ) = (i 1).val := by blk_simp [e]; try omega
  blk_simp [iblk]
  rw [V_main_arg8]
  refine (H.h8 _).trans ?_
  rw [e0, e1]
  have z : (i 0).val = 0 := by have := (i 0).isLt; simp only [Matrix.cons_val_zero] at this; omega
  exact congrArg (fun n => ((I.gh n (i 1).val : ℝ) : EReal)) z

/-- The block of window 8 at a grid point, as real numbers. -/
theorem in_ws (t : Fin cfg0.N) : R3 (n0 := 6) (n1 := 128) (n2 := 128) (iblk m c 8 t) I.ws := by
  intro i
  have e := idx_in t
  have e0 : ((win0_8.blk t).view.emb i 0 : ℕ) = (i 0).val := by blk_simp [e]; try omega
  have e1 : ((win0_8.blk t).view.emb i 1 : ℕ) = (i 1).val := by blk_simp [e]; try omega
  have e2 : ((win0_8.blk t).view.emb i 2 : ℕ) = (i 2).val := by blk_simp [e]; try omega
  blk_simp [iblk]
  rw [V_main_arg3]
  refine (H.h3 _).trans ?_
  rw [e0, e1, e2]

/-- The block of window 9 at a grid point, as real numbers. -/
theorem in_bs (t : Fin cfg0.N) : R2 (n0 := 128) (n1 := 6) (iblk m c 9 t) fun s h => I.bs h s := by
  intro i
  have e := idx_in t
  have e0 : ((win0_9.blk t).view.emb i 0 : ℕ) = (i 0).val := by blk_simp [e]; try omega
  have e1 : ((win0_9.blk t).view.emb i 1 : ℕ) = (i 1).val := by blk_simp [e]; try omega
  blk_simp [iblk]
  rw [V_main_v110, Cert.ReferenceIdeal.Read.val_main_v81_apply]
  refine (H.h4 _).trans ?_
  show ((I.bs ((win0_9.blk t).view.emb i 1 : ℕ) ((win0_9.blk t).view.emb i 0 : ℕ) : ℝ) : EReal) = _
  rw [e0, e1]

/-- The eight rows of window 4 at a grid point, as real numbers. -/
theorem in_dnx (t : Fin cfg0.N) : R2 (n0 := 8) (n1 := 768) (X0_4 m c t) fun s j => I.dhn (nxt t.val + s) (768 + j) := by
  intro i
  have e := idx_in t
  unfold X0_4 Pipeline.Window.fill
  rw [dif_pos (moved0_4 t i)]
  generalize hj : (fun a => (⟨(i a).val, _⟩ : Fin _) : ((cfg0.win 4).xblock (cfg0.grid.coords t)).Idx) = j
  have j0 : (j 0).val = (i 0).val := by rw [← hj]
  have j1 : (j 1).val = (i 1).val := by rw [← hj]
  have i0 : win0_4.index t 0 = min ((t.val + 1) * 32) 255 := congrFun e.2.2.2.2.1 0
  have i1 : win0_4.index t 1 = 1 := congrFun e.2.2.2.2.1 1
  have e0 : ((win0_4.blk t).view.emb j 0 : ℕ) = min ((t.val + 1) * 32) 255 * 8 + (i 0).val := by
    refine (win0_4.rect_emb_val t j 0).trans ?_
    rw [i0, j0]
    rfl
  have e1 : ((win0_4.blk t).view.emb j 1 : ℕ) = 768 + (i 1).val := by
    refine (win0_4.rect_emb_val t j 1).trans ?_
    rw [i1, j1]
    rfl
  blk_simp [iblk]
  rw [V_main_arg0]
  refine (H.h0 _).trans ?_
  rw [e0, e1]
  rfl

/-- The eight rows of window 5 at a grid point, as real numbers. -/
theorem in_hdx (t : Fin cfg0.N) : R2 (n0 := 8) (n1 := 768) (X0_5 m c t) fun s j => I.hd (nxt t.val + s) (768 + j) := by
  intro i
  have e := idx_in t
  unfold X0_5 Pipeline.Window.fill
  rw [dif_pos (moved0_5 t i)]
  generalize hj : (fun a => (⟨(i a).val, _⟩ : Fin _) : ((cfg0.win 5).xblock (cfg0.grid.coords t)).Idx) = j
  have j0 : (j 0).val = (i 0).val := by rw [← hj]
  have j1 : (j 1).val = (i 1).val := by rw [← hj]
  have i0 : win0_5.index t 0 = min ((t.val + 1) * 32) 255 := congrFun e.2.2.2.2.2.1 0
  have i1 : win0_5.index t 1 = 1 := congrFun e.2.2.2.2.2.1 1
  have e0 : ((win0_5.blk t).view.emb j 0 : ℕ) = min ((t.val + 1) * 32) 255 * 8 + (i 0).val := by
    refine (win0_5.rect_emb_val t j 0).trans ?_
    rw [i0, j0]
    rfl
  have e1 : ((win0_5.blk t).view.emb j 1 : ℕ) = 768 + (i 1).val := by
    refine (win0_5.rect_emb_val t j 1).trans ?_
    rw [i1, j1]
    rfl
  blk_simp [iblk]
  rw [V_main_v109]
  refine (Cert.Mix.r_v146 H _).trans ?_
  rw [e0, e1]
  rfl

/-- The eight rows of window 6 at a grid point, as real numbers. -/
theorem in_prx (t : Fin cfg0.N) : R2 (n0 := 8) (n1 := 768) (X0_6 m c t) fun s j => I.proj (nxt t.val + s) (1536 + j) := by
  intro i
  have e := idx_in t
  unfold X0_6 Pipeline.Window.fill
  rw [dif_pos (moved0_6 t i)]
  generalize hj : (fun a => (⟨(i a).val, _⟩ : Fin _) : ((cfg0.win 6).xblock (cfg0.grid.coords t)).Idx) = j
  have j0 : (j 0).val = (i 0).val := by rw [← hj]
  have j1 : (j 1).val = (i 1).val := by rw [← hj]
  have i0 : win0_6.index t 0 = min ((t.val + 1) * 32) 255 := congrFun e.2.2.2.2.2.2.1 0
  have i1 : win0_6.index t 1 = 2 := congrFun e.2.2.2.2.2.2.1 1
  have e0 : ((win0_6.blk t).view.emb j 0 : ℕ) = min ((t.val + 1) * 32) 255 * 8 + (i 0).val := by
    refine (win0_6.rect_emb_val t j 0).trans ?_
    rw [i0, j0]
    rfl
  have e1 : ((win0_6.blk t).view.emb j 1 : ℕ) = 1536 + (i 1).val := by
    refine (win0_6.rect_emb_val t j 1).trans ?_
    rw [i1, j1]
    rfl
  blk_simp [iblk]
  rw [V_main_arg1]
  refine (H.h1 _).trans ?_
  rw [e0, e1]
  rfl

/-- What the kernel reads at a grid point. -/
theorem tile (t : Fin cfg0.N) : Tile m I c t where
  dn := in_dn H t
  hd := in_hd H t
  pr := in_pr H t
  yc := in_yc H t
  kv := in_kv H t
  ws := in_ws H t
  bs := in_bs H t
  lg := in_lg H t
  lb := in_lb H t
  cw := in_cw H t
  gh := in_gh H t
  dnx := in_dnx H t
  hdx := in_hdx H t
  prx := in_prx H t

end Cert.Mix
end
-- ==== Proof.KerProj.lean ====
/- The kernel's first result, tile by tile: the gradient of the projection. -/
module

public import proofs.«01_k».proof.Proof.KerTile

@[expose] public section

set_option maxRecDepth 16384

noncomputable section

namespace Cert.Mix

open Cert.KernelIdeal Cert.KernelIdeal.Gen Idealize.ShloMosaic Idealize.ShloMosaic.TcCoe Idealize.SL.Sem

namespace In
variable (I : In)

theorem dproj_u {s j : ℕ} (h : j < 768) : I.du s j = I.dproj s j := by
  unfold dproj; rw [if_pos h]
theorem dproj_v {s j : ℕ} (h : j < 768) : I.dv s j = I.dproj s (768 + j) := by
  unfold dproj; rw [if_neg (by omega), if_pos (by omega), Nat.add_sub_cancel_left]
theorem dproj_b {s j : ℕ} (h : j < 768) : I.db s j = I.dproj s (1536 + j) := by
  unfold dproj; rw [if_neg (by omega), if_neg (by omega), if_pos (by omega), Nat.add_sub_cancel_left]
theorem dproj_c {s j : ℕ} (h : j < 768) : I.dc s j = I.dproj s (2304 + j) := by
  unfold dproj; rw [if_neg (by omega), if_neg (by omega), if_neg (by omega), if_pos (by omega), Nat.add_sub_cancel_left]
theorem dproj_x {s j : ℕ} (h : j < 768) : I.dx s j = I.dproj s (3072 + j) := by
  unfold dproj; rw [if_neg (by omega), if_neg (by omega), if_neg (by omega), if_neg (by omega), if_pos (by omega), Nat.add_sub_cancel_left]
theorem dproj_q {s j : ℕ} : I.dq s j = I.dproj s (3840 + j) := by
  unfold dproj; rw [if_neg (by omega), if_neg (by omega), if_neg (by omega), if_neg (by omega), if_neg (by omega), Nat.add_sub_cancel_left]

end In

variable {m : (ℓ : Loc nD τ sig) → Buf (Elt Ideal) ℓ} {I : In} {c : Dev nD} {t : Fin cfg0.N} (H : Tile m I c t)
include H

namespace Tile

/-- Head `h`'s scaled queries. -/
theorem qp {o : ℕ} (h : ℕ) (ho : o = 3840 + h * 128) (i) : R2 (n0 := 256) (n1 := 128) (k0_pay287 (F := Ideal)
    (View.ld (Val := Elt Ideal) (e' := .f32) (S := Sh 256 4352) (iblk m c 2 t) (Rect.unit ![0, o] ![256, 128] i)))
    fun s d => I.q h (256 * t.val + s) d :=
  q_val (R2.congr (H.prp i) fun s d _ _ => by rw [ho, Nat.add_assoc])

/-- Head `h`'s keys. -/
theorem kp {o : ℕ} (h : ℕ) (ho : o = h * 128) (i) : R2 (n0 := 256) (n1 := 128)
    (View.ld (Val := Elt Ideal) (e' := .f32) (S := Sh 256 1024) (iblk m c 7 t) (Rect.unit ![0, o] ![256, 128] i)) fun s d => I.k h s d :=
  R2.congr (R2.ldc H.kv i) fun s d _ _ => by rw [ho]; rfl

/-- Head `h`'s values. -/
theorem vp {o : ℕ} (h : ℕ) (ho : o = 512 + h * 128) (i) : R2 (n0 := 256) (n1 := 128)
    (View.ld (Val := Elt Ideal) (e' := .f32) (S := Sh 256 1024) (iblk m c 7 t) (Rect.unit ![0, o] ![256, 128] i)) fun s d => I.v h s d :=
  R2.congr (R2.ldc H.kv i) fun s d _ _ => by rw [ho, Nat.add_assoc]; rfl

/-- The gradient of memory head `h`'s rows. -/
theorem dmo {o : ℕ} (h g : ℕ) (hg : g = 12 + h) (ho : o = g * 128) (i1 i0 i2) : R2 (n0 := 256) (n1 := 128) (truncf (F := Ideal) .bf16 (k0_pay157 (F := Ideal)
    (View.ld (Val := Elt Ideal) (e' := .f32) (S := Sh 256 2048) (iblk m c 1 t) (Rect.unit ![0, o] ![256, 128] i1))
    (View.ld (Val := Elt Ideal) (e' := .f32) (S := Sh 256 2048) (iblk m c 0 t) (Rect.unit ![0, o] ![256, 128] i0))
    (View.ld (Val := Elt Ideal) (e' := .f32) (S := Sh 1 2048) (iblk m c 13 t) (Rect.unit ![0, o] ![1, 128] i2))) bitsLt_bf16_f32)
    fun s d => I.dmo h (256 * t.val + s) d :=
  R2.truncf (R2.congr (H.da g ho i1 i0 i2) fun s d _ _ => by unfold In.dmo; rw [show g * 128 + d = 1536 + (h * 128 + d) by omega]) _

end Tile

namespace Tile

/-- The convolution's gradient of the tile. -/
theorem tlt : 256 * t.val + 256 ≤ 2048 := by
  have := lt_of_lt_of_eq t.isLt N_0; omega

/-- A tap of the convolution. -/
theorem cwp (r : ℕ) (i) : R2 (n0 := 1) (n1 := 768)
    (View.ld (Val := Elt Ideal) (e' := .f32) (S := Sh 3 768) (iblk m c 12 t) (Rect.unit ![r, 0] ![1, 768] i)) fun _ j => I.cw r j :=
  R2.congr (R2.ld H.cw i) fun s j hs _ => by rw [show r + s = r by omega, Nat.zero_add]

end Tile

set_option maxHeartbeats 4000000 in
/-- What the kernel leaves of the projection's gradient at a grid point. -/
theorem dproj_tile : R2 (n0 := 256) (n1 := 4352) (outsAt0 m c t.val t.isLt).1 fun s j => I.dproj (256 * t.val + s) j := by
  intro y
  have hy : (y 1).val < 4352 := (y 1).isLt
  have hy0 : (y 0).val < 256 := (y 0).isLt
  by_cases h : t.val % 8 = 0
  · rw [outsAt0_A m c t h]
    frame_out
    refine canon0b (F := fun s j => I.dproj (256 * t.val + s) j) (R2.congr (dq_val (H.qp 3 rfl _) (H.kp 3 rfl _) (H.dmo 3 15 rfl rfl _ _ _) (H.vp 3 rfl _)) fun s j _ _ => (I.dproj_q).trans (by rw [← Nat.add_assoc])) fun n0 => ?_
    refine canon0b (F := fun s j => I.dproj (256 * t.val + s) j) (R2.congr (dq_val (H.qp 2 rfl _) (H.kp 2 rfl _) (H.dmo 2 14 rfl rfl _ _ _) (H.vp 2 rfl _)) fun s j _ _ => (I.dproj_q).trans (by rw [← Nat.add_assoc])) fun n1 => ?_
    refine canon0b (F := fun s j => I.dproj (256 * t.val + s) j) (R2.congr (dq_val (H.qp 1 rfl _) (H.kp 1 rfl _) (H.dmo 1 13 rfl rfl _ _ _) (H.vp 1 rfl _)) fun s j _ _ => (I.dproj_q).trans (by rw [← Nat.add_assoc])) fun n2 => ?_
    refine canon0b (F := fun s j => I.dproj (256 * t.val + s) j) (R2.congr (dq_val (H.qp 0 rfl _) (H.kp 0 rfl _) (H.dmo 0 12 rfl rfl _ _ _) (H.vp 0 rfl _)) fun s j _ _ => (I.dproj_q).trans (by rw [← Nat.add_assoc])) fun n3 => ?_
    refine canon0b (F := fun s j => I.dproj (256 * t.val + s) j) (R2.congr (f := fun s j => I.dx (256 * t.val + s) j) (dx_val (T := 256 * t.val) (dxc_val (dy_val H.tlt (H.dhc _ _ _ _ _ _ _ _ _ _ _ _ _ _ _ _ _ _ concatenates_S256x128_S256x128_S256x128_S256x128_S256x128_S256x128_S256x768_d1) (H.prp _)) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.cwp 0 _) (H.cwp 1 _) (H.cwp 2 _)) (H.prp _)) fun s j _ hj => I.dproj_x hj) fun n4 => ?_
    refine canon0b (F := fun s j => I.dproj (256 * t.val + s) j) (R2.congr (f := fun s j => I.dc (256 * t.val + s) j) (dc_val (T := 256 * t.val) (dxc_val (dy_val H.tlt (H.dhc _ _ _ _ _ _ _ _ _ _ _ _ _ _ _ _ _ _ concatenates_S256x128_S256x128_S256x128_S256x128_S256x128_S256x128_S256x768_d1) (H.prp _)) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.cwp 0 _) (H.cwp 1 _) (H.cwp 2 _)) (H.prp _)) fun s j _ hj => I.dproj_c hj) fun n5 => ?_
    refine canon0b (F := fun s j => I.dproj (256 * t.val + s) j) (R2.congr (f := fun s j => I.db (256 * t.val + s) j) (db_val (T := 256 * t.val) (H.dhc _ _ _ _ _ _ _ _ _ _ _ _ _ _ _ _ _ _ concatenates_S256x128_S256x128_S256x128_S256x128_S256x128_S256x128_S256x768_d1) H.yc) fun s j _ hj => I.dproj_b hj) fun n6 => ?_
    refine canon0b (F := fun s j => I.dproj (256 * t.val + s) j) (R2.congr (f := fun s j => I.dv (256 * t.val + s) j) (dv_val (T := 256 * t.val) (H.prp _) H.lg (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _)) fun s j _ hj => I.dproj_v hj) fun n7 => ?_
    refine canon0b (F := fun s j => I.dproj (256 * t.val + s) j) (R2.congr (f := fun s d => I.du (256 * t.val + s) (5 * 128 + d)) (du_val (τ := t.val) (h := 5) (H.wm 5 _) (H.bsp 5 _) (vn0_val 5 rfl (H.vn _) slices_S256x768_o0_640_S128x128) (vn1_val 5 rfl (H.vn _) slices_S256x768_o128_640_S128x128) (H.da 5 rfl _ _ _) (H.dg 5 rfl _) _ _ _) fun s j _ hj => I.dproj_u (by omega)) fun n8 => ?_
    refine canon0b (F := fun s j => I.dproj (256 * t.val + s) j) (R2.congr (f := fun s d => I.du (256 * t.val + s) (4 * 128 + d)) (du_val (τ := t.val) (h := 4) (H.wm 4 _) (H.bsp 4 _) (vn0_val 4 rfl (H.vn _) slices_S256x768_o0_512_S128x128) (vn1_val 4 rfl (H.vn _) slices_S256x768_o128_512_S128x128) (H.da 4 rfl _ _ _) (H.dg 4 rfl _) _ _ _) fun s j _ hj => I.dproj_u (by omega)) fun n9 => ?_
    refine canon0b (F := fun s j => I.dproj (256 * t.val + s) j) (R2.congr (f := fun s d => I.du (256 * t.val + s) (3 * 128 + d)) (du_val (τ := t.val) (h := 3) (H.wm 3 _) (H.bsp 3 _) (vn0_val 3 rfl (H.vn _) slices_S256x768_o0_384_S128x128) (vn1_val 3 rfl (H.vn _) slices_S256x768_o128_384_S128x128) (H.da 3 rfl _ _ _) (H.dg 3 rfl _) _ _ _) fun s j _ hj => I.dproj_u (by omega)) fun n10 => ?_
    refine canon0b (F := fun s j => I.dproj (256 * t.val + s) j) (R2.congr (f := fun s d => I.du (256 * t.val + s) (2 * 128 + d)) (du_val (τ := t.val) (h := 2) (H.wm 2 _) (H.bsp 2 _) (vn0_val 2 rfl (H.vn _) slices_S256x768_o0_256_S128x128) (vn1_val 2 rfl (H.vn _) slices_S256x768_o128_256_S128x128) (H.da 2 rfl _ _ _) (H.dg 2 rfl _) _ _ _) fun s j _ hj => I.dproj_u (by omega)) fun n11 => ?_
    refine canon0b (F := fun s j => I.dproj (256 * t.val + s) j) (R2.congr (f := fun s d => I.du (256 * t.val + s) (1 * 128 + d)) (du_val (τ := t.val) (h := 1) (H.wm 1 _) (H.bsp 1 _) (vn0_val 1 rfl (H.vn _) slices_S256x768_o0_128_S128x128) (vn1_val 1 rfl (H.vn _) slices_S256x768_o128_128_S128x128) (H.da 1 rfl _ _ _) (H.dg 1 rfl _) _ _ _) fun s j _ hj => I.dproj_u (by omega)) fun n12 => ?_
    refine canon0b (F := fun s j => I.dproj (256 * t.val + s) j) (R2.congr (f := fun s d => I.du (256 * t.val + s) (0 * 128 + d)) (du_val (τ := t.val) (h := 0) (H.wm 0 _) (H.bsp 0 _) (vn0_val 0 rfl (H.vn _) slices_S256x768_o0_0_S128x128) (vn1_val 0 rfl (H.vn _) slices_S256x768_o128_0_S128x128) (H.da 0 rfl _ _ _) (H.dg 0 rfl _) _ _ _) fun s j _ hj => I.dproj_u (by omega)) fun n13 => ?_
    omega
  · rw [outsAt0_B m c t h]
    frame_out
    refine canon0b (F := fun s j => I.dproj (256 * t.val + s) j) (R2.congr (dq_val (H.qp 3 rfl _) (H.kp 3 rfl _) (H.dmo 3 15 rfl rfl _ _ _) (H.vp 3 rfl _)) fun s j _ _ => (I.dproj_q).trans (by rw [← Nat.add_assoc])) fun n0 => ?_
    refine canon0b (F := fun s j => I.dproj (256 * t.val + s) j) (R2.congr (dq_val (H.qp 2 rfl _) (H.kp 2 rfl _) (H.dmo 2 14 rfl rfl _ _ _) (H.vp 2 rfl _)) fun s j _ _ => (I.dproj_q).trans (by rw [← Nat.add_assoc])) fun n1 => ?_
    refine canon0b (F := fun s j => I.dproj (256 * t.val + s) j) (R2.congr (dq_val (H.qp 1 rfl _) (H.kp 1 rfl _) (H.dmo 1 13 rfl rfl _ _ _) (H.vp 1 rfl _)) fun s j _ _ => (I.dproj_q).trans (by rw [← Nat.add_assoc])) fun n2 => ?_
    refine canon0b (F := fun s j => I.dproj (256 * t.val + s) j) (R2.congr (dq_val (H.qp 0 rfl _) (H.kp 0 rfl _) (H.dmo 0 12 rfl rfl _ _ _) (H.vp 0 rfl _)) fun s j _ _ => (I.dproj_q).trans (by rw [← Nat.add_assoc])) fun n3 => ?_
    refine canon0b (F := fun s j => I.dproj (256 * t.val + s) j) (R2.congr (f := fun s j => I.dx (256 * t.val + s) j) (dx_val (T := 256 * t.val) (dxc_val (dy_val H.tlt (H.dhc _ _ _ _ _ _ _ _ _ _ _ _ _ _ _ _ _ _ concatenates_S256x128_S256x128_S256x128_S256x128_S256x128_S256x128_S256x768_d1) (H.prp _)) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.cwp 0 _) (H.cwp 1 _) (H.cwp 2 _)) (H.prp _)) fun s j _ hj => I.dproj_x hj) fun n4 => ?_
    refine canon0b (F := fun s j => I.dproj (256 * t.val + s) j) (R2.congr (f := fun s j => I.dc (256 * t.val + s) j) (dc_val (T := 256 * t.val) (dxc_val (dy_val H.tlt (H.dhc _ _ _ _ _ _ _ _ _ _ _ _ _ _ _ _ _ _ concatenates_S256x128_S256x128_S256x128_S256x128_S256x128_S256x128_S256x768_d1) (H.prp _)) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.cwp 0 _) (H.cwp 1 _) (H.cwp 2 _)) (H.prp _)) fun s j _ hj => I.dproj_c hj) fun n5 => ?_
    refine canon0b (F := fun s j => I.dproj (256 * t.val + s) j) (R2.congr (f := fun s j => I.db (256 * t.val + s) j) (db_val (T := 256 * t.val) (H.dhc _ _ _ _ _ _ _ _ _ _ _ _ _ _ _ _ _ _ concatenates_S256x128_S256x128_S256x128_S256x128_S256x128_S256x128_S256x768_d1) H.yc) fun s j _ hj => I.dproj_b hj) fun n6 => ?_
    refine canon0b (F := fun s j => I.dproj (256 * t.val + s) j) (R2.congr (f := fun s j => I.dv (256 * t.val + s) j) (dv_val (T := 256 * t.val) (H.prp _) H.lg (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _)) fun s j _ hj => I.dproj_v hj) fun n7 => ?_
    refine canon0b (F := fun s j => I.dproj (256 * t.val + s) j) (R2.congr (f := fun s d => I.du (256 * t.val + s) (5 * 128 + d)) (du_val (τ := t.val) (h := 5) (H.wm 5 _) (H.bsp 5 _) (vn0_val 5 rfl (H.vn _) slices_S256x768_o0_640_S128x128) (vn1_val 5 rfl (H.vn _) slices_S256x768_o128_640_S128x128) (H.da 5 rfl _ _ _) (H.dg 5 rfl _) _ _ _) fun s j _ hj => I.dproj_u (by omega)) fun n8 => ?_
    refine canon0b (F := fun s j => I.dproj (256 * t.val + s) j) (R2.congr (f := fun s d => I.du (256 * t.val + s) (4 * 128 + d)) (du_val (τ := t.val) (h := 4) (H.wm 4 _) (H.bsp 4 _) (vn0_val 4 rfl (H.vn _) slices_S256x768_o0_512_S128x128) (vn1_val 4 rfl (H.vn _) slices_S256x768_o128_512_S128x128) (H.da 4 rfl _ _ _) (H.dg 4 rfl _) _ _ _) fun s j _ hj => I.dproj_u (by omega)) fun n9 => ?_
    refine canon0b (F := fun s j => I.dproj (256 * t.val + s) j) (R2.congr (f := fun s d => I.du (256 * t.val + s) (3 * 128 + d)) (du_val (τ := t.val) (h := 3) (H.wm 3 _) (H.bsp 3 _) (vn0_val 3 rfl (H.vn _) slices_S256x768_o0_384_S128x128) (vn1_val 3 rfl (H.vn _) slices_S256x768_o128_384_S128x128) (H.da 3 rfl _ _ _) (H.dg 3 rfl _) _ _ _) fun s j _ hj => I.dproj_u (by omega)) fun n10 => ?_
    refine canon0b (F := fun s j => I.dproj (256 * t.val + s) j) (R2.congr (f := fun s d => I.du (256 * t.val + s) (2 * 128 + d)) (du_val (τ := t.val) (h := 2) (H.wm 2 _) (H.bsp 2 _) (vn0_val 2 rfl (H.vn _) slices_S256x768_o0_256_S128x128) (vn1_val 2 rfl (H.vn _) slices_S256x768_o128_256_S128x128) (H.da 2 rfl _ _ _) (H.dg 2 rfl _) _ _ _) fun s j _ hj => I.dproj_u (by omega)) fun n11 => ?_
    refine canon0b (F := fun s j => I.dproj (256 * t.val + s) j) (R2.congr (f := fun s d => I.du (256 * t.val + s) (1 * 128 + d)) (du_val (τ := t.val) (h := 1) (H.wm 1 _) (H.bsp 1 _) (vn0_val 1 rfl (H.vn _) slices_S256x768_o0_128_S128x128) (vn1_val 1 rfl (H.vn _) slices_S256x768_o128_128_S128x128) (H.da 1 rfl _ _ _) (H.dg 1 rfl _) _ _ _) fun s j _ hj => I.dproj_u (by omega)) fun n12 => ?_
    refine canon0b (F := fun s j => I.dproj (256 * t.val + s) j) (R2.congr (f := fun s d => I.du (256 * t.val + s) (0 * 128 + d)) (du_val (τ := t.val) (h := 0) (H.wm 0 _) (H.bsp 0 _) (vn0_val 0 rfl (H.vn _) slices_S256x768_o0_0_S128x128) (vn1_val 0 rfl (H.vn _) slices_S256x768_o128_0_S128x128) (H.da 0 rfl _ _ _) (H.dg 0 rfl _) _ _ _) fun s j _ hj => I.dproj_u (by omega)) fun n13 => ?_
    omega

end Cert.Mix

end
-- ==== Proof.KerKv.lean ====
/- The kernel's accumulated results: the keys' and values' gradient. -/
module

public import proofs.«01_k».proof.Proof.KerProj

@[expose] public section

set_option maxRecDepth 16384

noncomputable section

namespace Cert.Mix

open Cert.KernelIdeal Cert.KernelIdeal.Gen Idealize.ShloMosaic Idealize.ShloMosaic.TcCoe Idealize.SL.Sem

/-- A tile's rows added to the rows before it. -/
theorem acc_rows (n : ℕ) (K : ℕ → ℝ) :
    ∑ s ∈ Finset.range (256 * n), K s + ∑ i : Fin 256, K (256 * n + i) = ∑ s ∈ Finset.range (256 * (n + 1)), K s := by
  rw [Fin.sum_univ_eq_sum_range (fun i => K (256 * n + i)) 256, Nat.mul_add, Nat.mul_one, Finset.sum_range_add]

/-- What row `s` adds to the keys' and values' gradient. -/
def In.kvt (I : In) (s i j : ℕ) : ℝ :=
  if j < 512 then I.ds (j / 128) s i * I.q (j / 128) s (j % 128) else I.pr ((j - 512) / 128) s i * I.dmo ((j - 512) / 128) s ((j - 512) % 128)

theorem In.kvt_k (I : In) {h s i d : ℕ} (hh : h < 4) (hd : d < 128) : I.ds h s i * I.q h s d = I.kvt s i (h * 128 + d) := by
  unfold In.kvt
  rw [if_pos (by omega), show (h * 128 + d) / 128 = h by omega, show (h * 128 + d) % 128 = d by omega]

theorem In.kvt_v (I : In) {h s i d : ℕ} (hd : d < 128) : I.pr h s i * I.dmo h s d = I.kvt s i (512 + h * 128 + d) := by
  unfold In.kvt
  rw [if_neg (by omega), show (512 + h * 128 + d - 512) / 128 = h by omega, show (512 + h * 128 + d - 512) % 128 = d by omega]

variable {m : (ℓ : Loc nD τ sig) → Buf (Elt Ideal) ℓ} {I : In} {c : Dev nD}

set_option maxHeartbeats 4000000 in
/-- The keys' and values' gradient after a grid point: the sum over the rows so far. -/
theorem dkv_acc (HT : ∀ t : Fin cfg0.N, Tile m I c t) (n : ℕ) (hn : n < cfg0.N) :
    R2 (n0 := 256) (n1 := 1024) (outsAt0 m c n hn).2.1 fun i j => ∑ s ∈ Finset.range (256 * (n + 1)), I.kvt s i j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    have hy : (y 1).val < 1024 := (y 1).isLt
    have hy0 : (y 0).val < 256 := (y 0).isLt
    by_cases h : t.val % 8 = 0
    · have h0 : t.val = 0 := by omega
      have hp : R2 (n0 := 256) (n1 := 1024) (k0_pay1 (F := Ideal)) fun i j => ∑ s ∈ Finset.range (256 * t.val), I.kvt s i j :=
        R2.congr (R2.splat lit_0) fun _ _ _ _ => by rw [h0]; rfl
      rw [outsAt0_A m c t h]
      frame_out
      simp (disch := decide) only [↓View.readCov_skip, ↓View.readCov_fill]
      refine canon0 (F := fun i j => ∑ s ∈ Finset.range (256 * (t.val + 1)), I.kvt s i j) (R2.congr (dvv_val (T := 256 * t.val) (h := 3) (H.qp 3 rfl _) (H.kp 3 rfl _) (H.dmo 3 15 rfl rfl _ _ _) (R2.ldc hp _)) fun i d _ hd => (congrArg _ (Finset.sum_congr rfl fun s _ => I.kvt_v hd)).trans (acc_rows t.val _)) fun v3 => ?_
      refine canon0 (F := fun i j => ∑ s ∈ Finset.range (256 * (t.val + 1)), I.kvt s i j) (R2.congr (dk_val (T := 256 * t.val) (h := 3) (H.qp 3 rfl _) (H.kp 3 rfl _) (H.dmo 3 15 rfl rfl _ _ _) (H.vp 3 rfl _) (R2.ldc hp _)) fun i d _ hd => (congrArg _ (Finset.sum_congr rfl fun s _ => I.kvt_k (by omega) hd)).trans (acc_rows t.val _)) fun k3 => ?_
      refine canon0 (F := fun i j => ∑ s ∈ Finset.range (256 * (t.val + 1)), I.kvt s i j) (R2.congr (dvv_val (T := 256 * t.val) (h := 2) (H.qp 2 rfl _) (H.kp 2 rfl _) (H.dmo 2 14 rfl rfl _ _ _) (R2.ldc hp _)) fun i d _ hd => (congrArg _ (Finset.sum_congr rfl fun s _ => I.kvt_v hd)).trans (acc_rows t.val _)) fun v2 => ?_
      refine canon0 (F := fun i j => ∑ s ∈ Finset.range (256 * (t.val + 1)), I.kvt s i j) (R2.congr (dk_val (T := 256 * t.val) (h := 2) (H.qp 2 rfl _) (H.kp 2 rfl _) (H.dmo 2 14 rfl rfl _ _ _) (H.vp 2 rfl _) (R2.ldc hp _)) fun i d _ hd => (congrArg _ (Finset.sum_congr rfl fun s _ => I.kvt_k (by omega) hd)).trans (acc_rows t.val _)) fun k2 => ?_
      refine canon0 (F := fun i j => ∑ s ∈ Finset.range (256 * (t.val + 1)), I.kvt s i j) (R2.congr (dvv_val (T := 256 * t.val) (h := 1) (H.qp 1 rfl _) (H.kp 1 rfl _) (H.dmo 1 13 rfl rfl _ _ _) (R2.ldc hp _)) fun i d _ hd => (congrArg _ (Finset.sum_congr rfl fun s _ => I.kvt_v hd)).trans (acc_rows t.val _)) fun v1 => ?_
      refine canon0 (F := fun i j => ∑ s ∈ Finset.range (256 * (t.val + 1)), I.kvt s i j) (R2.congr (dk_val (T := 256 * t.val) (h := 1) (H.qp 1 rfl _) (H.kp 1 rfl _) (H.dmo 1 13 rfl rfl _ _ _) (H.vp 1 rfl _) (R2.ldc hp _)) fun i d _ hd => (congrArg _ (Finset.sum_congr rfl fun s _ => I.kvt_k (by omega) hd)).trans (acc_rows t.val _)) fun k1 => ?_
      refine canon0 (F := fun i j => ∑ s ∈ Finset.range (256 * (t.val + 1)), I.kvt s i j) (R2.congr (dvv_val (T := 256 * t.val) (h := 0) (H.qp 0 rfl _) (H.kp 0 rfl _) (H.dmo 0 12 rfl rfl _ _ _) (R2.ldc hp _)) fun i d _ hd => (congrArg _ (Finset.sum_congr rfl fun s _ => I.kvt_v hd)).trans (acc_rows t.val _)) fun v0 => ?_
      refine canon0 (F := fun i j => ∑ s ∈ Finset.range (256 * (t.val + 1)), I.kvt s i j) (R2.congr (dk_val (T := 256 * t.val) (h := 0) (H.qp 0 rfl _) (H.kp 0 rfl _) (H.dmo 0 12 rfl rfl _ _ _) (H.vp 0 rfl _) (R2.ldc hp _)) fun i d _ hd => (congrArg _ (Finset.sum_congr rfl fun s _ => I.kvt_k (by omega) hd)).trans (acc_rows t.val _)) fun k0 => ?_
      omega
    · have hp := ih (t.val - 1) (by omega) (by omega)
      rw [Nat.sub_add_cancel (by omega)] at hp
      rw [outsAt0_B m c t h]
      frame_out
      refine canon0 (F := fun i j => ∑ s ∈ Finset.range (256 * (t.val + 1)), I.kvt s i j) (R2.congr (dvv_val (T := 256 * t.val) (h := 3) (H.qp 3 rfl _) (H.kp 3 rfl _) (H.dmo 3 15 rfl rfl _ _ _) (R2.ldc hp _)) fun i d _ hd => (congrArg _ (Finset.sum_congr rfl fun s _ => I.kvt_v hd)).trans (acc_rows t.val _)) fun v3 => ?_
      refine canon0 (F := fun i j => ∑ s ∈ Finset.range (256 * (t.val + 1)), I.kvt s i j) (R2.congr (dk_val (T := 256 * t.val) (h := 3) (H.qp 3 rfl _) (H.kp 3 rfl _) (H.dmo 3 15 rfl rfl _ _ _) (H.vp 3 rfl _) (R2.ldc hp _)) fun i d _ hd => (congrArg _ (Finset.sum_congr rfl fun s _ => I.kvt_k (by omega) hd)).trans (acc_rows t.val _)) fun k3 => ?_
      refine canon0 (F := fun i j => ∑ s ∈ Finset.range (256 * (t.val + 1)), I.kvt s i j) (R2.congr (dvv_val (T := 256 * t.val) (h := 2) (H.qp 2 rfl _) (H.kp 2 rfl _) (H.dmo 2 14 rfl rfl _ _ _) (R2.ldc hp _)) fun i d _ hd => (congrArg _ (Finset.sum_congr rfl fun s _ => I.kvt_v hd)).trans (acc_rows t.val _)) fun v2 => ?_
      refine canon0 (F := fun i j => ∑ s ∈ Finset.range (256 * (t.val + 1)), I.kvt s i j) (R2.congr (dk_val (T := 256 * t.val) (h := 2) (H.qp 2 rfl _) (H.kp 2 rfl _) (H.dmo 2 14 rfl rfl _ _ _) (H.vp 2 rfl _) (R2.ldc hp _)) fun i d _ hd => (congrArg _ (Finset.sum_congr rfl fun s _ => I.kvt_k (by omega) hd)).trans (acc_rows t.val _)) fun k2 => ?_
      refine canon0 (F := fun i j => ∑ s ∈ Finset.range (256 * (t.val + 1)), I.kvt s i j) (R2.congr (dvv_val (T := 256 * t.val) (h := 1) (H.qp 1 rfl _) (H.kp 1 rfl _) (H.dmo 1 13 rfl rfl _ _ _) (R2.ldc hp _)) fun i d _ hd => (congrArg _ (Finset.sum_congr rfl fun s _ => I.kvt_v hd)).trans (acc_rows t.val _)) fun v1 => ?_
      refine canon0 (F := fun i j => ∑ s ∈ Finset.range (256 * (t.val + 1)), I.kvt s i j) (R2.congr (dk_val (T := 256 * t.val) (h := 1) (H.qp 1 rfl _) (H.kp 1 rfl _) (H.dmo 1 13 rfl rfl _ _ _) (H.vp 1 rfl _) (R2.ldc hp _)) fun i d _ hd => (congrArg _ (Finset.sum_congr rfl fun s _ => I.kvt_k (by omega) hd)).trans (acc_rows t.val _)) fun k1 => ?_
      refine canon0 (F := fun i j => ∑ s ∈ Finset.range (256 * (t.val + 1)), I.kvt s i j) (R2.congr (dvv_val (T := 256 * t.val) (h := 0) (H.qp 0 rfl _) (H.kp 0 rfl _) (H.dmo 0 12 rfl rfl _ _ _) (R2.ldc hp _)) fun i d _ hd => (congrArg _ (Finset.sum_congr rfl fun s _ => I.kvt_v hd)).trans (acc_rows t.val _)) fun v0 => ?_
      refine canon0 (F := fun i j => ∑ s ∈ Finset.range (256 * (t.val + 1)), I.kvt s i j) (R2.congr (dk_val (T := 256 * t.val) (h := 0) (H.qp 0 rfl _) (H.kp 0 rfl _) (H.dmo 0 12 rfl rfl _ _ _) (H.vp 0 rfl _) (R2.ldc hp _)) fun i d _ hd => (congrArg _ (Finset.sum_congr rfl fun s _ => I.kvt_k (by omega) hd)).trans (acc_rows t.val _)) fun k0 => ?_
      omega

end Cert.Mix

end
-- ==== Proof.KerAcc.lean ====
/- The kernel's accumulated results: the gains, the biases, the gating matrices and the convolution's taps. -/
module

public import proofs.«01_k».proof.Proof.KerKv

@[expose] public section

set_option maxRecDepth 16384

noncomputable section

namespace Cert.Mix

open Cert.KernelIdeal Cert.KernelIdeal.Gen Idealize.ShloMosaic Idealize.ShloMosaic.TcCoe Idealize.SL.Sem

/-- A tile's two chunks added to the chunks before it. -/
theorem acc_chunks (n : ℕ) (K : ℕ → ℝ) :
    ∑ s ∈ Finset.range (2 * n), K s + (K (2 * n) + K (2 * n + 1)) = ∑ s ∈ Finset.range (2 * (n + 1)), K s := by
  rw [Nat.mul_add, Nat.mul_one, Finset.sum_range_succ, Finset.sum_range_succ, add_assoc]

/-- What chunk `k` of 128 rows adds to the gradient of head `h`'s matrix. -/
def In.dwt (I : In) (k h t r : ℕ) : ℝ :=
  if r ≤ t then ∑ d : Fin 128, I.dm (k * 128 + t) (h * 128 + d) * I.vn (k * 128 + r) (h * 128 + d) else 0

/-- What chunk `k` of 128 rows adds to the gradient of head `h`'s biases. -/
def In.dbt (I : In) (k h t : ℕ) : ℝ := ∑ d : Fin 128, I.dm (k * 128 + t) (h * 128 + d)

/-- What row `s` adds to the gradient of the heads' gain. -/
def In.dgt (I : In) (s j : ℕ) : ℝ := I.dhn s j * (I.hd s j * I.rs (j / 128) s)

theorem In.dgt_hd (I : In) {T g i j : ℕ} (hj : j < 128) :
    I.dhn (T + i) (g * 128 + j) * (I.hd (T + i) (g * 128 + j) * rsR (fun s d => I.hd (T + s) (g * 128 + d)) i) = I.dgt (T + i) (g * 128 + j) := by
  unfold In.dgt
  rw [show (g * 128 + j) / 128 = g by omega]
  rfl

theorem In.dwt_two (I : In) (n h t r : ℕ) : (if r ≤ t then
    ∑ d : Fin 128, I.dm (256 * n + t) (h * 128 + d) * I.vn (256 * n + r) (h * 128 + d)
      + ∑ d : Fin 128, I.dm (256 * n + (128 + t)) (h * 128 + d) * I.vn (256 * n + (128 + r)) (h * 128 + d) else 0)
    = I.dwt (2 * n) h t r + I.dwt (2 * n + 1) h t r := by
  unfold In.dwt
  rw [show 2 * n * 128 + t = 256 * n + t by omega, show 2 * n * 128 + r = 256 * n + r by omega,
    show (2 * n + 1) * 128 + t = 256 * n + (128 + t) by omega, show (2 * n + 1) * 128 + r = 256 * n + (128 + r) by omega]
  split
  · rfl
  · rw [add_zero]

theorem In.dbt_two (I : In) (n h t : ℕ) :
    ∑ d : Fin 128, I.dm (256 * n + t) (h * 128 + d) + ∑ d : Fin 128, I.dm (256 * n + (128 + t)) (h * 128 + d) = I.dbt (2 * n) h t + I.dbt (2 * n + 1) h t := by
  unfold In.dbt
  rw [show 2 * n * 128 + t = 256 * n + t by omega, show (2 * n + 1) * 128 + t = 256 * n + (128 + t) by omega]

/-- What row `s` adds to the gradient of the convolution's tap `r`. -/
def In.dct (I : In) (s r j : ℕ) : ℝ := if r < 3 then I.dy (s + (2 - r)) j * I.xc s j else 0

/-- A splat holds one number. -/
theorem R3.splat {n0 n1 n2 : ℕ} {c : EReal} {r : ℝ} (h : c = (r : EReal)) : R3 (broadcast (⟨3, ![n0, n1, n2]⟩ : Shape) c) fun _ _ _ => r := fun _ => h

variable {m : (ℓ : Loc nD τ sig) → Buf (Elt Ideal) ℓ} {I : In} {c : Dev nD}

set_option maxHeartbeats 4000000 in
/-- The gradient of the heads' gain after a grid point: the sum over the rows so far. -/
theorem dgh_acc (HT : ∀ t : Fin cfg0.N, Tile m I c t) (n : ℕ) (hn : n < cfg0.N) :
    R2 (n0 := 1) (n1 := 2048) (outsAt0 m c n hn).2.2.2.2.2.2.2 fun _ j => ∑ s ∈ Finset.range (256 * (n + 1)), I.dgt s j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    have hy : (y 1).val < 2048 := (y 1).isLt
    have hy0 : (y 0).val < 1 := (y 0).isLt
    by_cases h : t.val % 8 = 0
    · have h0 : t.val = 0 := by omega
      have hp : R2 (n0 := 1) (n1 := 2048) (k0_pay7 (F := Ideal)) fun _ j => ∑ s ∈ Finset.range (256 * t.val), I.dgt s j :=
        R2.congr (R2.splat lit_0) fun _ _ _ _ => by rw [h0]; rfl
      rw [outsAt0_A m c t h]
      frame_out
      simp (disch := decide) only [↓View.readCov_skip, ↓View.readCov_fill]
      refine canon0 (F := fun _ j => ∑ s ∈ Finset.range (256 * (t.val + 1)), I.dgt s j) (R2.congr (dgh_val (H := fun s d => I.hd (256 * t.val + s) (15 * 128 + d)) (D := fun s d => I.dhn (256 * t.val + s) (15 * 128 + d)) (H.hdp 15 rfl _) (H.dnp 15 rfl _) (R2.ldc hp _)) fun _ j _ hj => (congrArg _ (Finset.sum_congr rfl fun s _ => I.dgt_hd hj)).trans (acc_rows t.val _)) fun n15 => ?_
      refine canon0 (F := fun _ j => ∑ s ∈ Finset.range (256 * (t.val + 1)), I.dgt s j) (R2.congr (dgh_val (H := fun s d => I.hd (256 * t.val + s) (14 * 128 + d)) (D := fun s d => I.dhn (256 * t.val + s) (14 * 128 + d)) (H.hdp 14 rfl _) (H.dnp 14 rfl _) (R2.ldc hp _)) fun _ j _ hj => (congrArg _ (Finset.sum_congr rfl fun s _ => I.dgt_hd hj)).trans (acc_rows t.val _)) fun n14 => ?_
      refine canon0 (F := fun _ j => ∑ s ∈ Finset.range (256 * (t.val + 1)), I.dgt s j) (R2.congr (dgh_val (H := fun s d => I.hd (256 * t.val + s) (13 * 128 + d)) (D := fun s d => I.dhn (256 * t.val + s) (13 * 128 + d)) (H.hdp 13 rfl _) (H.dnp 13 rfl _) (R2.ldc hp _)) fun _ j _ hj => (congrArg _ (Finset.sum_congr rfl fun s _ => I.dgt_hd hj)).trans (acc_rows t.val _)) fun n13 => ?_
      refine canon0 (F := fun _ j => ∑ s ∈ Finset.range (256 * (t.val + 1)), I.dgt s j) (R2.congr (dgh_val (H := fun s d => I.hd (256 * t.val + s) (12 * 128 + d)) (D := fun s d => I.dhn (256 * t.val + s) (12 * 128 + d)) (H.hdp 12 rfl _) (H.dnp 12 rfl _) (R2.ldc hp _)) fun _ j _ hj => (congrArg _ (Finset.sum_congr rfl fun s _ => I.dgt_hd hj)).trans (acc_rows t.val _)) fun n12 => ?_
      refine canon0 (F := fun _ j => ∑ s ∈ Finset.range (256 * (t.val + 1)), I.dgt s j) (R2.congr (dgh_val (H := fun s d => I.hd (256 * t.val + s) (11 * 128 + d)) (D := fun s d => I.dhn (256 * t.val + s) (11 * 128 + d)) (H.hdp 11 rfl _) (H.dnp 11 rfl _) (R2.ldc hp _)) fun _ j _ hj => (congrArg _ (Finset.sum_congr rfl fun s _ => I.dgt_hd hj)).trans (acc_rows t.val _)) fun n11 => ?_
      refine canon0 (F := fun _ j => ∑ s ∈ Finset.range (256 * (t.val + 1)), I.dgt s j) (R2.congr (dgh_val (H := fun s d => I.hd (256 * t.val + s) (10 * 128 + d)) (D := fun s d => I.dhn (256 * t.val + s) (10 * 128 + d)) (H.hdp 10 rfl _) (H.dnp 10 rfl _) (R2.ldc hp _)) fun _ j _ hj => (congrArg _ (Finset.sum_congr rfl fun s _ => I.dgt_hd hj)).trans (acc_rows t.val _)) fun n10 => ?_
      refine canon0 (F := fun _ j => ∑ s ∈ Finset.range (256 * (t.val + 1)), I.dgt s j) (R2.congr (dgh_val (H := fun s d => I.hd (256 * t.val + s) (9 * 128 + d)) (D := fun s d => I.dhn (256 * t.val + s) (9 * 128 + d)) (H.hdp 9 rfl _) (H.dnp 9 rfl _) (R2.ldc hp _)) fun _ j _ hj => (congrArg _ (Finset.sum_congr rfl fun s _ => I.dgt_hd hj)).trans (acc_rows t.val _)) fun n9 => ?_
      refine canon0 (F := fun _ j => ∑ s ∈ Finset.range (256 * (t.val + 1)), I.dgt s j) (R2.congr (dgh_val (H := fun s d => I.hd (256 * t.val + s) (8 * 128 + d)) (D := fun s d => I.dhn (256 * t.val + s) (8 * 128 + d)) (H.hdp 8 rfl _) (H.dnp 8 rfl _) (R2.ldc hp _)) fun _ j _ hj => (congrArg _ (Finset.sum_congr rfl fun s _ => I.dgt_hd hj)).trans (acc_rows t.val _)) fun n8 => ?_
      refine canon0 (F := fun _ j => ∑ s ∈ Finset.range (256 * (t.val + 1)), I.dgt s j) (R2.congr (dgh_val (H := fun s d => I.hd (256 * t.val + s) (7 * 128 + d)) (D := fun s d => I.dhn (256 * t.val + s) (7 * 128 + d)) (H.hdp 7 rfl _) (H.dnp 7 rfl _) (R2.ldc hp _)) fun _ j _ hj => (congrArg _ (Finset.sum_congr rfl fun s _ => I.dgt_hd hj)).trans (acc_rows t.val _)) fun n7 => ?_
      refine canon0 (F := fun _ j => ∑ s ∈ Finset.range (256 * (t.val + 1)), I.dgt s j) (R2.congr (dgh_val (H := fun s d => I.hd (256 * t.val + s) (6 * 128 + d)) (D := fun s d => I.dhn (256 * t.val + s) (6 * 128 + d)) (H.hdp 6 rfl _) (H.dnp 6 rfl _) (R2.ldc hp _)) fun _ j _ hj => (congrArg _ (Finset.sum_congr rfl fun s _ => I.dgt_hd hj)).trans (acc_rows t.val _)) fun n6 => ?_
      refine canon0 (F := fun _ j => ∑ s ∈ Finset.range (256 * (t.val + 1)), I.dgt s j) (R2.congr (dgh_val (H := fun s d => I.hd (256 * t.val + s) (5 * 128 + d)) (D := fun s d => I.dhn (256 * t.val + s) (5 * 128 + d)) (H.hdp 5 rfl _) (H.dnp 5 rfl _) (R2.ldc hp _)) fun _ j _ hj => (congrArg _ (Finset.sum_congr rfl fun s _ => I.dgt_hd hj)).trans (acc_rows t.val _)) fun n5 => ?_
      refine canon0 (F := fun _ j => ∑ s ∈ Finset.range (256 * (t.val + 1)), I.dgt s j) (R2.congr (dgh_val (H := fun s d => I.hd (256 * t.val + s) (4 * 128 + d)) (D := fun s d => I.dhn (256 * t.val + s) (4 * 128 + d)) (H.hdp 4 rfl _) (H.dnp 4 rfl _) (R2.ldc hp _)) fun _ j _ hj => (congrArg _ (Finset.sum_congr rfl fun s _ => I.dgt_hd hj)).trans (acc_rows t.val _)) fun n4 => ?_
      refine canon0 (F := fun _ j => ∑ s ∈ Finset.range (256 * (t.val + 1)), I.dgt s j) (R2.congr (dgh_val (H := fun s d => I.hd (256 * t.val + s) (3 * 128 + d)) (D := fun s d => I.dhn (256 * t.val + s) (3 * 128 + d)) (H.hdp 3 rfl _) (H.dnp 3 rfl _) (R2.ldc hp _)) fun _ j _ hj => (congrArg _ (Finset.sum_congr rfl fun s _ => I.dgt_hd hj)).trans (acc_rows t.val _)) fun n3 => ?_
      refine canon0 (F := fun _ j => ∑ s ∈ Finset.range (256 * (t.val + 1)), I.dgt s j) (R2.congr (dgh_val (H := fun s d => I.hd (256 * t.val + s) (2 * 128 + d)) (D := fun s d => I.dhn (256 * t.val + s) (2 * 128 + d)) (H.hdp 2 rfl _) (H.dnp 2 rfl _) (R2.ldc hp _)) fun _ j _ hj => (congrArg _ (Finset.sum_congr rfl fun s _ => I.dgt_hd hj)).trans (acc_rows t.val _)) fun n2 => ?_
      refine canon0 (F := fun _ j => ∑ s ∈ Finset.range (256 * (t.val + 1)), I.dgt s j) (R2.congr (dgh_val (H := fun s d => I.hd (256 * t.val + s) (1 * 128 + d)) (D := fun s d => I.dhn (256 * t.val + s) (1 * 128 + d)) (H.hdp 1 rfl _) (H.dnp 1 rfl _) (R2.ldc hp _)) fun _ j _ hj => (congrArg _ (Finset.sum_congr rfl fun s _ => I.dgt_hd hj)).trans (acc_rows t.val _)) fun n1 => ?_
      refine canon0 (F := fun _ j => ∑ s ∈ Finset.range (256 * (t.val + 1)), I.dgt s j) (R2.congr (dgh_val (H := fun s d => I.hd (256 * t.val + s) (0 * 128 + d)) (D := fun s d => I.dhn (256 * t.val + s) (0 * 128 + d)) (H.hdp 0 rfl _) (H.dnp 0 rfl _) (R2.ldc hp _)) fun _ j _ hj => (congrArg _ (Finset.sum_congr rfl fun s _ => I.dgt_hd hj)).trans (acc_rows t.val _)) fun n0 => ?_
      omega
    · have hp := ih (t.val - 1) (by omega) (by omega)
      rw [Nat.sub_add_cancel (by omega)] at hp
      rw [outsAt0_B m c t h]
      frame_out
      refine canon0 (F := fun _ j => ∑ s ∈ Finset.range (256 * (t.val + 1)), I.dgt s j) (R2.congr (dgh_val (H := fun s d => I.hd (256 * t.val + s) (15 * 128 + d)) (D := fun s d => I.dhn (256 * t.val + s) (15 * 128 + d)) (H.hdp 15 rfl _) (H.dnp 15 rfl _) (R2.ldc hp _)) fun _ j _ hj => (congrArg _ (Finset.sum_congr rfl fun s _ => I.dgt_hd hj)).trans (acc_rows t.val _)) fun n15 => ?_
      refine canon0 (F := fun _ j => ∑ s ∈ Finset.range (256 * (t.val + 1)), I.dgt s j) (R2.congr (dgh_val (H := fun s d => I.hd (256 * t.val + s) (14 * 128 + d)) (D := fun s d => I.dhn (256 * t.val + s) (14 * 128 + d)) (H.hdp 14 rfl _) (H.dnp 14 rfl _) (R2.ldc hp _)) fun _ j _ hj => (congrArg _ (Finset.sum_congr rfl fun s _ => I.dgt_hd hj)).trans (acc_rows t.val _)) fun n14 => ?_
      refine canon0 (F := fun _ j => ∑ s ∈ Finset.range (256 * (t.val + 1)), I.dgt s j) (R2.congr (dgh_val (H := fun s d => I.hd (256 * t.val + s) (13 * 128 + d)) (D := fun s d => I.dhn (256 * t.val + s) (13 * 128 + d)) (H.hdp 13 rfl _) (H.dnp 13 rfl _) (R2.ldc hp _)) fun _ j _ hj => (congrArg _ (Finset.sum_congr rfl fun s _ => I.dgt_hd hj)).trans (acc_rows t.val _)) fun n13 => ?_
      refine canon0 (F := fun _ j => ∑ s ∈ Finset.range (256 * (t.val + 1)), I.dgt s j) (R2.congr (dgh_val (H := fun s d => I.hd (256 * t.val + s) (12 * 128 + d)) (D := fun s d => I.dhn (256 * t.val + s) (12 * 128 + d)) (H.hdp 12 rfl _) (H.dnp 12 rfl _) (R2.ldc hp _)) fun _ j _ hj => (congrArg _ (Finset.sum_congr rfl fun s _ => I.dgt_hd hj)).trans (acc_rows t.val _)) fun n12 => ?_
      refine canon0 (F := fun _ j => ∑ s ∈ Finset.range (256 * (t.val + 1)), I.dgt s j) (R2.congr (dgh_val (H := fun s d => I.hd (256 * t.val + s) (11 * 128 + d)) (D := fun s d => I.dhn (256 * t.val + s) (11 * 128 + d)) (H.hdp 11 rfl _) (H.dnp 11 rfl _) (R2.ldc hp _)) fun _ j _ hj => (congrArg _ (Finset.sum_congr rfl fun s _ => I.dgt_hd hj)).trans (acc_rows t.val _)) fun n11 => ?_
      refine canon0 (F := fun _ j => ∑ s ∈ Finset.range (256 * (t.val + 1)), I.dgt s j) (R2.congr (dgh_val (H := fun s d => I.hd (256 * t.val + s) (10 * 128 + d)) (D := fun s d => I.dhn (256 * t.val + s) (10 * 128 + d)) (H.hdp 10 rfl _) (H.dnp 10 rfl _) (R2.ldc hp _)) fun _ j _ hj => (congrArg _ (Finset.sum_congr rfl fun s _ => I.dgt_hd hj)).trans (acc_rows t.val _)) fun n10 => ?_
      refine canon0 (F := fun _ j => ∑ s ∈ Finset.range (256 * (t.val + 1)), I.dgt s j) (R2.congr (dgh_val (H := fun s d => I.hd (256 * t.val + s) (9 * 128 + d)) (D := fun s d => I.dhn (256 * t.val + s) (9 * 128 + d)) (H.hdp 9 rfl _) (H.dnp 9 rfl _) (R2.ldc hp _)) fun _ j _ hj => (congrArg _ (Finset.sum_congr rfl fun s _ => I.dgt_hd hj)).trans (acc_rows t.val _)) fun n9 => ?_
      refine canon0 (F := fun _ j => ∑ s ∈ Finset.range (256 * (t.val + 1)), I.dgt s j) (R2.congr (dgh_val (H := fun s d => I.hd (256 * t.val + s) (8 * 128 + d)) (D := fun s d => I.dhn (256 * t.val + s) (8 * 128 + d)) (H.hdp 8 rfl _) (H.dnp 8 rfl _) (R2.ldc hp _)) fun _ j _ hj => (congrArg _ (Finset.sum_congr rfl fun s _ => I.dgt_hd hj)).trans (acc_rows t.val _)) fun n8 => ?_
      refine canon0 (F := fun _ j => ∑ s ∈ Finset.range (256 * (t.val + 1)), I.dgt s j) (R2.congr (dgh_val (H := fun s d => I.hd (256 * t.val + s) (7 * 128 + d)) (D := fun s d => I.dhn (256 * t.val + s) (7 * 128 + d)) (H.hdp 7 rfl _) (H.dnp 7 rfl _) (R2.ldc hp _)) fun _ j _ hj => (congrArg _ (Finset.sum_congr rfl fun s _ => I.dgt_hd hj)).trans (acc_rows t.val _)) fun n7 => ?_
      refine canon0 (F := fun _ j => ∑ s ∈ Finset.range (256 * (t.val + 1)), I.dgt s j) (R2.congr (dgh_val (H := fun s d => I.hd (256 * t.val + s) (6 * 128 + d)) (D := fun s d => I.dhn (256 * t.val + s) (6 * 128 + d)) (H.hdp 6 rfl _) (H.dnp 6 rfl _) (R2.ldc hp _)) fun _ j _ hj => (congrArg _ (Finset.sum_congr rfl fun s _ => I.dgt_hd hj)).trans (acc_rows t.val _)) fun n6 => ?_
      refine canon0 (F := fun _ j => ∑ s ∈ Finset.range (256 * (t.val + 1)), I.dgt s j) (R2.congr (dgh_val (H := fun s d => I.hd (256 * t.val + s) (5 * 128 + d)) (D := fun s d => I.dhn (256 * t.val + s) (5 * 128 + d)) (H.hdp 5 rfl _) (H.dnp 5 rfl _) (R2.ldc hp _)) fun _ j _ hj => (congrArg _ (Finset.sum_congr rfl fun s _ => I.dgt_hd hj)).trans (acc_rows t.val _)) fun n5 => ?_
      refine canon0 (F := fun _ j => ∑ s ∈ Finset.range (256 * (t.val + 1)), I.dgt s j) (R2.congr (dgh_val (H := fun s d => I.hd (256 * t.val + s) (4 * 128 + d)) (D := fun s d => I.dhn (256 * t.val + s) (4 * 128 + d)) (H.hdp 4 rfl _) (H.dnp 4 rfl _) (R2.ldc hp _)) fun _ j _ hj => (congrArg _ (Finset.sum_congr rfl fun s _ => I.dgt_hd hj)).trans (acc_rows t.val _)) fun n4 => ?_
      refine canon0 (F := fun _ j => ∑ s ∈ Finset.range (256 * (t.val + 1)), I.dgt s j) (R2.congr (dgh_val (H := fun s d => I.hd (256 * t.val + s) (3 * 128 + d)) (D := fun s d => I.dhn (256 * t.val + s) (3 * 128 + d)) (H.hdp 3 rfl _) (H.dnp 3 rfl _) (R2.ldc hp _)) fun _ j _ hj => (congrArg _ (Finset.sum_congr rfl fun s _ => I.dgt_hd hj)).trans (acc_rows t.val _)) fun n3 => ?_
      refine canon0 (F := fun _ j => ∑ s ∈ Finset.range (256 * (t.val + 1)), I.dgt s j) (R2.congr (dgh_val (H := fun s d => I.hd (256 * t.val + s) (2 * 128 + d)) (D := fun s d => I.dhn (256 * t.val + s) (2 * 128 + d)) (H.hdp 2 rfl _) (H.dnp 2 rfl _) (R2.ldc hp _)) fun _ j _ hj => (congrArg _ (Finset.sum_congr rfl fun s _ => I.dgt_hd hj)).trans (acc_rows t.val _)) fun n2 => ?_
      refine canon0 (F := fun _ j => ∑ s ∈ Finset.range (256 * (t.val + 1)), I.dgt s j) (R2.congr (dgh_val (H := fun s d => I.hd (256 * t.val + s) (1 * 128 + d)) (D := fun s d => I.dhn (256 * t.val + s) (1 * 128 + d)) (H.hdp 1 rfl _) (H.dnp 1 rfl _) (R2.ldc hp _)) fun _ j _ hj => (congrArg _ (Finset.sum_congr rfl fun s _ => I.dgt_hd hj)).trans (acc_rows t.val _)) fun n1 => ?_
      refine canon0 (F := fun _ j => ∑ s ∈ Finset.range (256 * (t.val + 1)), I.dgt s j) (R2.congr (dgh_val (H := fun s d => I.hd (256 * t.val + s) (0 * 128 + d)) (D := fun s d => I.dhn (256 * t.val + s) (0 * 128 + d)) (H.hdp 0 rfl _) (H.dnp 0 rfl _) (R2.ldc hp _)) fun _ j _ hj => (congrArg _ (Finset.sum_congr rfl fun s _ => I.dgt_hd hj)).trans (acc_rows t.val _)) fun n0 => ?_
      omega

set_option maxHeartbeats 4000000 in
/-- The gradient of the layer norm's gain after a grid point: the sum over the rows so far. -/
theorem dlng_acc (HT : ∀ t : Fin cfg0.N, Tile m I c t) (n : ℕ) (hn : n < cfg0.N) :
    R2 (n0 := 1) (n1 := 768) (outsAt0 m c n hn).2.2.2.2.1 fun _ j => ∑ s ∈ Finset.range (256 * (n + 1)), I.dvn s j * I.vhat s j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    by_cases h : t.val % 8 = 0
    · have h0 : t.val = 0 := by omega
      have hp : R2 (n0 := 1) (n1 := 768) (k0_pay4 (F := Ideal)) fun _ j => ∑ s ∈ Finset.range (256 * t.val), I.dvn s j * I.vhat s j :=
        R2.congr (R2.splat lit_0) fun _ _ _ _ => by rw [h0]; rfl
      rw [outsAt0_A m c t h]
      frame_out
      exact (R2.congr (dlng_val (T := 256 * t.val) (H.prp _) (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _) hp) fun _ j _ _ => acc_rows t.val fun s => I.dvn s j * I.vhat s j) y
    · have hp := ih (t.val - 1) (by omega) (by omega)
      rw [Nat.sub_add_cancel (by omega)] at hp
      rw [outsAt0_B m c t h]
      frame_out
      exact (R2.congr (dlng_val (T := 256 * t.val) (H.prp _) (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _) hp) fun _ j _ _ => acc_rows t.val fun s => I.dvn s j * I.vhat s j) y

set_option maxHeartbeats 4000000 in
/-- The gradient of the layer norm's bias after a grid point: the sum over the rows so far. -/
theorem dlnb_acc (HT : ∀ t : Fin cfg0.N, Tile m I c t) (n : ℕ) (hn : n < cfg0.N) :
    R2 (n0 := 1) (n1 := 768) (outsAt0 m c n hn).2.2.2.2.2.1 fun _ j => ∑ s ∈ Finset.range (256 * (n + 1)), I.dvn s j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    by_cases h : t.val % 8 = 0
    · have h0 : t.val = 0 := by omega
      have hp : R2 (n0 := 1) (n1 := 768) (k0_pay5 (F := Ideal)) fun _ j => ∑ s ∈ Finset.range (256 * t.val), I.dvn s j :=
        R2.congr (R2.splat lit_0) fun _ _ _ _ => by rw [h0]; rfl
      rw [outsAt0_A m c t h]
      frame_out
      exact (R2.congr (dlnb_val (T := 256 * t.val) (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _) hp) fun _ j _ _ => acc_rows t.val fun s => I.dvn s j) y
    · have hp := ih (t.val - 1) (by omega) (by omega)
      rw [Nat.sub_add_cancel (by omega)] at hp
      rw [outsAt0_B m c t h]
      frame_out
      exact (R2.congr (dlnb_val (T := 256 * t.val) (dvn_buf (F := fun s j => I.dvn (256 * t.val + s) j) _ (dvn0_val (H.da 0 rfl _ _ _) (H.ug 0 rfl _) (H.wm 0 _)) (dvn1_val (H.da 0 rfl _ _ _) (H.ug 0 rfl _) (H.wm 0 _)) (dvn0_val (H.da 1 rfl _ _ _) (H.ug 1 rfl _) (H.wm 1 _)) (dvn1_val (H.da 1 rfl _ _ _) (H.ug 1 rfl _) (H.wm 1 _)) (dvn0_val (H.da 2 rfl _ _ _) (H.ug 2 rfl _) (H.wm 2 _)) (dvn1_val (H.da 2 rfl _ _ _) (H.ug 2 rfl _) (H.wm 2 _)) (dvn0_val (H.da 3 rfl _ _ _) (H.ug 3 rfl _) (H.wm 3 _)) (dvn1_val (H.da 3 rfl _ _ _) (H.ug 3 rfl _) (H.wm 3 _)) (dvn0_val (H.da 4 rfl _ _ _) (H.ug 4 rfl _) (H.wm 4 _)) (dvn1_val (H.da 4 rfl _ _ _) (H.ug 4 rfl _) (H.wm 4 _)) (dvn0_val (H.da 5 rfl _ _ _) (H.ug 5 rfl _) (H.wm 5 _)) (dvn1_val (H.da 5 rfl _ _ _) (H.ug 5 rfl _) (H.wm 5 _)) _ _ _ _ _ _ _ _ _ _ _ _ _) hp) fun _ j _ _ => acc_rows t.val fun s => I.dvn s j) y

set_option maxHeartbeats 4000000 in
/-- The gradient of the gating matrices after a grid point: the sum over the chunks so far. -/
theorem dws_acc (HT : ∀ t : Fin cfg0.N, Tile m I c t) (n : ℕ) (hn : n < cfg0.N) :
    R3 (n0 := 6) (n1 := 128) (n2 := 128) (outsAt0 m c n hn).2.2.1 fun h r j => ∑ s ∈ Finset.range (2 * (n + 1)), I.dwt s h r j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    have hy0 : (y 0).val < 6 := (y 0).isLt
    have hy1 : (y 1).val < 128 := (y 1).isLt
    have hy2 : (y 2).val < 128 := (y 2).isLt
    by_cases h : t.val % 8 = 0
    · have h0 : t.val = 0 := by omega
      have hp : R3 (n0 := 6) (n1 := 128) (n2 := 128) (k0_pay2 (F := Ideal)) fun h r j => ∑ s ∈ Finset.range (2 * t.val), I.dwt s h r j :=
        R3.congr (R3.splat lit_0) fun _ _ _ _ _ _ => by rw [h0]; rfl
      rw [outsAt0_A m c t h]
      frame_out
      simp (disch := decide) only [↓View.readCov_skip, ↓View.readCov_fill]
      refine canon3 (F := fun h r j => ∑ s ∈ Finset.range (2 * (t.val + 1)), I.dwt s h r j) (R3.congr (dws_val (τ := t.val) (h := 5) (P := fun r j => ∑ s ∈ Finset.range (2 * t.val), I.dwt s 5 r j) (H.da 5 rfl _ _ _) (H.ug 5 rfl _) (vn0_val 5 rfl (H.vn _) slices_S256x768_o0_640_S128x128) (vn1_val 5 rfl (H.vn _) slices_S256x768_o128_640_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 5 s j) fun n5 => ?_
      refine canon3 (F := fun h r j => ∑ s ∈ Finset.range (2 * (t.val + 1)), I.dwt s h r j) (R3.congr (dws_val (τ := t.val) (h := 4) (P := fun r j => ∑ s ∈ Finset.range (2 * t.val), I.dwt s 4 r j) (H.da 4 rfl _ _ _) (H.ug 4 rfl _) (vn0_val 4 rfl (H.vn _) slices_S256x768_o0_512_S128x128) (vn1_val 4 rfl (H.vn _) slices_S256x768_o128_512_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 4 s j) fun n4 => ?_
      refine canon3 (F := fun h r j => ∑ s ∈ Finset.range (2 * (t.val + 1)), I.dwt s h r j) (R3.congr (dws_val (τ := t.val) (h := 3) (P := fun r j => ∑ s ∈ Finset.range (2 * t.val), I.dwt s 3 r j) (H.da 3 rfl _ _ _) (H.ug 3 rfl _) (vn0_val 3 rfl (H.vn _) slices_S256x768_o0_384_S128x128) (vn1_val 3 rfl (H.vn _) slices_S256x768_o128_384_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 3 s j) fun n3 => ?_
      refine canon3 (F := fun h r j => ∑ s ∈ Finset.range (2 * (t.val + 1)), I.dwt s h r j) (R3.congr (dws_val (τ := t.val) (h := 2) (P := fun r j => ∑ s ∈ Finset.range (2 * t.val), I.dwt s 2 r j) (H.da 2 rfl _ _ _) (H.ug 2 rfl _) (vn0_val 2 rfl (H.vn _) slices_S256x768_o0_256_S128x128) (vn1_val 2 rfl (H.vn _) slices_S256x768_o128_256_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 2 s j) fun n2 => ?_
      refine canon3 (F := fun h r j => ∑ s ∈ Finset.range (2 * (t.val + 1)), I.dwt s h r j) (R3.congr (dws_val (τ := t.val) (h := 1) (P := fun r j => ∑ s ∈ Finset.range (2 * t.val), I.dwt s 1 r j) (H.da 1 rfl _ _ _) (H.ug 1 rfl _) (vn0_val 1 rfl (H.vn _) slices_S256x768_o0_128_S128x128) (vn1_val 1 rfl (H.vn _) slices_S256x768_o128_128_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 1 s j) fun n1 => ?_
      refine canon3 (F := fun h r j => ∑ s ∈ Finset.range (2 * (t.val + 1)), I.dwt s h r j) (R3.congr (dws_val (τ := t.val) (h := 0) (P := fun r j => ∑ s ∈ Finset.range (2 * t.val), I.dwt s 0 r j) (H.da 0 rfl _ _ _) (H.ug 0 rfl _) (vn0_val 0 rfl (H.vn _) slices_S256x768_o0_0_S128x128) (vn1_val 0 rfl (H.vn _) slices_S256x768_o128_0_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 0 s j) fun n0 => ?_
      omega
    · have hp := ih (t.val - 1) (by omega) (by omega)
      rw [Nat.sub_add_cancel (by omega)] at hp
      rw [outsAt0_B m c t h]
      frame_out
      refine canon3 (F := fun h r j => ∑ s ∈ Finset.range (2 * (t.val + 1)), I.dwt s h r j) (R3.congr (dws_val (τ := t.val) (h := 5) (P := fun r j => ∑ s ∈ Finset.range (2 * t.val), I.dwt s 5 r j) (H.da 5 rfl _ _ _) (H.ug 5 rfl _) (vn0_val 5 rfl (H.vn _) slices_S256x768_o0_640_S128x128) (vn1_val 5 rfl (H.vn _) slices_S256x768_o128_640_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 5 s j) fun n5 => ?_
      refine canon3 (F := fun h r j => ∑ s ∈ Finset.range (2 * (t.val + 1)), I.dwt s h r j) (R3.congr (dws_val (τ := t.val) (h := 4) (P := fun r j => ∑ s ∈ Finset.range (2 * t.val), I.dwt s 4 r j) (H.da 4 rfl _ _ _) (H.ug 4 rfl _) (vn0_val 4 rfl (H.vn _) slices_S256x768_o0_512_S128x128) (vn1_val 4 rfl (H.vn _) slices_S256x768_o128_512_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 4 s j) fun n4 => ?_
      refine canon3 (F := fun h r j => ∑ s ∈ Finset.range (2 * (t.val + 1)), I.dwt s h r j) (R3.congr (dws_val (τ := t.val) (h := 3) (P := fun r j => ∑ s ∈ Finset.range (2 * t.val), I.dwt s 3 r j) (H.da 3 rfl _ _ _) (H.ug 3 rfl _) (vn0_val 3 rfl (H.vn _) slices_S256x768_o0_384_S128x128) (vn1_val 3 rfl (H.vn _) slices_S256x768_o128_384_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 3 s j) fun n3 => ?_
      refine canon3 (F := fun h r j => ∑ s ∈ Finset.range (2 * (t.val + 1)), I.dwt s h r j) (R3.congr (dws_val (τ := t.val) (h := 2) (P := fun r j => ∑ s ∈ Finset.range (2 * t.val), I.dwt s 2 r j) (H.da 2 rfl _ _ _) (H.ug 2 rfl _) (vn0_val 2 rfl (H.vn _) slices_S256x768_o0_256_S128x128) (vn1_val 2 rfl (H.vn _) slices_S256x768_o128_256_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 2 s j) fun n2 => ?_
      refine canon3 (F := fun h r j => ∑ s ∈ Finset.range (2 * (t.val + 1)), I.dwt s h r j) (R3.congr (dws_val (τ := t.val) (h := 1) (P := fun r j => ∑ s ∈ Finset.range (2 * t.val), I.dwt s 1 r j) (H.da 1 rfl _ _ _) (H.ug 1 rfl _) (vn0_val 1 rfl (H.vn _) slices_S256x768_o0_128_S128x128) (vn1_val 1 rfl (H.vn _) slices_S256x768_o128_128_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 1 s j) fun n1 => ?_
      refine canon3 (F := fun h r j => ∑ s ∈ Finset.range (2 * (t.val + 1)), I.dwt s h r j) (R3.congr (dws_val (τ := t.val) (h := 0) (P := fun r j => ∑ s ∈ Finset.range (2 * t.val), I.dwt s 0 r j) (H.da 0 rfl _ _ _) (H.ug 0 rfl _) (vn0_val 0 rfl (H.vn _) slices_S256x768_o0_0_S128x128) (vn1_val 0 rfl (H.vn _) slices_S256x768_o128_0_S128x128) (R3.congr (R3.ld hp _) fun _ r j _ _ _ => by rw [Nat.zero_add, Nat.zero_add]) shapeCasts_S1x128x128_S128x128 shapeCasts_S128x128_S1x128x128) fun r s j hr _ _ => by
        have : r = 0 := by omega
        subst this
        simp only [I.dwt_two, Nat.zero_add, Nat.add_zero]
        exact acc_chunks t.val fun k => I.dwt k 0 s j) fun n0 => ?_
      omega

set_option maxHeartbeats 4000000 in
/-- The gradient of the gating biases after a grid point, in each of eight rows: the sum over the chunks so far. -/
theorem dbs_acc (HT : ∀ t : Fin cfg0.N, Tile m I c t) (n : ℕ) (hn : n < cfg0.N) :
    R3 (n0 := 6) (n1 := 8) (n2 := 128) (outsAt0 m c n hn).2.2.2.1 fun h _ j => ∑ s ∈ Finset.range (2 * (n + 1)), I.dbt s h j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    have hy0 : (y 0).val < 6 := (y 0).isLt
    have hy1 : (y 1).val < 8 := (y 1).isLt
    have hy2 : (y 2).val < 128 := (y 2).isLt
    by_cases h : t.val % 8 = 0
    · have h0 : t.val = 0 := by omega
      have hp : R3 (n0 := 6) (n1 := 8) (n2 := 128) (k0_pay3 (F := Ideal)) fun h _ j => ∑ s ∈ Finset.range (2 * t.val), I.dbt s h j :=
        R3.congr (R3.splat lit_0) fun _ _ _ _ _ _ => by rw [h0]; rfl
      rw [outsAt0_A m c t h]
      frame_out
      simp (disch := decide) only [↓View.readCov_skip, ↓View.readCov_fill]
      refine canon3 (F := fun h _ j => ∑ s ∈ Finset.range (2 * (t.val + 1)), I.dbt s h j) (R3.congr (dbs_val (τ := t.val) (h := 5) (P := fun _ j => ∑ s ∈ Finset.range (2 * t.val), I.dbt s 5 j) (H.da 5 rfl _ _ _) (H.ug 5 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 5 j) fun n5 => ?_
      refine canon3 (F := fun h _ j => ∑ s ∈ Finset.range (2 * (t.val + 1)), I.dbt s h j) (R3.congr (dbs_val (τ := t.val) (h := 4) (P := fun _ j => ∑ s ∈ Finset.range (2 * t.val), I.dbt s 4 j) (H.da 4 rfl _ _ _) (H.ug 4 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 4 j) fun n4 => ?_
      refine canon3 (F := fun h _ j => ∑ s ∈ Finset.range (2 * (t.val + 1)), I.dbt s h j) (R3.congr (dbs_val (τ := t.val) (h := 3) (P := fun _ j => ∑ s ∈ Finset.range (2 * t.val), I.dbt s 3 j) (H.da 3 rfl _ _ _) (H.ug 3 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 3 j) fun n3 => ?_
      refine canon3 (F := fun h _ j => ∑ s ∈ Finset.range (2 * (t.val + 1)), I.dbt s h j) (R3.congr (dbs_val (τ := t.val) (h := 2) (P := fun _ j => ∑ s ∈ Finset.range (2 * t.val), I.dbt s 2 j) (H.da 2 rfl _ _ _) (H.ug 2 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 2 j) fun n2 => ?_
      refine canon3 (F := fun h _ j => ∑ s ∈ Finset.range (2 * (t.val + 1)), I.dbt s h j) (R3.congr (dbs_val (τ := t.val) (h := 1) (P := fun _ j => ∑ s ∈ Finset.range (2 * t.val), I.dbt s 1 j) (H.da 1 rfl _ _ _) (H.ug 1 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 1 j) fun n1 => ?_
      refine canon3 (F := fun h _ j => ∑ s ∈ Finset.range (2 * (t.val + 1)), I.dbt s h j) (R3.congr (dbs_val (τ := t.val) (h := 0) (P := fun _ j => ∑ s ∈ Finset.range (2 * t.val), I.dbt s 0 j) (H.da 0 rfl _ _ _) (H.ug 0 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 0 j) fun n0 => ?_
      omega
    · have hp := ih (t.val - 1) (by omega) (by omega)
      rw [Nat.sub_add_cancel (by omega)] at hp
      rw [outsAt0_B m c t h]
      frame_out
      refine canon3 (F := fun h _ j => ∑ s ∈ Finset.range (2 * (t.val + 1)), I.dbt s h j) (R3.congr (dbs_val (τ := t.val) (h := 5) (P := fun _ j => ∑ s ∈ Finset.range (2 * t.val), I.dbt s 5 j) (H.da 5 rfl _ _ _) (H.ug 5 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 5 j) fun n5 => ?_
      refine canon3 (F := fun h _ j => ∑ s ∈ Finset.range (2 * (t.val + 1)), I.dbt s h j) (R3.congr (dbs_val (τ := t.val) (h := 4) (P := fun _ j => ∑ s ∈ Finset.range (2 * t.val), I.dbt s 4 j) (H.da 4 rfl _ _ _) (H.ug 4 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 4 j) fun n4 => ?_
      refine canon3 (F := fun h _ j => ∑ s ∈ Finset.range (2 * (t.val + 1)), I.dbt s h j) (R3.congr (dbs_val (τ := t.val) (h := 3) (P := fun _ j => ∑ s ∈ Finset.range (2 * t.val), I.dbt s 3 j) (H.da 3 rfl _ _ _) (H.ug 3 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 3 j) fun n3 => ?_
      refine canon3 (F := fun h _ j => ∑ s ∈ Finset.range (2 * (t.val + 1)), I.dbt s h j) (R3.congr (dbs_val (τ := t.val) (h := 2) (P := fun _ j => ∑ s ∈ Finset.range (2 * t.val), I.dbt s 2 j) (H.da 2 rfl _ _ _) (H.ug 2 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 2 j) fun n2 => ?_
      refine canon3 (F := fun h _ j => ∑ s ∈ Finset.range (2 * (t.val + 1)), I.dbt s h j) (R3.congr (dbs_val (τ := t.val) (h := 1) (P := fun _ j => ∑ s ∈ Finset.range (2 * t.val), I.dbt s 1 j) (H.da 1 rfl _ _ _) (H.ug 1 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 1 j) fun n1 => ?_
      refine canon3 (F := fun h _ j => ∑ s ∈ Finset.range (2 * (t.val + 1)), I.dbt s h j) (R3.congr (dbs_val (τ := t.val) (h := 0) (P := fun _ j => ∑ s ∈ Finset.range (2 * t.val), I.dbt s 0 j) (H.da 0 rfl _ _ _) (H.ug 0 rfl _) (R3.congr (R3.ld hp _) fun _ r j _ _ _ => by rw [Nat.zero_add])) fun r s j hr _ _ => by
        have : r = 0 := by omega
        subst this
        simp only [I.dbt_two, Nat.zero_add, Nat.add_zero]
        exact acc_chunks t.val fun k => I.dbt k 0 j) fun n0 => ?_
      omega

set_option maxHeartbeats 4000000 in
/-- The gradient of the convolution's taps after a grid point: the sum over the rows so far. -/
theorem dcw_acc (HT : ∀ t : Fin cfg0.N, Tile m I c t) (n : ℕ) (hn : n < cfg0.N) :
    R2 (n0 := 8) (n1 := 768) (outsAt0 m c n hn).2.2.2.2.2.2.1 fun r j => ∑ s ∈ Finset.range (256 * (n + 1)), I.dct s r j := by
  induction n using Nat.strong_induction_on with
  | _ n ih =>
    obtain ⟨t, rfl⟩ : ∃ t : Fin cfg0.N, t.val = n := ⟨⟨n, hn⟩, rfl⟩
    have H := HT t
    have ht : t.val < 8 := lt_of_lt_of_eq t.isLt N_0
    intro y
    have hy : (y 1).val < 768 := (y 1).isLt
    have hy0 : (y 0).val < 8 := (y 0).isLt
    by_cases h : t.val % 8 = 0
    · have h0 : t.val = 0 := by omega
      have hp : R2 (n0 := 8) (n1 := 768) (k0_pay6 (F := Ideal)) fun r j => ∑ s ∈ Finset.range (256 * t.val), I.dct s r j :=
        R2.congr (R2.splat lit_0) fun _ _ _ _ => by rw [h0]; rfl
      rw [outsAt0_A m c t h]
      frame_out
      simp (disch := decide) only [↓View.readCov_skip, ↓View.readCov_fill]
      refine canon2 (F := fun r j => ∑ s ∈ Finset.range (256 * (t.val + 1)), I.dct s r j) (R2.congr (dcw_val (T := 256 * t.val) (D := fun i j => I.dy (256 * t.val + i) j) (P := fun _ j => ∑ s ∈ Finset.range (256 * t.val), I.dct s 2 j) (R2.congr (R2.ld hp _) fun s j hs _ => by
          have : s = 0 := by omega
          subst this
          simp only [Nat.add_zero, Nat.zero_add]) (dy_val H.tlt (H.dhc _ _ _ _ _ _ _ _ _ _ _ _ _ _ _ _ _ _ concatenates_S256x128_S256x128_S256x128_S256x128_S256x128_S256x128_S256x768_d1) (H.prp _)) (H.prp _) (H.prp _)) fun s j hs _ => by
        have : s = 0 := by omega
        subst this
        simp only [Nat.add_zero, Nat.zero_add]
        exact (acc_rows t.val fun s => I.dct s 2 j)) fun n2 => ?_
      refine canon2 (F := fun r j => ∑ s ∈ Finset.range (256 * (t.val + 1)), I.dct s r j) (R2.congr (dcw_val (T := 256 * t.val) (D := fun i j => I.dy (256 * t.val + i + 1) j) (P := fun _ j => ∑ s ∈ Finset.range (256 * t.val), I.dct s 1 j) (R2.congr (R2.ld hp _) fun s j hs _ => by
          have : s = 0 := by omega
          subst this
          simp only [Nat.add_zero, Nat.zero_add]) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.prp _) (H.prp _)) fun s j hs _ => by
        have : s = 0 := by omega
        subst this
        simp only [Nat.add_zero, Nat.zero_add]
        exact (acc_rows t.val fun s => I.dct s 1 j)) fun n1 => ?_
      refine canon2 (F := fun r j => ∑ s ∈ Finset.range (256 * (t.val + 1)), I.dct s r j) (R2.congr (dcw_val (T := 256 * t.val) (D := fun i j => I.dy (256 * t.val + i + 2) j) (P := fun _ j => ∑ s ∈ Finset.range (256 * t.val), I.dct s 0 j) (R2.congr (R2.ld hp _) fun s j hs _ => by
          have : s = 0 := by omega
          subst this
          simp only [Nat.add_zero, Nat.zero_add]) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.prp _) (H.prp _)) fun s j hs _ => by
        have : s = 0 := by omega
        subst this
        simp only [Nat.add_zero, Nat.zero_add]
        exact (acc_rows t.val fun s => I.dct s 0 j)) fun n0 => ?_
      have h3 : 3 ≤ (y 0).val := by omega
      have hz : ∀ k, ∑ s ∈ Finset.range (256 * k), I.dct s (y 0).val (y 1).val = 0 := fun k => Finset.sum_eq_zero fun s _ => if_neg (by omega)
      rw [hz]
      exact canon_step (fun _ _ => lit_0) fun h => absurd (Fin.forall_fin_two.mpr ⟨⟨Nat.zero_le _, by simpa using hy0⟩, Nat.zero_le _, by simpa using hy⟩) h
    · have hp := ih (t.val - 1) (by omega) (by omega)
      rw [Nat.sub_add_cancel (by omega)] at hp
      rw [outsAt0_B m c t h]
      frame_out
      refine writes2 (F := fun r j => ∑ s ∈ Finset.range (256 * (t.val + 1)), I.dct s r j) _ (R2.congr (dcw_val (T := 256 * t.val) (D := fun i j => I.dy (256 * t.val + i) j) (P := fun _ j => ∑ s ∈ Finset.range (256 * t.val), I.dct s 2 j) (R2.congr (R2.ld hp _) fun s j hs _ => by
          have : s = 0 := by omega
          subst this
          simp only [Nat.add_zero, Nat.zero_add]) (dy_val H.tlt (H.dhc _ _ _ _ _ _ _ _ _ _ _ _ _ _ _ _ _ _ concatenates_S256x128_S256x128_S256x128_S256x128_S256x128_S256x128_S256x768_d1) (H.prp _)) (H.prp _) (H.prp _)) fun s j hs _ => by
        have : s = 0 := by omega
        subst this
        simp only [Nat.add_zero, Nat.zero_add]
        exact (acc_rows t.val fun s => I.dct s 2 j)) fun n2 => ?_
      refine writes2 (F := fun r j => ∑ s ∈ Finset.range (256 * (t.val + 1)), I.dct s r j) _ (R2.congr (dcw_val (T := 256 * t.val) (D := fun i j => I.dy (256 * t.val + i + 1) j) (P := fun _ j => ∑ s ∈ Finset.range (256 * t.val), I.dct s 1 j) (R2.congr (R2.ld hp _) fun s j hs _ => by
          have : s = 0 := by omega
          subst this
          simp only [Nat.add_zero, Nat.zero_add]) (dy_buf (T := 256 * t.val) (a := 1) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.prp _) (H.prp _)) fun s j hs _ => by
        have : s = 0 := by omega
        subst this
        simp only [Nat.add_zero, Nat.zero_add]
        exact (acc_rows t.val fun s => I.dct s 1 j)) fun n1 => ?_
      refine writes2 (F := fun r j => ∑ s ∈ Finset.range (256 * (t.val + 1)), I.dct s r j) _ (R2.congr (dcw_val (T := 256 * t.val) (D := fun i j => I.dy (256 * t.val + i + 2) j) (P := fun _ j => ∑ s ∈ Finset.range (256 * t.val), I.dct s 0 j) (R2.congr (R2.ld hp _) fun s j hs _ => by
          have : s = 0 := by omega
          subst this
          simp only [Nat.add_zero, Nat.zero_add]) (dy_buf (T := 256 * t.val) (a := 2) (by decide) _ (H.dynx (H.dhx _ _ _ _ _ _ _ _ _ _ _ _ _ _ _ _ _ _ concatenates_S8x128_S8x128_S8x128_S8x128_S8x128_S8x128_S8x768_d1)) (R2.cast (dy_val H.tlt (H.dhc _ _ _ _ _ _ _ _ _ _ _ _ _ _ _ _ _ _ concatenates_S256x128_S256x128_S256x128_S256x128_S256x128_S256x128_S256x768_d1) (H.prp _)) shapeCasts_S256x768_S256x768) _ _ _) (H.prp _) (H.prp _)) fun s j hs _ => by
        have : s = 0 := by omega
        subst this
        simp only [Nat.add_zero, Nat.zero_add]
        exact (acc_rows t.val fun s => I.dct s 0 j)) fun n0 => ?_
      have h3 : 3 ≤ (y 0).val := by omega
      have hz : ∀ k, ∑ s ∈ Finset.range (256 * k), I.dct s (y 0).val (y 1).val = 0 := fun k => Finset.sum_eq_zero fun s _ => if_neg (by omega)
      rw [hz]
      refine (congrFun (Memref.IsWhole.read_unread _ _) y).trans ?_
      exact (hp y).trans (congrArg Real.toEReal (hz _))

end Cert.Mix

end
-- ==== Proof.KerOut.lean ====
/- What the kernel leaves in its eight result arrays, as real numbers. -/
module

public import proofs.«01_k».proof.Proof.KerIn
public import proofs.«01_k».proof.Proof.KerProj
public import proofs.«01_k».proof.Proof.KerKv
public import proofs.«01_k».proof.Proof.KerAcc

@[expose] public section

set_option maxRecDepth 16384

noncomputable section

namespace Cert.Mix

open Cert.KernelIdeal Cert.KernelIdeal.Gen Idealize.ShloMosaic Idealize.ShloMosaic.TcCoe Idealize.SL.Sem

variable {m : (ℓ : Loc nD τ sig) → Buf (Elt Ideal) ℓ} {I : In} {c : Dev nD}

/-- The last grid point is the eighth. -/
theorem last_val : (t0_7 : Fin cfg0.N).val = 7 := rfl

/-- Where the tiles of the projection's gradient lie. -/
theorem idx_out : ∀ t : Fin cfg0.N, win0_14.index t = ![t.val, 0] :=
  (by decide +kernel : ∀ t : Fin grid0.N, _)

/-- The keys' and values' gradient is the sum of its rows' shares. -/
theorem kvt_sum (i j : ℕ) : (∑ s ∈ Finset.range 2048, I.kvt s i j) = I.dkv i j := by
  rw [Finset.sum_range]
  unfold In.kvt In.dkv In.dk In.dvv
  by_cases h : j < 512 <;> simp only [h, if_true, if_false]

/-- The head gains' gradient is the sum of its rows' shares. -/
theorem dgt_sum (j : ℕ) : (∑ s ∈ Finset.range 2048, I.dgt s j) = I.dgh j := Finset.sum_range _

/-- The gradient of the norm's scale is the sum of its rows' shares. -/
theorem dlng_sum (j : ℕ) : (∑ s ∈ Finset.range 2048, I.dvn s j * I.vhat s j) = I.dlng j := Finset.sum_range _

/-- The gradient of the norm's shift is the sum of its rows' shares. -/
theorem dlnb_sum (j : ℕ) : (∑ s ∈ Finset.range 2048, I.dvn s j) = I.dlnb j := Finset.sum_range _

/-- The gradient of the gate's weights is the sum of its chunks' shares. -/
theorem dwt_sum (h r j : ℕ) : (∑ s ∈ Finset.range 16, I.dwt s h r j) = I.dws h r j := by
  rw [Finset.sum_range]
  unfold In.dwt In.dws
  by_cases e : j ≤ r <;> simp only [e, if_true, if_false, Finset.sum_const_zero]

/-- The gradient of the gate's bias is the sum of its chunks' shares. -/
theorem dbt_sum (h j : ℕ) : (∑ s ∈ Finset.range 16, I.dbt s h j) = I.dbs h j := Finset.sum_range _

/-- The gradient of the convolution's weights is the sum of its rows' shares. -/
theorem dct_sum (r j : ℕ) : (∑ s ∈ Finset.range 2048, I.dct s r j) = I.dcw r j := by
  rw [Finset.sum_range]
  unfold In.dct In.dcw
  by_cases e : r < 3 <;> simp only [e, if_true, if_false, Finset.sum_const_zero]

variable (H : ∀ t : Fin cfg0.N, Tile m I c t)
include H

/-- The projection's gradient. -/
theorem out_proj : R2 (n0 := 2048) (n1 := 4352) ((dats m 0 c).arrAt 14 cfg0.N) I.dproj := by
  refine fun i => congrFun ((dats m 0 c).arrAt_eq_of_covers 14 (fun i => ((I.dproj (i 0).val (i 1).val : ℝ) : EReal)) (by decide +kernel) fun t _ y => ?_) i
  have e0 : ((win0_14.blk t).view.emb y 0 : ℕ) = 256 * t.val + (y 0).val := by blk_simp [idx_out t]; omega
  have e1 : ((win0_14.blk t).view.emb y 1 : ℕ) = (y 1).val := by blk_simp [idx_out t]; try omega
  refine Eq.trans ?_ (congrArg₂ (fun a b => ((I.dproj a b : ℝ) : EReal)) e0 e1).symm
  blk_simp
  rw [after0_14]
  exact dproj_tile (H t) y

/-- The keys' and values' gradient. -/
theorem out_kv : R2 (n0 := 256) (n1 := 1024) ((dats m 0 c).arrAt 15 cfg0.N) (fun i j => I.dkv i j) := by
  refine fun i => congrFun ((dats m 0 c).arrAt_eq_of_after_last 15 t0_7 (by decide +kernel) (fun i => (((fun i j => I.dkv i j) (i 0).val (i 1).val : ℝ) : EReal)) fun y => ?_) i
  blk_simp
  rw [after0_15]
  refine (dkv_acc H t0_7.val t0_7.isLt _).trans (congrArg Real.toEReal ?_)
  simp only [last_val]
  exact kvt_sum (y 0).val (y 1).val

/-- The gate weights' gradient. -/
theorem out_ws : R3 (n0 := 6) (n1 := 128) (n2 := 128) ((dats m 0 c).arrAt 16 cfg0.N) (fun h r j => I.dws h r j) := by
  refine fun i => congrFun ((dats m 0 c).arrAt_eq_of_after_last 16 t0_7 (by decide +kernel) (fun i => (((fun h r j => I.dws h r j) (i 0).val (i 1).val (i 2).val : ℝ) : EReal)) fun y => ?_) i
  blk_simp
  rw [after0_16]
  refine (dws_acc H t0_7.val t0_7.isLt _).trans (congrArg Real.toEReal ?_)
  simp only [last_val]
  exact dwt_sum (y 0).val (y 1).val (y 2).val

/-- The gate bias's gradient. -/
theorem out_bs : R3 (n0 := 6) (n1 := 8) (n2 := 128) ((dats m 0 c).arrAt 17 cfg0.N) (fun h _ j => I.dbs h j) := by
  refine fun i => congrFun ((dats m 0 c).arrAt_eq_of_after_last 17 t0_7 (by decide +kernel) (fun i => (((fun h _ j => I.dbs h j) (i 0).val (i 1).val (i 2).val : ℝ) : EReal)) fun y => ?_) i
  blk_simp
  rw [after0_17]
  refine (dbs_acc H t0_7.val t0_7.isLt _).trans (congrArg Real.toEReal ?_)
  simp only [last_val]
  exact dbt_sum (y 0).val (y 2).val

/-- The norm scale's gradient. -/
theorem out_lng : R2 (n0 := 1) (n1 := 768) ((dats m 0 c).arrAt 18 cfg0.N) (fun _ j => I.dlng j) := by
  refine fun i => congrFun ((dats m 0 c).arrAt_eq_of_after_last 18 t0_7 (by decide +kernel) (fun i => (((fun _ j => I.dlng j) (i 0).val (i 1).val : ℝ) : EReal)) fun y => ?_) i
  blk_simp
  rw [after0_18]
  refine (dlng_acc H t0_7.val t0_7.isLt _).trans (congrArg Real.toEReal ?_)
  simp only [last_val]
  exact dlng_sum (y 1).val

/-- The norm shift's gradient. -/
theorem out_lnb : R2 (n0 := 1) (n1 := 768) ((dats m 0 c).arrAt 19 cfg0.N) (fun _ j => I.dlnb j) := by
  refine fun i => congrFun ((dats m 0 c).arrAt_eq_of_after_last 19 t0_7 (by decide +kernel) (fun i => (((fun _ j => I.dlnb j) (i 0).val (i 1).val : ℝ) : EReal)) fun y => ?_) i
  blk_simp
  rw [after0_19]
  refine (dlnb_acc H t0_7.val t0_7.isLt _).trans (congrArg Real.toEReal ?_)
  simp only [last_val]
  exact dlnb_sum (y 1).val

/-- The convolution weights' gradient. -/
theorem out_cw : R2 (n0 := 8) (n1 := 768) ((dats m 0 c).arrAt 20 cfg0.N) (fun r j => I.dcw r j) := by
  refine fun i => congrFun ((dats m 0 c).arrAt_eq_of_after_last 20 t0_7 (by decide +kernel) (fun i => (((fun r j => I.dcw r j) (i 0).val (i 1).val : ℝ) : EReal)) fun y => ?_) i
  blk_simp
  rw [after0_20]
  refine (dcw_acc H t0_7.val t0_7.isLt _).trans (congrArg Real.toEReal ?_)
  simp only [last_val]
  exact dct_sum (y 0).val (y 1).val

/-- The head gains' gradient. -/
theorem out_gh : R2 (n0 := 1) (n1 := 2048) ((dats m 0 c).arrAt 21 cfg0.N) (fun _ j => I.dgh j) := by
  refine fun i => congrFun ((dats m 0 c).arrAt_eq_of_after_last 21 t0_7 (by decide +kernel) (fun i => (((fun _ j => I.dgh j) (i 0).val (i 1).val : ℝ) : EReal)) fun y => ?_) i
  blk_simp
  rw [after0_21]
  refine (dgh_acc H t0_7.val t0_7.isLt _).trans (congrArg Real.toEReal ?_)
  simp only [last_val]
  exact dgt_sum (y 1).val

end Cert.Mix
end
-- ==== Proof.Equal.lean ====
/- The kernel and the reference leave the same numbers. -/
module

public import proofs.«01_k».proof.Defs
public import proofs.«01_k».proof.Proof.Gen.ReferenceIdeal.Run
public import proofs.«01_k».proof.Proof.Finite
public import proofs.«01_k».proof.Proof.RefBwd
public import proofs.«01_k».proof.Proof.KerOut

@[expose] public section

set_option maxRecDepth 16384

noncomputable section

namespace Cert.Mix

open Cert.KernelIdeal Cert.KernelIdeal.Gen Idealize.ShloMosaic Idealize.ShloMosaic.TcCoe Idealize.SL.Sem

variable {I : In} {x0 y0 : (⟨S2048x2048, .f32⟩ : BufTy).Contents (Elt Ideal)} {x1 y1 : (⟨S2048x4352, .f32⟩ : BufTy).Contents (Elt Ideal)}
  {x2 y2 : (⟨S256x1024, .f32⟩ : BufTy).Contents (Elt Ideal)} {x3 y3 : (⟨S6x128x128, .f32⟩ : BufTy).Contents (Elt Ideal)}
  {x4 y4 : (⟨S6x128, .f32⟩ : BufTy).Contents (Elt Ideal)} {x5 x6 y5 y6 : (⟨S1x768, .f32⟩ : BufTy).Contents (Elt Ideal)}
  {x7 y7 : (⟨S3x768, .f32⟩ : BufTy).Contents (Elt Ideal)} {x8 y8 : (⟨S1x2048, .f32⟩ : BufTy).Contents (Elt Ideal)}

/-- Equal arrays hold the same real numbers. -/
theorem Holds.of_eq (H : Holds I x0 x1 x2 x3 x4 x5 x6 x7 x8) (e0 : y0 = x0) (e1 : y1 = x1) (e2 : y2 = x2) (e3 : y3 = x3)
    (e4 : y4 = x4) (e5 : y5 = x5) (e6 : y6 = x6) (e7 : y7 = x7) (e8 : y8 = x8) : Holds I y0 y1 y2 y3 y4 y5 y6 y7 y8 := by
  subst e0 e1 e2 e3 e4 e5 e6 e7 e8
  exact H

/-- Two matrices that hold the same real numbers are equal. -/
theorem R2.eq {a b : ℕ} {x y : (⟨2, ![a, b]⟩ : Shape).Idx → EReal} {f : ℕ → ℕ → ℝ} (hx : R2 x f) (hy : R2 y f) : x = y :=
  funext fun i => (hx i).trans (hy i).symm

/-- Two stacks that hold the same real numbers are equal. -/
theorem R3.eq {a b d : ℕ} {x y : (⟨3, ![a, b, d]⟩ : Shape).Idx → EReal} {f : ℕ → ℕ → ℕ → ℝ} (hx : R3 x f) (hy : R3 y f) : x = y :=
  funext fun i => (hx i).trans (hy i).symm

set_option maxHeartbeats 2000000 in
/-- Over the reals, from arguments that are finite, the kernel's run and the reference's run end with the same eight
    gradients: of the projection, of the keys and values, of the gate's weights and bias, of the norm's scale and shift, of
    the convolution's weights and of the head gains. -/
theorem algebraic : @Cert.algebraic_KernelIdeal_ReferenceIdeal_pre_finite Cert.KernelIdeal.Gen.facts Cert.ReferenceIdeal.Gen.facts
    Cert.Pre_finite.Gen.facts := by
  intro m g m' g' hpre hag
  refine ⟨fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, fun c => (dats m 0 c).arrAt 19 cfg0.N,
    fun c => (dats m 0 c).arrAt 20 cfg0.N, fun c => (dats m 0 c).arrAt 21 cfg0.N, Cert.KernelIdeal.Value.run_blocks m g, ?_⟩
  refine (θ_run Cert.ReferenceIdeal.defs _ _).mono (fun r h c => ?_) (Cert.ReferenceIdeal.Value.run m' g')
  obtain ⟨r0, r1, r2, r3, r4, r5, r6, r7, hargs⟩ := h c
  obtain ⟨a0, a1, a2, a3, a4, a5, a6, a7, a8⟩ := hag c
  have H := holds m hpre c
  have H' := Holds.of_eq H a0 a1 a2 a3 a4 a5 a6 a7 a8
  have T : ∀ t : Fin cfg0.N, Tile m (In.ofMem m c) c t := fun t => tile H t
  refine ⟨?_, ?_, ?_, ?_, ?_, ?_, ?_, ?_, hargs⟩
  · exact (r0.trans (Cert.ReferenceIdeal.Read.val_main_v319_eq _)).trans (R2.eq (r_v319 H') (out_proj T))
  · exact (r1.trans (Cert.ReferenceIdeal.Read.val_main_v214_eq _)).trans (R2.eq (r_v214 H') (out_kv T))
  · exact (r2.trans (Cert.ReferenceIdeal.Read.val_main_v259_eq _)).trans (R3.eq (r_v259 H') (out_ws T))
  · exact (r3.trans (Cert.ReferenceIdeal.Read.val_main_v316_eq _)).trans (R3.eq (r_v316 H') (out_bs T))
  · exact (r4.trans (Cert.ReferenceIdeal.Read.val_main_v265_eq _)).trans (R2.eq (r_v265 H') (out_lng T))
  · exact (r5.trans (Cert.ReferenceIdeal.Read.val_main_v262_eq _)).trans (R2.eq (r_v262 H') (out_lnb T))
  · exact (r6.trans (Cert.ReferenceIdeal.Read.val_main_v318_eq _)).trans (R2.eq (r_v318 H') (out_cw T))
  · exact (r7.trans (Cert.ReferenceIdeal.Read.val_main_v166_eq _)).trans (R2.eq (r_v166 H') (out_gh T))

end Cert.Mix
end
-- ==== Proof.Prod.lean ====
/- Matrices of extended reals given by functions of two natural numbers, and the few operations of a tiled matrix
   product on them: loads of rectangles, products, stores of rectangles. -/
module

public import Idealize.ShloMosaic.Lib.Pipeline.ValueKit
public import Idealize.ShloMosaic.Lib.WritesUnit
public import Idealize.ShloMosaic.Lib.Pointwise
public import Idealize.ShloMosaic.PureOps.Ideal.Laws

@[expose] public section

set_option maxRecDepth 16384

noncomputable section

namespace Cert.Prod

open Idealize.ShloMosaic Idealize.ShloMosaic.TcCoe

/-- A shape of two axes. -/
abbrev Sh (n m : ℕ) : Shape := ⟨2, ![n, m]⟩
/-- A shape of three axes. -/
abbrev Sh3 (p n m : ℕ) : Shape := ⟨3, ![p, n, m]⟩

/-- The matrix `x` is given by the function `f`. -/
def M2 {n m : ℕ} (x : (Sh n m).Idx → EReal) (f : ℕ → ℕ → EReal) : Prop := ∀ i, x i = f (i 0).val (i 1).val
/-- The stack of matrices `x` is given by the function `f`. -/
def M3 {p n m : ℕ} (x : (Sh3 p n m).Idx → EReal) (f : ℕ → ℕ → ℕ → EReal) : Prop := ∀ i, x i = f (i 0).val (i 1).val (i 2).val

/-- The element of a matrix at two natural numbers, zero outside. -/
def elt {n m : ℕ} (x : (Sh n m).Idx → EReal) (i j : ℕ) : EReal := if h : i < n ∧ j < m then x (ix2 ⟨i, h.1⟩ ⟨j, h.2⟩) else 0

variable {n m N M K a b : ℕ} {f g : ℕ → ℕ → EReal}

/-- Every matrix is given by its elements. -/
theorem M2.elt (x : (Sh n m).Idx → EReal) : M2 x (elt x) := by
  intro i
  have e : (ix2 ⟨(i 0).val, (i 0).isLt⟩ ⟨(i 1).val, (i 1).isLt⟩ : (Sh n m).Idx) = i := by
    funext k; match k with | 0 => rfl | 1 => rfl
  unfold Prod.elt
  rw [dif_pos ⟨(i 0).isLt, (i 1).isLt⟩, e]

/-- Two functions that agree inside give the same matrix. -/
theorem M2.congr {x : (Sh n m).Idx → EReal} (h : M2 x f) (e : ∀ s j, s < n → j < m → f s j = g s j) : M2 x g :=
  fun i => (h i).trans (e _ _ (i 0).isLt (i 1).isLt)

/-- Two matrices given by one function are equal. -/
theorem M2.eq {x y : (Sh n m).Idx → EReal} (hx : M2 x f) (hy : M2 y f) : x = y := funext fun i => (hx i).trans (hy i).symm

/-- A reshape to the same shape. -/
theorem M2.cast {x : (Sh n m).Idx → EReal} (hx : M2 x f) (h : (Sh n m).ShapeCasts (Sh n m)) : M2 (shapeCast (Sh n m) x h) f := by
  rw [shapeCast_self]; exact hx

/-- A rectangle loaded from a buffer. -/
theorem M2.ld {e : EltTy} {z : (Sh N M).Idx → Elt Ideal e} (c : Elt Ideal e → EReal) (hz : M2 (fun i => c (z i)) f)
    (inb : ∀ d, ![a, b] d + ![n, m] d ≤ (Sh N M).size d) :
    M2 (n := n) (m := m) (fun i => c (View.ld (Val := Elt Ideal) (e' := e) (S := Sh N M) z (Rect.unit ![a, b] ![n, m] inb) i))
      fun s j => f (a + s) (b + j) := by
  intro i
  have ha : a + n ≤ N := inb 0
  have hb : b + m ≤ M := inb 1
  have h0 : (i 0).val < n := (i 0).isLt
  have h1 : (i 1).val < m := (i 1).isLt
  show c _ = _
  rw [View.ld_unit_apply_of (Val := Elt Ideal) (e := e) (S := Sh N M) z ![a, b] ![n, m] inb i (ix2 ⟨a + (i 0).val, by omega⟩ ⟨b + (i 1).val, by omega⟩) (fun d => by
    match d with
    | ⟨0, _⟩ => rfl
    | ⟨1, _⟩ => rfl)]
  exact hz _

/-- A rectangle loaded from a buffer of bfloat16 numbers. -/
theorem M2.ldb {z : (Sh N M).Idx → EReal} (hz : M2 z f) (inb : ∀ d, ![a, b] d + ![n, m] d ≤ (Sh N M).size d) :
    M2 (n := n) (m := m) (View.ld (Val := Elt Ideal) (e' := .bf16) (S := Sh N M) z (Rect.unit ![a, b] ![n, m] inb))
      fun s j => f (a + s) (b + j) := M2.ld (e := .bf16) id hz inb

/-- A rectangle loaded from a buffer of float32 numbers. -/
theorem M2.ldf {z : (Sh N M).Idx → EReal} (hz : M2 z f) (inb : ∀ d, ![a, b] d + ![n, m] d ≤ (Sh N M).size d) :
    M2 (n := n) (m := m) (View.ld (Val := Elt Ideal) (e' := .f32) (S := Sh N M) z (Rect.unit ![a, b] ![n, m] inb))
      fun s j => f (a + s) (b + j) := M2.ld (e := .f32) id hz inb

/-- A sum of products after a zero, factor by factor. -/
theorem dot_sum {u v u' v' : Fin K → EReal} (hu : ∀ k, u k = u' k) (hv : ∀ k, v k = v' k) :
    (0 : EReal) + ∑ k, u k * v k = ∑ k, u' k * v' k := by
  rw [zero_add]
  exact Finset.sum_congr rfl fun k _ => by rw [hu, hv]

/-- One store: inside its rectangle the cell is the stored one, outside what the earlier stores left. -/
theorem store_step {s : Shape} {e : EltTy} {off size : Fin s.rank → ℕ} {inb : ∀ c, off c + size c ≤ s.size c}
    {w : (Rect.unit off size inb).shape.Idx → Elt Ideal e} {L : List (View.Piece (Elt Ideal) s e)} {y : s.Idx} {v : Elt Ideal e}
    (hw : ∀ x : (Rect.unit off size inb).shape.Idx, (∀ c, (y c).val = off c + (x c).val) → w x = v)
    (hL : ¬(∀ c, off c ≤ (y c).val ∧ (y c).val < off c + size c) → View.canon L y = v) :
    View.canon (⟨Rect.unit off size inb, w⟩ :: L) y = v := by
  by_cases h : ∀ c, off c ≤ (y c).val ∧ (y c).val < off c + size c
  · have e : (Rect.unit off size inb).emb (Rect.unitLocal (off := off) (size := size) y h) = y :=
      funext fun c => Fin.ext (by
        show off c + 1 * ((y c).val - off c) = (y c).val
        have := (h c).1
        omega)
    have := View.canon_cons_emb (Val := Elt Ideal) (Rect.unit off size inb) w L (Rect.unitLocal (off := off) (size := size) y h)
    rw [e] at this
    rw [this]
    exact hw _ fun c => by
      show (y c).val = off c + ((y c).val - off c)
      have := (h c).1
      omega
  · rw [View.canon_cons_of_not_mem _ _ (fun hm => h ((Rect.mem_set_unit (inb := inb)).mp hm)), hL h]

/-- One store of a matrix at a rectangle of a matrix of bfloat16 numbers. -/
theorem store2b {F : ℕ → ℕ → EReal} {inb : ∀ c, ![a, b] c + ![n, m] c ≤ (Sh N M).size c}
    {w : (Rect.unit (s := Sh N M) ![a, b] ![n, m] inb).shape.Idx → Elt Ideal .bf16}
    {L : List (View.Piece (Elt Ideal) (Sh N M) .bf16)} {y : (Sh N M).Idx}
    (hw : M2 (n := n) (m := m) w fun s j => F (a + s) (b + j))
    (hL : ¬((a ≤ (y 0).val ∧ (y 0).val < a + n) ∧ b ≤ (y 1).val ∧ (y 1).val < b + m) → View.canon L y = F (y 0).val (y 1).val) :
    View.canon (⟨Rect.unit (s := Sh N M) ![a, b] ![n, m] inb, w⟩ :: L) y = F (y 0).val (y 1).val :=
  store_step (fun x hx => (hw x).trans (congrArg₂ F (hx 0).symm (hx 1).symm)) fun h => hL fun ⟨h1, h2⟩ =>
    h (Fin.forall_fin_two.mpr ⟨h1, h2⟩)

/-- One store of a matrix at a rectangle of a matrix of float32 numbers. -/
theorem store2f {F : ℕ → ℕ → EReal} {inb : ∀ c, ![a, b] c + ![n, m] c ≤ (Sh N M).size c}
    {w : (Rect.unit (s := Sh N M) ![a, b] ![n, m] inb).shape.Idx → Elt Ideal .f32}
    {L : List (View.Piece (Elt Ideal) (Sh N M) .f32)} {y : (Sh N M).Idx}
    (hw : M2 (n := n) (m := m) w fun s j => F (a + s) (b + j))
    (hL : ¬((a ≤ (y 0).val ∧ (y 0).val < a + n) ∧ b ≤ (y 1).val ∧ (y 1).val < b + m) → View.canon L y = F (y 0).val (y 1).val) :
    View.canon (⟨Rect.unit (s := Sh N M) ![a, b] ![n, m] inb, w⟩ :: L) y = F (y 0).val (y 1).val :=
  store_step (fun x hx => (hw x).trans (congrArg₂ F (hx 0).symm (hx 1).symm)) fun h => hL fun ⟨h1, h2⟩ =>
    h (Fin.forall_fin_two.mpr ⟨h1, h2⟩)

/-- A store that does not touch an element. -/
theorem skip_col {inb : ∀ c, ![a, b] c + ![n, m] c ≤ (Sh N M).size c}
    {w : (Rect.unit (s := Sh N M) ![a, b] ![n, m] inb).shape.Idx → Elt Ideal .f32}
    {L : List (View.Piece (Elt Ideal) (Sh N M) .f32)} {y : (Sh N M).Idx} {v : EReal} (hy : b + m ≤ (y 1).val) (hL : View.canon L y = v) :
    View.canon (⟨Rect.unit (s := Sh N M) ![a, b] ![n, m] inb, w⟩ :: L) y = v :=
  (View.canon_cons_of_not_mem (Val := Elt Ideal) (s := Sh N M) (e := .f32) ⟨Rect.unit (s := Sh N M) ![a, b] ![n, m] inb, w⟩ L
    (fun hm => absurd (((Rect.mem_set_unit (inb := inb)).mp hm) 1).2 (Nat.not_lt.mpr hy))).trans hL

/-- A load of a rectangle of a buffer that a list of stores has filled. -/
theorem M2.cov {F : ℕ → ℕ → EReal} {sig : RefSig} {κ : Kind} {sp : Space} (V : View sig κ sp (Sh N M) .f32)
    {L : List (View.Piece (Elt Ideal) (Sh N M) .f32)} (inb : ∀ c, ![a, b] c + ![n, m] c ≤ (Sh N M).size c)
    (hL : ∀ y : (Sh N M).Idx, a ≤ (y 0).val → (y 0).val < a + n → b ≤ (y 1).val → (y 1).val < b + m →
      View.canon L y = F (y 0).val (y 1).val) :
    M2 (n := n) (m := m) (V.readCov L (Rect.unit (s := Sh N M) ![a, b] ![n, m] inb).toLoadRect) fun s j => F (a + s) (b + j) := by
  intro i
  have h0 : (i 0).val < n := (i 0).isLt
  have h1 : (i 1).val < m := (i 1).isLt
  have e0 : ((Rect.unit (s := Sh N M) ![a, b] ![n, m] inb).toLoadRect.idx i 0).val = a + (i 0).val := by
    show a + 1 * (i 0).val = _; omega
  have e1 : ((Rect.unit (s := Sh N M) ![a, b] ![n, m] inb).toLoadRect.idx i 1).val = b + (i 1).val := by
    show b + 1 * (i 1).val = _; omega
  rw [View.readCov_eq_canon']
  refine (hL _ ?_ ?_ ?_ ?_).trans (congrArg₂ F e0 e1) <;> omega

/-- A box loaded from a buffer of bfloat16 numbers. -/
theorem M3.ldb {p P d : ℕ} {g : ℕ → ℕ → ℕ → EReal} {z : (Sh3 P N M).Idx → EReal} (hz : M3 z g)
    (inb : ∀ k, ![d, a, b] k + ![p, n, m] k ≤ (Sh3 P N M).size k) :
    M3 (p := p) (n := n) (m := m) (View.ld (Val := Elt Ideal) (e' := .bf16) (S := Sh3 P N M) z (Rect.unit ![d, a, b] ![p, n, m] inb))
      fun r s j => g (d + r) (a + s) (b + j) := by
  intro i
  have hd : d + p ≤ P := inb 0
  have ha : a + n ≤ N := inb 1
  have hb : b + m ≤ M := inb 2
  have h0 : (i 0).val < p := (i 0).isLt
  have h1 : (i 1).val < n := (i 1).isLt
  have h2 : (i 2).val < m := (i 2).isLt
  rw [View.ld_unit_apply_of (Val := Elt Ideal) (e := .bf16) (S := Sh3 P N M) z ![d, a, b] ![p, n, m] inb i
    (ix3 ⟨d + (i 0).val, by omega⟩ ⟨a + (i 1).val, by omega⟩ ⟨b + (i 2).val, by omega⟩) (fun k => by
    match k with
    | ⟨0, _⟩ => rfl
    | ⟨1, _⟩ => rfl
    | ⟨2, _⟩ => rfl)]
  exact hz _

/-- A stack of one matrix, as a matrix. -/
theorem M3.slab {y : (Sh3 1 n m).Idx → EReal} {g : ℕ → ℕ → ℕ → EReal} (hy : M3 y g) (h : (Sh3 1 n m).ShapeCasts (Sh n m)) :
    M2 (shapeCast (Sh n m) y h) (g 0) := by
  intro i
  rw [shapeCast_dropUnit_apply ![n, m] y h i]
  exact hy _

end Cert.Prod

end
-- ==== Proof.Dact.lean ====
/- The gradient through the channel mixer's second product and its squared ReLU: the kernel's tiles and the reference's
   array hold the same numbers. -/
module

public import proofs.«01_k».proof.Defs
public import proofs.«01_k».proof.Proof.Prod
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Dact

open Cert.Kernel2Ideal Cert.Kernel2Ideal.Gen Cert.Prod Idealize.ShloMosaic Idealize.ShloMosaic.TcCoe Idealize.SL.Sem

/-- The gradient: the cotangent times the weights transposed, times twice the positive part. -/
def G (f w ct : ℕ → ℕ → EReal) (s j : ℕ) : EReal := (∑ k : Fin 2048, ct s k * w j k) * (2 * max (f s j) 0)

variable {f w ct : ℕ → ℕ → EReal}

/-- The product of a tile. -/
theorem dot {x : FVec Ideal S512x2048 .bf16} {y : FVec Ideal S512x2048 .bf16} (hx : M2 (n := 512) (m := 2048) x f) (hy : M2 (n := 512) (m := 2048) y w) :
    M2 (n := 512) (m := 512) (matmul (F := Ideal) dot_S512x2048_S512x2048_S512x512_1_1_0_0_n_n none x y (constant S512x512 .f32 0x00000000#32))
      fun s j => ∑ k : Fin 2048, f s k * w j k := by
  intro i
  simp only [pointwise]
  exact dot_sum (fun k => hx _) (fun k => hy _)

/-- One of the four stores of a tile. -/
theorem part {x : FVec Ideal S512x2048 .bf16} {y : FVec Ideal S512x2048 .bf16} {z : FVec Ideal S512x512 .bf16}
    {d : ℕ → ℕ → EReal} (hx : M2 (n := 512) (m := 2048) x ct) (hy : M2 (n := 512) (m := 2048) y w) (hz : M2 (n := 512) (m := 512) z d) :
    M2 (n := 512) (m := 512) (k0_pay1 (F := Ideal) (k0_pay2 x) y z) fun s j => (∑ k : Fin 2048, ct s k * w j k) * d s j := by
  intro i
  have := dot (hx.cast shapeCasts_S512x2048_S512x2048) (hy.cast shapeCasts_S512x2048_S512x2048) i
  have h2 := hz.cast shapeCasts_S512x512_S512x512 i
  exact congrArg₂ (· * ·) this h2

variable (m : (ℓ : Loc nD τ sig) → Buf (Elt Ideal) ℓ)

/-- The index maps of the windows. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4] :=
  (by decide +kernel : ∀ t : Fin grid0.N, _)

/-- The float32 number two. -/
theorem two : Ideal.ofBits .f32 0x40000000#32 = 2 := by
  simp [Ideal.ofBits, Ideal.ieee]
  rw [← EReal.coe_mul]
  norm_num
  rfl

/-- Twice the positive part of a matrix. -/
def fac (x : S2048x8192.Idx → EReal) : S2048x8192.Idx → EReal := fun i => 2 * max (x i) 0

/-- The factor the host makes: twice the positive part. -/
theorem host_f (c : Dev nD) : (V m c main_v4 : S2048x8192.Idx → EReal) = fac (m ((c.tc : Thread nD τ).loc main_arg0)) := by
  have e : (V m c main_v4 : S2048x8192.Idx → EReal) = fun i => Ideal.ofBits .f32 0x40000000#32 * (max (α := EReal) (m ((c.tc : Thread nD τ).loc main_arg0) i) (Ideal.ofBits .f32 0x00000000#32)) := rfl
  rw [e, two, Ideal.ofBits_zero_f32]
  rfl

/-- The cotangent reaches the kernel rounded, over the reals as it is. -/
theorem host_ct (c : Dev nD) : (V m c main_v5 : S2048x2048.Idx → EReal) = m ((c.tc : Thread nD τ).loc main_arg2) := by
  rfl

/-- And so do the weights. -/
theorem host_w (c : Dev nD) : (V m c main_v6 : S8192x2048.Idx → EReal) = m ((c.tc : Thread nD τ).loc main_arg1) := by
  rfl

variable {m} {c : Dev nD}

/-- The cotangent's rows of a grid point. -/
theorem in_ct (h : M2 (n := 2048) (m := 2048) (m ((c.tc : Thread nD τ).loc main_arg2)) ct) (t : Fin cfg0.N) :
    M2 (n := 512) (m := 2048) (iblk m c 0 t) fun s j => ct (512 * (t.val % 4) + s) j := by
  intro i
  have e := idx t
  have e0 : ((win0_0.blk t).view.emb i 0 : ℕ) = 512 * (t.val % 4) + (i 0).val := by blk_simp [e]; try omega
  have e1 : ((win0_0.blk t).view.emb i 1 : ℕ) = (i 1).val := by blk_simp [e]; try omega
  blk_simp [iblk]
  rw [host_ct]
  refine (h _).trans ?_
  rw [e0, e1]

/-- The weights' rows of a grid point. -/
theorem in_w (h : M2 (n := 8192) (m := 2048) (m ((c.tc : Thread nD τ).loc main_arg1)) w) (t : Fin cfg0.N) :
    M2 (n := 2048) (m := 2048) (iblk m c 1 t) fun s j => w (2048 * (t.val / 4) + s) j := by
  intro i
  have e := idx t
  have e0 : ((win0_1.blk t).view.emb i 0 : ℕ) = 2048 * (t.val / 4) + (i 0).val := by blk_simp [e]; try omega
  have e1 : ((win0_1.blk t).view.emb i 1 : ℕ) = (i 1).val := by blk_simp [e]; try omega
  blk_simp [iblk]
  rw [host_w]
  refine (h _).trans ?_
  rw [e0, e1]

/-- The factor's tile of a grid point. -/
theorem in_f (h : M2 (n := 2048) (m := 8192) (m ((c.tc : Thread nD τ).loc main_arg0)) f) (t : Fin cfg0.N) :
    M2 (n := 512) (m := 2048) (iblk m c 2 t) fun s j => 2 * max (f (512 * (t.val % 4) + s) (2048 * (t.val / 4) + j)) 0 := by
  intro i
  have e := idx t
  have e0 : ((win0_2.blk t).view.emb i 0 : ℕ) = 512 * (t.val % 4) + (i 0).val := by blk_simp [e]; try omega
  have e1 : ((win0_2.blk t).view.emb i 1 : ℕ) = 2048 * (t.val / 4) + (i 1).val := by blk_simp [e]; try omega
  blk_simp [iblk]
  rw [host_f]
  refine (congrArg (fun x : EReal => 2 * max x 0) (h _)).trans ?_
  rw [e0, e1]

/-- A store of columns `q` to `q + 512` of a tile. -/
theorem cols {t q : ℕ} {x : FVec Ideal S512x2048 .bf16} {y : FVec Ideal S512x2048 .bf16} {z : FVec Ideal S512x512 .bf16}
    (hx : M2 (n := 512) (m := 2048) x fun s j => ct (512 * (t % 4) + s) j)
    (hy : M2 (n := 512) (m := 2048) y fun s j => w (2048 * (t / 4) + (q + s)) (0 + j))
    (hz : M2 (n := 512) (m := 512) z fun s j => 2 * max (f (512 * (t % 4) + (0 + s)) (2048 * (t / 4) + (q + j))) 0) :
    M2 (n := 512) (m := 512) (k0_pay1 (F := Ideal) (k0_pay2 x) y z)
      fun s j => G f w ct (512 * (t % 4) + (0 + s)) (2048 * (t / 4) + (q + j)) :=
  (part hx hy hz).congr fun s j _ _ => by simp only [G, Nat.zero_add]

/-- What the kernel leaves of a tile. -/
theorem tile (h0 : M2 (n := 2048) (m := 8192) (m ((c.tc : Thread nD τ).loc main_arg0)) f)
    (h1 : M2 (n := 8192) (m := 2048) (m ((c.tc : Thread nD τ).loc main_arg1)) w)
    (h2 : M2 (n := 2048) (m := 2048) (m ((c.tc : Thread nD τ).loc main_arg2)) ct) (t : Fin cfg0.N) :
    M2 (n := 512) (m := 2048) (outsAt0 m c t) fun s j => G f w ct (512 * (t.val % 4) + s) (2048 * (t.val / 4) + j) := by
  have A := in_ct h2 t
  have B := in_w h1 t
  have C := in_f h0 t
  intro y
  have hy : (y 1).val < 2048 := (y 1).isLt
  have hy0 : (y 0).val < 512 := (y 0).isLt
  unfold outsAt0
  frame_out
  refine store2b (F := fun s j => G f w ct (512 * (t.val % 4) + s) (2048 * (t.val / 4) + j)) (cols A (B.ldb _) (C.ldb _)) fun n3 => ?_
  refine store2b (F := fun s j => G f w ct (512 * (t.val % 4) + s) (2048 * (t.val / 4) + j)) (cols A (B.ldb _) (C.ldb _)) fun n2 => ?_
  refine store2b (F := fun s j => G f w ct (512 * (t.val % 4) + s) (2048 * (t.val / 4) + j)) (cols A (B.ldb _) (C.ldb _)) fun n1 => ?_
  refine store2b (F := fun s j => G f w ct (512 * (t.val % 4) + s) (2048 * (t.val / 4) + j)) (cols A (B.ldb _) (C.ldb _)) fun n0 => ?_
  omega

/-- The kernel's result. -/
theorem out (h0 : M2 (n := 2048) (m := 8192) (m ((c.tc : Thread nD τ).loc main_arg0)) f)
    (h1 : M2 (n := 8192) (m := 2048) (m ((c.tc : Thread nD τ).loc main_arg1)) w)
    (h2 : M2 (n := 2048) (m := 2048) (m ((c.tc : Thread nD τ).loc main_arg2)) ct) :
    M2 (n := 2048) (m := 8192) ((dats m 0 c).arrAt 3 cfg0.N) (G f w ct) := by
  refine fun i => congrFun ((dats m 0 c).arrAt_eq_of_covers 3 (fun i => G f w ct (i 0).val (i 1).val) (by decide +kernel) fun t _ y => ?_) i
  have e := idx t
  have e0 : ((win0_3.blk t).view.emb y 0 : ℕ) = 512 * (t.val % 4) + (y 0).val := by blk_simp [e]; try omega
  have e1 : ((win0_3.blk t).view.emb y 1 : ℕ) = 2048 * (t.val / 4) + (y 1).val := by blk_simp [e]; try omega
  refine Eq.trans ?_ (congrArg₂ (G f w ct) e0 e1).symm
  blk_simp
  rw [after0_3]
  exact tile h0 h1 h2 t y

open Cert.Reference2Ideal.Read in
/-- The reference's result. -/
theorem ref {x0 : S2048x8192.Idx → EReal} {x1 : S8192x2048.Idx → EReal} {x2 : S2048x2048.Idx → EReal}
    (h0 : M2 (n := 2048) (m := 8192) x0 f) (h1 : M2 (n := 8192) (m := 2048) x1 w) (h2 : M2 (n := 2048) (m := 2048) x2 ct) :
    M2 (n := 2048) (m := 8192) (val_main_v12 (F := Ideal) x0 x1 x2) (G f w ct) := by
  intro i
  rw [val_main_v12_apply, val_main_v11_apply, val_main_v2_apply, val_main_v9_apply, val_main_v10_apply, val_main_v8_apply,
    val_main_v6_apply, val_main_v1_apply, val_main_v5_apply, val_main_v0_apply, val_main_call0_v0_apply, val_main_call0_cst_apply,
    val_main_cst_apply, val_main_cst_1_apply, val_main_cst_2_apply]
  have e : ∑ k : Fin 2048, x2 (lidx_main_v8 i k) * x1 (ridx_main_v8 i k) = ∑ k : Fin 2048, ct (i 0).val k * w (i 1).val k :=
    Finset.sum_congr rfl fun k _ => by rw [h2, h1]
  rw [e, h0]
  simp only [Ideal.ofBits_def, two, Ideal.ofBits_zero_f32]
  show (if Ideal.cmp .ogt (f (i 0).val (i 1).val) 0 = 1#1 then _ else _) = _
  by_cases hf : (0 : EReal) < f (i 0).val (i 1).val
  · rw [if_pos (by simp [Ideal.cmp, hf])]
    rfl
  · rw [if_neg (by simp [Ideal.cmp, hf])]
    unfold G
    rw [max_eq_right (not_lt.mp hf), mul_zero, mul_zero]

/-- Over the reals the kernel's run and the reference's run end with the same gradient. -/
theorem algebraic : @Cert.algebraic_Kernel2Ideal_Reference2Ideal Cert.Kernel2Ideal.Gen.facts Cert.Reference2Ideal.Gen.facts := by
  intro m g m' g' _ hag
  refine ⟨fun c => (dats m 0 c).arrAt 3 cfg0.N, Cert.Kernel2Ideal.Value.run_blocks m g, ?_⟩
  refine (θ_run Cert.Reference2Ideal.defs _ _).mono (fun r h c => ?_) (Cert.Reference2Ideal.Value.run m' g')
  obtain ⟨r0, hargs⟩ := h c
  obtain ⟨a0, a1, a2⟩ := hag c
  refine ⟨(r0.trans (Cert.Reference2Ideal.Read.val_main_v12_eq _ _ _)).trans ?_, hargs⟩
  rw [a0, a1, a2]
  exact M2.eq (ref (M2.elt _) (M2.elt _) (M2.elt _)) (out (M2.elt _) (M2.elt _) (M2.elt _))

end Cert.Dact

end
-- ==== Proof.Dh2.lean ====
/- The gradient of the channel mixer's first product in its input: the kernel's tiles, summed over four blocks of the
   inner axis, and the reference's array hold the same numbers. -/
module

public import proofs.«01_k».proof.Defs
public import proofs.«01_k».proof.Proof.Prod
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read

@[expose] public section

set_option maxRecDepth 16384

noncomputable section

namespace Cert.Dh2

open Cert.Kernel3Ideal Cert.Kernel3Ideal.Gen Cert.Prod Idealize.ShloMosaic Idealize.ShloMosaic.TcCoe Idealize.SL.Sem

/-- The product over the first `n` numbers of the inner axis. -/
def G (n : ℕ) (a b : ℕ → ℕ → EReal) (s j : ℕ) : EReal := ∑ k ∈ Finset.range n, a s k * b j k

variable {f w a b p : ℕ → ℕ → EReal}

/-- The product over one block more. -/
theorem G_step (q : ℕ) (s j : ℕ) : G (2048 * q) a b s j + ∑ k : Fin 2048, a s (2048 * q + k) * b j (2048 * q + k) = G (2048 * (q + 1)) a b s j := by
  unfold G
  rw [Nat.mul_add, Nat.mul_one, Finset.sum_range_add, ← Fin.sum_univ_eq_sum_range (fun x => a s (2048 * q + x) * b j (2048 * q + x))]

/-- The product of one store of a tile, added to what was there. -/
theorem part {x : FVec Ideal S1024x2048 .bf16} {y : FVec Ideal S1x512x2048 .bf16} {z : FVec Ideal S1024x512 .f32}
    (hx : M2 (n := 1024) (m := 2048) x a) (hy : M3 (p := 1) (n := 512) (m := 2048) y fun _ s j => b s j) (hz : M2 (n := 1024) (m := 512) z p) :
    M2 (n := 1024) (m := 512) (k0_pay3 (F := Ideal) x y z) (fun s j => p s j + ∑ k : Fin 2048, a s k * b j k) := by
  have hy' := hy.slab shapeCasts_S1x512x2048_S512x2048
  refine M2.cast (n := 1024) (m := 512) (x := addf z (matmul (F := Ideal) dot_S1024x2048_S512x2048_S1024x512_1_1_0_0_n_n none
      (shapeCast S1024x2048 x shapeCasts_S1024x2048_S1024x2048) (shapeCast S512x2048 y shapeCasts_S1x512x2048_S512x2048)
      (constant S1024x512 .f32 0x00000000#32))) (fun i => ?_) shapeCasts_S1024x512_S1024x512
  generalize shapeCast S512x2048 y shapeCasts_S1x512x2048_S512x2048 = y' at hy' ⊢
  simp only [pointwise]
  exact congrArg₂ (· + ·) (hz i) (dot_sum (fun k => hx _) (fun k => hy' _))

variable (m : (ℓ : Loc nD τ sig) → Buf (Elt Ideal) ℓ)

/-- The index maps of the windows. -/
theorem idx : ∀ t : Fin cfg0.N, win0_0.index t = ![t.val / 4 % 2, t.val % 4] ∧ win0_1.index t = ![t.val % 4, t.val / 8, 0] ∧ win0_2.index t = ![t.val / 4 % 2, t.val / 8] :=
  (by decide +kernel : ∀ t : Fin grid0.N, _)

/-- The cotangent reaches the kernel rounded, over the reals as it is. -/
theorem host_a (c : Dev nD) : (V m c main_v0 : S2048x8192.Idx → EReal) = m ((c.tc : Thread nD τ).loc main_arg1) := rfl

/-- The weights in four blocks of columns. -/
def blocks (x : S2048x8192.Idx → EReal) : S4x2048x2048.Idx → EReal :=
  transpose (α := EReal) S4x2048x2048 [1, 0, 2] (shapeCast S2048x4x2048 x shapeCasts_S2048x8192_S2048x4x2048) transposes_S2048x4x2048_S4x2048x2048_1_0_2

/-- The weights reach the kernel in four blocks of columns, rounded. -/
theorem host_b (c : Dev nD) : (V m c main_v3 : S4x2048x2048.Idx → EReal) = blocks (m ((c.tc : Thread nD τ).loc main_arg0)) := rfl

variable {m} {c : Dev nD}

/-- The left factor's block of a grid point. -/
theorem in_a (h : M2 (n := 2048) (m := 8192) (m ((c.tc : Thread nD τ).loc main_arg1)) f) (t : Fin cfg0.N) :
    M2 (n := 1024) (m := 2048) (iblk m c 0 t) fun s j => f (1024 * (t.val / 4 % 2) + s) (2048 * (t.val % 4) + j) := by
  intro i
  have e := idx t
  have e0 : ((win0_0.blk t).view.emb i 0 : ℕ) = 1024 * (t.val / 4 % 2) + (i 0).val := by blk_simp [e]; try omega
  have e1 : ((win0_0.blk t).view.emb i 1 : ℕ) = 2048 * (t.val % 4) + (i 1).val := by blk_simp [e]; try omega
  blk_simp [iblk]
  rw [host_a]
  refine (h _).trans ?_
  rw [e0, e1]

/-- The blocks' elements. -/
theorem blocks_elt {x : S2048x8192.Idx → EReal} (h : M2 (n := 2048) (m := 8192) x w) :
    M3 (p := 4) (n := 2048) (m := 2048) (blocks x) fun k s j => w s (2048 * k + j) := by
  intro i
  have h0 : (i 0).val < 4 := (i 0).isLt
  have h1 : (i 1).val < 2048 := (i 1).isLt
  have h2 : (i 2).val < 2048 := (i 2).isLt
  refine (transpose_apply [1, 0, 2] _ transposes_S2048x4x2048_S4x2048x2048_1_0_2 i (ix3 (n0 := 2048) (n1 := 4) (n2 := 2048) ⟨(i 1).val, h1⟩ ⟨(i 0).val, h0⟩ ⟨(i 2).val, h2⟩)
    (fun b => match b with
    | ⟨0, _⟩ => rfl
    | ⟨1, _⟩ => rfl
    | ⟨2, _⟩ => rfl)).trans ?_
  refine (shapeCast_apply x shapeCasts_S2048x8192_S2048x4x2048 _ (ix2 (n0 := 2048) (n1 := 8192) ⟨(i 1).val, h1⟩ ⟨2048 * (i 0).val + (i 2).val, by omega⟩) ?_).trans (h _)
  rw [Shape.rowMajor_val_two, Shape.rowMajor_val_three]
  show (i 1).val * 8192 + (2048 * (i 0).val + (i 2).val) = ((i 1).val * 4 + (i 0).val) * 2048 + (i 2).val
  omega

/-- The right factor's block of a grid point. -/
theorem in_b (h : M2 (n := 2048) (m := 8192) (m ((c.tc : Thread nD τ).loc main_arg0)) w) (t : Fin cfg0.N) :
    M3 (p := 1) (n := 1024) (m := 2048) (iblk m c 1 t) fun _ s j => w (1024 * (t.val / 8) + s) (2048 * (t.val % 4) + j) := by
  intro i
  have hi : (i 0).val < 1 := (i 0).isLt
  have e := idx t
  have e0 : ((win0_1.blk t).view.emb i 0 : ℕ) = t.val % 4 := by blk_simp [e]; try omega
  have e1 : ((win0_1.blk t).view.emb i 1 : ℕ) = 1024 * (t.val / 8) + (i 1).val := by blk_simp [e]; try omega
  have e2 : ((win0_1.blk t).view.emb i 2 : ℕ) = (i 2).val := by blk_simp [e]; try omega
  blk_simp [iblk]
  rw [host_b]
  refine (blocks_elt h _).trans ?_
  rw [e0, e1, e2]

/-- The store of columns `q` to `q + 512` of the accumulator. -/
theorem cols {t q : ℕ} {x : FVec Ideal S1024x2048 .bf16} {y : FVec Ideal S1x512x2048 .bf16} {z : FVec Ideal S1024x512 .f32}
    (hx : M2 (n := 1024) (m := 2048) x fun s j => f (1024 * (t / 4 % 2) + s) (2048 * (t % 4) + j))
    (hy : M3 (p := 1) (n := 512) (m := 2048) y fun _ s j => w (1024 * (t / 8) + (q + s)) (2048 * (t % 4) + (0 + j)))
    (hz : M2 (n := 1024) (m := 512) z fun s j => G (2048 * (t % 4)) f w (1024 * (t / 4 % 2) + (0 + s)) (1024 * (t / 8) + (q + j))) :
    M2 (n := 1024) (m := 512) (k0_pay3 (F := Ideal) x y z)
      fun s j => G (2048 * (t % 4 + 1)) f w (1024 * (t / 4 % 2) + (0 + s)) (1024 * (t / 8) + (q + j)) :=
  (part hx hy hz).congr fun s j _ _ => by
    simp only [Nat.zero_add]
    exact G_step (t % 4) _ _

/-- The accumulator after both its stores. -/
theorem both {t : ℕ} {x : FVec Ideal S1024x2048 .bf16} {y0 y1 : FVec Ideal S1x512x2048 .bf16} {z0 z1 : FVec Ideal S1024x512 .f32}
    {L : List (View.Piece (Elt Ideal) (Sh 1024 1024) .f32)}
    (hx : M2 (n := 1024) (m := 2048) x fun s j => f (1024 * (t / 4 % 2) + s) (2048 * (t % 4) + j))
    (hy0 : M3 (p := 1) (n := 512) (m := 2048) y0 fun _ s j => w (1024 * (t / 8) + (0 + s)) (2048 * (t % 4) + (0 + j)))
    (hy1 : M3 (p := 1) (n := 512) (m := 2048) y1 fun _ s j => w (1024 * (t / 8) + (512 + s)) (2048 * (t % 4) + (0 + j)))
    (hz0 : M2 (n := 1024) (m := 512) z0 fun s j => G (2048 * (t % 4)) f w (1024 * (t / 4 % 2) + (0 + s)) (1024 * (t / 8) + (0 + j)))
    (hz1 : M2 (n := 1024) (m := 512) z1 fun s j => G (2048 * (t % 4)) f w (1024 * (t / 4 % 2) + (0 + s)) (1024 * (t / 8) + (512 + j)))
    (y : (Sh 1024 1024).Idx) :
    View.canon (⟨Rect.unit (s := Sh 1024 1024) ![0, 512] ![1024, 512] inb_S1024x1024_S1024x512_0_512, k0_pay4 (F := Ideal) x y1 z1⟩
      :: ⟨Rect.unit (s := Sh 1024 1024) ![0, 0] ![1024, 512] inb_S1024x1024_S1024x512_0_0, k0_pay3 (F := Ideal) x y0 z0⟩ :: L) y
      = G (2048 * (t % 4 + 1)) f w (1024 * (t / 4 % 2) + (y 0).val) (1024 * (t / 8) + (y 1).val) := by
  have hy : (y 1).val < 1024 := (y 1).isLt
  have hy0 : (y 0).val < 1024 := (y 0).isLt
  refine store2f (F := fun s j => G (2048 * (t % 4 + 1)) f w (1024 * (t / 4 % 2) + s) (1024 * (t / 8) + j)) (cols hx hy1 hz1) fun n1 => ?_
  refine store2f (F := fun s j => G (2048 * (t % 4 + 1)) f w (1024 * (t / 4 % 2) + s) (1024 * (t / 8) + j)) (cols hx ‹_› hz0) fun n0 => ?_
  omega

/-- A load of an accumulator that holds what another does. -/
theorem keep {z z' : (Sh 1024 1024).Idx → EReal} {g : ℕ → ℕ → EReal} {u v n k : ℕ} (e : ∀ y, z' y = z y) (hz : M2 (n := 1024) (m := 1024) z g)
    (inb : ∀ c, ![u, v] c + ![n, k] c ≤ (Sh 1024 1024).size c) :
    M2 (n := n) (m := k) (View.ld (Val := Elt Ideal) (e' := .f32) (S := Sh 1024 1024) z' (Rect.unit ![u, v] ![n, k] inb)) fun s j => g (u + s) (v + j) :=
  M2.ldf (fun y => (e y).trans (hz y)) _

set_option maxHeartbeats 2000000 in
/-- What the accumulator holds after a grid point. -/
theorem acc (h0 : M2 (n := 2048) (m := 8192) (m ((c.tc : Thread nD τ).loc main_arg1)) f)
    (h1 : M2 (n := 2048) (m := 8192) (m ((c.tc : Thread nD τ).loc main_arg0)) w) (n : ℕ) (hn : n < cfg0.N) :
    M2 (n := 1024) (m := 1024) (outsAt0 m c n hn).2 fun s j => G (2048 * (n % 4 + 1)) f w (1024 * (n / 4 % 2) + s) (1024 * (n / 8) + j) := by
  induction n using Nat.strong_induction_on with
  | _ n ih =>
    obtain ⟨t, rfl⟩ : ∃ t : Fin cfg0.N, t.val = n := ⟨⟨n, hn⟩, rfl⟩
    have ht : t.val < 16 := lt_of_lt_of_eq t.isLt N_0
    have A := in_a h0 t
    have B := in_b h1 t
    intro y
    by_cases c0 : t.val % 4 = 0
    · have hp : M2 (n := 1024) (m := 1024) (k0_pay1 (F := Ideal)) fun s j =>
          G (2048 * (t.val % 4)) f w (1024 * (t.val / 4 % 2) + (0 + s)) (1024 * (t.val / 8) + (0 + j)) := by
        intro y
        rw [c0]
        show Ideal.ofBits .f32 0x00000000#32 = _
        rw [Ideal.ofBits_zero_f32]
        rfl
      have z : ∀ y : (Sh 1024 1024).Idx, View.canon (Val := Elt Ideal) (s := Sh 1024 1024) (e := .f32) [⟨Rect.unit (s := Sh 1024 1024) ![0, 0] ![1024, 1024] inb_S1024x1024_S1024x1024_0_0, k0_pay1 (F := Ideal)⟩] y
          = G (2048 * (t.val % 4)) f w (1024 * (t.val / 4 % 2) + (y 0).val) (1024 * (t.val / 8) + (y 1).val) := fun y => by
        have hy : (y 1).val < 1024 := (y 1).isLt
        have hy0 : (y 0).val < 1024 := (y 0).isLt
        refine store2f (F := fun s j => G (2048 * (t.val % 4)) f w (1024 * (t.val / 4 % 2) + s) (1024 * (t.val / 8) + j)) hp fun n0 => ?_
        omega
      rw [outsAt0_A m c t c0 (by omega)]
      frame_out
      refine both A (B.ldb _) (B.ldb _) ?_ ?_ y
      · refine M2.cov (F := fun s j => G (2048 * (t.val % 4)) f w (1024 * (t.val / 4 % 2) + s) (1024 * (t.val / 8) + j)) _ _ ?_
        intro y _ _ _ _
        exact z y
      · refine M2.cov (F := fun s j => G (2048 * (t.val % 4)) f w (1024 * (t.val / 4 % 2) + s) (1024 * (t.val / 8) + j)) _ _ ?_
        intro y _ _ hy _
        exact skip_col hy (z y)
    · have hp := ih (t.val - 1) (by omega) (by omega)
      have e1 : (t.val - 1) % 4 + 1 = t.val % 4 := by omega
      have e2 : (t.val - 1) / 4 = t.val / 4 := by omega
      have e3 : (t.val - 1) / 8 = t.val / 8 := by omega
      rw [e1, e2, e3] at hp
      by_cases c1 : t.val % 4 = 3
      · rw [outsAt0_C m c t c0 c1]
        frame_out
        generalize (outsAt0 m c (t.val - 1) _).2 = z at hp ⊢
        exact both A (B.ldb _) (B.ldb _) (keep (congrFun (Memref.IsWhole.read_unread _ _)) hp _)
          (keep (congrFun (Memref.IsWhole.read_unread _ _)) hp _) y
      · rw [outsAt0_B m c t c0 c1]
        frame_out
        generalize (outsAt0 m c (t.val - 1) _).2 = z at hp ⊢
        exact both A (B.ldb _) (B.ldb _) (keep (congrFun (Memref.IsWhole.read_unread _ _)) hp _)
          (keep (congrFun (Memref.IsWhole.read_unread _ _)) hp _) y

set_option maxHeartbeats 2000000 in
/-- What the last point of a tile leaves of it. -/
theorem tile (h0 : M2 (n := 2048) (m := 8192) (m ((c.tc : Thread nD τ).loc main_arg1)) f)
    (h1 : M2 (n := 2048) (m := 8192) (m ((c.tc : Thread nD τ).loc main_arg0)) w) (t : Fin cfg0.N) (c1 : t.val % 4 = 3) :
    M2 (n := 1024) (m := 1024) (outsAt0 m c t.val t.isLt).1 fun s j => G 8192 f w (1024 * (t.val / 4 % 2) + s) (1024 * (t.val / 8) + j) := by
  have ht : t.val < 16 := lt_of_lt_of_eq t.isLt N_0
  have A := in_a h0 t
  have B := in_b h1 t
  have hp := acc h0 h1 (t.val - 1) (by omega)
  have e1 : (t.val - 1) % 4 + 1 = t.val % 4 := by omega
  have e2 : (t.val - 1) / 4 = t.val / 4 := by omega
  have e3 : (t.val - 1) / 8 = t.val / 8 := by omega
  rw [e1, e2, e3] at hp
  rw [outsAt0_C m c t (by omega) c1]
  intro y
  frame_out
  generalize (outsAt0 m c (t.val - 1) _).2 = z at hp ⊢
  refine Eq.trans (M2.cov (F := fun s j => G (2048 * (t.val % 4 + 1)) f w (1024 * (t.val / 4 % 2) + s) (1024 * (t.val / 8) + j)) _ _ ?_ y) ?_
  · intro y _ _ _ _
    exact both A (B.ldb _) (B.ldb _) (keep (congrFun (Memref.IsWhole.read_unread _ _)) hp _)
          (keep (congrFun (Memref.IsWhole.read_unread _ _)) hp _) y
  · simp only [c1, Nat.zero_add]

/-- The kernel's result. -/
theorem out (h0 : M2 (n := 2048) (m := 8192) (m ((c.tc : Thread nD τ).loc main_arg1)) f)
    (h1 : M2 (n := 2048) (m := 8192) (m ((c.tc : Thread nD τ).loc main_arg0)) w) :
    M2 (n := 2048) (m := 2048) ((dats m 0 c).arrAt 2 cfg0.N) (G 8192 f w) := by
  refine fun i => congrFun ((dats m 0 c).arrAt_eq_of_covers 2 (fun i => G 8192 f w (i 0).val (i 1).val) (by decide +kernel) fun t ht y => ?_) i
  have e := idx t
  have e0 : ((win0_2.blk t).view.emb y 0 : ℕ) = 1024 * (t.val / 4 % 2) + (y 0).val := by blk_simp [e]; try omega
  have e1 : ((win0_2.blk t).view.emb y 1 : ℕ) = 1024 * (t.val / 8) + (y 1).val := by blk_simp [e]; try omega
  have hl : ∀ t : Fin cfg0.N, (cfg0.win 2).flush t = true → t.val % 4 = 3 := by decide +kernel
  refine Eq.trans ?_ (congrArg₂ (G 8192 f w) e0 e1).symm
  blk_simp
  rw [after0_2]
  exact tile h0 h1 t (hl t ht) y

open Cert.Reference3Ideal.Read in
/-- The reference's result. -/
theorem ref {x0 x1 : S2048x8192.Idx → EReal} (h0 : M2 (n := 2048) (m := 8192) x1 f) (h1 : M2 (n := 2048) (m := 8192) x0 w) :
    M2 (n := 2048) (m := 2048) (val_main_v2 (F := Ideal) x0 x1) (G 8192 f w) := by
  intro i
  rw [val_main_v2_apply]
  refine Eq.trans ?_ (Fin.sum_univ_eq_sum_range (fun k => f (i 0).val k * w (i 1).val k) 8192)
  exact Finset.sum_congr rfl fun k _ => by rw [h0, h1]

/-- Over the reals the kernel's run and the reference's run end with the same product. -/
theorem algebraic : @Cert.algebraic_Kernel3Ideal_Reference3Ideal Cert.Kernel3Ideal.Gen.facts Cert.Reference3Ideal.Gen.facts := by
  intro m g m' g' _ hag
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run m' g')
  obtain ⟨r0, hargs⟩ := h c
  obtain ⟨a0, a1⟩ := hag c
  refine ⟨(r0.trans (Cert.Reference3Ideal.Read.val_main_v2_eq _ _)).trans ?_, hargs⟩
  rw [a0, a1]
  exact M2.eq (ref (M2.elt _) (M2.elt _)) (out (M2.elt _) (M2.elt _))

end Cert.Dh2

end
-- ==== Proof.Dwin.lean ====
/- The gradient of the combined projection in its weights: the kernel's tiles and the reference's array hold the same numbers. -/
module

public import proofs.«01_k».proof.Defs
public import proofs.«01_k».proof.Proof.Prod
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Dwin

open Cert.Kernel4Ideal Cert.Kernel4Ideal.Gen Cert.Prod Idealize.ShloMosaic Idealize.ShloMosaic.TcCoe Idealize.SL.Sem

/-- The product. -/
def G (a b : ℕ → ℕ → EReal) (s j : ℕ) : EReal := ∑ k : Fin 2048, a k s * b k j

variable {f w a b : ℕ → ℕ → EReal}

/-- The product of one store of a tile. -/
theorem part {x : FVec Ideal S2048x2176 .bf16} {y : FVec Ideal S2048x512 .bf16} (hx : M2 (n := 2048) (m := 2176) x a) (hy : M2 (n := 2048) (m := 512) y b) :
    M2 (n := 2176) (m := 512) (k0_pay2 (F := Ideal) x y) (fun s j => ∑ k : Fin 2048, a k s * b k j) := by
  intro i
  have e : matmul (F := Ideal) dot_S2048x2176_S2048x512_S2176x512_0_0_1_1_n_n none
      (shapeCast S2048x2176 x shapeCasts_S2048x2176_S2048x2176) (shapeCast S2048x512 y shapeCasts_S2048x512_S2048x512)
      (constant S2176x512 .f32 0x00000000#32) i = ∑ k : Fin 2048, a k (i 0).val * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![0, t.val % 2] ∧ win0_1.index t = ![0, t.val / 2] ∧ win0_2.index t = ![t.val % 2, t.val / 2] :=
  (by decide +kernel : ∀ t : Fin grid0.N, _)

/-- The cotangent reaches the kernel rounded, over the reals as it is. -/
theorem host_a (c : Dev nD) : (V m c main_v1 : S2048x4352.Idx → EReal) = m ((c.tc : Thread nD τ).loc main_arg1) := rfl

/-- And so does the input. -/
theorem host_b (c : Dev nD) : (V m c main_v0 : S2048x2048.Idx → EReal) = m ((c.tc : Thread nD τ).loc main_arg0) := rfl

variable {m} {c : Dev nD}

/-- The left factor's block of a grid point. -/
theorem in_a (h : M2 (n := 2048) (m := 4352) (m ((c.tc : Thread nD τ).loc main_arg1)) f) (t : Fin cfg0.N) :
    M2 (n := 2048) (m := 2176) (iblk m c 0 t) fun s j => f s (2176 * (t.val % 2) + j) := by
  intro i
  have e := idx t
  have e0 : ((win0_0.blk t).view.emb i 0 : ℕ) = (i 0).val := by blk_simp [e]; try omega
  have e1 : ((win0_0.blk t).view.emb i 1 : ℕ) = 2176 * (t.val % 2) + (i 1).val := by blk_simp [e]; try omega
  blk_simp [iblk]
  rw [host_a]
  refine (h _).trans ?_
  rw [e0, e1]

/-- The right factor's block of a grid point. -/
theorem in_b (h : M2 (n := 2048) (m := 2048) (m ((c.tc : Thread nD τ).loc main_arg0)) w) (t : Fin cfg0.N) :
    M2 (n := 2048) (m := 1024) (iblk m c 1 t) fun s j => w s (1024 * (t.val / 2) + j) := by
  intro i
  have e := idx t
  have e0 : ((win0_1.blk t).view.emb i 0 : ℕ) = (i 0).val := by blk_simp [e]; try omega
  have e1 : ((win0_1.blk t).view.emb i 1 : ℕ) = 1024 * (t.val / 2) + (i 1).val := by blk_simp [e]; try omega
  blk_simp [iblk]
  rw [host_b]
  refine (h _).trans ?_
  rw [e0, e1]

/-- A store of columns `q` to `q + 512` of a tile. -/
theorem cols {t q : ℕ} {x : FVec Ideal S2048x2176 .bf16} {y : FVec Ideal S2048x512 .bf16}
    (hx : M2 (n := 2048) (m := 2176) x fun s j => f (0 + s) (2176 * (t % 2) + (0 + j)))
    (hy : M2 (n := 2048) (m := 512) y fun s j => w (0 + s) (1024 * (t / 2) + (q + j))) :
    M2 (n := 2176) (m := 512) (k0_pay2 (F := Ideal) x y) fun s j => G f w (2176 * (t % 2) + (0 + s)) (1024 * (t / 2) + (q + j)) :=
  (part hx hy).congr fun s j _ _ => by simp only [G, Nat.zero_add]

/-- What the kernel leaves of a tile. -/
theorem tile (h0 : M2 (n := 2048) (m := 4352) (m ((c.tc : Thread nD τ).loc main_arg1)) f)
    (h1 : M2 (n := 2048) (m := 2048) (m ((c.tc : Thread nD τ).loc main_arg0)) w) (t : Fin cfg0.N) :
    M2 (n := 2176) (m := 1024) ((dats m 0 c).after 2 t) fun s j => G f w (2176 * (t.val % 2) + s) (1024 * (t.val / 2) + j) := by
  have A := in_a h0 t
  have B := in_b h1 t
  intro y
  have hy : (y 1).val < 1024 := (y 1).isLt
  have hy0 : (y 0).val < 2176 := (y 0).isLt
  rw [after0_2]
  unfold out0_2
  refine store2b (F := fun s j => G f w (2176 * (t.val % 2) + s) (1024 * (t.val / 2) + j)) (cols (A.ldb _) (B.ldb _)) fun n1 => ?_
  refine store2b (F := fun s j => G f w (2176 * (t.val % 2) + s) (1024 * (t.val / 2) + j)) (cols (A.ldb _) (B.ldb _)) fun n0 => ?_
  omega

/-- The kernel's result. -/
theorem out (h0 : M2 (n := 2048) (m := 4352) (m ((c.tc : Thread nD τ).loc main_arg1)) f)
    (h1 : M2 (n := 2048) (m := 2048) (m ((c.tc : Thread nD τ).loc main_arg0)) w) :
    M2 (n := 4352) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 2176 * (t.val % 2) + (y 0).val := by blk_simp [e]; try omega
  have e1 : ((win0_2.blk t).view.emb y 1 : ℕ) = 1024 * (t.val / 2) + (y 1).val := by blk_simp [e]; try omega
  refine Eq.trans ?_ (congrArg₂ (G f w) e0 e1).symm
  blk_simp
  exact tile h0 h1 t y

open Cert.Reference4Ideal.Read in
/-- The reference's result. -/
theorem ref {x0 : S2048x2048.Idx → EReal} {x1 : S2048x4352.Idx → EReal} (h0 : M2 (n := 2048) (m := 4352) x1 f) (h1 : M2 (n := 2048) (m := 2048) x0 w) :
    M2 (n := 4352) (m := 2048) (val_main_v5 (F := Ideal) x0 x1) (G f w) := by
  intro i
  rw [val_main_v5_apply, val_main_v4_apply, val_main_v3_apply, val_main_v2_apply]
  exact Finset.sum_congr rfl fun k _ => by rw [h0, h1]

/-- Over the reals the kernel's run and the reference's run end with the same product. -/
theorem algebraic : @Cert.algebraic_Kernel4Ideal_Reference4Ideal Cert.Kernel4Ideal.Gen.facts Cert.Reference4Ideal.Gen.facts := by
  intro m g m' g' _ hag
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run m' g')
  obtain ⟨r0, hargs⟩ := h c
  obtain ⟨a0, a1⟩ := hag c
  refine ⟨(r0.trans (Cert.Reference4Ideal.Read.val_main_v5_eq _ _)).trans ?_, hargs⟩
  rw [a0, a1]
  exact M2.eq (ref (M2.elt _) (M2.elt _)) (out (M2.elt _) (M2.elt _))

end Cert.Dwin

end
-- ==== Proof.Dh.lean ====
/- The gradient of the combined projection in its input: the kernel's tiles and the reference's array hold the same numbers. -/
module

public import proofs.«01_k».proof.Defs
public import proofs.«01_k».proof.Proof.Prod
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read

@[expose] public section

set_option maxRecDepth 16384

noncomputable section

namespace Cert.Dh

open Cert.Kernel5Ideal Cert.Kernel5Ideal.Gen Cert.Prod Idealize.ShloMosaic Idealize.ShloMosaic.TcCoe Idealize.SL.Sem

/-- The product. -/
def G (a b : ℕ → ℕ → EReal) (s j : ℕ) : EReal := ∑ k : Fin 4352, a s k * b j k

variable {f w a b : ℕ → ℕ → EReal}

/-- The product of one store of a tile. -/
theorem part {x : FVec Ideal S512x4352 .bf16} {y : FVec Ideal S4352x512 .bf16} (hx : M2 (n := 512) (m := 4352) x a) (hy : M2 (n := 4352) (m := 512) y b) :
    M2 (n := 512) (m := 512) (k0_pay2 (F := Ideal) x y) (fun s j => ∑ k : Fin 4352, a s k * b k j) := by
  intro i
  have e : matmul (F := Ideal) dot_S512x4352_S4352x512_S512x512_1_0_0_1_n_n none
      (shapeCast S512x4352 x shapeCasts_S512x4352_S512x4352) (shapeCast S4352x512 y shapeCasts_S4352x512_S4352x512)
      (constant S512x512 .f32 0x00000000#32) i = ∑ k : Fin 4352, a (i 0).val k * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![t.val % 4, 0] ∧ win0_1.index t = ![0, t.val / 4] ∧ win0_2.index t = ![t.val % 4, t.val / 4] :=
  (by decide +kernel : ∀ t : Fin grid0.N, _)

/-- The cotangent reaches the kernel rounded, over the reals as it is. -/
theorem host_a (c : Dev nD) : (V m c main_v0 : S2048x4352.Idx → EReal) = m ((c.tc : Thread nD τ).loc main_arg1) := rfl

/-- The weights transposed. -/
def tr (x : S2048x4352.Idx → EReal) : S4352x2048.Idx → EReal := transpose (α := EReal) S4352x2048 [1, 0] x transposes_S2048x4352_S4352x2048_1_0

/-- The weights reach the kernel transposed and rounded, over the reals transposed. -/
theorem host_b (c : Dev nD) : (V m c main_v2 : S4352x2048.Idx → EReal) = tr (m ((c.tc : Thread nD τ).loc main_arg0)) := rfl

/-- The transposed weights' elements. -/
theorem tr_elt {x : S2048x4352.Idx → EReal} {w : ℕ → ℕ → EReal} (h : M2 (n := 2048) (m := 4352) x w) (i : S4352x2048.Idx) : tr x i = w (i 1).val (i 0).val := by
  refine (transpose_apply [1, 0] x transposes_S2048x4352_S4352x2048_1_0 i (fun a => match a with
    | ⟨0, _⟩ => ⟨(i 1).val, (i 1).isLt⟩
    | ⟨1, _⟩ => ⟨(i 0).val, (i 0).isLt⟩) (fun b => match b with
    | ⟨0, _⟩ => rfl
    | ⟨1, _⟩ => rfl)).trans ?_
  exact h _

variable {m} {c : Dev nD}

/-- The left factor's block of a grid point. -/
theorem in_a (h : M2 (n := 2048) (m := 4352) (m ((c.tc : Thread nD τ).loc main_arg1)) f) (t : Fin cfg0.N) :
    M2 (n := 512) (m := 4352) (iblk m c 0 t) fun s j => f (512 * (t.val % 4) + s) j := by
  intro i
  have e := idx t
  have e0 : ((win0_0.blk t).view.emb i 0 : ℕ) = 512 * (t.val % 4) + (i 0).val := by blk_simp [e]; try omega
  have e1 : ((win0_0.blk t).view.emb i 1 : ℕ) = (i 1).val := by blk_simp [e]; try omega
  blk_simp [iblk]
  rw [host_a]
  refine (h _).trans ?_
  rw [e0, e1]

/-- The right factor's block of a grid point. -/
theorem in_b (h : M2 (n := 2048) (m := 4352) (m ((c.tc : Thread nD τ).loc main_arg0)) w) (t : Fin cfg0.N) :
    M2 (n := 4352) (m := 1024) (iblk m c 1 t) fun s j => w (1024 * (t.val / 4) + j) s := by
  intro i
  have e := idx t
  have e0 : ((win0_1.blk t).view.emb i 0 : ℕ) = (i 0).val := by blk_simp [e]; try omega
  have e1 : ((win0_1.blk t).view.emb i 1 : ℕ) = 1024 * (t.val / 4) + (i 1).val := by blk_simp [e]; try omega
  blk_simp [iblk]
  rw [host_b]
  refine (tr_elt h _).trans ?_
  rw [e0, e1]

/-- A store of columns `q` to `q + 512` of a tile. -/
theorem cols {t q : ℕ} {x : FVec Ideal S512x4352 .bf16} {y : FVec Ideal S4352x512 .bf16}
    (hx : M2 (n := 512) (m := 4352) x fun s j => f (512 * (t % 4) + s) j)
    (hy : M2 (n := 4352) (m := 512) y fun s j => w (1024 * (t / 4) + (q + j)) (0 + s)) :
    M2 (n := 512) (m := 512) (k0_pay2 (F := Ideal) x y) fun s j => G f w (512 * (t % 4) + (0 + s)) (1024 * (t / 4) + (q + j)) :=
  (part hx hy).congr fun s j _ _ => by simp only [G, Nat.zero_add]

/-- What the kernel leaves of a tile. -/
theorem tile (h0 : M2 (n := 2048) (m := 4352) (m ((c.tc : Thread nD τ).loc main_arg1)) f)
    (h1 : M2 (n := 2048) (m := 4352) (m ((c.tc : Thread nD τ).loc main_arg0)) w) (t : Fin cfg0.N) :
    M2 (n := 512) (m := 1024) ((dats m 0 c).after 2 t) fun s j => G f w (512 * (t.val % 4) + s) (1024 * (t.val / 4) + j) := by
  have A := in_a h0 t
  have B := in_b h1 t
  intro y
  have hy : (y 1).val < 1024 := (y 1).isLt
  have hy0 : (y 0).val < 512 := (y 0).isLt
  rw [after0_2]
  unfold outsAt0
  frame_out
  refine store2f (F := fun s j => G f w (512 * (t.val % 4) + s) (1024 * (t.val / 4) + j)) (cols A (B.ldb _)) fun n1 => ?_
  refine store2f (F := fun s j => G f w (512 * (t.val % 4) + s) (1024 * (t.val / 4) + j)) (cols A (B.ldb _)) fun n0 => ?_
  omega

/-- The kernel's result. -/
theorem out (h0 : M2 (n := 2048) (m := 4352) (m ((c.tc : Thread nD τ).loc main_arg1)) f)
    (h1 : M2 (n := 2048) (m := 4352) (m ((c.tc : Thread nD τ).loc main_arg0)) w) :
    M2 (n := 2048) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 4) + (y 0).val := by blk_simp [e]; try omega
  have e1 : ((win0_2.blk t).view.emb y 1 : ℕ) = 1024 * (t.val / 4) + (y 1).val := by blk_simp [e]; try omega
  refine Eq.trans ?_ (congrArg₂ (G f w) e0 e1).symm
  blk_simp
  exact tile h0 h1 t y

open Cert.Reference5Ideal.Read in
/-- The reference's result. -/
theorem ref {x0 : S2048x4352.Idx → EReal} {x1 : S2048x4352.Idx → EReal} (h0 : M2 (n := 2048) (m := 4352) x1 f) (h1 : M2 (n := 2048) (m := 4352) x0 w) :
    M2 (n := 2048) (m := 2048) (val_main_v2 (F := Ideal) x0 x1) (G f w) := by
  intro i
  rw [val_main_v2_apply]
  exact Finset.sum_congr rfl fun k _ => by rw [h0, h1]

/-- Over the reals the kernel's run and the reference's run end with the same product. -/
theorem algebraic : @Cert.algebraic_Kernel5Ideal_Reference5Ideal Cert.Kernel5Ideal.Gen.facts Cert.Reference5Ideal.Gen.facts := by
  intro m g m' g' _ hag
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run m' g')
  obtain ⟨r0, hargs⟩ := h c
  obtain ⟨a0, a1⟩ := hag c
  refine ⟨(r0.trans (Cert.Reference5Ideal.Read.val_main_v2_eq _ _)).trans ?_, hargs⟩
  rw [a0, a1]
  exact M2.eq (ref (M2.elt _) (M2.elt _)) (out (M2.elt _) (M2.elt _))

end Cert.Dh

end
-- ==== Proof.Dhn.lean ====
/- The gradient of the mixer's output product in its input: the kernel's tiles and the reference's array hold the same numbers. -/
module

public import proofs.«01_k».proof.Defs
public import proofs.«01_k».proof.Proof.Prod
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read

@[expose] public section

set_option maxRecDepth 16384

noncomputable section

namespace Cert.Dhn

open Cert.Kernel6Ideal Cert.Kernel6Ideal.Gen Cert.Prod Idealize.ShloMosaic Idealize.ShloMosaic.TcCoe Idealize.SL.Sem

/-- The product. -/
def G (a b : ℕ → ℕ → EReal) (s j : ℕ) : EReal := ∑ k : Fin 2048, a s k * b j k

variable {f w a b : ℕ → ℕ → EReal}

/-- The product of one store of a tile. -/
theorem part {x : FVec Ideal S512x2048 .bf16} {y : FVec Ideal S512x2048 .bf16} (hx : M2 (n := 512) (m := 2048) x a) (hy : M2 (n := 512) (m := 2048) y b) :
    M2 (n := 512) (m := 512) (k0_pay2 (F := Ideal) x y) (fun s j => ∑ k : Fin 2048, a s k * b j k) := by
  intro i
  have e : matmul (F := Ideal) dot_S512x2048_S512x2048_S512x512_1_1_0_0_n_n none
      (shapeCast S512x2048 x shapeCasts_S512x2048_S512x2048) (shapeCast S512x2048 y shapeCasts_S512x2048_S512x2048)
      (constant S512x512 .f32 0x00000000#32) i = ∑ k : Fin 2048, a (i 0).val k * b (i 1).val k := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![t.val % 4, 0] ∧ win0_1.index t = ![t.val / 4, 0] ∧ win0_2.index t = ![t.val % 4, t.val / 4] :=
  (by decide +kernel : ∀ t : Fin grid0.N, _)

/-- The cotangent reaches the kernel rounded, over the reals as it is. -/
theorem host_a (c : Dev nD) : (V m c main_v0 : S2048x2048.Idx → EReal) = m ((c.tc : Thread nD τ).loc main_arg1) := rfl

/-- And so do the weights. -/
theorem host_b (c : Dev nD) : (V m c main_v1 : S2048x2048.Idx → EReal) = m ((c.tc : Thread nD τ).loc main_arg0) := rfl

variable {m} {c : Dev nD}

/-- The left factor's block of a grid point. -/
theorem in_a (h : M2 (n := 2048) (m := 2048) (m ((c.tc : Thread nD τ).loc main_arg1)) f) (t : Fin cfg0.N) :
    M2 (n := 512) (m := 2048) (iblk m c 0 t) fun s j => f (512 * (t.val % 4) + s) j := by
  intro i
  have e := idx t
  have e0 : ((win0_0.blk t).view.emb i 0 : ℕ) = 512 * (t.val % 4) + (i 0).val := by blk_simp [e]; try omega
  have e1 : ((win0_0.blk t).view.emb i 1 : ℕ) = (i 1).val := by blk_simp [e]; try omega
  blk_simp [iblk]
  rw [host_a]
  refine (h _).trans ?_
  rw [e0, e1]

/-- The right factor's block of a grid point. -/
theorem in_b (h : M2 (n := 2048) (m := 2048) (m ((c.tc : Thread nD τ).loc main_arg0)) w) (t : Fin cfg0.N) :
    M2 (n := 1024) (m := 2048) (iblk m c 1 t) fun s j => w (1024 * (t.val / 4) + s) j := by
  intro i
  have e := idx t
  have e0 : ((win0_1.blk t).view.emb i 0 : ℕ) = 1024 * (t.val / 4) + (i 0).val := by blk_simp [e]; try omega
  have e1 : ((win0_1.blk t).view.emb i 1 : ℕ) = (i 1).val := by blk_simp [e]; try omega
  blk_simp [iblk]
  rw [host_b]
  refine (h _).trans ?_
  rw [e0, e1]

/-- A store of columns `q` to `q + 512` of a tile. -/
theorem cols {t q : ℕ} {x : FVec Ideal S512x2048 .bf16} {y : FVec Ideal S512x2048 .bf16}
    (hx : M2 (n := 512) (m := 2048) x fun s j => f (512 * (t % 4) + s) j)
    (hy : M2 (n := 512) (m := 2048) y fun s j => w (1024 * (t / 4) + (q + s)) (0 + j)) :
    M2 (n := 512) (m := 512) (k0_pay2 (F := Ideal) x y) fun s j => G f w (512 * (t % 4) + (0 + s)) (1024 * (t / 4) + (q + j)) :=
  (part hx hy).congr fun s j _ _ => by simp only [G, Nat.zero_add]

/-- What the kernel leaves of a tile. -/
theorem tile (h0 : M2 (n := 2048) (m := 2048) (m ((c.tc : Thread nD τ).loc main_arg1)) f)
    (h1 : M2 (n := 2048) (m := 2048) (m ((c.tc : Thread nD τ).loc main_arg0)) w) (t : Fin cfg0.N) :
    M2 (n := 512) (m := 1024) ((dats m 0 c).after 2 t) fun s j => G f w (512 * (t.val % 4) + s) (1024 * (t.val / 4) + j) := by
  have A := in_a h0 t
  have B := in_b h1 t
  intro y
  have hy : (y 1).val < 1024 := (y 1).isLt
  have hy0 : (y 0).val < 512 := (y 0).isLt
  rw [after0_2]
  unfold outsAt0
  frame_out
  refine store2f (F := fun s j => G f w (512 * (t.val % 4) + s) (1024 * (t.val / 4) + j)) (cols A (B.ldb _)) fun n1 => ?_
  refine store2f (F := fun s j => G f w (512 * (t.val % 4) + s) (1024 * (t.val / 4) + j)) (cols A (B.ldb _)) fun n0 => ?_
  omega

/-- The kernel's result. -/
theorem out (h0 : M2 (n := 2048) (m := 2048) (m ((c.tc : Thread nD τ).loc main_arg1)) f)
    (h1 : M2 (n := 2048) (m := 2048) (m ((c.tc : Thread nD τ).loc main_arg0)) w) :
    M2 (n := 2048) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 4) + (y 0).val := by blk_simp [e]; try omega
  have e1 : ((win0_2.blk t).view.emb y 1 : ℕ) = 1024 * (t.val / 4) + (y 1).val := by blk_simp [e]; try omega
  refine Eq.trans ?_ (congrArg₂ (G f w) e0 e1).symm
  blk_simp
  exact tile h0 h1 t y

open Cert.Reference6Ideal.Read in
/-- The reference's result. -/
theorem ref {x0 : S2048x2048.Idx → EReal} {x1 : S2048x2048.Idx → EReal} (h0 : M2 (n := 2048) (m := 2048) x1 f) (h1 : M2 (n := 2048) (m := 2048) x0 w) :
    M2 (n := 2048) (m := 2048) (val_main_v2 (F := Ideal) x0 x1) (G f w) := by
  intro i
  rw [val_main_v2_apply]
  exact Finset.sum_congr rfl fun k _ => by rw [h0, h1]

/-- Over the reals the kernel's run and the reference's run end with the same product. -/
theorem algebraic : @Cert.algebraic_Kernel6Ideal_Reference6Ideal Cert.Kernel6Ideal.Gen.facts Cert.Reference6Ideal.Gen.facts := by
  intro m g m' g' _ hag
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run m' g')
  obtain ⟨r0, hargs⟩ := h c
  obtain ⟨a0, a1⟩ := hag c
  refine ⟨(r0.trans (Cert.Reference6Ideal.Read.val_main_v2_eq _ _)).trans ?_, hargs⟩
  rw [a0, a1]
  exact M2.eq (ref (M2.elt _) (M2.elt _)) (out (M2.elt _) (M2.elt _))

end Cert.Dhn

end
-- ==== Proof.Dw2.lean ====
/- The gradient of the channel mixer's second product in its weights: the kernel's tiles and the reference's array hold the same numbers. -/
module

public import proofs.«01_k».proof.Defs
public import proofs.«01_k».proof.Proof.Prod
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read

@[expose] public section

set_option maxRecDepth 16384

noncomputable section

namespace Cert.Dw2

open Cert.Kernel7Ideal Cert.Kernel7Ideal.Gen Cert.Prod Idealize.ShloMosaic Idealize.ShloMosaic.TcCoe Idealize.SL.Sem

/-- The square of the positive part. -/
def sq (x : EReal) : EReal := max x 0 * max x 0

/-- The gradient: the squared positive parts transposed times the cotangent. -/
def G (a b : ℕ → ℕ → EReal) (s j : ℕ) : EReal := ∑ k : Fin 2048, sq (a k s) * b k j

variable {f w a b : ℕ → ℕ → EReal}

/-- The product of one store of a tile. -/
theorem part {x : FVec Ideal S2048x512 .bf16} {y : FVec Ideal S2048x512 .bf16} (hx : M2 (n := 2048) (m := 512) x a) (hy : M2 (n := 2048) (m := 512) y b) :
    M2 (n := 512) (m := 512) (k0_pay2 (F := Ideal) x y) (fun s j => ∑ k : Fin 2048, a k s * b k j) := by
  intro i
  have e : matmul (F := Ideal) dot_S2048x512_S2048x512_S512x512_0_0_1_1_n_n none
      (shapeCast S2048x512 x shapeCasts_S2048x512_S2048x512) (shapeCast S2048x512 y shapeCasts_S2048x512_S2048x512)
      (constant S512x512 .f32 0x00000000#32) i = ∑ k : Fin 2048, a k (i 0).val * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![0, t.val % 16] ∧ win0_1.index t = ![0, t.val / 16] ∧ win0_2.index t = ![t.val % 16, t.val / 16] :=
  (by decide +kernel : ∀ t : Fin grid0.N, _)

/-- The squared ReLU of a matrix. -/
def act (x : S2048x8192.Idx → EReal) : S2048x8192.Idx → EReal := fun i => sq (x i)

/-- The squared ReLU of a matrix, element by element. -/
theorem act_elt {x : S2048x8192.Idx → EReal} (h : M2 (n := 2048) (m := 8192) x f) :
    M2 (n := 2048) (m := 8192) (act x) fun s j => sq (f s j) := fun i => congrArg sq (h i)

/-- The left factor the host makes: the squared ReLU. -/
theorem host_a (c : Dev nD) : (V m c main_v3 : S2048x8192.Idx → EReal) = act (m ((c.tc : Thread nD τ).loc main_arg0)) := by
  have e : (V m c main_v3 : S2048x8192.Idx → EReal) = fun i =>
      max (α := EReal) (m ((c.tc : Thread nD τ).loc main_arg0) i) (Ideal.ofBits .f32 0x00000000#32)
        * max (α := EReal) (m ((c.tc : Thread nD τ).loc main_arg0) i) (Ideal.ofBits .f32 0x00000000#32) := rfl
  rw [e, Ideal.ofBits_zero_f32]
  rfl

/-- The cotangent reaches the kernel rounded, over the reals as it is. -/
theorem host_b (c : Dev nD) : (V m c main_v4 : S2048x2048.Idx → EReal) = m ((c.tc : Thread nD τ).loc main_arg2) := rfl

variable {m} {c : Dev nD}

/-- The left factor's block of a grid point. -/
theorem in_a (h : M2 (n := 2048) (m := 8192) (m ((c.tc : Thread nD τ).loc main_arg0)) f) (t : Fin cfg0.N) :
    M2 (n := 2048) (m := 512) (iblk m c 0 t) fun s j => sq (f s (512 * (t.val % 16) + j)) := by
  intro i
  have e := idx t
  have e0 : ((win0_0.blk t).view.emb i 0 : ℕ) = (i 0).val := by blk_simp [e]; try omega
  have e1 : ((win0_0.blk t).view.emb i 1 : ℕ) = 512 * (t.val % 16) + (i 1).val := by blk_simp [e]; try omega
  blk_simp [iblk]
  rw [host_a]
  refine (act_elt h _).trans ?_
  rw [e0, e1]

/-- The right factor's block of a grid point. -/
theorem in_b (h : M2 (n := 2048) (m := 2048) (m ((c.tc : Thread nD τ).loc main_arg2)) w) (t : Fin cfg0.N) :
    M2 (n := 2048) (m := 2048) (iblk m c 1 t) fun s j => w s (2048 * (t.val / 16) + j) := by
  intro i
  have e := idx t
  have e0 : ((win0_1.blk t).view.emb i 0 : ℕ) = (i 0).val := by blk_simp [e]; try omega
  have e1 : ((win0_1.blk t).view.emb i 1 : ℕ) = 2048 * (t.val / 16) + (i 1).val := by blk_simp [e]; try omega
  blk_simp [iblk]
  rw [host_b]
  refine (h _).trans ?_
  rw [e0, e1]

/-- A store of columns `q` to `q + 512` of a tile. -/
theorem cols {t q : ℕ} {x : FVec Ideal S2048x512 .bf16} {y : FVec Ideal S2048x512 .bf16}
    (hx : M2 (n := 2048) (m := 512) x fun s j => sq (f (0 + s) (512 * (t % 16) + (0 + j))))
    (hy : M2 (n := 2048) (m := 512) y fun s j => w (0 + s) (2048 * (t / 16) + (q + j))) :
    M2 (n := 512) (m := 512) (k0_pay2 (F := Ideal) x y) fun s j => G f w (512 * (t % 16) + (0 + s)) (2048 * (t / 16) + (q + j)) :=
  (part hx hy).congr fun s j _ _ => by simp only [G, Nat.zero_add]

/-- What the kernel leaves of a tile. -/
theorem tile (h0 : M2 (n := 2048) (m := 8192) (m ((c.tc : Thread nD τ).loc main_arg0)) f)
    (h1 : M2 (n := 2048) (m := 2048) (m ((c.tc : Thread nD τ).loc main_arg2)) w) (t : Fin cfg0.N) :
    M2 (n := 512) (m := 2048) ((dats m 0 c).after 2 t) fun s j => G f w (512 * (t.val % 16) + s) (2048 * (t.val / 16) + j) := by
  have A := in_a h0 t
  have B := in_b h1 t
  intro y
  have hy : (y 1).val < 2048 := (y 1).isLt
  have hy0 : (y 0).val < 512 := (y 0).isLt
  rw [after0_2]
  unfold out0_2
  refine store2b (F := fun s j => G f w (512 * (t.val % 16) + s) (2048 * (t.val / 16) + j)) (cols (A.ldb _) (B.ldb _)) fun n3 => ?_
  refine store2b (F := fun s j => G f w (512 * (t.val % 16) + s) (2048 * (t.val / 16) + j)) (cols (A.ldb _) (B.ldb _)) fun n2 => ?_
  refine store2b (F := fun s j => G f w (512 * (t.val % 16) + s) (2048 * (t.val / 16) + j)) (cols (A.ldb _) (B.ldb _)) fun n1 => ?_
  refine store2b (F := fun s j => G f w (512 * (t.val % 16) + s) (2048 * (t.val / 16) + j)) (cols (A.ldb _) (B.ldb _)) fun n0 => ?_
  omega

/-- The kernel's result. -/
theorem out (h0 : M2 (n := 2048) (m := 8192) (m ((c.tc : Thread nD τ).loc main_arg0)) f)
    (h1 : M2 (n := 2048) (m := 2048) (m ((c.tc : Thread nD τ).loc main_arg2)) w) :
    M2 (n := 8192) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 16) + (y 0).val := by blk_simp [e]; try omega
  have e1 : ((win0_2.blk t).view.emb y 1 : ℕ) = 2048 * (t.val / 16) + (y 1).val := by blk_simp [e]; try omega
  refine Eq.trans ?_ (congrArg₂ (G f w) e0 e1).symm
  blk_simp
  exact tile h0 h1 t y

open Cert.Reference7Ideal.Read in
/-- The reference's result. -/
theorem ref {x0 : S2048x8192.Idx → EReal} {x2 : S2048x2048.Idx → EReal} (h0 : M2 (n := 2048) (m := 8192) x0 f) (h1 : M2 (n := 2048) (m := 2048) x2 w) :
    M2 (n := 8192) (m := 2048) (val_main_v5 (F := Ideal) x0 x2) (G f w) := by
  intro i
  rw [val_main_v5_apply, val_main_v4_apply, val_main_v3_apply]
  refine Finset.sum_congr rfl fun k _ => ?_
  rw [h1, val_main_v1_apply, val_main_v0_apply, val_main_call0_v0_apply, val_main_call0_cst_apply, h0, mul_comm]
  simp only [Ideal.ofBits_def, Ideal.ofBits_zero_f32]
  rfl

/-- Over the reals the kernel's run and the reference's run end with the same product. -/
theorem algebraic : @Cert.algebraic_Kernel7Ideal_Reference7Ideal Cert.Kernel7Ideal.Gen.facts Cert.Reference7Ideal.Gen.facts := by
  intro m g m' g' _ hag
  refine ⟨fun c => (dats m 0 c).arrAt 2 cfg0.N, Cert.Kernel7Ideal.Value.run_blocks m g, ?_⟩
  refine (θ_run Cert.Reference7Ideal.defs _ _).mono (fun r h c => ?_) (Cert.Reference7Ideal.Value.run m' g')
  obtain ⟨r0, hargs⟩ := h c
  obtain ⟨a0, _, a2⟩ := hag c
  refine ⟨(r0.trans (Cert.Reference7Ideal.Read.val_main_v5_eq _ _)).trans ?_, hargs⟩
  rw [a0, a2]
  exact M2.eq (ref (M2.elt _) (M2.elt _)) (out (M2.elt _) (M2.elt _))

end Cert.Dw2

end
-- ==== Proof.Dw1.lean ====
/- The gradient of the channel mixer's first product in its weights: the kernel's tiles and the reference's array hold the same numbers. -/
module

public import proofs.«01_k».proof.Defs
public import proofs.«01_k».proof.Proof.Prod
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read

@[expose] public section

set_option maxRecDepth 16384

noncomputable section

namespace Cert.Dw1

open Cert.Kernel8Ideal Cert.Kernel8Ideal.Gen Cert.Prod Idealize.ShloMosaic Idealize.ShloMosaic.TcCoe Idealize.SL.Sem

/-- The product. -/
def G (a b : ℕ → ℕ → EReal) (s j : ℕ) : EReal := ∑ k : Fin 2048, a k s * b k j

variable {f w a b : ℕ → ℕ → EReal}

/-- Two stacks of matrices given by one function are equal. -/
theorem stack_eq {p n m : ℕ} {x y : (Sh3 p n m).Idx → EReal} {F : ℕ → ℕ → ℕ → EReal} (hx : M3 x F) (hy : M3 y F) : x = y :=
  funext fun i => (hx i).trans (hy i).symm

/-- One store of columns of a stack of one matrix. -/
theorem store {q : ℕ} {F : ℕ → ℕ → EReal} {inb : ∀ k, ![0, 0, q] k + ![1, 512, 512] k ≤ S1x512x2048.size k}
    {v : (Rect.unit (s := S1x512x2048) ![0, 0, q] ![1, 512, 512] inb).shape.Idx → Elt Ideal .bf16}
    {L : List (View.Piece (Elt Ideal) S1x512x2048 .bf16)} {y : S1x512x2048.Idx}
    (hv : M3 (p := 1) (n := 512) (m := 512) v fun _ s j => F s (q + j))
    (hL : ¬(q ≤ (y 2).val ∧ (y 2).val < q + 512) → View.canon L y = F (y 1).val (y 2).val) :
    View.canon (⟨Rect.unit (s := S1x512x2048) ![0, 0, q] ![1, 512, 512] inb, v⟩ :: L) y = F (y 1).val (y 2).val := by
  have h0 : (y 0).val < 1 := (y 0).isLt
  have h1 : (y 1).val < 512 := (y 1).isLt
  refine store_step (fun x hx => (hv x).trans ?_) fun h => hL fun h2 => h fun k => ?_
  · have e1 : (y 1).val = 0 + (x 1).val := hx 1
    have e2 : (y 2).val = q + (x 2).val := hx 2
    exact congrArg₂ F (by omega) e2.symm
  · match k with
    | ⟨0, _⟩ => exact ⟨Nat.zero_le _, by show (y 0).val < 0 + 1; omega⟩
    | ⟨1, _⟩ => exact ⟨Nat.zero_le _, by show (y 1).val < 0 + 512; omega⟩
    | ⟨2, _⟩ => exact h2

/-- The product of one store of a tile. -/
theorem part {x : FVec Ideal S2048x512 .bf16} {y : FVec Ideal S2048x512 .bf16} (hx : M2 (n := 2048) (m := 512) x a) (hy : M2 (n := 2048) (m := 512) y b) :
    M3 (p := 1) (n := 512) (m := 512) (k0_pay3 (F := Ideal) x y) (fun _ s j => ∑ k : Fin 2048, a k s * b k j) := by
  intro i
  have e : ∀ l : S512x512.Idx, matmul (F := Ideal) dot_S2048x512_S2048x512_S512x512_0_0_1_1_n_n none
      (shapeCast S2048x512 x shapeCasts_S2048x512_S2048x512) (shapeCast S2048x512 y shapeCasts_S2048x512_S2048x512)
      (constant S512x512 .f32 0x00000000#32) l = ∑ k : Fin 2048, a k (l 0).val * b k (l 1).val := by
    intro l
    simp only [pointwise]
    exact dot_sum (fun k => hx _) (fun k => hy _)
  unfold k0_pay3
  refine (shapeCast_addUnit_apply ![512, 512] _ shapeCasts_S512x512_S1x512x512 i).trans ?_
  exact e _

variable (m : (ℓ : Loc nD τ sig) → Buf (Elt Ideal) ℓ)

/-- The index maps of the windows. -/
theorem idx : ∀ t : Fin cfg0.N, win0_0.index t = ![0, t.val % 4] ∧ win0_1.index t = ![0, t.val / 4] ∧ win0_2.index t = ![t.val / 4, t.val % 4, 0] :=
  (by decide +kernel : ∀ t : Fin grid0.N, _)

/-- The input reaches the kernel rounded, over the reals as it is. -/
theorem host_a (c : Dev nD) : (V m c main_v0 : S2048x2048.Idx → EReal) = m ((c.tc : Thread nD τ).loc main_arg0) := rfl

/-- And so does the cotangent. -/
theorem host_b (c : Dev nD) : (V m c main_v1 : S2048x8192.Idx → EReal) = m ((c.tc : Thread nD τ).loc main_arg1) := rfl

variable {m} {c : Dev nD}

/-- The left factor's block of a grid point. -/
theorem in_a (h : M2 (n := 2048) (m := 2048) (m ((c.tc : Thread nD τ).loc main_arg0)) f) (t : Fin cfg0.N) :
    M2 (n := 2048) (m := 512) (iblk m c 0 t) fun s j => f s (512 * (t.val % 4) + j) := by
  intro i
  have e := idx t
  have e0 : ((win0_0.blk t).view.emb i 0 : ℕ) = (i 0).val := by blk_simp [e]; try omega
  have e1 : ((win0_0.blk t).view.emb i 1 : ℕ) = 512 * (t.val % 4) + (i 1).val := by blk_simp [e]; try omega
  blk_simp [iblk]
  rw [host_a]
  refine (h _).trans ?_
  rw [e0, e1]

/-- The right factor's block of a grid point. -/
theorem in_b (h : M2 (n := 2048) (m := 8192) (m ((c.tc : Thread nD τ).loc main_arg1)) w) (t : Fin cfg0.N) :
    M2 (n := 2048) (m := 2048) (iblk m c 1 t) fun s j => w s (2048 * (t.val / 4) + j) := by
  intro i
  have e := idx t
  have e0 : ((win0_1.blk t).view.emb i 0 : ℕ) = (i 0).val := by blk_simp [e]; try omega
  have e1 : ((win0_1.blk t).view.emb i 1 : ℕ) = 2048 * (t.val / 4) + (i 1).val := by blk_simp [e]; try omega
  blk_simp [iblk]
  rw [host_b]
  refine (h _).trans ?_
  rw [e0, e1]

/-- A store of columns `q` to `q + 512` of a tile. -/
theorem cols {t q : ℕ} {x : FVec Ideal S2048x512 .bf16} {y : FVec Ideal S2048x512 .bf16}
    (hx : M2 (n := 2048) (m := 512) x fun s j => f s (512 * (t % 4) + j))
    (hy : M2 (n := 2048) (m := 512) y fun s j => w (0 + s) (2048 * (t / 4) + (q + j))) :
    M3 (p := 1) (n := 512) (m := 512) (k0_pay3 (F := Ideal) x y) fun _ s j => G f w (512 * (t % 4) + s) (2048 * (t / 4) + (q + j)) :=
  fun i => (part hx hy i).trans (by simp only [G, Nat.zero_add])

/-- What the kernel leaves of a tile. -/
theorem tile (h0 : M2 (n := 2048) (m := 2048) (m ((c.tc : Thread nD τ).loc main_arg0)) f)
    (h1 : M2 (n := 2048) (m := 8192) (m ((c.tc : Thread nD τ).loc main_arg1)) w) (t : Fin cfg0.N) :
    M3 (p := 1) (n := 512) (m := 2048) (outsAt0 m c t) fun _ s j => G f w (512 * (t.val % 4) + s) (2048 * (t.val / 4) + j) := by
  have A := in_a h0 t
  have B := in_b h1 t
  intro y
  have hy : (y 2).val < 2048 := (y 2).isLt
  unfold outsAt0
  frame_out
  refine store (F := fun s j => G f w (512 * (t.val % 4) + s) (2048 * (t.val / 4) + j)) (cols A (B.ldb _)) fun n3 => ?_
  refine store (F := fun s j => G f w (512 * (t.val % 4) + s) (2048 * (t.val / 4) + j)) (cols A (B.ldb _)) fun n2 => ?_
  refine store (F := fun s j => G f w (512 * (t.val % 4) + s) (2048 * (t.val / 4) + j)) (cols A (B.ldb _)) fun n1 => ?_
  refine store (F := fun s j => G f w (512 * (t.val % 4) + s) (2048 * (t.val / 4) + j)) (cols A (B.ldb _)) fun n0 => ?_
  omega

/-- The kernel's result: the columns in four groups. -/
theorem out (h0 : M2 (n := 2048) (m := 2048) (m ((c.tc : Thread nD τ).loc main_arg0)) f)
    (h1 : M2 (n := 2048) (m := 8192) (m ((c.tc : Thread nD τ).loc main_arg1)) w) :
    M3 (p := 4) (n := 2048) (m := 2048) ((dats m 0 c).arrAt 2 cfg0.N) fun r s j => G f w s (2048 * r + j) := by
  refine fun i => congrFun ((dats m 0 c).arrAt_eq_of_covers 2 (fun i => G f w (i 1).val (2048 * (i 0).val + (i 2).val)) (by decide +kernel) fun t _ y => ?_) i
  have e := idx t
  have hy0 : (y 0).val < 1 := (y 0).isLt
  have e0 : ((win0_2.blk t).view.emb y 0 : ℕ) = t.val / 4 := by blk_simp [e]; try omega
  have e1 : ((win0_2.blk t).view.emb y 1 : ℕ) = 512 * (t.val % 4) + (y 1).val := by blk_simp [e]; try omega
  have e2 : ((win0_2.blk t).view.emb y 2 : ℕ) = (y 2).val := by blk_simp [e]; try omega
  refine Eq.trans ?_ (congrArg₂ (G f w) e1 (congrArg₂ (fun a b => 2048 * a + b) e0 e2)).symm
  blk_simp
  rw [after0_2]
  exact tile h0 h1 t y

open Cert.Reference8Ideal.Read in
/-- The reference's result. -/
theorem ref {x0 : S2048x2048.Idx → EReal} {x1 : S2048x8192.Idx → EReal} (h0 : M2 (n := 2048) (m := 2048) x0 f) (h1 : M2 (n := 2048) (m := 8192) x1 w) :
    M3 (p := 4) (n := 2048) (m := 2048) (val_main_v6 (F := Ideal) x0 x1) fun r s j => G f w s (2048 * r + j) := by
  intro i
  have b0 : (i 0).val < 4 := (i 0).isLt
  have b1 : (i 1).val < 2048 := (i 1).isLt
  have b2 : (i 2).val < 2048 := (i 2).isLt
  have e0 : (((i 1).val * 4 + (i 0).val) * 2048 + (i 2).val) / 8192 = (i 1).val := by omega
  have e1 : (((i 1).val * 4 + (i 0).val) * 2048 + (i 2).val) % 8192 = 2048 * (i 0).val + (i 2).val := by omega
  rw [val_main_v6_apply, val_main_v5_apply, val_main_v4_apply, val_main_v3_apply, val_main_v2_apply]
  refine Finset.sum_congr rfl fun k _ => ?_
  rw [h0, h1, mul_comm]
  exact congrArg₂ (fun s j => f k.val s * w k.val j) e0 e1

/-- Over the reals the kernel's run and the reference's run end with the same product. -/
theorem algebraic : @Cert.algebraic_Kernel8Ideal_Reference8Ideal Cert.Kernel8Ideal.Gen.facts Cert.Reference8Ideal.Gen.facts := by
  intro m g m' g' _ hag
  refine ⟨fun c => (dats m 0 c).arrAt 2 cfg0.N, Cert.Kernel8Ideal.Value.run_blocks m g, ?_⟩
  refine (θ_run Cert.Reference8Ideal.defs _ _).mono (fun r h c => ?_) (Cert.Reference8Ideal.Value.run m' g')
  obtain ⟨r0, hargs⟩ := h c
  obtain ⟨a0, a1⟩ := hag c
  refine ⟨(r0.trans (Cert.Reference8Ideal.Read.val_main_v6_eq _ _)).trans ?_, hargs⟩
  rw [a0, a1]
  exact stack_eq (ref (M2.elt _) (M2.elt _)) (out (M2.elt _) (M2.elt _))

end Cert.Dw1

end
-- ==== Proof.Dwo.lean ====
/- The gradient of the mixer's output product in its weights: the kernel's tiles and the reference's array hold the same numbers. -/
module

public import proofs.«01_k».proof.Defs
public import proofs.«01_k».proof.Proof.Prod
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read

@[expose] public section

set_option maxRecDepth 16384

noncomputable section

namespace Cert.Dwo

open Cert.Kernel9Ideal Cert.Kernel9Ideal.Gen Cert.Prod Idealize.ShloMosaic Idealize.ShloMosaic.TcCoe Idealize.SL.Sem

/-- The product. -/
def G (a b : ℕ → ℕ → EReal) (s j : ℕ) : EReal := ∑ k : Fin 2048, a k s * b k j

variable {f w a b : ℕ → ℕ → EReal}

/-- The product of one store of a tile. -/
theorem part {x : FVec Ideal S2048x512 .bf16} {y : FVec Ideal S2048x512 .bf16} (hx : M2 (n := 2048) (m := 512) x a) (hy : M2 (n := 2048) (m := 512) y b) :
    M2 (n := 512) (m := 512) (k0_pay2 (F := Ideal) x y) (fun s j => ∑ k : Fin 2048, a k s * b k j) := by
  intro i
  have e : matmul (F := Ideal) dot_S2048x512_S2048x512_S512x512_0_0_1_1_n_n none
      (shapeCast S2048x512 x shapeCasts_S2048x512_S2048x512) (shapeCast S2048x512 y shapeCasts_S2048x512_S2048x512)
      (constant S512x512 .f32 0x00000000#32) i = ∑ k : Fin 2048, a k (i 0).val * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![0, t.val % 4] ∧ win0_1.index t = ![0, t.val / 4] ∧ win0_2.index t = ![t.val % 4, t.val / 4] :=
  (by decide +kernel : ∀ t : Fin grid0.N, _)

/-- The input reaches the kernel rounded, over the reals as it is. -/
theorem host_a (c : Dev nD) : (V m c main_v0 : S2048x2048.Idx → EReal) = m ((c.tc : Thread nD τ).loc main_arg0) := rfl

/-- And so does the cotangent. -/
theorem host_b (c : Dev nD) : (V m c main_v1 : S2048x2048.Idx → EReal) = m ((c.tc : Thread nD τ).loc main_arg1) := rfl

variable {m} {c : Dev nD}

/-- The left factor's block of a grid point. -/
theorem in_a (h : M2 (n := 2048) (m := 2048) (m ((c.tc : Thread nD τ).loc main_arg0)) f) (t : Fin cfg0.N) :
    M2 (n := 2048) (m := 512) (iblk m c 0 t) fun s j => f s (512 * (t.val % 4) + j) := by
  intro i
  have e := idx t
  have e0 : ((win0_0.blk t).view.emb i 0 : ℕ) = (i 0).val := by blk_simp [e]; try omega
  have e1 : ((win0_0.blk t).view.emb i 1 : ℕ) = 512 * (t.val % 4) + (i 1).val := by blk_simp [e]; try omega
  blk_simp [iblk]
  rw [host_a]
  refine (h _).trans ?_
  rw [e0, e1]

/-- The right factor's block of a grid point. -/
theorem in_b (h : M2 (n := 2048) (m := 2048) (m ((c.tc : Thread nD τ).loc main_arg1)) w) (t : Fin cfg0.N) :
    M2 (n := 2048) (m := 1024) (iblk m c 1 t) fun s j => w s (1024 * (t.val / 4) + j) := by
  intro i
  have e := idx t
  have e0 : ((win0_1.blk t).view.emb i 0 : ℕ) = (i 0).val := by blk_simp [e]; try omega
  have e1 : ((win0_1.blk t).view.emb i 1 : ℕ) = 1024 * (t.val / 4) + (i 1).val := by blk_simp [e]; try omega
  blk_simp [iblk]
  rw [host_b]
  refine (h _).trans ?_
  rw [e0, e1]

/-- A store of columns `q` to `q + 512` of a tile. -/
theorem cols {t q : ℕ} {x : FVec Ideal S2048x512 .bf16} {y : FVec Ideal S2048x512 .bf16}
    (hx : M2 (n := 2048) (m := 512) x fun s j => f (0 + s) (512 * (t % 4) + (0 + j)))
    (hy : M2 (n := 2048) (m := 512) y fun s j => w (0 + s) (1024 * (t / 4) + (q + j))) :
    M2 (n := 512) (m := 512) (k0_pay2 (F := Ideal) x y) fun s j => G f w (512 * (t % 4) + (0 + s)) (1024 * (t / 4) + (q + j)) :=
  (part hx hy).congr fun s j _ _ => by simp only [G, Nat.zero_add]

/-- What the kernel leaves of a tile. -/
theorem tile (h0 : M2 (n := 2048) (m := 2048) (m ((c.tc : Thread nD τ).loc main_arg0)) f)
    (h1 : M2 (n := 2048) (m := 2048) (m ((c.tc : Thread nD τ).loc main_arg1)) w) (t : Fin cfg0.N) :
    M2 (n := 512) (m := 1024) ((dats m 0 c).after 2 t) fun s j => G f w (512 * (t.val % 4) + s) (1024 * (t.val / 4) + j) := by
  have A := in_a h0 t
  have B := in_b h1 t
  intro y
  have hy : (y 1).val < 1024 := (y 1).isLt
  have hy0 : (y 0).val < 512 := (y 0).isLt
  rw [after0_2]
  unfold out0_2
  refine store2b (F := fun s j => G f w (512 * (t.val % 4) + s) (1024 * (t.val / 4) + j)) (cols (A.ldb _) (B.ldb _)) fun n1 => ?_
  refine store2b (F := fun s j => G f w (512 * (t.val % 4) + s) (1024 * (t.val / 4) + j)) (cols (A.ldb _) (B.ldb _)) fun n0 => ?_
  omega

/-- The kernel's result. -/
theorem out (h0 : M2 (n := 2048) (m := 2048) (m ((c.tc : Thread nD τ).loc main_arg0)) f)
    (h1 : M2 (n := 2048) (m := 2048) (m ((c.tc : Thread nD τ).loc main_arg1)) w) :
    M2 (n := 2048) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 4) + (y 0).val := by blk_simp [e]; try omega
  have e1 : ((win0_2.blk t).view.emb y 1 : ℕ) = 1024 * (t.val / 4) + (y 1).val := by blk_simp [e]; try omega
  refine Eq.trans ?_ (congrArg₂ (G f w) e0 e1).symm
  blk_simp
  exact tile h0 h1 t y

open Cert.Reference9Ideal.Read in
/-- The reference's result. -/
theorem ref {x0 : S2048x2048.Idx → EReal} {x1 : S2048x2048.Idx → EReal} (h0 : M2 (n := 2048) (m := 2048) x0 f) (h1 : M2 (n := 2048) (m := 2048) x1 w) :
    M2 (n := 2048) (m := 2048) (val_main_v4 (F := Ideal) x0 x1) (G f w) := by
  intro i
  rw [val_main_v4_apply, val_main_v3_apply, val_main_v2_apply]
  exact Finset.sum_congr rfl fun k _ => by rw [h0, h1, mul_comm]

/-- Over the reals the kernel's run and the reference's run end with the same product. -/
theorem algebraic : @Cert.algebraic_Kernel9Ideal_Reference9Ideal Cert.Kernel9Ideal.Gen.facts Cert.Reference9Ideal.Gen.facts := by
  intro m g m' g' _ hag
  refine ⟨fun c => (dats m 0 c).arrAt 2 cfg0.N, Cert.Kernel9Ideal.Value.run_blocks m g, ?_⟩
  refine (θ_run Cert.Reference9Ideal.defs _ _).mono (fun r h c => ?_) (Cert.Reference9Ideal.Value.run m' g')
  obtain ⟨r0, hargs⟩ := h c
  obtain ⟨a0, a1⟩ := hag c
  refine ⟨(r0.trans (Cert.Reference9Ideal.Read.val_main_v4_eq _ _)).trans ?_, hargs⟩
  rw [a0, a1]
  exact M2.eq (ref (M2.elt _) (M2.elt _)) (out (M2.elt _) (M2.elt _))

end Cert.Dwo

end
-- ==== Proof.Proj.lean ====
/- The combined projection: the kernel's tiles and the reference's array hold the same numbers. -/
module

public import proofs.«01_k».proof.Defs
public import proofs.«01_k».proof.Proof.Prod
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

namespace Cert.Proj

open Cert.Kernel10Ideal Cert.Kernel10Ideal.Gen Cert.Prod Idealize.ShloMosaic Idealize.ShloMosaic.TcCoe Idealize.SL.Sem

/-- The product. -/
def G (a b : ℕ → ℕ → EReal) (s j : ℕ) : EReal := ∑ k : Fin 2048, a s k * b k j

variable {f w a b : ℕ → ℕ → EReal}

/-- The product of one store of a tile. -/
theorem part {x : FVec Ideal S512x2048 .bf16} {y : FVec Ideal S2176x2048 .bf16} (hx : M2 (n := 512) (m := 2048) x a) (hy : M2 (n := 2176) (m := 2048) y b) :
    M2 (n := 512) (m := 2176) (k0_pay1 (F := Ideal) x y) (fun s j => ∑ k : Fin 2048, a s k * b j k) := by
  intro i
  have e : matmul (F := Ideal) dot_S512x2048_S2176x2048_S512x2176_1_1_0_0_n_n none
      (shapeCast S512x2048 x shapeCasts_S512x2048_S512x2048) (shapeCast S2176x2048 y shapeCasts_S2176x2048_S2176x2048)
      (constant S512x2176 .f32 0x00000000#32) i = ∑ k : Fin 2048, a (i 0).val k * b (i 1).val k := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![t.val % 4, 0] ∧ win0_1.index t = ![t.val / 4, 0] ∧ win0_2.index t = ![t.val % 4, t.val / 4] :=
  (by decide +kernel : ∀ t : Fin grid0.N, _)

/-- The input reaches the kernel rounded, over the reals as it is. -/
theorem host_a (c : Dev nD) : (V m c main_v0 : S2048x2048.Idx → EReal) = m ((c.tc : Thread nD τ).loc main_arg0) := rfl

/-- The weights transposed. -/
def tr (x : S2048x4352.Idx → EReal) : S4352x2048.Idx → EReal := transpose (α := EReal) S4352x2048 [1, 0] x transposes_S2048x4352_S4352x2048_1_0

/-- The weights reach the kernel transposed and rounded, over the reals transposed. -/
theorem host_b (c : Dev nD) : (V m c main_v2 : S4352x2048.Idx → EReal) = tr (m ((c.tc : Thread nD τ).loc main_arg1)) := rfl

/-- The transposed weights' elements. -/
theorem tr_elt {x : S2048x4352.Idx → EReal} {w : ℕ → ℕ → EReal} (h : M2 (n := 2048) (m := 4352) x w) (i : S4352x2048.Idx) : tr x i = w (i 1).val (i 0).val := by
  refine (transpose_apply [1, 0] x transposes_S2048x4352_S4352x2048_1_0 i (fun a => match a with
    | ⟨0, _⟩ => ⟨(i 1).val, (i 1).isLt⟩
    | ⟨1, _⟩ => ⟨(i 0).val, (i 0).isLt⟩) (fun b => match b with
    | ⟨0, _⟩ => rfl
    | ⟨1, _⟩ => rfl)).trans ?_
  exact h _

variable {m} {c : Dev nD}

/-- The left factor's block of a grid point. -/
theorem in_a (h : M2 (n := 2048) (m := 2048) (m ((c.tc : Thread nD τ).loc main_arg0)) f) (t : Fin cfg0.N) :
    M2 (n := 512) (m := 2048) (iblk m c 0 t) fun s j => f (512 * (t.val % 4) + s) j := by
  intro i
  have e := idx t
  have e0 : ((win0_0.blk t).view.emb i 0 : ℕ) = 512 * (t.val % 4) + (i 0).val := by blk_simp [e]; try omega
  have e1 : ((win0_0.blk t).view.emb i 1 : ℕ) = (i 1).val := by blk_simp [e]; try omega
  blk_simp [iblk]
  rw [host_a]
  refine (h _).trans ?_
  rw [e0, e1]

/-- The right factor's block of a grid point. -/
theorem in_b (h : M2 (n := 2048) (m := 4352) (m ((c.tc : Thread nD τ).loc main_arg1)) w) (t : Fin cfg0.N) :
    M2 (n := 2176) (m := 2048) (iblk m c 1 t) fun s j => w j (2176 * (t.val / 4) + s) := by
  intro i
  have e := idx t
  have e0 : ((win0_1.blk t).view.emb i 0 : ℕ) = 2176 * (t.val / 4) + (i 0).val := by blk_simp [e]; try omega
  have e1 : ((win0_1.blk t).view.emb i 1 : ℕ) = (i 1).val := by blk_simp [e]; try omega
  blk_simp [iblk]
  rw [host_b]
  refine (tr_elt h _).trans ?_
  rw [e0, e1]

/-- What the kernel leaves of a tile. -/
theorem tile (h0 : M2 (n := 2048) (m := 2048) (m ((c.tc : Thread nD τ).loc main_arg0)) f)
    (h1 : M2 (n := 2048) (m := 4352) (m ((c.tc : Thread nD τ).loc main_arg1)) w) (t : Fin cfg0.N) :
    M2 (n := 512) (m := 2176) ((dats m 0 c).after 2 t) fun s j => G f w (512 * (t.val % 4) + s) (2176 * (t.val / 4) + j) := by
  have A := in_a h0 t
  have B := in_b h1 t
  intro y
  rw [after0_2]
  unfold outsAt0
  frame_out
  exact part A B y

/-- The kernel's result. -/
theorem out (h0 : M2 (n := 2048) (m := 2048) (m ((c.tc : Thread nD τ).loc main_arg0)) f)
    (h1 : M2 (n := 2048) (m := 4352) (m ((c.tc : Thread nD τ).loc main_arg1)) w) :
    M2 (n := 2048) (m := 4352) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 4) + (y 0).val := by blk_simp [e]; try omega
  have e1 : ((win0_2.blk t).view.emb y 1 : ℕ) = 2176 * (t.val / 4) + (y 1).val := by blk_simp [e]; try omega
  refine Eq.trans ?_ (congrArg₂ (G f w) e0 e1).symm
  blk_simp
  exact tile h0 h1 t y

open Cert.Reference10Ideal.Read in
/-- The reference's result. -/
theorem ref {x0 : S2048x2048.Idx → EReal} {x1 : S2048x4352.Idx → EReal} (h0 : M2 (n := 2048) (m := 2048) x0 f) (h1 : M2 (n := 2048) (m := 4352) x1 w) :
    M2 (n := 2048) (m := 4352) (val_main_v0 (F := Ideal) x0 x1) (G f w) := by
  intro i
  rw [val_main_v0_apply]
  exact Finset.sum_congr rfl fun k _ => by rw [h0, h1]

/-- Over the reals the kernel's run and the reference's run end with the same product. -/
theorem algebraic : @Cert.algebraic_Kernel10Ideal_Reference10Ideal Cert.Kernel10Ideal.Gen.facts Cert.Reference10Ideal.Gen.facts := by
  intro m g m' g' _ hag
  refine ⟨fun c => (dats m 0 c).arrAt 2 cfg0.N, Cert.Kernel10Ideal.Value.run_blocks m g, ?_⟩
  refine (θ_run Cert.Reference10Ideal.defs _ _).mono (fun r h c => ?_) (Cert.Reference10Ideal.Value.run m' g')
  obtain ⟨r0, hargs⟩ := h c
  obtain ⟨a0, a1⟩ := hag c
  refine ⟨(r0.trans (Cert.Reference10Ideal.Read.val_main_v0_eq _ _)).trans ?_, hargs⟩
  rw [a0, a1]
  exact M2.eq (ref (M2.elt _) (M2.elt _)) (out (M2.elt _) (M2.elt _))

end Cert.Proj

end
-- ==== Proof.Wo.lean ====
/- The mixer's output product with the residual stream, and the norm of the sum: the kernel's tiles and the reference's
   arrays hold the same numbers. -/
module

public import proofs.«01_k».proof.Defs
public import proofs.«01_k».proof.Proof.Prod
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read

@[expose] public section

set_option maxRecDepth 16384

noncomputable section

namespace Cert.Wo

open Cert.Kernel11Ideal Cert.Kernel11Ideal.Gen Cert.Prod Idealize.ShloMosaic Idealize.ShloMosaic.TcCoe Idealize.SL.Sem

/-- The residual stream after the product. -/
def G (f w r : ℕ → ℕ → EReal) (s j : ℕ) : EReal := (∑ k : Fin 2048, f s k * w k j) + r s j

/-- The reciprocal root mean square of a row. -/
def rs (x : ℕ → ℕ → EReal) (s : ℕ) : EReal :=
  Ideal.rsqrt (Ideal.div (∑ k : Fin 2048, x s k * x s k) (Ideal.ofBits .f32 0x45000000#32) + Ideal.ofBits .f32 0x358637BD#32)

/-- The norm of a matrix's rows, times a gain. -/
def H (x g : ℕ → ℕ → EReal) (s j : ℕ) : EReal := x s j * rs x s * g 0 j

variable {f w r g a b : ℕ → ℕ → EReal}

/-- The sums of the squares of the rows of a tile, as a column. -/
theorem squares {x : FVec Ideal S512x2048 .f32} (hx : M2 (n := 512) (m := 2048) x a) :
    M2 (n := 512) (m := 1) (shapeCast S512x1 (multiReduction (F := Ideal) .add [1] S512 (mulf x x) 0x00000000#32 reduces_S512x2048_S512 (.inl rfl) rfl)
      shapeCasts_S512_S512x1) fun s _ => ∑ k : Fin 2048, a s k * a s k := by
  intro i
  rw [shapeCast_apply _ shapeCasts_S512_S512x1 i (ix1 (i 0)) (by
    have h1 : (i 1).val = 0 := by have := (i 1).isLt; change (i 1).val < 1 at this; omega
    rw [Shape.rowMajor_val_one, Shape.rowMajor_val_two, h1]
    show (i 0).val = (i 0).val * 1 + 0
    omega)]
  refine (Ideal.multiReduction_add_single (s := S512x2048) (a := (1 : Fin 2)) _ _ reduces_S512x2048_S512 (.inl rfl) rfl _).trans ?_
  exact Finset.sum_congr rfl fun k _ => congrArg₂ (· * ·) (hx _) (hx _)

/-- A column repeated along the rows. -/
theorem col {x : S512x1.Idx → EReal} (hx : M2 (n := 512) (m := 1) x a) :
    M2 (n := 512) (m := 2048) (broadcastTo S512x2048 x broadcasts_S512x1_S512x2048) fun s _ => a s 0 := by
  intro i
  rw [broadcastTo_apply x broadcasts_S512x1_S512x2048 i (ix2 (i 0) 0) (fun c => by
    match c with
    | ⟨0, _⟩ => rfl
    | ⟨1, _⟩ => rfl)]
  exact hx _

/-- A row repeated down the columns. -/
theorem row {x : S1x2048.Idx → EReal} (hx : M2 (n := 1) (m := 2048) x a) :
    M2 (n := 512) (m := 2048) (broadcastTo S512x2048 x broadcasts_S1x2048_S512x2048) fun _ j => a 0 j := by
  intro i
  rw [broadcastTo_apply x broadcasts_S1x2048_S512x2048 i (ix2 0 (i 1)) (fun c => by
    match c with
    | ⟨0, _⟩ => rfl
    | ⟨1, _⟩ => rfl)]
  exact hx _

variable {x : FVec Ideal S512x2048 .bf16} {y : FVec Ideal S2048x2048 .bf16} {z : FVec Ideal S512x2048 .f32} {u : FVec Ideal S1x2048 .f32}

/-- The residual stream of a tile. -/
theorem part (hx : M2 (n := 512) (m := 2048) x a) (hy : M2 (n := 2048) (m := 2048) y b) (hz : M2 (n := 512) (m := 2048) z r) :
    M2 (n := 512) (m := 2048) (k0_pay1 (F := Ideal) x y z) (G a b r) := by
  intro i
  have e : matmul (F := Ideal) dot_S512x2048_S2048x2048_S512x2048_1_0_0_1_n_n none
      (shapeCast S512x2048 x shapeCasts_S512x2048_S512x2048) (shapeCast S2048x2048 y shapeCasts_S2048x2048_S2048x2048)
      (constant S512x2048 .f32 0x00000000#32) i = ∑ k : Fin 2048, a (i 0).val k * b k (i 1).val := by
    simp only [pointwise]
    exact dot_sum (fun k => hx _) (fun k => hy _)
  exact congrArg₂ (· + ·) e (hz i)

/-- The norm of a tile's rows. -/
theorem norm (hx : M2 (n := 512) (m := 2048) x a) (hy : M2 (n := 2048) (m := 2048) y b) (hz : M2 (n := 512) (m := 2048) z r)
    (hu : M2 (n := 1) (m := 2048) u g) : M2 (n := 512) (m := 2048) (k0_pay2 (F := Ideal) x y z u) (H (G a b r) g) := by
  have hp := part hx hy hz
  unfold k0_pay2
  generalize k0_pay1 (F := Ideal) x y z = p at hp ⊢
  have hr : M2 (n := 512) (m := 1) (rsqrt (F := Ideal) (φ := .f32) (addf (divf (shapeCast S512x1 (multiReduction (F := Ideal) .add [1] S512 (mulf p p) 0x00000000#32 reduces_S512x2048_S512 (.inl rfl) rfl)
      shapeCasts_S512_S512x1) (broadcast S512x1 (Scalar.ofBits (F := Ideal) .f32 0x45000000#32))) (broadcast S512x1 (Scalar.ofBits (F := Ideal) .f32 0x358637BD#32))))
      fun s _ => rs (G a b r) s :=
    fun i => congrArg (fun q : EReal => Ideal.rsqrt (Ideal.div q (Ideal.ofBits .f32 0x45000000#32) + Ideal.ofBits .f32 0x358637BD#32)) (squares hp i)
  intro i
  exact congrArg₂ (· * ·) (congrArg₂ (· * ·) (hp i) (col hr i)) (row hu i)

variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The mixer's output reaches the kernel rounded, over the reals as it is. -/
theorem host_a (c : Dev nD) : (V m c main_v0 : S2048x2048.Idx → EReal) = m ((c.tc : Thread nD τ).loc main_arg1) := rfl

/-- And so do the weights. -/
theorem host_b (c : Dev nD) : (V m c main_v1 : S2048x2048.Idx → EReal) = m ((c.tc : Thread nD τ).loc main_arg2) := rfl

/-- The residual stream reaches it as it is. -/
theorem host_r (c : Dev nD) : (V m c main_arg0 : S2048x2048.Idx → EReal) = m ((c.tc : Thread nD τ).loc main_arg0) := rfl

/-- And so does the gain. -/
theorem host_g (c : Dev nD) : (V m c main_arg3 : S1x2048.Idx → EReal) = m ((c.tc : Thread nD τ).loc main_arg3) := rfl

variable {m} {c : Dev nD}

/-- The mixer's output's rows of a grid point. -/
theorem in_a (h : M2 (n := 2048) (m := 2048) (m ((c.tc : Thread nD τ).loc main_arg1)) f) (t : Fin cfg0.N) :
    M2 (n := 512) (m := 2048) (iblk m c 0 t) fun s j => f (512 * t.val + s) j := by
  intro i
  have e := idx t
  have e0 : ((win0_0.blk t).view.emb i 0 : ℕ) = 512 * t.val + (i 0).val := by blk_simp [e]; try omega
  have e1 : ((win0_0.blk t).view.emb i 1 : ℕ) = (i 1).val := by blk_simp [e]; try omega
  blk_simp [iblk]
  rw [host_a]
  refine (h _).trans ?_
  rw [e0, e1]

/-- The weights, at every grid point. -/
theorem in_b (h : M2 (n := 2048) (m := 2048) (m ((c.tc : Thread nD τ).loc main_arg2)) w) (t : Fin cfg0.N) :
    M2 (n := 2048) (m := 2048) (iblk m c 1 t) w := by
  intro i
  have e := idx t
  have e0 : ((win0_1.blk t).view.emb i 0 : ℕ) = (i 0).val := by blk_simp [e]; try omega
  have e1 : ((win0_1.blk t).view.emb i 1 : ℕ) = (i 1).val := by blk_simp [e]; try omega
  blk_simp [iblk]
  rw [host_b]
  refine (h _).trans ?_
  rw [e0, e1]

/-- The residual stream's rows of a grid point. -/
theorem in_r (h : M2 (n := 2048) (m := 2048) (m ((c.tc : Thread nD τ).loc main_arg0)) r) (t : Fin cfg0.N) :
    M2 (n := 512) (m := 2048) (iblk m c 2 t) fun s j => r (512 * t.val + s) j := by
  intro i
  have e := idx t
  have e0 : ((win0_2.blk t).view.emb i 0 : ℕ) = 512 * t.val + (i 0).val := by blk_simp [e]; try omega
  have e1 : ((win0_2.blk t).view.emb i 1 : ℕ) = (i 1).val := by blk_simp [e]; try omega
  blk_simp [iblk]
  rw [host_r]
  refine (h _).trans ?_
  rw [e0, e1]

/-- The gain, at every grid point. -/
theorem in_g (h : M2 (n := 1) (m := 2048) (m ((c.tc : Thread nD τ).loc main_arg3)) g) (t : Fin cfg0.N) :
    M2 (n := 1) (m := 2048) (iblk m c 3 t) g := by
  intro i
  have e := idx t
  have z : (i 0).val = 0 := Nat.lt_one_iff.mp (i 0).isLt
  have e0 : ((win0_3.blk t).view.emb i 0 : ℕ) = 0 := by blk_simp [e]; try omega
  have e1 : ((win0_3.blk t).view.emb i 1 : ℕ) = (i 1).val := by blk_simp [e]; try omega
  blk_simp [iblk]
  rw [host_g]
  refine (h _).trans ?_
  rw [e0, e1]

/-- Loads of whole blocks. -/
theorem whole {n m : ℕ} {v : (Sh n m).Idx → EReal} (hv : M2 v fun s j => a (0 + s) (0 + j)) : M2 v a :=
  hv.congr fun s j _ _ => by rw [Nat.zero_add, Nat.zero_add]

/-- What the kernel leaves of a tile of the residual stream. -/
theorem tile4 (h0 : M2 (n := 2048) (m := 2048) (m ((c.tc : Thread nD τ).loc main_arg0)) r)
    (h1 : M2 (n := 2048) (m := 2048) (m ((c.tc : Thread nD τ).loc main_arg1)) f)
    (h2 : M2 (n := 2048) (m := 2048) (m ((c.tc : Thread nD τ).loc main_arg2)) w) (t : Fin cfg0.N) :
    M2 (n := 512) (m := 2048) ((dats m 0 c).after 4 t) fun s j => G f w r (512 * t.val + s) j := by
  intro y
  have hy0 : (y 0).val < 512 := (y 0).isLt
  have hy : (y 1).val < 2048 := (y 1).isLt
  rw [after0_4]
  unfold out0_4
  refine store2f (F := fun s j => G f w r (512 * t.val + s) j) ((part (whole (a := fun s j => f (512 * t.val + s) j) ((in_a h1 t).ldb _)) (whole (a := w) ((in_b h2 t).ldb _)) (whole (a := fun s j => r (512 * t.val + s) j) ((in_r h0 t).ldf _))).congr
    fun s j _ _ => by simp only [G, Nat.zero_add]) fun n0 => ?_
  omega

/-- What the kernel leaves of a tile of the norm. -/
theorem tile5 (h0 : M2 (n := 2048) (m := 2048) (m ((c.tc : Thread nD τ).loc main_arg0)) r)
    (h1 : M2 (n := 2048) (m := 2048) (m ((c.tc : Thread nD τ).loc main_arg1)) f)
    (h2 : M2 (n := 2048) (m := 2048) (m ((c.tc : Thread nD τ).loc main_arg2)) w)
    (h3 : M2 (n := 1) (m := 2048) (m ((c.tc : Thread nD τ).loc main_arg3)) g) (t : Fin cfg0.N) :
    M2 (n := 512) (m := 2048) ((dats m 0 c).after 5 t) fun s j => H (G f w r) g (512 * t.val + s) j := by
  intro y
  have hy0 : (y 0).val < 512 := (y 0).isLt
  have hy : (y 1).val < 2048 := (y 1).isLt
  rw [after0_5]
  unfold out0_5
  refine store2b (F := fun s j => H (G f w r) g (512 * t.val + s) j) ((norm (whole (a := fun s j => f (512 * t.val + s) j) ((in_a h1 t).ldb _)) (whole (a := w) ((in_b h2 t).ldb _)) (whole (a := fun s j => r (512 * t.val + s) j) ((in_r h0 t).ldf _))
    (whole (a := g) ((in_g h3 t).ldf _))).congr fun s j _ _ => by simp only [H, rs, G, Nat.zero_add]) fun n0 => ?_
  omega

/-- The kernel's residual stream. -/
theorem out4 (h0 : M2 (n := 2048) (m := 2048) (m ((c.tc : Thread nD τ).loc main_arg0)) r)
    (h1 : M2 (n := 2048) (m := 2048) (m ((c.tc : Thread nD τ).loc main_arg1)) f)
    (h2 : M2 (n := 2048) (m := 2048) (m ((c.tc : Thread nD τ).loc main_arg2)) w) :
    M2 (n := 2048) (m := 2048) ((dats m 0 c).arrAt 4 cfg0.N) (G f w r) := by
  refine fun i => congrFun ((dats m 0 c).arrAt_eq_of_covers 4 (fun i => G f w r (i 0).val (i 1).val) (by decide +kernel) fun t _ y => ?_) i
  have e := idx t
  have e0 : ((win0_4.blk t).view.emb y 0 : ℕ) = 512 * t.val + (y 0).val := by blk_simp [e]; try omega
  have e1 : ((win0_4.blk t).view.emb y 1 : ℕ) = (y 1).val := by blk_simp [e]; try omega
  refine Eq.trans ?_ (congrArg₂ (G f w r) e0 e1).symm
  blk_simp
  exact tile4 h0 h1 h2 t y

/-- The kernel's norm. -/
theorem out5 (h0 : M2 (n := 2048) (m := 2048) (m ((c.tc : Thread nD τ).loc main_arg0)) r)
    (h1 : M2 (n := 2048) (m := 2048) (m ((c.tc : Thread nD τ).loc main_arg1)) f)
    (h2 : M2 (n := 2048) (m := 2048) (m ((c.tc : Thread nD τ).loc main_arg2)) w)
    (h3 : M2 (n := 1) (m := 2048) (m ((c.tc : Thread nD τ).loc main_arg3)) g) :
    M2 (n := 2048) (m := 2048) ((dats m 0 c).arrAt 5 cfg0.N) (H (G f w r) g) := by
  refine fun i => congrFun ((dats m 0 c).arrAt_eq_of_covers 5 (fun i => H (G f w r) g (i 0).val (i 1).val) (by decide +kernel) fun t _ y => ?_) i
  have e := idx t
  have e0 : ((win0_5.blk t).view.emb y 0 : ℕ) = 512 * t.val + (y 0).val := by blk_simp [e]; try omega
  have e1 : ((win0_5.blk t).view.emb y 1 : ℕ) = (y 1).val := by blk_simp [e]; try omega
  refine Eq.trans ?_ (congrArg₂ (H (G f w r) g) e0 e1).symm
  blk_simp
  exact tile5 h0 h1 h2 h3 t y

section
open Cert.Reference11Ideal.Read
variable {x0 x1 x2 : S2048x2048.Idx → EReal} {x3 : S1x2048.Idx → EReal}

/-- The reference's residual stream. -/
theorem ref1 (h0 : M2 (n := 2048) (m := 2048) x0 r) (h1 : M2 (n := 2048) (m := 2048) x1 f) (h2 : M2 (n := 2048) (m := 2048) x2 w) :
    M2 (n := 2048) (m := 2048) (val_main_v1 (F := Ideal) x0 x1 x2) (G f w r) := by
  intro i
  rw [val_main_v1_apply, val_main_v0_apply, h0]
  have e : ∑ k : Fin 2048, x1 (lidx_main_v0 i k) * x2 (ridx_main_v0 i k) = ∑ k : Fin 2048, f (i 0).val k * w k (i 1).val :=
    Finset.sum_congr rfl fun k _ => by rw [h1, h2]
  rw [e]
  exact add_comm _ _

/-- The reference's norm. -/
theorem ref2 (h0 : M2 (n := 2048) (m := 2048) x0 r) (h1 : M2 (n := 2048) (m := 2048) x1 f) (h2 : M2 (n := 2048) (m := 2048) x2 w)
    (h3 : M2 (n := 1) (m := 2048) x3 g) :
    M2 (n := 2048) (m := 2048) (val_main_v14 (F := Ideal) x0 x1 x2 x3) (H (G f w r) g) := by
  intro i
  have hp := ref1 h0 h1 h2
  have e : ∀ k : Cert.Reference11Ideal.S2048.Idx, val_main_v3 (F := Ideal) x0 x1 x2 k = ∑ j : Fin 2048, G f w r (k 0).val j * G f w r (k 0).val j := by
    intro k
    rw [val_main_v3_apply, val_main_cst_apply, Ideal.ofBits_def, Ideal.ofBits_zero_f32, zero_add]
    refine Finset.sum_congr rfl fun j _ => ?_
    rw [val_main_v2_apply, hp]
    rfl
  rw [val_main_v14_apply, val_main_v13_apply, val_main_v11_apply, val_main_v10_apply, val_main_v9_apply, val_main_v8_apply,
    val_main_v6_apply, val_main_v4_apply, e, val_main_v5_apply, val_main_cst_0_apply, val_main_v7_apply, val_main_cst_1_apply,
    val_main_v12_apply, hp, h3]
  rfl

end

/-- Over the reals the kernel's run and the reference's run end with the same residual stream and the same norm. -/
theorem algebraic : @Cert.algebraic_Kernel11Ideal_Reference11Ideal Cert.Kernel11Ideal.Gen.facts Cert.Reference11Ideal.Gen.facts := by
  intro m g m' g' _ hag
  refine ⟨fun c => (dats m 0 c).arrAt 4 cfg0.N, fun c => (dats m 0 c).arrAt 5 cfg0.N, Cert.Kernel11Ideal.Value.run_blocks m g, ?_⟩
  refine (θ_run Cert.Reference11Ideal.defs _ _).mono (fun r h c => ?_) (Cert.Reference11Ideal.Value.run m' g')
  obtain ⟨r0, r1, hargs⟩ := h c
  obtain ⟨a0, a1, a2, a3⟩ := hag c
  refine ⟨(r0.trans (Cert.Reference11Ideal.Read.val_main_v1_eq _ _ _)).trans ?_,
    (r1.trans (Cert.Reference11Ideal.Read.val_main_v14_eq _ _ _ _)).trans ?_, hargs⟩
  · rw [a0, a1, a2]
    exact M2.eq (ref1 (M2.elt _) (M2.elt _) (M2.elt _)) (out4 (M2.elt _) (M2.elt _) (M2.elt _))
  · rw [a0, a1, a2, a3]
    exact M2.eq (ref2 (M2.elt _) (M2.elt _) (M2.elt _) (M2.elt _)) (out5 (M2.elt _) (M2.elt _) (M2.elt _) (M2.elt _))

end Cert.Wo

end
-- ==== Proof.Kvs.lean ====
/- The memory's keys and values: the kernel's tiles and the reference's array hold the same numbers. -/
module

public import proofs.«01_k».proof.Defs
public import proofs.«01_k».proof.Proof.Prod
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read

@[expose] public section

set_option maxRecDepth 16384

noncomputable section

namespace Cert.Kvs

open Cert.Kernel12Ideal Cert.Kernel12Ideal.Gen Cert.Prod Idealize.ShloMosaic Idealize.ShloMosaic.TcCoe Idealize.SL.Sem

/-- The product. -/
def G (a b : ℕ → ℕ → EReal) (s j : ℕ) : EReal := ∑ k : Fin 2048, a s k * b k j

variable {f w a b : ℕ → ℕ → EReal}

/-- The product of one store of a tile. -/
theorem part {x : FVec Ideal S256x2048 .bf16} {y : FVec Ideal S2048x512 .bf16} (hx : M2 (n := 256) (m := 2048) x a) (hy : M2 (n := 2048) (m := 512) y b) :
    M2 (n := 256) (m := 512) (k0_pay2 (F := Ideal) x y) (fun s j => ∑ k : Fin 2048, a s k * b k j) := by
  intro i
  have e : matmul (F := Ideal) dot_S256x2048_S2048x512_S256x512_1_0_0_1_n_n none
      (shapeCast S256x2048 x shapeCasts_S256x2048_S256x2048) (shapeCast S2048x512 y shapeCasts_S2048x512_S2048x512)
      (constant S256x512 .f32 0x00000000#32) i = ∑ k : Fin 2048, a (i 0).val k * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![t.val % 1, 0] ∧ win0_1.index t = ![0, t.val / 1] ∧ win0_2.index t = ![t.val % 1, t.val / 1] :=
  (by decide +kernel : ∀ t : Fin grid0.N, _)

/-- The input reaches the kernel rounded, over the reals as it is. -/
theorem host_a (c : Dev nD) : (V m c main_v0 : S256x2048.Idx → EReal) = m ((c.tc : Thread nD τ).loc main_arg0) := rfl

/-- And so do the weights. -/
theorem host_b (c : Dev nD) : (V m c main_v1 : S2048x1024.Idx → EReal) = m ((c.tc : Thread nD τ).loc main_arg1) := rfl

variable {m} {c : Dev nD}

/-- The left factor's block of a grid point. -/
theorem in_a (h : M2 (n := 256) (m := 2048) (m ((c.tc : Thread nD τ).loc main_arg0)) f) (t : Fin cfg0.N) :
    M2 (n := 256) (m := 2048) (iblk m c 0 t) fun s j => f (256 * (t.val % 1) + s) j := by
  intro i
  have e := idx t
  have hz : t.val = 0 := Nat.lt_one_iff.mp t.isLt
  have e0 : ((win0_0.blk t).view.emb i 0 : ℕ) = 256 * (t.val % 1) + (i 0).val := by blk_simp [e]; try omega
  have e1 : ((win0_0.blk t).view.emb i 1 : ℕ) = (i 1).val := by blk_simp [e]; try omega
  blk_simp [iblk]
  rw [host_a]
  refine (h _).trans ?_
  rw [e0, e1, hz]

/-- The right factor's block of a grid point. -/
theorem in_b (h : M2 (n := 2048) (m := 1024) (m ((c.tc : Thread nD τ).loc main_arg1)) w) (t : Fin cfg0.N) :
    M2 (n := 2048) (m := 1024) (iblk m c 1 t) fun s j => w s (1024 * (t.val / 1) + j) := by
  intro i
  have e := idx t
  have hz : t.val = 0 := Nat.lt_one_iff.mp t.isLt
  have e0 : ((win0_1.blk t).view.emb i 0 : ℕ) = (i 0).val := by blk_simp [e]; try omega
  have e1 : ((win0_1.blk t).view.emb i 1 : ℕ) = 1024 * (t.val / 1) + (i 1).val := by blk_simp [e]; try omega
  blk_simp [iblk]
  rw [host_b]
  refine (h _).trans ?_
  rw [e0, e1, hz]

/-- A store of columns `q` to `q + 512` of a tile. -/
theorem cols {t q : ℕ} {x : FVec Ideal S256x2048 .bf16} {y : FVec Ideal S2048x512 .bf16}
    (hx : M2 (n := 256) (m := 2048) x fun s j => f (256 * (t % 1) + (0 + s)) (0 + j))
    (hy : M2 (n := 2048) (m := 512) y fun s j => w (0 + s) (1024 * (t / 1) + (q + j))) :
    M2 (n := 256) (m := 512) (k0_pay2 (F := Ideal) x y) fun s j => G f w (256 * (t % 1) + (0 + s)) (1024 * (t / 1) + (q + j)) :=
  (part hx hy).congr fun s j _ _ => by simp only [G, Nat.zero_add]

/-- What the kernel leaves of a tile. -/
theorem tile (h0 : M2 (n := 256) (m := 2048) (m ((c.tc : Thread nD τ).loc main_arg0)) f)
    (h1 : M2 (n := 2048) (m := 1024) (m ((c.tc : Thread nD τ).loc main_arg1)) w) (t : Fin cfg0.N) :
    M2 (n := 256) (m := 1024) ((dats m 0 c).after 2 t) fun s j => G f w (256 * (t.val % 1) + s) (1024 * (t.val / 1) + j) := by
  have A := in_a h0 t
  have B := in_b h1 t
  intro y
  have hy : (y 1).val < 1024 := (y 1).isLt
  have hy0 : (y 0).val < 256 := (y 0).isLt
  rw [after0_2]
  unfold out0_2
  refine store2f (F := fun s j => G f w (256 * (t.val % 1) + s) (1024 * (t.val / 1) + j)) (cols (A.ldb _) (B.ldb _)) fun n1 => ?_
  refine store2f (F := fun s j => G f w (256 * (t.val % 1) + s) (1024 * (t.val / 1) + j)) (cols (A.ldb _) (B.ldb _)) fun n0 => ?_
  omega

/-- The kernel's result. -/
theorem out (h0 : M2 (n := 256) (m := 2048) (m ((c.tc : Thread nD τ).loc main_arg0)) f)
    (h1 : M2 (n := 2048) (m := 1024) (m ((c.tc : Thread nD τ).loc main_arg1)) w) :
    M2 (n := 256) (m := 1024) ((dats m 0 c).arrAt 2 cfg0.N) (G f w) := by
  refine fun i => congrFun ((dats m 0 c).arrAt_eq_of_covers 2 (fun i => G f w (i 0).val (i 1).val) (by decide +kernel) fun t _ y => ?_) i
  have e := idx t
  have hz : t.val = 0 := Nat.lt_one_iff.mp t.isLt
  have e0 : ((win0_2.blk t).view.emb y 0 : ℕ) = 256 * (t.val % 1) + (y 0).val := by blk_simp [e]; try omega
  have e1 : ((win0_2.blk t).view.emb y 1 : ℕ) = 1024 * (t.val / 1) + (y 1).val := by blk_simp [e]; try omega
  refine Eq.trans ?_ (congrArg₂ (G f w) e0 e1).symm
  blk_simp
  exact (tile h0 h1 t y).trans (by rw [hz])

open Cert.Reference12Ideal.Read in
/-- The reference's result. -/
theorem ref {x0 : S256x2048.Idx → EReal} {x1 : S2048x1024.Idx → EReal} (h0 : M2 (n := 256) (m := 2048) x0 f) (h1 : M2 (n := 2048) (m := 1024) x1 w) :
    M2 (n := 256) (m := 1024) (val_main_v0 (F := Ideal) x0 x1) (G f w) := by
  intro i
  rw [val_main_v0_apply]
  exact Finset.sum_congr rfl fun k _ => by rw [h0, h1]

/-- Over the reals the kernel's run and the reference's run end with the same product. -/
theorem algebraic : @Cert.algebraic_Kernel12Ideal_Reference12Ideal Cert.Kernel12Ideal.Gen.facts Cert.Reference12Ideal.Gen.facts := by
  intro m g m' g' _ hag
  refine ⟨fun c => (dats m 0 c).arrAt 2 cfg0.N, Cert.Kernel12Ideal.Value.run_blocks m g, ?_⟩
  refine (θ_run Cert.Reference12Ideal.defs _ _).mono (fun r h c => ?_) (Cert.Reference12Ideal.Value.run m' g')
  obtain ⟨r0, hargs⟩ := h c
  obtain ⟨a0, a1⟩ := hag c
  refine ⟨(r0.trans (Cert.Reference12Ideal.Read.val_main_v0_eq _ _)).trans ?_, hargs⟩
  rw [a0, a1]
  exact M2.eq (ref (M2.elt _) (M2.elt _)) (out (M2.elt _) (M2.elt _))

end Cert.Kvs

end
-- ==== Proof.Dwkv.lean ====
/- The gradient of the memory's keys and values in their weights: the kernel's tiles and the reference's array hold the same numbers. -/
module

public import proofs.«01_k».proof.Defs
public import proofs.«01_k».proof.Proof.Prod
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read

@[expose] public section

set_option maxRecDepth 16384

noncomputable section

namespace Cert.Dwkv

open Cert.Kernel13Ideal Cert.Kernel13Ideal.Gen Cert.Prod Idealize.ShloMosaic Idealize.ShloMosaic.TcCoe Idealize.SL.Sem

/-- The product. -/
def G (a b : ℕ → ℕ → EReal) (s j : ℕ) : EReal := ∑ k : Fin 256, a k s * b k j

variable {f w a b : ℕ → ℕ → EReal}

/-- The product of one store of a tile. -/
theorem part {x : FVec Ideal S256x512 .bf16} {y : FVec Ideal S256x512 .bf16} (hx : M2 (n := 256) (m := 512) x a) (hy : M2 (n := 256) (m := 512) y b) :
    M2 (n := 512) (m := 512) (k0_pay2 (F := Ideal) x y) (fun s j => ∑ k : Fin 256, a k s * b k j) := by
  intro i
  have e : matmul (F := Ideal) dot_S256x512_S256x512_S512x512_0_0_1_1_n_n none
      (shapeCast S256x512 x shapeCasts_S256x512_S256x512) (y)
      (constant S512x512 .f32 0x00000000#32) i = ∑ k : Fin 256, a k (i 0).val * b k (i 1).val := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![0, t.val % 4] ∧ win0_1.index t = ![0, t.val / 4] ∧ win0_2.index t = ![t.val % 4, t.val / 4] :=
  (by decide +kernel : ∀ t : Fin grid0.N, _)

/-- The input reaches the kernel rounded, over the reals as it is. -/
theorem host_a (c : Dev nD) : (V m c main_v0 : S256x2048.Idx → EReal) = m ((c.tc : Thread nD τ).loc main_arg0) := rfl

/-- The cotangent reaches the kernel as it is. -/
theorem host_b (c : Dev nD) : (V m c main_arg1 : S256x1024.Idx → EReal) = m ((c.tc : Thread nD τ).loc main_arg1) := rfl

variable {m} {c : Dev nD}

/-- The left factor's block of a grid point. -/
theorem in_a (h : M2 (n := 256) (m := 2048) (m ((c.tc : Thread nD τ).loc main_arg0)) f) (t : Fin cfg0.N) :
    M2 (n := 256) (m := 512) (iblk m c 0 t) fun s j => f s (512 * (t.val % 4) + j) := by
  intro i
  have e := idx t
  have e0 : ((win0_0.blk t).view.emb i 0 : ℕ) = (i 0).val := by blk_simp [e]; try omega
  have e1 : ((win0_0.blk t).view.emb i 1 : ℕ) = 512 * (t.val % 4) + (i 1).val := by blk_simp [e]; try omega
  blk_simp [iblk]
  rw [host_a]
  refine (h _).trans ?_
  rw [e0, e1]

/-- The right factor's block of a grid point. -/
theorem in_b (h : M2 (n := 256) (m := 1024) (m ((c.tc : Thread nD τ).loc main_arg1)) w) (t : Fin cfg0.N) :
    M2 (n := 256) (m := 1024) (iblk m c 1 t) fun s j => w s (1024 * (t.val / 4) + j) := by
  intro i
  have e := idx t
  have e0 : ((win0_1.blk t).view.emb i 0 : ℕ) = (i 0).val := by blk_simp [e]; try omega
  have e1 : ((win0_1.blk t).view.emb i 1 : ℕ) = 1024 * (t.val / 4) + (i 1).val := by blk_simp [e]; try omega
  blk_simp [iblk]
  rw [host_b]
  refine (h _).trans ?_
  rw [e0, e1]

/-- A store of columns `q` to `q + 512` of a tile. -/
theorem cols {t q : ℕ} {x : FVec Ideal S256x512 .bf16} {y : FVec Ideal S256x512 .bf16}
    (hx : M2 (n := 256) (m := 512) x fun s j => f s (512 * (t % 4) + j))
    (hy : M2 (n := 256) (m := 512) y fun s j => w (0 + s) (1024 * (t / 4) + (q + j))) :
    M2 (n := 512) (m := 512) (k0_pay2 (F := Ideal) x y) fun s j => G f w (512 * (t % 4) + (0 + s)) (1024 * (t / 4) + (q + j)) :=
  (part hx hy).congr fun s j _ _ => by simp only [G, Nat.zero_add]

/-- What the kernel leaves of a tile. -/
theorem tile (h0 : M2 (n := 256) (m := 2048) (m ((c.tc : Thread nD τ).loc main_arg0)) f)
    (h1 : M2 (n := 256) (m := 1024) (m ((c.tc : Thread nD τ).loc main_arg1)) w) (t : Fin cfg0.N) :
    M2 (n := 512) (m := 1024) ((dats m 0 c).after 2 t) fun s j => G f w (512 * (t.val % 4) + s) (1024 * (t.val / 4) + j) := by
  have A := in_a h0 t
  have B := in_b h1 t
  intro y
  have hy : (y 1).val < 1024 := (y 1).isLt
  have hy0 : (y 0).val < 512 := (y 0).isLt
  rw [after0_2]
  unfold outsAt0
  frame_out
  refine store2b (F := fun s j => G f w (512 * (t.val % 4) + s) (1024 * (t.val / 4) + j)) (cols A (B.ldf _)) fun n1 => ?_
  refine store2b (F := fun s j => G f w (512 * (t.val % 4) + s) (1024 * (t.val / 4) + j)) (cols A (B.ldf _)) fun n0 => ?_
  omega

/-- The kernel's result. -/
theorem out (h0 : M2 (n := 256) (m := 2048) (m ((c.tc : Thread nD τ).loc main_arg0)) f)
    (h1 : M2 (n := 256) (m := 1024) (m ((c.tc : Thread nD τ).loc main_arg1)) w) :
    M2 (n := 2048) (m := 1024) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 512 * (t.val % 4) + (y 0).val := by blk_simp [e]; try omega
  have e1 : ((win0_2.blk t).view.emb y 1 : ℕ) = 1024 * (t.val / 4) + (y 1).val := by blk_simp [e]; try omega
  refine Eq.trans ?_ (congrArg₂ (G f w) e0 e1).symm
  blk_simp
  exact tile h0 h1 t y

open Cert.Reference13Ideal.Read in
/-- The reference's result. -/
theorem ref {x0 : S256x2048.Idx → EReal} {x1 : S256x1024.Idx → EReal} (h0 : M2 (n := 256) (m := 2048) x0 f) (h1 : M2 (n := 256) (m := 1024) x1 w) :
    M2 (n := 2048) (m := 1024) (val_main_v4 (F := Ideal) x0 x1) (G f w) := by
  intro i
  rw [val_main_v4_apply, val_main_v3_apply, val_main_v2_apply]
  exact Finset.sum_congr rfl fun k _ => by rw [h0, h1, mul_comm]

/-- Over the reals the kernel's run and the reference's run end with the same product. -/
theorem algebraic : @Cert.algebraic_Kernel13Ideal_Reference13Ideal Cert.Kernel13Ideal.Gen.facts Cert.Reference13Ideal.Gen.facts := by
  intro m g m' g' _ hag
  refine ⟨fun c => (dats m 0 c).arrAt 2 cfg0.N, Cert.Kernel13Ideal.Value.run_blocks m g, ?_⟩
  refine (θ_run Cert.Reference13Ideal.defs _ _).mono (fun r h c => ?_) (Cert.Reference13Ideal.Value.run m' g')
  obtain ⟨r0, hargs⟩ := h c
  obtain ⟨a0, a1⟩ := hag c
  refine ⟨(r0.trans (Cert.Reference13Ideal.Read.val_main_v4_eq _ _)).trans ?_, hargs⟩
  rw [a0, a1]
  exact M2.eq (ref (M2.elt _) (M2.elt _)) (out (M2.elt _) (M2.elt _))

end Cert.Dwkv

end
-- ==== Proof.Dmem.lean ====
/- The gradient of the memory's keys and values in the memory: the kernel's tiles and the reference's array hold the same numbers. -/
module

public import proofs.«01_k».proof.Defs
public import proofs.«01_k».proof.Proof.Prod
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read

@[expose] public section

set_option maxRecDepth 16384

noncomputable section

namespace Cert.Dmem

open Cert.Kernel14Ideal Cert.Kernel14Ideal.Gen Cert.Prod Idealize.ShloMosaic Idealize.ShloMosaic.TcCoe Idealize.SL.Sem

/-- The product. -/
def G (a b : ℕ → ℕ → EReal) (s j : ℕ) : EReal := ∑ k : Fin 1024, a s k * b j k

variable {f w a b : ℕ → ℕ → EReal}

/-- The product of one store of a tile. -/
theorem part {x : FVec Ideal S256x1024 .bf16} {y : FVec Ideal S512x1024 .bf16} (hx : M2 (n := 256) (m := 1024) x a) (hy : M2 (n := 512) (m := 1024) y b) :
    M2 (n := 256) (m := 512) (k0_pay2 (F := Ideal) x y) (fun s j => ∑ k : Fin 1024, a s k * b j k) := by
  intro i
  have e : matmul (F := Ideal) dot_S256x1024_S512x1024_S256x512_1_1_0_0_n_n none
      (x) (shapeCast S512x1024 y shapeCasts_S512x1024_S512x1024)
      (constant S256x512 .f32 0x00000000#32) i = ∑ k : Fin 1024, a (i 0).val k * b (i 1).val k := by
    simp only [pointwise]
    exact dot_sum (fun k => hx _) (fun k => hy _)
  exact e

variable (m : (ℓ : Loc nD τ sig) → Buf (Elt Ideal) ℓ)

/-- The index maps of the windows. -/
theorem idx : ∀ t : Fin cfg0.N, win0_0.index t = ![t.val % 1, 0] ∧ win0_1.index t = ![t.val / 1, 0] ∧ win0_2.index t = ![t.val % 1, t.val / 1] :=
  (by decide +kernel : ∀ t : Fin grid0.N, _)

/-- The cotangent reaches the kernel as it is. -/
theorem host_a (c : Dev nD) : (V m c main_arg1 : S256x1024.Idx → EReal) = m ((c.tc : Thread nD τ).loc main_arg1) := rfl

/-- The weights reach it rounded, over the reals as they are. -/
theorem host_b (c : Dev nD) : (V m c main_v0 : S2048x1024.Idx → EReal) = m ((c.tc : Thread nD τ).loc main_arg0) := rfl

variable {m} {c : Dev nD}

/-- The left factor's block of a grid point. -/
theorem in_a (h : M2 (n := 256) (m := 1024) (m ((c.tc : Thread nD τ).loc main_arg1)) f) (t : Fin cfg0.N) :
    M2 (n := 256) (m := 1024) (iblk m c 0 t) fun s j => f (256 * (t.val % 1) + s) j := by
  intro i
  have e := idx t
  have e0 : ((win0_0.blk t).view.emb i 0 : ℕ) = 256 * (t.val % 1) + (i 0).val := by blk_simp [e]; try omega
  have e1 : ((win0_0.blk t).view.emb i 1 : ℕ) = (i 1).val := by blk_simp [e]; try omega
  blk_simp [iblk]
  rw [host_a]
  refine (h _).trans ?_
  rw [e0, e1]

/-- The right factor's block of a grid point. -/
theorem in_b (h : M2 (n := 2048) (m := 1024) (m ((c.tc : Thread nD τ).loc main_arg0)) w) (t : Fin cfg0.N) :
    M2 (n := 1024) (m := 1024) (iblk m c 1 t) fun s j => w (1024 * (t.val / 1) + s) j := by
  intro i
  have e := idx t
  have e0 : ((win0_1.blk t).view.emb i 0 : ℕ) = 1024 * (t.val / 1) + (i 0).val := by blk_simp [e]; try omega
  have e1 : ((win0_1.blk t).view.emb i 1 : ℕ) = (i 1).val := by blk_simp [e]; try omega
  blk_simp [iblk]
  rw [host_b]
  refine (h _).trans ?_
  rw [e0, e1]

/-- A store of columns `q` to `q + 512` of a tile. -/
theorem cols {t q : ℕ} {x : FVec Ideal S256x1024 .bf16} {y : FVec Ideal S512x1024 .bf16}
    (hx : M2 (n := 256) (m := 1024) x fun s j => f (256 * (t % 1) + s) j)
    (hy : M2 (n := 512) (m := 1024) y fun s j => w (1024 * (t / 1) + (q + s)) (0 + j)) :
    M2 (n := 256) (m := 512) (k0_pay2 (F := Ideal) x y) fun s j => G f w (256 * (t % 1) + (0 + s)) (1024 * (t / 1) + (q + j)) :=
  (part hx hy).congr fun s j _ _ => by simp only [G, Nat.zero_add]

/-- What the kernel leaves of a tile. -/
theorem tile (h0 : M2 (n := 256) (m := 1024) (m ((c.tc : Thread nD τ).loc main_arg1)) f)
    (h1 : M2 (n := 2048) (m := 1024) (m ((c.tc : Thread nD τ).loc main_arg0)) w) (t : Fin cfg0.N) :
    M2 (n := 256) (m := 1024) ((dats m 0 c).after 2 t) fun s j => G f w (256 * (t.val % 1) + s) (1024 * (t.val / 1) + j) := by
  have A := in_a h0 t
  have B := in_b h1 t
  intro y
  have hy : (y 1).val < 1024 := (y 1).isLt
  have hy0 : (y 0).val < 256 := (y 0).isLt
  rw [after0_2]
  unfold outsAt0
  frame_out
  refine store2f (F := fun s j => G f w (256 * (t.val % 1) + s) (1024 * (t.val / 1) + j)) (cols A (B.ldb _)) fun n1 => ?_
  refine store2f (F := fun s j => G f w (256 * (t.val % 1) + s) (1024 * (t.val / 1) + j)) (cols A (B.ldb _)) fun n0 => ?_
  omega

/-- The kernel's result. -/
theorem out (h0 : M2 (n := 256) (m := 1024) (m ((c.tc : Thread nD τ).loc main_arg1)) f)
    (h1 : M2 (n := 2048) (m := 1024) (m ((c.tc : Thread nD τ).loc main_arg0)) w) :
    M2 (n := 256) (m := 2048) ((dats m 0 c).arrAt 2 cfg0.N) (G f w) := by
  refine fun i => congrFun ((dats m 0 c).arrAt_eq_of_covers 2 (fun i => G f w (i 0).val (i 1).val) (by decide +kernel) fun t _ y => ?_) i
  have e := idx t
  have e0 : ((win0_2.blk t).view.emb y 0 : ℕ) = 256 * (t.val % 1) + (y 0).val := by blk_simp [e]; try omega
  have e1 : ((win0_2.blk t).view.emb y 1 : ℕ) = 1024 * (t.val / 1) + (y 1).val := by blk_simp [e]; try omega
  refine Eq.trans ?_ (congrArg₂ (G f w) e0 e1).symm
  blk_simp
  exact tile h0 h1 t y

open Cert.Reference14Ideal.Read in
/-- The reference's result. -/
theorem ref {x0 : S2048x1024.Idx → EReal} {x1 : S256x1024.Idx → EReal} (h0 : M2 (n := 256) (m := 1024) x1 f) (h1 : M2 (n := 2048) (m := 1024) x0 w) :
    M2 (n := 256) (m := 2048) (val_main_v2 (F := Ideal) x0 x1) (G f w) := by
  intro i
  rw [val_main_v2_apply]
  exact Finset.sum_congr rfl fun k _ => by rw [h0, h1]

/-- Over the reals the kernel's run and the reference's run end with the same product. -/
theorem algebraic : @Cert.algebraic_Kernel14Ideal_Reference14Ideal Cert.Kernel14Ideal.Gen.facts Cert.Reference14Ideal.Gen.facts := by
  intro m g m' g' _ hag
  refine ⟨fun c => (dats m 0 c).arrAt 2 cfg0.N, Cert.Kernel14Ideal.Value.run_blocks m g, ?_⟩
  refine (θ_run Cert.Reference14Ideal.defs _ _).mono (fun r h c => ?_) (Cert.Reference14Ideal.Value.run m' g')
  obtain ⟨r0, hargs⟩ := h c
  obtain ⟨a0, a1⟩ := hag c
  refine ⟨(r0.trans (Cert.Reference14Ideal.Read.val_main_v2_eq _ _)).trans ?_, hargs⟩
  rw [a0, a1]
  exact M2.eq (ref (M2.elt _) (M2.elt _)) (out (M2.elt _) (M2.elt _))

end Cert.Dmem

end
-- ==== Proof.Rms.lean ====
/- The RMS norm of rows of 2048 numbers and its gradient, on arrays of real numbers. -/
module

public import proofs.«01_k».proof.Proof.KerKv
public import proofs.«01_k».proof.Proof.Finite

@[expose] public section

set_option maxRecDepth 16384

noncomputable section

namespace Cert.Rms

open Cert.Mix Idealize.ShloMosaic Idealize.ShloMosaic.TcCoe

/-- The mean square of a row, with the norm's constant added. -/
def ms (X : ℕ → ℕ → ℝ) (s : ℕ) : ℝ := (∑ k : Fin 2048, X s k * X s k) / 2048 + eps

/-- The reciprocal root mean square of a row. -/
def rr (X : ℕ → ℕ → ℝ) (s : ℕ) : ℝ := (Real.sqrt (ms X s))⁻¹

/-- The row divided by its root mean square. -/
def hat (X : ℕ → ℕ → ℝ) (s j : ℕ) : ℝ := X s j * rr X s

/-- The gradient of a row, from the row and the gradient of the normed row. -/
def dx (X T : ℕ → ℕ → ℝ) (s j : ℕ) : ℝ := rr X s * (T s j - hat X s j * ((∑ k : Fin 2048, T s k * hat X s k) / 2048))

/-- The gradient of the gain, from the rows and the gradient of the norm. -/
def dg (X D : ℕ → ℕ → ℝ) (j : ℕ) : ℝ := ∑ s : Fin 2048, D s j * hat X s j

theorem ms_pos (X : ℕ → ℕ → ℝ) (s : ℕ) : 0 < ms X s :=
  add_pos_of_nonneg_of_pos (div_nonneg (Finset.sum_nonneg fun _ _ => mul_self_nonneg _) (by norm_num)) eps_pos

/-- The reciprocal root mean square, squared, is the reciprocal of the mean square. -/
theorem rr_sq (X : ℕ → ℕ → ℝ) (s : ℕ) : rr X s * rr X s = (ms X s)⁻¹ := by
  unfold rr
  rw [← mul_inv, Real.mul_self_sqrt (ms_pos X s).le]

/-- The literal for the rows' length. -/
theorem lit_2048 : Ideal.ofBits .f32 0x45000000#32 = ((2048 : ℝ) : EReal) := by
  simp [Ideal.ofBits, Ideal.ieee, -EReal.coe_mul]; norm_num

/-- The gradient of a row as the chain rule through the reciprocal root gives it: the reciprocal root times the gradient
    of the normed row, and twice the row times the mean square's gradient. -/
theorem dx_chain (X T : ℕ → ℕ → ℝ) (s j : ℕ) : T s j * rr X s
    + X s j * ((∑ k : Fin 2048, X s k * T s k) * (-(1 / 2) * (rr X s / ms X s)) / 2048)
    + (∑ k : Fin 2048, X s k * T s k) * (-(1 / 2) * (rr X s / ms X s)) / 2048 * X s j = dx X T s j := by
  unfold dx hat
  have hS : ∑ k : Fin 2048, T s k * (X s k * rr X s) = rr X s * ∑ k : Fin 2048, X s k * T s k := by
    rw [Finset.mul_sum]
    exact Finset.sum_congr rfl fun _ _ => by ring
  rw [hS, div_eq_mul_inv (rr X s), ← rr_sq]
  ring

/-- A tile's gradient of the rows is the array's at the tile's rows. -/
theorem rr_tile (X : ℕ → ℕ → ℝ) (a s : ℕ) : rr (fun s j => X (a + s) j) s = rr X (a + s) := rfl

variable {X T D G P : ℕ → ℕ → ℝ}

section
variable {n : ℕ} {x u t : FVec Ideal (Sh n 2048) .f32} {r : FVec Ideal (Sh n 1) .f32}

/-- The reciprocal root mean squares of the rows. -/
theorem rms (hx : R2 (n0 := n) (n1 := 2048) x X) (h : (Sh n 2048).Reduces [1] ⟨1, ![n]⟩) (hφ : FKind.Formats .f32) (acc)
    (hacc : acc = FKind.add.neutral .f32 hφ) (hc : (⟨1, ![n]⟩ : Shape).ShapeCasts (Sh n 1)) :
    R2 (n0 := n) (n1 := 1) (Idealize.ShloMosaic.rsqrt (F := Ideal) (addf (divf (shapeCast (Sh n 1) (multiReduction (F := Ideal) (φ := .f32) .add [1] ⟨1, ![n]⟩ (mulf x x) acc h hφ hacc) hc)
      (broadcast (Sh n 1) (Scalar.ofBits (F := Ideal) .f32 0x45000000#32))) (broadcast (Sh n 1) (Scalar.ofBits (F := Ideal) .f32 0x358637BD#32))))
      fun s _ => rr X s :=
  (((((hx.mul hx).rowSum h hφ acc hacc hc).div (R2.splat lit_2048) fun _ _ _ _ => by norm_num).add (R2.splat lit_eps)).rsqrt
    fun s _ _ _ => ms_pos X s)

/-- The gradient through the RMS norm. -/
theorem back (ht : R2 (n0 := n) (n1 := 2048) t T) (hr : R2 (n0 := n) (n1 := 1) r fun s _ => rr X s)
    (hu : R2 (n0 := n) (n1 := 2048) u (hat X)) (b1 : (Sh n 1).Broadcasts (Sh n 2048))
    (h : (Sh n 2048).Reduces [1] ⟨1, ![n]⟩) (hφ : FKind.Formats .f32) (acc)
    (hacc : acc = FKind.add.neutral .f32 hφ) (hc : (⟨1, ![n]⟩ : Shape).ShapeCasts (Sh n 1)) :
    R2 (n0 := n) (n1 := 2048) (mulf (F := Ideal) (broadcastTo (Sh n 2048) r b1) (subf t
      (mulf u (broadcastTo (Sh n 2048) (divf (shapeCast (Sh n 1) (multiReduction (F := Ideal) (φ := .f32) .add [1] ⟨1, ![n]⟩
        (mulf t u) acc h hφ hacc) hc) (broadcast (Sh n 1) (Scalar.ofBits (F := Ideal) .f32 0x45000000#32))) b1)))) (dx X T) :=
  (hr.col b1).mul (ht.sub (hu.mul (((ht.mul hu).rowSum h hφ acc hacc hc).div
    (R2.splat lit_2048) (fun _ _ _ _ => by norm_num) |>.col b1)))

end

/-- A load of a whole block. -/
theorem whole {n m : ℕ} {v : (Sh n m).Idx → EReal} {F : ℕ → ℕ → ℝ} (hv : R2 (n0 := n) (n1 := m) v fun s j => F (0 + s) (0 + j)) :
    R2 (n0 := n) (n1 := m) v F := R2.congr hv fun s j _ _ => by rw [Nat.zero_add, Nat.zero_add]

/-- Two matrices that hold the same real numbers are equal. -/
theorem eq_of {a b : ℕ} {x y : (⟨2, ![a, b]⟩ : Shape).Idx → EReal} {f : ℕ → ℕ → ℝ} (hx : R2 x f) (hy : R2 y f) : x = y :=
  funext fun i => (hx i).trans (hy i).symm

end Cert.Rms

end
-- ==== Proof.RmsMix.lean ====
/- The gradient through the mixer's RMS norm: the kernel's tiles and the reference's arrays hold the same real numbers. -/
module

public import proofs.«01_k».proof.Defs
public import proofs.«01_k».proof.Proof.Rms
public import proofs.«01_k».proof.Proof.Gen.Pre_finite4
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read

@[expose] public section

set_option maxRecDepth 16384

noncomputable section

namespace Cert.RmsMix

open Cert.Kernel15Ideal Cert.Kernel15Ideal.Gen Cert.Mix Cert.Rms Idealize.ShloMosaic Idealize.ShloMosaic.TcCoe Idealize.SL.Sem

variable {X D G W P : ℕ → ℕ → ℝ}

section
variable {x d w : Vec Ideal S256x2048 .f32} {g p : Vec Ideal S1x2048 .f32} (hx : R2 (n0 := 256) (n1 := 2048) x X)
include hx

/-- The reciprocal root mean squares of a tile's rows. -/
theorem rr_val : R2 (n0 := 256) (n1 := 1) (k0_pay1 (F := Ideal) x) fun s _ => rr X s := rms hx _ _ _ _ _

/-- A tile's rows divided by their root mean squares. -/
theorem hat_val : R2 (n0 := 256) (n1 := 2048) (k0_pay2 (F := Ideal) x) (hat X) := hx.mul ((rr_val hx).col _)

variable (hd : R2 (n0 := 256) (n1 := 2048) d D)
include hd

/-- What a tile adds to the gain's gradient. -/
theorem dg_val : R2 (n0 := 1) (n1 := 2048) (k0_pay3 (F := Ideal) x d) fun _ j => ∑ s : Fin 256, D s j * hat X s j :=
  (hd.mul (hat_val hx)).colSum _ _ _ _ _

/-- The gain's gradient with a tile's share added. -/
theorem add_val (hp : R2 (n0 := 1) (n1 := 2048) p P) :
    R2 (n0 := 1) (n1 := 2048) (k0_pay4 (F := Ideal) x d p) fun s j => P s j + ∑ i : Fin 256, D i j * hat X i j :=
  (hp.cast _).add (dg_val hx hd)

/-- The gradient of a tile's rows. -/
theorem dx_val (hg : R2 (n0 := 1) (n1 := 2048) g G) (hw : R2 (n0 := 256) (n1 := 2048) w W) :
    R2 (n0 := 256) (n1 := 2048) (k0_pay5 (F := Ideal) x d g w) fun s j => dx X (fun s j => D s j * G 0 j) s j + W s j :=
  (back (hd.mul (hg.row _)) (rr_val hx) (hat_val hx) _ _ _ _ _ _).add hw

end

variable (m : (ℓ : Loc nD τ sig) → Buf (Elt Ideal) ℓ)

/-- The index maps of the windows. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The arguments reach the kernel as they are. -/
theorem host_d (c : Dev nD) : (V m c main_arg0 : S2048x2048.Idx → EReal) = m ((c.tc : Thread nD τ).loc main_arg0) := rfl
theorem host_x (c : Dev nD) : (V m c main_arg1 : S2048x2048.Idx → EReal) = m ((c.tc : Thread nD τ).loc main_arg1) := rfl
theorem host_g (c : Dev nD) : (V m c main_arg2 : S1x2048.Idx → EReal) = m ((c.tc : Thread nD τ).loc main_arg2) := rfl
theorem host_w (c : Dev nD) : (V m c main_arg3 : S2048x2048.Idx → EReal) = m ((c.tc : Thread nD τ).loc main_arg3) := rfl

variable {m} {c : Dev nD}

/-- The rows of the norm's gradient at a grid point. -/
theorem in_d (h : R2 (n0 := 2048) (n1 := 2048) (m ((c.tc : Thread nD τ).loc main_arg0)) D) (t : Fin cfg0.N) :
    R2 (n0 := 256) (n1 := 2048) (iblk m c 0 t) fun s j => D (256 * t.val + s) j := by
  intro i
  have e := idx t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [host_d]
  refine (h _).trans ?_
  rw [e0, e1]

/-- The rows the norm was taken of, at a grid point. -/
theorem in_x (h : R2 (n0 := 2048) (n1 := 2048) (m ((c.tc : Thread nD τ).loc main_arg1)) X) (t : Fin cfg0.N) :
    R2 (n0 := 256) (n1 := 2048) (iblk m c 1 t) fun s j => X (256 * t.val + s) j := by
  intro i
  have e := idx t
  have e0 : ((win0_1.blk t).view.emb i 0 : ℕ) = 256 * t.val + (i 0).val := by blk_simp [e]; try omega
  have e1 : ((win0_1.blk t).view.emb i 1 : ℕ) = (i 1).val := by blk_simp [e]; try omega
  blk_simp [iblk]
  rw [host_x]
  refine (h _).trans ?_
  rw [e0, e1]

/-- The gain, at every grid point. -/
theorem in_g (h : R2 (n0 := 1) (n1 := 2048) (m ((c.tc : Thread nD τ).loc main_arg2)) G) (t : Fin cfg0.N) :
    R2 (n0 := 1) (n1 := 2048) (iblk m c 2 t) G := by
  intro i
  have e := idx t
  have z : (i 0).val = 0 := Nat.lt_one_iff.mp (i 0).isLt
  have e0 : ((win0_2.blk t).view.emb i 0 : ℕ) = (i 0).val := by blk_simp [e]; try omega
  have e1 : ((win0_2.blk t).view.emb i 1 : ℕ) = (i 1).val := by blk_simp [e]; try omega
  blk_simp [iblk]
  rw [host_g]
  refine (h _).trans ?_
  rw [e0, e1, z]

/-- The rows of the residual stream's gradient at a grid point. -/
theorem in_w (h : R2 (n0 := 2048) (n1 := 2048) (m ((c.tc : Thread nD τ).loc main_arg3)) W) (t : Fin cfg0.N) :
    R2 (n0 := 256) (n1 := 2048) (iblk m c 3 t) fun s j => W (256 * t.val + s) j := by
  intro i
  have e := idx t
  have e0 : ((win0_3.blk t).view.emb i 0 : ℕ) = 256 * t.val + (i 0).val := by blk_simp [e]; try omega
  have e1 : ((win0_3.blk t).view.emb i 1 : ℕ) = (i 1).val := by blk_simp [e]; try omega
  blk_simp [iblk]
  rw [host_w]
  refine (h _).trans ?_
  rw [e0, e1]

section
variable (h0 : R2 (n0 := 2048) (n1 := 2048) (m ((c.tc : Thread nD τ).loc main_arg0)) D)
  (h1 : R2 (n0 := 2048) (n1 := 2048) (m ((c.tc : Thread nD τ).loc main_arg1)) X)
include h0 h1

/-- The gain's gradient after a grid point: the sum over the rows so far. -/
theorem acc (n : ℕ) (hn : n < cfg0.N) :
    R2 (n0 := 1) (n1 := 2048) (outsAt0 m c n hn).2 fun _ j => ∑ s ∈ Finset.range (256 * (n + 1)), D s j * hat X s j := by
  induction n using Nat.strong_induction_on with
  | _ n ih =>
    obtain ⟨t, rfl⟩ : ∃ t : Fin cfg0.N, t.val = n := ⟨⟨n, hn⟩, rfl⟩
    have ht : t.val < 8 := lt_of_lt_of_eq t.isLt N_0
    intro y
    have hy : (y 1).val < 2048 := (y 1).isLt
    have hy0 : (y 0).val < 1 := (y 0).isLt
    have hd := in_d h0 t
    have hx := in_x h1 t
    by_cases h : t.val % 8 = 0
    · have ht0 : t.val = 0 := by omega
      rw [outsAt0_A m c t h (by omega)]
      frame_out
      refine (dg_val hx hd y).trans (congrArg Real.toEReal (Eq.trans ?_ (acc_rows t.val fun s => D s (y 1).val * hat X s (y 1).val)))
      rw [ht0]
      simp only [Nat.mul_zero, Finset.range_zero, Finset.sum_empty, Nat.zero_add, zero_add]
    · have hp := ih (t.val - 1) (by omega) (by omega)
      rw [Nat.sub_add_cancel (by omega)] at hp
      rw [outsAt0_B m c t h (by omega)]
      frame_out
      exact (add_val hx hd hp y).trans (congrArg Real.toEReal (acc_rows t.val fun s => D s (y 1).val * hat X s (y 1).val))

variable (h2 : R2 (n0 := 1) (n1 := 2048) (m ((c.tc : Thread nD τ).loc main_arg2)) G)
  (h3 : R2 (n0 := 2048) (n1 := 2048) (m ((c.tc : Thread nD τ).loc main_arg3)) W)
include h2 h3

/-- What the kernel leaves of a tile of the rows' gradient. -/
theorem tile (t : Fin cfg0.N) : R2 (n0 := 256) (n1 := 2048) (outsAt0 m c t.val t.isLt).1
    fun s j => dx X (fun s j => D s j * G 0 j) (256 * t.val + s) j + W (256 * t.val + s) j := by
  have ht : t.val < 8 := lt_of_lt_of_eq t.isLt N_0
  intro y
  have hy : (y 1).val < 2048 := (y 1).isLt
  have hy0 : (y 0).val < 256 := (y 0).isLt
  have hv := dx_val (in_x h1 t)
    (in_d h0 t)
    (in_g h2 t)
    (in_w h3 t)
  by_cases h : t.val % 8 = 0
  · rw [outsAt0_A m c t h (by omega)]
    frame_out
    exact hv y
  · rw [outsAt0_B m c t h (by omega)]
    frame_out
    exact hv y

/-- The kernel's gradient of the rows. -/
theorem out4 : R2 (n0 := 2048) (n1 := 2048) ((dats m 0 c).arrAt 4 cfg0.N) fun s j => dx X (fun s j => D s j * G 0 j) s j + W s j := by
  refine fun i => congrFun ((dats m 0 c).arrAt_eq_of_covers 4 (fun i => (((fun s j => dx X (fun s j => D s j * G 0 j) s j + W s j) (i 0).val (i 1).val : ℝ) : EReal)) (by decide +kernel) fun t _ y => ?_) i
  have e := idx t
  have e0 : ((win0_4.blk t).view.emb y 0 : ℕ) = 256 * t.val + (y 0).val := by blk_simp [e]; try omega
  have e1 : ((win0_4.blk t).view.emb y 1 : ℕ) = (y 1).val := by blk_simp [e]; try omega
  refine Eq.trans ?_ (cg2 (fun s j => dx X (fun s j => D s j * G 0 j) s j + W s j) e0 e1).symm
  blk_simp
  rw [after0_4]
  exact tile h0 h1 h2 h3 t y

omit h2 h3

/-- The kernel's gradient of the gain. -/
theorem out5 : R2 (n0 := 1) (n1 := 2048) ((dats m 0 c).arrAt 5 cfg0.N) fun _ j => dg X D j := by
  refine fun i => congrFun ((dats m 0 c).arrAt_eq_of_after_last 5 t0_7 (by decide +kernel) (fun i => (((fun _ j => dg X D j) (i 0).val (i 1).val : ℝ) : EReal)) fun y => ?_) i
  blk_simp
  rw [after0_5]
  exact (acc h0 h1 7 (by decide) _).trans (congrArg Real.toEReal (Finset.sum_range _))

end

section
open Cert.Reference15Ideal.Read
variable {x0 x1 x3 : S2048x2048.Idx → EReal} {x2 : S1x2048.Idx → EReal}
  (h1 : R2 (n0 := 2048) (n1 := 2048) x1 X)
include h1

/-- The reference's mean squares. -/
theorem r_v6 : R2 (n0 := 2048) (n1 := 1) (val_main_v6 (F := Ideal) x1) fun s _ => ms X s := by
  intro i
  simp only [val_main_v6_apply, val_main_v4_apply, val_main_v2_apply, val_main_v1_apply, val_main_v0_apply, val_main_v3_apply,
    val_main_v5_apply, val_main_cst_apply, val_main_cst_0_apply, val_main_cst_1_apply, h1 _, lit_0, lit_2048, lit_eps,
    Ideal.mulf_def, Ideal.addf_def, Ideal.ofBits_def, Ideal.hostDivf_def, ← EReal.coe_mul, ← EReal.coe_add, sum_real, zero_add_real, zero_add,
    div_real (show (2048 : ℝ) ≠ 0 by norm_num)]
  rfl

/-- The reference's reciprocal root mean squares. -/
theorem r_v7 : R2 (n0 := 2048) (n1 := 1) (val_main_v7 (F := Ideal) x1) fun s _ => rr X s := by
  intro i
  rw [val_main_v7_apply, r_v6 h1]
  exact rsqrt_real (ms_pos X _)

/-- The reference's derivative of the reciprocal root. -/
theorem r_v10 : R2 (n0 := 2048) (n1 := 1) (val_main_v10 (F := Ideal) x1) fun s _ => -(1 / 2) * (rr X s / ms X s) := by
  intro i
  simp only [val_main_v10_apply, val_main_v9_apply, val_main_cst_2_apply, val_main_v8_apply, r_v7 h1 _, r_v6 h1 _,
    div_real (ms_pos _ _).ne', lit_nhalf, Ideal.hostDivf_def, Ideal.mulf_def, Ideal.ofBits_def, ← EReal.coe_mul]

/-- The reference's normed rows. -/
theorem r_v12 : R2 (n0 := 2048) (n1 := 2048) (val_main_v12 (F := Ideal) x1) (hat X) := by
  intro i
  simp only [val_main_v12_apply, val_main_v11_apply, r_v7 h1 _, h1 _, Ideal.mulf_def, ← EReal.coe_mul]
  rfl

variable (h0 : R2 (n0 := 2048) (n1 := 2048) x0 D)
include h0

/-- The reference's gradient of the gain. -/
theorem r_v17 : R2 (n0 := 1) (n1 := 2048) (val_main_v17 (F := Ideal) x0 x1) fun _ j => dg X D j := by
  intro i
  have z0 : (i 0).val < 1 := (i 0).isLt
  simp only [val_main_v17_apply, val_main_v16_apply, val_main_cst_3_apply, val_main_v15_apply, r_v12 h1 _, h0 _, lit_0,
    Ideal.mulf_def, Ideal.ofBits_def, ← EReal.coe_mul, sum_real, zero_add_real]
  refine congrArg Real.toEReal (Finset.sum_congr rfl fun s _ => (mul_comm _ _).trans ?_)
  exact congrArg (fun j => D s j * hat X s j) (show (i 0).val * 2048 + (i 1).val = (i 1).val by omega)

variable (h2 : R2 (n0 := 1) (n1 := 2048) x2 G)
include h2

/-- The reference's gradient of the normed rows. -/
theorem r_v19 : R2 (n0 := 2048) (n1 := 2048) (val_main_v19 (F := Ideal) x0 x2) fun s j => D s j * G 0 j := by
  intro i
  simp only [val_main_v19_apply, val_main_v18_apply, h0 _, h2 _, Ideal.mulf_def, ← EReal.coe_mul]

/-- The reference's gradient of the reciprocal root. -/
theorem r_v22 : R2 (n0 := 2048) (n1 := 1) (val_main_v22 (F := Ideal) x0 x1 x2) fun s _ => ∑ k : Fin 2048, X s k * (D s k * G 0 k) := by
  intro i
  have z0 : (i 1).val < 1 := (i 1).isLt
  simp only [val_main_v22_apply, val_main_v21_apply, val_main_cst_4_apply, val_main_v20_apply, r_v19 h1 h0 h2 _, h1 _, lit_0,
    Ideal.mulf_def, Ideal.ofBits_def, ← EReal.coe_mul, sum_real, zero_add_real]
  refine congrArg Real.toEReal (Finset.sum_congr rfl fun k _ => ?_)
  exact congrArg (fun s => X s k * (D s k * G 0 k)) (show (i 0).val * 1 + (i 1).val = (i 0).val by omega)

/-- The reference's gradient of the squares. -/
theorem r_v30 : R2 (n0 := 2048) (n1 := 2048) (val_main_v30 (F := Ideal) x0 x1 x2)
    fun s _ => (∑ k : Fin 2048, X s k * (D s k * G 0 k)) * (-(1 / 2) * (rr X s / ms X s)) / 2048 := by
  intro i
  simp only [val_main_v30_apply, val_main_v29_apply, val_main_cst_6_apply, val_main_v28_apply, val_main_v27_apply, val_main_cst_5_apply,
    val_main_v26_apply, r_v22 h1 h0 h2 _, r_v10 h1 _, lit_0, lit_2048, div_real (show (2048 : ℝ) ≠ 0 by norm_num), Ideal.hostDivf_def,
    Ideal.mulf_def, Ideal.ofBits_def, ← EReal.coe_mul, sum_real, zero_add_real, Finset.univ_unique, Finset.sum_singleton]

variable (h3 : R2 (n0 := 2048) (n1 := 2048) x3 W)
include h3

/-- The reference's gradient of the rows. -/
theorem r_v34 : R2 (n0 := 2048) (n1 := 2048) (val_main_v34 (F := Ideal) x0 x1 x2 x3) fun s j => dx X (fun s j => D s j * G 0 j) s j + W s j := by
  intro i
  simp only [val_main_v34_apply, val_main_v33_apply, val_main_v32_apply, val_main_v31_apply, val_main_v25_apply, val_main_v24_apply,
    val_main_v23_apply, r_v30 h1 h0 h2 _, r_v19 h1 h0 h2 _, r_v7 h1 _, h1 _, h3 _, Ideal.mulf_def, Ideal.addf_def, ← EReal.coe_mul, ← EReal.coe_add]
  refine congrArg Real.toEReal ?_
  rw [← dx_chain]
  ring

end

/-- Over the reals, from arguments that are finite, the kernel's run and the reference's run end with the same gradient of
    the residual stream and the same gradient of the gain. -/
theorem algebraic : @Cert.algebraic_Kernel15Ideal_Reference15Ideal_pre_finite4 Cert.Kernel15Ideal.Gen.facts Cert.Reference15Ideal.Gen.facts
    Cert.Pre_finite4.Gen.facts := by
  intro m g m' g' hpre hag
  refine ⟨fun c => (dats m 0 c).arrAt 4 cfg0.N, fun c => (dats m 0 c).arrAt 5 cfg0.N, Cert.Kernel15Ideal.Value.run_blocks m g, ?_⟩
  refine (θ_run Cert.Reference15Ideal.defs _ _).mono (fun r h c => ?_) (Cert.Reference15Ideal.Value.run m' g')
  obtain ⟨r0, r1, hargs⟩ := h c
  obtain ⟨a0, a1, a2, a3⟩ := hag c
  obtain ⟨p0, p1, p2, p3⟩ := hpre c
  have h0 := R2.of_lt (x := m ((c.tc : Thread nD τ).loc main_arg0)) fun i => congrFun p0 i
  have h1 := R2.of_lt (x := m ((c.tc : Thread nD τ).loc main_arg1)) fun i => congrFun p1 i
  have h2 := R2.of_lt (x := m ((c.tc : Thread nD τ).loc main_arg2)) fun i => congrFun p2 i
  have h3 := R2.of_lt (x := m ((c.tc : Thread nD τ).loc main_arg3)) fun i => congrFun p3 i
  refine ⟨(r0.trans (Cert.Reference15Ideal.Read.val_main_v34_eq _ _ _ _)).trans ?_, (r1.trans (Cert.Reference15Ideal.Read.val_main_v17_eq _ _)).trans ?_, hargs⟩
  · rw [a0, a1, a2, a3]
    exact eq_of (r_v34 h1 h0 h2 h3) (out4 h0 h1 h2 h3)
  · rw [a0, a1]
    exact eq_of (r_v17 h1 h0) (out5 h0 h1)

end Cert.RmsMix

end
-- ==== Proof.RmsFfn.lean ====
/- The gradient through the feed-forward layer's RMS norm: the kernel's tiles and the reference's arrays hold the same real numbers. -/
module

public import proofs.«01_k».proof.Defs
public import proofs.«01_k».proof.Proof.Rms
public import proofs.«01_k».proof.Proof.Gen.Pre_finite4
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read

@[expose] public section

set_option maxRecDepth 16384

noncomputable section

namespace Cert.RmsFfn

open Cert.Kernel16Ideal Cert.Kernel16Ideal.Gen Cert.Mix Cert.Rms Idealize.ShloMosaic Idealize.ShloMosaic.TcCoe Idealize.SL.Sem

variable {X D G W P : ℕ → ℕ → ℝ}

section
variable {x d w : Vec Ideal S256x2048 .f32} {g p : Vec Ideal S1x2048 .f32} (hx : R2 (n0 := 256) (n1 := 2048) x X)
include hx

/-- The reciprocal root mean squares of a tile's rows. -/
theorem rr_val : R2 (n0 := 256) (n1 := 1) (k0_pay2 (F := Ideal) x) fun s _ => rr X s := rms hx _ _ _ _ _

/-- A tile's rows divided by their root mean squares. -/
theorem hat_val : R2 (n0 := 256) (n1 := 2048) (k0_pay3 (F := Ideal) x) (hat X) := hx.mul ((rr_val hx).col _)

variable (hd : R2 (n0 := 256) (n1 := 2048) d D)
include hd

/-- What a tile adds to the gain's gradient. -/
theorem dg_val : R2 (n0 := 1) (n1 := 2048) (k0_pay4 (F := Ideal) x d) fun _ j => ∑ s : Fin 256, D s j * hat X s j :=
  (hd.mul (hat_val hx)).colSum _ _ _ _ _

/-- The gain's gradient with a tile's share added. -/
theorem add_val (hp : R2 (n0 := 1) (n1 := 2048) p P) :
    R2 (n0 := 1) (n1 := 2048) (k0_pay5 (F := Ideal) x d p) fun s j => P s j + ∑ i : Fin 256, D i j * hat X i j :=
  (hp.cast _).add (dg_val hx hd)

/-- The gradient of a tile's rows. -/
theorem dx_val (hg : R2 (n0 := 1) (n1 := 2048) g G) (hw : R2 (n0 := 256) (n1 := 2048) w W) :
    R2 (n0 := 256) (n1 := 2048) (k0_pay6 (F := Ideal) x d g w) fun s j => dx X (fun s j => D s j * G 0 j) s j + W s j :=
  (back (hd.mul (hg.row _)) (rr_val hx) (hat_val hx) _ _ _ _ _ _).add hw

end

variable (m : (ℓ : Loc nD τ sig) → Buf (Elt Ideal) ℓ)

/-- The index maps of the windows. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

/-- The arguments reach the kernel as they are. -/
theorem host_d (c : Dev nD) : (V m c main_arg0 : S2048x2048.Idx → EReal) = m ((c.tc : Thread nD τ).loc main_arg0) := rfl
theorem host_x (c : Dev nD) : (V m c main_arg1 : S2048x2048.Idx → EReal) = m ((c.tc : Thread nD τ).loc main_arg1) := rfl
theorem host_g (c : Dev nD) : (V m c main_arg2 : S1x2048.Idx → EReal) = m ((c.tc : Thread nD τ).loc main_arg2) := rfl
theorem host_w (c : Dev nD) : (V m c main_arg3 : S2048x2048.Idx → EReal) = m ((c.tc : Thread nD τ).loc main_arg3) := rfl

variable {m} {c : Dev nD}

/-- The rows of the norm's gradient at a grid point. -/
theorem in_d (h : R2 (n0 := 2048) (n1 := 2048) (m ((c.tc : Thread nD τ).loc main_arg0)) D) (t : Fin cfg0.N) :
    R2 (n0 := 256) (n1 := 2048) (iblk m c 0 t) fun s j => D (256 * t.val + s) j := by
  intro i
  have e := idx t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [host_d]
  refine (h _).trans ?_
  rw [e0, e1]

/-- The rows the norm was taken of, at a grid point. -/
theorem in_x (h : R2 (n0 := 2048) (n1 := 2048) (m ((c.tc : Thread nD τ).loc main_arg1)) X) (t : Fin cfg0.N) :
    R2 (n0 := 256) (n1 := 2048) (iblk m c 1 t) fun s j => X (256 * t.val + s) j := by
  intro i
  have e := idx t
  have e0 : ((win0_1.blk t).view.emb i 0 : ℕ) = 256 * t.val + (i 0).val := by blk_simp [e]; try omega
  have e1 : ((win0_1.blk t).view.emb i 1 : ℕ) = (i 1).val := by blk_simp [e]; try omega
  blk_simp [iblk]
  rw [host_x]
  refine (h _).trans ?_
  rw [e0, e1]

/-- The gain, at every grid point. -/
theorem in_g (h : R2 (n0 := 1) (n1 := 2048) (m ((c.tc : Thread nD τ).loc main_arg2)) G) (t : Fin cfg0.N) :
    R2 (n0 := 1) (n1 := 2048) (iblk m c 2 t) G := by
  intro i
  have e := idx t
  have z : (i 0).val = 0 := Nat.lt_one_iff.mp (i 0).isLt
  have e0 : ((win0_2.blk t).view.emb i 0 : ℕ) = (i 0).val := by blk_simp [e]; try omega
  have e1 : ((win0_2.blk t).view.emb i 1 : ℕ) = (i 1).val := by blk_simp [e]; try omega
  blk_simp [iblk]
  rw [host_g]
  refine (h _).trans ?_
  rw [e0, e1, z]

/-- The rows of the residual stream's gradient at a grid point. -/
theorem in_w (h : R2 (n0 := 2048) (n1 := 2048) (m ((c.tc : Thread nD τ).loc main_arg3)) W) (t : Fin cfg0.N) :
    R2 (n0 := 256) (n1 := 2048) (iblk m c 3 t) fun s j => W (256 * t.val + s) j := by
  intro i
  have e := idx t
  have e0 : ((win0_3.blk t).view.emb i 0 : ℕ) = 256 * t.val + (i 0).val := by blk_simp [e]; try omega
  have e1 : ((win0_3.blk t).view.emb i 1 : ℕ) = (i 1).val := by blk_simp [e]; try omega
  blk_simp [iblk]
  rw [host_w]
  refine (h _).trans ?_
  rw [e0, e1]

section
variable (h0 : R2 (n0 := 2048) (n1 := 2048) (m ((c.tc : Thread nD τ).loc main_arg0)) D)
  (h1 : R2 (n0 := 2048) (n1 := 2048) (m ((c.tc : Thread nD τ).loc main_arg1)) X)
include h0 h1

/-- The gain's gradient after a grid point: the sum over the rows so far. -/
theorem acc (n : ℕ) (hn : n < cfg0.N) :
    R2 (n0 := 1) (n1 := 2048) (outsAt0 m c n hn).2.2 fun _ j => ∑ s ∈ Finset.range (256 * (n + 1)), D s j * hat X s j := by
  induction n using Nat.strong_induction_on with
  | _ n ih =>
    obtain ⟨t, rfl⟩ : ∃ t : Fin cfg0.N, t.val = n := ⟨⟨n, hn⟩, rfl⟩
    have ht : t.val < 8 := lt_of_lt_of_eq t.isLt N_0
    intro y
    have hy : (y 1).val < 2048 := (y 1).isLt
    have hy0 : (y 0).val < 1 := (y 0).isLt
    have hd := in_d h0 t
    have hx := in_x h1 t
    by_cases h : t.val % 8 = 0
    · have ht0 : t.val = 0 := by omega
      rw [outsAt0_A m c t h (by omega)]
      frame_out
      refine (dg_val hx hd y).trans (congrArg Real.toEReal (Eq.trans ?_ (acc_rows t.val fun s => D s (y 1).val * hat X s (y 1).val)))
      rw [ht0]
      simp only [Nat.mul_zero, Finset.range_zero, Finset.sum_empty, Nat.zero_add, zero_add]
    · have hp := ih (t.val - 1) (by omega) (by omega)
      rw [Nat.sub_add_cancel (by omega)] at hp
      rw [outsAt0_B m c t h (by omega)]
      frame_out
      exact (add_val hx hd hp y).trans (congrArg Real.toEReal (acc_rows t.val fun s => D s (y 1).val * hat X s (y 1).val))

variable (h2 : R2 (n0 := 1) (n1 := 2048) (m ((c.tc : Thread nD τ).loc main_arg2)) G)
  (h3 : R2 (n0 := 2048) (n1 := 2048) (m ((c.tc : Thread nD τ).loc main_arg3)) W)
include h2 h3

/-- What the kernel leaves of a tile of the rows' gradient. -/
theorem tile (t : Fin cfg0.N) : R2 (n0 := 256) (n1 := 2048) (outsAt0 m c t.val t.isLt).1
    fun s j => dx X (fun s j => D s j * G 0 j) (256 * t.val + s) j + W (256 * t.val + s) j := by
  have ht : t.val < 8 := lt_of_lt_of_eq t.isLt N_0
  intro y
  have hy : (y 1).val < 2048 := (y 1).isLt
  have hy0 : (y 0).val < 256 := (y 0).isLt
  have hv := dx_val (in_x h1 t)
    (in_d h0 t)
    (in_g h2 t)
    (in_w h3 t)
  by_cases h : t.val % 8 = 0
  · rw [outsAt0_A m c t h (by omega)]
    frame_out
    exact hv y
  · rw [outsAt0_B m c t h (by omega)]
    frame_out
    exact hv y

/-- What the kernel leaves of a tile of the rows' gradient, rounded. -/
theorem tileb (t : Fin cfg0.N) : R2 (n0 := 256) (n1 := 2048) (outsAt0 m c t.val t.isLt).2.1
    fun s j => dx X (fun s j => D s j * G 0 j) (256 * t.val + s) j + W (256 * t.val + s) j := by
  have ht : t.val < 8 := lt_of_lt_of_eq t.isLt N_0
  intro y
  have hy : (y 1).val < 2048 := (y 1).isLt
  have hy0 : (y 0).val < 256 := (y 0).isLt
  have hv := dx_val (in_x h1 t)
    (in_d h0 t)
    (in_g h2 t)
    (in_w h3 t)
  by_cases h : t.val % 8 = 0
  · rw [outsAt0_A m c t h (by omega)]
    frame_out
    exact hv y
  · rw [outsAt0_B m c t h (by omega)]
    frame_out
    exact hv y

/-- The kernel's gradient of the rows. -/
theorem out4 : R2 (n0 := 2048) (n1 := 2048) ((dats m 0 c).arrAt 4 cfg0.N) fun s j => dx X (fun s j => D s j * G 0 j) s j + W s j := by
  refine fun i => congrFun ((dats m 0 c).arrAt_eq_of_covers 4 (fun i => (((fun s j => dx X (fun s j => D s j * G 0 j) s j + W s j) (i 0).val (i 1).val : ℝ) : EReal)) (by decide +kernel) fun t _ y => ?_) i
  have e := idx t
  have e0 : ((win0_4.blk t).view.emb y 0 : ℕ) = 256 * t.val + (y 0).val := by blk_simp [e]; try omega
  have e1 : ((win0_4.blk t).view.emb y 1 : ℕ) = (y 1).val := by blk_simp [e]; try omega
  refine Eq.trans ?_ (cg2 (fun s j => dx X (fun s j => D s j * G 0 j) s j + W s j) e0 e1).symm
  blk_simp
  rw [after0_4]
  exact tile h0 h1 h2 h3 t y

/-- The kernel's gradient of the rows, rounded. -/
theorem out5 : R2 (n0 := 2048) (n1 := 2048) ((dats m 0 c).arrAt 5 cfg0.N) fun s j => dx X (fun s j => D s j * G 0 j) s j + W s j := by
  refine fun i => congrFun ((dats m 0 c).arrAt_eq_of_covers 5 (fun i => (((fun s j => dx X (fun s j => D s j * G 0 j) s j + W s j) (i 0).val (i 1).val : ℝ) : EReal)) (by decide +kernel) fun t _ y => ?_) i
  have e := idx t
  have e0 : ((win0_5.blk t).view.emb y 0 : ℕ) = 256 * t.val + (y 0).val := by blk_simp [e]; try omega
  have e1 : ((win0_5.blk t).view.emb y 1 : ℕ) = (y 1).val := by blk_simp [e]; try omega
  refine Eq.trans ?_ (cg2 (fun s j => dx X (fun s j => D s j * G 0 j) s j + W s j) e0 e1).symm
  blk_simp
  rw [after0_5]
  exact tileb h0 h1 h2 h3 t y

omit h2 h3

/-- The kernel's gradient of the gain. -/
theorem out6 : R2 (n0 := 1) (n1 := 2048) ((dats m 0 c).arrAt 6 cfg0.N) fun _ j => dg X D j := by
  refine fun i => congrFun ((dats m 0 c).arrAt_eq_of_after_last 6 t0_7 (by decide +kernel) (fun i => (((fun _ j => dg X D j) (i 0).val (i 1).val : ℝ) : EReal)) fun y => ?_) i
  blk_simp
  rw [after0_6]
  exact (acc h0 h1 7 (by decide) _).trans (congrArg Real.toEReal (Finset.sum_range _))

end

section
open Cert.Reference16Ideal.Read
variable {x0 x1 x3 : S2048x2048.Idx → EReal} {x2 : S1x2048.Idx → EReal}
  (h1 : R2 (n0 := 2048) (n1 := 2048) x1 X)
include h1

/-- The reference's mean squares. -/
theorem r_v6 : R2 (n0 := 2048) (n1 := 1) (val_main_v6 (F := Ideal) x1) fun s _ => ms X s := by
  intro i
  simp only [val_main_v6_apply, val_main_v4_apply, val_main_v2_apply, val_main_v1_apply, val_main_v0_apply, val_main_v3_apply,
    val_main_v5_apply, val_main_cst_apply, val_main_cst_0_apply, val_main_cst_1_apply, h1 _, lit_0, lit_2048, lit_eps,
    Ideal.mulf_def, Ideal.addf_def, Ideal.ofBits_def, Ideal.hostDivf_def, ← EReal.coe_mul, ← EReal.coe_add, sum_real, zero_add_real, zero_add,
    div_real (show (2048 : ℝ) ≠ 0 by norm_num)]
  rfl

/-- The reference's reciprocal root mean squares. -/
theorem r_v7 : R2 (n0 := 2048) (n1 := 1) (val_main_v7 (F := Ideal) x1) fun s _ => rr X s := by
  intro i
  rw [val_main_v7_apply, r_v6 h1]
  exact rsqrt_real (ms_pos X _)

/-- The reference's derivative of the reciprocal root. -/
theorem r_v10 : R2 (n0 := 2048) (n1 := 1) (val_main_v10 (F := Ideal) x1) fun s _ => -(1 / 2) * (rr X s / ms X s) := by
  intro i
  simp only [val_main_v10_apply, val_main_v9_apply, val_main_cst_2_apply, val_main_v8_apply, r_v7 h1 _, r_v6 h1 _,
    div_real (ms_pos _ _).ne', lit_nhalf, Ideal.hostDivf_def, Ideal.mulf_def, Ideal.ofBits_def, ← EReal.coe_mul]

/-- The reference's normed rows. -/
theorem r_v12 : R2 (n0 := 2048) (n1 := 2048) (val_main_v12 (F := Ideal) x1) (hat X) := by
  intro i
  simp only [val_main_v12_apply, val_main_v11_apply, r_v7 h1 _, h1 _, Ideal.mulf_def, ← EReal.coe_mul]
  rfl

variable (h0 : R2 (n0 := 2048) (n1 := 2048) x0 D)
include h0

/-- The reference's gradient of the gain. -/
theorem r_v17 : R2 (n0 := 1) (n1 := 2048) (val_main_v17 (F := Ideal) x0 x1) fun _ j => dg X D j := by
  intro i
  have z0 : (i 0).val < 1 := (i 0).isLt
  simp only [val_main_v17_apply, val_main_v16_apply, val_main_cst_3_apply, val_main_v15_apply, r_v12 h1 _, h0 _, lit_0,
    Ideal.mulf_def, Ideal.ofBits_def, ← EReal.coe_mul, sum_real, zero_add_real]
  refine congrArg Real.toEReal (Finset.sum_congr rfl fun s _ => (mul_comm _ _).trans ?_)
  exact congrArg (fun j => D s j * hat X s j) (show (i 0).val * 2048 + (i 1).val = (i 1).val by omega)

variable (h2 : R2 (n0 := 1) (n1 := 2048) x2 G)
include h2

/-- The reference's gradient of the normed rows. -/
theorem r_v19 : R2 (n0 := 2048) (n1 := 2048) (val_main_v19 (F := Ideal) x0 x2) fun s j => D s j * G 0 j := by
  intro i
  simp only [val_main_v19_apply, val_main_v18_apply, h0 _, h2 _, Ideal.mulf_def, ← EReal.coe_mul]

/-- The reference's gradient of the reciprocal root. -/
theorem r_v22 : R2 (n0 := 2048) (n1 := 1) (val_main_v22 (F := Ideal) x0 x1 x2) fun s _ => ∑ k : Fin 2048, X s k * (D s k * G 0 k) := by
  intro i
  have z0 : (i 1).val < 1 := (i 1).isLt
  simp only [val_main_v22_apply, val_main_v21_apply, val_main_cst_4_apply, val_main_v20_apply, r_v19 h1 h0 h2 _, h1 _, lit_0,
    Ideal.mulf_def, Ideal.ofBits_def, ← EReal.coe_mul, sum_real, zero_add_real]
  refine congrArg Real.toEReal (Finset.sum_congr rfl fun k _ => ?_)
  exact congrArg (fun s => X s k * (D s k * G 0 k)) (show (i 0).val * 1 + (i 1).val = (i 0).val by omega)

/-- The reference's gradient of the squares. -/
theorem r_v30 : R2 (n0 := 2048) (n1 := 2048) (val_main_v30 (F := Ideal) x0 x1 x2)
    fun s _ => (∑ k : Fin 2048, X s k * (D s k * G 0 k)) * (-(1 / 2) * (rr X s / ms X s)) / 2048 := by
  intro i
  simp only [val_main_v30_apply, val_main_v29_apply, val_main_cst_6_apply, val_main_v28_apply, val_main_v27_apply, val_main_cst_5_apply,
    val_main_v26_apply, r_v22 h1 h0 h2 _, r_v10 h1 _, lit_0, lit_2048, div_real (show (2048 : ℝ) ≠ 0 by norm_num), Ideal.hostDivf_def,
    Ideal.mulf_def, Ideal.ofBits_def, ← EReal.coe_mul, sum_real, zero_add_real, Finset.univ_unique, Finset.sum_singleton]

variable (h3 : R2 (n0 := 2048) (n1 := 2048) x3 W)
include h3

/-- The reference's gradient of the rows. -/
theorem r_v34 : R2 (n0 := 2048) (n1 := 2048) (val_main_v34 (F := Ideal) x0 x1 x2 x3) fun s j => dx X (fun s j => D s j * G 0 j) s j + W s j := by
  intro i
  simp only [val_main_v34_apply, val_main_v33_apply, val_main_v32_apply, val_main_v31_apply, val_main_v25_apply, val_main_v24_apply,
    val_main_v23_apply, r_v30 h1 h0 h2 _, r_v19 h1 h0 h2 _, r_v7 h1 _, h1 _, h3 _, Ideal.mulf_def, Ideal.addf_def, ← EReal.coe_mul, ← EReal.coe_add]
  refine congrArg Real.toEReal ?_
  rw [← dx_chain]
  ring

/-- The reference's gradient of the rows, rounded. -/
theorem r_v35 : R2 (n0 := 2048) (n1 := 2048) (val_main_v35 (F := Ideal) x0 x1 x2 x3) fun s j => dx X (fun s j => D s j * G 0 j) s j + W s j :=
  fun i => r_v34 h1 h0 h2 h3 i

end

/-- Over the reals, from arguments that are finite, the kernel's run and the reference's run end with the same gradient of
    the residual stream, as it is and rounded, and the same gradient of the gain. -/
theorem algebraic : @Cert.algebraic_Kernel16Ideal_Reference16Ideal_pre_finite4 Cert.Kernel16Ideal.Gen.facts Cert.Reference16Ideal.Gen.facts
    Cert.Pre_finite4.Gen.facts := by
  intro m g m' g' hpre hag
  refine ⟨fun c => (dats m 0 c).arrAt 4 cfg0.N, fun c => (dats m 0 c).arrAt 5 cfg0.N, fun c => (dats m 0 c).arrAt 6 cfg0.N, Cert.Kernel16Ideal.Value.run_blocks m g, ?_⟩
  refine (θ_run Cert.Reference16Ideal.defs _ _).mono (fun r h c => ?_) (Cert.Reference16Ideal.Value.run m' g')
  obtain ⟨r0, r1, r2, hargs⟩ := h c
  obtain ⟨a0, a1, a2, a3⟩ := hag c
  obtain ⟨p0, p1, p2, p3⟩ := hpre c
  have h0 := R2.of_lt (x := m ((c.tc : Thread nD τ).loc main_arg0)) fun i => congrFun p0 i
  have h1 := R2.of_lt (x := m ((c.tc : Thread nD τ).loc main_arg1)) fun i => congrFun p1 i
  have h2 := R2.of_lt (x := m ((c.tc : Thread nD τ).loc main_arg2)) fun i => congrFun p2 i
  have h3 := R2.of_lt (x := m ((c.tc : Thread nD τ).loc main_arg3)) fun i => congrFun p3 i
  refine ⟨(r0.trans (Cert.Reference16Ideal.Read.val_main_v34_eq _ _ _ _)).trans ?_, (r1.trans (Cert.Reference16Ideal.Read.val_main_v35_eq _ _ _ _)).trans ?_,
    (r2.trans (Cert.Reference16Ideal.Read.val_main_v17_eq _ _)).trans ?_, hargs⟩
  · rw [a0, a1, a2, a3]
    exact eq_of (r_v34 h1 h0 h2 h3) (out4 h0 h1 h2 h3)
  · rw [a0, a1, a2, a3]
    exact eq_of (r_v35 h1 h0 h2 h3) (out5 h0 h1 h2 h3)
  · rw [a0, a1]
    exact eq_of (r_v17 h1 h0) (out6 h0 h1)

end Cert.RmsFfn

end
-- ==== Proof.Norm.lean ====
/- The root mean square norm of the rows of a tile, over the reals with infinities: the kernels' chains of operations
   as functions of the coordinates. -/
module

public import proofs.«01_k».proof.Defs
public import proofs.«01_k».proof.Proof.Prod

@[expose] public section

set_option maxRecDepth 16384

noncomputable section

namespace Cert.Norm

open Cert.Prod Idealize.ShloMosaic Idealize.ShloMosaic.TcCoe Idealize.SL.Sem

/-- The reciprocal root mean square of a row. -/
def rs (x : ℕ → ℕ → EReal) (s : ℕ) : EReal :=
  Ideal.rsqrt (Ideal.div (∑ k : Fin 2048, x s k * x s k) (Ideal.ofBits .f32 0x45000000#32) + Ideal.ofBits .f32 0x358637BD#32)

/-- The norm of a matrix's rows, times a gain. -/
def H (x g : ℕ → ℕ → EReal) (s j : ℕ) : EReal := x s j * rs x s * g 0 j

/-- The gain's gradient: the rows' norms times the incoming gradient, summed over the rows. -/
def C (n : ℕ) (x d : ℕ → ℕ → EReal) (j : ℕ) : EReal := ∑ s : Fin n, x s j * rs x s * d s j

variable {n : ℕ} {a b g : ℕ → ℕ → EReal} {x y : (Sh n 2048).Idx → EReal}

/-- The sums of the squares of the rows, as a column. -/
theorem squares (hx : M2 x a) (h : (Sh n 2048).Reduces [1] ⟨1, ![n]⟩) (hφ : FKind.Formats .f32) (acc) (hacc : acc = FKind.add.neutral .f32 hφ)
    (hc : (⟨1, ![n]⟩ : Shape).ShapeCasts (Sh n 1)) :
    M2 (n := n) (m := 1) (shapeCast (Sh n 1) (multiReduction (F := Ideal) (φ := .f32) .add [1] ⟨1, ![n]⟩ (mulf (F := Ideal) (φ := .f32) x x) acc h hφ hacc) hc)
      fun s _ => ∑ k : Fin 2048, a s k * a s k := by
  intro i
  rw [shapeCast_apply _ hc i (ix1 (i 0)) (by
    have h1 : (i 1).val = 0 := by have := (i 1).isLt; change (i 1).val < 1 at this; omega
    rw [Shape.rowMajor_val_one, Shape.rowMajor_val_two, h1]
    show (i 0).val = (i 0).val * 1 + 0
    omega)]
  refine (Ideal.multiReduction_add_single (s := Sh n 2048) (a := (1 : Fin 2)) _ acc h hφ hacc _).trans ?_
  exact Finset.sum_congr rfl fun k _ => congrArg₂ (· * ·) (hx _) (hx _)

/-- The sums of the columns, as a row. -/
theorem sums (hx : M2 x a) (h : (Sh n 2048).Reduces [0] ⟨1, ![2048]⟩) (hφ : FKind.Formats .f32) (acc) (hacc : acc = FKind.add.neutral .f32 hφ)
    (hc : (⟨1, ![2048]⟩ : Shape).ShapeCasts (Sh 1 2048)) :
    M2 (n := 1) (m := 2048) (shapeCast (Sh 1 2048) (multiReduction (F := Ideal) (φ := .f32) .add [0] ⟨1, ![2048]⟩ x acc h hφ hacc) hc)
      fun _ j => ∑ s : Fin n, a s j := by
  intro i
  rw [shapeCast_apply _ hc i (ix1 (i 1)) (by
    have h1 : (i 0).val = 0 := by have := (i 0).isLt; change (i 0).val < 1 at this; omega
    rw [Shape.rowMajor_val_one, Shape.rowMajor_val_two, h1]
    show (i 1).val = 0 * 2048 + (i 1).val
    omega)]
  refine (Ideal.multiReduction_add_single (s := Sh n 2048) (a := (0 : Fin 2)) x acc h hφ hacc _).trans ?_
  exact Finset.sum_congr rfl fun k _ => hx _

/-- A column repeated along the rows. -/
theorem col {x : (Sh 256 1).Idx → EReal} (hx : M2 x a) (h : (Sh 256 1).Broadcasts (Sh 256 2048)) :
    M2 (n := 256) (m := 2048) (broadcastTo (Sh 256 2048) x h) fun s _ => a s 0 := by
  intro i
  rw [broadcastTo_apply x h i (ix2 (i 0) 0) (fun c => by
    match c with
    | ⟨0, _⟩ => rfl
    | ⟨1, _⟩ => rfl)]
  exact hx _

/-- A row repeated down the columns. -/
theorem row {x : (Sh 1 2048).Idx → EReal} (hx : M2 x a) (h : (Sh 1 2048).Broadcasts (Sh 256 2048)) :
    M2 (n := 256) (m := 2048) (broadcastTo (Sh 256 2048) x h) fun _ j => a 0 j := by
  intro i
  rw [broadcastTo_apply x h i (ix2 0 (i 1)) (fun c => by
    match c with
    | ⟨0, _⟩ => rfl
    | ⟨1, _⟩ => rfl)]
  exact hx _

end Cert.Norm

end
-- ==== Proof.RmsMem.lean ====
/- The backward of the memory's RMS norm, as far as its gain: the kernel's row and the reference's hold the same numbers. -/
module

public import proofs.«01_k».proof.Defs
public import proofs.«01_k».proof.Proof.Norm
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read

@[expose] public section

set_option maxRecDepth 16384

noncomputable section

namespace Cert.RmsMem

open Cert.Kernel17Ideal Cert.Kernel17Ideal.Gen Cert.Prod Cert.Norm Idealize.ShloMosaic Idealize.ShloMosaic.TcCoe Idealize.SL.Sem

variable {f g a b d : ℕ → ℕ → EReal}

/-- The sums of the norms times the incoming gradient. -/
theorem share {x y : FVec Ideal S256x2048 .f32} (hx : M2 (n := 256) (m := 2048) x a) (hy : M2 (n := 256) (m := 2048) y d) :
    M2 (n := 1) (m := 2048) (k0_pay1 (F := Ideal) x y) fun _ j => C 256 a d j := by
  have hr : M2 (n := 256) (m := 1) (rsqrt (F := Ideal) (φ := .f32) (addf (divf (shapeCast S256x1 (multiReduction (F := Ideal) .add [1] S256 (mulf x x) 0x00000000#32 reduces_S256x2048_S256 (.inl rfl) rfl)
      shapeCasts_S256_S256x1) (broadcast S256x1 (Scalar.ofBits (F := Ideal) .f32 0x45000000#32))) (broadcast S256x1 (Scalar.ofBits (F := Ideal) .f32 0x358637BD#32))))
      fun s _ => rs a s :=
    fun i => congrArg (fun q : EReal => Ideal.rsqrt (Ideal.div q (Ideal.ofBits .f32 0x45000000#32) + Ideal.ofBits .f32 0x358637BD#32))
      (squares hx reduces_S256x2048_S256 (.inl rfl) 0x00000000#32 rfl shapeCasts_S256_S256x1 i)
  unfold k0_pay1
  refine sums (n := 256) (a := fun s j => a s j * rs a s * d s j) (fun i => ?_) reduces_S256x2048_S2048 (.inl rfl) 0x00000000#32 rfl shapeCasts_S2048_S1x2048
  refine (mul_comm _ _).trans ?_
  exact congrArg₂ (· * ·) (congrArg₂ (· * ·) (hx i) (col hr broadcasts_S256x1_S256x2048 i)) (hy i)

variable (m : (ℓ : Loc nD τ sig) → Buf (Elt Ideal) ℓ)

/-- The index maps of the windows. -/
theorem idx : ∀ t : Fin cfg0.N, win0_0.index t = ![t.val, 0] ∧ win0_1.index t = ![t.val, 0] ∧ win0_3.index t = ![0, 0] :=
  (by decide +kernel : ∀ t : Fin grid0.N, _)

/-- The incoming gradient reaches the kernel as it is. -/
theorem host_d (c : Dev nD) : (V m c main_arg0 : S256x2048.Idx → EReal) = m ((c.tc : Thread nD τ).loc main_arg0) := rfl

/-- And so does the memory. -/
theorem host_x (c : Dev nD) : (V m c main_arg1 : S256x2048.Idx → EReal) = m ((c.tc : Thread nD τ).loc main_arg1) := rfl

variable {m} {c : Dev nD}

/-- The incoming gradient, whole at the one grid point. -/
theorem in_d (h : M2 (n := 256) (m := 2048) (m ((c.tc : Thread nD τ).loc main_arg0)) d) (t : Fin cfg0.N) :
    M2 (n := 256) (m := 2048) (iblk m c 0 t) d := by
  intro i
  have e := idx t
  have hz : t.val = 0 := Nat.lt_one_iff.mp t.isLt
  have e0 : ((win0_0.blk t).view.emb i 0 : ℕ) = (i 0).val := by blk_simp [e]; try omega
  have e1 : ((win0_0.blk t).view.emb i 1 : ℕ) = (i 1).val := by blk_simp [e]; try omega
  blk_simp [iblk]
  rw [host_d]
  refine (h _).trans ?_
  rw [e0, e1]

/-- The memory, whole at the one grid point. -/
theorem in_x (h : M2 (n := 256) (m := 2048) (m ((c.tc : Thread nD τ).loc main_arg1)) f) (t : Fin cfg0.N) :
    M2 (n := 256) (m := 2048) (iblk m c 1 t) f := by
  intro i
  have e := idx t
  have hz : t.val = 0 := Nat.lt_one_iff.mp t.isLt
  have e0 : ((win0_1.blk t).view.emb i 0 : ℕ) = (i 0).val := by blk_simp [e]; try omega
  have e1 : ((win0_1.blk t).view.emb i 1 : ℕ) = (i 1).val := by blk_simp [e]; try omega
  blk_simp [iblk]
  rw [host_x]
  refine (h _).trans ?_
  rw [e0, e1]

/-- What the kernel leaves of its one block. -/
theorem tile (h0 : M2 (n := 256) (m := 2048) (m ((c.tc : Thread nD τ).loc main_arg0)) d)
    (h1 : M2 (n := 256) (m := 2048) (m ((c.tc : Thread nD τ).loc main_arg1)) f) (t : Fin cfg0.N) :
    M2 (n := 1) (m := 2048) ((dats m 0 c).after 3 t) fun _ j => C 256 f d j := by
  intro y
  rw [after0_3]
  unfold outsAt0
  frame_out
  exact share (in_x h1 t) (in_d h0 t) y

/-- The kernel's gradient of the gain. -/
theorem out (h0 : M2 (n := 256) (m := 2048) (m ((c.tc : Thread nD τ).loc main_arg0)) d)
    (h1 : M2 (n := 256) (m := 2048) (m ((c.tc : Thread nD τ).loc main_arg1)) f) :
    M2 (n := 1) (m := 2048) ((dats m 0 c).arrAt 3 cfg0.N) fun _ j => C 256 f d j := by
  refine fun i => congrFun ((dats m 0 c).arrAt_eq_of_covers 3 (fun i => C 256 f d (i 1).val) (by decide +kernel) fun t _ y => ?_) i
  have e := idx t
  have e1 : ((win0_3.blk t).view.emb y 1 : ℕ) = (y 1).val := by blk_simp [e]; try omega
  refine Eq.trans ?_ (congrArg (C 256 f d) e1).symm
  have ht := tile h0 h1 t y
  blk_simp
  exact ht

section
open Cert.Reference17Ideal.Read
variable {x0 x1 : S256x2048.Idx → EReal}

/-- The reference's gradient of the gain. -/
theorem ref (h0 : M2 (n := 256) (m := 2048) x0 d) (h1 : M2 (n := 256) (m := 2048) x1 f) :
    M2 (n := 1) (m := 2048) (val_main_v14 (F := Ideal) x0 x1) fun _ j => C 256 f d j := by
  intro i
  have e : ∀ k : Cert.Reference17Ideal.S256.Idx, val_main_v1 (F := Ideal) x1 k = ∑ j : Fin 2048, f (k 0).val j * f (k 0).val j := by
    intro k
    rw [val_main_v1_apply, val_main_cst_apply, Ideal.ofBits_def, Ideal.ofBits_zero_f32, zero_add]
    refine Finset.sum_congr rfl fun j _ => ?_
    rw [val_main_v0_apply, h1]
    rfl
  have e' : ∀ k : Cert.Reference17Ideal.S2048.Idx, val_main_v13 (F := Ideal) x0 x1 k = C 256 f d (k 0).val := by
    intro k
    rw [val_main_v13_apply, val_main_cst_2_apply, Ideal.ofBits_def, Ideal.ofBits_zero_f32, zero_add]
    refine Finset.sum_congr rfl fun s _ => ?_
    rw [val_main_v12_apply, val_main_v9_apply, val_main_v8_apply, val_main_v7_apply, val_main_v6_apply, val_main_v4_apply,
      val_main_v2_apply, e, val_main_v3_apply, val_main_cst_0_apply, val_main_v5_apply, val_main_cst_1_apply, h0, h1]
    rfl
  unfold val_main_v14
  refine (shapeCast_apply _ Cert.Reference17Ideal.Gen.shapeCasts_S2048_S1x2048 i (ix1 (i 1)) (by
    have h1 : (i 0).val = 0 := by have := (i 0).isLt; change (i 0).val < 1 at this; omega
    rw [Shape.rowMajor_val_one, Shape.rowMajor_val_two, h1]
    show (i 1).val = 0 * 2048 + (i 1).val
    omega)).trans ?_
  exact e' _

end

/-- Over the reals the kernel's run and the reference's run end with the same gradient of the gain. -/
theorem algebraic : @Cert.algebraic_Kernel17Ideal_Reference17Ideal Cert.Kernel17Ideal.Gen.facts Cert.Reference17Ideal.Gen.facts := by
  intro m g m' g' _ hag
  refine ⟨fun c => (dats m 0 c).arrAt 3 cfg0.N, Cert.Kernel17Ideal.Value.run_blocks m g, ?_⟩
  refine (θ_run Cert.Reference17Ideal.defs _ _).mono (fun r h c => ?_) (Cert.Reference17Ideal.Value.run m' g')
  obtain ⟨r0, hargs⟩ := h c
  obtain ⟨a0, a1, a2⟩ := hag c
  refine ⟨(r0.trans (Cert.Reference17Ideal.Read.val_main_v14_eq _ _)).trans ?_, hargs⟩
  rw [a0, a1]
  exact M2.eq (ref (M2.elt _) (M2.elt _)) (out (M2.elt _) (M2.elt _))

end Cert.RmsMem

end
-- ==== Proof.RmsFwd.lean ====
/- The mixer's RMS norm: the kernel's tiles and the reference's array hold the same numbers. -/
module

public import proofs.«01_k».proof.Defs
public import proofs.«01_k».proof.Proof.Norm
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read

@[expose] public section

set_option maxRecDepth 16384

noncomputable section

namespace Cert.RmsFwd

open Cert.Kernel18Ideal Cert.Kernel18Ideal.Gen Cert.Prod Cert.Norm Idealize.ShloMosaic Idealize.ShloMosaic.TcCoe Idealize.SL.Sem

variable {f g a b : ℕ → ℕ → EReal}

/-- The norm of a tile's rows. -/
theorem norm {x : FVec Ideal S256x2048 .f32} {u : FVec Ideal S1x2048 .f32} (hx : M2 (n := 256) (m := 2048) x a) (hu : M2 (n := 1) (m := 2048) u b) :
    M2 (n := 256) (m := 2048) (k0_pay1 (F := Ideal) x u) (H a b) := by
  have hr : M2 (n := 256) (m := 1) (rsqrt (F := Ideal) (φ := .f32) (addf (divf (shapeCast S256x1 (multiReduction (F := Ideal) .add [1] S256 (mulf x x) 0x00000000#32 reduces_S256x2048_S256 (.inl rfl) rfl)
      shapeCasts_S256_S256x1) (broadcast S256x1 (Scalar.ofBits (F := Ideal) .f32 0x45000000#32))) (broadcast S256x1 (Scalar.ofBits (F := Ideal) .f32 0x358637BD#32))))
      fun s _ => rs a s :=
    fun i => congrArg (fun q : EReal => Ideal.rsqrt (Ideal.div q (Ideal.ofBits .f32 0x45000000#32) + Ideal.ofBits .f32 0x358637BD#32))
      (squares hx reduces_S256x2048_S256 (.inl rfl) 0x00000000#32 rfl shapeCasts_S256_S256x1 i)
  unfold k0_pay1
  intro i
  exact congrArg₂ (· * ·) (congrArg₂ (· * ·) (hx i) (col hr broadcasts_S256x1_S256x2048 i)) (row hu broadcasts_S1x2048_S256x2048 i)

variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] :=
  (by decide +kernel : ∀ t : Fin grid0.N, _)

/-- The rows reach the kernel as they are. -/
theorem host_x (c : Dev nD) : (V m c main_arg0 : S2048x2048.Idx → EReal) = m ((c.tc : Thread nD τ).loc main_arg0) := rfl

/-- And so does the gain. -/
theorem host_g (c : Dev nD) : (V m c main_arg1 : S1x2048.Idx → EReal) = m ((c.tc : Thread nD τ).loc main_arg1) := rfl

variable {m} {c : Dev nD}

/-- The rows of a grid point. -/
theorem in_x (h : M2 (n := 2048) (m := 2048) (m ((c.tc : Thread nD τ).loc main_arg0)) f) (t : Fin cfg0.N) :
    M2 (n := 256) (m := 2048) (iblk m c 0 t) fun s j => f (256 * t.val + s) j := by
  intro i
  have e := idx t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [host_x]
  refine (h _).trans ?_
  rw [e0, e1]

/-- The gain, whole at each grid point. -/
theorem in_g (h : M2 (n := 1) (m := 2048) (m ((c.tc : Thread nD τ).loc main_arg1)) g) (t : Fin cfg0.N) :
    M2 (n := 1) (m := 2048) (iblk m c 1 t) g := by
  intro i
  have e := idx t
  have e0 : ((win0_1.blk t).view.emb i 0 : ℕ) = (i 0).val := by blk_simp [e]; try omega
  have e1 : ((win0_1.blk t).view.emb i 1 : ℕ) = (i 1).val := by blk_simp [e]; try omega
  blk_simp [iblk]
  rw [host_g]
  refine (h _).trans ?_
  have z : (i 0).val = 0 := Nat.lt_one_iff.mp (i 0).isLt
  rw [e0, e1, z]

/-- What the kernel leaves of a tile. -/
theorem tile (h0 : M2 (n := 2048) (m := 2048) (m ((c.tc : Thread nD τ).loc main_arg0)) f)
    (h1 : M2 (n := 1) (m := 2048) (m ((c.tc : Thread nD τ).loc main_arg1)) g) (t : Fin cfg0.N) :
    M2 (n := 256) (m := 2048) ((dats m 0 c).after 2 t) fun s j => H f g (256 * t.val + s) j := by
  intro y
  rw [after0_2]
  unfold outsAt0
  frame_out
  exact norm (in_x h0 t) (in_g h1 t) y

/-- The kernel's norm. -/
theorem out (h0 : M2 (n := 2048) (m := 2048) (m ((c.tc : Thread nD τ).loc main_arg0)) f)
    (h1 : M2 (n := 1) (m := 2048) (m ((c.tc : Thread nD τ).loc main_arg1)) g) :
    M2 (n := 2048) (m := 2048) ((dats m 0 c).arrAt 2 cfg0.N) (H f g) := by
  refine fun i => congrFun ((dats m 0 c).arrAt_eq_of_covers 2 (fun i => H f g (i 0).val (i 1).val) (by decide +kernel) fun t _ y => ?_) i
  have e := idx t
  have e0 : ((win0_2.blk t).view.emb y 0 : ℕ) = 256 * t.val + (y 0).val := by blk_simp [e]; try omega
  have e1 : ((win0_2.blk t).view.emb y 1 : ℕ) = (y 1).val := by blk_simp [e]; try omega
  refine Eq.trans ?_ (congrArg₂ (H f g) e0 e1).symm
  blk_simp
  exact tile h0 h1 t y

section
open Cert.Reference18Ideal.Read
variable {x0 : S2048x2048.Idx → EReal} {x1 : S1x2048.Idx → EReal}

/-- The reference's norm. -/
theorem ref (h0 : M2 (n := 2048) (m := 2048) x0 f) (h1 : M2 (n := 1) (m := 2048) x1 g) :
    M2 (n := 2048) (m := 2048) (val_main_v12 (F := Ideal) x0 x1) (H f g) := by
  intro i
  have e : ∀ k : Cert.Reference18Ideal.S2048.Idx, val_main_v1 (F := Ideal) x0 k = ∑ j : Fin 2048, f (k 0).val j * f (k 0).val j := by
    intro k
    rw [val_main_v1_apply, val_main_cst_apply, Ideal.ofBits_def, Ideal.ofBits_zero_f32, zero_add]
    refine Finset.sum_congr rfl fun j _ => ?_
    rw [val_main_v0_apply, h0]
    rfl
  rw [val_main_v12_apply, val_main_v11_apply, val_main_v9_apply, val_main_v8_apply, val_main_v7_apply, val_main_v6_apply, val_main_v4_apply,
    val_main_v2_apply, e, val_main_v3_apply, val_main_cst_0_apply, val_main_v5_apply, val_main_cst_1_apply, val_main_v10_apply, h0, h1]
  rfl

end

/-- Over the reals the kernel's run and the reference's run end with the same norm. -/
theorem algebraic : @Cert.algebraic_Kernel18Ideal_Reference18Ideal Cert.Kernel18Ideal.Gen.facts Cert.Reference18Ideal.Gen.facts := by
  intro m g m' g' _ hag
  refine ⟨fun c => (dats m 0 c).arrAt 2 cfg0.N, Cert.Kernel18Ideal.Value.run_blocks m g, ?_⟩
  refine (θ_run Cert.Reference18Ideal.defs _ _).mono (fun r h c => ?_) (Cert.Reference18Ideal.Value.run m' g')
  obtain ⟨r0, hargs⟩ := h c
  obtain ⟨a0, a1⟩ := hag c
  refine ⟨(r0.trans (Cert.Reference18Ideal.Read.val_main_v12_eq _ _)).trans ?_, hargs⟩
  rw [a0, a1]
  exact M2.eq (ref (M2.elt _) (M2.elt _)) (out (M2.elt _) (M2.elt _))

end Cert.RmsFwd

end
-- ==== Proof.RmsMemFwd.lean ====
/- The RMS norm of the memory: the kernel's tiles and the reference's array hold the same numbers. -/
module

public import proofs.«01_k».proof.Defs
public import proofs.«01_k».proof.Proof.Norm
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read

@[expose] public section

set_option maxRecDepth 16384

noncomputable section

namespace Cert.RmsMemFwd

open Cert.Kernel19Ideal Cert.Kernel19Ideal.Gen Cert.Prod Cert.Norm Idealize.ShloMosaic Idealize.ShloMosaic.TcCoe Idealize.SL.Sem

variable {f g a b : ℕ → ℕ → EReal}

/-- The norm of a tile's rows. -/
theorem norm {x : FVec Ideal S256x2048 .f32} {u : FVec Ideal S1x2048 .f32} (hx : M2 (n := 256) (m := 2048) x a) (hu : M2 (n := 1) (m := 2048) u b) :
    M2 (n := 256) (m := 2048) (k0_pay1 (F := Ideal) x u) (H a b) := by
  have hr : M2 (n := 256) (m := 1) (rsqrt (F := Ideal) (φ := .f32) (addf (divf (shapeCast S256x1 (multiReduction (F := Ideal) .add [1] S256 (mulf x x) 0x00000000#32 reduces_S256x2048_S256 (.inl rfl) rfl)
      shapeCasts_S256_S256x1) (broadcast S256x1 (Scalar.ofBits (F := Ideal) .f32 0x45000000#32))) (broadcast S256x1 (Scalar.ofBits (F := Ideal) .f32 0x358637BD#32))))
      fun s _ => rs a s :=
    fun i => congrArg (fun q : EReal => Ideal.rsqrt (Ideal.div q (Ideal.ofBits .f32 0x45000000#32) + Ideal.ofBits .f32 0x358637BD#32))
      (squares hx reduces_S256x2048_S256 (.inl rfl) 0x00000000#32 rfl shapeCasts_S256_S256x1 i)
  unfold k0_pay1
  intro i
  exact congrArg₂ (· * ·) (congrArg₂ (· * ·) (hx i) (col hr broadcasts_S256x1_S256x2048 i)) (row hu broadcasts_S1x2048_S256x2048 i)

variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] :=
  (by decide +kernel : ∀ t : Fin grid0.N, _)

/-- The rows reach the kernel as they are. -/
theorem host_x (c : Dev nD) : (V m c main_arg0 : S256x2048.Idx → EReal) = m ((c.tc : Thread nD τ).loc main_arg0) := rfl

/-- And so does the gain. -/
theorem host_g (c : Dev nD) : (V m c main_arg1 : S1x2048.Idx → EReal) = m ((c.tc : Thread nD τ).loc main_arg1) := rfl

variable {m} {c : Dev nD}

/-- The rows of the one grid point. -/
theorem in_x (h : M2 (n := 256) (m := 2048) (m ((c.tc : Thread nD τ).loc main_arg0)) f) (t : Fin cfg0.N) :
    M2 (n := 256) (m := 2048) (iblk m c 0 t) fun s j => f (256 * t.val + s) j := by
  intro i
  have e := idx t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [host_x]
  refine (h _).trans ?_
  have hz : t.val = 0 := Nat.lt_one_iff.mp t.isLt
  rw [e0, e1, hz]

/-- The gain, whole at each grid point. -/
theorem in_g (h : M2 (n := 1) (m := 2048) (m ((c.tc : Thread nD τ).loc main_arg1)) g) (t : Fin cfg0.N) :
    M2 (n := 1) (m := 2048) (iblk m c 1 t) g := by
  intro i
  have e := idx t
  have e0 : ((win0_1.blk t).view.emb i 0 : ℕ) = (i 0).val := by blk_simp [e]; try omega
  have e1 : ((win0_1.blk t).view.emb i 1 : ℕ) = (i 1).val := by blk_simp [e]; try omega
  blk_simp [iblk]
  rw [host_g]
  refine (h _).trans ?_
  have z : (i 0).val = 0 := Nat.lt_one_iff.mp (i 0).isLt
  rw [e0, e1, z]

/-- What the kernel leaves of a tile. -/
theorem tile (h0 : M2 (n := 256) (m := 2048) (m ((c.tc : Thread nD τ).loc main_arg0)) f)
    (h1 : M2 (n := 1) (m := 2048) (m ((c.tc : Thread nD τ).loc main_arg1)) g) (t : Fin cfg0.N) :
    M2 (n := 256) (m := 2048) ((dats m 0 c).after 2 t) fun s j => H f g (256 * t.val + s) j := by
  intro y
  rw [after0_2]
  unfold outsAt0
  frame_out
  exact norm (in_x h0 t) (in_g h1 t) y

/-- The kernel's norm. -/
theorem out (h0 : M2 (n := 256) (m := 2048) (m ((c.tc : Thread nD τ).loc main_arg0)) f)
    (h1 : M2 (n := 1) (m := 2048) (m ((c.tc : Thread nD τ).loc main_arg1)) g) :
    M2 (n := 256) (m := 2048) ((dats m 0 c).arrAt 2 cfg0.N) (H f g) := by
  refine fun i => congrFun ((dats m 0 c).arrAt_eq_of_covers 2 (fun i => H f g (i 0).val (i 1).val) (by decide +kernel) fun t _ y => ?_) i
  have e := idx t
  have e0 : ((win0_2.blk t).view.emb y 0 : ℕ) = 256 * t.val + (y 0).val := by blk_simp [e]; try omega
  have e1 : ((win0_2.blk t).view.emb y 1 : ℕ) = (y 1).val := by blk_simp [e]; try omega
  refine Eq.trans ?_ (congrArg₂ (H f g) e0 e1).symm
  have hz : t.val = 0 := Nat.lt_one_iff.mp t.isLt
  have ht := tile h0 h1 t y
  rw [hz] at ht
  blk_simp
  exact ht

section
open Cert.Reference19Ideal.Read
variable {x0 : S256x2048.Idx → EReal} {x1 : S1x2048.Idx → EReal}

/-- The reference's norm. -/
theorem ref (h0 : M2 (n := 256) (m := 2048) x0 f) (h1 : M2 (n := 1) (m := 2048) x1 g) :
    M2 (n := 256) (m := 2048) (val_main_v12 (F := Ideal) x0 x1) (H f g) := by
  intro i
  have e : ∀ k : Cert.Reference19Ideal.S256.Idx, val_main_v1 (F := Ideal) x0 k = ∑ j : Fin 2048, f (k 0).val j * f (k 0).val j := by
    intro k
    rw [val_main_v1_apply, val_main_cst_apply, Ideal.ofBits_def, Ideal.ofBits_zero_f32, zero_add]
    refine Finset.sum_congr rfl fun j _ => ?_
    rw [val_main_v0_apply, h0]
    rfl
  rw [val_main_v12_apply, val_main_v11_apply, val_main_v9_apply, val_main_v8_apply, val_main_v7_apply, val_main_v6_apply, val_main_v4_apply,
    val_main_v2_apply, e, val_main_v3_apply, val_main_cst_0_apply, val_main_v5_apply, val_main_cst_1_apply, val_main_v10_apply, h0, h1]
  rfl

end

/-- Over the reals the kernel's run and the reference's run end with the same norm. -/
theorem algebraic : @Cert.algebraic_Kernel19Ideal_Reference19Ideal Cert.Kernel19Ideal.Gen.facts Cert.Reference19Ideal.Gen.facts := by
  intro m g m' g' _ hag
  refine ⟨fun c => (dats m 0 c).arrAt 2 cfg0.N, Cert.Kernel19Ideal.Value.run_blocks m g, ?_⟩
  refine (θ_run Cert.Reference19Ideal.defs _ _).mono (fun r h c => ?_) (Cert.Reference19Ideal.Value.run m' g')
  obtain ⟨r0, hargs⟩ := h c
  obtain ⟨a0, a1⟩ := hag c
  refine ⟨(r0.trans (Cert.Reference19Ideal.Read.val_main_v12_eq _ _)).trans ?_, hargs⟩
  rw [a0, a1]
  exact M2.eq (ref (M2.elt _) (M2.elt _)) (out (M2.elt _) (M2.elt _))

end Cert.RmsMemFwd

end
-- ==== Proof.LossBwd.lean ====
/- The loss and its gradient through the last RMS norm: the kernel's tiles and sums and the reference's arrays hold the
   same real numbers. -/
module

public import proofs.«01_k».proof.Defs
public import proofs.«01_k».proof.Proof.Rms
public import proofs.«01_k».proof.Proof.Gen.Pre_finite3
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read

@[expose] public section

set_option maxRecDepth 16384

noncomputable section

namespace Cert.LossBwd

open Cert.Kernel20Ideal Cert.Kernel20Ideal.Gen Cert.Mix Cert.Rms Idealize.ShloMosaic Idealize.ShloMosaic.TcCoe Idealize.SL.Sem

/-- The difference to the target. -/
def E (X G Y : ℕ → ℕ → ℝ) (s j : ℕ) : ℝ := hat X s j * G 0 j - Y s j

/-- The gradient of the normed rows times the gain. -/
def U (X G Y : ℕ → ℕ → ℝ) (s j : ℕ) : ℝ := E X G Y s j * (1 / 2048)

/-- The gradient of the normed rows. -/
def T (X G Y : ℕ → ℕ → ℝ) (s j : ℕ) : ℝ := U X G Y s j * G 0 j

/-- The literal for the reciprocal of the rows' length. -/
theorem lit_r2048 : Ideal.ofBits .f32 0x3A000000#32 = ((1 / 2048 : ℝ) : EReal) := by
  simp [Ideal.ofBits, Ideal.ieee, -EReal.coe_mul]; norm_num

/-- The literal for half of it. -/
theorem lit_r4096 : Ideal.ofBits .f32 0x39800000#32 = ((1 / 4096 : ℝ) : EReal) := by
  simp [Ideal.ofBits, Ideal.ieee, -EReal.coe_mul]; norm_num

/-- The literal for one half. -/
theorem lit_half : Ideal.ofBits .f32 0x3F000000#32 = ((1 / 2 : ℝ) : EReal) := by
  simp [Ideal.ofBits, Ideal.ieee, -EReal.coe_mul]; norm_num

/-- The literal for one. -/
theorem lit_1 : Ideal.ofBits .f32 0x3F800000#32 = ((1 : ℝ) : EReal) := by
  simp [Ideal.ofBits, Ideal.ieee, -EReal.coe_mul]; norm_num

/-- The literal for two. -/
theorem lit_2 : Ideal.ofBits .f32 0x40000000#32 = ((2 : ℝ) : EReal) := by
  simp [Ideal.ofBits, Ideal.ieee, -EReal.coe_mul]; norm_num

/-- A sum over the indices of an array of one axis is the sum over the axis. -/
theorem sum_line {n : ℕ} (f : Fin n → EReal) : ∑ k : (⟨1, ![n]⟩ : Shape).Idx, f (k 0) = ∑ k : Fin n, f k :=
  Fintype.sum_equiv ⟨fun k => k 0, fun k => ix1 k, fun k => (eq_ix1 k).symm, fun _ => rfl⟩ _ _ fun _ => rfl

variable {X Y G P : ℕ → ℕ → ℝ}

section
variable {x y : Vec Ideal S256x2048 .f32} {g p : Vec Ideal S1x2048 .f32} (hx : R2 (n0 := 256) (n1 := 2048) x X)
include hx

/-- The reciprocal root mean squares of a tile's rows. -/
theorem rr_val : R2 (n0 := 256) (n1 := 1) (k0_pay4 (F := Ideal) x) fun s _ => rr X s := rms hx _ _ _ _ _

/-- A tile's rows divided by their root mean squares. -/
theorem hat_val : R2 (n0 := 256) (n1 := 2048) (k0_pay5 (F := Ideal) x) (hat X) := hx.mul ((rr_val hx).col _)

variable (hg : R2 (n0 := 1) (n1 := 2048) g G) (hy : R2 (n0 := 256) (n1 := 2048) y Y)
include hg hy

/-- A tile's differences to the target. -/
theorem e_val : R2 (n0 := 256) (n1 := 2048) (k0_pay6 (F := Ideal) x g y) (E X G Y) := ((hat_val hx).mul (hg.row _)).sub hy

/-- The gradient of a tile's normed rows times the gain. -/
theorem u_val : R2 (n0 := 256) (n1 := 2048) (k0_pay7 (F := Ideal) x g y) (U X G Y) := (e_val hx hg hy).mul (R2.splat lit_r2048)

/-- What a tile adds to the loss's columns. -/
theorem sq_val : R2 (n0 := 1) (n1 := 2048) (k0_pay8 (F := Ideal) x g y) fun _ j => ∑ s : Fin 256, E X G Y s j * E X G Y s j :=
  ((e_val hx hg hy).mul (e_val hx hg hy)).colSum _ _ _ _ _

/-- What a tile adds to the gain's gradient. -/
theorem dg_val : R2 (n0 := 1) (n1 := 2048) (k0_pay9 (F := Ideal) x g y) fun _ j => ∑ s : Fin 256, U X G Y s j * hat X s j :=
  ((u_val hx hg hy).mul (hat_val hx)).colSum _ _ _ _ _

/-- The loss's columns after the first tile. -/
theorem sq0_val : R2 (n0 := 1) (n1 := 2048) (k0_pay10 (F := Ideal) x g y) fun _ j => ∑ s : Fin 256, E X G Y s j * E X G Y s j :=
  (sq_val hx hg hy).cast _

/-- The loss's columns with a tile's share added. -/
theorem sqadd_val (hp : R2 (n0 := 1) (n1 := 2048) p P) :
    R2 (n0 := 1) (n1 := 2048) (k0_pay11 (F := Ideal) x g y p) fun s j => P s j + ∑ i : Fin 256, E X G Y i j * E X G Y i j :=
  (hp.add (sq_val hx hg hy)).cast _

/-- The gain's gradient with a tile's share added. -/
theorem dgadd_val (hp : R2 (n0 := 1) (n1 := 2048) p P) :
    R2 (n0 := 1) (n1 := 2048) (k0_pay12 (F := Ideal) x g y p) fun s j => P s j + ∑ i : Fin 256, U X G Y i j * hat X i j :=
  (hp.cast _).add (dg_val hx hg hy)

/-- The gradient of a tile's normed rows. -/
theorem t_val : R2 (n0 := 256) (n1 := 2048) (k0_pay13 (F := Ideal) x g y) (T X G Y) := (u_val hx hg hy).mul (hg.row _)

/-- The gradient of a tile's rows. -/
theorem dx_val : R2 (n0 := 256) (n1 := 2048) (k0_pay1 (F := Ideal) (k0_pay4 (F := Ideal) x) (k0_pay13 (F := Ideal) x g y) (k0_pay14 (F := Ideal) x g y)) (dx X (T X G Y)) :=
  back (t_val hx hg hy) (rr_val hx) (hat_val hx) _ _ _ _ _ _

end

/-- The loss from its columns. -/
theorem loss_val {p : Vec Ideal S1x2048 .f32} (hp : R2 (n0 := 1) (n1 := 2048) p P) :
    R2 (n0 := 1) (n1 := 1) (k0_pay3 (F := Ideal) p) fun s _ => (∑ j : Fin 2048, P s j) * (1 / 4096) :=
  (hp.rowSum _ _ _ _ _).mul (R2.splat lit_r4096)

variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The arguments reach the kernel as they are. -/
theorem host_x (c : Dev nD) : (V m c main_arg0 : S2048x2048.Idx → EReal) = m ((c.tc : Thread nD τ).loc main_arg0) := rfl
theorem host_g (c : Dev nD) : (V m c main_arg1 : S1x2048.Idx → EReal) = m ((c.tc : Thread nD τ).loc main_arg1) := rfl
theorem host_y (c : Dev nD) : (V m c main_arg2 : S2048x2048.Idx → EReal) = m ((c.tc : Thread nD τ).loc main_arg2) := rfl

variable {m} {c : Dev nD}

/-- The rows of a grid point. -/
theorem in_x (h : R2 (n0 := 2048) (n1 := 2048) (m ((c.tc : Thread nD τ).loc main_arg0)) X) (t : Fin cfg0.N) :
    R2 (n0 := 256) (n1 := 2048) (iblk m c 0 t) fun s j => X (256 * t.val + s) j := by
  intro i
  have e := idx t
  have e0 : ((win0_0.blk t).view.emb i 0 : ℕ) = 256 * t.val + (i 0).val := by blk_simp [e]; try omega
  have e1 : ((win0_0.blk t).view.emb i 1 : ℕ) = (i 1).val := by blk_simp [e]; try omega
  blk_simp [iblk]
  rw [host_x]
  refine (h _).trans ?_
  rw [e0, e1]

/-- The gain, at every grid point. -/
theorem in_g (h : R2 (n0 := 1) (n1 := 2048) (m ((c.tc : Thread nD τ).loc main_arg1)) G) (t : Fin cfg0.N) :
    R2 (n0 := 1) (n1 := 2048) (iblk m c 1 t) G := by
  intro i
  have e := idx t
  have z : (i 0).val = 0 := Nat.lt_one_iff.mp (i 0).isLt
  have e0 : ((win0_1.blk t).view.emb i 0 : ℕ) = (i 0).val := by blk_simp [e]; try omega
  have e1 : ((win0_1.blk t).view.emb i 1 : ℕ) = (i 1).val := by blk_simp [e]; try omega
  blk_simp [iblk]
  rw [host_g]
  refine (h _).trans ?_
  rw [e0, e1, z]

/-- The target's rows of a grid point. -/
theorem in_y (h : R2 (n0 := 2048) (n1 := 2048) (m ((c.tc : Thread nD τ).loc main_arg2)) Y) (t : Fin cfg0.N) :
    R2 (n0 := 256) (n1 := 2048) (iblk m c 2 t) fun s j => Y (256 * t.val + s) j := by
  intro i
  have e := idx t
  have e0 : ((win0_2.blk t).view.emb i 0 : ℕ) = 256 * t.val + (i 0).val := by blk_simp [e]; try omega
  have e1 : ((win0_2.blk t).view.emb i 1 : ℕ) = (i 1).val := by blk_simp [e]; try omega
  blk_simp [iblk]
  rw [host_y]
  refine (h _).trans ?_
  rw [e0, e1]

section
variable (h0 : R2 (n0 := 2048) (n1 := 2048) (m ((c.tc : Thread nD τ).loc main_arg0)) X)
  (h1 : R2 (n0 := 1) (n1 := 2048) (m ((c.tc : Thread nD τ).loc main_arg1)) G)
  (h2 : R2 (n0 := 2048) (n1 := 2048) (m ((c.tc : Thread nD τ).loc main_arg2)) Y)
include h0 h1 h2

/-- The gain's gradient after a grid point: the sum over the rows so far. -/
theorem accg (n : ℕ) (hn : n < cfg0.N) :
    R2 (n0 := 1) (n1 := 2048) (outsAt0 m c n hn).2.2.1 fun _ j => ∑ s ∈ Finset.range (256 * (n + 1)), U X G Y s j * hat X s j := by
  induction n using Nat.strong_induction_on with
  | _ n ih =>
    obtain ⟨t, rfl⟩ : ∃ t : Fin cfg0.N, t.val = n := ⟨⟨n, hn⟩, rfl⟩
    have ht : t.val < 8 := lt_of_lt_of_eq t.isLt N_0
    intro y
    have hy : (y 1).val < 2048 := (y 1).isLt
    have hy0 : (y 0).val < 1 := (y 0).isLt
    have hv := acc_rows t.val fun s => U X G Y s (y 1).val * hat X s (y 1).val
    by_cases h : t.val % 8 = 0
    · have ht0 : t.val = 0 := by omega
      rw [outsAt0_A m c t h (by omega) (by omega)]
      frame_out
      refine (dg_val (in_x h0 t) (in_g h1 t) (in_y h2 t) y).trans (congrArg Real.toEReal (Eq.trans ?_ hv))
      rw [ht0]
      simp only [Nat.mul_zero, Finset.range_zero, Finset.sum_empty, Nat.zero_add, zero_add]
      try rfl
    · have hp := ih (t.val - 1) (by omega) (by omega)
      rw [Nat.sub_add_cancel (by omega)] at hp
      have hw := dgadd_val (in_x h0 t) (in_g h1 t) (in_y h2 t) hp y
      by_cases h' : t.val % 8 = 7
      · rw [outsAt0_C m c t h (by omega) h']
        frame_out
        exact hw.trans (congrArg Real.toEReal hv)
      · rw [outsAt0_B m c t h (by omega) h']
        frame_out
        exact hw.trans (congrArg Real.toEReal hv)

/-- The loss's columns after a grid point: the sums over the rows so far. -/
theorem accl (n : ℕ) (hn : n < cfg0.N) :
    R2 (n0 := 1) (n1 := 2048) (outsAt0 m c n hn).2.2.2.2 fun _ j => ∑ s ∈ Finset.range (256 * (n + 1)), E X G Y s j * E X G Y s j := by
  induction n using Nat.strong_induction_on with
  | _ n ih =>
    obtain ⟨t, rfl⟩ : ∃ t : Fin cfg0.N, t.val = n := ⟨⟨n, hn⟩, rfl⟩
    have ht : t.val < 8 := lt_of_lt_of_eq t.isLt N_0
    intro y
    have hy : (y 1).val < 2048 := (y 1).isLt
    have hy0 : (y 0).val < 1 := (y 0).isLt
    have hv := acc_rows t.val fun s => E X G Y s (y 1).val * E X G Y s (y 1).val
    by_cases h : t.val % 8 = 0
    · have ht0 : t.val = 0 := by omega
      rw [outsAt0_A m c t h (by omega) (by omega)]
      frame_out
      refine (sq0_val (in_x h0 t) (in_g h1 t) (in_y h2 t) y).trans (congrArg Real.toEReal (Eq.trans ?_ hv))
      rw [ht0]
      simp only [Nat.mul_zero, Finset.range_zero, Finset.sum_empty, Nat.zero_add, zero_add]
      try rfl
    · have hp := ih (t.val - 1) (by omega) (by omega)
      rw [Nat.sub_add_cancel (by omega)] at hp
      have hw := sqadd_val (in_x h0 t) (in_g h1 t) (in_y h2 t) hp y
      by_cases h' : t.val % 8 = 7
      · rw [outsAt0_C m c t h (by omega) h']
        frame_out
        rw [read_unread_whole]
        exact hw.trans (congrArg Real.toEReal hv)
      · rw [outsAt0_B m c t h (by omega) h']
        frame_out
        rw [read_unread_whole]
        exact hw.trans (congrArg Real.toEReal hv)

/-- What the kernel leaves of a tile of the rows' gradient. -/
theorem tile (t : Fin cfg0.N) : R2 (n0 := 256) (n1 := 2048) (outsAt0 m c t.val t.isLt).1
    fun s j => dx X (T X G Y) (256 * t.val + s) j := by
  have ht : t.val < 8 := lt_of_lt_of_eq t.isLt N_0
  intro y
  have hy : (y 1).val < 2048 := (y 1).isLt
  have hy0 : (y 0).val < 256 := (y 0).isLt
  have hv := dx_val (in_x h0 t) (in_g h1 t) (in_y h2 t)
  by_cases h : t.val % 8 = 0
  · rw [outsAt0_A m c t h (by omega) (by omega)]
    frame_out
    exact hv y
  · by_cases h' : t.val % 8 = 7
    · rw [outsAt0_C m c t h (by omega) h']
      frame_out
      exact hv y
    · rw [outsAt0_B m c t h (by omega) h']
      frame_out
      exact hv y

/-- What the kernel leaves of a tile of the rows' gradient, rounded. -/
theorem tileb (t : Fin cfg0.N) : R2 (n0 := 256) (n1 := 2048) (outsAt0 m c t.val t.isLt).2.1
    fun s j => dx X (T X G Y) (256 * t.val + s) j := by
  have ht : t.val < 8 := lt_of_lt_of_eq t.isLt N_0
  intro y
  have hy : (y 1).val < 2048 := (y 1).isLt
  have hy0 : (y 0).val < 256 := (y 0).isLt
  have hv := dx_val (in_x h0 t) (in_g h1 t) (in_y h2 t)
  by_cases h : t.val % 8 = 0
  · rw [outsAt0_A m c t h (by omega) (by omega)]
    frame_out
    exact hv y
  · by_cases h' : t.val % 8 = 7
    · rw [outsAt0_C m c t h (by omega) h']
      frame_out
      exact hv y
    · rw [outsAt0_B m c t h (by omega) h']
      frame_out
      exact hv y

/-- The kernel's gradient of the rows. -/
theorem out3 : R2 (n0 := 2048) (n1 := 2048) ((dats m 0 c).arrAt 3 cfg0.N) (dx X (T X G Y)) := by
  refine fun i => congrFun ((dats m 0 c).arrAt_eq_of_covers 3 (fun i => ((dx X (T X G Y) (i 0).val (i 1).val : ℝ) : EReal)) (by decide +kernel) fun t _ y => ?_) i
  have e := idx t
  have e0 : ((win0_3.blk t).view.emb y 0 : ℕ) = 256 * t.val + (y 0).val := by blk_simp [e]; try omega
  have e1 : ((win0_3.blk t).view.emb y 1 : ℕ) = (y 1).val := by blk_simp [e]; try omega
  refine Eq.trans ?_ (cg2 (dx X (T X G Y)) e0 e1).symm
  blk_simp
  rw [after0_3]
  exact tile h0 h1 h2 t y

/-- The kernel's gradient of the rows, rounded. -/
theorem out4 : R2 (n0 := 2048) (n1 := 2048) ((dats m 0 c).arrAt 4 cfg0.N) (dx X (T X G Y)) := by
  refine fun i => congrFun ((dats m 0 c).arrAt_eq_of_covers 4 (fun i => ((dx X (T X G Y) (i 0).val (i 1).val : ℝ) : EReal)) (by decide +kernel) fun t _ y => ?_) i
  have e := idx t
  have e0 : ((win0_4.blk t).view.emb y 0 : ℕ) = 256 * t.val + (y 0).val := by blk_simp [e]; try omega
  have e1 : ((win0_4.blk t).view.emb y 1 : ℕ) = (y 1).val := by blk_simp [e]; try omega
  refine Eq.trans ?_ (cg2 (dx X (T X G Y)) e0 e1).symm
  blk_simp
  rw [after0_4]
  exact tileb h0 h1 h2 t y

/-- The kernel's gradient of the gain. -/
theorem out5 : R2 (n0 := 1) (n1 := 2048) ((dats m 0 c).arrAt 5 cfg0.N) fun _ j => dg X (U X G Y) j := by
  refine fun i => congrFun ((dats m 0 c).arrAt_eq_of_after_last 5 t0_7 (by decide +kernel) (fun i => (((fun _ j => dg X (U X G Y) j) (i 0).val (i 1).val : ℝ) : EReal)) fun y => ?_) i
  blk_simp
  rw [after0_5]
  exact (accg h0 h1 h2 7 (by decide) _).trans (congrArg Real.toEReal (Finset.sum_range _))

/-- The loss after the last grid point. -/
theorem last (t : Fin cfg0.N) (h : t.val = 7) : R2 (n0 := 1) (n1 := 1) (outsAt0 m c t.val t.isLt).2.2.2.1
    fun _ _ => (∑ j : Fin 2048, ∑ s : Fin 2048, E X G Y s j * E X G Y s j) * (1 / 4096) := by
  intro y
  have hp := accl h0 h1 h2 (t.val - 1) (by have := t.isLt; omega)
  rw [Nat.sub_add_cancel (by omega)] at hp
  have hw := loss_val (sqadd_val (in_x h0 t) (in_g h1 t) (in_y h2 t) hp) y
  have hs : ∀ j : ℕ, ∑ s ∈ Finset.range (256 * t.val), E X G Y s j * E X G Y s j
      + ∑ i : Fin 256, E X G Y (256 * t.val + i) j * E X G Y (256 * t.val + i) j = ∑ s : Fin 2048, E X G Y s j * E X G Y s j := by
    intro j
    rw [acc_rows t.val fun s => E X G Y s j * E X G Y s j, h]
    exact Finset.sum_range _
  rw [outsAt0_C m c t (by omega) (by omega) (by omega)]
  frame_out
  rw [read_unread_whole]
  exact hw.trans (congrArg Real.toEReal (congrArg (fun r : ℝ => r * (1 / 4096)) (Finset.sum_congr rfl fun j _ => hs j)))

/-- The kernel's loss. -/
theorem out6 : R2 (n0 := 1) (n1 := 1) ((dats m 0 c).arrAt 6 cfg0.N)
    fun _ _ => (∑ j : Fin 2048, ∑ s : Fin 2048, E X G Y s j * E X G Y s j) * (1 / 4096) := by
  refine fun i => congrFun ((dats m 0 c).arrAt_eq_of_after_last 6 t0_7 (by decide +kernel) (fun _ => (((∑ j : Fin 2048, ∑ s : Fin 2048, E X G Y s j * E X G Y s j) * (1 / 4096) : ℝ) : EReal)) fun y => ?_) i
  blk_simp
  rw [after0_6]
  exact last h0 h1 h2 t0_7 rfl _

end

section
open Cert.Reference20Ideal.Read
variable {x0 x2 : S2048x2048.Idx → EReal} {x1 : S1x2048.Idx → EReal}
  (h0 : R2 (n0 := 2048) (n1 := 2048) x0 X)
include h0

/-- The reference's mean squares. -/
theorem r_v6 : R2 (n0 := 2048) (n1 := 1) (val_main_v6 (F := Ideal) x0) fun s _ => ms X s := by
  intro i
  simp only [val_main_v6_apply, val_main_v4_apply, val_main_v2_apply, val_main_v1_apply, val_main_v0_apply, val_main_v3_apply,
    val_main_v5_apply, val_main_cst_apply, val_main_cst_0_apply, val_main_cst_1_apply, h0 _, lit_0, lit_2048, lit_eps,
    Ideal.mulf_def, Ideal.addf_def, Ideal.ofBits_def, Ideal.hostDivf_def, ← EReal.coe_mul, ← EReal.coe_add, sum_real, zero_add_real, zero_add,
    div_real (show (2048 : ℝ) ≠ 0 by norm_num)]
  rfl

/-- The reference's reciprocal root mean squares. -/
theorem r_v7 : R2 (n0 := 2048) (n1 := 1) (val_main_v7 (F := Ideal) x0) fun s _ => rr X s := by
  intro i
  rw [val_main_v7_apply, r_v6 h0]
  exact rsqrt_real (ms_pos X _)

/-- The reference's derivative of the reciprocal root. -/
theorem r_v10 : R2 (n0 := 2048) (n1 := 1) (val_main_v10 (F := Ideal) x0) fun s _ => -(1 / 2) * (rr X s / ms X s) := by
  intro i
  simp only [val_main_v10_apply, val_main_v9_apply, val_main_cst_2_apply, val_main_v8_apply, r_v7 h0 _, r_v6 h0 _,
    div_real (ms_pos _ _).ne', lit_nhalf, Ideal.hostDivf_def, Ideal.mulf_def, Ideal.ofBits_def, ← EReal.coe_mul]

/-- The reference's normed rows. -/
theorem r_v12 : R2 (n0 := 2048) (n1 := 2048) (val_main_v12 (F := Ideal) x0) (hat X) := by
  intro i
  simp only [val_main_v12_apply, val_main_v11_apply, r_v7 h0 _, h0 _, Ideal.mulf_def, ← EReal.coe_mul]
  rfl

variable (h1 : R2 (n0 := 1) (n1 := 2048) x1 G) (h2 : R2 (n0 := 2048) (n1 := 2048) x2 Y)
include h1 h2

/-- The reference's differences to the target. -/
theorem r_v15 : R2 (n0 := 2048) (n1 := 2048) (val_main_v15 (F := Ideal) x0 x1 x2) (E X G Y) := by
  intro i
  simp only [val_main_v15_apply, val_main_v14_apply, val_main_v13_apply, r_v12 h0 _, h1 _, h2 _, Ideal.mulf_def, Ideal.subf_def,
    ← EReal.coe_mul, ← EReal.coe_sub]
  rfl

/-- The reference's mean squares of the differences. -/
theorem r_v21 (k : Cert.Reference20Ideal.S2048.Idx) : val_main_v21 (F := Ideal) x0 x1 x2 k
    = (((∑ j : Fin 2048, E X G Y (k 0).val j * E X G Y (k 0).val j) / 2048 : ℝ) : EReal) := by
  simp only [val_main_v21_apply, val_main_v19_apply, val_main_v16_apply, val_main_v20_apply, val_main_cst_4_apply, val_main_cst_5_apply,
    r_v15 h0 h1 h2 _, lit_0, lit_2048, Ideal.mulf_def, Ideal.ofBits_def, Ideal.hostDivf_def, ← EReal.coe_mul, sum_real, zero_add_real,
    div_real (show (2048 : ℝ) ≠ 0 by norm_num)]

/-- The reference's loss. -/
theorem r_v50 : R2 (n0 := 1) (n1 := 1) (val_main_v50 (F := Ideal) x0 x1 x2)
    fun _ _ => (∑ j : Fin 2048, ∑ s : Fin 2048, E X G Y s j * E X G Y s j) * (1 / 4096) := by
  intro i
  have e : ∑ k : Cert.Reference20Ideal.S2048.Idx, val_main_v21 (F := Ideal) x0 x1 x2 k
      = ((∑ s : Fin 2048, (∑ j : Fin 2048, E X G Y s j * E X G Y s j) / 2048 : ℝ) : EReal) := by
    rw [← sum_real]
    exact (Fintype.sum_congr _ _ fun k => r_v21 h0 h1 h2 k).trans
      (sum_line fun k : Fin 2048 => (((∑ j : Fin 2048, E X G Y k.val j * E X G Y k.val j) / 2048 : ℝ) : EReal))
  have e' : ∀ k : Cert.Reference20Ideal.S_.Idx, val_main_v23 (F := Ideal) x0 x1 x2 k
      = (((∑ j : Fin 2048, ∑ s : Fin 2048, E X G Y s j * E X G Y s j) * (1 / 4096) : ℝ) : EReal) := by
    intro k
    rw [val_main_v23_apply, val_main_v22_apply, e]
    simp only [val_main_cst_7_apply, val_main_cst_6_apply, Ideal.ofBits_def, lit_0, lit_half, zero_add_real, Ideal.mulf_def, ← EReal.coe_mul]
    refine congrArg Real.toEReal ?_
    rw [← Finset.sum_div, Finset.sum_comm]
    ring
  unfold val_main_v50
  generalize val_main_v23 (F := Ideal) x0 x1 x2 = w at e'
  exact e' _

/-- The reference's gradient of the normed rows times the gain. -/
theorem r_v29 : R2 (n0 := 2048) (n1 := 2048) (val_main_v29 (F := Ideal) x0 x1 x2) (U X G Y) := by
  intro i
  simp only [val_main_v29_apply, val_main_v28_apply, val_main_v27_apply, val_main_v26_apply, val_main_v25_apply, val_main_v24_apply,
    val_main_v18_apply, val_main_v17_apply, val_main_cst_3_apply, val_main_cst_8_apply, val_main_cst_9_apply, val_main_cst_10_apply,
    r_v15 h0 h1 h2 _, lit_1, lit_2, lit_half, lit_2048, Ideal.mulf_def, Ideal.ofBits_def, Ideal.hostDivf_def, ← EReal.coe_mul,
    div_real (show (2048 : ℝ) ≠ 0 by norm_num)]
  refine congrArg Real.toEReal ?_
  unfold U
  ring

/-- The reference's gradient of the gain. -/
theorem r_v32 : R2 (n0 := 1) (n1 := 2048) (val_main_v32 (F := Ideal) x0 x1 x2) fun _ j => dg X (U X G Y) j := by
  intro i
  have z0 : (i 0).val < 1 := (i 0).isLt
  simp only [val_main_v32_apply, val_main_v31_apply, val_main_cst_11_apply, val_main_v30_apply, r_v12 h0 _, r_v29 h0 h1 h2 _, lit_0,
    Ideal.mulf_def, Ideal.ofBits_def, ← EReal.coe_mul, sum_real, zero_add_real]
  refine congrArg Real.toEReal (Finset.sum_congr rfl fun s _ => (mul_comm _ _).trans ?_)
  exact congrArg (fun j => U X G Y s j * hat X s j) (show (i 0).val * 2048 + (i 1).val = (i 1).val by omega)

/-- The reference's gradient of the normed rows. -/
theorem r_v34 : R2 (n0 := 2048) (n1 := 2048) (val_main_v34 (F := Ideal) x0 x1 x2) (T X G Y) := by
  intro i
  simp only [val_main_v34_apply, val_main_v33_apply, r_v29 h0 h1 h2 _, h1 _, Ideal.mulf_def, ← EReal.coe_mul]
  rfl

/-- The reference's gradient of the reciprocal root. -/
theorem r_v37 : R2 (n0 := 2048) (n1 := 1) (val_main_v37 (F := Ideal) x0 x1 x2) fun s _ => ∑ k : Fin 2048, X s k * T X G Y s k := by
  intro i
  have z0 : (i 1).val < 1 := (i 1).isLt
  simp only [val_main_v37_apply, val_main_v36_apply, val_main_cst_12_apply, val_main_v35_apply, r_v34 h0 h1 h2 _, h0 _, lit_0,
    Ideal.mulf_def, Ideal.ofBits_def, ← EReal.coe_mul, sum_real, zero_add_real]
  refine congrArg Real.toEReal (Finset.sum_congr rfl fun k _ => ?_)
  exact congrArg (fun s => X s k * T X G Y s k) (show (i 0).val * 1 + (i 1).val = (i 0).val by omega)

/-- The reference's gradient of the squares. -/
theorem r_v44 : R2 (n0 := 2048) (n1 := 2048) (val_main_v44 (F := Ideal) x0 x1 x2)
    fun s _ => (∑ k : Fin 2048, X s k * T X G Y s k) * (-(1 / 2) * (rr X s / ms X s)) / 2048 := by
  intro i
  simp only [val_main_v44_apply, val_main_v43_apply, val_main_cst_14_apply, val_main_v42_apply, val_main_v41_apply, val_main_cst_13_apply,
    val_main_v40_apply, r_v37 h0 h1 h2 _, r_v10 h0 _, lit_0, lit_2048, div_real (show (2048 : ℝ) ≠ 0 by norm_num), Ideal.hostDivf_def,
    Ideal.mulf_def, Ideal.ofBits_def, ← EReal.coe_mul, sum_real, zero_add_real, Finset.univ_unique, Finset.sum_singleton]

/-- The reference's gradient of the rows. -/
theorem r_v48 : R2 (n0 := 2048) (n1 := 2048) (val_main_v48 (F := Ideal) x0 x1 x2) (dx X (T X G Y)) := by
  intro i
  simp only [val_main_v48_apply, val_main_v47_apply, val_main_v46_apply, val_main_v45_apply, val_main_v39_apply, val_main_v38_apply,
    r_v44 h0 h1 h2 _, r_v34 h0 h1 h2 _, r_v7 h0 _, h0 _, Ideal.mulf_def, Ideal.addf_def, ← EReal.coe_mul, ← EReal.coe_add]
  exact congrArg Real.toEReal (dx_chain X (T X G Y) _ _)

/-- The reference's gradient of the rows, rounded. -/
theorem r_v49 : R2 (n0 := 2048) (n1 := 2048) (val_main_v49 (F := Ideal) x0 x1 x2) (dx X (T X G Y)) := fun i => r_v48 h0 h1 h2 i

end

/-- Over the reals, from arguments that are finite, the kernel's run and the reference's run end with the same loss and the
    same gradients: of the residual stream, as it is and rounded, and of the last norm's gain. -/
theorem algebraic : @Cert.algebraic_Kernel20Ideal_Reference20Ideal_pre_finite3 Cert.Kernel20Ideal.Gen.facts Cert.Reference20Ideal.Gen.facts
    Cert.Pre_finite3.Gen.facts := by
  intro m g m' g' hpre hag
  refine ⟨fun c => (dats m 0 c).arrAt 3 cfg0.N, fun c => (dats m 0 c).arrAt 4 cfg0.N, fun c => (dats m 0 c).arrAt 5 cfg0.N,
    fun c => (dats m 0 c).arrAt 6 cfg0.N, Cert.Kernel20Ideal.Value.run_blocks m g, ?_⟩
  refine (θ_run Cert.Reference20Ideal.defs _ _).mono (fun r h c => ?_) (Cert.Reference20Ideal.Value.run m' g')
  obtain ⟨r0, r1, r2, r3, hargs⟩ := h c
  obtain ⟨a0, a1, a2⟩ := hag c
  obtain ⟨p0, p1, p2⟩ := hpre c
  have h0 := R2.of_lt (x := m ((c.tc : Thread nD τ).loc main_arg0)) fun i => congrFun p0 i
  have h1 := R2.of_lt (x := m ((c.tc : Thread nD τ).loc main_arg1)) fun i => congrFun p1 i
  have h2 := R2.of_lt (x := m ((c.tc : Thread nD τ).loc main_arg2)) fun i => congrFun p2 i
  refine ⟨(r0.trans (Cert.Reference20Ideal.Read.val_main_v48_eq m' c)).trans ?_, (r1.trans (Cert.Reference20Ideal.Read.val_main_v49_eq m' c)).trans ?_,
    (r2.trans (Cert.Reference20Ideal.Read.val_main_v32_eq _ _ _)).trans ?_, (r3.trans (Cert.Reference20Ideal.Read.val_main_v50_eq _ _ _)).trans ?_, hargs⟩
  · rw [a0, a1, a2]
    exact eq_of (r_v48 h0 h1 h2) (out3 h0 h1 h2)
  · rw [a0, a1, a2]
    exact eq_of (r_v49 h0 h1 h2) (out4 h0 h1 h2)
  · rw [a0, a1, a2]
    exact eq_of (r_v32 h0 h1 h2) (out5 h0 h1 h2)
  · rw [a0, a1, a2]
    exact eq_of (r_v50 h0 h1 h2) (out6 h0 h1 h2)

end Cert.LossBwd

end
-- ==== Proof.SmallMath.lean ====
/- The optimiser's step of one parameter, element by element: the new first moment, the new second moment and the step,
   with the constants the programs name. -/
module

public import proofs.«01_k».proof.Defs
public import Idealize.ShloMosaic.Lib.Pipeline.FrameBody
public import Idealize.ShloMosaic.Lib.Pipeline.Value

@[expose] public section

noncomputable section

namespace Cert.SmallMath

open Idealize.ShloMosaic

variable {F : FTy → Type} [FloatOps F] {s : Shape}

/-- The new first moment of a gradient and a first moment. -/
def mean (g m : Vec F s .f32) : FVec F s .f32 :=
  addf (mulf (broadcast s (Scalar.ofBits .f32 0x3F666666#32)) m) (mulf (broadcast s (Scalar.ofBits .f32 0x3DCCCCCD#32)) g)

/-- The new second moment of a gradient and a second moment. -/
def square (g v : Vec F s .f32) : FVec F s .f32 :=
  addf (mulf (broadcast s (Scalar.ofBits .f32 0x3F7FBE77#32)) v)
    (mulf (broadcast s (Scalar.ofBits .f32 0x3A83126F#32)) (mulf g g))

/-- The step of a weight, a gradient and its two moments. -/
def step (w g m v : Vec F s .f32) : FVec F s .f32 :=
  mulf (broadcast s (Scalar.ofBits .f32 0xBA83126F#32))
    (addf
      (divf (divf (mean g m) (broadcast s (Scalar.ofBits .f32 0x3F26BD02#32)))
        (addf (sqrt (divf (square g v) (broadcast s (Scalar.ofBits .f32 0x3C231ACC#32))))
          (broadcast s (Scalar.ofBits .f32 0x322BCC77#32))))
      (mulf (broadcast s (Scalar.ofBits .f32 0x3C23D70A#32)) w))

/-- Equal arguments have equal steps. -/
theorem step_eq {w w' g g' m m' v v' : Vec F s .f32} (hw : w = w') (hg : g = g') (hm : m = m') (hv : v = v') :
    step w g m v = step w' g' m' v' := by rw [hw, hg, hm, hv]

/-- Equal arguments have equal first moments. -/
theorem mean_eq {g g' m m' : Vec F s .f32} (hg : g = g') (hm : m = m') : mean g m = mean g' m' := by rw [hg, hm]

/-- Equal arguments have equal second moments. -/
theorem square_eq {g g' v v' : Vec F s .f32} (hg : g = g') (hv : v = v') : square g v = square g' v' := by rw [hg, hv]

/-- An offset of two zeros is the zero offset. -/
theorem zero2 : (![0, 0] : Fin 2 → Nat) = fun _ => 0 := funext fun a => by fin_cases a <;> rfl

/-- An offset of three zeros is the zero offset. -/
theorem zero3 : (![0, 0, 0] : Fin 3 → Nat) = fun _ => 0 := funext fun a => by fin_cases a <;> rfl

section
variable {o : Fin s.rank → Nat} (z : o = fun _ => 0) (b : ∀ a, o a + s.size a ≤ s.size a) (w g m v : Vec F s .f32)
include z

/-- A step of whole loads is the step of the arrays. -/
theorem ld_step : step (View.ld w (Rect.unit o s.size b)) (View.ld g (Rect.unit o s.size b))
    (View.ld m (Rect.unit o s.size b)) (View.ld v (Rect.unit o s.size b)) = step w g m v := by
  simp only [View.ld_unit_zero z]

/-- A first moment of whole loads is that of the arrays. -/
theorem ld_mean : mean (View.ld g (Rect.unit o s.size b)) (View.ld m (Rect.unit o s.size b)) = mean g m := by
  simp only [View.ld_unit_zero z]

/-- A second moment of whole loads is that of the arrays. -/
theorem ld_square : square (View.ld g (Rect.unit o s.size b)) (View.ld v (Rect.unit o s.size b)) = square g v := by
  simp only [View.ld_unit_zero z]

end

end Cert.SmallMath

end
-- ==== Proof.SmallIdeal.lean ====
/- The optimiser's call on the ten small parameters, read on the reals: its run ends with the forty argument arrays
   unchanged, and the thirty result arrays at the step, the first moment and the second moment of `SmallMath`. -/
module

public import proofs.«01_k».proof.Defs
public import proofs.«01_k».proof.Proof.SmallMath
public import proofs.«01_k».proof.Proof.Gen.Kernel21Ideal
public import proofs.«01_k».proof.Proof.Gen.Kernel21Ideal.Launch
public import proofs.«01_k».proof.Proof.Gen.Kernel21Ideal.Skeleton
public import proofs.«01_k».proof.Proof.Gen.Kernel21Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 65536

noncomputable section

namespace Cert.SmallIdeal

open Cert.Kernel21Ideal Cert.Kernel21Ideal.Gen Cert.SmallMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- A device's arrays as launched. -/
abbrev A (c : Dev nD) (b : Ref sig .tc) : Buf (Elt F) ((c : Thread nD τ).loc b) := m ((c : Thread nD τ).loc b)

/-- The block of a window. -/
def B (c : Dev nD) (w : Fin cfg0.W) (t : Fin cfg0.N) :
    ((cfg0.win w).xblock (cfg0.grid.coords t)).Idx → Elt F (cfg0.win w).elt :=
  ((cfg0.win w).blk t).view.read (Elt F) (A m c (Pipeline.arrRef spec0 w))

/-- One whole store covers a row of 2048. -/
theorem cover0 (p : Vec F S1x2048 .f32) (y : S1x2048.Idx) :
    ∃ q ∈ ([⟨Rect.unit ![0, 0] S1x2048.size inb_S1x2048_S1x2048_0_0, p⟩] : List (View.Piece (Elt F) S1x2048 .f32)), y ∈ q.1.set :=
  View.cover_of_tiled _ S1x2048.size (by rfl) y

/-- One whole store covers a row of 768. -/
theorem cover1 (p : Vec F S1x768 .f32) (y : S1x768.Idx) :
    ∃ q ∈ ([⟨Rect.unit ![0, 0] S1x768.size inb_S1x768_S1x768_0_0, p⟩] : List (View.Piece (Elt F) S1x768 .f32)), y ∈ q.1.set :=
  View.cover_of_tiled _ S1x768.size (by rfl) y

/-- One whole store covers six tiles of 128 by 128. -/
theorem cover2 (p : Vec F S6x128x128 .f32) (y : S6x128x128.Idx) :
    ∃ q ∈ ([⟨Rect.unit ![0, 0, 0] S6x128x128.size inb_S6x128x128_S6x128x128_0_0_0, p⟩] : List (View.Piece (Elt F) S6x128x128 .f32)), y ∈ q.1.set :=
  View.cover_of_tiled _ S6x128x128.size (by rfl) y

/-- One whole store covers six rows of 128. -/
theorem cover3 (p : Vec F S6x128 .f32) (y : S6x128.Idx) :
    ∃ q ∈ ([⟨Rect.unit ![0, 0] S6x128.size inb_S6x128_S6x128_0_0, p⟩] : List (View.Piece (Elt F) S6x128 .f32)), y ∈ q.1.set :=
  View.cover_of_tiled _ S6x128.size (by rfl) y

/-- One whole store covers three rows of 192. -/
theorem cover4 (p : Vec F S3x192 .f32) (y : S3x192.Idx) :
    ∃ q ∈ ([⟨Rect.unit ![0, 0] S3x192.size inb_S3x192_S3x192_0_0, p⟩] : List (View.Piece (Elt F) S3x192 .f32)), y ∈ q.1.set :=
  View.cover_of_tiled _ S3x192.size (by rfl) y

set_option maxHeartbeats 0 in
/-- The body on whole buffers leaves its forty arguments as they were and writes the three results of every parameter. -/
theorem body_run (c : Dev nD) (E : Set ℕ)
    (arg0 : Memref sig .tc .vmem S1x2048 .f32) (h0 : arg0.IsWhole) (arg1 : Memref sig .tc .vmem S1x768 .f32) (h1 :
    arg1.IsWhole) (arg2 : Memref sig .tc .vmem S1x768 .f32) (h2 : arg2.IsWhole) (arg3 : Memref sig .tc .vmem
    S6x128x128 .f32) (h3 : arg3.IsWhole) (arg4 : Memref sig .tc .vmem S6x128 .f32) (h4 : arg4.IsWhole) (arg5 : Memref
    sig .tc .vmem S3x192 .f32) (h5 : arg5.IsWhole) (arg6 : Memref sig .tc .vmem S1x2048 .f32) (h6 : arg6.IsWhole)
    (arg7 : Memref sig .tc .vmem S1x2048 .f32) (h7 : arg7.IsWhole) (arg8 : Memref sig .tc .vmem S1x2048 .f32) (h8 :
    arg8.IsWhole) (arg9 : Memref sig .tc .vmem S1x2048 .f32) (h9 : arg9.IsWhole) (arg10 : Memref sig .tc .vmem
    S1x2048 .f32) (h10 : arg10.IsWhole) (arg11 : Memref sig .tc .vmem S1x768 .f32) (h11 : arg11.IsWhole) (arg12 :
    Memref sig .tc .vmem S1x768 .f32) (h12 : arg12.IsWhole) (arg13 : Memref sig .tc .vmem S6x128x128 .f32) (h13 :
    arg13.IsWhole) (arg14 : Memref sig .tc .vmem S6x128 .f32) (h14 : arg14.IsWhole) (arg15 : Memref sig .tc .vmem
    S3x192 .f32) (h15 : arg15.IsWhole) (arg16 : Memref sig .tc .vmem S1x2048 .f32) (h16 : arg16.IsWhole) (arg17 :
    Memref sig .tc .vmem S1x2048 .f32) (h17 : arg17.IsWhole) (arg18 : Memref sig .tc .vmem S1x2048 .f32) (h18 :
    arg18.IsWhole) (arg19 : Memref sig .tc .vmem S1x2048 .f32) (h19 : arg19.IsWhole) (arg20 : Memref sig .tc .vmem
    S1x2048 .f32) (h20 : arg20.IsWhole) (arg21 : Memref sig .tc .vmem S1x768 .f32) (h21 : arg21.IsWhole) (arg22 :
    Memref sig .tc .vmem S1x768 .f32) (h22 : arg22.IsWhole) (arg23 : Memref sig .tc .vmem S6x128x128 .f32) (h23 :
    arg23.IsWhole) (arg24 : Memref sig .tc .vmem S6x128 .f32) (h24 : arg24.IsWhole) (arg25 : Memref sig .tc .vmem
    S3x192 .f32) (h25 : arg25.IsWhole) (arg26 : Memref sig .tc .vmem S1x2048 .f32) (h26 : arg26.IsWhole) (arg27 :
    Memref sig .tc .vmem S1x2048 .f32) (h27 : arg27.IsWhole) (arg28 : Memref sig .tc .vmem S1x2048 .f32) (h28 :
    arg28.IsWhole) (arg29 : Memref sig .tc .vmem S1x2048 .f32) (h29 : arg29.IsWhole) (arg30 : Memref sig .tc .vmem
    S1x2048 .f32) (h30 : arg30.IsWhole) (arg31 : Memref sig .tc .vmem S1x768 .f32) (h31 : arg31.IsWhole) (arg32 :
    Memref sig .tc .vmem S1x768 .f32) (h32 : arg32.IsWhole) (arg33 : Memref sig .tc .vmem S6x128x128 .f32) (h33 :
    arg33.IsWhole) (arg34 : Memref sig .tc .vmem S6x128 .f32) (h34 : arg34.IsWhole) (arg35 : Memref sig .tc .vmem
    S3x192 .f32) (h35 : arg35.IsWhole) (arg36 : Memref sig .tc .vmem S1x2048 .f32) (h36 : arg36.IsWhole) (arg37 :
    Memref sig .tc .vmem S1x2048 .f32) (h37 : arg37.IsWhole) (arg38 : Memref sig .tc .vmem S1x2048 .f32) (h38 :
    arg38.IsWhole) (arg39 : Memref sig .tc .vmem S1x2048 .f32) (h39 : arg39.IsWhole) (arg40 : Memref sig .tc .vmem
    S1x2048 .f32) (h40 : arg40.IsWhole) (arg41 : Memref sig .tc .vmem S1x768 .f32) (h41 : arg41.IsWhole) (arg42 :
    Memref sig .tc .vmem S1x768 .f32) (h42 : arg42.IsWhole) (arg43 : Memref sig .tc .vmem S6x128x128 .f32) (h43 :
    arg43.IsWhole) (arg44 : Memref sig .tc .vmem S6x128 .f32) (h44 : arg44.IsWhole) (arg45 : Memref sig .tc .vmem
    S3x192 .f32) (h45 : arg45.IsWhole) (arg46 : Memref sig .tc .vmem S1x2048 .f32) (h46 : arg46.IsWhole) (arg47 :
    Memref sig .tc .vmem S1x2048 .f32) (h47 : arg47.IsWhole) (arg48 : Memref sig .tc .vmem S1x2048 .f32) (h48 :
    arg48.IsWhole) (arg49 : Memref sig .tc .vmem S1x2048 .f32) (h49 : arg49.IsWhole) (arg50 : Memref sig .tc .vmem
    S1x2048 .f32) (h50 : arg50.IsWhole) (arg51 : Memref sig .tc .vmem S1x768 .f32) (h51 : arg51.IsWhole) (arg52 :
    Memref sig .tc .vmem S1x768 .f32) (h52 : arg52.IsWhole) (arg53 : Memref sig .tc .vmem S6x128x128 .f32) (h53 :
    arg53.IsWhole) (arg54 : Memref sig .tc .vmem S6x128 .f32) (h54 : arg54.IsWhole) (arg55 : Memref sig .tc .vmem
    S3x192 .f32) (h55 : arg55.IsWhole) (arg56 : Memref sig .tc .vmem S1x2048 .f32) (h56 : arg56.IsWhole) (arg57 :
    Memref sig .tc .vmem S1x2048 .f32) (h57 : arg57.IsWhole) (arg58 : Memref sig .tc .vmem S1x2048 .f32) (h58 :
    arg58.IsWhole) (arg59 : Memref sig .tc .vmem S1x2048 .f32) (h59 : arg59.IsWhole) (arg60 : Memref sig .tc .vmem
    S1x2048 .f32) (h60 : arg60.IsWhole) (arg61 : Memref sig .tc .vmem S1x768 .f32) (h61 : arg61.IsWhole) (arg62 :
    Memref sig .tc .vmem S1x768 .f32) (h62 : arg62.IsWhole) (arg63 : Memref sig .tc .vmem S6x128x128 .f32) (h63 :
    arg63.IsWhole) (arg64 : Memref sig .tc .vmem S6x128 .f32) (h64 : arg64.IsWhole) (arg65 : Memref sig .tc .vmem
    S3x192 .f32) (h65 : arg65.IsWhole) (arg66 : Memref sig .tc .vmem S1x2048 .f32) (h66 : arg66.IsWhole) (arg67 :
    Memref sig .tc .vmem S1x2048 .f32) (h67 : arg67.IsWhole) (arg68 : Memref sig .tc .vmem S1x2048 .f32) (h68 :
    arg68.IsWhole) (arg69 : Memref sig .tc .vmem S1x2048 .f32) (h69 : arg69.IsWhole)
    (x0 : Vec F S1x2048 .f32) (x1 : Vec F S1x768 .f32) (x2 : Vec F S1x768 .f32) (x3 : Vec F S6x128x128 .f32) (x4 :
    Vec F S6x128 .f32) (x5 : Vec F S3x192 .f32) (x6 : Vec F S1x2048 .f32) (x7 : Vec F S1x2048 .f32) (x8 : Vec F
    S1x2048 .f32) (x9 : Vec F S1x2048 .f32) (x10 : Vec F S1x2048 .f32) (x11 : Vec F S1x768 .f32) (x12 : Vec F S1x768
    .f32) (x13 : Vec F S6x128x128 .f32) (x14 : Vec F S6x128 .f32) (x15 : Vec F S3x192 .f32) (x16 : Vec F S1x2048
    .f32) (x17 : Vec F S1x2048 .f32) (x18 : Vec F S1x2048 .f32) (x19 : Vec F S1x2048 .f32) (x20 : Vec F S1x2048 .f32)
    (x21 : Vec F S1x768 .f32) (x22 : Vec F S1x768 .f32) (x23 : Vec F S6x128x128 .f32) (x24 : Vec F S6x128 .f32) (x25
    : Vec F S3x192 .f32) (x26 : Vec F S1x2048 .f32) (x27 : Vec F S1x2048 .f32) (x28 : Vec F S1x2048 .f32) (x29 : Vec
    F S1x2048 .f32) (x30 : Vec F S1x2048 .f32) (x31 : Vec F S1x768 .f32) (x32 : Vec F S1x768 .f32) (x33 : Vec F
    S6x128x128 .f32) (x34 : Vec F S6x128 .f32) (x35 : Vec F S3x192 .f32) (x36 : Vec F S1x2048 .f32) (x37 : Vec F
    S1x2048 .f32) (x38 : Vec F S1x2048 .f32) (x39 : Vec F S1x2048 .f32) (K : PUnit → sProp (MT nD τ sig Unit (Elt F) ℕ (UR sig nD τ) ℕ)) :
    iprop(
      owns (c : Thread nD τ) arg0 fullShare x0 ∗ owns (c : Thread nD τ) arg1 fullShare x1 ∗ owns (c : Thread nD τ)
      arg2 fullShare x2 ∗ owns (c : Thread nD τ) arg3 fullShare x3 ∗ owns (c : Thread nD τ) arg4 fullShare x4 ∗ owns
      (c : Thread nD τ) arg5 fullShare x5 ∗ owns (c : Thread nD τ) arg6 fullShare x6 ∗ owns (c : Thread nD τ) arg7
      fullShare x7 ∗ owns (c : Thread nD τ) arg8 fullShare x8 ∗ owns (c : Thread nD τ) arg9 fullShare x9 ∗ owns (c :
      Thread nD τ) arg10 fullShare x10 ∗ owns (c : Thread nD τ) arg11 fullShare x11 ∗ owns (c : Thread nD τ) arg12
      fullShare x12 ∗ owns (c : Thread nD τ) arg13 fullShare x13 ∗ owns (c : Thread nD τ) arg14 fullShare x14 ∗ owns
      (c : Thread nD τ) arg15 fullShare x15 ∗ owns (c : Thread nD τ) arg16 fullShare x16 ∗ owns (c : Thread nD τ)
      arg17 fullShare x17 ∗ owns (c : Thread nD τ) arg18 fullShare x18 ∗ owns (c : Thread nD τ) arg19 fullShare x19 ∗
      owns (c : Thread nD τ) arg20 fullShare x20 ∗ owns (c : Thread nD τ) arg21 fullShare x21 ∗ owns (c : Thread nD
      τ) arg22 fullShare x22 ∗ owns (c : Thread nD τ) arg23 fullShare x23 ∗ owns (c : Thread nD τ) arg24 fullShare
      x24 ∗ owns (c : Thread nD τ) arg25 fullShare x25 ∗ owns (c : Thread nD τ) arg26 fullShare x26 ∗ owns (c :
      Thread nD τ) arg27 fullShare x27 ∗ owns (c : Thread nD τ) arg28 fullShare x28 ∗ owns (c : Thread nD τ) arg29
      fullShare x29 ∗ owns (c : Thread nD τ) arg30 fullShare x30 ∗ owns (c : Thread nD τ) arg31 fullShare x31 ∗ owns
      (c : Thread nD τ) arg32 fullShare x32 ∗ owns (c : Thread nD τ) arg33 fullShare x33 ∗ owns (c : Thread nD τ)
      arg34 fullShare x34 ∗ owns (c : Thread nD τ) arg35 fullShare x35 ∗ owns (c : Thread nD τ) arg36 fullShare x36 ∗
      owns (c : Thread nD τ) arg37 fullShare x37 ∗ owns (c : Thread nD τ) arg38 fullShare x38 ∗ owns (c : Thread nD
      τ) arg39 fullShare x39 ∗
      (∃ d, owns (c : Thread nD τ) arg40 fullShare d) ∗ (∃ d, owns (c : Thread nD τ) arg41 fullShare d) ∗ (∃ d, owns
      (c : Thread nD τ) arg42 fullShare d) ∗ (∃ d, owns (c : Thread nD τ) arg43 fullShare d) ∗ (∃ d, owns (c : Thread
      nD τ) arg44 fullShare d) ∗ (∃ d, owns (c : Thread nD τ) arg45 fullShare d) ∗ (∃ d, owns (c : Thread nD τ) arg46
      fullShare d) ∗ (∃ d, owns (c : Thread nD τ) arg47 fullShare d) ∗ (∃ d, owns (c : Thread nD τ) arg48 fullShare
      d) ∗ (∃ d, owns (c : Thread nD τ) arg49 fullShare d) ∗ (∃ d, owns (c : Thread nD τ) arg50 fullShare d) ∗ (∃ d,
      owns (c : Thread nD τ) arg51 fullShare d) ∗ (∃ d, owns (c : Thread nD τ) arg52 fullShare d) ∗ (∃ d, owns (c :
      Thread nD τ) arg53 fullShare d) ∗ (∃ d, owns (c : Thread nD τ) arg54 fullShare d) ∗ (∃ d, owns (c : Thread nD
      τ) arg55 fullShare d) ∗ (∃ d, owns (c : Thread nD τ) arg56 fullShare d) ∗ (∃ d, owns (c : Thread nD τ) arg57
      fullShare d) ∗ (∃ d, owns (c : Thread nD τ) arg58 fullShare d) ∗ (∃ d, owns (c : Thread nD τ) arg59 fullShare
      d) ∗ (∃ d, owns (c : Thread nD τ) arg60 fullShare d) ∗ (∃ d, owns (c : Thread nD τ) arg61 fullShare d) ∗ (∃ d,
      owns (c : Thread nD τ) arg62 fullShare d) ∗ (∃ d, owns (c : Thread nD τ) arg63 fullShare d) ∗ (∃ d, owns (c :
      Thread nD τ) arg64 fullShare d) ∗ (∃ d, owns (c : Thread nD τ) arg65 fullShare d) ∗ (∃ d, owns (c : Thread nD
      τ) arg66 fullShare d) ∗ (∃ d, owns (c : Thread nD τ) arg67 fullShare d) ∗ (∃ d, owns (c : Thread nD τ) arg68
      fullShare d) ∗ (∃ d, owns (c : Thread nD τ) arg69 fullShare d) ∗
      (iprop(
      owns (c : Thread nD τ) arg0 fullShare x0 ∗ owns (c : Thread nD τ) arg1 fullShare x1 ∗ owns (c : Thread nD τ)
      arg2 fullShare x2 ∗ owns (c : Thread nD τ) arg3 fullShare x3 ∗ owns (c : Thread nD τ) arg4 fullShare x4 ∗ owns
      (c : Thread nD τ) arg5 fullShare x5 ∗ owns (c : Thread nD τ) arg6 fullShare x6 ∗ owns (c : Thread nD τ) arg7
      fullShare x7 ∗ owns (c : Thread nD τ) arg8 fullShare x8 ∗ owns (c : Thread nD τ) arg9 fullShare x9 ∗ owns (c :
      Thread nD τ) arg10 fullShare x10 ∗ owns (c : Thread nD τ) arg11 fullShare x11 ∗ owns (c : Thread nD τ) arg12
      fullShare x12 ∗ owns (c : Thread nD τ) arg13 fullShare x13 ∗ owns (c : Thread nD τ) arg14 fullShare x14 ∗ owns
      (c : Thread nD τ) arg15 fullShare x15 ∗ owns (c : Thread nD τ) arg16 fullShare x16 ∗ owns (c : Thread nD τ)
      arg17 fullShare x17 ∗ owns (c : Thread nD τ) arg18 fullShare x18 ∗ owns (c : Thread nD τ) arg19 fullShare x19 ∗
      owns (c : Thread nD τ) arg20 fullShare x20 ∗ owns (c : Thread nD τ) arg21 fullShare x21 ∗ owns (c : Thread nD
      τ) arg22 fullShare x22 ∗ owns (c : Thread nD τ) arg23 fullShare x23 ∗ owns (c : Thread nD τ) arg24 fullShare
      x24 ∗ owns (c : Thread nD τ) arg25 fullShare x25 ∗ owns (c : Thread nD τ) arg26 fullShare x26 ∗ owns (c :
      Thread nD τ) arg27 fullShare x27 ∗ owns (c : Thread nD τ) arg28 fullShare x28 ∗ owns (c : Thread nD τ) arg29
      fullShare x29 ∗ owns (c : Thread nD τ) arg30 fullShare x30 ∗ owns (c : Thread nD τ) arg31 fullShare x31 ∗ owns
      (c : Thread nD τ) arg32 fullShare x32 ∗ owns (c : Thread nD τ) arg33 fullShare x33 ∗ owns (c : Thread nD τ)
      arg34 fullShare x34 ∗ owns (c : Thread nD τ) arg35 fullShare x35 ∗ owns (c : Thread nD τ) arg36 fullShare x36 ∗
      owns (c : Thread nD τ) arg37 fullShare x37 ∗ owns (c : Thread nD τ) arg38 fullShare x38 ∗ owns (c : Thread nD
      τ) arg39 fullShare x39 ∗
      owns (c : Thread nD τ) arg40 fullShare (step x0 x10 x20 x30) ∗ owns (c : Thread nD τ) arg41 fullShare (step x1
      x11 x21 x31) ∗ owns (c : Thread nD τ) arg42 fullShare (step x2 x12 x22 x32) ∗ owns (c : Thread nD τ) arg43
      fullShare (step x3 x13 x23 x33) ∗ owns (c : Thread nD τ) arg44 fullShare (step x4 x14 x24 x34) ∗ owns (c :
      Thread nD τ) arg45 fullShare (step x5 x15 x25 x35) ∗ owns (c : Thread nD τ) arg46 fullShare (step x6 x16 x26
      x36) ∗ owns (c : Thread nD τ) arg47 fullShare (step x7 x17 x27 x37) ∗ owns (c : Thread nD τ) arg48 fullShare
      (step x8 x18 x28 x38) ∗ owns (c : Thread nD τ) arg49 fullShare (step x9 x19 x29 x39) ∗ owns (c : Thread nD τ)
      arg50 fullShare (mean x10 x20) ∗ owns (c : Thread nD τ) arg51 fullShare (mean x11 x21) ∗ owns (c : Thread nD τ)
      arg52 fullShare (mean x12 x22) ∗ owns (c : Thread nD τ) arg53 fullShare (mean x13 x23) ∗ owns (c : Thread nD τ)
      arg54 fullShare (mean x14 x24) ∗ owns (c : Thread nD τ) arg55 fullShare (mean x15 x25) ∗ owns (c : Thread nD τ)
      arg56 fullShare (mean x16 x26) ∗ owns (c : Thread nD τ) arg57 fullShare (mean x17 x27) ∗ owns (c : Thread nD τ)
      arg58 fullShare (mean x18 x28) ∗ owns (c : Thread nD τ) arg59 fullShare (mean x19 x29) ∗ owns (c : Thread nD τ)
      arg60 fullShare (square x10 x30) ∗ owns (c : Thread nD τ) arg61 fullShare (square x11 x31) ∗ owns (c : Thread
      nD τ) arg62 fullShare (square x12 x32) ∗ owns (c : Thread nD τ) arg63 fullShare (square x13 x33) ∗ owns (c :
      Thread nD τ) arg64 fullShare (square x14 x34) ∗ owns (c : Thread nD τ) arg65 fullShare (square x15 x35) ∗ owns
      (c : Thread nD τ) arg66 fullShare (square x16 x36) ∗ owns (c : Thread nD τ) arg67 fullShare (square x17 x37) ∗
      owns (c : Thread nD τ) arg68 fullShare (square x18 x38) ∗ owns (c : Thread nD τ) arg69 fullShare (square x19
      x39)) -∗ K ⟨⟩))
      ⊢ wp frame (wpE (defs₀ (F := F)) Variants.none c none) E (cc0_adamw_small
      arg0 h0 arg1 h1 arg2 h2 arg3 h3 arg4 h4 arg5 h5 arg6 h6 arg7 h7 arg8 h8 arg9 h9 arg10 h10 arg11 h11 arg12 h12
      arg13 h13 arg14 h14 arg15 h15 arg16 h16 arg17 h17 arg18 h18 arg19 h19 arg20 h20 arg21 h21 arg22 h22 arg23 h23
      arg24 h24 arg25 h25 arg26 h26 arg27 h27 arg28 h28 arg29 h29 arg30 h30 arg31 h31 arg32 h32 arg33 h33 arg34 h34
      arg35 h35 arg36 h36 arg37 h37 arg38 h38 arg39 h39 arg40 h40 arg41 h41 arg42 h42 arg43 h43 arg44 h44 arg45 h45
      arg46 h46 arg47 h47 arg48 h48 arg49 h49 arg50 h50 arg51 h51 arg52 h52 arg53 h53 arg54 h54 arg55 h55 arg56 h56
      arg57 h57 arg58 h58 arg59 h59 arg60 h60 arg61 h61 arg62 h62 arg63 h63 arg64 h64 arg65 h65 arg66 h66 arg67 h67
      arg68 h68 arg69 h69) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, ⟨%d45, %f45, %hf45, H45⟩, ⟨%d46, %f46, %hf46, H46⟩, ⟨%d47, %f47, %hf47, H47⟩, ⟨%d48, %f48, %hf48, H48⟩, ⟨%d49, %f49, %hf49, H49⟩, ⟨%d50, %f50, %hf50, H50⟩, ⟨%d51, %f51, %hf51, H51⟩, ⟨%d52, %f52, %hf52, H52⟩, ⟨%d53, %f53, %hf53, H53⟩, ⟨%d54, %f54, %hf54, H54⟩, ⟨%d55, %f55, %hf55, H55⟩, ⟨%d56, %f56, %hf56, H56⟩, ⟨%d57, %f57, %hf57, H57⟩, ⟨%d58, %f58, %hf58, H58⟩, ⟨%d59, %f59, %hf59, H59⟩, ⟨%d60, %f60, %hf60, H60⟩, ⟨%d61, %f61, %hf61, H61⟩, ⟨%d62, %f62, %hf62, H62⟩, ⟨%d63, %f63, %hf63, H63⟩, ⟨%d64, %f64, %hf64, H64⟩, ⟨%d65, %f65, %hf65, H65⟩, ⟨%d66, %f66, %hf66, H66⟩, ⟨%d67, %f67, %hf67, H67⟩, ⟨%d68, %f68, %hf68, H68⟩, ⟨%d69, %f69, %hf69, H69⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists _; isplitr; swap; · iexact H40
    ipureintro
    refine (View.read_writes_eq_canon _ _ _ (cover0 _)).trans ((View.canon_unit_zero (S := S1x2048) zero2 _ _).trans
      (Eq.trans ?_ (ld_step (s := S1x2048) zero2 inb_S1x2048_S1x2048_0_0 (arg0.view.read _ f0) (arg10.view.read _ f10) (arg20.view.read _ f20) (arg30.view.read _ f30))))
    rfl
  isplitl [H41]
  · iexists _; isplitr; swap; · iexact H41
    ipureintro
    refine (View.read_writes_eq_canon _ _ _ (cover1 _)).trans ((View.canon_unit_zero (S := S1x768) zero2 _ _).trans
      (Eq.trans ?_ (ld_step (s := S1x768) zero2 inb_S1x768_S1x768_0_0 (arg1.view.read _ f1) (arg11.view.read _ f11) (arg21.view.read _ f21) (arg31.view.read _ f31))))
    rfl
  isplitl [H42]
  · iexists _; isplitr; swap; · iexact H42
    ipureintro
    refine (View.read_writes_eq_canon _ _ _ (cover1 _)).trans ((View.canon_unit_zero (S := S1x768) zero2 _ _).trans
      (Eq.trans ?_ (ld_step (s := S1x768) zero2 inb_S1x768_S1x768_0_0 (arg2.view.read _ f2) (arg12.view.read _ f12) (arg22.view.read _ f22) (arg32.view.read _ f32))))
    rfl
  isplitl [H43]
  · iexists _; isplitr; swap; · iexact H43
    ipureintro
    refine (View.read_writes_eq_canon _ _ _ (cover2 _)).trans ((View.canon_unit_zero (S := S6x128x128) zero3 _ _).trans
      (Eq.trans ?_ (ld_step (s := S6x128x128) zero3 inb_S6x128x128_S6x128x128_0_0_0 (arg3.view.read _ f3) (arg13.view.read _ f13) (arg23.view.read _ f23) (arg33.view.read _ f33))))
    rfl
  isplitl [H44]
  · iexists _; isplitr; swap; · iexact H44
    ipureintro
    refine (View.read_writes_eq_canon _ _ _ (cover3 _)).trans ((View.canon_unit_zero (S := S6x128) zero2 _ _).trans
      (Eq.trans ?_ (ld_step (s := S6x128) zero2 inb_S6x128_S6x128_0_0 (arg4.view.read _ f4) (arg14.view.read _ f14) (arg24.view.read _ f24) (arg34.view.read _ f34))))
    rfl
  isplitl [H45]
  · iexists _; isplitr; swap; · iexact H45
    ipureintro
    refine (View.read_writes_eq_canon _ _ _ (cover4 _)).trans ((View.canon_unit_zero (S := S3x192) zero2 _ _).trans
      (Eq.trans ?_ (ld_step (s := S3x192) zero2 inb_S3x192_S3x192_0_0 (arg5.view.read _ f5) (arg15.view.read _ f15) (arg25.view.read _ f25) (arg35.view.read _ f35))))
    rfl
  isplitl [H46]
  · iexists _; isplitr; swap; · iexact H46
    ipureintro
    refine (View.read_writes_eq_canon _ _ _ (cover0 _)).trans ((View.canon_unit_zero (S := S1x2048) zero2 _ _).trans
      (Eq.trans ?_ (ld_step (s := S1x2048) zero2 inb_S1x2048_S1x2048_0_0 (arg6.view.read _ f6) (arg16.view.read _ f16) (arg26.view.read _ f26) (arg36.view.read _ f36))))
    rfl
  isplitl [H47]
  · iexists _; isplitr; swap; · iexact H47
    ipureintro
    refine (View.read_writes_eq_canon _ _ _ (cover0 _)).trans ((View.canon_unit_zero (S := S1x2048) zero2 _ _).trans
      (Eq.trans ?_ (ld_step (s := S1x2048) zero2 inb_S1x2048_S1x2048_0_0 (arg7.view.read _ f7) (arg17.view.read _ f17) (arg27.view.read _ f27) (arg37.view.read _ f37))))
    rfl
  isplitl [H48]
  · iexists _; isplitr; swap; · iexact H48
    ipureintro
    refine (View.read_writes_eq_canon _ _ _ (cover0 _)).trans ((View.canon_unit_zero (S := S1x2048) zero2 _ _).trans
      (Eq.trans ?_ (ld_step (s := S1x2048) zero2 inb_S1x2048_S1x2048_0_0 (arg8.view.read _ f8) (arg18.view.read _ f18) (arg28.view.read _ f28) (arg38.view.read _ f38))))
    rfl
  isplitl [H49]
  · iexists _; isplitr; swap; · iexact H49
    ipureintro
    refine (View.read_writes_eq_canon _ _ _ (cover0 _)).trans ((View.canon_unit_zero (S := S1x2048) zero2 _ _).trans
      (Eq.trans ?_ (ld_step (s := S1x2048) zero2 inb_S1x2048_S1x2048_0_0 (arg9.view.read _ f9) (arg19.view.read _ f19) (arg29.view.read _ f29) (arg39.view.read _ f39))))
    rfl
  isplitl [H50]
  · iexists _; isplitr; swap; · iexact H50
    ipureintro
    refine (View.read_writes_eq_canon _ _ _ (cover0 _)).trans ((View.canon_unit_zero (S := S1x2048) zero2 _ _).trans
      (Eq.trans ?_ (ld_mean (s := S1x2048) zero2 inb_S1x2048_S1x2048_0_0 (arg10.view.read _ f10) (arg20.view.read _ f20))))
    rfl
  isplitl [H51]
  · iexists _; isplitr; swap; · iexact H51
    ipureintro
    refine (View.read_writes_eq_canon _ _ _ (cover1 _)).trans ((View.canon_unit_zero (S := S1x768) zero2 _ _).trans
      (Eq.trans ?_ (ld_mean (s := S1x768) zero2 inb_S1x768_S1x768_0_0 (arg11.view.read _ f11) (arg21.view.read _ f21))))
    rfl
  isplitl [H52]
  · iexists _; isplitr; swap; · iexact H52
    ipureintro
    refine (View.read_writes_eq_canon _ _ _ (cover1 _)).trans ((View.canon_unit_zero (S := S1x768) zero2 _ _).trans
      (Eq.trans ?_ (ld_mean (s := S1x768) zero2 inb_S1x768_S1x768_0_0 (arg12.view.read _ f12) (arg22.view.read _ f22))))
    rfl
  isplitl [H53]
  · iexists _; isplitr; swap; · iexact H53
    ipureintro
    refine (View.read_writes_eq_canon _ _ _ (cover2 _)).trans ((View.canon_unit_zero (S := S6x128x128) zero3 _ _).trans
      (Eq.trans ?_ (ld_mean (s := S6x128x128) zero3 inb_S6x128x128_S6x128x128_0_0_0 (arg13.view.read _ f13) (arg23.view.read _ f23))))
    rfl
  isplitl [H54]
  · iexists _; isplitr; swap; · iexact H54
    ipureintro
    refine (View.read_writes_eq_canon _ _ _ (cover3 _)).trans ((View.canon_unit_zero (S := S6x128) zero2 _ _).trans
      (Eq.trans ?_ (ld_mean (s := S6x128) zero2 inb_S6x128_S6x128_0_0 (arg14.view.read _ f14) (arg24.view.read _ f24))))
    rfl
  isplitl [H55]
  · iexists _; isplitr; swap; · iexact H55
    ipureintro
    refine (View.read_writes_eq_canon _ _ _ (cover4 _)).trans ((View.canon_unit_zero (S := S3x192) zero2 _ _).trans
      (Eq.trans ?_ (ld_mean (s := S3x192) zero2 inb_S3x192_S3x192_0_0 (arg15.view.read _ f15) (arg25.view.read _ f25))))
    rfl
  isplitl [H56]
  · iexists _; isplitr; swap; · iexact H56
    ipureintro
    refine (View.read_writes_eq_canon _ _ _ (cover0 _)).trans ((View.canon_unit_zero (S := S1x2048) zero2 _ _).trans
      (Eq.trans ?_ (ld_mean (s := S1x2048) zero2 inb_S1x2048_S1x2048_0_0 (arg16.view.read _ f16) (arg26.view.read _ f26))))
    rfl
  isplitl [H57]
  · iexists _; isplitr; swap; · iexact H57
    ipureintro
    refine (View.read_writes_eq_canon _ _ _ (cover0 _)).trans ((View.canon_unit_zero (S := S1x2048) zero2 _ _).trans
      (Eq.trans ?_ (ld_mean (s := S1x2048) zero2 inb_S1x2048_S1x2048_0_0 (arg17.view.read _ f17) (arg27.view.read _ f27))))
    rfl
  isplitl [H58]
  · iexists _; isplitr; swap; · iexact H58
    ipureintro
    refine (View.read_writes_eq_canon _ _ _ (cover0 _)).trans ((View.canon_unit_zero (S := S1x2048) zero2 _ _).trans
      (Eq.trans ?_ (ld_mean (s := S1x2048) zero2 inb_S1x2048_S1x2048_0_0 (arg18.view.read _ f18) (arg28.view.read _ f28))))
    rfl
  isplitl [H59]
  · iexists _; isplitr; swap; · iexact H59
    ipureintro
    refine (View.read_writes_eq_canon _ _ _ (cover0 _)).trans ((View.canon_unit_zero (S := S1x2048) zero2 _ _).trans
      (Eq.trans ?_ (ld_mean (s := S1x2048) zero2 inb_S1x2048_S1x2048_0_0 (arg19.view.read _ f19) (arg29.view.read _ f29))))
    rfl
  isplitl [H60]
  · iexists _; isplitr; swap; · iexact H60
    ipureintro
    refine (View.read_writes_eq_canon _ _ _ (cover0 _)).trans ((View.canon_unit_zero (S := S1x2048) zero2 _ _).trans
      (Eq.trans ?_ (ld_square (s := S1x2048) zero2 inb_S1x2048_S1x2048_0_0 (arg10.view.read _ f10) (arg30.view.read _ f30))))
    rfl
  isplitl [H61]
  · iexists _; isplitr; swap; · iexact H61
    ipureintro
    refine (View.read_writes_eq_canon _ _ _ (cover1 _)).trans ((View.canon_unit_zero (S := S1x768) zero2 _ _).trans
      (Eq.trans ?_ (ld_square (s := S1x768) zero2 inb_S1x768_S1x768_0_0 (arg11.view.read _ f11) (arg31.view.read _ f31))))
    rfl
  isplitl [H62]
  · iexists _; isplitr; swap; · iexact H62
    ipureintro
    refine (View.read_writes_eq_canon _ _ _ (cover1 _)).trans ((View.canon_unit_zero (S := S1x768) zero2 _ _).trans
      (Eq.trans ?_ (ld_square (s := S1x768) zero2 inb_S1x768_S1x768_0_0 (arg12.view.read _ f12) (arg32.view.read _ f32))))
    rfl
  isplitl [H63]
  · iexists _; isplitr; swap; · iexact H63
    ipureintro
    refine (View.read_writes_eq_canon _ _ _ (cover2 _)).trans ((View.canon_unit_zero (S := S6x128x128) zero3 _ _).trans
      (Eq.trans ?_ (ld_square (s := S6x128x128) zero3 inb_S6x128x128_S6x128x128_0_0_0 (arg13.view.read _ f13) (arg33.view.read _ f33))))
    rfl
  isplitl [H64]
  · iexists _; isplitr; swap; · iexact H64
    ipureintro
    refine (View.read_writes_eq_canon _ _ _ (cover3 _)).trans ((View.canon_unit_zero (S := S6x128) zero2 _ _).trans
      (Eq.trans ?_ (ld_square (s := S6x128) zero2 inb_S6x128_S6x128_0_0 (arg14.view.read _ f14) (arg34.view.read _ f34))))
    rfl
  isplitl [H65]
  · iexists _; isplitr; swap; · iexact H65
    ipureintro
    refine (View.read_writes_eq_canon _ _ _ (cover4 _)).trans ((View.canon_unit_zero (S := S3x192) zero2 _ _).trans
      (Eq.trans ?_ (ld_square (s := S3x192) zero2 inb_S3x192_S3x192_0_0 (arg15.view.read _ f15) (arg35.view.read _ f35))))
    rfl
  isplitl [H66]
  · iexists _; isplitr; swap; · iexact H66
    ipureintro
    refine (View.read_writes_eq_canon _ _ _ (cover0 _)).trans ((View.canon_unit_zero (S := S1x2048) zero2 _ _).trans
      (Eq.trans ?_ (ld_square (s := S1x2048) zero2 inb_S1x2048_S1x2048_0_0 (arg16.view.read _ f16) (arg36.view.read _ f36))))
    rfl
  isplitl [H67]
  · iexists _; isplitr; swap; · iexact H67
    ipureintro
    refine (View.read_writes_eq_canon _ _ _ (cover0 _)).trans ((View.canon_unit_zero (S := S1x2048) zero2 _ _).trans
      (Eq.trans ?_ (ld_square (s := S1x2048) zero2 inb_S1x2048_S1x2048_0_0 (arg17.view.read _ f17) (arg37.view.read _ f37))))
    rfl
  isplitl [H68]
  · iexists _; isplitr; swap; · iexact H68
    ipureintro
    refine (View.read_writes_eq_canon _ _ _ (cover0 _)).trans ((View.canon_unit_zero (S := S1x2048) zero2 _ _).trans
      (Eq.trans ?_ (ld_square (s := S1x2048) zero2 inb_S1x2048_S1x2048_0_0 (arg18.view.read _ f18) (arg38.view.read _ f38))))
    rfl
  iexists _; isplitr; swap; · iexact H69
  ipureintro
  refine (View.read_writes_eq_canon _ _ _ (cover0 _)).trans ((View.canon_unit_zero (S := S1x2048) zero2 _ _).trans
    (Eq.trans ?_ (ld_square (s := S1x2048) zero2 inb_S1x2048_S1x2048_0_0 (arg19.view.read _ f19) (arg39.view.read _ f39))))
  rfl

/-- The proof data of the one region: a window of an argument keeps its block, a window of a result ends at its value. -/
def dats (_ : Fin 1) (c : Dev nD) : Dat τ (Elt F) Unit ℕ (UR sig nD τ) ℕ cfg0 c where
  A w := A m c (Pipeline.arrRef spec0 w)
  after w t := match w with
    | ⟨0, _⟩ => B m c 0 t
    | ⟨1, _⟩ => B m c 1 t
    | ⟨2, _⟩ => B m c 2 t
    | ⟨3, _⟩ => B m c 3 t
    | ⟨4, _⟩ => B m c 4 t
    | ⟨5, _⟩ => B m c 5 t
    | ⟨6, _⟩ => B m c 6 t
    | ⟨7, _⟩ => B m c 7 t
    | ⟨8, _⟩ => B m c 8 t
    | ⟨9, _⟩ => B m c 9 t
    | ⟨10, _⟩ => B m c 10 t
    | ⟨11, _⟩ => B m c 11 t
    | ⟨12, _⟩ => B m c 12 t
    | ⟨13, _⟩ => B m c 13 t
    | ⟨14, _⟩ => B m c 14 t
    | ⟨15, _⟩ => B m c 15 t
    | ⟨16, _⟩ => B m c 16 t
    | ⟨17, _⟩ => B m c 17 t
    | ⟨18, _⟩ => B m c 18 t
    | ⟨19, _⟩ => B m c 19 t
    | ⟨20, _⟩ => B m c 20 t
    | ⟨21, _⟩ => B m c 21 t
    | ⟨22, _⟩ => B m c 22 t
    | ⟨23, _⟩ => B m c 23 t
    | ⟨24, _⟩ => B m c 24 t
    | ⟨25, _⟩ => B m c 25 t
    | ⟨26, _⟩ => B m c 26 t
    | ⟨27, _⟩ => B m c 27 t
    | ⟨28, _⟩ => B m c 28 t
    | ⟨29, _⟩ => B m c 29 t
    | ⟨30, _⟩ => B m c 30 t
    | ⟨31, _⟩ => B m c 31 t
    | ⟨32, _⟩ => B m c 32 t
    | ⟨33, _⟩ => B m c 33 t
    | ⟨34, _⟩ => B m c 34 t
    | ⟨35, _⟩ => B m c 35 t
    | ⟨36, _⟩ => B m c 36 t
    | ⟨37, _⟩ => B m c 37 t
    | ⟨38, _⟩ => B m c 38 t
    | ⟨39, _⟩ => B m c 39 t
    | ⟨40, _⟩ => step (B m c 0 t) (B m c 10 t) (B m c 20 t) (B m c 30 t)
    | ⟨41, _⟩ => step (B m c 1 t) (B m c 11 t) (B m c 21 t) (B m c 31 t)
    | ⟨42, _⟩ => step (B m c 2 t) (B m c 12 t) (B m c 22 t) (B m c 32 t)
    | ⟨43, _⟩ => step (B m c 3 t) (B m c 13 t) (B m c 23 t) (B m c 33 t)
    | ⟨44, _⟩ => step (B m c 4 t) (B m c 14 t) (B m c 24 t) (B m c 34 t)
    | ⟨45, _⟩ => step (B m c 5 t) (B m c 15 t) (B m c 25 t) (B m c 35 t)
    | ⟨46, _⟩ => step (B m c 6 t) (B m c 16 t) (B m c 26 t) (B m c 36 t)
    | ⟨47, _⟩ => step (B m c 7 t) (B m c 17 t) (B m c 27 t) (B m c 37 t)
    | ⟨48, _⟩ => step (B m c 8 t) (B m c 18 t) (B m c 28 t) (B m c 38 t)
    | ⟨49, _⟩ => step (B m c 9 t) (B m c 19 t) (B m c 29 t) (B m c 39 t)
    | ⟨50, _⟩ => mean (B m c 10 t) (B m c 20 t)
    | ⟨51, _⟩ => mean (B m c 11 t) (B m c 21 t)
    | ⟨52, _⟩ => mean (B m c 12 t) (B m c 22 t)
    | ⟨53, _⟩ => mean (B m c 13 t) (B m c 23 t)
    | ⟨54, _⟩ => mean (B m c 14 t) (B m c 24 t)
    | ⟨55, _⟩ => mean (B m c 15 t) (B m c 25 t)
    | ⟨56, _⟩ => mean (B m c 16 t) (B m c 26 t)
    | ⟨57, _⟩ => mean (B m c 17 t) (B m c 27 t)
    | ⟨58, _⟩ => mean (B m c 18 t) (B m c 28 t)
    | ⟨59, _⟩ => mean (B m c 19 t) (B m c 29 t)
    | ⟨60, _⟩ => square (B m c 10 t) (B m c 30 t)
    | ⟨61, _⟩ => square (B m c 11 t) (B m c 31 t)
    | ⟨62, _⟩ => square (B m c 12 t) (B m c 32 t)
    | ⟨63, _⟩ => square (B m c 13 t) (B m c 33 t)
    | ⟨64, _⟩ => square (B m c 14 t) (B m c 34 t)
    | ⟨65, _⟩ => square (B m c 15 t) (B m c 35 t)
    | ⟨66, _⟩ => square (B m c 16 t) (B m c 36 t)
    | ⟨67, _⟩ => square (B m c 17 t) (B m c 37 t)
    | ⟨68, _⟩ => square (B m c 18 t) (B m c 38 t)
    | ⟨69, _⟩ => square (B m c 19 t) (B m c 39 t)
    | ⟨_ + 70, h⟩ => absurd h (Nat.not_lt_of_ge (Nat.le_add_left _ _))
  Φ _ := Pipeline.ΦA spec0 c
  q _ := fullShare
  owed _ := 0

/-- The data's arrays are the launched ones. -/
theorem A_eq (c : Dev nD) (w : Fin cfg0.W) : (dats m 0 c).A w = A m c (Pipeline.arrRef spec0 w) := by
  dsimp only [dats]

section
variable (c : Dev nD) (t : Fin cfg0.N)

theorem a0 : (dats m 0 c).after 0 t = B m c 0 t := by dsimp only [dats]
theorem a1 : (dats m 0 c).after 1 t = B m c 1 t := by dsimp only [dats]
theorem a2 : (dats m 0 c).after 2 t = B m c 2 t := by dsimp only [dats]
theorem a3 : (dats m 0 c).after 3 t = B m c 3 t := by dsimp only [dats]
theorem a4 : (dats m 0 c).after 4 t = B m c 4 t := by dsimp only [dats]
theorem a5 : (dats m 0 c).after 5 t = B m c 5 t := by dsimp only [dats]
theorem a6 : (dats m 0 c).after 6 t = B m c 6 t := by dsimp only [dats]
theorem a7 : (dats m 0 c).after 7 t = B m c 7 t := by dsimp only [dats]
theorem a8 : (dats m 0 c).after 8 t = B m c 8 t := by dsimp only [dats]
theorem a9 : (dats m 0 c).after 9 t = B m c 9 t := by dsimp only [dats]
theorem a10 : (dats m 0 c).after 10 t = B m c 10 t := by dsimp only [dats]
theorem a11 : (dats m 0 c).after 11 t = B m c 11 t := by dsimp only [dats]
theorem a12 : (dats m 0 c).after 12 t = B m c 12 t := by dsimp only [dats]
theorem a13 : (dats m 0 c).after 13 t = B m c 13 t := by dsimp only [dats]
theorem a14 : (dats m 0 c).after 14 t = B m c 14 t := by dsimp only [dats]
theorem a15 : (dats m 0 c).after 15 t = B m c 15 t := by dsimp only [dats]
theorem a16 : (dats m 0 c).after 16 t = B m c 16 t := by dsimp only [dats]
theorem a17 : (dats m 0 c).after 17 t = B m c 17 t := by dsimp only [dats]
theorem a18 : (dats m 0 c).after 18 t = B m c 18 t := by dsimp only [dats]
theorem a19 : (dats m 0 c).after 19 t = B m c 19 t := by dsimp only [dats]
theorem a20 : (dats m 0 c).after 20 t = B m c 20 t := by dsimp only [dats]
theorem a21 : (dats m 0 c).after 21 t = B m c 21 t := by dsimp only [dats]
theorem a22 : (dats m 0 c).after 22 t = B m c 22 t := by dsimp only [dats]
theorem a23 : (dats m 0 c).after 23 t = B m c 23 t := by dsimp only [dats]
theorem a24 : (dats m 0 c).after 24 t = B m c 24 t := by dsimp only [dats]
theorem a25 : (dats m 0 c).after 25 t = B m c 25 t := by dsimp only [dats]
theorem a26 : (dats m 0 c).after 26 t = B m c 26 t := by dsimp only [dats]
theorem a27 : (dats m 0 c).after 27 t = B m c 27 t := by dsimp only [dats]
theorem a28 : (dats m 0 c).after 28 t = B m c 28 t := by dsimp only [dats]
theorem a29 : (dats m 0 c).after 29 t = B m c 29 t := by dsimp only [dats]
theorem a30 : (dats m 0 c).after 30 t = B m c 30 t := by dsimp only [dats]
theorem a31 : (dats m 0 c).after 31 t = B m c 31 t := by dsimp only [dats]
theorem a32 : (dats m 0 c).after 32 t = B m c 32 t := by dsimp only [dats]
theorem a33 : (dats m 0 c).after 33 t = B m c 33 t := by dsimp only [dats]
theorem a34 : (dats m 0 c).after 34 t = B m c 34 t := by dsimp only [dats]
theorem a35 : (dats m 0 c).after 35 t = B m c 35 t := by dsimp only [dats]
theorem a36 : (dats m 0 c).after 36 t = B m c 36 t := by dsimp only [dats]
theorem a37 : (dats m 0 c).after 37 t = B m c 37 t := by dsimp only [dats]
theorem a38 : (dats m 0 c).after 38 t = B m c 38 t := by dsimp only [dats]
theorem a39 : (dats m 0 c).after 39 t = B m c 39 t := by dsimp only [dats]
theorem a40 : (dats m 0 c).after 40 t = step (B m c 0 t) (B m c 10 t) (B m c 20 t) (B m c 30 t) := by dsimp only [dats]
theorem a41 : (dats m 0 c).after 41 t = step (B m c 1 t) (B m c 11 t) (B m c 21 t) (B m c 31 t) := by dsimp only [dats]
theorem a42 : (dats m 0 c).after 42 t = step (B m c 2 t) (B m c 12 t) (B m c 22 t) (B m c 32 t) := by dsimp only [dats]
theorem a43 : (dats m 0 c).after 43 t = step (B m c 3 t) (B m c 13 t) (B m c 23 t) (B m c 33 t) := by dsimp only [dats]
theorem a44 : (dats m 0 c).after 44 t = step (B m c 4 t) (B m c 14 t) (B m c 24 t) (B m c 34 t) := by dsimp only [dats]
theorem a45 : (dats m 0 c).after 45 t = step (B m c 5 t) (B m c 15 t) (B m c 25 t) (B m c 35 t) := by dsimp only [dats]
theorem a46 : (dats m 0 c).after 46 t = step (B m c 6 t) (B m c 16 t) (B m c 26 t) (B m c 36 t) := by dsimp only [dats]
theorem a47 : (dats m 0 c).after 47 t = step (B m c 7 t) (B m c 17 t) (B m c 27 t) (B m c 37 t) := by dsimp only [dats]
theorem a48 : (dats m 0 c).after 48 t = step (B m c 8 t) (B m c 18 t) (B m c 28 t) (B m c 38 t) := by dsimp only [dats]
theorem a49 : (dats m 0 c).after 49 t = step (B m c 9 t) (B m c 19 t) (B m c 29 t) (B m c 39 t) := by dsimp only [dats]
theorem a50 : (dats m 0 c).after 50 t = mean (B m c 10 t) (B m c 20 t) := by dsimp only [dats]
theorem a51 : (dats m 0 c).after 51 t = mean (B m c 11 t) (B m c 21 t) := by dsimp only [dats]
theorem a52 : (dats m 0 c).after 52 t = mean (B m c 12 t) (B m c 22 t) := by dsimp only [dats]
theorem a53 : (dats m 0 c).after 53 t = mean (B m c 13 t) (B m c 23 t) := by dsimp only [dats]
theorem a54 : (dats m 0 c).after 54 t = mean (B m c 14 t) (B m c 24 t) := by dsimp only [dats]
theorem a55 : (dats m 0 c).after 55 t = mean (B m c 15 t) (B m c 25 t) := by dsimp only [dats]
theorem a56 : (dats m 0 c).after 56 t = mean (B m c 16 t) (B m c 26 t) := by dsimp only [dats]
theorem a57 : (dats m 0 c).after 57 t = mean (B m c 17 t) (B m c 27 t) := by dsimp only [dats]
theorem a58 : (dats m 0 c).after 58 t = mean (B m c 18 t) (B m c 28 t) := by dsimp only [dats]
theorem a59 : (dats m 0 c).after 59 t = mean (B m c 19 t) (B m c 29 t) := by dsimp only [dats]
theorem a60 : (dats m 0 c).after 60 t = square (B m c 10 t) (B m c 30 t) := by dsimp only [dats]
theorem a61 : (dats m 0 c).after 61 t = square (B m c 11 t) (B m c 31 t) := by dsimp only [dats]
theorem a62 : (dats m 0 c).after 62 t = square (B m c 12 t) (B m c 32 t) := by dsimp only [dats]
theorem a63 : (dats m 0 c).after 63 t = square (B m c 13 t) (B m c 33 t) := by dsimp only [dats]
theorem a64 : (dats m 0 c).after 64 t = square (B m c 14 t) (B m c 34 t) := by dsimp only [dats]
theorem a65 : (dats m 0 c).after 65 t = square (B m c 15 t) (B m c 35 t) := by dsimp only [dats]
theorem a66 : (dats m 0 c).after 66 t = square (B m c 16 t) (B m c 36 t) := by dsimp only [dats]
theorem a67 : (dats m 0 c).after 67 t = square (B m c 17 t) (B m c 37 t) := by dsimp only [dats]
theorem a68 : (dats m 0 c).after 68 t = square (B m c 18 t) (B m c 38 t) := by dsimp only [dats]
theorem a69 : (dats m 0 c).after 69 t = square (B m c 19 t) (B m c 39 t) := by dsimp only [dats]

/-- An argument's buffer holds its block when the body starts. -/
theorem fetched (w : Fin cfg0.W) (h0 : (cfg0.win w).isOut = false) (h1 : ∀ i, cfg0.idle w i = false)
    (h2 : ∀ t t' : Fin cfg0.N, (cfg0.win w).index t = (cfg0.win w).index t' →
      (cfg0.win w).clip (cfg0.grid.coords t) = (cfg0.win w).clip (cfg0.grid.coords t'))
    (h3 : ∀ t, (cfg0.win w).cut (cfg0.grid.coords t) ((dats m 0 c).after w t) = B m c w t) (d) :
    (dats m 0 c).before w t d = (dats m 0 c).fetched w t d :=
  (dats m 0 c).before_in_eq_fetched w h0 h1 h2
    (fun t => (h3 t).trans (by unfold Dat.blockOf B; rw [A_eq])) t d

theorem b0 (d) : (dats m 0 c).before 0 t d = B m c 0 t :=
  (fetched m c t 0 rfl (fun _ => rfl) (fun _ _ _ => rfl) (fun t => by rw [a0]) d).trans (by unfold Dat.fetched Dat.blockOf B; rw [A_eq]; try rfl)
theorem b1 (d) : (dats m 0 c).before 1 t d = B m c 1 t :=
  (fetched m c t 1 rfl (fun _ => rfl) (fun _ _ _ => rfl) (fun t => by rw [a1]) d).trans (by unfold Dat.fetched Dat.blockOf B; rw [A_eq]; try rfl)
theorem b2 (d) : (dats m 0 c).before 2 t d = B m c 2 t :=
  (fetched m c t 2 rfl (fun _ => rfl) (fun _ _ _ => rfl) (fun t => by rw [a2]) d).trans (by unfold Dat.fetched Dat.blockOf B; rw [A_eq]; try rfl)
theorem b3 (d) : (dats m 0 c).before 3 t d = B m c 3 t :=
  (fetched m c t 3 rfl (fun _ => rfl) (fun _ _ _ => rfl) (fun t => by rw [a3]) d).trans (by unfold Dat.fetched Dat.blockOf B; rw [A_eq]; try rfl)
theorem b4 (d) : (dats m 0 c).before 4 t d = B m c 4 t :=
  (fetched m c t 4 rfl (fun _ => rfl) (fun _ _ _ => rfl) (fun t => by rw [a4]) d).trans (by unfold Dat.fetched Dat.blockOf B; rw [A_eq]; try rfl)
theorem b5 (d) : (dats m 0 c).before 5 t d = B m c 5 t :=
  (fetched m c t 5 rfl (fun _ => rfl) (fun _ _ _ => rfl) (fun t => by rw [a5]) d).trans (by unfold Dat.fetched Dat.blockOf B; rw [A_eq]; try rfl)
theorem b6 (d) : (dats m 0 c).before 6 t d = B m c 6 t :=
  (fetched m c t 6 rfl (fun _ => rfl) (fun _ _ _ => rfl) (fun t => by rw [a6]) d).trans (by unfold Dat.fetched Dat.blockOf B; rw [A_eq]; try rfl)
theorem b7 (d) : (dats m 0 c).before 7 t d = B m c 7 t :=
  (fetched m c t 7 rfl (fun _ => rfl) (fun _ _ _ => rfl) (fun t => by rw [a7]) d).trans (by unfold Dat.fetched Dat.blockOf B; rw [A_eq]; try rfl)
theorem b8 (d) : (dats m 0 c).before 8 t d = B m c 8 t :=
  (fetched m c t 8 rfl (fun _ => rfl) (fun _ _ _ => rfl) (fun t => by rw [a8]) d).trans (by unfold Dat.fetched Dat.blockOf B; rw [A_eq]; try rfl)
theorem b9 (d) : (dats m 0 c).before 9 t d = B m c 9 t :=
  (fetched m c t 9 rfl (fun _ => rfl) (fun _ _ _ => rfl) (fun t => by rw [a9]) d).trans (by unfold Dat.fetched Dat.blockOf B; rw [A_eq]; try rfl)
theorem b10 (d) : (dats m 0 c).before 10 t d = B m c 10 t :=
  (fetched m c t 10 rfl (fun _ => rfl) (fun _ _ _ => rfl) (fun t => by rw [a10]) d).trans (by unfold Dat.fetched Dat.blockOf B; rw [A_eq]; try rfl)
theorem b11 (d) : (dats m 0 c).before 11 t d = B m c 11 t :=
  (fetched m c t 11 rfl (fun _ => rfl) (fun _ _ _ => rfl) (fun t => by rw [a11]) d).trans (by unfold Dat.fetched Dat.blockOf B; rw [A_eq]; try rfl)
theorem b12 (d) : (dats m 0 c).before 12 t d = B m c 12 t :=
  (fetched m c t 12 rfl (fun _ => rfl) (fun _ _ _ => rfl) (fun t => by rw [a12]) d).trans (by unfold Dat.fetched Dat.blockOf B; rw [A_eq]; try rfl)
theorem b13 (d) : (dats m 0 c).before 13 t d = B m c 13 t :=
  (fetched m c t 13 rfl (fun _ => rfl) (fun _ _ _ => rfl) (fun t => by rw [a13]) d).trans (by unfold Dat.fetched Dat.blockOf B; rw [A_eq]; try rfl)
theorem b14 (d) : (dats m 0 c).before 14 t d = B m c 14 t :=
  (fetched m c t 14 rfl (fun _ => rfl) (fun _ _ _ => rfl) (fun t => by rw [a14]) d).trans (by unfold Dat.fetched Dat.blockOf B; rw [A_eq]; try rfl)
theorem b15 (d) : (dats m 0 c).before 15 t d = B m c 15 t :=
  (fetched m c t 15 rfl (fun _ => rfl) (fun _ _ _ => rfl) (fun t => by rw [a15]) d).trans (by unfold Dat.fetched Dat.blockOf B; rw [A_eq]; try rfl)
theorem b16 (d) : (dats m 0 c).before 16 t d = B m c 16 t :=
  (fetched m c t 16 rfl (fun _ => rfl) (fun _ _ _ => rfl) (fun t => by rw [a16]) d).trans (by unfold Dat.fetched Dat.blockOf B; rw [A_eq]; try rfl)
theorem b17 (d) : (dats m 0 c).before 17 t d = B m c 17 t :=
  (fetched m c t 17 rfl (fun _ => rfl) (fun _ _ _ => rfl) (fun t => by rw [a17]) d).trans (by unfold Dat.fetched Dat.blockOf B; rw [A_eq]; try rfl)
theorem b18 (d) : (dats m 0 c).before 18 t d = B m c 18 t :=
  (fetched m c t 18 rfl (fun _ => rfl) (fun _ _ _ => rfl) (fun t => by rw [a18]) d).trans (by unfold Dat.fetched Dat.blockOf B; rw [A_eq]; try rfl)
theorem b19 (d) : (dats m 0 c).before 19 t d = B m c 19 t :=
  (fetched m c t 19 rfl (fun _ => rfl) (fun _ _ _ => rfl) (fun t => by rw [a19]) d).trans (by unfold Dat.fetched Dat.blockOf B; rw [A_eq]; try rfl)
theorem b20 (d) : (dats m 0 c).before 20 t d = B m c 20 t :=
  (fetched m c t 20 rfl (fun _ => rfl) (fun _ _ _ => rfl) (fun t => by rw [a20]) d).trans (by unfold Dat.fetched Dat.blockOf B; rw [A_eq]; try rfl)
theorem b21 (d) : (dats m 0 c).before 21 t d = B m c 21 t :=
  (fetched m c t 21 rfl (fun _ => rfl) (fun _ _ _ => rfl) (fun t => by rw [a21]) d).trans (by unfold Dat.fetched Dat.blockOf B; rw [A_eq]; try rfl)
theorem b22 (d) : (dats m 0 c).before 22 t d = B m c 22 t :=
  (fetched m c t 22 rfl (fun _ => rfl) (fun _ _ _ => rfl) (fun t => by rw [a22]) d).trans (by unfold Dat.fetched Dat.blockOf B; rw [A_eq]; try rfl)
theorem b23 (d) : (dats m 0 c).before 23 t d = B m c 23 t :=
  (fetched m c t 23 rfl (fun _ => rfl) (fun _ _ _ => rfl) (fun t => by rw [a23]) d).trans (by unfold Dat.fetched Dat.blockOf B; rw [A_eq]; try rfl)
theorem b24 (d) : (dats m 0 c).before 24 t d = B m c 24 t :=
  (fetched m c t 24 rfl (fun _ => rfl) (fun _ _ _ => rfl) (fun t => by rw [a24]) d).trans (by unfold Dat.fetched Dat.blockOf B; rw [A_eq]; try rfl)
theorem b25 (d) : (dats m 0 c).before 25 t d = B m c 25 t :=
  (fetched m c t 25 rfl (fun _ => rfl) (fun _ _ _ => rfl) (fun t => by rw [a25]) d).trans (by unfold Dat.fetched Dat.blockOf B; rw [A_eq]; try rfl)
theorem b26 (d) : (dats m 0 c).before 26 t d = B m c 26 t :=
  (fetched m c t 26 rfl (fun _ => rfl) (fun _ _ _ => rfl) (fun t => by rw [a26]) d).trans (by unfold Dat.fetched Dat.blockOf B; rw [A_eq]; try rfl)
theorem b27 (d) : (dats m 0 c).before 27 t d = B m c 27 t :=
  (fetched m c t 27 rfl (fun _ => rfl) (fun _ _ _ => rfl) (fun t => by rw [a27]) d).trans (by unfold Dat.fetched Dat.blockOf B; rw [A_eq]; try rfl)
theorem b28 (d) : (dats m 0 c).before 28 t d = B m c 28 t :=
  (fetched m c t 28 rfl (fun _ => rfl) (fun _ _ _ => rfl) (fun t => by rw [a28]) d).trans (by unfold Dat.fetched Dat.blockOf B; rw [A_eq]; try rfl)
theorem b29 (d) : (dats m 0 c).before 29 t d = B m c 29 t :=
  (fetched m c t 29 rfl (fun _ => rfl) (fun _ _ _ => rfl) (fun t => by rw [a29]) d).trans (by unfold Dat.fetched Dat.blockOf B; rw [A_eq]; try rfl)
theorem b30 (d) : (dats m 0 c).before 30 t d = B m c 30 t :=
  (fetched m c t 30 rfl (fun _ => rfl) (fun _ _ _ => rfl) (fun t => by rw [a30]) d).trans (by unfold Dat.fetched Dat.blockOf B; rw [A_eq]; try rfl)
theorem b31 (d) : (dats m 0 c).before 31 t d = B m c 31 t :=
  (fetched m c t 31 rfl (fun _ => rfl) (fun _ _ _ => rfl) (fun t => by rw [a31]) d).trans (by unfold Dat.fetched Dat.blockOf B; rw [A_eq]; try rfl)
theorem b32 (d) : (dats m 0 c).before 32 t d = B m c 32 t :=
  (fetched m c t 32 rfl (fun _ => rfl) (fun _ _ _ => rfl) (fun t => by rw [a32]) d).trans (by unfold Dat.fetched Dat.blockOf B; rw [A_eq]; try rfl)
theorem b33 (d) : (dats m 0 c).before 33 t d = B m c 33 t :=
  (fetched m c t 33 rfl (fun _ => rfl) (fun _ _ _ => rfl) (fun t => by rw [a33]) d).trans (by unfold Dat.fetched Dat.blockOf B; rw [A_eq]; try rfl)
theorem b34 (d) : (dats m 0 c).before 34 t d = B m c 34 t :=
  (fetched m c t 34 rfl (fun _ => rfl) (fun _ _ _ => rfl) (fun t => by rw [a34]) d).trans (by unfold Dat.fetched Dat.blockOf B; rw [A_eq]; try rfl)
theorem b35 (d) : (dats m 0 c).before 35 t d = B m c 35 t :=
  (fetched m c t 35 rfl (fun _ => rfl) (fun _ _ _ => rfl) (fun t => by rw [a35]) d).trans (by unfold Dat.fetched Dat.blockOf B; rw [A_eq]; try rfl)
theorem b36 (d) : (dats m 0 c).before 36 t d = B m c 36 t :=
  (fetched m c t 36 rfl (fun _ => rfl) (fun _ _ _ => rfl) (fun t => by rw [a36]) d).trans (by unfold Dat.fetched Dat.blockOf B; rw [A_eq]; try rfl)
theorem b37 (d) : (dats m 0 c).before 37 t d = B m c 37 t :=
  (fetched m c t 37 rfl (fun _ => rfl) (fun _ _ _ => rfl) (fun t => by rw [a37]) d).trans (by unfold Dat.fetched Dat.blockOf B; rw [A_eq]; try rfl)
theorem b38 (d) : (dats m 0 c).before 38 t d = B m c 38 t :=
  (fetched m c t 38 rfl (fun _ => rfl) (fun _ _ _ => rfl) (fun t => by rw [a38]) d).trans (by unfold Dat.fetched Dat.blockOf B; rw [A_eq]; try rfl)
theorem b39 (d) : (dats m 0 c).before 39 t d = B m c 39 t :=
  (fetched m c t 39 rfl (fun _ => rfl) (fun _ _ _ => rfl) (fun t => by rw [a39]) d).trans (by unfold Dat.fetched Dat.blockOf B; rw [A_eq]; try rfl)

end

/-- What the body starts from, window by window. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗
      (∃ d, owns (c : Thread nD τ) (st0_0 t) fullShare ((dats m 0 c).before 0 t d)) ∗ (∃ d, owns (c : Thread nD τ)
      (st0_1 t) fullShare ((dats m 0 c).before 1 t d)) ∗ (∃ d, owns (c : Thread nD τ) (st0_2 t) fullShare ((dats m 0
      c).before 2 t d)) ∗ (∃ d, owns (c : Thread nD τ) (st0_3 t) fullShare ((dats m 0 c).before 3 t d)) ∗ (∃ d, owns
      (c : Thread nD τ) (st0_4 t) fullShare ((dats m 0 c).before 4 t d)) ∗ (∃ d, owns (c : Thread nD τ) (st0_5 t)
      fullShare ((dats m 0 c).before 5 t d)) ∗ (∃ d, owns (c : Thread nD τ) (st0_6 t) fullShare ((dats m 0 c).before
      6 t d)) ∗ (∃ d, owns (c : Thread nD τ) (st0_7 t) fullShare ((dats m 0 c).before 7 t d)) ∗ (∃ d, owns (c :
      Thread nD τ) (st0_8 t) fullShare ((dats m 0 c).before 8 t d)) ∗ (∃ d, owns (c : Thread nD τ) (st0_9 t)
      fullShare ((dats m 0 c).before 9 t d)) ∗ (∃ d, owns (c : Thread nD τ) (st0_10 t) fullShare ((dats m 0 c).before
      10 t d)) ∗ (∃ d, owns (c : Thread nD τ) (st0_11 t) fullShare ((dats m 0 c).before 11 t d)) ∗ (∃ d, owns (c :
      Thread nD τ) (st0_12 t) fullShare ((dats m 0 c).before 12 t d)) ∗ (∃ d, owns (c : Thread nD τ) (st0_13 t)
      fullShare ((dats m 0 c).before 13 t d)) ∗ (∃ d, owns (c : Thread nD τ) (st0_14 t) fullShare ((dats m 0
      c).before 14 t d)) ∗ (∃ d, owns (c : Thread nD τ) (st0_15 t) fullShare ((dats m 0 c).before 15 t d)) ∗ (∃ d,
      owns (c : Thread nD τ) (st0_16 t) fullShare ((dats m 0 c).before 16 t d)) ∗ (∃ d, owns (c : Thread nD τ)
      (st0_17 t) fullShare ((dats m 0 c).before 17 t d)) ∗ (∃ d, owns (c : Thread nD τ) (st0_18 t) fullShare ((dats m
      0 c).before 18 t d)) ∗ (∃ d, owns (c : Thread nD τ) (st0_19 t) fullShare ((dats m 0 c).before 19 t d)) ∗ (∃ d,
      owns (c : Thread nD τ) (st0_20 t) fullShare ((dats m 0 c).before 20 t d)) ∗ (∃ d, owns (c : Thread nD τ)
      (st0_21 t) fullShare ((dats m 0 c).before 21 t d)) ∗ (∃ d, owns (c : Thread nD τ) (st0_22 t) fullShare ((dats m
      0 c).before 22 t d)) ∗ (∃ d, owns (c : Thread nD τ) (st0_23 t) fullShare ((dats m 0 c).before 23 t d)) ∗ (∃ d,
      owns (c : Thread nD τ) (st0_24 t) fullShare ((dats m 0 c).before 24 t d)) ∗ (∃ d, owns (c : Thread nD τ)
      (st0_25 t) fullShare ((dats m 0 c).before 25 t d)) ∗ (∃ d, owns (c : Thread nD τ) (st0_26 t) fullShare ((dats m
      0 c).before 26 t d)) ∗ (∃ d, owns (c : Thread nD τ) (st0_27 t) fullShare ((dats m 0 c).before 27 t d)) ∗ (∃ d,
      owns (c : Thread nD τ) (st0_28 t) fullShare ((dats m 0 c).before 28 t d)) ∗ (∃ d, owns (c : Thread nD τ)
      (st0_29 t) fullShare ((dats m 0 c).before 29 t d)) ∗ (∃ d, owns (c : Thread nD τ) (st0_30 t) fullShare ((dats m
      0 c).before 30 t d)) ∗ (∃ d, owns (c : Thread nD τ) (st0_31 t) fullShare ((dats m 0 c).before 31 t d)) ∗ (∃ d,
      owns (c : Thread nD τ) (st0_32 t) fullShare ((dats m 0 c).before 32 t d)) ∗ (∃ d, owns (c : Thread nD τ)
      (st0_33 t) fullShare ((dats m 0 c).before 33 t d)) ∗ (∃ d, owns (c : Thread nD τ) (st0_34 t) fullShare ((dats m
      0 c).before 34 t d)) ∗ (∃ d, owns (c : Thread nD τ) (st0_35 t) fullShare ((dats m 0 c).before 35 t d)) ∗ (∃ d,
      owns (c : Thread nD τ) (st0_36 t) fullShare ((dats m 0 c).before 36 t d)) ∗ (∃ d, owns (c : Thread nD τ)
      (st0_37 t) fullShare ((dats m 0 c).before 37 t d)) ∗ (∃ d, owns (c : Thread nD τ) (st0_38 t) fullShare ((dats m
      0 c).before 38 t d)) ∗ (∃ d, owns (c : Thread nD τ) (st0_39 t) fullShare ((dats m 0 c).before 39 t d)) ∗ (∃ d,
      owns (c : Thread nD τ) (st0_40 t) fullShare ((dats m 0 c).before 40 t d)) ∗ (∃ d, owns (c : Thread nD τ)
      (st0_41 t) fullShare ((dats m 0 c).before 41 t d)) ∗ (∃ d, owns (c : Thread nD τ) (st0_42 t) fullShare ((dats m
      0 c).before 42 t d)) ∗ (∃ d, owns (c : Thread nD τ) (st0_43 t) fullShare ((dats m 0 c).before 43 t d)) ∗ (∃ d,
      owns (c : Thread nD τ) (st0_44 t) fullShare ((dats m 0 c).before 44 t d)) ∗ (∃ d, owns (c : Thread nD τ)
      (st0_45 t) fullShare ((dats m 0 c).before 45 t d)) ∗ (∃ d, owns (c : Thread nD τ) (st0_46 t) fullShare ((dats m
      0 c).before 46 t d)) ∗ (∃ d, owns (c : Thread nD τ) (st0_47 t) fullShare ((dats m 0 c).before 47 t d)) ∗ (∃ d,
      owns (c : Thread nD τ) (st0_48 t) fullShare ((dats m 0 c).before 48 t d)) ∗ (∃ d, owns (c : Thread nD τ)
      (st0_49 t) fullShare ((dats m 0 c).before 49 t d)) ∗ (∃ d, owns (c : Thread nD τ) (st0_50 t) fullShare ((dats m
      0 c).before 50 t d)) ∗ (∃ d, owns (c : Thread nD τ) (st0_51 t) fullShare ((dats m 0 c).before 51 t d)) ∗ (∃ d,
      owns (c : Thread nD τ) (st0_52 t) fullShare ((dats m 0 c).before 52 t d)) ∗ (∃ d, owns (c : Thread nD τ)
      (st0_53 t) fullShare ((dats m 0 c).before 53 t d)) ∗ (∃ d, owns (c : Thread nD τ) (st0_54 t) fullShare ((dats m
      0 c).before 54 t d)) ∗ (∃ d, owns (c : Thread nD τ) (st0_55 t) fullShare ((dats m 0 c).before 55 t d)) ∗ (∃ d,
      owns (c : Thread nD τ) (st0_56 t) fullShare ((dats m 0 c).before 56 t d)) ∗ (∃ d, owns (c : Thread nD τ)
      (st0_57 t) fullShare ((dats m 0 c).before 57 t d)) ∗ (∃ d, owns (c : Thread nD τ) (st0_58 t) fullShare ((dats m
      0 c).before 58 t d)) ∗ (∃ d, owns (c : Thread nD τ) (st0_59 t) fullShare ((dats m 0 c).before 59 t d)) ∗ (∃ d,
      owns (c : Thread nD τ) (st0_60 t) fullShare ((dats m 0 c).before 60 t d)) ∗ (∃ d, owns (c : Thread nD τ)
      (st0_61 t) fullShare ((dats m 0 c).before 61 t d)) ∗ (∃ d, owns (c : Thread nD τ) (st0_62 t) fullShare ((dats m
      0 c).before 62 t d)) ∗ (∃ d, owns (c : Thread nD τ) (st0_63 t) fullShare ((dats m 0 c).before 63 t d)) ∗ (∃ d,
      owns (c : Thread nD τ) (st0_64 t) fullShare ((dats m 0 c).before 64 t d)) ∗ (∃ d, owns (c : Thread nD τ)
      (st0_65 t) fullShare ((dats m 0 c).before 65 t d)) ∗ (∃ d, owns (c : Thread nD τ) (st0_66 t) fullShare ((dats m
      0 c).before 66 t d)) ∗ (∃ d, owns (c : Thread nD τ) (st0_67 t) fullShare ((dats m 0 c).before 67 t d)) ∗ (∃ d,
      owns (c : Thread nD τ) (st0_68 t) fullShare ((dats m 0 c).before 68 t d)) ∗ (∃ d, owns (c : Thread nD τ)
      (st0_69 t) fullShare ((dats m 0 c).before 69 t d)))

/-- What the body ends with, window by window. -/
def bodyPost (c : Dev nD) (t : Fin cfg0.N) : sProp (MT nD τ sig Unit (Elt F) ℕ (UR sig nD τ) ℕ) :=
  iprop((dats m 0 c).Φ t.succ ∗ (dats m 0 c).owesAt () t.succ ∗
      owns (c : Thread nD τ) (st0_0 t) fullShare ((dats m 0 c).after 0 t) ∗ owns (c : Thread nD τ) (st0_1 t)
      fullShare ((dats m 0 c).after 1 t) ∗ owns (c : Thread nD τ) (st0_2 t) fullShare ((dats m 0 c).after 2 t) ∗ owns
      (c : Thread nD τ) (st0_3 t) fullShare ((dats m 0 c).after 3 t) ∗ owns (c : Thread nD τ) (st0_4 t) fullShare
      ((dats m 0 c).after 4 t) ∗ owns (c : Thread nD τ) (st0_5 t) fullShare ((dats m 0 c).after 5 t) ∗ owns (c :
      Thread nD τ) (st0_6 t) fullShare ((dats m 0 c).after 6 t) ∗ owns (c : Thread nD τ) (st0_7 t) fullShare ((dats m
      0 c).after 7 t) ∗ owns (c : Thread nD τ) (st0_8 t) fullShare ((dats m 0 c).after 8 t) ∗ owns (c : Thread nD τ)
      (st0_9 t) fullShare ((dats m 0 c).after 9 t) ∗ owns (c : Thread nD τ) (st0_10 t) fullShare ((dats m 0 c).after
      10 t) ∗ owns (c : Thread nD τ) (st0_11 t) fullShare ((dats m 0 c).after 11 t) ∗ owns (c : Thread nD τ) (st0_12
      t) fullShare ((dats m 0 c).after 12 t) ∗ owns (c : Thread nD τ) (st0_13 t) fullShare ((dats m 0 c).after 13 t)
      ∗ owns (c : Thread nD τ) (st0_14 t) fullShare ((dats m 0 c).after 14 t) ∗ owns (c : Thread nD τ) (st0_15 t)
      fullShare ((dats m 0 c).after 15 t) ∗ owns (c : Thread nD τ) (st0_16 t) fullShare ((dats m 0 c).after 16 t) ∗
      owns (c : Thread nD τ) (st0_17 t) fullShare ((dats m 0 c).after 17 t) ∗ owns (c : Thread nD τ) (st0_18 t)
      fullShare ((dats m 0 c).after 18 t) ∗ owns (c : Thread nD τ) (st0_19 t) fullShare ((dats m 0 c).after 19 t) ∗
      owns (c : Thread nD τ) (st0_20 t) fullShare ((dats m 0 c).after 20 t) ∗ owns (c : Thread nD τ) (st0_21 t)
      fullShare ((dats m 0 c).after 21 t) ∗ owns (c : Thread nD τ) (st0_22 t) fullShare ((dats m 0 c).after 22 t) ∗
      owns (c : Thread nD τ) (st0_23 t) fullShare ((dats m 0 c).after 23 t) ∗ owns (c : Thread nD τ) (st0_24 t)
      fullShare ((dats m 0 c).after 24 t) ∗ owns (c : Thread nD τ) (st0_25 t) fullShare ((dats m 0 c).after 25 t) ∗
      owns (c : Thread nD τ) (st0_26 t) fullShare ((dats m 0 c).after 26 t) ∗ owns (c : Thread nD τ) (st0_27 t)
      fullShare ((dats m 0 c).after 27 t) ∗ owns (c : Thread nD τ) (st0_28 t) fullShare ((dats m 0 c).after 28 t) ∗
      owns (c : Thread nD τ) (st0_29 t) fullShare ((dats m 0 c).after 29 t) ∗ owns (c : Thread nD τ) (st0_30 t)
      fullShare ((dats m 0 c).after 30 t) ∗ owns (c : Thread nD τ) (st0_31 t) fullShare ((dats m 0 c).after 31 t) ∗
      owns (c : Thread nD τ) (st0_32 t) fullShare ((dats m 0 c).after 32 t) ∗ owns (c : Thread nD τ) (st0_33 t)
      fullShare ((dats m 0 c).after 33 t) ∗ owns (c : Thread nD τ) (st0_34 t) fullShare ((dats m 0 c).after 34 t) ∗
      owns (c : Thread nD τ) (st0_35 t) fullShare ((dats m 0 c).after 35 t) ∗ owns (c : Thread nD τ) (st0_36 t)
      fullShare ((dats m 0 c).after 36 t) ∗ owns (c : Thread nD τ) (st0_37 t) fullShare ((dats m 0 c).after 37 t) ∗
      owns (c : Thread nD τ) (st0_38 t) fullShare ((dats m 0 c).after 38 t) ∗ owns (c : Thread nD τ) (st0_39 t)
      fullShare ((dats m 0 c).after 39 t) ∗ owns (c : Thread nD τ) (st0_40 t) fullShare ((dats m 0 c).after 40 t) ∗
      owns (c : Thread nD τ) (st0_41 t) fullShare ((dats m 0 c).after 41 t) ∗ owns (c : Thread nD τ) (st0_42 t)
      fullShare ((dats m 0 c).after 42 t) ∗ owns (c : Thread nD τ) (st0_43 t) fullShare ((dats m 0 c).after 43 t) ∗
      owns (c : Thread nD τ) (st0_44 t) fullShare ((dats m 0 c).after 44 t) ∗ owns (c : Thread nD τ) (st0_45 t)
      fullShare ((dats m 0 c).after 45 t) ∗ owns (c : Thread nD τ) (st0_46 t) fullShare ((dats m 0 c).after 46 t) ∗
      owns (c : Thread nD τ) (st0_47 t) fullShare ((dats m 0 c).after 47 t) ∗ owns (c : Thread nD τ) (st0_48 t)
      fullShare ((dats m 0 c).after 48 t) ∗ owns (c : Thread nD τ) (st0_49 t) fullShare ((dats m 0 c).after 49 t) ∗
      owns (c : Thread nD τ) (st0_50 t) fullShare ((dats m 0 c).after 50 t) ∗ owns (c : Thread nD τ) (st0_51 t)
      fullShare ((dats m 0 c).after 51 t) ∗ owns (c : Thread nD τ) (st0_52 t) fullShare ((dats m 0 c).after 52 t) ∗
      owns (c : Thread nD τ) (st0_53 t) fullShare ((dats m 0 c).after 53 t) ∗ owns (c : Thread nD τ) (st0_54 t)
      fullShare ((dats m 0 c).after 54 t) ∗ owns (c : Thread nD τ) (st0_55 t) fullShare ((dats m 0 c).after 55 t) ∗
      owns (c : Thread nD τ) (st0_56 t) fullShare ((dats m 0 c).after 56 t) ∗ owns (c : Thread nD τ) (st0_57 t)
      fullShare ((dats m 0 c).after 57 t) ∗ owns (c : Thread nD τ) (st0_58 t) fullShare ((dats m 0 c).after 58 t) ∗
      owns (c : Thread nD τ) (st0_59 t) fullShare ((dats m 0 c).after 59 t) ∗ owns (c : Thread nD τ) (st0_60 t)
      fullShare ((dats m 0 c).after 60 t) ∗ owns (c : Thread nD τ) (st0_61 t) fullShare ((dats m 0 c).after 61 t) ∗
      owns (c : Thread nD τ) (st0_62 t) fullShare ((dats m 0 c).after 62 t) ∗ owns (c : Thread nD τ) (st0_63 t)
      fullShare ((dats m 0 c).after 63 t) ∗ owns (c : Thread nD τ) (st0_64 t) fullShare ((dats m 0 c).after 64 t) ∗
      owns (c : Thread nD τ) (st0_65 t) fullShare ((dats m 0 c).after 65 t) ∗ owns (c : Thread nD τ) (st0_66 t)
      fullShare ((dats m 0 c).after 66 t) ∗ owns (c : Thread nD τ) (st0_67 t) fullShare ((dats m 0 c).after 67 t) ∗
      owns (c : Thread nD τ) (st0_68 t) fullShare ((dats m 0 c).after 68 t) ∗ owns (c : Thread nD τ) (st0_69 t)
      fullShare ((dats m 0 c).after 69 t))

set_option maxHeartbeats 0 in
/-- The body at the one point of the region. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [b0, b1, b2, b3, b4, b5, b6, b7, b8, b9, b10, b11, b12, b13, b14, b15, b16, b17, b18, b19, b20, b21, b22, b23, b24, b25, b26, b27, b28, b29, b30, b31, b32, b33, b34, b35, b36, b37, b38, b39]
  rw [show (dats m 0 c).Φ t.succ = (dats m 0 c).Φ t.castSucc from rfl,
    show (dats m 0 c).owesAt () t.succ = (dats m 0 c).owesAt () t.castSucc from rfl]
  simp only [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩⟩
  iapply (body_run c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (B m c 0 t) (B m c 1 t) (B m c 2 t) (B m c 3 t) (B m c 4 t) (B m c 5 t) (B m c 6 t) (B m c 7 t) (B m c 8 t) (B m
    c 9 t) (B m c 10 t) (B m c 11 t) (B m c 12 t) (B m c 13 t) (B m c 14 t) (B m c 15 t) (B m c 16 t) (B m c 17 t) (B
    m c 18 t) (B m c 19 t) (B m c 20 t) (B m c 21 t) (B m c 22 t) (B m c 23 t) (B m c 24 t) (B m c 25 t) (B m c 26 t)
    (B m c 27 t) (B m c 28 t) (B m c 29 t) (B m c 30 t) (B m c 31 t) (B m c 32 t) (B m c 33 t) (B m c 34 t) (B m c 35
    t) (B m c 36 t) (B m c 37 t) (B m c 38 t) (B m c 39 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  iexact H69

set_option maxHeartbeats 0 in
/-- The body obligation of the region. -/
theorem obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
set_option maxHeartbeats 0 in
/-- The run ends with every array of the region at what the proof data computes, and every counter at zero. -/
theorem run_all : θ_run defs (onTc (τ := τ) (main (F := F))) (s₀ m ρ)
    (fun r => (Pipeline.FramePost cfgs (dats m) 0 (A m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := A m)
    (hmain := Pipeline.hmain_region cfgs 0 defs₀ Variants.none m main fun c => (main_chain c).trans rfl)
    (hA := A_eq m) (hΦ := fun _ _ => rfl)

/-- An argument's array ends as launched. -/
theorem kept (r : PUnit × MemSt nD τ sig (Elt F)) (h : Pipeline.FramePost cfgs (dats m) 0 (A m) r) (c : Dev nD)
    (w : Fin cfg0.W) (h0 : (cfg0.win w).isOut = false) :
    r.2.mem ((cfg0.win w).arr.view.loc (c.tc : Thread nD τ)) = A m c (Pipeline.arrRef spec0 w) :=
  ((h c).1 w).trans (((dats m 0 c).arrAt_in w h0 _).trans (A_eq m c w))

set_option maxHeartbeats 0 in
/-- Every run ends, with the forty argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) ∧ r.2.sem = fun _ => 0) :=
  (θ_run defs _ _).mono (fun r h => ⟨fun c => ⟨
    kept m r h.1 c 0 rfl, kept m r h.1 c 1 rfl, kept m r h.1 c 2 rfl, kept m r h.1 c 3 rfl, kept m r h.1 c 4 rfl,
    kept m r h.1 c 5 rfl, kept m r h.1 c 6 rfl, kept m r h.1 c 7 rfl, kept m r h.1 c 8 rfl, kept m r h.1 c 9 rfl,
    kept m r h.1 c 10 rfl, kept m r h.1 c 11 rfl, kept m r h.1 c 12 rfl, kept m r h.1 c 13 rfl, kept m r h.1 c 14
    rfl, kept m r h.1 c 15 rfl, kept m r h.1 c 16 rfl, kept m r h.1 c 17 rfl, kept m r h.1 c 18 rfl, kept m r h.1 c
    19 rfl, kept m r h.1 c 20 rfl, kept m r h.1 c 21 rfl, kept m r h.1 c 22 rfl, kept m r h.1 c 23 rfl, kept m r h.1
    c 24 rfl, kept m r h.1 c 25 rfl, kept m r h.1 c 26 rfl, kept m r h.1 c 27 rfl, kept m r h.1 c 28 rfl, kept m r
    h.1 c 29 rfl, kept m r h.1 c 30 rfl, kept m r h.1 c 31 rfl, kept m r h.1 c 32 rfl, kept m r h.1 c 33 rfl, kept m
    r h.1 c 34 rfl, kept m r h.1 c 35 rfl, kept m r h.1 c 36 rfl, kept m r h.1 c 37 rfl, kept m r h.1 c 38 rfl, kept
    m r h.1 c 39 rfl⟩, h.2⟩) (run_all m ρ)

end Cert.SmallIdeal

end
-- ==== Proof.SmallBits.lean ====
/- The optimiser's call on the ten small parameters as the kernel has it: the program read on the reals is the same program,
   so its run ends in the same way. -/
module

public import proofs.«01_k».proof.Defs
public import proofs.«01_k».proof.Proof.Gen.Kernel21
public import proofs.«01_k».proof.Proof.SmallIdeal

@[expose] public section

set_option maxRecDepth 100000
set_option maxHeartbeats 4000000

noncomputable section

namespace Cert.SmallBits

open Idealize.ShloMosaic

variable {F : FTy → Type} [FloatOps F]

attribute [local instance] Cert.Kernel21.Gen.facts Cert.Kernel21Ideal.Gen.facts

/-- The two programs' functions are the same. -/
theorem funs_eq : Cert.Kernel21.defs₀ (F := F) = Cert.Kernel21Ideal.defs₀ (F := F) := by
  funext p l a
  rcases p with _ | _ | _
  · rcases l with ⟨_ | n, h⟩
    · rcases a with ⟨t, s⟩
      unfold Cert.Kernel21.defs₀ Cert.Kernel21Ideal.defs₀
      rfl
    · exact absurd h (Nat.not_lt_of_ge (Nat.le_add_left _ _))
  · rfl
  · rfl

/-- The two programs' functions and launches are the same. -/
theorem defs_eq : Cert.Kernel21.defs (F := F) = Cert.Kernel21Ideal.defs (F := F) := by
  unfold Cert.Kernel21.defs Cert.Kernel21Ideal.defs
  exact congrArg (Pipeline.defs Cert.Kernel21Ideal.pcfgs) funs_eq

/-- Every run of the kernel ends, with the forty argument arrays unchanged and every semaphore counter at zero. -/
theorem frame : @Cert.quiescent_Kernel21 Cert.Kernel21.Gen.facts := by
  intro m ρ _
  rw [defs_eq]
  exact Cert.SmallIdeal.frame m ρ

end Cert.SmallBits

end
-- ==== Proof.Small.lean ====
/- The optimiser's call on the ten small parameters: what its thirty result arrays hold after a run, and that the
   reference's run leaves the same thirty arrays. -/
module

public import proofs.«01_k».proof.Defs
public import proofs.«01_k».proof.Proof.SmallMath
public import proofs.«01_k».proof.Proof.SmallIdeal
public import proofs.«01_k».proof.Proof.Gen.Reference21Ideal
public import proofs.«01_k».proof.Proof.Gen.Reference21Ideal.Run
public import proofs.«01_k».proof.Proof.Gen.Reference21Ideal.Read

@[expose] public section

set_option maxRecDepth 16384
set_option maxHeartbeats 4000000

noncomputable section

namespace Cert.Small

open Cert.Kernel21Ideal Cert.Kernel21Ideal.Gen Cert.SmallMath Cert.SmallIdeal
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An index in the block numbered zero is the index itself. -/
theorem at_zero {i n k : Nat} (h : i = 0) : i * n + 1 * k = k := by rw [h]; omega

/-- Every window's block is numbered zero on every axis. -/
theorem idx : ∀ (w : Fin cfg0.W) (t : Fin cfg0.N) a, (cfg0.win w).index t a = 0 := by decide +kernel

section
variable (c : Dev nD) (t : Fin cfg0.N)

/-! Every window's block is its whole array: for each window, an index of the block is that index of the array. -/

theorem e0 (j : S1x2048.Idx) : ((cfg0.win 0).blk t).view.emb j = j :=
  funext fun a => Fin.ext (at_zero (n := S1x2048.size a) (k := (j a).val) (idx 0 t a))
theorem e1 (j : S1x768.Idx) : ((cfg0.win 1).blk t).view.emb j = j :=
  funext fun a => Fin.ext (at_zero (n := S1x768.size a) (k := (j a).val) (idx 1 t a))
theorem e2 (j : S1x768.Idx) : ((cfg0.win 2).blk t).view.emb j = j :=
  funext fun a => Fin.ext (at_zero (n := S1x768.size a) (k := (j a).val) (idx 2 t a))
theorem e3 (j : S6x128x128.Idx) : ((cfg0.win 3).blk t).view.emb j = j :=
  funext fun a => Fin.ext (at_zero (n := S6x128x128.size a) (k := (j a).val) (idx 3 t a))
theorem e4 (j : S6x128.Idx) : ((cfg0.win 4).blk t).view.emb j = j :=
  funext fun a => Fin.ext (at_zero (n := S6x128.size a) (k := (j a).val) (idx 4 t a))
theorem e5 (j : S3x192.Idx) : ((cfg0.win 5).blk t).view.emb j = j :=
  funext fun a => Fin.ext (at_zero (n := S3x192.size a) (k := (j a).val) (idx 5 t a))
theorem e6 (j : S1x2048.Idx) : ((cfg0.win 6).blk t).view.emb j = j :=
  funext fun a => Fin.ext (at_zero (n := S1x2048.size a) (k := (j a).val) (idx 6 t a))
theorem e7 (j : S1x2048.Idx) : ((cfg0.win 7).blk t).view.emb j = j :=
  funext fun a => Fin.ext (at_zero (n := S1x2048.size a) (k := (j a).val) (idx 7 t a))
theorem e8 (j : S1x2048.Idx) : ((cfg0.win 8).blk t).view.emb j = j :=
  funext fun a => Fin.ext (at_zero (n := S1x2048.size a) (k := (j a).val) (idx 8 t a))
theorem e9 (j : S1x2048.Idx) : ((cfg0.win 9).blk t).view.emb j = j :=
  funext fun a => Fin.ext (at_zero (n := S1x2048.size a) (k := (j a).val) (idx 9 t a))
theorem e10 (j : S1x2048.Idx) : ((cfg0.win 10).blk t).view.emb j = j :=
  funext fun a => Fin.ext (at_zero (n := S1x2048.size a) (k := (j a).val) (idx 10 t a))
theorem e11 (j : S1x768.Idx) : ((cfg0.win 11).blk t).view.emb j = j :=
  funext fun a => Fin.ext (at_zero (n := S1x768.size a) (k := (j a).val) (idx 11 t a))
theorem e12 (j : S1x768.Idx) : ((cfg0.win 12).blk t).view.emb j = j :=
  funext fun a => Fin.ext (at_zero (n := S1x768.size a) (k := (j a).val) (idx 12 t a))
theorem e13 (j : S6x128x128.Idx) : ((cfg0.win 13).blk t).view.emb j = j :=
  funext fun a => Fin.ext (at_zero (n := S6x128x128.size a) (k := (j a).val) (idx 13 t a))
theorem e14 (j : S6x128.Idx) : ((cfg0.win 14).blk t).view.emb j = j :=
  funext fun a => Fin.ext (at_zero (n := S6x128.size a) (k := (j a).val) (idx 14 t a))
theorem e15 (j : S3x192.Idx) : ((cfg0.win 15).blk t).view.emb j = j :=
  funext fun a => Fin.ext (at_zero (n := S3x192.size a) (k := (j a).val) (idx 15 t a))
theorem e16 (j : S1x2048.Idx) : ((cfg0.win 16).blk t).view.emb j = j :=
  funext fun a => Fin.ext (at_zero (n := S1x2048.size a) (k := (j a).val) (idx 16 t a))
theorem e17 (j : S1x2048.Idx) : ((cfg0.win 17).blk t).view.emb j = j :=
  funext fun a => Fin.ext (at_zero (n := S1x2048.size a) (k := (j a).val) (idx 17 t a))
theorem e18 (j : S1x2048.Idx) : ((cfg0.win 18).blk t).view.emb j = j :=
  funext fun a => Fin.ext (at_zero (n := S1x2048.size a) (k := (j a).val) (idx 18 t a))
theorem e19 (j : S1x2048.Idx) : ((cfg0.win 19).blk t).view.emb j = j :=
  funext fun a => Fin.ext (at_zero (n := S1x2048.size a) (k := (j a).val) (idx 19 t a))
theorem e20 (j : S1x2048.Idx) : ((cfg0.win 20).blk t).view.emb j = j :=
  funext fun a => Fin.ext (at_zero (n := S1x2048.size a) (k := (j a).val) (idx 20 t a))
theorem e21 (j : S1x768.Idx) : ((cfg0.win 21).blk t).view.emb j = j :=
  funext fun a => Fin.ext (at_zero (n := S1x768.size a) (k := (j a).val) (idx 21 t a))
theorem e22 (j : S1x768.Idx) : ((cfg0.win 22).blk t).view.emb j = j :=
  funext fun a => Fin.ext (at_zero (n := S1x768.size a) (k := (j a).val) (idx 22 t a))
theorem e23 (j : S6x128x128.Idx) : ((cfg0.win 23).blk t).view.emb j = j :=
  funext fun a => Fin.ext (at_zero (n := S6x128x128.size a) (k := (j a).val) (idx 23 t a))
theorem e24 (j : S6x128.Idx) : ((cfg0.win 24).blk t).view.emb j = j :=
  funext fun a => Fin.ext (at_zero (n := S6x128.size a) (k := (j a).val) (idx 24 t a))
theorem e25 (j : S3x192.Idx) : ((cfg0.win 25).blk t).view.emb j = j :=
  funext fun a => Fin.ext (at_zero (n := S3x192.size a) (k := (j a).val) (idx 25 t a))
theorem e26 (j : S1x2048.Idx) : ((cfg0.win 26).blk t).view.emb j = j :=
  funext fun a => Fin.ext (at_zero (n := S1x2048.size a) (k := (j a).val) (idx 26 t a))
theorem e27 (j : S1x2048.Idx) : ((cfg0.win 27).blk t).view.emb j = j :=
  funext fun a => Fin.ext (at_zero (n := S1x2048.size a) (k := (j a).val) (idx 27 t a))
theorem e28 (j : S1x2048.Idx) : ((cfg0.win 28).blk t).view.emb j = j :=
  funext fun a => Fin.ext (at_zero (n := S1x2048.size a) (k := (j a).val) (idx 28 t a))
theorem e29 (j : S1x2048.Idx) : ((cfg0.win 29).blk t).view.emb j = j :=
  funext fun a => Fin.ext (at_zero (n := S1x2048.size a) (k := (j a).val) (idx 29 t a))
theorem e30 (j : S1x2048.Idx) : ((cfg0.win 30).blk t).view.emb j = j :=
  funext fun a => Fin.ext (at_zero (n := S1x2048.size a) (k := (j a).val) (idx 30 t a))
theorem e31 (j : S1x768.Idx) : ((cfg0.win 31).blk t).view.emb j = j :=
  funext fun a => Fin.ext (at_zero (n := S1x768.size a) (k := (j a).val) (idx 31 t a))
theorem e32 (j : S1x768.Idx) : ((cfg0.win 32).blk t).view.emb j = j :=
  funext fun a => Fin.ext (at_zero (n := S1x768.size a) (k := (j a).val) (idx 32 t a))
theorem e33 (j : S6x128x128.Idx) : ((cfg0.win 33).blk t).view.emb j = j :=
  funext fun a => Fin.ext (at_zero (n := S6x128x128.size a) (k := (j a).val) (idx 33 t a))
theorem e34 (j : S6x128.Idx) : ((cfg0.win 34).blk t).view.emb j = j :=
  funext fun a => Fin.ext (at_zero (n := S6x128.size a) (k := (j a).val) (idx 34 t a))
theorem e35 (j : S3x192.Idx) : ((cfg0.win 35).blk t).view.emb j = j :=
  funext fun a => Fin.ext (at_zero (n := S3x192.size a) (k := (j a).val) (idx 35 t a))
theorem e36 (j : S1x2048.Idx) : ((cfg0.win 36).blk t).view.emb j = j :=
  funext fun a => Fin.ext (at_zero (n := S1x2048.size a) (k := (j a).val) (idx 36 t a))
theorem e37 (j : S1x2048.Idx) : ((cfg0.win 37).blk t).view.emb j = j :=
  funext fun a => Fin.ext (at_zero (n := S1x2048.size a) (k := (j a).val) (idx 37 t a))
theorem e38 (j : S1x2048.Idx) : ((cfg0.win 38).blk t).view.emb j = j :=
  funext fun a => Fin.ext (at_zero (n := S1x2048.size a) (k := (j a).val) (idx 38 t a))
theorem e39 (j : S1x2048.Idx) : ((cfg0.win 39).blk t).view.emb j = j :=
  funext fun a => Fin.ext (at_zero (n := S1x2048.size a) (k := (j a).val) (idx 39 t a))
theorem e40 (j : S1x2048.Idx) : ((cfg0.win 40).blk t).view.emb j = j :=
  funext fun a => Fin.ext (at_zero (n := S1x2048.size a) (k := (j a).val) (idx 40 t a))
theorem e41 (j : S1x768.Idx) : ((cfg0.win 41).blk t).view.emb j = j :=
  funext fun a => Fin.ext (at_zero (n := S1x768.size a) (k := (j a).val) (idx 41 t a))
theorem e42 (j : S1x768.Idx) : ((cfg0.win 42).blk t).view.emb j = j :=
  funext fun a => Fin.ext (at_zero (n := S1x768.size a) (k := (j a).val) (idx 42 t a))
theorem e43 (j : S6x128x128.Idx) : ((cfg0.win 43).blk t).view.emb j = j :=
  funext fun a => Fin.ext (at_zero (n := S6x128x128.size a) (k := (j a).val) (idx 43 t a))
theorem e44 (j : S6x128.Idx) : ((cfg0.win 44).blk t).view.emb j = j :=
  funext fun a => Fin.ext (at_zero (n := S6x128.size a) (k := (j a).val) (idx 44 t a))
theorem e45 (j : S3x192.Idx) : ((cfg0.win 45).blk t).view.emb j = j :=
  funext fun a => Fin.ext (at_zero (n := S3x192.size a) (k := (j a).val) (idx 45 t a))
theorem e46 (j : S1x2048.Idx) : ((cfg0.win 46).blk t).view.emb j = j :=
  funext fun a => Fin.ext (at_zero (n := S1x2048.size a) (k := (j a).val) (idx 46 t a))
theorem e47 (j : S1x2048.Idx) : ((cfg0.win 47).blk t).view.emb j = j :=
  funext fun a => Fin.ext (at_zero (n := S1x2048.size a) (k := (j a).val) (idx 47 t a))
theorem e48 (j : S1x2048.Idx) : ((cfg0.win 48).blk t).view.emb j = j :=
  funext fun a => Fin.ext (at_zero (n := S1x2048.size a) (k := (j a).val) (idx 48 t a))
theorem e49 (j : S1x2048.Idx) : ((cfg0.win 49).blk t).view.emb j = j :=
  funext fun a => Fin.ext (at_zero (n := S1x2048.size a) (k := (j a).val) (idx 49 t a))
theorem e50 (j : S1x2048.Idx) : ((cfg0.win 50).blk t).view.emb j = j :=
  funext fun a => Fin.ext (at_zero (n := S1x2048.size a) (k := (j a).val) (idx 50 t a))
theorem e51 (j : S1x768.Idx) : ((cfg0.win 51).blk t).view.emb j = j :=
  funext fun a => Fin.ext (at_zero (n := S1x768.size a) (k := (j a).val) (idx 51 t a))
theorem e52 (j : S1x768.Idx) : ((cfg0.win 52).blk t).view.emb j = j :=
  funext fun a => Fin.ext (at_zero (n := S1x768.size a) (k := (j a).val) (idx 52 t a))
theorem e53 (j : S6x128x128.Idx) : ((cfg0.win 53).blk t).view.emb j = j :=
  funext fun a => Fin.ext (at_zero (n := S6x128x128.size a) (k := (j a).val) (idx 53 t a))
theorem e54 (j : S6x128.Idx) : ((cfg0.win 54).blk t).view.emb j = j :=
  funext fun a => Fin.ext (at_zero (n := S6x128.size a) (k := (j a).val) (idx 54 t a))
theorem e55 (j : S3x192.Idx) : ((cfg0.win 55).blk t).view.emb j = j :=
  funext fun a => Fin.ext (at_zero (n := S3x192.size a) (k := (j a).val) (idx 55 t a))
theorem e56 (j : S1x2048.Idx) : ((cfg0.win 56).blk t).view.emb j = j :=
  funext fun a => Fin.ext (at_zero (n := S1x2048.size a) (k := (j a).val) (idx 56 t a))
theorem e57 (j : S1x2048.Idx) : ((cfg0.win 57).blk t).view.emb j = j :=
  funext fun a => Fin.ext (at_zero (n := S1x2048.size a) (k := (j a).val) (idx 57 t a))
theorem e58 (j : S1x2048.Idx) : ((cfg0.win 58).blk t).view.emb j = j :=
  funext fun a => Fin.ext (at_zero (n := S1x2048.size a) (k := (j a).val) (idx 58 t a))
theorem e59 (j : S1x2048.Idx) : ((cfg0.win 59).blk t).view.emb j = j :=
  funext fun a => Fin.ext (at_zero (n := S1x2048.size a) (k := (j a).val) (idx 59 t a))
theorem e60 (j : S1x2048.Idx) : ((cfg0.win 60).blk t).view.emb j = j :=
  funext fun a => Fin.ext (at_zero (n := S1x2048.size a) (k := (j a).val) (idx 60 t a))
theorem e61 (j : S1x768.Idx) : ((cfg0.win 61).blk t).view.emb j = j :=
  funext fun a => Fin.ext (at_zero (n := S1x768.size a) (k := (j a).val) (idx 61 t a))
theorem e62 (j : S1x768.Idx) : ((cfg0.win 62).blk t).view.emb j = j :=
  funext fun a => Fin.ext (at_zero (n := S1x768.size a) (k := (j a).val) (idx 62 t a))
theorem e63 (j : S6x128x128.Idx) : ((cfg0.win 63).blk t).view.emb j = j :=
  funext fun a => Fin.ext (at_zero (n := S6x128x128.size a) (k := (j a).val) (idx 63 t a))
theorem e64 (j : S6x128.Idx) : ((cfg0.win 64).blk t).view.emb j = j :=
  funext fun a => Fin.ext (at_zero (n := S6x128.size a) (k := (j a).val) (idx 64 t a))
theorem e65 (j : S3x192.Idx) : ((cfg0.win 65).blk t).view.emb j = j :=
  funext fun a => Fin.ext (at_zero (n := S3x192.size a) (k := (j a).val) (idx 65 t a))
theorem e66 (j : S1x2048.Idx) : ((cfg0.win 66).blk t).view.emb j = j :=
  funext fun a => Fin.ext (at_zero (n := S1x2048.size a) (k := (j a).val) (idx 66 t a))
theorem e67 (j : S1x2048.Idx) : ((cfg0.win 67).blk t).view.emb j = j :=
  funext fun a => Fin.ext (at_zero (n := S1x2048.size a) (k := (j a).val) (idx 67 t a))
theorem e68 (j : S1x2048.Idx) : ((cfg0.win 68).blk t).view.emb j = j :=
  funext fun a => Fin.ext (at_zero (n := S1x2048.size a) (k := (j a).val) (idx 68 t a))
theorem e69 (j : S1x2048.Idx) : ((cfg0.win 69).blk t).view.emb j = j :=
  funext fun a => Fin.ext (at_zero (n := S1x2048.size a) (k := (j a).val) (idx 69 t a))

/-! The block of an argument's window is the argument's array as launched. -/

theorem B0 : B m c 0 t = A m c main_arg0 := funext fun j => congrArg (A m c main_arg0) (e0 t j)
theorem B1 : B m c 1 t = A m c main_arg1 := funext fun j => congrArg (A m c main_arg1) (e1 t j)
theorem B2 : B m c 2 t = A m c main_arg2 := funext fun j => congrArg (A m c main_arg2) (e2 t j)
theorem B3 : B m c 3 t = A m c main_arg3 := funext fun j => congrArg (A m c main_arg3) (e3 t j)
theorem B4 : B m c 4 t = A m c main_arg4 := funext fun j => congrArg (A m c main_arg4) (e4 t j)
theorem B5 : B m c 5 t = A m c main_arg5 := funext fun j => congrArg (A m c main_arg5) (e5 t j)
theorem B6 : B m c 6 t = A m c main_arg6 := funext fun j => congrArg (A m c main_arg6) (e6 t j)
theorem B7 : B m c 7 t = A m c main_arg7 := funext fun j => congrArg (A m c main_arg7) (e7 t j)
theorem B8 : B m c 8 t = A m c main_arg8 := funext fun j => congrArg (A m c main_arg8) (e8 t j)
theorem B9 : B m c 9 t = A m c main_arg9 := funext fun j => congrArg (A m c main_arg9) (e9 t j)
theorem B10 : B m c 10 t = A m c main_arg10 := funext fun j => congrArg (A m c main_arg10) (e10 t j)
theorem B11 : B m c 11 t = A m c main_arg11 := funext fun j => congrArg (A m c main_arg11) (e11 t j)
theorem B12 : B m c 12 t = A m c main_arg12 := funext fun j => congrArg (A m c main_arg12) (e12 t j)
theorem B13 : B m c 13 t = A m c main_arg13 := funext fun j => congrArg (A m c main_arg13) (e13 t j)
theorem B14 : B m c 14 t = A m c main_arg14 := funext fun j => congrArg (A m c main_arg14) (e14 t j)
theorem B15 : B m c 15 t = A m c main_arg15 := funext fun j => congrArg (A m c main_arg15) (e15 t j)
theorem B16 : B m c 16 t = A m c main_arg16 := funext fun j => congrArg (A m c main_arg16) (e16 t j)
theorem B17 : B m c 17 t = A m c main_arg17 := funext fun j => congrArg (A m c main_arg17) (e17 t j)
theorem B18 : B m c 18 t = A m c main_arg18 := funext fun j => congrArg (A m c main_arg18) (e18 t j)
theorem B19 : B m c 19 t = A m c main_arg19 := funext fun j => congrArg (A m c main_arg19) (e19 t j)
theorem B20 : B m c 20 t = A m c main_arg20 := funext fun j => congrArg (A m c main_arg20) (e20 t j)
theorem B21 : B m c 21 t = A m c main_arg21 := funext fun j => congrArg (A m c main_arg21) (e21 t j)
theorem B22 : B m c 22 t = A m c main_arg22 := funext fun j => congrArg (A m c main_arg22) (e22 t j)
theorem B23 : B m c 23 t = A m c main_arg23 := funext fun j => congrArg (A m c main_arg23) (e23 t j)
theorem B24 : B m c 24 t = A m c main_arg24 := funext fun j => congrArg (A m c main_arg24) (e24 t j)
theorem B25 : B m c 25 t = A m c main_arg25 := funext fun j => congrArg (A m c main_arg25) (e25 t j)
theorem B26 : B m c 26 t = A m c main_arg26 := funext fun j => congrArg (A m c main_arg26) (e26 t j)
theorem B27 : B m c 27 t = A m c main_arg27 := funext fun j => congrArg (A m c main_arg27) (e27 t j)
theorem B28 : B m c 28 t = A m c main_arg28 := funext fun j => congrArg (A m c main_arg28) (e28 t j)
theorem B29 : B m c 29 t = A m c main_arg29 := funext fun j => congrArg (A m c main_arg29) (e29 t j)
theorem B30 : B m c 30 t = A m c main_arg30 := funext fun j => congrArg (A m c main_arg30) (e30 t j)
theorem B31 : B m c 31 t = A m c main_arg31 := funext fun j => congrArg (A m c main_arg31) (e31 t j)
theorem B32 : B m c 32 t = A m c main_arg32 := funext fun j => congrArg (A m c main_arg32) (e32 t j)
theorem B33 : B m c 33 t = A m c main_arg33 := funext fun j => congrArg (A m c main_arg33) (e33 t j)
theorem B34 : B m c 34 t = A m c main_arg34 := funext fun j => congrArg (A m c main_arg34) (e34 t j)
theorem B35 : B m c 35 t = A m c main_arg35 := funext fun j => congrArg (A m c main_arg35) (e35 t j)
theorem B36 : B m c 36 t = A m c main_arg36 := funext fun j => congrArg (A m c main_arg36) (e36 t j)
theorem B37 : B m c 37 t = A m c main_arg37 := funext fun j => congrArg (A m c main_arg37) (e37 t j)
theorem B38 : B m c 38 t = A m c main_arg38 := funext fun j => congrArg (A m c main_arg38) (e38 t j)
theorem B39 : B m c 39 t = A m c main_arg39 := funext fun j => congrArg (A m c main_arg39) (e39 t j)

/-- An array whose one block, the whole of it, is written from `G` ends at `G`. -/
theorem whole (w : Fin cfg0.W) (G : Buf (Elt F) ((cfg0.win w).arr.view.loc (c.tc : Thread nD τ)))
    (hG : ∀ t, (cfg0.win w).cut (grid0.coords t) ((dats m 0 c).after w t) = ((cfg0.win w).blk t).view.read (Elt F) G)
    (hf : ∀ t, (cfg0.win w).flush t = true)
    (he : ∀ i, ∃ j, ((cfg0.win w).blk (⟨0, by decide⟩ : Fin cfg0.N)).view.emb j = i) : (dats m 0 c).arrAt w cfg0.N = G :=
  (dats m 0 c).arrAt_eq_of_cover w G (fun t _ => hG t) fun i => ⟨⟨0, by decide⟩, hf _, by
    obtain ⟨j, rfl⟩ := he i; exact View.emb_mem_set _ j⟩

/-! What each result's array ends holding. -/

theorem cut40 (X : Vec F S1x2048 .f32) : (cfg0.win 40).cut (grid0.coords t) X = ((cfg0.win 40).blk t).view.read (Elt F) X := by
  funext j; show X j = X (((cfg0.win 40).blk t).view.emb j); rw [e40]
theorem after40 : (dats m 0 c).after 40 t = step (s := S1x2048) (A m c main_arg0) (A m c main_arg10) (A m c main_arg20) (A m c main_arg30) := by rw [a40, B0, B10, B20, B30]
theorem final40 : (dats m 0 c).arrAt 40 cfg0.N = step (s := S1x2048) (A m c main_arg0) (A m c main_arg10) (A m c main_arg20) (A m c main_arg30) :=
  whole m c 40 _ (fun t => (congrArg ((cfg0.win 40).cut (grid0.coords t)) (after40 m c t)).trans (cut40 t _)) flush0_40
    fun i => ⟨i, e40 _ i⟩
theorem cut41 (X : Vec F S1x768 .f32) : (cfg0.win 41).cut (grid0.coords t) X = ((cfg0.win 41).blk t).view.read (Elt F) X := by
  funext j; show X j = X (((cfg0.win 41).blk t).view.emb j); rw [e41]
theorem after41 : (dats m 0 c).after 41 t = step (s := S1x768) (A m c main_arg1) (A m c main_arg11) (A m c main_arg21) (A m c main_arg31) := by rw [a41, B1, B11, B21, B31]
theorem final41 : (dats m 0 c).arrAt 41 cfg0.N = step (s := S1x768) (A m c main_arg1) (A m c main_arg11) (A m c main_arg21) (A m c main_arg31) :=
  whole m c 41 _ (fun t => (congrArg ((cfg0.win 41).cut (grid0.coords t)) (after41 m c t)).trans (cut41 t _)) flush0_41
    fun i => ⟨i, e41 _ i⟩
theorem cut42 (X : Vec F S1x768 .f32) : (cfg0.win 42).cut (grid0.coords t) X = ((cfg0.win 42).blk t).view.read (Elt F) X := by
  funext j; show X j = X (((cfg0.win 42).blk t).view.emb j); rw [e42]
theorem after42 : (dats m 0 c).after 42 t = step (s := S1x768) (A m c main_arg2) (A m c main_arg12) (A m c main_arg22) (A m c main_arg32) := by rw [a42, B2, B12, B22, B32]
theorem final42 : (dats m 0 c).arrAt 42 cfg0.N = step (s := S1x768) (A m c main_arg2) (A m c main_arg12) (A m c main_arg22) (A m c main_arg32) :=
  whole m c 42 _ (fun t => (congrArg ((cfg0.win 42).cut (grid0.coords t)) (after42 m c t)).trans (cut42 t _)) flush0_42
    fun i => ⟨i, e42 _ i⟩
theorem cut43 (X : Vec F S6x128x128 .f32) : (cfg0.win 43).cut (grid0.coords t) X = ((cfg0.win 43).blk t).view.read (Elt F) X := by
  funext j; show X j = X (((cfg0.win 43).blk t).view.emb j); rw [e43]
theorem after43 : (dats m 0 c).after 43 t = step (s := S6x128x128) (A m c main_arg3) (A m c main_arg13) (A m c main_arg23) (A m c main_arg33) := by rw [a43, B3, B13, B23, B33]
theorem final43 : (dats m 0 c).arrAt 43 cfg0.N = step (s := S6x128x128) (A m c main_arg3) (A m c main_arg13) (A m c main_arg23) (A m c main_arg33) :=
  whole m c 43 _ (fun t => (congrArg ((cfg0.win 43).cut (grid0.coords t)) (after43 m c t)).trans (cut43 t _)) flush0_43
    fun i => ⟨i, e43 _ i⟩
theorem cut44 (X : Vec F S6x128 .f32) : (cfg0.win 44).cut (grid0.coords t) X = ((cfg0.win 44).blk t).view.read (Elt F) X := by
  funext j; show X j = X (((cfg0.win 44).blk t).view.emb j); rw [e44]
theorem after44 : (dats m 0 c).after 44 t = step (s := S6x128) (A m c main_arg4) (A m c main_arg14) (A m c main_arg24) (A m c main_arg34) := by rw [a44, B4, B14, B24, B34]
theorem final44 : (dats m 0 c).arrAt 44 cfg0.N = step (s := S6x128) (A m c main_arg4) (A m c main_arg14) (A m c main_arg24) (A m c main_arg34) :=
  whole m c 44 _ (fun t => (congrArg ((cfg0.win 44).cut (grid0.coords t)) (after44 m c t)).trans (cut44 t _)) flush0_44
    fun i => ⟨i, e44 _ i⟩
theorem cut45 (X : Vec F S3x192 .f32) : (cfg0.win 45).cut (grid0.coords t) X = ((cfg0.win 45).blk t).view.read (Elt F) X := by
  funext j; show X j = X (((cfg0.win 45).blk t).view.emb j); rw [e45]
theorem after45 : (dats m 0 c).after 45 t = step (s := S3x192) (A m c main_arg5) (A m c main_arg15) (A m c main_arg25) (A m c main_arg35) := by rw [a45, B5, B15, B25, B35]
theorem final45 : (dats m 0 c).arrAt 45 cfg0.N = step (s := S3x192) (A m c main_arg5) (A m c main_arg15) (A m c main_arg25) (A m c main_arg35) :=
  whole m c 45 _ (fun t => (congrArg ((cfg0.win 45).cut (grid0.coords t)) (after45 m c t)).trans (cut45 t _)) flush0_45
    fun i => ⟨i, e45 _ i⟩
theorem cut46 (X : Vec F S1x2048 .f32) : (cfg0.win 46).cut (grid0.coords t) X = ((cfg0.win 46).blk t).view.read (Elt F) X := by
  funext j; show X j = X (((cfg0.win 46).blk t).view.emb j); rw [e46]
theorem after46 : (dats m 0 c).after 46 t = step (s := S1x2048) (A m c main_arg6) (A m c main_arg16) (A m c main_arg26) (A m c main_arg36) := by rw [a46, B6, B16, B26, B36]
theorem final46 : (dats m 0 c).arrAt 46 cfg0.N = step (s := S1x2048) (A m c main_arg6) (A m c main_arg16) (A m c main_arg26) (A m c main_arg36) :=
  whole m c 46 _ (fun t => (congrArg ((cfg0.win 46).cut (grid0.coords t)) (after46 m c t)).trans (cut46 t _)) flush0_46
    fun i => ⟨i, e46 _ i⟩
theorem cut47 (X : Vec F S1x2048 .f32) : (cfg0.win 47).cut (grid0.coords t) X = ((cfg0.win 47).blk t).view.read (Elt F) X := by
  funext j; show X j = X (((cfg0.win 47).blk t).view.emb j); rw [e47]
theorem after47 : (dats m 0 c).after 47 t = step (s := S1x2048) (A m c main_arg7) (A m c main_arg17) (A m c main_arg27) (A m c main_arg37) := by rw [a47, B7, B17, B27, B37]
theorem final47 : (dats m 0 c).arrAt 47 cfg0.N = step (s := S1x2048) (A m c main_arg7) (A m c main_arg17) (A m c main_arg27) (A m c main_arg37) :=
  whole m c 47 _ (fun t => (congrArg ((cfg0.win 47).cut (grid0.coords t)) (after47 m c t)).trans (cut47 t _)) flush0_47
    fun i => ⟨i, e47 _ i⟩
theorem cut48 (X : Vec F S1x2048 .f32) : (cfg0.win 48).cut (grid0.coords t) X = ((cfg0.win 48).blk t).view.read (Elt F) X := by
  funext j; show X j = X (((cfg0.win 48).blk t).view.emb j); rw [e48]
theorem after48 : (dats m 0 c).after 48 t = step (s := S1x2048) (A m c main_arg8) (A m c main_arg18) (A m c main_arg28) (A m c main_arg38) := by rw [a48, B8, B18, B28, B38]
theorem final48 : (dats m 0 c).arrAt 48 cfg0.N = step (s := S1x2048) (A m c main_arg8) (A m c main_arg18) (A m c main_arg28) (A m c main_arg38) :=
  whole m c 48 _ (fun t => (congrArg ((cfg0.win 48).cut (grid0.coords t)) (after48 m c t)).trans (cut48 t _)) flush0_48
    fun i => ⟨i, e48 _ i⟩
theorem cut49 (X : Vec F S1x2048 .f32) : (cfg0.win 49).cut (grid0.coords t) X = ((cfg0.win 49).blk t).view.read (Elt F) X := by
  funext j; show X j = X (((cfg0.win 49).blk t).view.emb j); rw [e49]
theorem after49 : (dats m 0 c).after 49 t = step (s := S1x2048) (A m c main_arg9) (A m c main_arg19) (A m c main_arg29) (A m c main_arg39) := by rw [a49, B9, B19, B29, B39]
theorem final49 : (dats m 0 c).arrAt 49 cfg0.N = step (s := S1x2048) (A m c main_arg9) (A m c main_arg19) (A m c main_arg29) (A m c main_arg39) :=
  whole m c 49 _ (fun t => (congrArg ((cfg0.win 49).cut (grid0.coords t)) (after49 m c t)).trans (cut49 t _)) flush0_49
    fun i => ⟨i, e49 _ i⟩
theorem cut50 (X : Vec F S1x2048 .f32) : (cfg0.win 50).cut (grid0.coords t) X = ((cfg0.win 50).blk t).view.read (Elt F) X := by
  funext j; show X j = X (((cfg0.win 50).blk t).view.emb j); rw [e50]
theorem after50 : (dats m 0 c).after 50 t = mean (s := S1x2048) (A m c main_arg10) (A m c main_arg20) := by rw [a50, B10, B20]
theorem final50 : (dats m 0 c).arrAt 50 cfg0.N = mean (s := S1x2048) (A m c main_arg10) (A m c main_arg20) :=
  whole m c 50 _ (fun t => (congrArg ((cfg0.win 50).cut (grid0.coords t)) (after50 m c t)).trans (cut50 t _)) flush0_50
    fun i => ⟨i, e50 _ i⟩
theorem cut51 (X : Vec F S1x768 .f32) : (cfg0.win 51).cut (grid0.coords t) X = ((cfg0.win 51).blk t).view.read (Elt F) X := by
  funext j; show X j = X (((cfg0.win 51).blk t).view.emb j); rw [e51]
theorem after51 : (dats m 0 c).after 51 t = mean (s := S1x768) (A m c main_arg11) (A m c main_arg21) := by rw [a51, B11, B21]
theorem final51 : (dats m 0 c).arrAt 51 cfg0.N = mean (s := S1x768) (A m c main_arg11) (A m c main_arg21) :=
  whole m c 51 _ (fun t => (congrArg ((cfg0.win 51).cut (grid0.coords t)) (after51 m c t)).trans (cut51 t _)) flush0_51
    fun i => ⟨i, e51 _ i⟩
theorem cut52 (X : Vec F S1x768 .f32) : (cfg0.win 52).cut (grid0.coords t) X = ((cfg0.win 52).blk t).view.read (Elt F) X := by
  funext j; show X j = X (((cfg0.win 52).blk t).view.emb j); rw [e52]
theorem after52 : (dats m 0 c).after 52 t = mean (s := S1x768) (A m c main_arg12) (A m c main_arg22) := by rw [a52, B12, B22]
theorem final52 : (dats m 0 c).arrAt 52 cfg0.N = mean (s := S1x768) (A m c main_arg12) (A m c main_arg22) :=
  whole m c 52 _ (fun t => (congrArg ((cfg0.win 52).cut (grid0.coords t)) (after52 m c t)).trans (cut52 t _)) flush0_52
    fun i => ⟨i, e52 _ i⟩
theorem cut53 (X : Vec F S6x128x128 .f32) : (cfg0.win 53).cut (grid0.coords t) X = ((cfg0.win 53).blk t).view.read (Elt F) X := by
  funext j; show X j = X (((cfg0.win 53).blk t).view.emb j); rw [e53]
theorem after53 : (dats m 0 c).after 53 t = mean (s := S6x128x128) (A m c main_arg13) (A m c main_arg23) := by rw [a53, B13, B23]
theorem final53 : (dats m 0 c).arrAt 53 cfg0.N = mean (s := S6x128x128) (A m c main_arg13) (A m c main_arg23) :=
  whole m c 53 _ (fun t => (congrArg ((cfg0.win 53).cut (grid0.coords t)) (after53 m c t)).trans (cut53 t _)) flush0_53
    fun i => ⟨i, e53 _ i⟩
theorem cut54 (X : Vec F S6x128 .f32) : (cfg0.win 54).cut (grid0.coords t) X = ((cfg0.win 54).blk t).view.read (Elt F) X := by
  funext j; show X j = X (((cfg0.win 54).blk t).view.emb j); rw [e54]
theorem after54 : (dats m 0 c).after 54 t = mean (s := S6x128) (A m c main_arg14) (A m c main_arg24) := by rw [a54, B14, B24]
theorem final54 : (dats m 0 c).arrAt 54 cfg0.N = mean (s := S6x128) (A m c main_arg14) (A m c main_arg24) :=
  whole m c 54 _ (fun t => (congrArg ((cfg0.win 54).cut (grid0.coords t)) (after54 m c t)).trans (cut54 t _)) flush0_54
    fun i => ⟨i, e54 _ i⟩
theorem cut55 (X : Vec F S3x192 .f32) : (cfg0.win 55).cut (grid0.coords t) X = ((cfg0.win 55).blk t).view.read (Elt F) X := by
  funext j; show X j = X (((cfg0.win 55).blk t).view.emb j); rw [e55]
theorem after55 : (dats m 0 c).after 55 t = mean (s := S3x192) (A m c main_arg15) (A m c main_arg25) := by rw [a55, B15, B25]
theorem final55 : (dats m 0 c).arrAt 55 cfg0.N = mean (s := S3x192) (A m c main_arg15) (A m c main_arg25) :=
  whole m c 55 _ (fun t => (congrArg ((cfg0.win 55).cut (grid0.coords t)) (after55 m c t)).trans (cut55 t _)) flush0_55
    fun i => ⟨i, e55 _ i⟩
theorem cut56 (X : Vec F S1x2048 .f32) : (cfg0.win 56).cut (grid0.coords t) X = ((cfg0.win 56).blk t).view.read (Elt F) X := by
  funext j; show X j = X (((cfg0.win 56).blk t).view.emb j); rw [e56]
theorem after56 : (dats m 0 c).after 56 t = mean (s := S1x2048) (A m c main_arg16) (A m c main_arg26) := by rw [a56, B16, B26]
theorem final56 : (dats m 0 c).arrAt 56 cfg0.N = mean (s := S1x2048) (A m c main_arg16) (A m c main_arg26) :=
  whole m c 56 _ (fun t => (congrArg ((cfg0.win 56).cut (grid0.coords t)) (after56 m c t)).trans (cut56 t _)) flush0_56
    fun i => ⟨i, e56 _ i⟩
theorem cut57 (X : Vec F S1x2048 .f32) : (cfg0.win 57).cut (grid0.coords t) X = ((cfg0.win 57).blk t).view.read (Elt F) X := by
  funext j; show X j = X (((cfg0.win 57).blk t).view.emb j); rw [e57]
theorem after57 : (dats m 0 c).after 57 t = mean (s := S1x2048) (A m c main_arg17) (A m c main_arg27) := by rw [a57, B17, B27]
theorem final57 : (dats m 0 c).arrAt 57 cfg0.N = mean (s := S1x2048) (A m c main_arg17) (A m c main_arg27) :=
  whole m c 57 _ (fun t => (congrArg ((cfg0.win 57).cut (grid0.coords t)) (after57 m c t)).trans (cut57 t _)) flush0_57
    fun i => ⟨i, e57 _ i⟩
theorem cut58 (X : Vec F S1x2048 .f32) : (cfg0.win 58).cut (grid0.coords t) X = ((cfg0.win 58).blk t).view.read (Elt F) X := by
  funext j; show X j = X (((cfg0.win 58).blk t).view.emb j); rw [e58]
theorem after58 : (dats m 0 c).after 58 t = mean (s := S1x2048) (A m c main_arg18) (A m c main_arg28) := by rw [a58, B18, B28]
theorem final58 : (dats m 0 c).arrAt 58 cfg0.N = mean (s := S1x2048) (A m c main_arg18) (A m c main_arg28) :=
  whole m c 58 _ (fun t => (congrArg ((cfg0.win 58).cut (grid0.coords t)) (after58 m c t)).trans (cut58 t _)) flush0_58
    fun i => ⟨i, e58 _ i⟩
theorem cut59 (X : Vec F S1x2048 .f32) : (cfg0.win 59).cut (grid0.coords t) X = ((cfg0.win 59).blk t).view.read (Elt F) X := by
  funext j; show X j = X (((cfg0.win 59).blk t).view.emb j); rw [e59]
theorem after59 : (dats m 0 c).after 59 t = mean (s := S1x2048) (A m c main_arg19) (A m c main_arg29) := by rw [a59, B19, B29]
theorem final59 : (dats m 0 c).arrAt 59 cfg0.N = mean (s := S1x2048) (A m c main_arg19) (A m c main_arg29) :=
  whole m c 59 _ (fun t => (congrArg ((cfg0.win 59).cut (grid0.coords t)) (after59 m c t)).trans (cut59 t _)) flush0_59
    fun i => ⟨i, e59 _ i⟩
theorem cut60 (X : Vec F S1x2048 .f32) : (cfg0.win 60).cut (grid0.coords t) X = ((cfg0.win 60).blk t).view.read (Elt F) X := by
  funext j; show X j = X (((cfg0.win 60).blk t).view.emb j); rw [e60]
theorem after60 : (dats m 0 c).after 60 t = square (s := S1x2048) (A m c main_arg10) (A m c main_arg30) := by rw [a60, B10, B30]
theorem final60 : (dats m 0 c).arrAt 60 cfg0.N = square (s := S1x2048) (A m c main_arg10) (A m c main_arg30) :=
  whole m c 60 _ (fun t => (congrArg ((cfg0.win 60).cut (grid0.coords t)) (after60 m c t)).trans (cut60 t _)) flush0_60
    fun i => ⟨i, e60 _ i⟩
theorem cut61 (X : Vec F S1x768 .f32) : (cfg0.win 61).cut (grid0.coords t) X = ((cfg0.win 61).blk t).view.read (Elt F) X := by
  funext j; show X j = X (((cfg0.win 61).blk t).view.emb j); rw [e61]
theorem after61 : (dats m 0 c).after 61 t = square (s := S1x768) (A m c main_arg11) (A m c main_arg31) := by rw [a61, B11, B31]
theorem final61 : (dats m 0 c).arrAt 61 cfg0.N = square (s := S1x768) (A m c main_arg11) (A m c main_arg31) :=
  whole m c 61 _ (fun t => (congrArg ((cfg0.win 61).cut (grid0.coords t)) (after61 m c t)).trans (cut61 t _)) flush0_61
    fun i => ⟨i, e61 _ i⟩
theorem cut62 (X : Vec F S1x768 .f32) : (cfg0.win 62).cut (grid0.coords t) X = ((cfg0.win 62).blk t).view.read (Elt F) X := by
  funext j; show X j = X (((cfg0.win 62).blk t).view.emb j); rw [e62]
theorem after62 : (dats m 0 c).after 62 t = square (s := S1x768) (A m c main_arg12) (A m c main_arg32) := by rw [a62, B12, B32]
theorem final62 : (dats m 0 c).arrAt 62 cfg0.N = square (s := S1x768) (A m c main_arg12) (A m c main_arg32) :=
  whole m c 62 _ (fun t => (congrArg ((cfg0.win 62).cut (grid0.coords t)) (after62 m c t)).trans (cut62 t _)) flush0_62
    fun i => ⟨i, e62 _ i⟩
theorem cut63 (X : Vec F S6x128x128 .f32) : (cfg0.win 63).cut (grid0.coords t) X = ((cfg0.win 63).blk t).view.read (Elt F) X := by
  funext j; show X j = X (((cfg0.win 63).blk t).view.emb j); rw [e63]
theorem after63 : (dats m 0 c).after 63 t = square (s := S6x128x128) (A m c main_arg13) (A m c main_arg33) := by rw [a63, B13, B33]
theorem final63 : (dats m 0 c).arrAt 63 cfg0.N = square (s := S6x128x128) (A m c main_arg13) (A m c main_arg33) :=
  whole m c 63 _ (fun t => (congrArg ((cfg0.win 63).cut (grid0.coords t)) (after63 m c t)).trans (cut63 t _)) flush0_63
    fun i => ⟨i, e63 _ i⟩
theorem cut64 (X : Vec F S6x128 .f32) : (cfg0.win 64).cut (grid0.coords t) X = ((cfg0.win 64).blk t).view.read (Elt F) X := by
  funext j; show X j = X (((cfg0.win 64).blk t).view.emb j); rw [e64]
theorem after64 : (dats m 0 c).after 64 t = square (s := S6x128) (A m c main_arg14) (A m c main_arg34) := by rw [a64, B14, B34]
theorem final64 : (dats m 0 c).arrAt 64 cfg0.N = square (s := S6x128) (A m c main_arg14) (A m c main_arg34) :=
  whole m c 64 _ (fun t => (congrArg ((cfg0.win 64).cut (grid0.coords t)) (after64 m c t)).trans (cut64 t _)) flush0_64
    fun i => ⟨i, e64 _ i⟩
theorem cut65 (X : Vec F S3x192 .f32) : (cfg0.win 65).cut (grid0.coords t) X = ((cfg0.win 65).blk t).view.read (Elt F) X := by
  funext j; show X j = X (((cfg0.win 65).blk t).view.emb j); rw [e65]
theorem after65 : (dats m 0 c).after 65 t = square (s := S3x192) (A m c main_arg15) (A m c main_arg35) := by rw [a65, B15, B35]
theorem final65 : (dats m 0 c).arrAt 65 cfg0.N = square (s := S3x192) (A m c main_arg15) (A m c main_arg35) :=
  whole m c 65 _ (fun t => (congrArg ((cfg0.win 65).cut (grid0.coords t)) (after65 m c t)).trans (cut65 t _)) flush0_65
    fun i => ⟨i, e65 _ i⟩
theorem cut66 (X : Vec F S1x2048 .f32) : (cfg0.win 66).cut (grid0.coords t) X = ((cfg0.win 66).blk t).view.read (Elt F) X := by
  funext j; show X j = X (((cfg0.win 66).blk t).view.emb j); rw [e66]
theorem after66 : (dats m 0 c).after 66 t = square (s := S1x2048) (A m c main_arg16) (A m c main_arg36) := by rw [a66, B16, B36]
theorem final66 : (dats m 0 c).arrAt 66 cfg0.N = square (s := S1x2048) (A m c main_arg16) (A m c main_arg36) :=
  whole m c 66 _ (fun t => (congrArg ((cfg0.win 66).cut (grid0.coords t)) (after66 m c t)).trans (cut66 t _)) flush0_66
    fun i => ⟨i, e66 _ i⟩
theorem cut67 (X : Vec F S1x2048 .f32) : (cfg0.win 67).cut (grid0.coords t) X = ((cfg0.win 67).blk t).view.read (Elt F) X := by
  funext j; show X j = X (((cfg0.win 67).blk t).view.emb j); rw [e67]
theorem after67 : (dats m 0 c).after 67 t = square (s := S1x2048) (A m c main_arg17) (A m c main_arg37) := by rw [a67, B17, B37]
theorem final67 : (dats m 0 c).arrAt 67 cfg0.N = square (s := S1x2048) (A m c main_arg17) (A m c main_arg37) :=
  whole m c 67 _ (fun t => (congrArg ((cfg0.win 67).cut (grid0.coords t)) (after67 m c t)).trans (cut67 t _)) flush0_67
    fun i => ⟨i, e67 _ i⟩
theorem cut68 (X : Vec F S1x2048 .f32) : (cfg0.win 68).cut (grid0.coords t) X = ((cfg0.win 68).blk t).view.read (Elt F) X := by
  funext j; show X j = X (((cfg0.win 68).blk t).view.emb j); rw [e68]
theorem after68 : (dats m 0 c).after 68 t = square (s := S1x2048) (A m c main_arg18) (A m c main_arg38) := by rw [a68, B18, B38]
theorem final68 : (dats m 0 c).arrAt 68 cfg0.N = square (s := S1x2048) (A m c main_arg18) (A m c main_arg38) :=
  whole m c 68 _ (fun t => (congrArg ((cfg0.win 68).cut (grid0.coords t)) (after68 m c t)).trans (cut68 t _)) flush0_68
    fun i => ⟨i, e68 _ i⟩
theorem cut69 (X : Vec F S1x2048 .f32) : (cfg0.win 69).cut (grid0.coords t) X = ((cfg0.win 69).blk t).view.read (Elt F) X := by
  funext j; show X j = X (((cfg0.win 69).blk t).view.emb j); rw [e69]
theorem after69 : (dats m 0 c).after 69 t = square (s := S1x2048) (A m c main_arg19) (A m c main_arg39) := by rw [a69, B19, B39]
theorem final69 : (dats m 0 c).arrAt 69 cfg0.N = square (s := S1x2048) (A m c main_arg19) (A m c main_arg39) :=
  whole m c 69 _ (fun t => (congrArg ((cfg0.win 69).cut (grid0.coords t)) (after69 m c t)).trans (cut69 t _)) flush0_69
    fun i => ⟨i, e69 _ i⟩

end

/-! The reference's thirty results, one by one. -/

section
open Cert.Reference21Ideal.Read

theorem r40 (a0 a10 a20 a30 : Vec Ideal S1x2048 .f32) :
    val_main_v23 (F := Ideal) a0 a10 a20 a30 = step a0 a10 a20 a30 := funext fun i => rfl
theorem r41 (a1 a11 a21 a31 : Vec Ideal S1x768 .f32) :
    val_main_v47 (F := Ideal) a1 a11 a21 a31 = step a1 a11 a21 a31 := funext fun i => rfl
theorem r42 (a2 a12 a22 a32 : Vec Ideal S1x768 .f32) :
    val_main_v71 (F := Ideal) a2 a12 a22 a32 = step a2 a12 a22 a32 := funext fun i => rfl
theorem r43 (a3 a13 a23 a33 : Vec Ideal S6x128x128 .f32) :
    val_main_v95 (F := Ideal) a3 a13 a23 a33 = step a3 a13 a23 a33 := funext fun i => rfl
theorem r44 (a4 a14 a24 a34 : Vec Ideal S6x128 .f32) :
    val_main_v119 (F := Ideal) a4 a14 a24 a34 = step a4 a14 a24 a34 := funext fun i => rfl
theorem r45 (a5 a15 a25 a35 : Vec Ideal S3x192 .f32) :
    val_main_v143 (F := Ideal) a5 a15 a25 a35 = step a5 a15 a25 a35 := funext fun i => rfl
theorem r46 (a6 a16 a26 a36 : Vec Ideal S1x2048 .f32) :
    val_main_v167 (F := Ideal) a6 a16 a26 a36 = step a6 a16 a26 a36 := funext fun i => rfl
theorem r47 (a7 a17 a27 a37 : Vec Ideal S1x2048 .f32) :
    val_main_v191 (F := Ideal) a7 a17 a27 a37 = step a7 a17 a27 a37 := funext fun i => rfl
theorem r48 (a8 a18 a28 a38 : Vec Ideal S1x2048 .f32) :
    val_main_v215 (F := Ideal) a8 a18 a28 a38 = step a8 a18 a28 a38 := funext fun i => rfl
theorem r49 (a9 a19 a29 a39 : Vec Ideal S1x2048 .f32) :
    val_main_v239 (F := Ideal) a9 a19 a29 a39 = step a9 a19 a29 a39 := funext fun i => rfl
theorem r50 (a10 a20 : Vec Ideal S1x2048 .f32) :
    val_main_v4 (F := Ideal) a10 a20 = mean a10 a20 := funext fun i => rfl
theorem r51 (a11 a21 : Vec Ideal S1x768 .f32) :
    val_main_v28 (F := Ideal) a11 a21 = mean a11 a21 := funext fun i => rfl
theorem r52 (a12 a22 : Vec Ideal S1x768 .f32) :
    val_main_v52 (F := Ideal) a12 a22 = mean a12 a22 := funext fun i => rfl
theorem r53 (a13 a23 : Vec Ideal S6x128x128 .f32) :
    val_main_v76 (F := Ideal) a13 a23 = mean a13 a23 := funext fun i => rfl
theorem r54 (a14 a24 : Vec Ideal S6x128 .f32) :
    val_main_v100 (F := Ideal) a14 a24 = mean a14 a24 := funext fun i => rfl
theorem r55 (a15 a25 : Vec Ideal S3x192 .f32) :
    val_main_v124 (F := Ideal) a15 a25 = mean a15 a25 := funext fun i => rfl
theorem r56 (a16 a26 : Vec Ideal S1x2048 .f32) :
    val_main_v148 (F := Ideal) a16 a26 = mean a16 a26 := funext fun i => rfl
theorem r57 (a17 a27 : Vec Ideal S1x2048 .f32) :
    val_main_v172 (F := Ideal) a17 a27 = mean a17 a27 := funext fun i => rfl
theorem r58 (a18 a28 : Vec Ideal S1x2048 .f32) :
    val_main_v196 (F := Ideal) a18 a28 = mean a18 a28 := funext fun i => rfl
theorem r59 (a19 a29 : Vec Ideal S1x2048 .f32) :
    val_main_v220 (F := Ideal) a19 a29 = mean a19 a29 := funext fun i => rfl
theorem r60 (a10 a30 : Vec Ideal S1x2048 .f32) :
    val_main_v10 (F := Ideal) a10 a30 = square a10 a30 := funext fun i => rfl
theorem r61 (a11 a31 : Vec Ideal S1x768 .f32) :
    val_main_v34 (F := Ideal) a11 a31 = square a11 a31 := funext fun i => rfl
theorem r62 (a12 a32 : Vec Ideal S1x768 .f32) :
    val_main_v58 (F := Ideal) a12 a32 = square a12 a32 := funext fun i => rfl
theorem r63 (a13 a33 : Vec Ideal S6x128x128 .f32) :
    val_main_v82 (F := Ideal) a13 a33 = square a13 a33 := funext fun i => rfl
theorem r64 (a14 a34 : Vec Ideal S6x128 .f32) :
    val_main_v106 (F := Ideal) a14 a34 = square a14 a34 := funext fun i => rfl
theorem r65 (a15 a35 : Vec Ideal S3x192 .f32) :
    val_main_v130 (F := Ideal) a15 a35 = square a15 a35 := funext fun i => rfl
theorem r66 (a16 a36 : Vec Ideal S1x2048 .f32) :
    val_main_v154 (F := Ideal) a16 a36 = square a16 a36 := funext fun i => rfl
theorem r67 (a17 a37 : Vec Ideal S1x2048 .f32) :
    val_main_v178 (F := Ideal) a17 a37 = square a17 a37 := funext fun i => rfl
theorem r68 (a18 a38 : Vec Ideal S1x2048 .f32) :
    val_main_v202 (F := Ideal) a18 a38 = square a18 a38 := funext fun i => rfl
theorem r69 (a19 a39 : Vec Ideal S1x2048 .f32) :
    val_main_v226 (F := Ideal) a19 a39 = square a19 a39 := funext fun i => rfl

end

/-- Over the reals the kernel's run and the reference's run end with the same thirty arrays: the step, the first moment and
    the second moment of each of the ten small parameters. -/
theorem algebraic : @Cert.algebraic_Kernel21Ideal_Reference21Ideal Cert.Kernel21Ideal.Gen.facts Cert.Reference21Ideal.Gen.facts := by
  intro m g m' g' _ hag
  refine ⟨_, _, _, _, _, _, _, _, _, _, _, _, _, _, _, _, _, _, _, _, _, _, _, _, _, _, _, _, _, _, (θ_run defs _ _).mono (fun r h c => ⟨
    ((h.1 c).1 40).trans (final40 m c), ((h.1 c).1 41).trans (final41 m c), ((h.1 c).1 42).trans (final42 m c),
    ((h.1 c).1 43).trans (final43 m c), ((h.1 c).1 44).trans (final44 m c), ((h.1 c).1 45).trans (final45 m c),
    ((h.1 c).1 46).trans (final46 m c), ((h.1 c).1 47).trans (final47 m c), ((h.1 c).1 48).trans (final48 m c),
    ((h.1 c).1 49).trans (final49 m c), ((h.1 c).1 50).trans (final50 m c), ((h.1 c).1 51).trans (final51 m c),
    ((h.1 c).1 52).trans (final52 m c), ((h.1 c).1 53).trans (final53 m c), ((h.1 c).1 54).trans (final54 m c),
    ((h.1 c).1 55).trans (final55 m c), ((h.1 c).1 56).trans (final56 m c), ((h.1 c).1 57).trans (final57 m c),
    ((h.1 c).1 58).trans (final58 m c), ((h.1 c).1 59).trans (final59 m c), ((h.1 c).1 60).trans (final60 m c),
    ((h.1 c).1 61).trans (final61 m c), ((h.1 c).1 62).trans (final62 m c), ((h.1 c).1 63).trans (final63 m c),
    ((h.1 c).1 64).trans (final64 m c), ((h.1 c).1 65).trans (final65 m c), ((h.1 c).1 66).trans (final66 m c),
    ((h.1 c).1 67).trans (final67 m c), ((h.1 c).1 68).trans (final68 m c), ((h.1 c).1 69).trans (final69 m c),
    kept m r h.1 c 0 rfl, kept m r h.1 c 1 rfl, kept m r h.1 c 2 rfl, kept m r h.1 c 3 rfl, kept m r h.1 c 4 rfl,
    kept m r h.1 c 5 rfl, kept m r h.1 c 6 rfl, kept m r h.1 c 7 rfl, kept m r h.1 c 8 rfl, kept m r h.1 c 9 rfl,
    kept m r h.1 c 10 rfl, kept m r h.1 c 11 rfl, kept m r h.1 c 12 rfl, kept m r h.1 c 13 rfl, kept m r h.1 c 14 rfl,
    kept m r h.1 c 15 rfl, kept m r h.1 c 16 rfl, kept m r h.1 c 17 rfl, kept m r h.1 c 18 rfl, kept m r h.1 c 19 rfl,
    kept m r h.1 c 20 rfl, kept m r h.1 c 21 rfl, kept m r h.1 c 22 rfl, kept m r h.1 c 23 rfl, kept m r h.1 c 24 rfl,
    kept m r h.1 c 25 rfl, kept m r h.1 c 26 rfl, kept m r h.1 c 27 rfl, kept m r h.1 c 28 rfl, kept m r h.1 c 29 rfl,
    kept m r h.1 c 30 rfl, kept m r h.1 c 31 rfl, kept m r h.1 c 32 rfl, kept m r h.1 c 33 rfl, kept m r h.1 c 34 rfl,
    kept m r h.1 c 35 rfl, kept m r h.1 c 36 rfl, kept m r h.1 c 37 rfl, kept m r h.1 c 38 rfl, kept m r h.1 c 39 rfl⟩) (run_all m g), ?_⟩
  refine (θ_run Cert.Reference21Ideal.defs _ _).mono (fun r h c => ?_) (Cert.Reference21Ideal.Value.run m' g')
  obtain ⟨h40, h41, h42, h43, h44, h45, h46, h47, h48, h49, h50, h51, h52, h53, h54, h55, h56, h57, h58, h59, h60, h61, h62, h63, h64, h65, h66, h67, h68, h69, hargs⟩ := h c
  obtain ⟨x0, x1, x2, x3, x4, x5, x6, x7, x8, x9, x10, x11, x12, x13, x14, x15, x16, x17, x18, x19, x20, x21, x22, x23, x24, x25, x26, x27, x28, x29, x30, x31, x32, x33, x34, x35, x36, x37, x38, x39⟩ := hag c
  refine ⟨(h40.trans (Cert.Reference21Ideal.Read.val_main_v23_eq _)).trans ?_, (h41.trans (Cert.Reference21Ideal.Read.val_main_v47_eq _)).trans ?_, (h42.trans (Cert.Reference21Ideal.Read.val_main_v71_eq _)).trans ?_, (h43.trans (Cert.Reference21Ideal.Read.val_main_v95_eq _)).trans ?_, (h44.trans (Cert.Reference21Ideal.Read.val_main_v119_eq _)).trans ?_, (h45.trans (Cert.Reference21Ideal.Read.val_main_v143_eq _)).trans ?_, (h46.trans (Cert.Reference21Ideal.Read.val_main_v167_eq _)).trans ?_, (h47.trans (Cert.Reference21Ideal.Read.val_main_v191_eq _)).trans ?_, (h48.trans (Cert.Reference21Ideal.Read.val_main_v215_eq _)).trans ?_, (h49.trans (Cert.Reference21Ideal.Read.val_main_v239_eq _)).trans ?_, (h50.trans (Cert.Reference21Ideal.Read.val_main_v4_eq _)).trans ?_, (h51.trans (Cert.Reference21Ideal.Read.val_main_v28_eq _)).trans ?_, (h52.trans (Cert.Reference21Ideal.Read.val_main_v52_eq _)).trans ?_, (h53.trans (Cert.Reference21Ideal.Read.val_main_v76_eq _)).trans ?_, (h54.trans (Cert.Reference21Ideal.Read.val_main_v100_eq _)).trans ?_, (h55.trans (Cert.Reference21Ideal.Read.val_main_v124_eq _)).trans ?_, (h56.trans (Cert.Reference21Ideal.Read.val_main_v148_eq _)).trans ?_, (h57.trans (Cert.Reference21Ideal.Read.val_main_v172_eq _)).trans ?_, (h58.trans (Cert.Reference21Ideal.Read.val_main_v196_eq _)).trans ?_, (h59.trans (Cert.Reference21Ideal.Read.val_main_v220_eq _)).trans ?_, (h60.trans (Cert.Reference21Ideal.Read.val_main_v10_eq _)).trans ?_, (h61.trans (Cert.Reference21Ideal.Read.val_main_v34_eq _)).trans ?_, (h62.trans (Cert.Reference21Ideal.Read.val_main_v58_eq _)).trans ?_, (h63.trans (Cert.Reference21Ideal.Read.val_main_v82_eq _)).trans ?_, (h64.trans (Cert.Reference21Ideal.Read.val_main_v106_eq _)).trans ?_, (h65.trans (Cert.Reference21Ideal.Read.val_main_v130_eq _)).trans ?_, (h66.trans (Cert.Reference21Ideal.Read.val_main_v154_eq _)).trans ?_, (h67.trans (Cert.Reference21Ideal.Read.val_main_v178_eq _)).trans ?_, (h68.trans (Cert.Reference21Ideal.Read.val_main_v202_eq _)).trans ?_, (h69.trans (Cert.Reference21Ideal.Read.val_main_v226_eq _)).trans ?_, hargs⟩
  · exact (r40 _ _ _ _).trans (step_eq x0 x10 x20 x30)
  · exact (r41 _ _ _ _).trans (step_eq x1 x11 x21 x31)
  · exact (r42 _ _ _ _).trans (step_eq x2 x12 x22 x32)
  · exact (r43 _ _ _ _).trans (step_eq x3 x13 x23 x33)
  · exact (r44 _ _ _ _).trans (step_eq x4 x14 x24 x34)
  · exact (r45 _ _ _ _).trans (step_eq x5 x15 x25 x35)
  · exact (r46 _ _ _ _).trans (step_eq x6 x16 x26 x36)
  · exact (r47 _ _ _ _).trans (step_eq x7 x17 x27 x37)
  · exact (r48 _ _ _ _).trans (step_eq x8 x18 x28 x38)
  · exact (r49 _ _ _ _).trans (step_eq x9 x19 x29 x39)
  · exact (r50 _ _).trans (mean_eq x10 x20)
  · exact (r51 _ _).trans (mean_eq x11 x21)
  · exact (r52 _ _).trans (mean_eq x12 x22)
  · exact (r53 _ _).trans (mean_eq x13 x23)
  · exact (r54 _ _).trans (mean_eq x14 x24)
  · exact (r55 _ _).trans (mean_eq x15 x25)
  · exact (r56 _ _).trans (mean_eq x16 x26)
  · exact (r57 _ _).trans (mean_eq x17 x27)
  · exact (r58 _ _).trans (mean_eq x18 x28)
  · exact (r59 _ _).trans (mean_eq x19 x29)
  · exact (r60 _ _).trans (square_eq x10 x30)
  · exact (r61 _ _).trans (square_eq x11 x31)
  · exact (r62 _ _).trans (square_eq x12 x32)
  · exact (r63 _ _).trans (square_eq x13 x33)
  · exact (r64 _ _).trans (square_eq x14 x34)
  · exact (r65 _ _).trans (square_eq x15 x35)
  · exact (r66 _ _).trans (square_eq x16 x36)
  · exact (r67 _ _).trans (square_eq x17 x37)
  · exact (r68 _ _).trans (square_eq x18 x38)
  · exact (r69 _ _).trans (square_eq x19 x39)

end Cert.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Reference21Ideal
public import proofs.«01_k».proof.Proof.Gen.Reference21Ideal.Run
public import proofs.«01_k».proof.Proof.Gen.Reference21Ideal.Read
public import proofs.«01_k».proof.Proof.Gen.Pre_finite4
public import proofs.«01_k».proof.Proof.Gen.Pre_finite3
public import proofs.«01_k».proof.Proof.Gen.Reference14Ideal
public import proofs.«01_k».proof.Proof.Gen.Reference14Ideal.Run
public import proofs.«01_k».proof.Proof.Gen.Reference14Ideal.Read
public import proofs.«01_k».proof.Proof.Equal
public import proofs.«01_k».proof.Proof.Dact
public import proofs.«01_k».proof.Proof.Dh2
public import proofs.«01_k».proof.Proof.Dwin
public import proofs.«01_k».proof.Proof.Dh
public import proofs.«01_k».proof.Proof.Dhn
public import proofs.«01_k».proof.Proof.Dw2
public import proofs.«01_k».proof.Proof.Dw1
public import proofs.«01_k».proof.Proof.Dwo
public import proofs.«01_k».proof.Proof.Proj
public import proofs.«01_k».proof.Proof.Wo
public import proofs.«01_k».proof.Proof.Kvs
public import proofs.«01_k».proof.Proof.Dwkv
public import proofs.«01_k».proof.Proof.Dmem
public import proofs.«01_k».proof.Proof.RmsMix
public import proofs.«01_k».proof.Proof.RmsFfn
public import proofs.«01_k».proof.Proof.RmsMem
public import proofs.«01_k».proof.Proof.RmsFwd
public import proofs.«01_k».proof.Proof.RmsMemFwd
public import proofs.«01_k».proof.Proof.LossBwd
public import proofs.«01_k».proof.Proof.SmallBits
public import proofs.«01_k».proof.Proof.Small
public import Idealize.ShloMosaic.Adequacy
public import Idealize.ShloMosaic.Init

@[expose] public section

noncomputable section

namespace Cert.Proof

open Idealize.ShloMosaic Idealize.SL.Sem Cert.Kernel

/-- The reference ends with its arguments unchanged, and it has no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0 :=
  (θ_run Cert.ReferenceIdeal.defs _ _).mono
    (fun r h => ⟨fun c => (h c).2.2.2.2.2.2.2.2, sem_eq_zero_of_no_sems (by decide) r.2⟩)
    (Cert.ReferenceIdeal.Value.run m g)

/-- Reference 2 ends with its arguments unchanged, and it has no semaphore. -/
theorem frame_r2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0 :=
  (θ_run Cert.Reference2Ideal.defs _ _).mono
    (fun r h => ⟨fun c => (h c).2, sem_eq_zero_of_no_sems (by decide) r.2⟩)
    (Cert.Reference2Ideal.Value.run m g)

/-- Reference 3 ends with its arguments unchanged, and it has no semaphore. -/
theorem frame_r3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0 :=
  (θ_run Cert.Reference3Ideal.defs _ _).mono
    (fun r h => ⟨fun c => (h c).2, sem_eq_zero_of_no_sems (by decide) r.2⟩)
    (Cert.Reference3Ideal.Value.run m g)

/-- Reference 4 ends with its arguments unchanged, and it has no semaphore. -/
theorem frame_r4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0 :=
  (θ_run Cert.Reference4Ideal.defs _ _).mono
    (fun r h => ⟨fun c => (h c).2, sem_eq_zero_of_no_sems (by decide) r.2⟩)
    (Cert.Reference4Ideal.Value.run m g)

/-- Reference 5 ends with its arguments unchanged, and it has no semaphore. -/
theorem frame_r5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0 :=
  (θ_run Cert.Reference5Ideal.defs _ _).mono
    (fun r h => ⟨fun c => (h c).2, sem_eq_zero_of_no_sems (by decide) r.2⟩)
    (Cert.Reference5Ideal.Value.run m g)

/-- Reference 6 ends with its arguments unchanged, and it has no semaphore. -/
theorem frame_r6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0 :=
  (θ_run Cert.Reference6Ideal.defs _ _).mono
    (fun r h => ⟨fun c => (h c).2, sem_eq_zero_of_no_sems (by decide) r.2⟩)
    (Cert.Reference6Ideal.Value.run m g)

/-- Reference 7 ends with its arguments unchanged, and it has no semaphore. -/
theorem frame_r7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0 :=
  (θ_run Cert.Reference7Ideal.defs _ _).mono
    (fun r h => ⟨fun c => (h c).2, sem_eq_zero_of_no_sems (by decide) r.2⟩)
    (Cert.Reference7Ideal.Value.run m g)

/-- Reference 8 ends with its arguments unchanged, and it has no semaphore. -/
theorem frame_r8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩
      fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0 :=
  (θ_run Cert.Reference8Ideal.defs _ _).mono
    (fun r h => ⟨fun c => (h c).2, sem_eq_zero_of_no_sems (by decide) r.2⟩)
    (Cert.Reference8Ideal.Value.run m g)

/-- Reference 9 ends with its arguments unchanged, and it has no semaphore. -/
theorem frame_r9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩
      fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0 :=
  (θ_run Cert.Reference9Ideal.defs _ _).mono
    (fun r h => ⟨fun c => (h c).2, sem_eq_zero_of_no_sems (by decide) r.2⟩)
    (Cert.Reference9Ideal.Value.run m g)

/-- Reference 10 ends with its arguments unchanged, and it has no semaphore. -/
theorem frame_r10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩
      fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0 :=
  (θ_run Cert.Reference10Ideal.defs _ _).mono
    (fun r h => ⟨fun c => (h c).2, sem_eq_zero_of_no_sems (by decide) r.2⟩)
    (Cert.Reference10Ideal.Value.run m g)

/-- Reference 11 ends with its arguments unchanged, and it has no semaphore. -/
theorem frame_r11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩
      fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0 :=
  (θ_run Cert.Reference11Ideal.defs _ _).mono
    (fun r h => ⟨fun c => (h c).2.2, sem_eq_zero_of_no_sems (by decide) r.2⟩)
    (Cert.Reference11Ideal.Value.run m g)

/-- Reference 12 ends with its arguments unchanged, and it has no semaphore. -/
theorem frame_r12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩
      fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0 :=
  (θ_run Cert.Reference12Ideal.defs _ _).mono
    (fun r h => ⟨fun c => (h c).2, sem_eq_zero_of_no_sems (by decide) r.2⟩)
    (Cert.Reference12Ideal.Value.run m g)

/-- Reference 13 ends with its arguments unchanged, and it has no semaphore. -/
theorem frame_r13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩
      fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0 :=
  (θ_run Cert.Reference13Ideal.defs _ _).mono
    (fun r h => ⟨fun c => (h c).2, sem_eq_zero_of_no_sems (by decide) r.2⟩)
    (Cert.Reference13Ideal.Value.run m g)

/-- Reference 14 ends with its arguments unchanged, and it has no semaphore. -/
theorem frame_r14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩
      fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0 :=
  (θ_run Cert.Reference14Ideal.defs _ _).mono
    (fun r h => ⟨fun c => (h c).2, sem_eq_zero_of_no_sems (by decide) r.2⟩)
    (Cert.Reference14Ideal.Value.run m g)

/-- Reference 15 ends with its arguments unchanged, and it has no semaphore. -/
theorem frame_r15 (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩
      fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0 :=
  (θ_run Cert.Reference15Ideal.defs _ _).mono
    (fun r h => ⟨fun c => (h c).2.2, sem_eq_zero_of_no_sems (by decide) r.2⟩)
    (Cert.Reference15Ideal.Value.run m g)

/-- Reference 16 ends with its arguments unchanged, and it has no semaphore. -/
theorem frame_r16 (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩
      fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0 :=
  (θ_run Cert.Reference16Ideal.defs _ _).mono
    (fun r h => ⟨fun c => (h c).2.2.2, sem_eq_zero_of_no_sems (by decide) r.2⟩)
    (Cert.Reference16Ideal.Value.run m g)

/-- Reference 17 ends with its arguments unchanged, and it has no semaphore. -/
theorem frame_r17 (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩
      fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0 :=
  (θ_run Cert.Reference17Ideal.defs _ _).mono
    (fun r h => ⟨fun c => (h c).2, sem_eq_zero_of_no_sems (by decide) r.2⟩)
    (Cert.Reference17Ideal.Value.run m g)

/-- Reference 18 ends with its arguments unchanged, and it has no semaphore. -/
theorem frame_r18 (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩
      fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0 :=
  (θ_run Cert.Reference18Ideal.defs _ _).mono
    (fun r h => ⟨fun c => (h c).2, sem_eq_zero_of_no_sems (by decide) r.2⟩)
    (Cert.Reference18Ideal.Value.run m g)

/-- Reference 19 ends with its arguments unchanged, and it has no semaphore. -/
theorem frame_r19 (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩
      fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0 :=
  (θ_run Cert.Reference19Ideal.defs _ _).mono
    (fun r h => ⟨fun c => (h c).2, sem_eq_zero_of_no_sems (by decide) r.2⟩)
    (Cert.Reference19Ideal.Value.run m g)

/-- Reference 20 ends with its arguments unchanged, and it has no semaphore. -/
theorem frame_r20 (m : (ℓ : Loc Cert.Reference20Ideal.nD Cert.Reference20Ideal.τ Cert.Reference20Ideal.sig) → Buf (Elt Ideal) ℓ) (g : Dev Cert.Reference20Ideal.nD → PrngReg) :
    θ_run (Cert.Reference20Ideal.defs (F := Ideal)) (onTc (τ := Cert.Reference20Ideal.τ) (Cert.Reference20Ideal.main (F := Ideal))) ⟨m, fun _ => 0, g⟩
      fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0 :=
  (θ_run Cert.Reference20Ideal.defs _ _).mono
    (fun r h => ⟨fun c => (h c).2.2.2.2, sem_eq_zero_of_no_sems (by decide) r.2⟩)
    (Cert.Reference20Ideal.Value.run m g)

/-- Reference 21 ends with its arguments unchanged, and it has no semaphore. -/
theorem frame_r21 (m : (ℓ : Loc Cert.Reference21Ideal.nD Cert.Reference21Ideal.τ Cert.Reference21Ideal.sig) → Buf (Elt Ideal) ℓ) (g : Dev Cert.Reference21Ideal.nD → PrngReg) :
    θ_run (Cert.Reference21Ideal.defs (F := Ideal)) (onTc (τ := Cert.Reference21Ideal.τ) (Cert.Reference21Ideal.main (F := Ideal))) ⟨m, fun _ => 0, g⟩
      fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15)
      ∧ r.2.mem ((c.tc : Thread Cert.Reference21Ideal.nD Cert.Reference21Ideal.τ).loc Cert.Reference21Ideal.main_arg16) = m ((c.tc : Thread Cert.Reference21Ideal.nD Cert.Reference21Ideal.τ).loc Cert.Reference21Ideal.main_arg16)
      ∧ r.2.mem ((c.tc : Thread Cert.Reference21Ideal.nD Cert.Reference21Ideal.τ).loc Cert.Reference21Ideal.main_arg17) = m ((c.tc : Thread Cert.Reference21Ideal.nD Cert.Reference21Ideal.τ).loc Cert.Reference21Ideal.main_arg17)
      ∧ r.2.mem ((c.tc : Thread Cert.Reference21Ideal.nD Cert.Reference21Ideal.τ).loc Cert.Reference21Ideal.main_arg18) = m ((c.tc : Thread Cert.Reference21Ideal.nD Cert.Reference21Ideal.τ).loc Cert.Reference21Ideal.main_arg18)
      ∧ r.2.mem ((c.tc : Thread Cert.Reference21Ideal.nD Cert.Reference21Ideal.τ).loc Cert.Reference21Ideal.main_arg19) = m ((c.tc : Thread Cert.Reference21Ideal.nD Cert.Reference21Ideal.τ).loc Cert.Reference21Ideal.main_arg19)
      ∧ r.2.mem ((c.tc : Thread Cert.Reference21Ideal.nD Cert.Reference21Ideal.τ).loc Cert.Reference21Ideal.main_arg20) = m ((c.tc : Thread Cert.Reference21Ideal.nD Cert.Reference21Ideal.τ).loc Cert.Reference21Ideal.main_arg20)
      ∧ r.2.mem ((c.tc : Thread Cert.Reference21Ideal.nD Cert.Reference21Ideal.τ).loc Cert.Reference21Ideal.main_arg21) = m ((c.tc : Thread Cert.Reference21Ideal.nD Cert.Reference21Ideal.τ).loc Cert.Reference21Ideal.main_arg21)
      ∧ r.2.mem ((c.tc : Thread Cert.Reference21Ideal.nD Cert.Reference21Ideal.τ).loc Cert.Reference21Ideal.main_arg22) = m ((c.tc : Thread Cert.Reference21Ideal.nD Cert.Reference21Ideal.τ).loc Cert.Reference21Ideal.main_arg22)
      ∧ r.2.mem ((c.tc : Thread Cert.Reference21Ideal.nD Cert.Reference21Ideal.τ).loc Cert.Reference21Ideal.main_arg23) = m ((c.tc : Thread Cert.Reference21Ideal.nD Cert.Reference21Ideal.τ).loc Cert.Reference21Ideal.main_arg23)
      ∧ r.2.mem ((c.tc : Thread Cert.Reference21Ideal.nD Cert.Reference21Ideal.τ).loc Cert.Reference21Ideal.main_arg24) = m ((c.tc : Thread Cert.Reference21Ideal.nD Cert.Reference21Ideal.τ).loc Cert.Reference21Ideal.main_arg24)
      ∧ r.2.mem ((c.tc : Thread Cert.Reference21Ideal.nD Cert.Reference21Ideal.τ).loc Cert.Reference21Ideal.main_arg25) = m ((c.tc : Thread Cert.Reference21Ideal.nD Cert.Reference21Ideal.τ).loc Cert.Reference21Ideal.main_arg25)
      ∧ r.2.mem ((c.tc : Thread Cert.Reference21Ideal.nD Cert.Reference21Ideal.τ).loc Cert.Reference21Ideal.main_arg26) = m ((c.tc : Thread Cert.Reference21Ideal.nD Cert.Reference21Ideal.τ).loc Cert.Reference21Ideal.main_arg26)
      ∧ r.2.mem ((c.tc : Thread Cert.Reference21Ideal.nD Cert.Reference21Ideal.τ).loc Cert.Reference21Ideal.main_arg27) = m ((c.tc : Thread Cert.Reference21Ideal.nD Cert.Reference21Ideal.τ).loc Cert.Reference21Ideal.main_arg27)
      ∧ r.2.mem ((c.tc : Thread Cert.Reference21Ideal.nD Cert.Reference21Ideal.τ).loc Cert.Reference21Ideal.main_arg28) = m ((c.tc : Thread Cert.Reference21Ideal.nD Cert.Reference21Ideal.τ).loc Cert.Reference21Ideal.main_arg28)
      ∧ r.2.mem ((c.tc : Thread Cert.Reference21Ideal.nD Cert.Reference21Ideal.τ).loc Cert.Reference21Ideal.main_arg29) = m ((c.tc : Thread Cert.Reference21Ideal.nD Cert.Reference21Ideal.τ).loc Cert.Reference21Ideal.main_arg29)
      ∧ r.2.mem ((c.tc : Thread Cert.Reference21Ideal.nD Cert.Reference21Ideal.τ).loc Cert.Reference21Ideal.main_arg30) = m ((c.tc : Thread Cert.Reference21Ideal.nD Cert.Reference21Ideal.τ).loc Cert.Reference21Ideal.main_arg30)
      ∧ r.2.mem ((c.tc : Thread Cert.Reference21Ideal.nD Cert.Reference21Ideal.τ).loc Cert.Reference21Ideal.main_arg31) = m ((c.tc : Thread Cert.Reference21Ideal.nD Cert.Reference21Ideal.τ).loc Cert.Reference21Ideal.main_arg31)
      ∧ r.2.mem ((c.tc : Thread Cert.Reference21Ideal.nD Cert.Reference21Ideal.τ).loc Cert.Reference21Ideal.main_arg32) = m ((c.tc : Thread Cert.Reference21Ideal.nD Cert.Reference21Ideal.τ).loc Cert.Reference21Ideal.main_arg32)
      ∧ r.2.mem ((c.tc : Thread Cert.Reference21Ideal.nD Cert.Reference21Ideal.τ).loc Cert.Reference21Ideal.main_arg33) = m ((c.tc : Thread Cert.Reference21Ideal.nD Cert.Reference21Ideal.τ).loc Cert.Reference21Ideal.main_arg33)
      ∧ r.2.mem ((c.tc : Thread Cert.Reference21Ideal.nD Cert.Reference21Ideal.τ).loc Cert.Reference21Ideal.main_arg34) = m ((c.tc : Thread Cert.Reference21Ideal.nD Cert.Reference21Ideal.τ).loc Cert.Reference21Ideal.main_arg34)
      ∧ r.2.mem ((c.tc : Thread Cert.Reference21Ideal.nD Cert.Reference21Ideal.τ).loc Cert.Reference21Ideal.main_arg35) = m ((c.tc : Thread Cert.Reference21Ideal.nD Cert.Reference21Ideal.τ).loc Cert.Reference21Ideal.main_arg35)
      ∧ r.2.mem ((c.tc : Thread Cert.Reference21Ideal.nD Cert.Reference21Ideal.τ).loc Cert.Reference21Ideal.main_arg36) = m ((c.tc : Thread Cert.Reference21Ideal.nD Cert.Reference21Ideal.τ).loc Cert.Reference21Ideal.main_arg36)
      ∧ r.2.mem ((c.tc : Thread Cert.Reference21Ideal.nD Cert.Reference21Ideal.τ).loc Cert.Reference21Ideal.main_arg37) = m ((c.tc : Thread Cert.Reference21Ideal.nD Cert.Reference21Ideal.τ).loc Cert.Reference21Ideal.main_arg37)
      ∧ r.2.mem ((c.tc : Thread Cert.Reference21Ideal.nD Cert.Reference21Ideal.τ).loc Cert.Reference21Ideal.main_arg38) = m ((c.tc : Thread Cert.Reference21Ideal.nD Cert.Reference21Ideal.τ).loc Cert.Reference21Ideal.main_arg38)
      ∧ r.2.mem ((c.tc : Thread Cert.Reference21Ideal.nD Cert.Reference21Ideal.τ).loc Cert.Reference21Ideal.main_arg39) = m ((c.tc : Thread Cert.Reference21Ideal.nD Cert.Reference21Ideal.τ).loc Cert.Reference21Ideal.main_arg39))
      ∧ r.2.sem = fun _ => 0 :=
  (θ_run Cert.Reference21Ideal.defs _ _).mono
    (fun r h => ⟨fun c => (h c).2.2.2.2.2.2.2.2.2.2.2.2.2.2.2.2.2.2.2.2.2.2.2.2.2.2.2.2.2.2, sem_eq_zero_of_no_sems (by decide) r.2⟩)
    (Cert.Reference21Ideal.Value.run m g)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite.Gen.facts, Cert.Pre_finite4.Gen.facts, Cert.Pre_finite3.Gen.facts,
    fun m g _ => Cert.Kernel.Gen.frame m g,
    fun m g _ => Cert.KernelIdeal.Gen.frame m g,
    fun m g _ => Cert.KernelIdeal.Gen.frame m g,
    fun m g _ => frame_r m g,
    fun m g _ => frame_r m g,
    fun m g _ => Cert.Kernel2.Gen.frame m g, fun m g _ => Cert.Kernel2Ideal.Gen.frame m g, fun m g _ => frame_r2 m g,
    fun m g _ => Cert.Kernel3.Gen.frame m g, fun m g _ => Cert.Kernel3Ideal.Gen.frame m g, fun m g _ => frame_r3 m g,
    fun m g _ => Cert.Kernel4.Gen.frame m g, fun m g _ => Cert.Kernel4Ideal.Gen.frame m g, fun m g _ => frame_r4 m g,
    fun m g _ => Cert.Kernel5.Gen.frame m g, fun m g _ => Cert.Kernel5Ideal.Gen.frame m g, fun m g _ => frame_r5 m g,
    fun m g _ => Cert.Kernel6.Gen.frame m g, fun m g _ => Cert.Kernel6Ideal.Gen.frame m g, fun m g _ => frame_r6 m g,
    fun m g _ => Cert.Kernel7.Gen.frame m g, fun m g _ => Cert.Kernel7Ideal.Gen.frame m g, fun m g _ => frame_r7 m g,
    fun m g _ => Cert.Kernel8.Gen.frame m g, fun m g _ => Cert.Kernel8Ideal.Gen.frame m g, fun m g _ => frame_r8 m g,
    fun m g _ => Cert.Kernel9.Gen.frame m g, fun m g _ => Cert.Kernel9Ideal.Gen.frame m g, fun m g _ => frame_r9 m g,
    fun m g _ => Cert.Kernel10.Gen.frame m g, fun m g _ => Cert.Kernel10Ideal.Gen.frame m g, fun m g _ => frame_r10 m g,
    fun m g _ => Cert.Kernel11.Gen.frame m g, fun m g _ => Cert.Kernel11Ideal.Gen.frame m g, fun m g _ => frame_r11 m g,
    fun m g _ => Cert.Kernel12.Gen.frame m g, fun m g _ => Cert.Kernel12Ideal.Gen.frame m g, fun m g _ => frame_r12 m g,
    fun m g _ => Cert.Kernel13.Gen.frame m g, fun m g _ => Cert.Kernel13Ideal.Gen.frame m g, fun m g _ => frame_r13 m g,
    fun m g _ => Cert.Kernel14.Gen.frame m g, fun m g _ => Cert.Kernel14Ideal.Gen.frame m g, fun m g _ => frame_r14 m g,
    fun m g _ => Cert.Kernel15.Gen.frame m g, fun m g _ => Cert.Kernel15Ideal.Gen.frame m g, fun m g _ => Cert.Kernel15Ideal.Gen.frame m g, fun m g _ => frame_r15 m g, fun m g _ => frame_r15 m g,
    fun m g _ => Cert.Kernel16.Gen.frame m g, fun m g _ => Cert.Kernel16Ideal.Gen.frame m g, fun m g _ => Cert.Kernel16Ideal.Gen.frame m g, fun m g _ => frame_r16 m g, fun m g _ => frame_r16 m g,
    fun m g _ => Cert.Kernel17.Gen.frame m g, fun m g _ => Cert.Kernel17Ideal.Gen.frame m g, fun m g _ => frame_r17 m g,
    fun m g _ => Cert.Kernel18.Gen.frame m g, fun m g _ => Cert.Kernel18Ideal.Gen.frame m g, fun m g _ => frame_r18 m g,
    fun m g _ => Cert.Kernel19.Gen.frame m g, fun m g _ => Cert.Kernel19Ideal.Gen.frame m g, fun m g _ => frame_r19 m g,
    fun m g _ => Cert.Kernel20.Gen.frame m g, fun m g _ => Cert.Kernel20Ideal.Gen.frame m g, fun m g _ => Cert.Kernel20Ideal.Gen.frame m g, fun m g _ => frame_r20 m g, fun m g _ => frame_r20 m g,
    Cert.SmallBits.frame, fun m g _ => Cert.SmallIdeal.frame m g, fun m g _ => frame_r21 m g,
    ⟨IdealRules.named_const.statement Cert.KernelIdeal.κ "gelu_c" .f32 0x3D372713#32 ((8943 / 200000 : ℝ) : EReal) rfl,
      IdealRules.named_const.statement Cert.KernelIdeal.κ "gelu_3c" .f32 0x3E095D4F#32 ((26829 / 200000 : ℝ) : EReal) rfl⟩,
    Cert.Mix.algebraic,
    trivial, Cert.Dact.algebraic, trivial, Cert.Dh2.algebraic, trivial, Cert.Dwin.algebraic, trivial, Cert.Dh.algebraic, trivial, Cert.Dhn.algebraic,
    trivial, Cert.Dw2.algebraic, trivial, Cert.Dw1.algebraic, trivial, Cert.Dwo.algebraic, trivial, Cert.Proj.algebraic, trivial, Cert.Wo.algebraic, trivial, Cert.Kvs.algebraic, trivial, Cert.Dwkv.algebraic, trivial, Cert.Dmem.algebraic,
    trivial, Cert.RmsMix.algebraic, trivial, Cert.RmsFfn.algebraic, trivial, Cert.RmsMem.algebraic, trivial, Cert.RmsFwd.algebraic, trivial, Cert.RmsMemFwd.algebraic, trivial, Cert.LossBwd.algebraic, trivial, Cert.Small.algebraic⟩

end Cert.Proof

end
